-- ==== Defs.lean ====
def Pre_Kernel (m : (ℓ : Loc Cert.Kernel.nD Cert.Kernel.τ Cert.Kernel.sig) → Buf (Elt Bits) ℓ) : Prop :=
  True

def Pre_KernelIdeal [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_none (m : (ℓ : Loc Cert.KernelIdeal.nD Cert.KernelIdeal.τ Cert.KernelIdeal.sig) → Buf (Elt Ideal) ℓ) : Prop :=
  True

def Pre_ReferenceIdeal [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Hidden (m : (ℓ : Loc Cert.Hidden.nD Cert.Hidden.τ Cert.Hidden.sig) → Buf (Elt Bits) ℓ) : Prop :=
  True

def Pre_HiddenIdeal [hPre_finite_ffn : Cert.Pre_finite_ffn.Facts] (m : (ℓ : Loc Cert.HiddenIdeal.nD Cert.HiddenIdeal.τ Cert.HiddenIdeal.sig) → Buf (Elt Ideal) ℓ) : Prop :=
  ∀ c : Dev Cert.HiddenIdeal.nD,
    (Cert.Pre_finite_ffn.fn (F := Ideal) (m ((c.tc : Thread Cert.HiddenIdeal.nD Cert.HiddenIdeal.τ).loc Cert.HiddenIdeal.main_arg0)) (m ((c.tc : Thread Cert.HiddenIdeal.nD Cert.HiddenIdeal.τ).loc Cert.HiddenIdeal.main_arg1)) (m ((c.tc : Thread Cert.HiddenIdeal.nD Cert.HiddenIdeal.τ).loc Cert.HiddenIdeal.main_arg2)) (m ((c.tc : Thread Cert.HiddenIdeal.nD Cert.HiddenIdeal.τ).loc Cert.HiddenIdeal.main_arg3)) (m ((c.tc : Thread Cert.HiddenIdeal.nD Cert.HiddenIdeal.τ).loc Cert.HiddenIdeal.main_arg4))) = (fun _ => 1#1)

def Pre_HiddenIdeal_none (m : (ℓ : Loc Cert.HiddenIdeal.nD Cert.HiddenIdeal.τ Cert.HiddenIdeal.sig) → Buf (Elt Ideal) ℓ) : Prop :=
  True

def Pre_HiddenReferenceIdeal [hPre_finite_ffn : Cert.Pre_finite_ffn.Facts] (m : (ℓ : Loc Cert.HiddenReferenceIdeal.nD Cert.HiddenReferenceIdeal.τ Cert.HiddenReferenceIdeal.sig) → Buf (Elt Ideal) ℓ) : Prop :=
  ∀ c : Dev Cert.HiddenReferenceIdeal.nD,
    (Cert.Pre_finite_ffn.fn (F := Ideal) (m ((c.tc : Thread Cert.HiddenReferenceIdeal.nD Cert.HiddenReferenceIdeal.τ).loc Cert.HiddenReferenceIdeal.main_arg0)) (m ((c.tc : Thread Cert.HiddenReferenceIdeal.nD Cert.HiddenReferenceIdeal.τ).loc Cert.HiddenReferenceIdeal.main_arg1)) (m ((c.tc : Thread Cert.HiddenReferenceIdeal.nD Cert.HiddenReferenceIdeal.τ).loc Cert.HiddenReferenceIdeal.main_arg2)) (m ((c.tc : Thread Cert.HiddenReferenceIdeal.nD Cert.HiddenReferenceIdeal.τ).loc Cert.HiddenReferenceIdeal.main_arg3)) (m ((c.tc : Thread Cert.HiddenReferenceIdeal.nD Cert.HiddenReferenceIdeal.τ).loc Cert.HiddenReferenceIdeal.main_arg4))) = (fun _ => 1#1)

def Pre_Dwd (m : (ℓ : Loc Cert.Dwd.nD Cert.Dwd.τ Cert.Dwd.sig) → Buf (Elt Bits) ℓ) : Prop :=
  True

def Pre_DwdIdeal (m : (ℓ : Loc Cert.DwdIdeal.nD Cert.DwdIdeal.τ Cert.DwdIdeal.sig) → Buf (Elt Ideal) ℓ) : Prop :=
  True

def Pre_DwdReferenceIdeal (m : (ℓ : Loc Cert.DwdReferenceIdeal.nD Cert.DwdReferenceIdeal.τ Cert.DwdReferenceIdeal.sig) → Buf (Elt Ideal) ℓ) : Prop :=
  True

def Pre_Dwgu (m : (ℓ : Loc Cert.Dwgu.nD Cert.Dwgu.τ Cert.Dwgu.sig) → Buf (Elt Bits) ℓ) : Prop :=
  True

def Pre_DwguIdeal (m : (ℓ : Loc Cert.DwguIdeal.nD Cert.DwguIdeal.τ Cert.DwguIdeal.sig) → Buf (Elt Ideal) ℓ) : Prop :=
  True

def Pre_DwguReferenceIdeal (m : (ℓ : Loc Cert.DwguReferenceIdeal.nD Cert.DwguReferenceIdeal.τ Cert.DwguReferenceIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhReferenceIdeal (m : (ℓ : Loc Cert.DhReferenceIdeal.nD Cert.DhReferenceIdeal.τ Cert.DhReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Do (m : (ℓ : Loc Cert.Do.nD Cert.Do.τ Cert.Do.sig) → Buf (Elt Bits) ℓ) : Prop :=
  True

def Pre_DoIdeal (m : (ℓ : Loc Cert.DoIdeal.nD Cert.DoIdeal.τ Cert.DoIdeal.sig) → Buf (Elt Ideal) ℓ) : Prop :=
  True

def Pre_DoReferenceIdeal (m : (ℓ : Loc Cert.DoReferenceIdeal.nD Cert.DoReferenceIdeal.τ Cert.DoReferenceIdeal.sig) → Buf (Elt Ideal) ℓ) : Prop :=
  True

def Pre_Dwo (m : (ℓ : Loc Cert.Dwo.nD Cert.Dwo.τ Cert.Dwo.sig) → Buf (Elt Bits) ℓ) : Prop :=
  True

def Pre_DwoIdeal (m : (ℓ : Loc Cert.DwoIdeal.nD Cert.DwoIdeal.τ Cert.DwoIdeal.sig) → Buf (Elt Ideal) ℓ) : Prop :=
  True

def Pre_DwoReferenceIdeal (m : (ℓ : Loc Cert.DwoReferenceIdeal.nD Cert.DwoReferenceIdeal.τ Cert.DwoReferenceIdeal.sig) → Buf (Elt Ideal) ℓ) : Prop :=
  True

def Pre_QDown (m : (ℓ : Loc Cert.QDown.nD Cert.QDown.τ Cert.QDown.sig) → Buf (Elt Bits) ℓ) : Prop :=
  True

def Pre_QDownIdeal (m : (ℓ : Loc Cert.QDownIdeal.nD Cert.QDownIdeal.τ Cert.QDownIdeal.sig) → Buf (Elt Ideal) ℓ) : Prop :=
  True

def Pre_QDownReferenceIdeal (m : (ℓ : Loc Cert.QDownReferenceIdeal.nD Cert.QDownReferenceIdeal.τ Cert.QDownReferenceIdeal.sig) → Buf (Elt Ideal) ℓ) : Prop :=
  True

def Pre_QDownDh (m : (ℓ : Loc Cert.QDownDh.nD Cert.QDownDh.τ Cert.QDownDh.sig) → Buf (Elt Bits) ℓ) : Prop :=
  True

def Pre_QDownDhIdeal (m : (ℓ : Loc Cert.QDownDhIdeal.nD Cert.QDownDhIdeal.τ Cert.QDownDhIdeal.sig) → Buf (Elt Ideal) ℓ) : Prop :=
  True

def Pre_QDownDhReferenceIdeal (m : (ℓ : Loc Cert.QDownDhReferenceIdeal.nD Cert.QDownDhReferenceIdeal.τ Cert.QDownDhReferenceIdeal.sig) → Buf (Elt Ideal) ℓ) : Prop :=
  True

def Pre_QDownDw (m : (ℓ : Loc Cert.QDownDw.nD Cert.QDownDw.τ Cert.QDownDw.sig) → Buf (Elt Bits) ℓ) : Prop :=
  True

def Pre_QDownDwIdeal (m : (ℓ : Loc Cert.QDownDwIdeal.nD Cert.QDownDwIdeal.τ Cert.QDownDwIdeal.sig) → Buf (Elt Ideal) ℓ) : Prop :=
  True

def Pre_QDownDwReferenceIdeal (m : (ℓ : Loc Cert.QDownDwReferenceIdeal.nD Cert.QDownDwReferenceIdeal.τ Cert.QDownDwReferenceIdeal.sig) → Buf (Elt Ideal) ℓ) : Prop :=
  True

def Pre_QUp (m : (ℓ : Loc Cert.QUp.nD Cert.QUp.τ Cert.QUp.sig) → Buf (Elt Bits) ℓ) : Prop :=
  True

def Pre_QUpIdeal (m : (ℓ : Loc Cert.QUpIdeal.nD Cert.QUpIdeal.τ Cert.QUpIdeal.sig) → Buf (Elt Ideal) ℓ) : Prop :=
  True

def Pre_QUpReferenceIdeal (m : (ℓ : Loc Cert.QUpReferenceIdeal.nD Cert.QUpReferenceIdeal.τ Cert.QUpReferenceIdeal.sig) → Buf (Elt Ideal) ℓ) : Prop :=
  True

def Pre_QUpDc (m : (ℓ : Loc Cert.QUpDc.nD Cert.QUpDc.τ Cert.QUpDc.sig) → Buf (Elt Bits) ℓ) : Prop :=
  True

def Pre_QUpDcIdeal (m : (ℓ : Loc Cert.QUpDcIdeal.nD Cert.QUpDcIdeal.τ Cert.QUpDcIdeal.sig) → Buf (Elt Ideal) ℓ) : Prop :=
  True

def Pre_QUpDcReferenceIdeal (m : (ℓ : Loc Cert.QUpDcReferenceIdeal.nD Cert.QUpDcReferenceIdeal.τ Cert.QUpDcReferenceIdeal.sig) → Buf (Elt Ideal) ℓ) : Prop :=
  True

def Pre_QUpDw (m : (ℓ : Loc Cert.QUpDw.nD Cert.QUpDw.τ Cert.QUpDw.sig) → Buf (Elt Bits) ℓ) : Prop :=
  True

def Pre_QUpDwIdeal (m : (ℓ : Loc Cert.QUpDwIdeal.nD Cert.QUpDwIdeal.τ Cert.QUpDwIdeal.sig) → Buf (Elt Ideal) ℓ) : Prop :=
  True

def Pre_QUpDwReferenceIdeal (m : (ℓ : Loc Cert.QUpDwReferenceIdeal.nD Cert.QUpDwReferenceIdeal.τ Cert.QUpDwReferenceIdeal.sig) → Buf (Elt Ideal) ℓ) : Prop :=
  True

def Pre_KvDown (m : (ℓ : Loc Cert.KvDown.nD Cert.KvDown.τ Cert.KvDown.sig) → Buf (Elt Bits) ℓ) : Prop :=
  True

def Pre_KvDownIdeal (m : (ℓ : Loc Cert.KvDownIdeal.nD Cert.KvDownIdeal.τ Cert.KvDownIdeal.sig) → Buf (Elt Ideal) ℓ) : Prop :=
  True

def Pre_KvDownReferenceIdeal (m : (ℓ : Loc Cert.KvDownReferenceIdeal.nD Cert.KvDownReferenceIdeal.τ Cert.KvDownReferenceIdeal.sig) → Buf (Elt Ideal) ℓ) : Prop :=
  True

def Pre_KvDownDh (m : (ℓ : Loc Cert.KvDownDh.nD Cert.KvDownDh.τ Cert.KvDownDh.sig) → Buf (Elt Bits) ℓ) : Prop :=
  True

def Pre_KvDownDhIdeal (m : (ℓ : Loc Cert.KvDownDhIdeal.nD Cert.KvDownDhIdeal.τ Cert.KvDownDhIdeal.sig) → Buf (Elt Ideal) ℓ) : Prop :=
  True

def Pre_KvDownDhReferenceIdeal (m : (ℓ : Loc Cert.KvDownDhReferenceIdeal.nD Cert.KvDownDhReferenceIdeal.τ Cert.KvDownDhReferenceIdeal.sig) → Buf (Elt Ideal) ℓ) : Prop :=
  True

def Pre_KvDownDw (m : (ℓ : Loc Cert.KvDownDw.nD Cert.KvDownDw.τ Cert.KvDownDw.sig) → Buf (Elt Bits) ℓ) : Prop :=
  True

def Pre_KvDownDwIdeal (m : (ℓ : Loc Cert.KvDownDwIdeal.nD Cert.KvDownDwIdeal.τ Cert.KvDownDwIdeal.sig) → Buf (Elt Ideal) ℓ) : Prop :=
  True

def Pre_KvDownDwReferenceIdeal (m : (ℓ : Loc Cert.KvDownDwReferenceIdeal.nD Cert.KvDownDwReferenceIdeal.τ Cert.KvDownDwReferenceIdeal.sig) → Buf (Elt Ideal) ℓ) : Prop :=
  True

def Pre_KUp (m : (ℓ : Loc Cert.KUp.nD Cert.KUp.τ Cert.KUp.sig) → Buf (Elt Bits) ℓ) : Prop :=
  True

def Pre_KUpIdeal (m : (ℓ : Loc Cert.KUpIdeal.nD Cert.KUpIdeal.τ Cert.KUpIdeal.sig) → Buf (Elt Ideal) ℓ) : Prop :=
  True

def Pre_KUpReferenceIdeal (m : (ℓ : Loc Cert.KUpReferenceIdeal.nD Cert.KUpReferenceIdeal.τ Cert.KUpReferenceIdeal.sig) → Buf (Elt Ideal) ℓ) : Prop :=
  True

def Pre_KUpDc (m : (ℓ : Loc Cert.KUpDc.nD Cert.KUpDc.τ Cert.KUpDc.sig) → Buf (Elt Bits) ℓ) : Prop :=
  True

def Pre_KUpDcIdeal (m : (ℓ : Loc Cert.KUpDcIdeal.nD Cert.KUpDcIdeal.τ Cert.KUpDcIdeal.sig) → Buf (Elt Ideal) ℓ) : Prop :=
  True

def Pre_KUpDcReferenceIdeal (m : (ℓ : Loc Cert.KUpDcReferenceIdeal.nD Cert.KUpDcReferenceIdeal.τ Cert.KUpDcReferenceIdeal.sig) → Buf (Elt Ideal) ℓ) : Prop :=
  True

def Pre_KUpDw (m : (ℓ : Loc Cert.KUpDw.nD Cert.KUpDw.τ Cert.KUpDw.sig) → Buf (Elt Bits) ℓ) : Prop :=
  True

def Pre_KUpDwIdeal (m : (ℓ : Loc Cert.KUpDwIdeal.nD Cert.KUpDwIdeal.τ Cert.KUpDwIdeal.sig) → Buf (Elt Ideal) ℓ) : Prop :=
  True

def Pre_KUpDwReferenceIdeal (m : (ℓ : Loc Cert.KUpDwReferenceIdeal.nD Cert.KUpDwReferenceIdeal.τ Cert.KUpDwReferenceIdeal.sig) → Buf (Elt Ideal) ℓ) : Prop :=
  True

def Pre_VUp (m : (ℓ : Loc Cert.VUp.nD Cert.VUp.τ Cert.VUp.sig) → Buf (Elt Bits) ℓ) : Prop :=
  True

def Pre_VUpIdeal (m : (ℓ : Loc Cert.VUpIdeal.nD Cert.VUpIdeal.τ Cert.VUpIdeal.sig) → Buf (Elt Ideal) ℓ) : Prop :=
  True

def Pre_VUpReferenceIdeal (m : (ℓ : Loc Cert.VUpReferenceIdeal.nD Cert.VUpReferenceIdeal.τ Cert.VUpReferenceIdeal.sig) → Buf (Elt Ideal) ℓ) : Prop :=
  True

def Pre_VUpDc (m : (ℓ : Loc Cert.VUpDc.nD Cert.VUpDc.τ Cert.VUpDc.sig) → Buf (Elt Bits) ℓ) : Prop :=
  True

def Pre_VUpDcIdeal (m : (ℓ : Loc Cert.VUpDcIdeal.nD Cert.VUpDcIdeal.τ Cert.VUpDcIdeal.sig) → Buf (Elt Ideal) ℓ) : Prop :=
  True

def Pre_VUpDcReferenceIdeal (m : (ℓ : Loc Cert.VUpDcReferenceIdeal.nD Cert.VUpDcReferenceIdeal.τ Cert.VUpDcReferenceIdeal.sig) → Buf (Elt Ideal) ℓ) : Prop :=
  True

def Pre_VUpDw (m : (ℓ : Loc Cert.VUpDw.nD Cert.VUpDw.τ Cert.VUpDw.sig) → Buf (Elt Bits) ℓ) : Prop :=
  True

def Pre_VUpDwIdeal (m : (ℓ : Loc Cert.VUpDwIdeal.nD Cert.VUpDwIdeal.τ Cert.VUpDwIdeal.sig) → Buf (Elt Ideal) ℓ) : Prop :=
  True

def Pre_VUpDwReferenceIdeal (m : (ℓ : Loc Cert.VUpDwReferenceIdeal.nD Cert.VUpDwReferenceIdeal.τ Cert.VUpDwReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_none [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_none m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def quiescent_Hidden [hHidden : Cert.Hidden.Facts] : Prop :=
  ∀ (m : (ℓ : Loc Cert.Hidden.nD Cert.Hidden.τ Cert.Hidden.sig) → Buf (Elt Bits) ℓ) (g : Dev Cert.Hidden.nD → PrngReg), Pre_Hidden m →
    θ_run (Cert.Hidden.defs (F := Bits)) (onTc (τ := Cert.Hidden.τ) (Cert.Hidden.main (F := Bits))) ⟨m, fun _ => 0, g⟩ (fun r => (∀ c : Dev Cert.Hidden.nD,
      r.2.mem ((c.tc : Thread Cert.Hidden.nD Cert.Hidden.τ).loc Cert.Hidden.main_arg0) = m ((c.tc : Thread Cert.Hidden.nD Cert.Hidden.τ).loc Cert.Hidden.main_arg0)
      ∧ r.2.mem ((c.tc : Thread Cert.Hidden.nD Cert.Hidden.τ).loc Cert.Hidden.main_arg1) = m ((c.tc : Thread Cert.Hidden.nD Cert.Hidden.τ).loc Cert.Hidden.main_arg1)
      ∧ r.2.mem ((c.tc : Thread Cert.Hidden.nD Cert.Hidden.τ).loc Cert.Hidden.main_arg2) = m ((c.tc : Thread Cert.Hidden.nD Cert.Hidden.τ).loc Cert.Hidden.main_arg2)
      ∧ r.2.mem ((c.tc : Thread Cert.Hidden.nD Cert.Hidden.τ).loc Cert.Hidden.main_arg3) = m ((c.tc : Thread Cert.Hidden.nD Cert.Hidden.τ).loc Cert.Hidden.main_arg3)
      ∧ r.2.mem ((c.tc : Thread Cert.Hidden.nD Cert.Hidden.τ).loc Cert.Hidden.main_arg4) = m ((c.tc : Thread Cert.Hidden.nD Cert.Hidden.τ).loc Cert.Hidden.main_arg4))
      ∧ r.2.sem = fun _ => 0)

def quiescent_HiddenIdeal [hHiddenIdeal : Cert.HiddenIdeal.Facts] [hPre_finite_ffn : Cert.Pre_finite_ffn.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
      ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
      ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3)
      ∧ r.2.mem ((c.tc : Thread Cert.HiddenIdeal.nD Cert.HiddenIdeal.τ).loc Cert.HiddenIdeal.main_arg4) = m ((c.tc : Thread Cert.HiddenIdeal.nD Cert.HiddenIdeal.τ).loc Cert.HiddenIdeal.main_arg4))
      ∧ r.2.sem = fun _ => 0)

def quiescent_HiddenIdeal_pre_none [hHiddenIdeal : Cert.HiddenIdeal.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal_none m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
      ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
      ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3)
      ∧ r.2.mem ((c.tc : Thread Cert.HiddenIdeal.nD Cert.HiddenIdeal.τ).loc Cert.HiddenIdeal.main_arg4) = m ((c.tc : Thread Cert.HiddenIdeal.nD Cert.HiddenIdeal.τ).loc Cert.HiddenIdeal.main_arg4))
      ∧ r.2.sem = fun _ => 0)

def quiescent_HiddenReferenceIdeal [hHiddenReferenceIdeal : Cert.HiddenReferenceIdeal.Facts] [hPre_finite_ffn : Cert.Pre_finite_ffn.Facts] : Prop :=
  ∀ (m : (ℓ : Loc Cert.HiddenReferenceIdeal.nD Cert.HiddenReferenceIdeal.τ Cert.HiddenReferenceIdeal.sig) → Buf (Elt Ideal) ℓ) (g : Dev Cert.HiddenReferenceIdeal.nD → PrngReg), Pre_HiddenReferenceIdeal m →
    θ_run (Cert.HiddenReferenceIdeal.defs (F := Ideal)) (onTc (τ := Cert.HiddenReferenceIdeal.τ) (Cert.HiddenReferenceIdeal.main (F := Ideal))) ⟨m, fun _ => 0, g⟩ (fun r => (∀ c : Dev Cert.HiddenReferenceIdeal.nD,
      r.2.mem ((c.tc : Thread Cert.HiddenReferenceIdeal.nD Cert.HiddenReferenceIdeal.τ).loc Cert.HiddenReferenceIdeal.main_arg0) = m ((c.tc : Thread Cert.HiddenReferenceIdeal.nD Cert.HiddenReferenceIdeal.τ).loc Cert.HiddenReferenceIdeal.main_arg0)
      ∧ r.2.mem ((c.tc : Thread Cert.HiddenReferenceIdeal.nD Cert.HiddenReferenceIdeal.τ).loc Cert.HiddenReferenceIdeal.main_arg1) = m ((c.tc : Thread Cert.HiddenReferenceIdeal.nD Cert.HiddenReferenceIdeal.τ).loc Cert.HiddenReferenceIdeal.main_arg1)
      ∧ r.2.mem ((c.tc : Thread Cert.HiddenReferenceIdeal.nD Cert.HiddenReferenceIdeal.τ).loc Cert.HiddenReferenceIdeal.main_arg2) = m ((c.tc : Thread Cert.HiddenReferenceIdeal.nD Cert.HiddenReferenceIdeal.τ).loc Cert.HiddenReferenceIdeal.main_arg2)
      ∧ r.2.mem ((c.tc : Thread Cert.HiddenReferenceIdeal.nD Cert.HiddenReferenceIdeal.τ).loc Cert.HiddenReferenceIdeal.main_arg3) = m ((c.tc : Thread Cert.HiddenReferenceIdeal.nD Cert.HiddenReferenceIdeal.τ).loc Cert.HiddenReferenceIdeal.main_arg3)
      ∧ r.2.mem ((c.tc : Thread Cert.HiddenReferenceIdeal.nD Cert.HiddenReferenceIdeal.τ).loc Cert.HiddenReferenceIdeal.main_arg4) = m ((c.tc : Thread Cert.HiddenReferenceIdeal.nD Cert.HiddenReferenceIdeal.τ).loc Cert.HiddenReferenceIdeal.main_arg4))
      ∧ r.2.sem = fun _ => 0)

def quiescent_Dwd [hDwd : Cert.Dwd.Facts] : Prop :=
  ∀ (m : (ℓ : Loc Cert.Dwd.nD Cert.Dwd.τ Cert.Dwd.sig) → Buf (Elt Bits) ℓ) (g : Dev Cert.Dwd.nD → PrngReg), Pre_Dwd m →
    θ_run (Cert.Dwd.defs (F := Bits)) (onTc (τ := Cert.Dwd.τ) (Cert.Dwd.main (F := Bits))) ⟨m, fun _ => 0, g⟩ (fun r => (∀ c : Dev Cert.Dwd.nD,
      r.2.mem ((c.tc : Thread Cert.Dwd.nD Cert.Dwd.τ).loc Cert.Dwd.main_arg0) = m ((c.tc : Thread Cert.Dwd.nD Cert.Dwd.τ).loc Cert.Dwd.main_arg0)
      ∧ r.2.mem ((c.tc : Thread Cert.Dwd.nD Cert.Dwd.τ).loc Cert.Dwd.main_arg1) = m ((c.tc : Thread Cert.Dwd.nD Cert.Dwd.τ).loc Cert.Dwd.main_arg1)
      ∧ r.2.mem ((c.tc : Thread Cert.Dwd.nD Cert.Dwd.τ).loc Cert.Dwd.main_arg2) = m ((c.tc : Thread Cert.Dwd.nD Cert.Dwd.τ).loc Cert.Dwd.main_arg2)
      ∧ r.2.mem ((c.tc : Thread Cert.Dwd.nD Cert.Dwd.τ).loc Cert.Dwd.main_arg3) = m ((c.tc : Thread Cert.Dwd.nD Cert.Dwd.τ).loc Cert.Dwd.main_arg3)
      ∧ r.2.mem ((c.tc : Thread Cert.Dwd.nD Cert.Dwd.τ).loc Cert.Dwd.main_arg4) = m ((c.tc : Thread Cert.Dwd.nD Cert.Dwd.τ).loc Cert.Dwd.main_arg4))
      ∧ r.2.sem = fun _ => 0)

def quiescent_DwdIdeal [hDwdIdeal : Cert.DwdIdeal.Facts] : Prop :=
  ∀ (m : (ℓ : Loc Cert.DwdIdeal.nD Cert.DwdIdeal.τ Cert.DwdIdeal.sig) → Buf (Elt Ideal) ℓ) (g : Dev Cert.DwdIdeal.nD → PrngReg), Pre_DwdIdeal m →
    θ_run (Cert.DwdIdeal.defs (F := Ideal)) (onTc (τ := Cert.DwdIdeal.τ) (Cert.DwdIdeal.main (F := Ideal))) ⟨m, fun _ => 0, g⟩ (fun r => (∀ c : Dev Cert.DwdIdeal.nD,
      r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
      ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1)
      ∧ r.2.mem ((c.tc : Thread Cert.DwdIdeal.nD Cert.DwdIdeal.τ).loc Cert.DwdIdeal.main_arg2) = m ((c.tc : Thread Cert.DwdIdeal.nD Cert.DwdIdeal.τ).loc Cert.DwdIdeal.main_arg2)
      ∧ r.2.mem ((c.tc : Thread Cert.DwdIdeal.nD Cert.DwdIdeal.τ).loc Cert.DwdIdeal.main_arg3) = m ((c.tc : Thread Cert.DwdIdeal.nD Cert.DwdIdeal.τ).loc Cert.DwdIdeal.main_arg3)
      ∧ r.2.mem ((c.tc : Thread Cert.DwdIdeal.nD Cert.DwdIdeal.τ).loc Cert.DwdIdeal.main_arg4) = m ((c.tc : Thread Cert.DwdIdeal.nD Cert.DwdIdeal.τ).loc Cert.DwdIdeal.main_arg4))
      ∧ r.2.sem = fun _ => 0)

def quiescent_DwdReferenceIdeal [hDwdReferenceIdeal : Cert.DwdReferenceIdeal.Facts] : Prop :=
  ∀ (m : (ℓ : Loc Cert.DwdReferenceIdeal.nD Cert.DwdReferenceIdeal.τ Cert.DwdReferenceIdeal.sig) → Buf (Elt Ideal) ℓ) (g : Dev Cert.DwdReferenceIdeal.nD → PrngReg), Pre_DwdReferenceIdeal m →
    θ_run (Cert.DwdReferenceIdeal.defs (F := Ideal)) (onTc (τ := Cert.DwdReferenceIdeal.τ) (Cert.DwdReferenceIdeal.main (F := Ideal))) ⟨m, fun _ => 0, g⟩ (fun r => (∀ c : Dev Cert.DwdReferenceIdeal.nD,
      r.2.mem ((c.tc : Thread Cert.DwdReferenceIdeal.nD Cert.DwdReferenceIdeal.τ).loc Cert.DwdReferenceIdeal.main_arg0) = m ((c.tc : Thread Cert.DwdReferenceIdeal.nD Cert.DwdReferenceIdeal.τ).loc Cert.DwdReferenceIdeal.main_arg0)
      ∧ r.2.mem ((c.tc : Thread Cert.DwdReferenceIdeal.nD Cert.DwdReferenceIdeal.τ).loc Cert.DwdReferenceIdeal.main_arg1) = m ((c.tc : Thread Cert.DwdReferenceIdeal.nD Cert.DwdReferenceIdeal.τ).loc Cert.DwdReferenceIdeal.main_arg1)
      ∧ r.2.mem ((c.tc : Thread Cert.DwdReferenceIdeal.nD Cert.DwdReferenceIdeal.τ).loc Cert.DwdReferenceIdeal.main_arg2) = m ((c.tc : Thread Cert.DwdReferenceIdeal.nD Cert.DwdReferenceIdeal.τ).loc Cert.DwdReferenceIdeal.main_arg2)
      ∧ r.2.mem ((c.tc : Thread Cert.DwdReferenceIdeal.nD Cert.DwdReferenceIdeal.τ).loc Cert.DwdReferenceIdeal.main_arg3) = m ((c.tc : Thread Cert.DwdReferenceIdeal.nD Cert.DwdReferenceIdeal.τ).loc Cert.DwdReferenceIdeal.main_arg3)
      ∧ r.2.mem ((c.tc : Thread Cert.DwdReferenceIdeal.nD Cert.DwdReferenceIdeal.τ).loc Cert.DwdReferenceIdeal.main_arg4) = m ((c.tc : Thread Cert.DwdReferenceIdeal.nD Cert.DwdReferenceIdeal.τ).loc Cert.DwdReferenceIdeal.main_arg4))
      ∧ r.2.sem = fun _ => 0)

def quiescent_Dwgu [hDwgu : Cert.Dwgu.Facts] : Prop :=
  ∀ (m : (ℓ : Loc Cert.Dwgu.nD Cert.Dwgu.τ Cert.Dwgu.sig) → Buf (Elt Bits) ℓ) (g : Dev Cert.Dwgu.nD → PrngReg), Pre_Dwgu m →
    θ_run (Cert.Dwgu.defs (F := Bits)) (onTc (τ := Cert.Dwgu.τ) (Cert.Dwgu.main (F := Bits))) ⟨m, fun _ => 0, g⟩ (fun r => (∀ c : Dev Cert.Dwgu.nD,
      r.2.mem ((c.tc : Thread Cert.Dwgu.nD Cert.Dwgu.τ).loc Cert.Dwgu.main_arg0) = m ((c.tc : Thread Cert.Dwgu.nD Cert.Dwgu.τ).loc Cert.Dwgu.main_arg0)
      ∧ r.2.mem ((c.tc : Thread Cert.Dwgu.nD Cert.Dwgu.τ).loc Cert.Dwgu.main_arg1) = m ((c.tc : Thread Cert.Dwgu.nD Cert.Dwgu.τ).loc Cert.Dwgu.main_arg1)
      ∧ r.2.mem ((c.tc : Thread Cert.Dwgu.nD Cert.Dwgu.τ).loc Cert.Dwgu.main_arg2) = m ((c.tc : Thread Cert.Dwgu.nD Cert.Dwgu.τ).loc Cert.Dwgu.main_arg2)
      ∧ r.2.mem ((c.tc : Thread Cert.Dwgu.nD Cert.Dwgu.τ).loc Cert.Dwgu.main_arg3) = m ((c.tc : Thread Cert.Dwgu.nD Cert.Dwgu.τ).loc Cert.Dwgu.main_arg3)
      ∧ r.2.mem ((c.tc : Thread Cert.Dwgu.nD Cert.Dwgu.τ).loc Cert.Dwgu.main_arg4) = m ((c.tc : Thread Cert.Dwgu.nD Cert.Dwgu.τ).loc Cert.Dwgu.main_arg4))
      ∧ r.2.sem = fun _ => 0)

def quiescent_DwguIdeal [hDwguIdeal : Cert.DwguIdeal.Facts] : Prop :=
  ∀ (m : (ℓ : Loc Cert.DwguIdeal.nD Cert.DwguIdeal.τ Cert.DwguIdeal.sig) → Buf (Elt Ideal) ℓ) (g : Dev Cert.DwguIdeal.nD → PrngReg), Pre_DwguIdeal m →
    θ_run (Cert.DwguIdeal.defs (F := Ideal)) (onTc (τ := Cert.DwguIdeal.τ) (Cert.DwguIdeal.main (F := Ideal))) ⟨m, fun _ => 0, g⟩ (fun r => (∀ c : Dev Cert.DwguIdeal.nD,
      r.2.mem ((c.tc : Thread Cert.DwguIdeal.nD Cert.DwguIdeal.τ).loc Cert.DwguIdeal.main_arg0) = m ((c.tc : Thread Cert.DwguIdeal.nD Cert.DwguIdeal.τ).loc Cert.DwguIdeal.main_arg0)
      ∧ r.2.mem ((c.tc : Thread Cert.DwguIdeal.nD Cert.DwguIdeal.τ).loc Cert.DwguIdeal.main_arg1) = m ((c.tc : Thread Cert.DwguIdeal.nD Cert.DwguIdeal.τ).loc Cert.DwguIdeal.main_arg1)
      ∧ r.2.mem ((c.tc : Thread Cert.DwguIdeal.nD Cert.DwguIdeal.τ).loc Cert.DwguIdeal.main_arg2) = m ((c.tc : Thread Cert.DwguIdeal.nD Cert.DwguIdeal.τ).loc Cert.DwguIdeal.main_arg2)
      ∧ r.2.mem ((c.tc : Thread Cert.DwguIdeal.nD Cert.DwguIdeal.τ).loc Cert.DwguIdeal.main_arg3) = m ((c.tc : Thread Cert.DwguIdeal.nD Cert.DwguIdeal.τ).loc Cert.DwguIdeal.main_arg3)
      ∧ r.2.mem ((c.tc : Thread Cert.DwguIdeal.nD Cert.DwguIdeal.τ).loc Cert.DwguIdeal.main_arg4) = m ((c.tc : Thread Cert.DwguIdeal.nD Cert.DwguIdeal.τ).loc Cert.DwguIdeal.main_arg4))
      ∧ r.2.sem = fun _ => 0)

def quiescent_DwguReferenceIdeal [hDwguReferenceIdeal : Cert.DwguReferenceIdeal.Facts] : Prop :=
  ∀ (m : (ℓ : Loc Cert.DwguReferenceIdeal.nD Cert.DwguReferenceIdeal.τ Cert.DwguReferenceIdeal.sig) → Buf (Elt Ideal) ℓ) (g : Dev Cert.DwguReferenceIdeal.nD → PrngReg), Pre_DwguReferenceIdeal m →
    θ_run (Cert.DwguReferenceIdeal.defs (F := Ideal)) (onTc (τ := Cert.DwguReferenceIdeal.τ) (Cert.DwguReferenceIdeal.main (F := Ideal))) ⟨m, fun _ => 0, g⟩ (fun r => (∀ c : Dev Cert.DwguReferenceIdeal.nD,
      r.2.mem ((c.tc : Thread Cert.DwguReferenceIdeal.nD Cert.DwguReferenceIdeal.τ).loc Cert.DwguReferenceIdeal.main_arg0) = m ((c.tc : Thread Cert.DwguReferenceIdeal.nD Cert.DwguReferenceIdeal.τ).loc Cert.DwguReferenceIdeal.main_arg0)
      ∧ r.2.mem ((c.tc : Thread Cert.DwguReferenceIdeal.nD Cert.DwguReferenceIdeal.τ).loc Cert.DwguReferenceIdeal.main_arg1) = m ((c.tc : Thread Cert.DwguReferenceIdeal.nD Cert.DwguReferenceIdeal.τ).loc Cert.DwguReferenceIdeal.main_arg1)
      ∧ r.2.mem ((c.tc : Thread Cert.DwguReferenceIdeal.nD Cert.DwguReferenceIdeal.τ).loc Cert.DwguReferenceIdeal.main_arg2) = m ((c.tc : Thread Cert.DwguReferenceIdeal.nD Cert.DwguReferenceIdeal.τ).loc Cert.DwguReferenceIdeal.main_arg2)
      ∧ r.2.mem ((c.tc : Thread Cert.DwguReferenceIdeal.nD Cert.DwguReferenceIdeal.τ).loc Cert.DwguReferenceIdeal.main_arg3) = m ((c.tc : Thread Cert.DwguReferenceIdeal.nD Cert.DwguReferenceIdeal.τ).loc Cert.DwguReferenceIdeal.main_arg3)
      ∧ r.2.mem ((c.tc : Thread Cert.DwguReferenceIdeal.nD Cert.DwguReferenceIdeal.τ).loc Cert.DwguReferenceIdeal.main_arg4) = m ((c.tc : Thread Cert.DwguReferenceIdeal.nD Cert.DwguReferenceIdeal.τ).loc Cert.DwguReferenceIdeal.main_arg4))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3)
      ∧ r.2.mem ((c.tc : Thread Cert.Dh.nD Cert.Dh.τ).loc Cert.Dh.main_arg4) = m ((c.tc : Thread Cert.Dh.nD Cert.Dh.τ).loc Cert.Dh.main_arg4))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
      ∧ r.2.mem ((c.tc : Thread Cert.DhIdeal.nD Cert.DhIdeal.τ).loc Cert.DhIdeal.main_arg4) = m ((c.tc : Thread Cert.DhIdeal.nD Cert.DhIdeal.τ).loc Cert.DhIdeal.main_arg4))
      ∧ r.2.sem = fun _ => 0)

def quiescent_DhReferenceIdeal [hDhReferenceIdeal : Cert.DhReferenceIdeal.Facts] : Prop :=
  ∀ (m : (ℓ : Loc Cert.DhReferenceIdeal.nD Cert.DhReferenceIdeal.τ Cert.DhReferenceIdeal.sig) → Buf (Elt Ideal) ℓ) (g : Dev Cert.DhReferenceIdeal.nD → PrngReg), Pre_DhReferenceIdeal m →
    θ_run (Cert.DhReferenceIdeal.defs (F := Ideal)) (onTc (τ := Cert.DhReferenceIdeal.τ) (Cert.DhReferenceIdeal.main (F := Ideal))) ⟨m, fun _ => 0, g⟩ (fun r => (∀ c : Dev Cert.DhReferenceIdeal.nD,
      r.2.mem ((c.tc : Thread Cert.DhReferenceIdeal.nD Cert.DhReferenceIdeal.τ).loc Cert.DhReferenceIdeal.main_arg0) = m ((c.tc : Thread Cert.DhReferenceIdeal.nD Cert.DhReferenceIdeal.τ).loc Cert.DhReferenceIdeal.main_arg0)
      ∧ r.2.mem ((c.tc : Thread Cert.DhReferenceIdeal.nD Cert.DhReferenceIdeal.τ).loc Cert.DhReferenceIdeal.main_arg1) = m ((c.tc : Thread Cert.DhReferenceIdeal.nD Cert.DhReferenceIdeal.τ).loc Cert.DhReferenceIdeal.main_arg1)
      ∧ r.2.mem ((c.tc : Thread Cert.DhReferenceIdeal.nD Cert.DhReferenceIdeal.τ).loc Cert.DhReferenceIdeal.main_arg2) = m ((c.tc : Thread Cert.DhReferenceIdeal.nD Cert.DhReferenceIdeal.τ).loc Cert.DhReferenceIdeal.main_arg2)
      ∧ r.2.mem ((c.tc : Thread Cert.DhReferenceIdeal.nD Cert.DhReferenceIdeal.τ).loc Cert.DhReferenceIdeal.main_arg3) = m ((c.tc : Thread Cert.DhReferenceIdeal.nD Cert.DhReferenceIdeal.τ).loc Cert.DhReferenceIdeal.main_arg3)
      ∧ r.2.mem ((c.tc : Thread Cert.DhReferenceIdeal.nD Cert.DhReferenceIdeal.τ).loc Cert.DhReferenceIdeal.main_arg4) = m ((c.tc : Thread Cert.DhReferenceIdeal.nD Cert.DhReferenceIdeal.τ).loc Cert.DhReferenceIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_Do [hDo : Cert.Do.Facts] : Prop :=
  ∀ (m : (ℓ : Loc Cert.Do.nD Cert.Do.τ Cert.Do.sig) → Buf (Elt Bits) ℓ) (g : Dev Cert.Do.nD → PrngReg), Pre_Do m →
    θ_run (Cert.Do.defs (F := Bits)) (onTc (τ := Cert.Do.τ) (Cert.Do.main (F := Bits))) ⟨m, fun _ => 0, g⟩ (fun r => (∀ c : Dev Cert.Do.nD,
      r.2.mem ((c.tc : Thread Cert.Do.nD Cert.Do.τ).loc Cert.Do.main_arg0) = m ((c.tc : Thread Cert.Do.nD Cert.Do.τ).loc Cert.Do.main_arg0)
      ∧ r.2.mem ((c.tc : Thread Cert.Do.nD Cert.Do.τ).loc Cert.Do.main_arg1) = m ((c.tc : Thread Cert.Do.nD Cert.Do.τ).loc Cert.Do.main_arg1)
      ∧ r.2.mem ((c.tc : Thread Cert.Do.nD Cert.Do.τ).loc Cert.Do.main_arg2) = m ((c.tc : Thread Cert.Do.nD Cert.Do.τ).loc Cert.Do.main_arg2)
      ∧ r.2.mem ((c.tc : Thread Cert.Do.nD Cert.Do.τ).loc Cert.Do.main_arg3) = m ((c.tc : Thread Cert.Do.nD Cert.Do.τ).loc Cert.Do.main_arg3))
      ∧ r.2.sem = fun _ => 0)

def quiescent_DoIdeal [hDoIdeal : Cert.DoIdeal.Facts] : Prop :=
  ∀ (m : (ℓ : Loc Cert.DoIdeal.nD Cert.DoIdeal.τ Cert.DoIdeal.sig) → Buf (Elt Ideal) ℓ) (g : Dev Cert.DoIdeal.nD → PrngReg), Pre_DoIdeal m →
    θ_run (Cert.DoIdeal.defs (F := Ideal)) (onTc (τ := Cert.DoIdeal.τ) (Cert.DoIdeal.main (F := Ideal))) ⟨m, fun _ => 0, g⟩ (fun r => (∀ c : Dev Cert.DoIdeal.nD,
      r.2.mem ((c.tc : Thread Cert.DoIdeal.nD Cert.DoIdeal.τ).loc Cert.DoIdeal.main_arg0) = m ((c.tc : Thread Cert.DoIdeal.nD Cert.DoIdeal.τ).loc Cert.DoIdeal.main_arg0)
      ∧ r.2.mem ((c.tc : Thread Cert.DoIdeal.nD Cert.DoIdeal.τ).loc Cert.DoIdeal.main_arg1) = m ((c.tc : Thread Cert.DoIdeal.nD Cert.DoIdeal.τ).loc Cert.DoIdeal.main_arg1)
      ∧ r.2.mem ((c.tc : Thread Cert.DoIdeal.nD Cert.DoIdeal.τ).loc Cert.DoIdeal.main_arg2) = m ((c.tc : Thread Cert.DoIdeal.nD Cert.DoIdeal.τ).loc Cert.DoIdeal.main_arg2)
      ∧ r.2.mem ((c.tc : Thread Cert.DoIdeal.nD Cert.DoIdeal.τ).loc Cert.DoIdeal.main_arg3) = m ((c.tc : Thread Cert.DoIdeal.nD Cert.DoIdeal.τ).loc Cert.DoIdeal.main_arg3))
      ∧ r.2.sem = fun _ => 0)

def quiescent_DoReferenceIdeal [hDoReferenceIdeal : Cert.DoReferenceIdeal.Facts] : Prop :=
  ∀ (m : (ℓ : Loc Cert.DoReferenceIdeal.nD Cert.DoReferenceIdeal.τ Cert.DoReferenceIdeal.sig) → Buf (Elt Ideal) ℓ) (g : Dev Cert.DoReferenceIdeal.nD → PrngReg), Pre_DoReferenceIdeal m →
    θ_run (Cert.DoReferenceIdeal.defs (F := Ideal)) (onTc (τ := Cert.DoReferenceIdeal.τ) (Cert.DoReferenceIdeal.main (F := Ideal))) ⟨m, fun _ => 0, g⟩ (fun r => (∀ c : Dev Cert.DoReferenceIdeal.nD,
      r.2.mem ((c.tc : Thread Cert.DoReferenceIdeal.nD Cert.DoReferenceIdeal.τ).loc Cert.DoReferenceIdeal.main_arg0) = m ((c.tc : Thread Cert.DoReferenceIdeal.nD Cert.DoReferenceIdeal.τ).loc Cert.DoReferenceIdeal.main_arg0)
      ∧ r.2.mem ((c.tc : Thread Cert.DoReferenceIdeal.nD Cert.DoReferenceIdeal.τ).loc Cert.DoReferenceIdeal.main_arg1) = m ((c.tc : Thread Cert.DoReferenceIdeal.nD Cert.DoReferenceIdeal.τ).loc Cert.DoReferenceIdeal.main_arg1)
      ∧ r.2.mem ((c.tc : Thread Cert.DoReferenceIdeal.nD Cert.DoReferenceIdeal.τ).loc Cert.DoReferenceIdeal.main_arg2) = m ((c.tc : Thread Cert.DoReferenceIdeal.nD Cert.DoReferenceIdeal.τ).loc Cert.DoReferenceIdeal.main_arg2)
      ∧ r.2.mem ((c.tc : Thread Cert.DoReferenceIdeal.nD Cert.DoReferenceIdeal.τ).loc Cert.DoReferenceIdeal.main_arg3) = m ((c.tc : Thread Cert.DoReferenceIdeal.nD Cert.DoReferenceIdeal.τ).loc Cert.DoReferenceIdeal.main_arg3))
      ∧ r.2.sem = fun _ => 0)

def quiescent_Dwo [hDwo : Cert.Dwo.Facts] : Prop :=
  ∀ (m : (ℓ : Loc Cert.Dwo.nD Cert.Dwo.τ Cert.Dwo.sig) → Buf (Elt Bits) ℓ) (g : Dev Cert.Dwo.nD → PrngReg), Pre_Dwo m →
    θ_run (Cert.Dwo.defs (F := Bits)) (onTc (τ := Cert.Dwo.τ) (Cert.Dwo.main (F := Bits))) ⟨m, fun _ => 0, g⟩ (fun r => (∀ c : Dev Cert.Dwo.nD,
      r.2.mem ((c.tc : Thread Cert.Dwo.nD Cert.Dwo.τ).loc Cert.Dwo.main_arg0) = m ((c.tc : Thread Cert.Dwo.nD Cert.Dwo.τ).loc Cert.Dwo.main_arg0)
      ∧ r.2.mem ((c.tc : Thread Cert.Dwo.nD Cert.Dwo.τ).loc Cert.Dwo.main_arg1) = m ((c.tc : Thread Cert.Dwo.nD Cert.Dwo.τ).loc Cert.Dwo.main_arg1)
      ∧ r.2.mem ((c.tc : Thread Cert.Dwo.nD Cert.Dwo.τ).loc Cert.Dwo.main_arg2) = m ((c.tc : Thread Cert.Dwo.nD Cert.Dwo.τ).loc Cert.Dwo.main_arg2)
      ∧ r.2.mem ((c.tc : Thread Cert.Dwo.nD Cert.Dwo.τ).loc Cert.Dwo.main_arg3) = m ((c.tc : Thread Cert.Dwo.nD Cert.Dwo.τ).loc Cert.Dwo.main_arg3))
      ∧ r.2.sem = fun _ => 0)

def quiescent_DwoIdeal [hDwoIdeal : Cert.DwoIdeal.Facts] : Prop :=
  ∀ (m : (ℓ : Loc Cert.DwoIdeal.nD Cert.DwoIdeal.τ Cert.DwoIdeal.sig) → Buf (Elt Ideal) ℓ) (g : Dev Cert.DwoIdeal.nD → PrngReg), Pre_DwoIdeal m →
    θ_run (Cert.DwoIdeal.defs (F := Ideal)) (onTc (τ := Cert.DwoIdeal.τ) (Cert.DwoIdeal.main (F := Ideal))) ⟨m, fun _ => 0, g⟩ (fun r => (∀ c : Dev Cert.DwoIdeal.nD,
      r.2.mem ((c.tc : Thread Cert.DwoIdeal.nD Cert.DwoIdeal.τ).loc Cert.DwoIdeal.main_arg0) = m ((c.tc : Thread Cert.DwoIdeal.nD Cert.DwoIdeal.τ).loc Cert.DwoIdeal.main_arg0)
      ∧ r.2.mem ((c.tc : Thread Cert.DwoIdeal.nD Cert.DwoIdeal.τ).loc Cert.DwoIdeal.main_arg1) = m ((c.tc : Thread Cert.DwoIdeal.nD Cert.DwoIdeal.τ).loc Cert.DwoIdeal.main_arg1)
      ∧ r.2.mem ((c.tc : Thread Cert.DwoIdeal.nD Cert.DwoIdeal.τ).loc Cert.DwoIdeal.main_arg2) = m ((c.tc : Thread Cert.DwoIdeal.nD Cert.DwoIdeal.τ).loc Cert.DwoIdeal.main_arg2)
      ∧ r.2.mem ((c.tc : Thread Cert.DwoIdeal.nD Cert.DwoIdeal.τ).loc Cert.DwoIdeal.main_arg3) = m ((c.tc : Thread Cert.DwoIdeal.nD Cert.DwoIdeal.τ).loc Cert.DwoIdeal.main_arg3))
      ∧ r.2.sem = fun _ => 0)

def quiescent_DwoReferenceIdeal [hDwoReferenceIdeal : Cert.DwoReferenceIdeal.Facts] : Prop :=
  ∀ (m : (ℓ : Loc Cert.DwoReferenceIdeal.nD Cert.DwoReferenceIdeal.τ Cert.DwoReferenceIdeal.sig) → Buf (Elt Ideal) ℓ) (g : Dev Cert.DwoReferenceIdeal.nD → PrngReg), Pre_DwoReferenceIdeal m →
    θ_run (Cert.DwoReferenceIdeal.defs (F := Ideal)) (onTc (τ := Cert.DwoReferenceIdeal.τ) (Cert.DwoReferenceIdeal.main (F := Ideal))) ⟨m, fun _ => 0, g⟩ (fun r => (∀ c : Dev Cert.DwoReferenceIdeal.nD,
      r.2.mem ((c.tc : Thread Cert.DwoReferenceIdeal.nD Cert.DwoReferenceIdeal.τ).loc Cert.DwoReferenceIdeal.main_arg0) = m ((c.tc : Thread Cert.DwoReferenceIdeal.nD Cert.DwoReferenceIdeal.τ).loc Cert.DwoReferenceIdeal.main_arg0)
      ∧ r.2.mem ((c.tc : Thread Cert.DwoReferenceIdeal.nD Cert.DwoReferenceIdeal.τ).loc Cert.DwoReferenceIdeal.main_arg1) = m ((c.tc : Thread Cert.DwoReferenceIdeal.nD Cert.DwoReferenceIdeal.τ).loc Cert.DwoReferenceIdeal.main_arg1)
      ∧ r.2.mem ((c.tc : Thread Cert.DwoReferenceIdeal.nD Cert.DwoReferenceIdeal.τ).loc Cert.DwoReferenceIdeal.main_arg2) = m ((c.tc : Thread Cert.DwoReferenceIdeal.nD Cert.DwoReferenceIdeal.τ).loc Cert.DwoReferenceIdeal.main_arg2)
      ∧ r.2.mem ((c.tc : Thread Cert.DwoReferenceIdeal.nD Cert.DwoReferenceIdeal.τ).loc Cert.DwoReferenceIdeal.main_arg3) = m ((c.tc : Thread Cert.DwoReferenceIdeal.nD Cert.DwoReferenceIdeal.τ).loc Cert.DwoReferenceIdeal.main_arg3))
      ∧ r.2.sem = fun _ => 0)

def quiescent_QDown [hQDown : Cert.QDown.Facts] : Prop :=
  ∀ (m : (ℓ : Loc Cert.QDown.nD Cert.QDown.τ Cert.QDown.sig) → Buf (Elt Bits) ℓ) (g : Dev Cert.QDown.nD → PrngReg), Pre_QDown m →
    θ_run (Cert.QDown.defs (F := Bits)) (onTc (τ := Cert.QDown.τ) (Cert.QDown.main (F := Bits))) ⟨m, fun _ => 0, g⟩ (fun r => (∀ c : Dev Cert.QDown.nD,
      r.2.mem ((c.tc : Thread Cert.QDown.nD Cert.QDown.τ).loc Cert.QDown.main_arg0) = m ((c.tc : Thread Cert.QDown.nD Cert.QDown.τ).loc Cert.QDown.main_arg0)
      ∧ r.2.mem ((c.tc : Thread Cert.QDown.nD Cert.QDown.τ).loc Cert.QDown.main_arg1) = m ((c.tc : Thread Cert.QDown.nD Cert.QDown.τ).loc Cert.QDown.main_arg1))
      ∧ r.2.sem = fun _ => 0)

def quiescent_QDownIdeal [hQDownIdeal : Cert.QDownIdeal.Facts] : Prop :=
  ∀ (m : (ℓ : Loc Cert.QDownIdeal.nD Cert.QDownIdeal.τ Cert.QDownIdeal.sig) → Buf (Elt Ideal) ℓ) (g : Dev Cert.QDownIdeal.nD → PrngReg), Pre_QDownIdeal m →
    θ_run (Cert.QDownIdeal.defs (F := Ideal)) (onTc (τ := Cert.QDownIdeal.τ) (Cert.QDownIdeal.main (F := Ideal))) ⟨m, fun _ => 0, g⟩ (fun r => (∀ c : Dev Cert.QDownIdeal.nD,
      r.2.mem ((c.tc : Thread Cert.QDownIdeal.nD Cert.QDownIdeal.τ).loc Cert.QDownIdeal.main_arg0) = m ((c.tc : Thread Cert.QDownIdeal.nD Cert.QDownIdeal.τ).loc Cert.QDownIdeal.main_arg0)
      ∧ r.2.mem ((c.tc : Thread Cert.QDownIdeal.nD Cert.QDownIdeal.τ).loc Cert.QDownIdeal.main_arg1) = m ((c.tc : Thread Cert.QDownIdeal.nD Cert.QDownIdeal.τ).loc Cert.QDownIdeal.main_arg1))
      ∧ r.2.sem = fun _ => 0)

def quiescent_QDownReferenceIdeal [hQDownReferenceIdeal : Cert.QDownReferenceIdeal.Facts] : Prop :=
  ∀ (m : (ℓ : Loc Cert.QDownReferenceIdeal.nD Cert.QDownReferenceIdeal.τ Cert.QDownReferenceIdeal.sig) → Buf (Elt Ideal) ℓ) (g : Dev Cert.QDownReferenceIdeal.nD → PrngReg), Pre_QDownReferenceIdeal m →
    θ_run (Cert.QDownReferenceIdeal.defs (F := Ideal)) (onTc (τ := Cert.QDownReferenceIdeal.τ) (Cert.QDownReferenceIdeal.main (F := Ideal))) ⟨m, fun _ => 0, g⟩ (fun r => (∀ c : Dev Cert.QDownReferenceIdeal.nD,
      r.2.mem ((c.tc : Thread Cert.QDownReferenceIdeal.nD Cert.QDownReferenceIdeal.τ).loc Cert.QDownReferenceIdeal.main_arg0) = m ((c.tc : Thread Cert.QDownReferenceIdeal.nD Cert.QDownReferenceIdeal.τ).loc Cert.QDownReferenceIdeal.main_arg0)
      ∧ r.2.mem ((c.tc : Thread Cert.QDownReferenceIdeal.nD Cert.QDownReferenceIdeal.τ).loc Cert.QDownReferenceIdeal.main_arg1) = m ((c.tc : Thread Cert.QDownReferenceIdeal.nD Cert.QDownReferenceIdeal.τ).loc Cert.QDownReferenceIdeal.main_arg1))
      ∧ r.2.sem = fun _ => 0)

def quiescent_QDownDh [hQDownDh : Cert.QDownDh.Facts] : Prop :=
  ∀ (m : (ℓ : Loc Cert.QDownDh.nD Cert.QDownDh.τ Cert.QDownDh.sig) → Buf (Elt Bits) ℓ) (g : Dev Cert.QDownDh.nD → PrngReg), Pre_QDownDh m →
    θ_run (Cert.QDownDh.defs (F := Bits)) (onTc (τ := Cert.QDownDh.τ) (Cert.QDownDh.main (F := Bits))) ⟨m, fun _ => 0, g⟩ (fun r => (∀ c : Dev Cert.QDownDh.nD,
      r.2.mem ((c.tc : Thread Cert.QDownDh.nD Cert.QDownDh.τ).loc Cert.QDownDh.main_arg0) = m ((c.tc : Thread Cert.QDownDh.nD Cert.QDownDh.τ).loc Cert.QDownDh.main_arg0)
      ∧ r.2.mem ((c.tc : Thread Cert.QDownDh.nD Cert.QDownDh.τ).loc Cert.QDownDh.main_arg1) = m ((c.tc : Thread Cert.QDownDh.nD Cert.QDownDh.τ).loc Cert.QDownDh.main_arg1)
      ∧ r.2.mem ((c.tc : Thread Cert.QDownDh.nD Cert.QDownDh.τ).loc Cert.QDownDh.main_arg2) = m ((c.tc : Thread Cert.QDownDh.nD Cert.QDownDh.τ).loc Cert.QDownDh.main_arg2))
      ∧ r.2.sem = fun _ => 0)

def quiescent_QDownDhIdeal [hQDownDhIdeal : Cert.QDownDhIdeal.Facts] : Prop :=
  ∀ (m : (ℓ : Loc Cert.QDownDhIdeal.nD Cert.QDownDhIdeal.τ Cert.QDownDhIdeal.sig) → Buf (Elt Ideal) ℓ) (g : Dev Cert.QDownDhIdeal.nD → PrngReg), Pre_QDownDhIdeal m →
    θ_run (Cert.QDownDhIdeal.defs (F := Ideal)) (onTc (τ := Cert.QDownDhIdeal.τ) (Cert.QDownDhIdeal.main (F := Ideal))) ⟨m, fun _ => 0, g⟩ (fun r => (∀ c : Dev Cert.QDownDhIdeal.nD,
      r.2.mem ((c.tc : Thread Cert.QDownDhIdeal.nD Cert.QDownDhIdeal.τ).loc Cert.QDownDhIdeal.main_arg0) = m ((c.tc : Thread Cert.QDownDhIdeal.nD Cert.QDownDhIdeal.τ).loc Cert.QDownDhIdeal.main_arg0)
      ∧ r.2.mem ((c.tc : Thread Cert.QDownDhIdeal.nD Cert.QDownDhIdeal.τ).loc Cert.QDownDhIdeal.main_arg1) = m ((c.tc : Thread Cert.QDownDhIdeal.nD Cert.QDownDhIdeal.τ).loc Cert.QDownDhIdeal.main_arg1)
      ∧ r.2.mem ((c.tc : Thread Cert.QDownDhIdeal.nD Cert.QDownDhIdeal.τ).loc Cert.QDownDhIdeal.main_arg2) = m ((c.tc : Thread Cert.QDownDhIdeal.nD Cert.QDownDhIdeal.τ).loc Cert.QDownDhIdeal.main_arg2))
      ∧ r.2.sem = fun _ => 0)

def quiescent_QDownDhReferenceIdeal [hQDownDhReferenceIdeal : Cert.QDownDhReferenceIdeal.Facts] : Prop :=
  ∀ (m : (ℓ : Loc Cert.QDownDhReferenceIdeal.nD Cert.QDownDhReferenceIdeal.τ Cert.QDownDhReferenceIdeal.sig) → Buf (Elt Ideal) ℓ) (g : Dev Cert.QDownDhReferenceIdeal.nD → PrngReg), Pre_QDownDhReferenceIdeal m →
    θ_run (Cert.QDownDhReferenceIdeal.defs (F := Ideal)) (onTc (τ := Cert.QDownDhReferenceIdeal.τ) (Cert.QDownDhReferenceIdeal.main (F := Ideal))) ⟨m, fun _ => 0, g⟩ (fun r => (∀ c : Dev Cert.QDownDhReferenceIdeal.nD,
      r.2.mem ((c.tc : Thread Cert.QDownDhReferenceIdeal.nD Cert.QDownDhReferenceIdeal.τ).loc Cert.QDownDhReferenceIdeal.main_arg0) = m ((c.tc : Thread Cert.QDownDhReferenceIdeal.nD Cert.QDownDhReferenceIdeal.τ).loc Cert.QDownDhReferenceIdeal.main_arg0)
      ∧ r.2.mem ((c.tc : Thread Cert.QDownDhReferenceIdeal.nD Cert.QDownDhReferenceIdeal.τ).loc Cert.QDownDhReferenceIdeal.main_arg1) = m ((c.tc : Thread Cert.QDownDhReferenceIdeal.nD Cert.QDownDhReferenceIdeal.τ).loc Cert.QDownDhReferenceIdeal.main_arg1)
      ∧ r.2.mem ((c.tc : Thread Cert.QDownDhReferenceIdeal.nD Cert.QDownDhReferenceIdeal.τ).loc Cert.QDownDhReferenceIdeal.main_arg2) = m ((c.tc : Thread Cert.QDownDhReferenceIdeal.nD Cert.QDownDhReferenceIdeal.τ).loc Cert.QDownDhReferenceIdeal.main_arg2))
      ∧ r.2.sem = fun _ => 0)

def quiescent_QDownDw [hQDownDw : Cert.QDownDw.Facts] : Prop :=
  ∀ (m : (ℓ : Loc Cert.QDownDw.nD Cert.QDownDw.τ Cert.QDownDw.sig) → Buf (Elt Bits) ℓ) (g : Dev Cert.QDownDw.nD → PrngReg), Pre_QDownDw m →
    θ_run (Cert.QDownDw.defs (F := Bits)) (onTc (τ := Cert.QDownDw.τ) (Cert.QDownDw.main (F := Bits))) ⟨m, fun _ => 0, g⟩ (fun r => (∀ c : Dev Cert.QDownDw.nD,
      r.2.mem ((c.tc : Thread Cert.QDownDw.nD Cert.QDownDw.τ).loc Cert.QDownDw.main_arg0) = m ((c.tc : Thread Cert.QDownDw.nD Cert.QDownDw.τ).loc Cert.QDownDw.main_arg0)
      ∧ r.2.mem ((c.tc : Thread Cert.QDownDw.nD Cert.QDownDw.τ).loc Cert.QDownDw.main_arg1) = m ((c.tc : Thread Cert.QDownDw.nD Cert.QDownDw.τ).loc Cert.QDownDw.main_arg1)
      ∧ r.2.mem ((c.tc : Thread Cert.QDownDw.nD Cert.QDownDw.τ).loc Cert.QDownDw.main_arg2) = m ((c.tc : Thread Cert.QDownDw.nD Cert.QDownDw.τ).loc Cert.QDownDw.main_arg2))
      ∧ r.2.sem = fun _ => 0)

def quiescent_QDownDwIdeal [hQDownDwIdeal : Cert.QDownDwIdeal.Facts] : Prop :=
  ∀ (m : (ℓ : Loc Cert.QDownDwIdeal.nD Cert.QDownDwIdeal.τ Cert.QDownDwIdeal.sig) → Buf (Elt Ideal) ℓ) (g : Dev Cert.QDownDwIdeal.nD → PrngReg), Pre_QDownDwIdeal m →
    θ_run (Cert.QDownDwIdeal.defs (F := Ideal)) (onTc (τ := Cert.QDownDwIdeal.τ) (Cert.QDownDwIdeal.main (F := Ideal))) ⟨m, fun _ => 0, g⟩ (fun r => (∀ c : Dev Cert.QDownDwIdeal.nD,
      r.2.mem ((c.tc : Thread Cert.QDownDwIdeal.nD Cert.QDownDwIdeal.τ).loc Cert.QDownDwIdeal.main_arg0) = m ((c.tc : Thread Cert.QDownDwIdeal.nD Cert.QDownDwIdeal.τ).loc Cert.QDownDwIdeal.main_arg0)
      ∧ r.2.mem ((c.tc : Thread Cert.QDownDwIdeal.nD Cert.QDownDwIdeal.τ).loc Cert.QDownDwIdeal.main_arg1) = m ((c.tc : Thread Cert.QDownDwIdeal.nD Cert.QDownDwIdeal.τ).loc Cert.QDownDwIdeal.main_arg1)
      ∧ r.2.mem ((c.tc : Thread Cert.QDownDwIdeal.nD Cert.QDownDwIdeal.τ).loc Cert.QDownDwIdeal.main_arg2) = m ((c.tc : Thread Cert.QDownDwIdeal.nD Cert.QDownDwIdeal.τ).loc Cert.QDownDwIdeal.main_arg2))
      ∧ r.2.sem = fun _ => 0)

def quiescent_QDownDwReferenceIdeal [hQDownDwReferenceIdeal : Cert.QDownDwReferenceIdeal.Facts] : Prop :=
  ∀ (m : (ℓ : Loc Cert.QDownDwReferenceIdeal.nD Cert.QDownDwReferenceIdeal.τ Cert.QDownDwReferenceIdeal.sig) → Buf (Elt Ideal) ℓ) (g : Dev Cert.QDownDwReferenceIdeal.nD → PrngReg), Pre_QDownDwReferenceIdeal m →
    θ_run (Cert.QDownDwReferenceIdeal.defs (F := Ideal)) (onTc (τ := Cert.QDownDwReferenceIdeal.τ) (Cert.QDownDwReferenceIdeal.main (F := Ideal))) ⟨m, fun _ => 0, g⟩ (fun r => (∀ c : Dev Cert.QDownDwReferenceIdeal.nD,
      r.2.mem ((c.tc : Thread Cert.QDownDwReferenceIdeal.nD Cert.QDownDwReferenceIdeal.τ).loc Cert.QDownDwReferenceIdeal.main_arg0) = m ((c.tc : Thread Cert.QDownDwReferenceIdeal.nD Cert.QDownDwReferenceIdeal.τ).loc Cert.QDownDwReferenceIdeal.main_arg0)
      ∧ r.2.mem ((c.tc : Thread Cert.QDownDwReferenceIdeal.nD Cert.QDownDwReferenceIdeal.τ).loc Cert.QDownDwReferenceIdeal.main_arg1) = m ((c.tc : Thread Cert.QDownDwReferenceIdeal.nD Cert.QDownDwReferenceIdeal.τ).loc Cert.QDownDwReferenceIdeal.main_arg1)
      ∧ r.2.mem ((c.tc : Thread Cert.QDownDwReferenceIdeal.nD Cert.QDownDwReferenceIdeal.τ).loc Cert.QDownDwReferenceIdeal.main_arg2) = m ((c.tc : Thread Cert.QDownDwReferenceIdeal.nD Cert.QDownDwReferenceIdeal.τ).loc Cert.QDownDwReferenceIdeal.main_arg2))
      ∧ r.2.sem = fun _ => 0)

def quiescent_QUp [hQUp : Cert.QUp.Facts] : Prop :=
  ∀ (m : (ℓ : Loc Cert.QUp.nD Cert.QUp.τ Cert.QUp.sig) → Buf (Elt Bits) ℓ) (g : Dev Cert.QUp.nD → PrngReg), Pre_QUp m →
    θ_run (Cert.QUp.defs (F := Bits)) (onTc (τ := Cert.QUp.τ) (Cert.QUp.main (F := Bits))) ⟨m, fun _ => 0, g⟩ (fun r => (∀ c : Dev Cert.QUp.nD,
      r.2.mem ((c.tc : Thread Cert.QUp.nD Cert.QUp.τ).loc Cert.QUp.main_arg0) = m ((c.tc : Thread Cert.QUp.nD Cert.QUp.τ).loc Cert.QUp.main_arg0)
      ∧ r.2.mem ((c.tc : Thread Cert.QUp.nD Cert.QUp.τ).loc Cert.QUp.main_arg1) = m ((c.tc : Thread Cert.QUp.nD Cert.QUp.τ).loc Cert.QUp.main_arg1))
      ∧ r.2.sem = fun _ => 0)

def quiescent_QUpIdeal [hQUpIdeal : Cert.QUpIdeal.Facts] : Prop :=
  ∀ (m : (ℓ : Loc Cert.QUpIdeal.nD Cert.QUpIdeal.τ Cert.QUpIdeal.sig) → Buf (Elt Ideal) ℓ) (g : Dev Cert.QUpIdeal.nD → PrngReg), Pre_QUpIdeal m →
    θ_run (Cert.QUpIdeal.defs (F := Ideal)) (onTc (τ := Cert.QUpIdeal.τ) (Cert.QUpIdeal.main (F := Ideal))) ⟨m, fun _ => 0, g⟩ (fun r => (∀ c : Dev Cert.QUpIdeal.nD,
      r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
      ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1))
      ∧ r.2.sem = fun _ => 0)

def quiescent_QUpReferenceIdeal [hQUpReferenceIdeal : Cert.QUpReferenceIdeal.Facts] : Prop :=
  ∀ (m : (ℓ : Loc Cert.QUpReferenceIdeal.nD Cert.QUpReferenceIdeal.τ Cert.QUpReferenceIdeal.sig) → Buf (Elt Ideal) ℓ) (g : Dev Cert.QUpReferenceIdeal.nD → PrngReg), Pre_QUpReferenceIdeal m →
    θ_run (Cert.QUpReferenceIdeal.defs (F := Ideal)) (onTc (τ := Cert.QUpReferenceIdeal.τ) (Cert.QUpReferenceIdeal.main (F := Ideal))) ⟨m, fun _ => 0, g⟩ (fun r => (∀ c : Dev Cert.QUpReferenceIdeal.nD,
      r.2.mem ((c.tc : Thread Cert.QUpReferenceIdeal.nD Cert.QUpReferenceIdeal.τ).loc Cert.QUpReferenceIdeal.main_arg0) = m ((c.tc : Thread Cert.QUpReferenceIdeal.nD Cert.QUpReferenceIdeal.τ).loc Cert.QUpReferenceIdeal.main_arg0)
      ∧ r.2.mem ((c.tc : Thread Cert.QUpReferenceIdeal.nD Cert.QUpReferenceIdeal.τ).loc Cert.QUpReferenceIdeal.main_arg1) = m ((c.tc : Thread Cert.QUpReferenceIdeal.nD Cert.QUpReferenceIdeal.τ).loc Cert.QUpReferenceIdeal.main_arg1))
      ∧ r.2.sem = fun _ => 0)

def quiescent_QUpDc [hQUpDc : Cert.QUpDc.Facts] : Prop :=
  ∀ (m : (ℓ : Loc Cert.QUpDc.nD Cert.QUpDc.τ Cert.QUpDc.sig) → Buf (Elt Bits) ℓ) (g : Dev Cert.QUpDc.nD → PrngReg), Pre_QUpDc m →
    θ_run (Cert.QUpDc.defs (F := Bits)) (onTc (τ := Cert.QUpDc.τ) (Cert.QUpDc.main (F := Bits))) ⟨m, fun _ => 0, g⟩ (fun r => (∀ c : Dev Cert.QUpDc.nD,
      r.2.mem ((c.tc : Thread Cert.QUpDc.nD Cert.QUpDc.τ).loc Cert.QUpDc.main_arg0) = m ((c.tc : Thread Cert.QUpDc.nD Cert.QUpDc.τ).loc Cert.QUpDc.main_arg0)
      ∧ r.2.mem ((c.tc : Thread Cert.QUpDc.nD Cert.QUpDc.τ).loc Cert.QUpDc.main_arg1) = m ((c.tc : Thread Cert.QUpDc.nD Cert.QUpDc.τ).loc Cert.QUpDc.main_arg1)
      ∧ r.2.mem ((c.tc : Thread Cert.QUpDc.nD Cert.QUpDc.τ).loc Cert.QUpDc.main_arg2) = m ((c.tc : Thread Cert.QUpDc.nD Cert.QUpDc.τ).loc Cert.QUpDc.main_arg2))
      ∧ r.2.sem = fun _ => 0)

def quiescent_QUpDcIdeal [hQUpDcIdeal : Cert.QUpDcIdeal.Facts] : Prop :=
  ∀ (m : (ℓ : Loc Cert.QUpDcIdeal.nD Cert.QUpDcIdeal.τ Cert.QUpDcIdeal.sig) → Buf (Elt Ideal) ℓ) (g : Dev Cert.QUpDcIdeal.nD → PrngReg), Pre_QUpDcIdeal m →
    θ_run (Cert.QUpDcIdeal.defs (F := Ideal)) (onTc (τ := Cert.QUpDcIdeal.τ) (Cert.QUpDcIdeal.main (F := Ideal))) ⟨m, fun _ => 0, g⟩ (fun r => (∀ c : Dev Cert.QUpDcIdeal.nD,
      r.2.mem ((c.tc : Thread Cert.QUpDcIdeal.nD Cert.QUpDcIdeal.τ).loc Cert.QUpDcIdeal.main_arg0) = m ((c.tc : Thread Cert.QUpDcIdeal.nD Cert.QUpDcIdeal.τ).loc Cert.QUpDcIdeal.main_arg0)
      ∧ r.2.mem ((c.tc : Thread Cert.QUpDcIdeal.nD Cert.QUpDcIdeal.τ).loc Cert.QUpDcIdeal.main_arg1) = m ((c.tc : Thread Cert.QUpDcIdeal.nD Cert.QUpDcIdeal.τ).loc Cert.QUpDcIdeal.main_arg1)
      ∧ r.2.mem ((c.tc : Thread Cert.QUpDcIdeal.nD Cert.QUpDcIdeal.τ).loc Cert.QUpDcIdeal.main_arg2) = m ((c.tc : Thread Cert.QUpDcIdeal.nD Cert.QUpDcIdeal.τ).loc Cert.QUpDcIdeal.main_arg2))
      ∧ r.2.sem = fun _ => 0)

def quiescent_QUpDcReferenceIdeal [hQUpDcReferenceIdeal : Cert.QUpDcReferenceIdeal.Facts] : Prop :=
  ∀ (m : (ℓ : Loc Cert.QUpDcReferenceIdeal.nD Cert.QUpDcReferenceIdeal.τ Cert.QUpDcReferenceIdeal.sig) → Buf (Elt Ideal) ℓ) (g : Dev Cert.QUpDcReferenceIdeal.nD → PrngReg), Pre_QUpDcReferenceIdeal m →
    θ_run (Cert.QUpDcReferenceIdeal.defs (F := Ideal)) (onTc (τ := Cert.QUpDcReferenceIdeal.τ) (Cert.QUpDcReferenceIdeal.main (F := Ideal))) ⟨m, fun _ => 0, g⟩ (fun r => (∀ c : Dev Cert.QUpDcReferenceIdeal.nD,
      r.2.mem ((c.tc : Thread Cert.QUpDcReferenceIdeal.nD Cert.QUpDcReferenceIdeal.τ).loc Cert.QUpDcReferenceIdeal.main_arg0) = m ((c.tc : Thread Cert.QUpDcReferenceIdeal.nD Cert.QUpDcReferenceIdeal.τ).loc Cert.QUpDcReferenceIdeal.main_arg0)
      ∧ r.2.mem ((c.tc : Thread Cert.QUpDcReferenceIdeal.nD Cert.QUpDcReferenceIdeal.τ).loc Cert.QUpDcReferenceIdeal.main_arg1) = m ((c.tc : Thread Cert.QUpDcReferenceIdeal.nD Cert.QUpDcReferenceIdeal.τ).loc Cert.QUpDcReferenceIdeal.main_arg1)
      ∧ r.2.mem ((c.tc : Thread Cert.QUpDcReferenceIdeal.nD Cert.QUpDcReferenceIdeal.τ).loc Cert.QUpDcReferenceIdeal.main_arg2) = m ((c.tc : Thread Cert.QUpDcReferenceIdeal.nD Cert.QUpDcReferenceIdeal.τ).loc Cert.QUpDcReferenceIdeal.main_arg2))
      ∧ r.2.sem = fun _ => 0)

def quiescent_QUpDw [hQUpDw : Cert.QUpDw.Facts] : Prop :=
  ∀ (m : (ℓ : Loc Cert.QUpDw.nD Cert.QUpDw.τ Cert.QUpDw.sig) → Buf (Elt Bits) ℓ) (g : Dev Cert.QUpDw.nD → PrngReg), Pre_QUpDw m →
    θ_run (Cert.QUpDw.defs (F := Bits)) (onTc (τ := Cert.QUpDw.τ) (Cert.QUpDw.main (F := Bits))) ⟨m, fun _ => 0, g⟩ (fun r => (∀ c : Dev Cert.QUpDw.nD,
      r.2.mem ((c.tc : Thread Cert.QUpDw.nD Cert.QUpDw.τ).loc Cert.QUpDw.main_arg0) = m ((c.tc : Thread Cert.QUpDw.nD Cert.QUpDw.τ).loc Cert.QUpDw.main_arg0)
      ∧ r.2.mem ((c.tc : Thread Cert.QUpDw.nD Cert.QUpDw.τ).loc Cert.QUpDw.main_arg1) = m ((c.tc : Thread Cert.QUpDw.nD Cert.QUpDw.τ).loc Cert.QUpDw.main_arg1)
      ∧ r.2.mem ((c.tc : Thread Cert.QUpDw.nD Cert.QUpDw.τ).loc Cert.QUpDw.main_arg2) = m ((c.tc : Thread Cert.QUpDw.nD Cert.QUpDw.τ).loc Cert.QUpDw.main_arg2))
      ∧ r.2.sem = fun _ => 0)

def quiescent_QUpDwIdeal [hQUpDwIdeal : Cert.QUpDwIdeal.Facts] : Prop :=
  ∀ (m : (ℓ : Loc Cert.QUpDwIdeal.nD Cert.QUpDwIdeal.τ Cert.QUpDwIdeal.sig) → Buf (Elt Ideal) ℓ) (g : Dev Cert.QUpDwIdeal.nD → PrngReg), Pre_QUpDwIdeal m →
    θ_run (Cert.QUpDwIdeal.defs (F := Ideal)) (onTc (τ := Cert.QUpDwIdeal.τ) (Cert.QUpDwIdeal.main (F := Ideal))) ⟨m, fun _ => 0, g⟩ (fun r => (∀ c : Dev Cert.QUpDwIdeal.nD,
      r.2.mem ((c.tc : Thread Cert.QUpDwIdeal.nD Cert.QUpDwIdeal.τ).loc Cert.QUpDwIdeal.main_arg0) = m ((c.tc : Thread Cert.QUpDwIdeal.nD Cert.QUpDwIdeal.τ).loc Cert.QUpDwIdeal.main_arg0)
      ∧ r.2.mem ((c.tc : Thread Cert.QUpDwIdeal.nD Cert.QUpDwIdeal.τ).loc Cert.QUpDwIdeal.main_arg1) = m ((c.tc : Thread Cert.QUpDwIdeal.nD Cert.QUpDwIdeal.τ).loc Cert.QUpDwIdeal.main_arg1)
      ∧ r.2.mem ((c.tc : Thread Cert.QUpDwIdeal.nD Cert.QUpDwIdeal.τ).loc Cert.QUpDwIdeal.main_arg2) = m ((c.tc : Thread Cert.QUpDwIdeal.nD Cert.QUpDwIdeal.τ).loc Cert.QUpDwIdeal.main_arg2))
      ∧ r.2.sem = fun _ => 0)

def quiescent_QUpDwReferenceIdeal [hQUpDwReferenceIdeal : Cert.QUpDwReferenceIdeal.Facts] : Prop :=
  ∀ (m : (ℓ : Loc Cert.QUpDwReferenceIdeal.nD Cert.QUpDwReferenceIdeal.τ Cert.QUpDwReferenceIdeal.sig) → Buf (Elt Ideal) ℓ) (g : Dev Cert.QUpDwReferenceIdeal.nD → PrngReg), Pre_QUpDwReferenceIdeal m →
    θ_run (Cert.QUpDwReferenceIdeal.defs (F := Ideal)) (onTc (τ := Cert.QUpDwReferenceIdeal.τ) (Cert.QUpDwReferenceIdeal.main (F := Ideal))) ⟨m, fun _ => 0, g⟩ (fun r => (∀ c : Dev Cert.QUpDwReferenceIdeal.nD,
      r.2.mem ((c.tc : Thread Cert.QUpDwReferenceIdeal.nD Cert.QUpDwReferenceIdeal.τ).loc Cert.QUpDwReferenceIdeal.main_arg0) = m ((c.tc : Thread Cert.QUpDwReferenceIdeal.nD Cert.QUpDwReferenceIdeal.τ).loc Cert.QUpDwReferenceIdeal.main_arg0)
      ∧ r.2.mem ((c.tc : Thread Cert.QUpDwReferenceIdeal.nD Cert.QUpDwReferenceIdeal.τ).loc Cert.QUpDwReferenceIdeal.main_arg1) = m ((c.tc : Thread Cert.QUpDwReferenceIdeal.nD Cert.QUpDwReferenceIdeal.τ).loc Cert.QUpDwReferenceIdeal.main_arg1)
      ∧ r.2.mem ((c.tc : Thread Cert.QUpDwReferenceIdeal.nD Cert.QUpDwReferenceIdeal.τ).loc Cert.QUpDwReferenceIdeal.main_arg2) = m ((c.tc : Thread Cert.QUpDwReferenceIdeal.nD Cert.QUpDwReferenceIdeal.τ).loc Cert.QUpDwReferenceIdeal.main_arg2))
      ∧ r.2.sem = fun _ => 0)

def quiescent_KvDown [hKvDown : Cert.KvDown.Facts] : Prop :=
  ∀ (m : (ℓ : Loc Cert.KvDown.nD Cert.KvDown.τ Cert.KvDown.sig) → Buf (Elt Bits) ℓ) (g : Dev Cert.KvDown.nD → PrngReg), Pre_KvDown m →
    θ_run (Cert.KvDown.defs (F := Bits)) (onTc (τ := Cert.KvDown.τ) (Cert.KvDown.main (F := Bits))) ⟨m, fun _ => 0, g⟩ (fun r => (∀ c : Dev Cert.KvDown.nD,
      r.2.mem ((c.tc : Thread Cert.KvDown.nD Cert.KvDown.τ).loc Cert.KvDown.main_arg0) = m ((c.tc : Thread Cert.KvDown.nD Cert.KvDown.τ).loc Cert.KvDown.main_arg0)
      ∧ r.2.mem ((c.tc : Thread Cert.KvDown.nD Cert.KvDown.τ).loc Cert.KvDown.main_arg1) = m ((c.tc : Thread Cert.KvDown.nD Cert.KvDown.τ).loc Cert.KvDown.main_arg1))
      ∧ r.2.sem = fun _ => 0)

def quiescent_KvDownIdeal [hKvDownIdeal : Cert.KvDownIdeal.Facts] : Prop :=
  ∀ (m : (ℓ : Loc Cert.KvDownIdeal.nD Cert.KvDownIdeal.τ Cert.KvDownIdeal.sig) → Buf (Elt Ideal) ℓ) (g : Dev Cert.KvDownIdeal.nD → PrngReg), Pre_KvDownIdeal m →
    θ_run (Cert.KvDownIdeal.defs (F := Ideal)) (onTc (τ := Cert.KvDownIdeal.τ) (Cert.KvDownIdeal.main (F := Ideal))) ⟨m, fun _ => 0, g⟩ (fun r => (∀ c : Dev Cert.KvDownIdeal.nD,
      r.2.mem ((c.tc : Thread Cert.KvDownIdeal.nD Cert.KvDownIdeal.τ).loc Cert.KvDownIdeal.main_arg0) = m ((c.tc : Thread Cert.KvDownIdeal.nD Cert.KvDownIdeal.τ).loc Cert.KvDownIdeal.main_arg0)
      ∧ r.2.mem ((c.tc : Thread Cert.KvDownIdeal.nD Cert.KvDownIdeal.τ).loc Cert.KvDownIdeal.main_arg1) = m ((c.tc : Thread Cert.KvDownIdeal.nD Cert.KvDownIdeal.τ).loc Cert.KvDownIdeal.main_arg1))
      ∧ r.2.sem = fun _ => 0)

def quiescent_KvDownReferenceIdeal [hKvDownReferenceIdeal : Cert.KvDownReferenceIdeal.Facts] : Prop :=
  ∀ (m : (ℓ : Loc Cert.KvDownReferenceIdeal.nD Cert.KvDownReferenceIdeal.τ Cert.KvDownReferenceIdeal.sig) → Buf (Elt Ideal) ℓ) (g : Dev Cert.KvDownReferenceIdeal.nD → PrngReg), Pre_KvDownReferenceIdeal m →
    θ_run (Cert.KvDownReferenceIdeal.defs (F := Ideal)) (onTc (τ := Cert.KvDownReferenceIdeal.τ) (Cert.KvDownReferenceIdeal.main (F := Ideal))) ⟨m, fun _ => 0, g⟩ (fun r => (∀ c : Dev Cert.KvDownReferenceIdeal.nD,
      r.2.mem ((c.tc : Thread Cert.KvDownReferenceIdeal.nD Cert.KvDownReferenceIdeal.τ).loc Cert.KvDownReferenceIdeal.main_arg0) = m ((c.tc : Thread Cert.KvDownReferenceIdeal.nD Cert.KvDownReferenceIdeal.τ).loc Cert.KvDownReferenceIdeal.main_arg0)
      ∧ r.2.mem ((c.tc : Thread Cert.KvDownReferenceIdeal.nD Cert.KvDownReferenceIdeal.τ).loc Cert.KvDownReferenceIdeal.main_arg1) = m ((c.tc : Thread Cert.KvDownReferenceIdeal.nD Cert.KvDownReferenceIdeal.τ).loc Cert.KvDownReferenceIdeal.main_arg1))
      ∧ r.2.sem = fun _ => 0)

def quiescent_KvDownDh [hKvDownDh : Cert.KvDownDh.Facts] : Prop :=
  ∀ (m : (ℓ : Loc Cert.KvDownDh.nD Cert.KvDownDh.τ Cert.KvDownDh.sig) → Buf (Elt Bits) ℓ) (g : Dev Cert.KvDownDh.nD → PrngReg), Pre_KvDownDh m →
    θ_run (Cert.KvDownDh.defs (F := Bits)) (onTc (τ := Cert.KvDownDh.τ) (Cert.KvDownDh.main (F := Bits))) ⟨m, fun _ => 0, g⟩ (fun r => (∀ c : Dev Cert.KvDownDh.nD,
      r.2.mem ((c.tc : Thread Cert.KvDownDh.nD Cert.KvDownDh.τ).loc Cert.KvDownDh.main_arg0) = m ((c.tc : Thread Cert.KvDownDh.nD Cert.KvDownDh.τ).loc Cert.KvDownDh.main_arg0)
      ∧ r.2.mem ((c.tc : Thread Cert.KvDownDh.nD Cert.KvDownDh.τ).loc Cert.KvDownDh.main_arg1) = m ((c.tc : Thread Cert.KvDownDh.nD Cert.KvDownDh.τ).loc Cert.KvDownDh.main_arg1)
      ∧ r.2.mem ((c.tc : Thread Cert.KvDownDh.nD Cert.KvDownDh.τ).loc Cert.KvDownDh.main_arg2) = m ((c.tc : Thread Cert.KvDownDh.nD Cert.KvDownDh.τ).loc Cert.KvDownDh.main_arg2))
      ∧ r.2.sem = fun _ => 0)

def quiescent_KvDownDhIdeal [hKvDownDhIdeal : Cert.KvDownDhIdeal.Facts] : Prop :=
  ∀ (m : (ℓ : Loc Cert.KvDownDhIdeal.nD Cert.KvDownDhIdeal.τ Cert.KvDownDhIdeal.sig) → Buf (Elt Ideal) ℓ) (g : Dev Cert.KvDownDhIdeal.nD → PrngReg), Pre_KvDownDhIdeal m →
    θ_run (Cert.KvDownDhIdeal.defs (F := Ideal)) (onTc (τ := Cert.KvDownDhIdeal.τ) (Cert.KvDownDhIdeal.main (F := Ideal))) ⟨m, fun _ => 0, g⟩ (fun r => (∀ c : Dev Cert.KvDownDhIdeal.nD,
      r.2.mem ((c.tc : Thread Cert.KvDownDhIdeal.nD Cert.KvDownDhIdeal.τ).loc Cert.KvDownDhIdeal.main_arg0) = m ((c.tc : Thread Cert.KvDownDhIdeal.nD Cert.KvDownDhIdeal.τ).loc Cert.KvDownDhIdeal.main_arg0)
      ∧ r.2.mem ((c.tc : Thread Cert.KvDownDhIdeal.nD Cert.KvDownDhIdeal.τ).loc Cert.KvDownDhIdeal.main_arg1) = m ((c.tc : Thread Cert.KvDownDhIdeal.nD Cert.KvDownDhIdeal.τ).loc Cert.KvDownDhIdeal.main_arg1)
      ∧ r.2.mem ((c.tc : Thread Cert.KvDownDhIdeal.nD Cert.KvDownDhIdeal.τ).loc Cert.KvDownDhIdeal.main_arg2) = m ((c.tc : Thread Cert.KvDownDhIdeal.nD Cert.KvDownDhIdeal.τ).loc Cert.KvDownDhIdeal.main_arg2))
      ∧ r.2.sem = fun _ => 0)

def quiescent_KvDownDhReferenceIdeal [hKvDownDhReferenceIdeal : Cert.KvDownDhReferenceIdeal.Facts] : Prop :=
  ∀ (m : (ℓ : Loc Cert.KvDownDhReferenceIdeal.nD Cert.KvDownDhReferenceIdeal.τ Cert.KvDownDhReferenceIdeal.sig) → Buf (Elt Ideal) ℓ) (g : Dev Cert.KvDownDhReferenceIdeal.nD → PrngReg), Pre_KvDownDhReferenceIdeal m →
    θ_run (Cert.KvDownDhReferenceIdeal.defs (F := Ideal)) (onTc (τ := Cert.KvDownDhReferenceIdeal.τ) (Cert.KvDownDhReferenceIdeal.main (F := Ideal))) ⟨m, fun _ => 0, g⟩ (fun r => (∀ c : Dev Cert.KvDownDhReferenceIdeal.nD,
      r.2.mem ((c.tc : Thread Cert.KvDownDhReferenceIdeal.nD Cert.KvDownDhReferenceIdeal.τ).loc Cert.KvDownDhReferenceIdeal.main_arg0) = m ((c.tc : Thread Cert.KvDownDhReferenceIdeal.nD Cert.KvDownDhReferenceIdeal.τ).loc Cert.KvDownDhReferenceIdeal.main_arg0)
      ∧ r.2.mem ((c.tc : Thread Cert.KvDownDhReferenceIdeal.nD Cert.KvDownDhReferenceIdeal.τ).loc Cert.KvDownDhReferenceIdeal.main_arg1) = m ((c.tc : Thread Cert.KvDownDhReferenceIdeal.nD Cert.KvDownDhReferenceIdeal.τ).loc Cert.KvDownDhReferenceIdeal.main_arg1)
      ∧ r.2.mem ((c.tc : Thread Cert.KvDownDhReferenceIdeal.nD Cert.KvDownDhReferenceIdeal.τ).loc Cert.KvDownDhReferenceIdeal.main_arg2) = m ((c.tc : Thread Cert.KvDownDhReferenceIdeal.nD Cert.KvDownDhReferenceIdeal.τ).loc Cert.KvDownDhReferenceIdeal.main_arg2))
      ∧ r.2.sem = fun _ => 0)

def quiescent_KvDownDw [hKvDownDw : Cert.KvDownDw.Facts] : Prop :=
  ∀ (m : (ℓ : Loc Cert.KvDownDw.nD Cert.KvDownDw.τ Cert.KvDownDw.sig) → Buf (Elt Bits) ℓ) (g : Dev Cert.KvDownDw.nD → PrngReg), Pre_KvDownDw m →
    θ_run (Cert.KvDownDw.defs (F := Bits)) (onTc (τ := Cert.KvDownDw.τ) (Cert.KvDownDw.main (F := Bits))) ⟨m, fun _ => 0, g⟩ (fun r => (∀ c : Dev Cert.KvDownDw.nD,
      r.2.mem ((c.tc : Thread Cert.KvDownDw.nD Cert.KvDownDw.τ).loc Cert.KvDownDw.main_arg0) = m ((c.tc : Thread Cert.KvDownDw.nD Cert.KvDownDw.τ).loc Cert.KvDownDw.main_arg0)
      ∧ r.2.mem ((c.tc : Thread Cert.KvDownDw.nD Cert.KvDownDw.τ).loc Cert.KvDownDw.main_arg1) = m ((c.tc : Thread Cert.KvDownDw.nD Cert.KvDownDw.τ).loc Cert.KvDownDw.main_arg1)
      ∧ r.2.mem ((c.tc : Thread Cert.KvDownDw.nD Cert.KvDownDw.τ).loc Cert.KvDownDw.main_arg2) = m ((c.tc : Thread Cert.KvDownDw.nD Cert.KvDownDw.τ).loc Cert.KvDownDw.main_arg2))
      ∧ r.2.sem = fun _ => 0)

def quiescent_KvDownDwIdeal [hKvDownDwIdeal : Cert.KvDownDwIdeal.Facts] : Prop :=
  ∀ (m : (ℓ : Loc Cert.KvDownDwIdeal.nD Cert.KvDownDwIdeal.τ Cert.KvDownDwIdeal.sig) → Buf (Elt Ideal) ℓ) (g : Dev Cert.KvDownDwIdeal.nD → PrngReg), Pre_KvDownDwIdeal m →
    θ_run (Cert.KvDownDwIdeal.defs (F := Ideal)) (onTc (τ := Cert.KvDownDwIdeal.τ) (Cert.KvDownDwIdeal.main (F := Ideal))) ⟨m, fun _ => 0, g⟩ (fun r => (∀ c : Dev Cert.KvDownDwIdeal.nD,
      r.2.mem ((c.tc : Thread Cert.KvDownDwIdeal.nD Cert.KvDownDwIdeal.τ).loc Cert.KvDownDwIdeal.main_arg0) = m ((c.tc : Thread Cert.KvDownDwIdeal.nD Cert.KvDownDwIdeal.τ).loc Cert.KvDownDwIdeal.main_arg0)
      ∧ r.2.mem ((c.tc : Thread Cert.KvDownDwIdeal.nD Cert.KvDownDwIdeal.τ).loc Cert.KvDownDwIdeal.main_arg1) = m ((c.tc : Thread Cert.KvDownDwIdeal.nD Cert.KvDownDwIdeal.τ).loc Cert.KvDownDwIdeal.main_arg1)
      ∧ r.2.mem ((c.tc : Thread Cert.KvDownDwIdeal.nD Cert.KvDownDwIdeal.τ).loc Cert.KvDownDwIdeal.main_arg2) = m ((c.tc : Thread Cert.KvDownDwIdeal.nD Cert.KvDownDwIdeal.τ).loc Cert.KvDownDwIdeal.main_arg2))
      ∧ r.2.sem = fun _ => 0)

def quiescent_KvDownDwReferenceIdeal [hKvDownDwReferenceIdeal : Cert.KvDownDwReferenceIdeal.Facts] : Prop :=
  ∀ (m : (ℓ : Loc Cert.KvDownDwReferenceIdeal.nD Cert.KvDownDwReferenceIdeal.τ Cert.KvDownDwReferenceIdeal.sig) → Buf (Elt Ideal) ℓ) (g : Dev Cert.KvDownDwReferenceIdeal.nD → PrngReg), Pre_KvDownDwReferenceIdeal m →
    θ_run (Cert.KvDownDwReferenceIdeal.defs (F := Ideal)) (onTc (τ := Cert.KvDownDwReferenceIdeal.τ) (Cert.KvDownDwReferenceIdeal.main (F := Ideal))) ⟨m, fun _ => 0, g⟩ (fun r => (∀ c : Dev Cert.KvDownDwReferenceIdeal.nD,
      r.2.mem ((c.tc : Thread Cert.KvDownDwReferenceIdeal.nD Cert.KvDownDwReferenceIdeal.τ).loc Cert.KvDownDwReferenceIdeal.main_arg0) = m ((c.tc : Thread Cert.KvDownDwReferenceIdeal.nD Cert.KvDownDwReferenceIdeal.τ).loc Cert.KvDownDwReferenceIdeal.main_arg0)
      ∧ r.2.mem ((c.tc : Thread Cert.KvDownDwReferenceIdeal.nD Cert.KvDownDwReferenceIdeal.τ).loc Cert.KvDownDwReferenceIdeal.main_arg1) = m ((c.tc : Thread Cert.KvDownDwReferenceIdeal.nD Cert.KvDownDwReferenceIdeal.τ).loc Cert.KvDownDwReferenceIdeal.main_arg1)
      ∧ r.2.mem ((c.tc : Thread Cert.KvDownDwReferenceIdeal.nD Cert.KvDownDwReferenceIdeal.τ).loc Cert.KvDownDwReferenceIdeal.main_arg2) = m ((c.tc : Thread Cert.KvDownDwReferenceIdeal.nD Cert.KvDownDwReferenceIdeal.τ).loc Cert.KvDownDwReferenceIdeal.main_arg2))
      ∧ r.2.sem = fun _ => 0)

def quiescent_KUp [hKUp : Cert.KUp.Facts] : Prop :=
  ∀ (m : (ℓ : Loc Cert.KUp.nD Cert.KUp.τ Cert.KUp.sig) → Buf (Elt Bits) ℓ) (g : Dev Cert.KUp.nD → PrngReg), Pre_KUp m →
    θ_run (Cert.KUp.defs (F := Bits)) (onTc (τ := Cert.KUp.τ) (Cert.KUp.main (F := Bits))) ⟨m, fun _ => 0, g⟩ (fun r => (∀ c : Dev Cert.KUp.nD,
      r.2.mem ((c.tc : Thread Cert.KUp.nD Cert.KUp.τ).loc Cert.KUp.main_arg0) = m ((c.tc : Thread Cert.KUp.nD Cert.KUp.τ).loc Cert.KUp.main_arg0)
      ∧ r.2.mem ((c.tc : Thread Cert.KUp.nD Cert.KUp.τ).loc Cert.KUp.main_arg1) = m ((c.tc : Thread Cert.KUp.nD Cert.KUp.τ).loc Cert.KUp.main_arg1))
      ∧ r.2.sem = fun _ => 0)

def quiescent_KUpIdeal [hKUpIdeal : Cert.KUpIdeal.Facts] : Prop :=
  ∀ (m : (ℓ : Loc Cert.KUpIdeal.nD Cert.KUpIdeal.τ Cert.KUpIdeal.sig) → Buf (Elt Ideal) ℓ) (g : Dev Cert.KUpIdeal.nD → PrngReg), Pre_KUpIdeal m →
    θ_run (Cert.KUpIdeal.defs (F := Ideal)) (onTc (τ := Cert.KUpIdeal.τ) (Cert.KUpIdeal.main (F := Ideal))) ⟨m, fun _ => 0, g⟩ (fun r => (∀ c : Dev Cert.KUpIdeal.nD,
      r.2.mem ((c.tc : Thread Cert.KUpIdeal.nD Cert.KUpIdeal.τ).loc Cert.KUpIdeal.main_arg0) = m ((c.tc : Thread Cert.KUpIdeal.nD Cert.KUpIdeal.τ).loc Cert.KUpIdeal.main_arg0)
      ∧ r.2.mem ((c.tc : Thread Cert.KUpIdeal.nD Cert.KUpIdeal.τ).loc Cert.KUpIdeal.main_arg1) = m ((c.tc : Thread Cert.KUpIdeal.nD Cert.KUpIdeal.τ).loc Cert.KUpIdeal.main_arg1))
      ∧ r.2.sem = fun _ => 0)

def quiescent_KUpReferenceIdeal [hKUpReferenceIdeal : Cert.KUpReferenceIdeal.Facts] : Prop :=
  ∀ (m : (ℓ : Loc Cert.KUpReferenceIdeal.nD Cert.KUpReferenceIdeal.τ Cert.KUpReferenceIdeal.sig) → Buf (Elt Ideal) ℓ) (g : Dev Cert.KUpReferenceIdeal.nD → PrngReg), Pre_KUpReferenceIdeal m →
    θ_run (Cert.KUpReferenceIdeal.defs (F := Ideal)) (onTc (τ := Cert.KUpReferenceIdeal.τ) (Cert.KUpReferenceIdeal.main (F := Ideal))) ⟨m, fun _ => 0, g⟩ (fun r => (∀ c : Dev Cert.KUpReferenceIdeal.nD,
      r.2.mem ((c.tc : Thread Cert.KUpReferenceIdeal.nD Cert.KUpReferenceIdeal.τ).loc Cert.KUpReferenceIdeal.main_arg0) = m ((c.tc : Thread Cert.KUpReferenceIdeal.nD Cert.KUpReferenceIdeal.τ).loc Cert.KUpReferenceIdeal.main_arg0)
      ∧ r.2.mem ((c.tc : Thread Cert.KUpReferenceIdeal.nD Cert.KUpReferenceIdeal.τ).loc Cert.KUpReferenceIdeal.main_arg1) = m ((c.tc : Thread Cert.KUpReferenceIdeal.nD Cert.KUpReferenceIdeal.τ).loc Cert.KUpReferenceIdeal.main_arg1))
      ∧ r.2.sem = fun _ => 0)

def quiescent_KUpDc [hKUpDc : Cert.KUpDc.Facts] : Prop :=
  ∀ (m : (ℓ : Loc Cert.KUpDc.nD Cert.KUpDc.τ Cert.KUpDc.sig) → Buf (Elt Bits) ℓ) (g : Dev Cert.KUpDc.nD → PrngReg), Pre_KUpDc m →
    θ_run (Cert.KUpDc.defs (F := Bits)) (onTc (τ := Cert.KUpDc.τ) (Cert.KUpDc.main (F := Bits))) ⟨m, fun _ => 0, g⟩ (fun r => (∀ c : Dev Cert.KUpDc.nD,
      r.2.mem ((c.tc : Thread Cert.KUpDc.nD Cert.KUpDc.τ).loc Cert.KUpDc.main_arg0) = m ((c.tc : Thread Cert.KUpDc.nD Cert.KUpDc.τ).loc Cert.KUpDc.main_arg0)
      ∧ r.2.mem ((c.tc : Thread Cert.KUpDc.nD Cert.KUpDc.τ).loc Cert.KUpDc.main_arg1) = m ((c.tc : Thread Cert.KUpDc.nD Cert.KUpDc.τ).loc Cert.KUpDc.main_arg1)
      ∧ r.2.mem ((c.tc : Thread Cert.KUpDc.nD Cert.KUpDc.τ).loc Cert.KUpDc.main_arg2) = m ((c.tc : Thread Cert.KUpDc.nD Cert.KUpDc.τ).loc Cert.KUpDc.main_arg2)
      ∧ r.2.mem ((c.tc : Thread Cert.KUpDc.nD Cert.KUpDc.τ).loc Cert.KUpDc.main_arg3) = m ((c.tc : Thread Cert.KUpDc.nD Cert.KUpDc.τ).loc Cert.KUpDc.main_arg3))
      ∧ r.2.sem = fun _ => 0)

def quiescent_KUpDcIdeal [hKUpDcIdeal : Cert.KUpDcIdeal.Facts] : Prop :=
  ∀ (m : (ℓ : Loc Cert.KUpDcIdeal.nD Cert.KUpDcIdeal.τ Cert.KUpDcIdeal.sig) → Buf (Elt Ideal) ℓ) (g : Dev Cert.KUpDcIdeal.nD → PrngReg), Pre_KUpDcIdeal m →
    θ_run (Cert.KUpDcIdeal.defs (F := Ideal)) (onTc (τ := Cert.KUpDcIdeal.τ) (Cert.KUpDcIdeal.main (F := Ideal))) ⟨m, fun _ => 0, g⟩ (fun r => (∀ c : Dev Cert.KUpDcIdeal.nD,
      r.2.mem ((c.tc : Thread Cert.KUpDcIdeal.nD Cert.KUpDcIdeal.τ).loc Cert.KUpDcIdeal.main_arg0) = m ((c.tc : Thread Cert.KUpDcIdeal.nD Cert.KUpDcIdeal.τ).loc Cert.KUpDcIdeal.main_arg0)
      ∧ r.2.mem ((c.tc : Thread Cert.KUpDcIdeal.nD Cert.KUpDcIdeal.τ).loc Cert.KUpDcIdeal.main_arg1) = m ((c.tc : Thread Cert.KUpDcIdeal.nD Cert.KUpDcIdeal.τ).loc Cert.KUpDcIdeal.main_arg1)
      ∧ r.2.mem ((c.tc : Thread Cert.KUpDcIdeal.nD Cert.KUpDcIdeal.τ).loc Cert.KUpDcIdeal.main_arg2) = m ((c.tc : Thread Cert.KUpDcIdeal.nD Cert.KUpDcIdeal.τ).loc Cert.KUpDcIdeal.main_arg2)
      ∧ r.2.mem ((c.tc : Thread Cert.KUpDcIdeal.nD Cert.KUpDcIdeal.τ).loc Cert.KUpDcIdeal.main_arg3) = m ((c.tc : Thread Cert.KUpDcIdeal.nD Cert.KUpDcIdeal.τ).loc Cert.KUpDcIdeal.main_arg3))
      ∧ r.2.sem = fun _ => 0)

def quiescent_KUpDcReferenceIdeal [hKUpDcReferenceIdeal : Cert.KUpDcReferenceIdeal.Facts] : Prop :=
  ∀ (m : (ℓ : Loc Cert.KUpDcReferenceIdeal.nD Cert.KUpDcReferenceIdeal.τ Cert.KUpDcReferenceIdeal.sig) → Buf (Elt Ideal) ℓ) (g : Dev Cert.KUpDcReferenceIdeal.nD → PrngReg), Pre_KUpDcReferenceIdeal m →
    θ_run (Cert.KUpDcReferenceIdeal.defs (F := Ideal)) (onTc (τ := Cert.KUpDcReferenceIdeal.τ) (Cert.KUpDcReferenceIdeal.main (F := Ideal))) ⟨m, fun _ => 0, g⟩ (fun r => (∀ c : Dev Cert.KUpDcReferenceIdeal.nD,
      r.2.mem ((c.tc : Thread Cert.KUpDcReferenceIdeal.nD Cert.KUpDcReferenceIdeal.τ).loc Cert.KUpDcReferenceIdeal.main_arg0) = m ((c.tc : Thread Cert.KUpDcReferenceIdeal.nD Cert.KUpDcReferenceIdeal.τ).loc Cert.KUpDcReferenceIdeal.main_arg0)
      ∧ r.2.mem ((c.tc : Thread Cert.KUpDcReferenceIdeal.nD Cert.KUpDcReferenceIdeal.τ).loc Cert.KUpDcReferenceIdeal.main_arg1) = m ((c.tc : Thread Cert.KUpDcReferenceIdeal.nD Cert.KUpDcReferenceIdeal.τ).loc Cert.KUpDcReferenceIdeal.main_arg1)
      ∧ r.2.mem ((c.tc : Thread Cert.KUpDcReferenceIdeal.nD Cert.KUpDcReferenceIdeal.τ).loc Cert.KUpDcReferenceIdeal.main_arg2) = m ((c.tc : Thread Cert.KUpDcReferenceIdeal.nD Cert.KUpDcReferenceIdeal.τ).loc Cert.KUpDcReferenceIdeal.main_arg2)
      ∧ r.2.mem ((c.tc : Thread Cert.KUpDcReferenceIdeal.nD Cert.KUpDcReferenceIdeal.τ).loc Cert.KUpDcReferenceIdeal.main_arg3) = m ((c.tc : Thread Cert.KUpDcReferenceIdeal.nD Cert.KUpDcReferenceIdeal.τ).loc Cert.KUpDcReferenceIdeal.main_arg3))
      ∧ r.2.sem = fun _ => 0)

def quiescent_KUpDw [hKUpDw : Cert.KUpDw.Facts] : Prop :=
  ∀ (m : (ℓ : Loc Cert.KUpDw.nD Cert.KUpDw.τ Cert.KUpDw.sig) → Buf (Elt Bits) ℓ) (g : Dev Cert.KUpDw.nD → PrngReg), Pre_KUpDw m →
    θ_run (Cert.KUpDw.defs (F := Bits)) (onTc (τ := Cert.KUpDw.τ) (Cert.KUpDw.main (F := Bits))) ⟨m, fun _ => 0, g⟩ (fun r => (∀ c : Dev Cert.KUpDw.nD,
      r.2.mem ((c.tc : Thread Cert.KUpDw.nD Cert.KUpDw.τ).loc Cert.KUpDw.main_arg0) = m ((c.tc : Thread Cert.KUpDw.nD Cert.KUpDw.τ).loc Cert.KUpDw.main_arg0)
      ∧ r.2.mem ((c.tc : Thread Cert.KUpDw.nD Cert.KUpDw.τ).loc Cert.KUpDw.main_arg1) = m ((c.tc : Thread Cert.KUpDw.nD Cert.KUpDw.τ).loc Cert.KUpDw.main_arg1)
      ∧ r.2.mem ((c.tc : Thread Cert.KUpDw.nD Cert.KUpDw.τ).loc Cert.KUpDw.main_arg2) = m ((c.tc : Thread Cert.KUpDw.nD Cert.KUpDw.τ).loc Cert.KUpDw.main_arg2))
      ∧ r.2.sem = fun _ => 0)

def quiescent_KUpDwIdeal [hKUpDwIdeal : Cert.KUpDwIdeal.Facts] : Prop :=
  ∀ (m : (ℓ : Loc Cert.KUpDwIdeal.nD Cert.KUpDwIdeal.τ Cert.KUpDwIdeal.sig) → Buf (Elt Ideal) ℓ) (g : Dev Cert.KUpDwIdeal.nD → PrngReg), Pre_KUpDwIdeal m →
    θ_run (Cert.KUpDwIdeal.defs (F := Ideal)) (onTc (τ := Cert.KUpDwIdeal.τ) (Cert.KUpDwIdeal.main (F := Ideal))) ⟨m, fun _ => 0, g⟩ (fun r => (∀ c : Dev Cert.KUpDwIdeal.nD,
      r.2.mem ((c.tc : Thread Cert.KUpDwIdeal.nD Cert.KUpDwIdeal.τ).loc Cert.KUpDwIdeal.main_arg0) = m ((c.tc : Thread Cert.KUpDwIdeal.nD Cert.KUpDwIdeal.τ).loc Cert.KUpDwIdeal.main_arg0)
      ∧ r.2.mem ((c.tc : Thread Cert.KUpDwIdeal.nD Cert.KUpDwIdeal.τ).loc Cert.KUpDwIdeal.main_arg1) = m ((c.tc : Thread Cert.KUpDwIdeal.nD Cert.KUpDwIdeal.τ).loc Cert.KUpDwIdeal.main_arg1)
      ∧ r.2.mem ((c.tc : Thread Cert.KUpDwIdeal.nD Cert.KUpDwIdeal.τ).loc Cert.KUpDwIdeal.main_arg2) = m ((c.tc : Thread Cert.KUpDwIdeal.nD Cert.KUpDwIdeal.τ).loc Cert.KUpDwIdeal.main_arg2))
      ∧ r.2.sem = fun _ => 0)

def quiescent_KUpDwReferenceIdeal [hKUpDwReferenceIdeal : Cert.KUpDwReferenceIdeal.Facts] : Prop :=
  ∀ (m : (ℓ : Loc Cert.KUpDwReferenceIdeal.nD Cert.KUpDwReferenceIdeal.τ Cert.KUpDwReferenceIdeal.sig) → Buf (Elt Ideal) ℓ) (g : Dev Cert.KUpDwReferenceIdeal.nD → PrngReg), Pre_KUpDwReferenceIdeal m →
    θ_run (Cert.KUpDwReferenceIdeal.defs (F := Ideal)) (onTc (τ := Cert.KUpDwReferenceIdeal.τ) (Cert.KUpDwReferenceIdeal.main (F := Ideal))) ⟨m, fun _ => 0, g⟩ (fun r => (∀ c : Dev Cert.KUpDwReferenceIdeal.nD,
      r.2.mem ((c.tc : Thread Cert.KUpDwReferenceIdeal.nD Cert.KUpDwReferenceIdeal.τ).loc Cert.KUpDwReferenceIdeal.main_arg0) = m ((c.tc : Thread Cert.KUpDwReferenceIdeal.nD Cert.KUpDwReferenceIdeal.τ).loc Cert.KUpDwReferenceIdeal.main_arg0)
      ∧ r.2.mem ((c.tc : Thread Cert.KUpDwReferenceIdeal.nD Cert.KUpDwReferenceIdeal.τ).loc Cert.KUpDwReferenceIdeal.main_arg1) = m ((c.tc : Thread Cert.KUpDwReferenceIdeal.nD Cert.KUpDwReferenceIdeal.τ).loc Cert.KUpDwReferenceIdeal.main_arg1)
      ∧ r.2.mem ((c.tc : Thread Cert.KUpDwReferenceIdeal.nD Cert.KUpDwReferenceIdeal.τ).loc Cert.KUpDwReferenceIdeal.main_arg2) = m ((c.tc : Thread Cert.KUpDwReferenceIdeal.nD Cert.KUpDwReferenceIdeal.τ).loc Cert.KUpDwReferenceIdeal.main_arg2))
      ∧ r.2.sem = fun _ => 0)

def quiescent_VUp [hVUp : Cert.VUp.Facts] : Prop :=
  ∀ (m : (ℓ : Loc Cert.VUp.nD Cert.VUp.τ Cert.VUp.sig) → Buf (Elt Bits) ℓ) (g : Dev Cert.VUp.nD → PrngReg), Pre_VUp m →
    θ_run (Cert.VUp.defs (F := Bits)) (onTc (τ := Cert.VUp.τ) (Cert.VUp.main (F := Bits))) ⟨m, fun _ => 0, g⟩ (fun r => (∀ c : Dev Cert.VUp.nD,
      r.2.mem ((c.tc : Thread Cert.VUp.nD Cert.VUp.τ).loc Cert.VUp.main_arg0) = m ((c.tc : Thread Cert.VUp.nD Cert.VUp.τ).loc Cert.VUp.main_arg0)
      ∧ r.2.mem ((c.tc : Thread Cert.VUp.nD Cert.VUp.τ).loc Cert.VUp.main_arg1) = m ((c.tc : Thread Cert.VUp.nD Cert.VUp.τ).loc Cert.VUp.main_arg1))
      ∧ r.2.sem = fun _ => 0)

def quiescent_VUpIdeal [hVUpIdeal : Cert.VUpIdeal.Facts] : Prop :=
  ∀ (m : (ℓ : Loc Cert.VUpIdeal.nD Cert.VUpIdeal.τ Cert.VUpIdeal.sig) → Buf (Elt Ideal) ℓ) (g : Dev Cert.VUpIdeal.nD → PrngReg), Pre_VUpIdeal m →
    θ_run (Cert.VUpIdeal.defs (F := Ideal)) (onTc (τ := Cert.VUpIdeal.τ) (Cert.VUpIdeal.main (F := Ideal))) ⟨m, fun _ => 0, g⟩ (fun r => (∀ c : Dev Cert.VUpIdeal.nD,
      r.2.mem ((c.tc : Thread Cert.VUpIdeal.nD Cert.VUpIdeal.τ).loc Cert.VUpIdeal.main_arg0) = m ((c.tc : Thread Cert.VUpIdeal.nD Cert.VUpIdeal.τ).loc Cert.VUpIdeal.main_arg0)
      ∧ r.2.mem ((c.tc : Thread Cert.VUpIdeal.nD Cert.VUpIdeal.τ).loc Cert.VUpIdeal.main_arg1) = m ((c.tc : Thread Cert.VUpIdeal.nD Cert.VUpIdeal.τ).loc Cert.VUpIdeal.main_arg1))
      ∧ r.2.sem = fun _ => 0)

def quiescent_VUpReferenceIdeal [hVUpReferenceIdeal : Cert.VUpReferenceIdeal.Facts] : Prop :=
  ∀ (m : (ℓ : Loc Cert.VUpReferenceIdeal.nD Cert.VUpReferenceIdeal.τ Cert.VUpReferenceIdeal.sig) → Buf (Elt Ideal) ℓ) (g : Dev Cert.VUpReferenceIdeal.nD → PrngReg), Pre_VUpReferenceIdeal m →
    θ_run (Cert.VUpReferenceIdeal.defs (F := Ideal)) (onTc (τ := Cert.VUpReferenceIdeal.τ) (Cert.VUpReferenceIdeal.main (F := Ideal))) ⟨m, fun _ => 0, g⟩ (fun r => (∀ c : Dev Cert.VUpReferenceIdeal.nD,
      r.2.mem ((c.tc : Thread Cert.VUpReferenceIdeal.nD Cert.VUpReferenceIdeal.τ).loc Cert.VUpReferenceIdeal.main_arg0) = m ((c.tc : Thread Cert.VUpReferenceIdeal.nD Cert.VUpReferenceIdeal.τ).loc Cert.VUpReferenceIdeal.main_arg0)
      ∧ r.2.mem ((c.tc : Thread Cert.VUpReferenceIdeal.nD Cert.VUpReferenceIdeal.τ).loc Cert.VUpReferenceIdeal.main_arg1) = m ((c.tc : Thread Cert.VUpReferenceIdeal.nD Cert.VUpReferenceIdeal.τ).loc Cert.VUpReferenceIdeal.main_arg1))
      ∧ r.2.sem = fun _ => 0)

def quiescent_VUpDc [hVUpDc : Cert.VUpDc.Facts] : Prop :=
  ∀ (m : (ℓ : Loc Cert.VUpDc.nD Cert.VUpDc.τ Cert.VUpDc.sig) → Buf (Elt Bits) ℓ) (g : Dev Cert.VUpDc.nD → PrngReg), Pre_VUpDc m →
    θ_run (Cert.VUpDc.defs (F := Bits)) (onTc (τ := Cert.VUpDc.τ) (Cert.VUpDc.main (F := Bits))) ⟨m, fun _ => 0, g⟩ (fun r => (∀ c : Dev Cert.VUpDc.nD,
      r.2.mem ((c.tc : Thread Cert.VUpDc.nD Cert.VUpDc.τ).loc Cert.VUpDc.main_arg0) = m ((c.tc : Thread Cert.VUpDc.nD Cert.VUpDc.τ).loc Cert.VUpDc.main_arg0)
      ∧ r.2.mem ((c.tc : Thread Cert.VUpDc.nD Cert.VUpDc.τ).loc Cert.VUpDc.main_arg1) = m ((c.tc : Thread Cert.VUpDc.nD Cert.VUpDc.τ).loc Cert.VUpDc.main_arg1)
      ∧ r.2.mem ((c.tc : Thread Cert.VUpDc.nD Cert.VUpDc.τ).loc Cert.VUpDc.main_arg2) = m ((c.tc : Thread Cert.VUpDc.nD Cert.VUpDc.τ).loc Cert.VUpDc.main_arg2))
      ∧ r.2.sem = fun _ => 0)

def quiescent_VUpDcIdeal [hVUpDcIdeal : Cert.VUpDcIdeal.Facts] : Prop :=
  ∀ (m : (ℓ : Loc Cert.VUpDcIdeal.nD Cert.VUpDcIdeal.τ Cert.VUpDcIdeal.sig) → Buf (Elt Ideal) ℓ) (g : Dev Cert.VUpDcIdeal.nD → PrngReg), Pre_VUpDcIdeal m →
    θ_run (Cert.VUpDcIdeal.defs (F := Ideal)) (onTc (τ := Cert.VUpDcIdeal.τ) (Cert.VUpDcIdeal.main (F := Ideal))) ⟨m, fun _ => 0, g⟩ (fun r => (∀ c : Dev Cert.VUpDcIdeal.nD,
      r.2.mem ((c.tc : Thread Cert.VUpDcIdeal.nD Cert.VUpDcIdeal.τ).loc Cert.VUpDcIdeal.main_arg0) = m ((c.tc : Thread Cert.VUpDcIdeal.nD Cert.VUpDcIdeal.τ).loc Cert.VUpDcIdeal.main_arg0)
      ∧ r.2.mem ((c.tc : Thread Cert.VUpDcIdeal.nD Cert.VUpDcIdeal.τ).loc Cert.VUpDcIdeal.main_arg1) = m ((c.tc : Thread Cert.VUpDcIdeal.nD Cert.VUpDcIdeal.τ).loc Cert.VUpDcIdeal.main_arg1)
      ∧ r.2.mem ((c.tc : Thread Cert.VUpDcIdeal.nD Cert.VUpDcIdeal.τ).loc Cert.VUpDcIdeal.main_arg2) = m ((c.tc : Thread Cert.VUpDcIdeal.nD Cert.VUpDcIdeal.τ).loc Cert.VUpDcIdeal.main_arg2))
      ∧ r.2.sem = fun _ => 0)

def quiescent_VUpDcReferenceIdeal [hVUpDcReferenceIdeal : Cert.VUpDcReferenceIdeal.Facts] : Prop :=
  ∀ (m : (ℓ : Loc Cert.VUpDcReferenceIdeal.nD Cert.VUpDcReferenceIdeal.τ Cert.VUpDcReferenceIdeal.sig) → Buf (Elt Ideal) ℓ) (g : Dev Cert.VUpDcReferenceIdeal.nD → PrngReg), Pre_VUpDcReferenceIdeal m →
    θ_run (Cert.VUpDcReferenceIdeal.defs (F := Ideal)) (onTc (τ := Cert.VUpDcReferenceIdeal.τ) (Cert.VUpDcReferenceIdeal.main (F := Ideal))) ⟨m, fun _ => 0, g⟩ (fun r => (∀ c : Dev Cert.VUpDcReferenceIdeal.nD,
      r.2.mem ((c.tc : Thread Cert.VUpDcReferenceIdeal.nD Cert.VUpDcReferenceIdeal.τ).loc Cert.VUpDcReferenceIdeal.main_arg0) = m ((c.tc : Thread Cert.VUpDcReferenceIdeal.nD Cert.VUpDcReferenceIdeal.τ).loc Cert.VUpDcReferenceIdeal.main_arg0)
      ∧ r.2.mem ((c.tc : Thread Cert.VUpDcReferenceIdeal.nD Cert.VUpDcReferenceIdeal.τ).loc Cert.VUpDcReferenceIdeal.main_arg1) = m ((c.tc : Thread Cert.VUpDcReferenceIdeal.nD Cert.VUpDcReferenceIdeal.τ).loc Cert.VUpDcReferenceIdeal.main_arg1)
      ∧ r.2.mem ((c.tc : Thread Cert.VUpDcReferenceIdeal.nD Cert.VUpDcReferenceIdeal.τ).loc Cert.VUpDcReferenceIdeal.main_arg2) = m ((c.tc : Thread Cert.VUpDcReferenceIdeal.nD Cert.VUpDcReferenceIdeal.τ).loc Cert.VUpDcReferenceIdeal.main_arg2))
      ∧ r.2.sem = fun _ => 0)

def quiescent_VUpDw [hVUpDw : Cert.VUpDw.Facts] : Prop :=
  ∀ (m : (ℓ : Loc Cert.VUpDw.nD Cert.VUpDw.τ Cert.VUpDw.sig) → Buf (Elt Bits) ℓ) (g : Dev Cert.VUpDw.nD → PrngReg), Pre_VUpDw m →
    θ_run (Cert.VUpDw.defs (F := Bits)) (onTc (τ := Cert.VUpDw.τ) (Cert.VUpDw.main (F := Bits))) ⟨m, fun _ => 0, g⟩ (fun r => (∀ c : Dev Cert.VUpDw.nD,
      r.2.mem ((c.tc : Thread Cert.VUpDw.nD Cert.VUpDw.τ).loc Cert.VUpDw.main_arg0) = m ((c.tc : Thread Cert.VUpDw.nD Cert.VUpDw.τ).loc Cert.VUpDw.main_arg0)
      ∧ r.2.mem ((c.tc : Thread Cert.VUpDw.nD Cert.VUpDw.τ).loc Cert.VUpDw.main_arg1) = m ((c.tc : Thread Cert.VUpDw.nD Cert.VUpDw.τ).loc Cert.VUpDw.main_arg1)
      ∧ r.2.mem ((c.tc : Thread Cert.VUpDw.nD Cert.VUpDw.τ).loc Cert.VUpDw.main_arg2) = m ((c.tc : Thread Cert.VUpDw.nD Cert.VUpDw.τ).loc Cert.VUpDw.main_arg2))
      ∧ r.2.sem = fun _ => 0)

def quiescent_VUpDwIdeal [hVUpDwIdeal : Cert.VUpDwIdeal.Facts] : Prop :=
  ∀ (m : (ℓ : Loc Cert.VUpDwIdeal.nD Cert.VUpDwIdeal.τ Cert.VUpDwIdeal.sig) → Buf (Elt Ideal) ℓ) (g : Dev Cert.VUpDwIdeal.nD → PrngReg), Pre_VUpDwIdeal m →
    θ_run (Cert.VUpDwIdeal.defs (F := Ideal)) (onTc (τ := Cert.VUpDwIdeal.τ) (Cert.VUpDwIdeal.main (F := Ideal))) ⟨m, fun _ => 0, g⟩ (fun r => (∀ c : Dev Cert.VUpDwIdeal.nD,
      r.2.mem ((c.tc : Thread Cert.VUpDwIdeal.nD Cert.VUpDwIdeal.τ).loc Cert.VUpDwIdeal.main_arg0) = m ((c.tc : Thread Cert.VUpDwIdeal.nD Cert.VUpDwIdeal.τ).loc Cert.VUpDwIdeal.main_arg0)
      ∧ r.2.mem ((c.tc : Thread Cert.VUpDwIdeal.nD Cert.VUpDwIdeal.τ).loc Cert.VUpDwIdeal.main_arg1) = m ((c.tc : Thread Cert.VUpDwIdeal.nD Cert.VUpDwIdeal.τ).loc Cert.VUpDwIdeal.main_arg1)
      ∧ r.2.mem ((c.tc : Thread Cert.VUpDwIdeal.nD Cert.VUpDwIdeal.τ).loc Cert.VUpDwIdeal.main_arg2) = m ((c.tc : Thread Cert.VUpDwIdeal.nD Cert.VUpDwIdeal.τ).loc Cert.VUpDwIdeal.main_arg2))
      ∧ r.2.sem = fun _ => 0)

def quiescent_VUpDwReferenceIdeal [hVUpDwReferenceIdeal : Cert.VUpDwReferenceIdeal.Facts] : Prop :=
  ∀ (m : (ℓ : Loc Cert.VUpDwReferenceIdeal.nD Cert.VUpDwReferenceIdeal.τ Cert.VUpDwReferenceIdeal.sig) → Buf (Elt Ideal) ℓ) (g : Dev Cert.VUpDwReferenceIdeal.nD → PrngReg), Pre_VUpDwReferenceIdeal m →
    θ_run (Cert.VUpDwReferenceIdeal.defs (F := Ideal)) (onTc (τ := Cert.VUpDwReferenceIdeal.τ) (Cert.VUpDwReferenceIdeal.main (F := Ideal))) ⟨m, fun _ => 0, g⟩ (fun r => (∀ c : Dev Cert.VUpDwReferenceIdeal.nD,
      r.2.mem ((c.tc : Thread Cert.VUpDwReferenceIdeal.nD Cert.VUpDwReferenceIdeal.τ).loc Cert.VUpDwReferenceIdeal.main_arg0) = m ((c.tc : Thread Cert.VUpDwReferenceIdeal.nD Cert.VUpDwReferenceIdeal.τ).loc Cert.VUpDwReferenceIdeal.main_arg0)
      ∧ r.2.mem ((c.tc : Thread Cert.VUpDwReferenceIdeal.nD Cert.VUpDwReferenceIdeal.τ).loc Cert.VUpDwReferenceIdeal.main_arg1) = m ((c.tc : Thread Cert.VUpDwReferenceIdeal.nD Cert.VUpDwReferenceIdeal.τ).loc Cert.VUpDwReferenceIdeal.main_arg1)
      ∧ r.2.mem ((c.tc : Thread Cert.VUpDwReferenceIdeal.nD Cert.VUpDwReferenceIdeal.τ).loc Cert.VUpDwReferenceIdeal.main_arg2) = m ((c.tc : Thread Cert.VUpDwReferenceIdeal.nD Cert.VUpDwReferenceIdeal.τ).loc Cert.VUpDwReferenceIdeal.main_arg2))
      ∧ r.2.sem = fun _ => 0)

def preserves_Kernel_KernelIdeal : Prop :=
  IdealRules.named_const.Statement Cert.KernelIdeal.κ "scale_log2e" .f32 0x3DD53B95#32 (((Real.sqrt 192)⁻¹ * (Real.log 2)⁻¹ : ℝ) : EReal)
  ∧ IdealRules.named_const.Statement Cert.KernelIdeal.κ "mask" .f32 0xF149F2CA#32 ⊥
  ∧ IdealRules.named_const.Statement Cert.KernelIdeal.κ "scale" .f32 0x3D93CD3A#32 (((Real.sqrt 192)⁻¹ : ℝ) : EReal)

def algebraic_KernelIdeal_ReferenceIdeal [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v7_0)) (v1 : (c : Dev Cert.UpIdeal.nD) → Buf (Elt Ideal) ((c.tc : Thread Cert.UpIdeal.nD Cert.UpIdeal.τ).loc Cert.UpIdeal.main_v7_1)) (v2 : (c : Dev Cert.UpIdeal.nD) → Buf (Elt Ideal) ((c.tc : Thread Cert.UpIdeal.nD Cert.UpIdeal.τ).loc Cert.UpIdeal.main_v7_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v7_0) = v0 c
          ∧ r.2.mem ((c.tc : Thread Cert.UpIdeal.nD Cert.UpIdeal.τ).loc Cert.UpIdeal.main_v7_1) = v1 c
          ∧ r.2.mem ((c.tc : Thread Cert.UpIdeal.nD Cert.UpIdeal.τ).loc Cert.UpIdeal.main_v7_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v4) = v0 c
          ∧ r.2.mem ((c.tc : Thread Cert.UpReferenceIdeal.nD Cert.UpReferenceIdeal.τ).loc Cert.UpReferenceIdeal.main_v7) = v1 c
          ∧ r.2.mem ((c.tc : Thread Cert.UpReferenceIdeal.nD Cert.UpReferenceIdeal.τ).loc Cert.UpReferenceIdeal.main_v12) = v2 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v9)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v9) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v5) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4))

def preserves_Hidden_HiddenIdeal : Prop :=
  True

def algebraic_HiddenIdeal_HiddenReferenceIdeal [hHiddenIdeal : Cert.HiddenIdeal.Facts] [hHiddenReferenceIdeal : Cert.HiddenReferenceIdeal.Facts] [hPre_finite_ffn : Cert.Pre_finite_ffn.Facts] : Prop :=
  ∀ (m : (ℓ : Loc Cert.HiddenIdeal.nD Cert.HiddenIdeal.τ Cert.HiddenIdeal.sig) → Buf (Elt Ideal) ℓ) (g : Dev Cert.HiddenIdeal.nD → PrngReg)
    (m' : (ℓ : Loc Cert.HiddenReferenceIdeal.nD Cert.HiddenReferenceIdeal.τ Cert.HiddenReferenceIdeal.sig) → Buf (Elt Ideal) ℓ) (g' : Dev Cert.HiddenReferenceIdeal.nD → PrngReg), Pre_HiddenIdeal m →
    (∀ c : Dev Cert.HiddenIdeal.nD,
      m' ((c.tc : Thread Cert.HiddenReferenceIdeal.nD Cert.HiddenReferenceIdeal.τ).loc Cert.HiddenReferenceIdeal.main_arg0) = m ((c.tc : Thread Cert.HiddenIdeal.nD Cert.HiddenIdeal.τ).loc Cert.HiddenIdeal.main_arg0)
      ∧ m' ((c.tc : Thread Cert.HiddenReferenceIdeal.nD Cert.HiddenReferenceIdeal.τ).loc Cert.HiddenReferenceIdeal.main_arg1) = m ((c.tc : Thread Cert.HiddenIdeal.nD Cert.HiddenIdeal.τ).loc Cert.HiddenIdeal.main_arg1)
      ∧ m' ((c.tc : Thread Cert.HiddenReferenceIdeal.nD Cert.HiddenReferenceIdeal.τ).loc Cert.HiddenReferenceIdeal.main_arg2) = m ((c.tc : Thread Cert.HiddenIdeal.nD Cert.HiddenIdeal.τ).loc Cert.HiddenIdeal.main_arg2)
      ∧ m' ((c.tc : Thread Cert.HiddenReferenceIdeal.nD Cert.HiddenReferenceIdeal.τ).loc Cert.HiddenReferenceIdeal.main_arg3) = m ((c.tc : Thread Cert.HiddenIdeal.nD Cert.HiddenIdeal.τ).loc Cert.HiddenIdeal.main_arg3)
      ∧ m' ((c.tc : Thread Cert.HiddenReferenceIdeal.nD Cert.HiddenReferenceIdeal.τ).loc Cert.HiddenReferenceIdeal.main_arg4) = m ((c.tc : Thread Cert.HiddenIdeal.nD Cert.HiddenIdeal.τ).loc Cert.HiddenIdeal.main_arg4)) →
    ∃ (v0 : (c : Dev Cert.HiddenIdeal.nD) → Buf (Elt Ideal) ((c.tc : Thread Cert.HiddenIdeal.nD Cert.HiddenIdeal.τ).loc Cert.HiddenIdeal.main_v10_0)) (v1 : (c : Dev Cert.HiddenIdeal.nD) → Buf (Elt Ideal) ((c.tc : Thread Cert.HiddenIdeal.nD Cert.HiddenIdeal.τ).loc Cert.HiddenIdeal.main_v10_1)),
      θ_run (Cert.HiddenIdeal.defs (F := Ideal)) (onTc (τ := Cert.HiddenIdeal.τ) (Cert.HiddenIdeal.main (F := Ideal))) ⟨m, fun _ => 0, g⟩ (fun r => ∀ c : Dev Cert.HiddenIdeal.nD,
          r.2.mem ((c.tc : Thread Cert.HiddenIdeal.nD Cert.HiddenIdeal.τ).loc Cert.HiddenIdeal.main_v10_0) = v0 c
          ∧ r.2.mem ((c.tc : Thread Cert.HiddenIdeal.nD Cert.HiddenIdeal.τ).loc Cert.HiddenIdeal.main_v10_1) = v1 c
          ∧ r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
          ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
          ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2)
          ∧ r.2.mem ((c.tc : Thread Cert.HiddenIdeal.nD Cert.HiddenIdeal.τ).loc Cert.HiddenIdeal.main_arg3) = m ((c.tc : Thread Cert.HiddenIdeal.nD Cert.HiddenIdeal.τ).loc Cert.HiddenIdeal.main_arg3)
          ∧ r.2.mem ((c.tc : Thread Cert.HiddenIdeal.nD Cert.HiddenIdeal.τ).loc Cert.HiddenIdeal.main_arg4) = m ((c.tc : Thread Cert.HiddenIdeal.nD Cert.HiddenIdeal.τ).loc Cert.HiddenIdeal.main_arg4))
      ∧ θ_run (Cert.HiddenReferenceIdeal.defs (F := Ideal)) (onTc (τ := Cert.HiddenReferenceIdeal.τ) (Cert.HiddenReferenceIdeal.main (F := Ideal))) ⟨m', fun _ => 0, g'⟩ (fun r => ∀ c : Dev Cert.HiddenReferenceIdeal.nD,
          r.2.mem ((c.tc : Thread Cert.HiddenReferenceIdeal.nD Cert.HiddenReferenceIdeal.τ).loc Cert.HiddenReferenceIdeal.main_v13) = v0 c
          ∧ r.2.mem ((c.tc : Thread Cert.HiddenReferenceIdeal.nD Cert.HiddenReferenceIdeal.τ).loc Cert.HiddenReferenceIdeal.main_v16) = v1 c
          ∧ r.2.mem ((c.tc : Thread Cert.HiddenReferenceIdeal.nD Cert.HiddenReferenceIdeal.τ).loc Cert.HiddenReferenceIdeal.main_arg0) = m' ((c.tc : Thread Cert.HiddenReferenceIdeal.nD Cert.HiddenReferenceIdeal.τ).loc Cert.HiddenReferenceIdeal.main_arg0)
          ∧ r.2.mem ((c.tc : Thread Cert.HiddenReferenceIdeal.nD Cert.HiddenReferenceIdeal.τ).loc Cert.HiddenReferenceIdeal.main_arg1) = m' ((c.tc : Thread Cert.HiddenReferenceIdeal.nD Cert.HiddenReferenceIdeal.τ).loc Cert.HiddenReferenceIdeal.main_arg1)
          ∧ r.2.mem ((c.tc : Thread Cert.HiddenReferenceIdeal.nD Cert.HiddenReferenceIdeal.τ).loc Cert.HiddenReferenceIdeal.main_arg2) = m' ((c.tc : Thread Cert.HiddenReferenceIdeal.nD Cert.HiddenReferenceIdeal.τ).loc Cert.HiddenReferenceIdeal.main_arg2)
          ∧ r.2.mem ((c.tc : Thread Cert.HiddenReferenceIdeal.nD Cert.HiddenReferenceIdeal.τ).loc Cert.HiddenReferenceIdeal.main_arg3) = m' ((c.tc : Thread Cert.HiddenReferenceIdeal.nD Cert.HiddenReferenceIdeal.τ).loc Cert.HiddenReferenceIdeal.main_arg3)
          ∧ r.2.mem ((c.tc : Thread Cert.HiddenReferenceIdeal.nD Cert.HiddenReferenceIdeal.τ).loc Cert.HiddenReferenceIdeal.main_arg4) = m' ((c.tc : Thread Cert.HiddenReferenceIdeal.nD Cert.HiddenReferenceIdeal.τ).loc Cert.HiddenReferenceIdeal.main_arg4))

def preserves_Dwd_DwdIdeal : Prop :=
  True

def algebraic_DwdIdeal_DwdReferenceIdeal [hDwdIdeal : Cert.DwdIdeal.Facts] [hDwdReferenceIdeal : Cert.DwdReferenceIdeal.Facts] : Prop :=
  ∀ (m : (ℓ : Loc Cert.DwdIdeal.nD Cert.DwdIdeal.τ Cert.DwdIdeal.sig) → Buf (Elt Ideal) ℓ) (g : Dev Cert.DwdIdeal.nD → PrngReg)
    (m' : (ℓ : Loc Cert.DwdReferenceIdeal.nD Cert.DwdReferenceIdeal.τ Cert.DwdReferenceIdeal.sig) → Buf (Elt Ideal) ℓ) (g' : Dev Cert.DwdReferenceIdeal.nD → PrngReg), Pre_DwdIdeal m →
    (∀ c : Dev Cert.DwdIdeal.nD,
      m' ((c.tc : Thread Cert.DwdReferenceIdeal.nD Cert.DwdReferenceIdeal.τ).loc Cert.DwdReferenceIdeal.main_arg0) = m ((c.tc : Thread Cert.DwdIdeal.nD Cert.DwdIdeal.τ).loc Cert.DwdIdeal.main_arg0)
      ∧ m' ((c.tc : Thread Cert.DwdReferenceIdeal.nD Cert.DwdReferenceIdeal.τ).loc Cert.DwdReferenceIdeal.main_arg1) = m ((c.tc : Thread Cert.DwdIdeal.nD Cert.DwdIdeal.τ).loc Cert.DwdIdeal.main_arg1)
      ∧ m' ((c.tc : Thread Cert.DwdReferenceIdeal.nD Cert.DwdReferenceIdeal.τ).loc Cert.DwdReferenceIdeal.main_arg2) = m ((c.tc : Thread Cert.DwdIdeal.nD Cert.DwdIdeal.τ).loc Cert.DwdIdeal.main_arg2)
      ∧ m' ((c.tc : Thread Cert.DwdReferenceIdeal.nD Cert.DwdReferenceIdeal.τ).loc Cert.DwdReferenceIdeal.main_arg3) = m ((c.tc : Thread Cert.DwdIdeal.nD Cert.DwdIdeal.τ).loc Cert.DwdIdeal.main_arg3)
      ∧ m' ((c.tc : Thread Cert.DwdReferenceIdeal.nD Cert.DwdReferenceIdeal.τ).loc Cert.DwdReferenceIdeal.main_arg4) = m ((c.tc : Thread Cert.DwdIdeal.nD Cert.DwdIdeal.τ).loc Cert.DwdIdeal.main_arg4)) →
    ∃ (v0 : (c : Dev Cert.DwdIdeal.nD) → Buf (Elt Ideal) ((c.tc : Thread Cert.DwdIdeal.nD Cert.DwdIdeal.τ).loc Cert.DwdIdeal.main_v7)),
      θ_run (Cert.DwdIdeal.defs (F := Ideal)) (onTc (τ := Cert.DwdIdeal.τ) (Cert.DwdIdeal.main (F := Ideal))) ⟨m, fun _ => 0, g⟩ (fun r => ∀ c : Dev Cert.DwdIdeal.nD,
          r.2.mem ((c.tc : Thread Cert.DwdIdeal.nD Cert.DwdIdeal.τ).loc Cert.DwdIdeal.main_v7) = v0 c
          ∧ r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
          ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1)
          ∧ r.2.mem ((c.tc : Thread Cert.DwdIdeal.nD Cert.DwdIdeal.τ).loc Cert.DwdIdeal.main_arg2) = m ((c.tc : Thread Cert.DwdIdeal.nD Cert.DwdIdeal.τ).loc Cert.DwdIdeal.main_arg2)
          ∧ r.2.mem ((c.tc : Thread Cert.DwdIdeal.nD Cert.DwdIdeal.τ).loc Cert.DwdIdeal.main_arg3) = m ((c.tc : Thread Cert.DwdIdeal.nD Cert.DwdIdeal.τ).loc Cert.DwdIdeal.main_arg3)
          ∧ r.2.mem ((c.tc : Thread Cert.DwdIdeal.nD Cert.DwdIdeal.τ).loc Cert.DwdIdeal.main_arg4) = m ((c.tc : Thread Cert.DwdIdeal.nD Cert.DwdIdeal.τ).loc Cert.DwdIdeal.main_arg4))
      ∧ θ_run (Cert.DwdReferenceIdeal.defs (F := Ideal)) (onTc (τ := Cert.DwdReferenceIdeal.τ) (Cert.DwdReferenceIdeal.main (F := Ideal))) ⟨m', fun _ => 0, g'⟩ (fun r => ∀ c : Dev Cert.DwdReferenceIdeal.nD,
          r.2.mem ((c.tc : Thread Cert.DwdReferenceIdeal.nD Cert.DwdReferenceIdeal.τ).loc Cert.DwdReferenceIdeal.main_v19) = v0 c
          ∧ r.2.mem ((c.tc : Thread Cert.DwdReferenceIdeal.nD Cert.DwdReferenceIdeal.τ).loc Cert.DwdReferenceIdeal.main_arg0) = m' ((c.tc : Thread Cert.DwdReferenceIdeal.nD Cert.DwdReferenceIdeal.τ).loc Cert.DwdReferenceIdeal.main_arg0)
          ∧ r.2.mem ((c.tc : Thread Cert.DwdReferenceIdeal.nD Cert.DwdReferenceIdeal.τ).loc Cert.DwdReferenceIdeal.main_arg1) = m' ((c.tc : Thread Cert.DwdReferenceIdeal.nD Cert.DwdReferenceIdeal.τ).loc Cert.DwdReferenceIdeal.main_arg1)
          ∧ r.2.mem ((c.tc : Thread Cert.DwdReferenceIdeal.nD Cert.DwdReferenceIdeal.τ).loc Cert.DwdReferenceIdeal.main_arg2) = m' ((c.tc : Thread Cert.DwdReferenceIdeal.nD Cert.DwdReferenceIdeal.τ).loc Cert.DwdReferenceIdeal.main_arg2)
          ∧ r.2.mem ((c.tc : Thread Cert.DwdReferenceIdeal.nD Cert.DwdReferenceIdeal.τ).loc Cert.DwdReferenceIdeal.main_arg3) = m' ((c.tc : Thread Cert.DwdReferenceIdeal.nD Cert.DwdReferenceIdeal.τ).loc Cert.DwdReferenceIdeal.main_arg3)
          ∧ r.2.mem ((c.tc : Thread Cert.DwdReferenceIdeal.nD Cert.DwdReferenceIdeal.τ).loc Cert.DwdReferenceIdeal.main_arg4) = m' ((c.tc : Thread Cert.DwdReferenceIdeal.nD Cert.DwdReferenceIdeal.τ).loc Cert.DwdReferenceIdeal.main_arg4))

def preserves_Dwgu_DwguIdeal : Prop :=
  True

def algebraic_DwguIdeal_DwguReferenceIdeal [hDwguIdeal : Cert.DwguIdeal.Facts] [hDwguReferenceIdeal : Cert.DwguReferenceIdeal.Facts] : Prop :=
  ∀ (m : (ℓ : Loc Cert.DwguIdeal.nD Cert.DwguIdeal.τ Cert.DwguIdeal.sig) → Buf (Elt Ideal) ℓ) (g : Dev Cert.DwguIdeal.nD → PrngReg)
    (m' : (ℓ : Loc Cert.DwguReferenceIdeal.nD Cert.DwguReferenceIdeal.τ Cert.DwguReferenceIdeal.sig) → Buf (Elt Ideal) ℓ) (g' : Dev Cert.DwguReferenceIdeal.nD → PrngReg), Pre_DwguIdeal m →
    (∀ c : Dev Cert.DwguIdeal.nD,
      m' ((c.tc : Thread Cert.DwguReferenceIdeal.nD Cert.DwguReferenceIdeal.τ).loc Cert.DwguReferenceIdeal.main_arg0) = m ((c.tc : Thread Cert.DwguIdeal.nD Cert.DwguIdeal.τ).loc Cert.DwguIdeal.main_arg0)
      ∧ m' ((c.tc : Thread Cert.DwguReferenceIdeal.nD Cert.DwguReferenceIdeal.τ).loc Cert.DwguReferenceIdeal.main_arg1) = m ((c.tc : Thread Cert.DwguIdeal.nD Cert.DwguIdeal.τ).loc Cert.DwguIdeal.main_arg1)
      ∧ m' ((c.tc : Thread Cert.DwguReferenceIdeal.nD Cert.DwguReferenceIdeal.τ).loc Cert.DwguReferenceIdeal.main_arg2) = m ((c.tc : Thread Cert.DwguIdeal.nD Cert.DwguIdeal.τ).loc Cert.DwguIdeal.main_arg2)
      ∧ m' ((c.tc : Thread Cert.DwguReferenceIdeal.nD Cert.DwguReferenceIdeal.τ).loc Cert.DwguReferenceIdeal.main_arg3) = m ((c.tc : Thread Cert.DwguIdeal.nD Cert.DwguIdeal.τ).loc Cert.DwguIdeal.main_arg3)
      ∧ m' ((c.tc : Thread Cert.DwguReferenceIdeal.nD Cert.DwguReferenceIdeal.τ).loc Cert.DwguReferenceIdeal.main_arg4) = m ((c.tc : Thread Cert.DwguIdeal.nD Cert.DwguIdeal.τ).loc Cert.DwguIdeal.main_arg4)) →
    ∃ (v0 : (c : Dev Cert.DwguIdeal.nD) → Buf (Elt Ideal) ((c.tc : Thread Cert.DwguIdeal.nD Cert.DwguIdeal.τ).loc Cert.DwguIdeal.main_v18_0)) (v1 : (c : Dev Cert.DwguIdeal.nD) → Buf (Elt Ideal) ((c.tc : Thread Cert.DwguIdeal.nD Cert.DwguIdeal.τ).loc Cert.DwguIdeal.main_v18_1)),
      θ_run (Cert.DwguIdeal.defs (F := Ideal)) (onTc (τ := Cert.DwguIdeal.τ) (Cert.DwguIdeal.main (F := Ideal))) ⟨m, fun _ => 0, g⟩ (fun r => ∀ c : Dev Cert.DwguIdeal.nD,
          r.2.mem ((c.tc : Thread Cert.DwguIdeal.nD Cert.DwguIdeal.τ).loc Cert.DwguIdeal.main_v18_0) = v0 c
          ∧ r.2.mem ((c.tc : Thread Cert.DwguIdeal.nD Cert.DwguIdeal.τ).loc Cert.DwguIdeal.main_v18_1) = v1 c
          ∧ r.2.mem ((c.tc : Thread Cert.DwguIdeal.nD Cert.DwguIdeal.τ).loc Cert.DwguIdeal.main_arg0) = m ((c.tc : Thread Cert.DwguIdeal.nD Cert.DwguIdeal.τ).loc Cert.DwguIdeal.main_arg0)
          ∧ r.2.mem ((c.tc : Thread Cert.DwguIdeal.nD Cert.DwguIdeal.τ).loc Cert.DwguIdeal.main_arg1) = m ((c.tc : Thread Cert.DwguIdeal.nD Cert.DwguIdeal.τ).loc Cert.DwguIdeal.main_arg1)
          ∧ r.2.mem ((c.tc : Thread Cert.DwguIdeal.nD Cert.DwguIdeal.τ).loc Cert.DwguIdeal.main_arg2) = m ((c.tc : Thread Cert.DwguIdeal.nD Cert.DwguIdeal.τ).loc Cert.DwguIdeal.main_arg2)
          ∧ r.2.mem ((c.tc : Thread Cert.DwguIdeal.nD Cert.DwguIdeal.τ).loc Cert.DwguIdeal.main_arg3) = m ((c.tc : Thread Cert.DwguIdeal.nD Cert.DwguIdeal.τ).loc Cert.DwguIdeal.main_arg3)
          ∧ r.2.mem ((c.tc : Thread Cert.DwguIdeal.nD Cert.DwguIdeal.τ).loc Cert.DwguIdeal.main_arg4) = m ((c.tc : Thread Cert.DwguIdeal.nD Cert.DwguIdeal.τ).loc Cert.DwguIdeal.main_arg4))
      ∧ θ_run (Cert.DwguReferenceIdeal.defs (F := Ideal)) (onTc (τ := Cert.DwguReferenceIdeal.τ) (Cert.DwguReferenceIdeal.main (F := Ideal))) ⟨m', fun _ => 0, g'⟩ (fun r => ∀ c : Dev Cert.DwguReferenceIdeal.nD,
          r.2.mem ((c.tc : Thread Cert.DwguReferenceIdeal.nD Cert.DwguReferenceIdeal.τ).loc Cert.DwguReferenceIdeal.main_v20) = v0 c
          ∧ r.2.mem ((c.tc : Thread Cert.DwguReferenceIdeal.nD Cert.DwguReferenceIdeal.τ).loc Cert.DwguReferenceIdeal.main_v23) = v1 c
          ∧ r.2.mem ((c.tc : Thread Cert.DwguReferenceIdeal.nD Cert.DwguReferenceIdeal.τ).loc Cert.DwguReferenceIdeal.main_arg0) = m' ((c.tc : Thread Cert.DwguReferenceIdeal.nD Cert.DwguReferenceIdeal.τ).loc Cert.DwguReferenceIdeal.main_arg0)
          ∧ r.2.mem ((c.tc : Thread Cert.DwguReferenceIdeal.nD Cert.DwguReferenceIdeal.τ).loc Cert.DwguReferenceIdeal.main_arg1) = m' ((c.tc : Thread Cert.DwguReferenceIdeal.nD Cert.DwguReferenceIdeal.τ).loc Cert.DwguReferenceIdeal.main_arg1)
          ∧ r.2.mem ((c.tc : Thread Cert.DwguReferenceIdeal.nD Cert.DwguReferenceIdeal.τ).loc Cert.DwguReferenceIdeal.main_arg2) = m' ((c.tc : Thread Cert.DwguReferenceIdeal.nD Cert.DwguReferenceIdeal.τ).loc Cert.DwguReferenceIdeal.main_arg2)
          ∧ r.2.mem ((c.tc : Thread Cert.DwguReferenceIdeal.nD Cert.DwguReferenceIdeal.τ).loc Cert.DwguReferenceIdeal.main_arg3) = m' ((c.tc : Thread Cert.DwguReferenceIdeal.nD Cert.DwguReferenceIdeal.τ).loc Cert.DwguReferenceIdeal.main_arg3)
          ∧ r.2.mem ((c.tc : Thread Cert.DwguReferenceIdeal.nD Cert.DwguReferenceIdeal.τ).loc Cert.DwguReferenceIdeal.main_arg4) = m' ((c.tc : Thread Cert.DwguReferenceIdeal.nD Cert.DwguReferenceIdeal.τ).loc Cert.DwguReferenceIdeal.main_arg4))

def preserves_Dh_DhIdeal : Prop :=
  True

def algebraic_DhIdeal_DhReferenceIdeal [hDhIdeal : Cert.DhIdeal.Facts] [hDhReferenceIdeal : Cert.DhReferenceIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhReferenceIdeal.nD Cert.DhReferenceIdeal.τ Cert.DhReferenceIdeal.sig) → Buf (Elt Ideal) ℓ) (g' : Dev Cert.DhReferenceIdeal.nD → PrngReg), Pre_DhIdeal m →
    (∀ c : Dev Cert.DhIdeal.nD,
      m' ((c.tc : Thread Cert.DhReferenceIdeal.nD Cert.DhReferenceIdeal.τ).loc Cert.DhReferenceIdeal.main_arg0) = m ((c.tc : Thread Cert.DhIdeal.nD Cert.DhIdeal.τ).loc Cert.DhIdeal.main_arg0)
      ∧ m' ((c.tc : Thread Cert.DhReferenceIdeal.nD Cert.DhReferenceIdeal.τ).loc Cert.DhReferenceIdeal.main_arg1) = m ((c.tc : Thread Cert.DhIdeal.nD Cert.DhIdeal.τ).loc Cert.DhIdeal.main_arg1)
      ∧ m' ((c.tc : Thread Cert.DhReferenceIdeal.nD Cert.DhReferenceIdeal.τ).loc Cert.DhReferenceIdeal.main_arg2) = m ((c.tc : Thread Cert.DhIdeal.nD Cert.DhIdeal.τ).loc Cert.DhIdeal.main_arg2)
      ∧ m' ((c.tc : Thread Cert.DhReferenceIdeal.nD Cert.DhReferenceIdeal.τ).loc Cert.DhReferenceIdeal.main_arg3) = m ((c.tc : Thread Cert.DhIdeal.nD Cert.DhIdeal.τ).loc Cert.DhIdeal.main_arg3)
      ∧ m' ((c.tc : Thread Cert.DhReferenceIdeal.nD Cert.DhReferenceIdeal.τ).loc Cert.DhReferenceIdeal.main_arg4) = m ((c.tc : Thread Cert.DhIdeal.nD Cert.DhIdeal.τ).loc Cert.DhIdeal.main_arg4)) →
    ∃ (v0 : (c : Dev Cert.DhIdeal.nD) → Buf (Elt Ideal) ((c.tc : Thread Cert.DhIdeal.nD Cert.DhIdeal.τ).loc Cert.DhIdeal.main_v23)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v23) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3)
          ∧ r.2.mem ((c.tc : Thread Cert.DhIdeal.nD Cert.DhIdeal.τ).loc Cert.DhIdeal.main_arg4) = m ((c.tc : Thread Cert.DhIdeal.nD Cert.DhIdeal.τ).loc Cert.DhIdeal.main_arg4))
      ∧ θ_run (Cert.DhReferenceIdeal.defs (F := Ideal)) (onTc (τ := Cert.DhReferenceIdeal.τ) (Cert.DhReferenceIdeal.main (F := Ideal))) ⟨m', fun _ => 0, g'⟩ (fun r => ∀ c : Dev Cert.DhReferenceIdeal.nD,
          r.2.mem ((c.tc : Thread Cert.DhReferenceIdeal.nD Cert.DhReferenceIdeal.τ).loc Cert.DhReferenceIdeal.main_v17) = v0 c
          ∧ r.2.mem ((c.tc : Thread Cert.DhReferenceIdeal.nD Cert.DhReferenceIdeal.τ).loc Cert.DhReferenceIdeal.main_arg0) = m' ((c.tc : Thread Cert.DhReferenceIdeal.nD Cert.DhReferenceIdeal.τ).loc Cert.DhReferenceIdeal.main_arg0)
          ∧ r.2.mem ((c.tc : Thread Cert.DhReferenceIdeal.nD Cert.DhReferenceIdeal.τ).loc Cert.DhReferenceIdeal.main_arg1) = m' ((c.tc : Thread Cert.DhReferenceIdeal.nD Cert.DhReferenceIdeal.τ).loc Cert.DhReferenceIdeal.main_arg1)
          ∧ r.2.mem ((c.tc : Thread Cert.DhReferenceIdeal.nD Cert.DhReferenceIdeal.τ).loc Cert.DhReferenceIdeal.main_arg2) = m' ((c.tc : Thread Cert.DhReferenceIdeal.nD Cert.DhReferenceIdeal.τ).loc Cert.DhReferenceIdeal.main_arg2)
          ∧ r.2.mem ((c.tc : Thread Cert.DhReferenceIdeal.nD Cert.DhReferenceIdeal.τ).loc Cert.DhReferenceIdeal.main_arg3) = m' ((c.tc : Thread Cert.DhReferenceIdeal.nD Cert.DhReferenceIdeal.τ).loc Cert.DhReferenceIdeal.main_arg3)
          ∧ r.2.mem ((c.tc : Thread Cert.DhReferenceIdeal.nD Cert.DhReferenceIdeal.τ).loc Cert.DhReferenceIdeal.main_arg4) = m' ((c.tc : Thread Cert.DhReferenceIdeal.nD Cert.DhReferenceIdeal.τ).loc Cert.DhReferenceIdeal.main_arg4))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v1) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_Do_DoIdeal : Prop :=
  True

def algebraic_DoIdeal_DoReferenceIdeal [hDoIdeal : Cert.DoIdeal.Facts] [hDoReferenceIdeal : Cert.DoReferenceIdeal.Facts] : Prop :=
  ∀ (m : (ℓ : Loc Cert.DoIdeal.nD Cert.DoIdeal.τ Cert.DoIdeal.sig) → Buf (Elt Ideal) ℓ) (g : Dev Cert.DoIdeal.nD → PrngReg)
    (m' : (ℓ : Loc Cert.DoReferenceIdeal.nD Cert.DoReferenceIdeal.τ Cert.DoReferenceIdeal.sig) → Buf (Elt Ideal) ℓ) (g' : Dev Cert.DoReferenceIdeal.nD → PrngReg), Pre_DoIdeal m →
    (∀ c : Dev Cert.DoIdeal.nD,
      m' ((c.tc : Thread Cert.DoReferenceIdeal.nD Cert.DoReferenceIdeal.τ).loc Cert.DoReferenceIdeal.main_arg0) = m ((c.tc : Thread Cert.DoIdeal.nD Cert.DoIdeal.τ).loc Cert.DoIdeal.main_arg0)
      ∧ m' ((c.tc : Thread Cert.DoReferenceIdeal.nD Cert.DoReferenceIdeal.τ).loc Cert.DoReferenceIdeal.main_arg1) = m ((c.tc : Thread Cert.DoIdeal.nD Cert.DoIdeal.τ).loc Cert.DoIdeal.main_arg1)
      ∧ m' ((c.tc : Thread Cert.DoReferenceIdeal.nD Cert.DoReferenceIdeal.τ).loc Cert.DoReferenceIdeal.main_arg2) = m ((c.tc : Thread Cert.DoIdeal.nD Cert.DoIdeal.τ).loc Cert.DoIdeal.main_arg2)
      ∧ m' ((c.tc : Thread Cert.DoReferenceIdeal.nD Cert.DoReferenceIdeal.τ).loc Cert.DoReferenceIdeal.main_arg3) = m ((c.tc : Thread Cert.DoIdeal.nD Cert.DoIdeal.τ).loc Cert.DoIdeal.main_arg3)) →
    ∃ (v0 : (c : Dev Cert.DoIdeal.nD) → Buf (Elt Ideal) ((c.tc : Thread Cert.DoIdeal.nD Cert.DoIdeal.τ).loc Cert.DoIdeal.main_v1)),
      θ_run (Cert.DoIdeal.defs (F := Ideal)) (onTc (τ := Cert.DoIdeal.τ) (Cert.DoIdeal.main (F := Ideal))) ⟨m, fun _ => 0, g⟩ (fun r => ∀ c : Dev Cert.DoIdeal.nD,
          r.2.mem ((c.tc : Thread Cert.DoIdeal.nD Cert.DoIdeal.τ).loc Cert.DoIdeal.main_v1) = v0 c
          ∧ r.2.mem ((c.tc : Thread Cert.DoIdeal.nD Cert.DoIdeal.τ).loc Cert.DoIdeal.main_arg0) = m ((c.tc : Thread Cert.DoIdeal.nD Cert.DoIdeal.τ).loc Cert.DoIdeal.main_arg0)
          ∧ r.2.mem ((c.tc : Thread Cert.DoIdeal.nD Cert.DoIdeal.τ).loc Cert.DoIdeal.main_arg1) = m ((c.tc : Thread Cert.DoIdeal.nD Cert.DoIdeal.τ).loc Cert.DoIdeal.main_arg1)
          ∧ r.2.mem ((c.tc : Thread Cert.DoIdeal.nD Cert.DoIdeal.τ).loc Cert.DoIdeal.main_arg2) = m ((c.tc : Thread Cert.DoIdeal.nD Cert.DoIdeal.τ).loc Cert.DoIdeal.main_arg2)
          ∧ r.2.mem ((c.tc : Thread Cert.DoIdeal.nD Cert.DoIdeal.τ).loc Cert.DoIdeal.main_arg3) = m ((c.tc : Thread Cert.DoIdeal.nD Cert.DoIdeal.τ).loc Cert.DoIdeal.main_arg3))
      ∧ θ_run (Cert.DoReferenceIdeal.defs (F := Ideal)) (onTc (τ := Cert.DoReferenceIdeal.τ) (Cert.DoReferenceIdeal.main (F := Ideal))) ⟨m', fun _ => 0, g'⟩ (fun r => ∀ c : Dev Cert.DoReferenceIdeal.nD,
          r.2.mem ((c.tc : Thread Cert.DoReferenceIdeal.nD Cert.DoReferenceIdeal.τ).loc Cert.DoReferenceIdeal.main_v6) = v0 c
          ∧ r.2.mem ((c.tc : Thread Cert.DoReferenceIdeal.nD Cert.DoReferenceIdeal.τ).loc Cert.DoReferenceIdeal.main_arg0) = m' ((c.tc : Thread Cert.DoReferenceIdeal.nD Cert.DoReferenceIdeal.τ).loc Cert.DoReferenceIdeal.main_arg0)
          ∧ r.2.mem ((c.tc : Thread Cert.DoReferenceIdeal.nD Cert.DoReferenceIdeal.τ).loc Cert.DoReferenceIdeal.main_arg1) = m' ((c.tc : Thread Cert.DoReferenceIdeal.nD Cert.DoReferenceIdeal.τ).loc Cert.DoReferenceIdeal.main_arg1)
          ∧ r.2.mem ((c.tc : Thread Cert.DoReferenceIdeal.nD Cert.DoReferenceIdeal.τ).loc Cert.DoReferenceIdeal.main_arg2) = m' ((c.tc : Thread Cert.DoReferenceIdeal.nD Cert.DoReferenceIdeal.τ).loc Cert.DoReferenceIdeal.main_arg2)
          ∧ r.2.mem ((c.tc : Thread Cert.DoReferenceIdeal.nD Cert.DoReferenceIdeal.τ).loc Cert.DoReferenceIdeal.main_arg3) = m' ((c.tc : Thread Cert.DoReferenceIdeal.nD Cert.DoReferenceIdeal.τ).loc Cert.DoReferenceIdeal.main_arg3))

def preserves_Dwo_DwoIdeal : Prop :=
  True

def algebraic_DwoIdeal_DwoReferenceIdeal [hDwoIdeal : Cert.DwoIdeal.Facts] [hDwoReferenceIdeal : Cert.DwoReferenceIdeal.Facts] : Prop :=
  ∀ (m : (ℓ : Loc Cert.DwoIdeal.nD Cert.DwoIdeal.τ Cert.DwoIdeal.sig) → Buf (Elt Ideal) ℓ) (g : Dev Cert.DwoIdeal.nD → PrngReg)
    (m' : (ℓ : Loc Cert.DwoReferenceIdeal.nD Cert.DwoReferenceIdeal.τ Cert.DwoReferenceIdeal.sig) → Buf (Elt Ideal) ℓ) (g' : Dev Cert.DwoReferenceIdeal.nD → PrngReg), Pre_DwoIdeal m →
    (∀ c : Dev Cert.DwoIdeal.nD,
      m' ((c.tc : Thread Cert.DwoReferenceIdeal.nD Cert.DwoReferenceIdeal.τ).loc Cert.DwoReferenceIdeal.main_arg0) = m ((c.tc : Thread Cert.DwoIdeal.nD Cert.DwoIdeal.τ).loc Cert.DwoIdeal.main_arg0)
      ∧ m' ((c.tc : Thread Cert.DwoReferenceIdeal.nD Cert.DwoReferenceIdeal.τ).loc Cert.DwoReferenceIdeal.main_arg1) = m ((c.tc : Thread Cert.DwoIdeal.nD Cert.DwoIdeal.τ).loc Cert.DwoIdeal.main_arg1)
      ∧ m' ((c.tc : Thread Cert.DwoReferenceIdeal.nD Cert.DwoReferenceIdeal.τ).loc Cert.DwoReferenceIdeal.main_arg2) = m ((c.tc : Thread Cert.DwoIdeal.nD Cert.DwoIdeal.τ).loc Cert.DwoIdeal.main_arg2)
      ∧ m' ((c.tc : Thread Cert.DwoReferenceIdeal.nD Cert.DwoReferenceIdeal.τ).loc Cert.DwoReferenceIdeal.main_arg3) = m ((c.tc : Thread Cert.DwoIdeal.nD Cert.DwoIdeal.τ).loc Cert.DwoIdeal.main_arg3)) →
    ∃ (v0 : (c : Dev Cert.DwoIdeal.nD) → Buf (Elt Ideal) ((c.tc : Thread Cert.DwoIdeal.nD Cert.DwoIdeal.τ).loc Cert.DwoIdeal.main_v2)),
      θ_run (Cert.DwoIdeal.defs (F := Ideal)) (onTc (τ := Cert.DwoIdeal.τ) (Cert.DwoIdeal.main (F := Ideal))) ⟨m, fun _ => 0, g⟩ (fun r => ∀ c : Dev Cert.DwoIdeal.nD,
          r.2.mem ((c.tc : Thread Cert.DwoIdeal.nD Cert.DwoIdeal.τ).loc Cert.DwoIdeal.main_v2) = v0 c
          ∧ r.2.mem ((c.tc : Thread Cert.DwoIdeal.nD Cert.DwoIdeal.τ).loc Cert.DwoIdeal.main_arg0) = m ((c.tc : Thread Cert.DwoIdeal.nD Cert.DwoIdeal.τ).loc Cert.DwoIdeal.main_arg0)
          ∧ r.2.mem ((c.tc : Thread Cert.DwoIdeal.nD Cert.DwoIdeal.τ).loc Cert.DwoIdeal.main_arg1) = m ((c.tc : Thread Cert.DwoIdeal.nD Cert.DwoIdeal.τ).loc Cert.DwoIdeal.main_arg1)
          ∧ r.2.mem ((c.tc : Thread Cert.DwoIdeal.nD Cert.DwoIdeal.τ).loc Cert.DwoIdeal.main_arg2) = m ((c.tc : Thread Cert.DwoIdeal.nD Cert.DwoIdeal.τ).loc Cert.DwoIdeal.main_arg2)
          ∧ r.2.mem ((c.tc : Thread Cert.DwoIdeal.nD Cert.DwoIdeal.τ).loc Cert.DwoIdeal.main_arg3) = m ((c.tc : Thread Cert.DwoIdeal.nD Cert.DwoIdeal.τ).loc Cert.DwoIdeal.main_arg3))
      ∧ θ_run (Cert.DwoReferenceIdeal.defs (F := Ideal)) (onTc (τ := Cert.DwoReferenceIdeal.τ) (Cert.DwoReferenceIdeal.main (F := Ideal))) ⟨m', fun _ => 0, g'⟩ (fun r => ∀ c : Dev Cert.DwoReferenceIdeal.nD,
          r.2.mem ((c.tc : Thread Cert.DwoReferenceIdeal.nD Cert.DwoReferenceIdeal.τ).loc Cert.DwoReferenceIdeal.main_v4) = v0 c
          ∧ r.2.mem ((c.tc : Thread Cert.DwoReferenceIdeal.nD Cert.DwoReferenceIdeal.τ).loc Cert.DwoReferenceIdeal.main_arg0) = m' ((c.tc : Thread Cert.DwoReferenceIdeal.nD Cert.DwoReferenceIdeal.τ).loc Cert.DwoReferenceIdeal.main_arg0)
          ∧ r.2.mem ((c.tc : Thread Cert.DwoReferenceIdeal.nD Cert.DwoReferenceIdeal.τ).loc Cert.DwoReferenceIdeal.main_arg1) = m' ((c.tc : Thread Cert.DwoReferenceIdeal.nD Cert.DwoReferenceIdeal.τ).loc Cert.DwoReferenceIdeal.main_arg1)
          ∧ r.2.mem ((c.tc : Thread Cert.DwoReferenceIdeal.nD Cert.DwoReferenceIdeal.τ).loc Cert.DwoReferenceIdeal.main_arg2) = m' ((c.tc : Thread Cert.DwoReferenceIdeal.nD Cert.DwoReferenceIdeal.τ).loc Cert.DwoReferenceIdeal.main_arg2)
          ∧ r.2.mem ((c.tc : Thread Cert.DwoReferenceIdeal.nD Cert.DwoReferenceIdeal.τ).loc Cert.DwoReferenceIdeal.main_arg3) = m' ((c.tc : Thread Cert.DwoReferenceIdeal.nD Cert.DwoReferenceIdeal.τ).loc Cert.DwoReferenceIdeal.main_arg3))

def preserves_QDown_QDownIdeal : Prop :=
  True

def algebraic_QDownIdeal_QDownReferenceIdeal [hQDownIdeal : Cert.QDownIdeal.Facts] [hQDownReferenceIdeal : Cert.QDownReferenceIdeal.Facts] : Prop :=
  ∀ (m : (ℓ : Loc Cert.QDownIdeal.nD Cert.QDownIdeal.τ Cert.QDownIdeal.sig) → Buf (Elt Ideal) ℓ) (g : Dev Cert.QDownIdeal.nD → PrngReg)
    (m' : (ℓ : Loc Cert.QDownReferenceIdeal.nD Cert.QDownReferenceIdeal.τ Cert.QDownReferenceIdeal.sig) → Buf (Elt Ideal) ℓ) (g' : Dev Cert.QDownReferenceIdeal.nD → PrngReg), Pre_QDownIdeal m →
    (∀ c : Dev Cert.QDownIdeal.nD,
      m' ((c.tc : Thread Cert.QDownReferenceIdeal.nD Cert.QDownReferenceIdeal.τ).loc Cert.QDownReferenceIdeal.main_arg0) = m ((c.tc : Thread Cert.QDownIdeal.nD Cert.QDownIdeal.τ).loc Cert.QDownIdeal.main_arg0)
      ∧ m' ((c.tc : Thread Cert.QDownReferenceIdeal.nD Cert.QDownReferenceIdeal.τ).loc Cert.QDownReferenceIdeal.main_arg1) = m ((c.tc : Thread Cert.QDownIdeal.nD Cert.QDownIdeal.τ).loc Cert.QDownIdeal.main_arg1)) →
    ∃ (v0 : (c : Dev Cert.QDownIdeal.nD) → Buf (Elt Ideal) ((c.tc : Thread Cert.QDownIdeal.nD Cert.QDownIdeal.τ).loc Cert.QDownIdeal.main_v2)),
      θ_run (Cert.QDownIdeal.defs (F := Ideal)) (onTc (τ := Cert.QDownIdeal.τ) (Cert.QDownIdeal.main (F := Ideal))) ⟨m, fun _ => 0, g⟩ (fun r => ∀ c : Dev Cert.QDownIdeal.nD,
          r.2.mem ((c.tc : Thread Cert.QDownIdeal.nD Cert.QDownIdeal.τ).loc Cert.QDownIdeal.main_v2) = v0 c
          ∧ r.2.mem ((c.tc : Thread Cert.QDownIdeal.nD Cert.QDownIdeal.τ).loc Cert.QDownIdeal.main_arg0) = m ((c.tc : Thread Cert.QDownIdeal.nD Cert.QDownIdeal.τ).loc Cert.QDownIdeal.main_arg0)
          ∧ r.2.mem ((c.tc : Thread Cert.QDownIdeal.nD Cert.QDownIdeal.τ).loc Cert.QDownIdeal.main_arg1) = m ((c.tc : Thread Cert.QDownIdeal.nD Cert.QDownIdeal.τ).loc Cert.QDownIdeal.main_arg1))
      ∧ θ_run (Cert.QDownReferenceIdeal.defs (F := Ideal)) (onTc (τ := Cert.QDownReferenceIdeal.τ) (Cert.QDownReferenceIdeal.main (F := Ideal))) ⟨m', fun _ => 0, g'⟩ (fun r => ∀ c : Dev Cert.QDownReferenceIdeal.nD,
          r.2.mem ((c.tc : Thread Cert.QDownReferenceIdeal.nD Cert.QDownReferenceIdeal.τ).loc Cert.QDownReferenceIdeal.main_v0) = v0 c
          ∧ r.2.mem ((c.tc : Thread Cert.QDownReferenceIdeal.nD Cert.QDownReferenceIdeal.τ).loc Cert.QDownReferenceIdeal.main_arg0) = m' ((c.tc : Thread Cert.QDownReferenceIdeal.nD Cert.QDownReferenceIdeal.τ).loc Cert.QDownReferenceIdeal.main_arg0)
          ∧ r.2.mem ((c.tc : Thread Cert.QDownReferenceIdeal.nD Cert.QDownReferenceIdeal.τ).loc Cert.QDownReferenceIdeal.main_arg1) = m' ((c.tc : Thread Cert.QDownReferenceIdeal.nD Cert.QDownReferenceIdeal.τ).loc Cert.QDownReferenceIdeal.main_arg1))

def preserves_QDownDh_QDownDhIdeal : Prop :=
  True

def algebraic_QDownDhIdeal_QDownDhReferenceIdeal [hQDownDhIdeal : Cert.QDownDhIdeal.Facts] [hQDownDhReferenceIdeal : Cert.QDownDhReferenceIdeal.Facts] : Prop :=
  ∀ (m : (ℓ : Loc Cert.QDownDhIdeal.nD Cert.QDownDhIdeal.τ Cert.QDownDhIdeal.sig) → Buf (Elt Ideal) ℓ) (g : Dev Cert.QDownDhIdeal.nD → PrngReg)
    (m' : (ℓ : Loc Cert.QDownDhReferenceIdeal.nD Cert.QDownDhReferenceIdeal.τ Cert.QDownDhReferenceIdeal.sig) → Buf (Elt Ideal) ℓ) (g' : Dev Cert.QDownDhReferenceIdeal.nD → PrngReg), Pre_QDownDhIdeal m →
    (∀ c : Dev Cert.QDownDhIdeal.nD,
      m' ((c.tc : Thread Cert.QDownDhReferenceIdeal.nD Cert.QDownDhReferenceIdeal.τ).loc Cert.QDownDhReferenceIdeal.main_arg0) = m ((c.tc : Thread Cert.QDownDhIdeal.nD Cert.QDownDhIdeal.τ).loc Cert.QDownDhIdeal.main_arg0)
      ∧ m' ((c.tc : Thread Cert.QDownDhReferenceIdeal.nD Cert.QDownDhReferenceIdeal.τ).loc Cert.QDownDhReferenceIdeal.main_arg1) = m ((c.tc : Thread Cert.QDownDhIdeal.nD Cert.QDownDhIdeal.τ).loc Cert.QDownDhIdeal.main_arg1)
      ∧ m' ((c.tc : Thread Cert.QDownDhReferenceIdeal.nD Cert.QDownDhReferenceIdeal.τ).loc Cert.QDownDhReferenceIdeal.main_arg2) = m ((c.tc : Thread Cert.QDownDhIdeal.nD Cert.QDownDhIdeal.τ).loc Cert.QDownDhIdeal.main_arg2)) →
    ∃ (v0 : (c : Dev Cert.QDownDhIdeal.nD) → Buf (Elt Ideal) ((c.tc : Thread Cert.QDownDhIdeal.nD Cert.QDownDhIdeal.τ).loc Cert.QDownDhIdeal.main_v1)),
      θ_run (Cert.QDownDhIdeal.defs (F := Ideal)) (onTc (τ := Cert.QDownDhIdeal.τ) (Cert.QDownDhIdeal.main (F := Ideal))) ⟨m, fun _ => 0, g⟩ (fun r => ∀ c : Dev Cert.QDownDhIdeal.nD,
          r.2.mem ((c.tc : Thread Cert.QDownDhIdeal.nD Cert.QDownDhIdeal.τ).loc Cert.QDownDhIdeal.main_v1) = v0 c
          ∧ r.2.mem ((c.tc : Thread Cert.QDownDhIdeal.nD Cert.QDownDhIdeal.τ).loc Cert.QDownDhIdeal.main_arg0) = m ((c.tc : Thread Cert.QDownDhIdeal.nD Cert.QDownDhIdeal.τ).loc Cert.QDownDhIdeal.main_arg0)
          ∧ r.2.mem ((c.tc : Thread Cert.QDownDhIdeal.nD Cert.QDownDhIdeal.τ).loc Cert.QDownDhIdeal.main_arg1) = m ((c.tc : Thread Cert.QDownDhIdeal.nD Cert.QDownDhIdeal.τ).loc Cert.QDownDhIdeal.main_arg1)
          ∧ r.2.mem ((c.tc : Thread Cert.QDownDhIdeal.nD Cert.QDownDhIdeal.τ).loc Cert.QDownDhIdeal.main_arg2) = m ((c.tc : Thread Cert.QDownDhIdeal.nD Cert.QDownDhIdeal.τ).loc Cert.QDownDhIdeal.main_arg2))
      ∧ θ_run (Cert.QDownDhReferenceIdeal.defs (F := Ideal)) (onTc (τ := Cert.QDownDhReferenceIdeal.τ) (Cert.QDownDhReferenceIdeal.main (F := Ideal))) ⟨m', fun _ => 0, g'⟩ (fun r => ∀ c : Dev Cert.QDownDhReferenceIdeal.nD,
          r.2.mem ((c.tc : Thread Cert.QDownDhReferenceIdeal.nD Cert.QDownDhReferenceIdeal.τ).loc Cert.QDownDhReferenceIdeal.main_v3) = v0 c
          ∧ r.2.mem ((c.tc : Thread Cert.QDownDhReferenceIdeal.nD Cert.QDownDhReferenceIdeal.τ).loc Cert.QDownDhReferenceIdeal.main_arg0) = m' ((c.tc : Thread Cert.QDownDhReferenceIdeal.nD Cert.QDownDhReferenceIdeal.τ).loc Cert.QDownDhReferenceIdeal.main_arg0)
          ∧ r.2.mem ((c.tc : Thread Cert.QDownDhReferenceIdeal.nD Cert.QDownDhReferenceIdeal.τ).loc Cert.QDownDhReferenceIdeal.main_arg1) = m' ((c.tc : Thread Cert.QDownDhReferenceIdeal.nD Cert.QDownDhReferenceIdeal.τ).loc Cert.QDownDhReferenceIdeal.main_arg1)
          ∧ r.2.mem ((c.tc : Thread Cert.QDownDhReferenceIdeal.nD Cert.QDownDhReferenceIdeal.τ).loc Cert.QDownDhReferenceIdeal.main_arg2) = m' ((c.tc : Thread Cert.QDownDhReferenceIdeal.nD Cert.QDownDhReferenceIdeal.τ).loc Cert.QDownDhReferenceIdeal.main_arg2))

def preserves_QDownDw_QDownDwIdeal : Prop :=
  True

def algebraic_QDownDwIdeal_QDownDwReferenceIdeal [hQDownDwIdeal : Cert.QDownDwIdeal.Facts] [hQDownDwReferenceIdeal : Cert.QDownDwReferenceIdeal.Facts] : Prop :=
  ∀ (m : (ℓ : Loc Cert.QDownDwIdeal.nD Cert.QDownDwIdeal.τ Cert.QDownDwIdeal.sig) → Buf (Elt Ideal) ℓ) (g : Dev Cert.QDownDwIdeal.nD → PrngReg)
    (m' : (ℓ : Loc Cert.QDownDwReferenceIdeal.nD Cert.QDownDwReferenceIdeal.τ Cert.QDownDwReferenceIdeal.sig) → Buf (Elt Ideal) ℓ) (g' : Dev Cert.QDownDwReferenceIdeal.nD → PrngReg), Pre_QDownDwIdeal m →
    (∀ c : Dev Cert.QDownDwIdeal.nD,
      m' ((c.tc : Thread Cert.QDownDwReferenceIdeal.nD Cert.QDownDwReferenceIdeal.τ).loc Cert.QDownDwReferenceIdeal.main_arg0) = m ((c.tc : Thread Cert.QDownDwIdeal.nD Cert.QDownDwIdeal.τ).loc Cert.QDownDwIdeal.main_arg0)
      ∧ m' ((c.tc : Thread Cert.QDownDwReferenceIdeal.nD Cert.QDownDwReferenceIdeal.τ).loc Cert.QDownDwReferenceIdeal.main_arg1) = m ((c.tc : Thread Cert.QDownDwIdeal.nD Cert.QDownDwIdeal.τ).loc Cert.QDownDwIdeal.main_arg1)
      ∧ m' ((c.tc : Thread Cert.QDownDwReferenceIdeal.nD Cert.QDownDwReferenceIdeal.τ).loc Cert.QDownDwReferenceIdeal.main_arg2) = m ((c.tc : Thread Cert.QDownDwIdeal.nD Cert.QDownDwIdeal.τ).loc Cert.QDownDwIdeal.main_arg2)) →
    ∃ (v0 : (c : Dev Cert.QDownDwIdeal.nD) → Buf (Elt Ideal) ((c.tc : Thread Cert.QDownDwIdeal.nD Cert.QDownDwIdeal.τ).loc Cert.QDownDwIdeal.main_v1)),
      θ_run (Cert.QDownDwIdeal.defs (F := Ideal)) (onTc (τ := Cert.QDownDwIdeal.τ) (Cert.QDownDwIdeal.main (F := Ideal))) ⟨m, fun _ => 0, g⟩ (fun r => ∀ c : Dev Cert.QDownDwIdeal.nD,
          r.2.mem ((c.tc : Thread Cert.QDownDwIdeal.nD Cert.QDownDwIdeal.τ).loc Cert.QDownDwIdeal.main_v1) = v0 c
          ∧ r.2.mem ((c.tc : Thread Cert.QDownDwIdeal.nD Cert.QDownDwIdeal.τ).loc Cert.QDownDwIdeal.main_arg0) = m ((c.tc : Thread Cert.QDownDwIdeal.nD Cert.QDownDwIdeal.τ).loc Cert.QDownDwIdeal.main_arg0)
          ∧ r.2.mem ((c.tc : Thread Cert.QDownDwIdeal.nD Cert.QDownDwIdeal.τ).loc Cert.QDownDwIdeal.main_arg1) = m ((c.tc : Thread Cert.QDownDwIdeal.nD Cert.QDownDwIdeal.τ).loc Cert.QDownDwIdeal.main_arg1)
          ∧ r.2.mem ((c.tc : Thread Cert.QDownDwIdeal.nD Cert.QDownDwIdeal.τ).loc Cert.QDownDwIdeal.main_arg2) = m ((c.tc : Thread Cert.QDownDwIdeal.nD Cert.QDownDwIdeal.τ).loc Cert.QDownDwIdeal.main_arg2))
      ∧ θ_run (Cert.QDownDwReferenceIdeal.defs (F := Ideal)) (onTc (τ := Cert.QDownDwReferenceIdeal.τ) (Cert.QDownDwReferenceIdeal.main (F := Ideal))) ⟨m', fun _ => 0, g'⟩ (fun r => ∀ c : Dev Cert.QDownDwReferenceIdeal.nD,
          r.2.mem ((c.tc : Thread Cert.QDownDwReferenceIdeal.nD Cert.QDownDwReferenceIdeal.τ).loc Cert.QDownDwReferenceIdeal.main_v2) = v0 c
          ∧ r.2.mem ((c.tc : Thread Cert.QDownDwReferenceIdeal.nD Cert.QDownDwReferenceIdeal.τ).loc Cert.QDownDwReferenceIdeal.main_arg0) = m' ((c.tc : Thread Cert.QDownDwReferenceIdeal.nD Cert.QDownDwReferenceIdeal.τ).loc Cert.QDownDwReferenceIdeal.main_arg0)
          ∧ r.2.mem ((c.tc : Thread Cert.QDownDwReferenceIdeal.nD Cert.QDownDwReferenceIdeal.τ).loc Cert.QDownDwReferenceIdeal.main_arg1) = m' ((c.tc : Thread Cert.QDownDwReferenceIdeal.nD Cert.QDownDwReferenceIdeal.τ).loc Cert.QDownDwReferenceIdeal.main_arg1)
          ∧ r.2.mem ((c.tc : Thread Cert.QDownDwReferenceIdeal.nD Cert.QDownDwReferenceIdeal.τ).loc Cert.QDownDwReferenceIdeal.main_arg2) = m' ((c.tc : Thread Cert.QDownDwReferenceIdeal.nD Cert.QDownDwReferenceIdeal.τ).loc Cert.QDownDwReferenceIdeal.main_arg2))

def preserves_QUp_QUpIdeal : Prop :=
  True

def algebraic_QUpIdeal_QUpReferenceIdeal [hQUpIdeal : Cert.QUpIdeal.Facts] [hQUpReferenceIdeal : Cert.QUpReferenceIdeal.Facts] : Prop :=
  ∀ (m : (ℓ : Loc Cert.QUpIdeal.nD Cert.QUpIdeal.τ Cert.QUpIdeal.sig) → Buf (Elt Ideal) ℓ) (g : Dev Cert.QUpIdeal.nD → PrngReg)
    (m' : (ℓ : Loc Cert.QUpReferenceIdeal.nD Cert.QUpReferenceIdeal.τ Cert.QUpReferenceIdeal.sig) → Buf (Elt Ideal) ℓ) (g' : Dev Cert.QUpReferenceIdeal.nD → PrngReg), Pre_QUpIdeal m →
    (∀ c : Dev Cert.QUpIdeal.nD,
      m' ((c.tc : Thread Cert.QUpReferenceIdeal.nD Cert.QUpReferenceIdeal.τ).loc Cert.QUpReferenceIdeal.main_arg0) = m ((c.tc : Thread Cert.QUpIdeal.nD Cert.QUpIdeal.τ).loc Cert.QUpIdeal.main_arg0)
      ∧ m' ((c.tc : Thread Cert.QUpReferenceIdeal.nD Cert.QUpReferenceIdeal.τ).loc Cert.QUpReferenceIdeal.main_arg1) = m ((c.tc : Thread Cert.QUpIdeal.nD Cert.QUpIdeal.τ).loc Cert.QUpIdeal.main_arg1)) →
    ∃ (v0 : (c : Dev Cert.QUpIdeal.nD) → Buf (Elt Ideal) ((c.tc : Thread Cert.QUpIdeal.nD Cert.QUpIdeal.τ).loc Cert.QUpIdeal.main_v5)),
      θ_run (Cert.QUpIdeal.defs (F := Ideal)) (onTc (τ := Cert.QUpIdeal.τ) (Cert.QUpIdeal.main (F := Ideal))) ⟨m, fun _ => 0, g⟩ (fun r => ∀ c : Dev Cert.QUpIdeal.nD,
          r.2.mem ((c.tc : Thread Cert.QUpIdeal.nD Cert.QUpIdeal.τ).loc Cert.QUpIdeal.main_v5) = v0 c
          ∧ r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
          ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1))
      ∧ θ_run (Cert.QUpReferenceIdeal.defs (F := Ideal)) (onTc (τ := Cert.QUpReferenceIdeal.τ) (Cert.QUpReferenceIdeal.main (F := Ideal))) ⟨m', fun _ => 0, g'⟩ (fun r => ∀ c : Dev Cert.QUpReferenceIdeal.nD,
          r.2.mem ((c.tc : Thread Cert.QUpReferenceIdeal.nD Cert.QUpReferenceIdeal.τ).loc Cert.QUpReferenceIdeal.main_v3) = v0 c
          ∧ r.2.mem ((c.tc : Thread Cert.QUpReferenceIdeal.nD Cert.QUpReferenceIdeal.τ).loc Cert.QUpReferenceIdeal.main_arg0) = m' ((c.tc : Thread Cert.QUpReferenceIdeal.nD Cert.QUpReferenceIdeal.τ).loc Cert.QUpReferenceIdeal.main_arg0)
          ∧ r.2.mem ((c.tc : Thread Cert.QUpReferenceIdeal.nD Cert.QUpReferenceIdeal.τ).loc Cert.QUpReferenceIdeal.main_arg1) = m' ((c.tc : Thread Cert.QUpReferenceIdeal.nD Cert.QUpReferenceIdeal.τ).loc Cert.QUpReferenceIdeal.main_arg1))

def preserves_QUpDc_QUpDcIdeal : Prop :=
  True

def algebraic_QUpDcIdeal_QUpDcReferenceIdeal [hQUpDcIdeal : Cert.QUpDcIdeal.Facts] [hQUpDcReferenceIdeal : Cert.QUpDcReferenceIdeal.Facts] : Prop :=
  ∀ (m : (ℓ : Loc Cert.QUpDcIdeal.nD Cert.QUpDcIdeal.τ Cert.QUpDcIdeal.sig) → Buf (Elt Ideal) ℓ) (g : Dev Cert.QUpDcIdeal.nD → PrngReg)
    (m' : (ℓ : Loc Cert.QUpDcReferenceIdeal.nD Cert.QUpDcReferenceIdeal.τ Cert.QUpDcReferenceIdeal.sig) → Buf (Elt Ideal) ℓ) (g' : Dev Cert.QUpDcReferenceIdeal.nD → PrngReg), Pre_QUpDcIdeal m →
    (∀ c : Dev Cert.QUpDcIdeal.nD,
      m' ((c.tc : Thread Cert.QUpDcReferenceIdeal.nD Cert.QUpDcReferenceIdeal.τ).loc Cert.QUpDcReferenceIdeal.main_arg0) = m ((c.tc : Thread Cert.QUpDcIdeal.nD Cert.QUpDcIdeal.τ).loc Cert.QUpDcIdeal.main_arg0)
      ∧ m' ((c.tc : Thread Cert.QUpDcReferenceIdeal.nD Cert.QUpDcReferenceIdeal.τ).loc Cert.QUpDcReferenceIdeal.main_arg1) = m ((c.tc : Thread Cert.QUpDcIdeal.nD Cert.QUpDcIdeal.τ).loc Cert.QUpDcIdeal.main_arg1)
      ∧ m' ((c.tc : Thread Cert.QUpDcReferenceIdeal.nD Cert.QUpDcReferenceIdeal.τ).loc Cert.QUpDcReferenceIdeal.main_arg2) = m ((c.tc : Thread Cert.QUpDcIdeal.nD Cert.QUpDcIdeal.τ).loc Cert.QUpDcIdeal.main_arg2)) →
    ∃ (v0 : (c : Dev Cert.QUpDcIdeal.nD) → Buf (Elt Ideal) ((c.tc : Thread Cert.QUpDcIdeal.nD Cert.QUpDcIdeal.τ).loc Cert.QUpDcIdeal.main_v4)),
      θ_run (Cert.QUpDcIdeal.defs (F := Ideal)) (onTc (τ := Cert.QUpDcIdeal.τ) (Cert.QUpDcIdeal.main (F := Ideal))) ⟨m, fun _ => 0, g⟩ (fun r => ∀ c : Dev Cert.QUpDcIdeal.nD,
          r.2.mem ((c.tc : Thread Cert.QUpDcIdeal.nD Cert.QUpDcIdeal.τ).loc Cert.QUpDcIdeal.main_v4) = v0 c
          ∧ r.2.mem ((c.tc : Thread Cert.QUpDcIdeal.nD Cert.QUpDcIdeal.τ).loc Cert.QUpDcIdeal.main_arg0) = m ((c.tc : Thread Cert.QUpDcIdeal.nD Cert.QUpDcIdeal.τ).loc Cert.QUpDcIdeal.main_arg0)
          ∧ r.2.mem ((c.tc : Thread Cert.QUpDcIdeal.nD Cert.QUpDcIdeal.τ).loc Cert.QUpDcIdeal.main_arg1) = m ((c.tc : Thread Cert.QUpDcIdeal.nD Cert.QUpDcIdeal.τ).loc Cert.QUpDcIdeal.main_arg1)
          ∧ r.2.mem ((c.tc : Thread Cert.QUpDcIdeal.nD Cert.QUpDcIdeal.τ).loc Cert.QUpDcIdeal.main_arg2) = m ((c.tc : Thread Cert.QUpDcIdeal.nD Cert.QUpDcIdeal.τ).loc Cert.QUpDcIdeal.main_arg2))
      ∧ θ_run (Cert.QUpDcReferenceIdeal.defs (F := Ideal)) (onTc (τ := Cert.QUpDcReferenceIdeal.τ) (Cert.QUpDcReferenceIdeal.main (F := Ideal))) ⟨m', fun _ => 0, g'⟩ (fun r => ∀ c : Dev Cert.QUpDcReferenceIdeal.nD,
          r.2.mem ((c.tc : Thread Cert.QUpDcReferenceIdeal.nD Cert.QUpDcReferenceIdeal.τ).loc Cert.QUpDcReferenceIdeal.main_v6) = v0 c
          ∧ r.2.mem ((c.tc : Thread Cert.QUpDcReferenceIdeal.nD Cert.QUpDcReferenceIdeal.τ).loc Cert.QUpDcReferenceIdeal.main_arg0) = m' ((c.tc : Thread Cert.QUpDcReferenceIdeal.nD Cert.QUpDcReferenceIdeal.τ).loc Cert.QUpDcReferenceIdeal.main_arg0)
          ∧ r.2.mem ((c.tc : Thread Cert.QUpDcReferenceIdeal.nD Cert.QUpDcReferenceIdeal.τ).loc Cert.QUpDcReferenceIdeal.main_arg1) = m' ((c.tc : Thread Cert.QUpDcReferenceIdeal.nD Cert.QUpDcReferenceIdeal.τ).loc Cert.QUpDcReferenceIdeal.main_arg1)
          ∧ r.2.mem ((c.tc : Thread Cert.QUpDcReferenceIdeal.nD Cert.QUpDcReferenceIdeal.τ).loc Cert.QUpDcReferenceIdeal.main_arg2) = m' ((c.tc : Thread Cert.QUpDcReferenceIdeal.nD Cert.QUpDcReferenceIdeal.τ).loc Cert.QUpDcReferenceIdeal.main_arg2))

def preserves_QUpDw_QUpDwIdeal : Prop :=
  True

def algebraic_QUpDwIdeal_QUpDwReferenceIdeal [hQUpDwIdeal : Cert.QUpDwIdeal.Facts] [hQUpDwReferenceIdeal : Cert.QUpDwReferenceIdeal.Facts] : Prop :=
  ∀ (m : (ℓ : Loc Cert.QUpDwIdeal.nD Cert.QUpDwIdeal.τ Cert.QUpDwIdeal.sig) → Buf (Elt Ideal) ℓ) (g : Dev Cert.QUpDwIdeal.nD → PrngReg)
    (m' : (ℓ : Loc Cert.QUpDwReferenceIdeal.nD Cert.QUpDwReferenceIdeal.τ Cert.QUpDwReferenceIdeal.sig) → Buf (Elt Ideal) ℓ) (g' : Dev Cert.QUpDwReferenceIdeal.nD → PrngReg), Pre_QUpDwIdeal m →
    (∀ c : Dev Cert.QUpDwIdeal.nD,
      m' ((c.tc : Thread Cert.QUpDwReferenceIdeal.nD Cert.QUpDwReferenceIdeal.τ).loc Cert.QUpDwReferenceIdeal.main_arg0) = m ((c.tc : Thread Cert.QUpDwIdeal.nD Cert.QUpDwIdeal.τ).loc Cert.QUpDwIdeal.main_arg0)
      ∧ m' ((c.tc : Thread Cert.QUpDwReferenceIdeal.nD Cert.QUpDwReferenceIdeal.τ).loc Cert.QUpDwReferenceIdeal.main_arg1) = m ((c.tc : Thread Cert.QUpDwIdeal.nD Cert.QUpDwIdeal.τ).loc Cert.QUpDwIdeal.main_arg1)
      ∧ m' ((c.tc : Thread Cert.QUpDwReferenceIdeal.nD Cert.QUpDwReferenceIdeal.τ).loc Cert.QUpDwReferenceIdeal.main_arg2) = m ((c.tc : Thread Cert.QUpDwIdeal.nD Cert.QUpDwIdeal.τ).loc Cert.QUpDwIdeal.main_arg2)) →
    ∃ (v0 : (c : Dev Cert.QUpDwIdeal.nD) → Buf (Elt Ideal) ((c.tc : Thread Cert.QUpDwIdeal.nD Cert.QUpDwIdeal.τ).loc Cert.QUpDwIdeal.main_v1)),
      θ_run (Cert.QUpDwIdeal.defs (F := Ideal)) (onTc (τ := Cert.QUpDwIdeal.τ) (Cert.QUpDwIdeal.main (F := Ideal))) ⟨m, fun _ => 0, g⟩ (fun r => ∀ c : Dev Cert.QUpDwIdeal.nD,
          r.2.mem ((c.tc : Thread Cert.QUpDwIdeal.nD Cert.QUpDwIdeal.τ).loc Cert.QUpDwIdeal.main_v1) = v0 c
          ∧ r.2.mem ((c.tc : Thread Cert.QUpDwIdeal.nD Cert.QUpDwIdeal.τ).loc Cert.QUpDwIdeal.main_arg0) = m ((c.tc : Thread Cert.QUpDwIdeal.nD Cert.QUpDwIdeal.τ).loc Cert.QUpDwIdeal.main_arg0)
          ∧ r.2.mem ((c.tc : Thread Cert.QUpDwIdeal.nD Cert.QUpDwIdeal.τ).loc Cert.QUpDwIdeal.main_arg1) = m ((c.tc : Thread Cert.QUpDwIdeal.nD Cert.QUpDwIdeal.τ).loc Cert.QUpDwIdeal.main_arg1)
          ∧ r.2.mem ((c.tc : Thread Cert.QUpDwIdeal.nD Cert.QUpDwIdeal.τ).loc Cert.QUpDwIdeal.main_arg2) = m ((c.tc : Thread Cert.QUpDwIdeal.nD Cert.QUpDwIdeal.τ).loc Cert.QUpDwIdeal.main_arg2))
      ∧ θ_run (Cert.QUpDwReferenceIdeal.defs (F := Ideal)) (onTc (τ := Cert.QUpDwReferenceIdeal.τ) (Cert.QUpDwReferenceIdeal.main (F := Ideal))) ⟨m', fun _ => 0, g'⟩ (fun r => ∀ c : Dev Cert.QUpDwReferenceIdeal.nD,
          r.2.mem ((c.tc : Thread Cert.QUpDwReferenceIdeal.nD Cert.QUpDwReferenceIdeal.τ).loc Cert.QUpDwReferenceIdeal.main_v5) = v0 c
          ∧ r.2.mem ((c.tc : Thread Cert.QUpDwReferenceIdeal.nD Cert.QUpDwReferenceIdeal.τ).loc Cert.QUpDwReferenceIdeal.main_arg0) = m' ((c.tc : Thread Cert.QUpDwReferenceIdeal.nD Cert.QUpDwReferenceIdeal.τ).loc Cert.QUpDwReferenceIdeal.main_arg0)
          ∧ r.2.mem ((c.tc : Thread Cert.QUpDwReferenceIdeal.nD Cert.QUpDwReferenceIdeal.τ).loc Cert.QUpDwReferenceIdeal.main_arg1) = m' ((c.tc : Thread Cert.QUpDwReferenceIdeal.nD Cert.QUpDwReferenceIdeal.τ).loc Cert.QUpDwReferenceIdeal.main_arg1)
          ∧ r.2.mem ((c.tc : Thread Cert.QUpDwReferenceIdeal.nD Cert.QUpDwReferenceIdeal.τ).loc Cert.QUpDwReferenceIdeal.main_arg2) = m' ((c.tc : Thread Cert.QUpDwReferenceIdeal.nD Cert.QUpDwReferenceIdeal.τ).loc Cert.QUpDwReferenceIdeal.main_arg2))

def preserves_KvDown_KvDownIdeal : Prop :=
  True

def algebraic_KvDownIdeal_KvDownReferenceIdeal [hKvDownIdeal : Cert.KvDownIdeal.Facts] [hKvDownReferenceIdeal : Cert.KvDownReferenceIdeal.Facts] : Prop :=
  ∀ (m : (ℓ : Loc Cert.KvDownIdeal.nD Cert.KvDownIdeal.τ Cert.KvDownIdeal.sig) → Buf (Elt Ideal) ℓ) (g : Dev Cert.KvDownIdeal.nD → PrngReg)
    (m' : (ℓ : Loc Cert.KvDownReferenceIdeal.nD Cert.KvDownReferenceIdeal.τ Cert.KvDownReferenceIdeal.sig) → Buf (Elt Ideal) ℓ) (g' : Dev Cert.KvDownReferenceIdeal.nD → PrngReg), Pre_KvDownIdeal m →
    (∀ c : Dev Cert.KvDownIdeal.nD,
      m' ((c.tc : Thread Cert.KvDownReferenceIdeal.nD Cert.KvDownReferenceIdeal.τ).loc Cert.KvDownReferenceIdeal.main_arg0) = m ((c.tc : Thread Cert.KvDownIdeal.nD Cert.KvDownIdeal.τ).loc Cert.KvDownIdeal.main_arg0)
      ∧ m' ((c.tc : Thread Cert.KvDownReferenceIdeal.nD Cert.KvDownReferenceIdeal.τ).loc Cert.KvDownReferenceIdeal.main_arg1) = m ((c.tc : Thread Cert.KvDownIdeal.nD Cert.KvDownIdeal.τ).loc Cert.KvDownIdeal.main_arg1)) →
    ∃ (v0 : (c : Dev Cert.KvDownIdeal.nD) → Buf (Elt Ideal) ((c.tc : Thread Cert.KvDownIdeal.nD Cert.KvDownIdeal.τ).loc Cert.KvDownIdeal.main_v3)),
      θ_run (Cert.KvDownIdeal.defs (F := Ideal)) (onTc (τ := Cert.KvDownIdeal.τ) (Cert.KvDownIdeal.main (F := Ideal))) ⟨m, fun _ => 0, g⟩ (fun r => ∀ c : Dev Cert.KvDownIdeal.nD,
          r.2.mem ((c.tc : Thread Cert.KvDownIdeal.nD Cert.KvDownIdeal.τ).loc Cert.KvDownIdeal.main_v3) = v0 c
          ∧ r.2.mem ((c.tc : Thread Cert.KvDownIdeal.nD Cert.KvDownIdeal.τ).loc Cert.KvDownIdeal.main_arg0) = m ((c.tc : Thread Cert.KvDownIdeal.nD Cert.KvDownIdeal.τ).loc Cert.KvDownIdeal.main_arg0)
          ∧ r.2.mem ((c.tc : Thread Cert.KvDownIdeal.nD Cert.KvDownIdeal.τ).loc Cert.KvDownIdeal.main_arg1) = m ((c.tc : Thread Cert.KvDownIdeal.nD Cert.KvDownIdeal.τ).loc Cert.KvDownIdeal.main_arg1))
      ∧ θ_run (Cert.KvDownReferenceIdeal.defs (F := Ideal)) (onTc (τ := Cert.KvDownReferenceIdeal.τ) (Cert.KvDownReferenceIdeal.main (F := Ideal))) ⟨m', fun _ => 0, g'⟩ (fun r => ∀ c : Dev Cert.KvDownReferenceIdeal.nD,
          r.2.mem ((c.tc : Thread Cert.KvDownReferenceIdeal.nD Cert.KvDownReferenceIdeal.τ).loc Cert.KvDownReferenceIdeal.main_v1) = v0 c
          ∧ r.2.mem ((c.tc : Thread Cert.KvDownReferenceIdeal.nD Cert.KvDownReferenceIdeal.τ).loc Cert.KvDownReferenceIdeal.main_arg0) = m' ((c.tc : Thread Cert.KvDownReferenceIdeal.nD Cert.KvDownReferenceIdeal.τ).loc Cert.KvDownReferenceIdeal.main_arg0)
          ∧ r.2.mem ((c.tc : Thread Cert.KvDownReferenceIdeal.nD Cert.KvDownReferenceIdeal.τ).loc Cert.KvDownReferenceIdeal.main_arg1) = m' ((c.tc : Thread Cert.KvDownReferenceIdeal.nD Cert.KvDownReferenceIdeal.τ).loc Cert.KvDownReferenceIdeal.main_arg1))

def preserves_KvDownDh_KvDownDhIdeal : Prop :=
  True

def algebraic_KvDownDhIdeal_KvDownDhReferenceIdeal [hKvDownDhIdeal : Cert.KvDownDhIdeal.Facts] [hKvDownDhReferenceIdeal : Cert.KvDownDhReferenceIdeal.Facts] : Prop :=
  ∀ (m : (ℓ : Loc Cert.KvDownDhIdeal.nD Cert.KvDownDhIdeal.τ Cert.KvDownDhIdeal.sig) → Buf (Elt Ideal) ℓ) (g : Dev Cert.KvDownDhIdeal.nD → PrngReg)
    (m' : (ℓ : Loc Cert.KvDownDhReferenceIdeal.nD Cert.KvDownDhReferenceIdeal.τ Cert.KvDownDhReferenceIdeal.sig) → Buf (Elt Ideal) ℓ) (g' : Dev Cert.KvDownDhReferenceIdeal.nD → PrngReg), Pre_KvDownDhIdeal m →
    (∀ c : Dev Cert.KvDownDhIdeal.nD,
      m' ((c.tc : Thread Cert.KvDownDhReferenceIdeal.nD Cert.KvDownDhReferenceIdeal.τ).loc Cert.KvDownDhReferenceIdeal.main_arg0) = m ((c.tc : Thread Cert.KvDownDhIdeal.nD Cert.KvDownDhIdeal.τ).loc Cert.KvDownDhIdeal.main_arg0)
      ∧ m' ((c.tc : Thread Cert.KvDownDhReferenceIdeal.nD Cert.KvDownDhReferenceIdeal.τ).loc Cert.KvDownDhReferenceIdeal.main_arg1) = m ((c.tc : Thread Cert.KvDownDhIdeal.nD Cert.KvDownDhIdeal.τ).loc Cert.KvDownDhIdeal.main_arg1)
      ∧ m' ((c.tc : Thread Cert.KvDownDhReferenceIdeal.nD Cert.KvDownDhReferenceIdeal.τ).loc Cert.KvDownDhReferenceIdeal.main_arg2) = m ((c.tc : Thread Cert.KvDownDhIdeal.nD Cert.KvDownDhIdeal.τ).loc Cert.KvDownDhIdeal.main_arg2)) →
    ∃ (v0 : (c : Dev Cert.KvDownDhIdeal.nD) → Buf (Elt Ideal) ((c.tc : Thread Cert.KvDownDhIdeal.nD Cert.KvDownDhIdeal.τ).loc Cert.KvDownDhIdeal.main_v2)),
      θ_run (Cert.KvDownDhIdeal.defs (F := Ideal)) (onTc (τ := Cert.KvDownDhIdeal.τ) (Cert.KvDownDhIdeal.main (F := Ideal))) ⟨m, fun _ => 0, g⟩ (fun r => ∀ c : Dev Cert.KvDownDhIdeal.nD,
          r.2.mem ((c.tc : Thread Cert.KvDownDhIdeal.nD Cert.KvDownDhIdeal.τ).loc Cert.KvDownDhIdeal.main_v2) = v0 c
          ∧ r.2.mem ((c.tc : Thread Cert.KvDownDhIdeal.nD Cert.KvDownDhIdeal.τ).loc Cert.KvDownDhIdeal.main_arg0) = m ((c.tc : Thread Cert.KvDownDhIdeal.nD Cert.KvDownDhIdeal.τ).loc Cert.KvDownDhIdeal.main_arg0)
          ∧ r.2.mem ((c.tc : Thread Cert.KvDownDhIdeal.nD Cert.KvDownDhIdeal.τ).loc Cert.KvDownDhIdeal.main_arg1) = m ((c.tc : Thread Cert.KvDownDhIdeal.nD Cert.KvDownDhIdeal.τ).loc Cert.KvDownDhIdeal.main_arg1)
          ∧ r.2.mem ((c.tc : Thread Cert.KvDownDhIdeal.nD Cert.KvDownDhIdeal.τ).loc Cert.KvDownDhIdeal.main_arg2) = m ((c.tc : Thread Cert.KvDownDhIdeal.nD Cert.KvDownDhIdeal.τ).loc Cert.KvDownDhIdeal.main_arg2))
      ∧ θ_run (Cert.KvDownDhReferenceIdeal.defs (F := Ideal)) (onTc (τ := Cert.KvDownDhReferenceIdeal.τ) (Cert.KvDownDhReferenceIdeal.main (F := Ideal))) ⟨m', fun _ => 0, g'⟩ (fun r => ∀ c : Dev Cert.KvDownDhReferenceIdeal.nD,
          r.2.mem ((c.tc : Thread Cert.KvDownDhReferenceIdeal.nD Cert.KvDownDhReferenceIdeal.τ).loc Cert.KvDownDhReferenceIdeal.main_v4) = v0 c
          ∧ r.2.mem ((c.tc : Thread Cert.KvDownDhReferenceIdeal.nD Cert.KvDownDhReferenceIdeal.τ).loc Cert.KvDownDhReferenceIdeal.main_arg0) = m' ((c.tc : Thread Cert.KvDownDhReferenceIdeal.nD Cert.KvDownDhReferenceIdeal.τ).loc Cert.KvDownDhReferenceIdeal.main_arg0)
          ∧ r.2.mem ((c.tc : Thread Cert.KvDownDhReferenceIdeal.nD Cert.KvDownDhReferenceIdeal.τ).loc Cert.KvDownDhReferenceIdeal.main_arg1) = m' ((c.tc : Thread Cert.KvDownDhReferenceIdeal.nD Cert.KvDownDhReferenceIdeal.τ).loc Cert.KvDownDhReferenceIdeal.main_arg1)
          ∧ r.2.mem ((c.tc : Thread Cert.KvDownDhReferenceIdeal.nD Cert.KvDownDhReferenceIdeal.τ).loc Cert.KvDownDhReferenceIdeal.main_arg2) = m' ((c.tc : Thread Cert.KvDownDhReferenceIdeal.nD Cert.KvDownDhReferenceIdeal.τ).loc Cert.KvDownDhReferenceIdeal.main_arg2))

def preserves_KvDownDw_KvDownDwIdeal : Prop :=
  True

def algebraic_KvDownDwIdeal_KvDownDwReferenceIdeal [hKvDownDwIdeal : Cert.KvDownDwIdeal.Facts] [hKvDownDwReferenceIdeal : Cert.KvDownDwReferenceIdeal.Facts] : Prop :=
  ∀ (m : (ℓ : Loc Cert.KvDownDwIdeal.nD Cert.KvDownDwIdeal.τ Cert.KvDownDwIdeal.sig) → Buf (Elt Ideal) ℓ) (g : Dev Cert.KvDownDwIdeal.nD → PrngReg)
    (m' : (ℓ : Loc Cert.KvDownDwReferenceIdeal.nD Cert.KvDownDwReferenceIdeal.τ Cert.KvDownDwReferenceIdeal.sig) → Buf (Elt Ideal) ℓ) (g' : Dev Cert.KvDownDwReferenceIdeal.nD → PrngReg), Pre_KvDownDwIdeal m →
    (∀ c : Dev Cert.KvDownDwIdeal.nD,
      m' ((c.tc : Thread Cert.KvDownDwReferenceIdeal.nD Cert.KvDownDwReferenceIdeal.τ).loc Cert.KvDownDwReferenceIdeal.main_arg0) = m ((c.tc : Thread Cert.KvDownDwIdeal.nD Cert.KvDownDwIdeal.τ).loc Cert.KvDownDwIdeal.main_arg0)
      ∧ m' ((c.tc : Thread Cert.KvDownDwReferenceIdeal.nD Cert.KvDownDwReferenceIdeal.τ).loc Cert.KvDownDwReferenceIdeal.main_arg1) = m ((c.tc : Thread Cert.KvDownDwIdeal.nD Cert.KvDownDwIdeal.τ).loc Cert.KvDownDwIdeal.main_arg1)
      ∧ m' ((c.tc : Thread Cert.KvDownDwReferenceIdeal.nD Cert.KvDownDwReferenceIdeal.τ).loc Cert.KvDownDwReferenceIdeal.main_arg2) = m ((c.tc : Thread Cert.KvDownDwIdeal.nD Cert.KvDownDwIdeal.τ).loc Cert.KvDownDwIdeal.main_arg2)) →
    ∃ (v0 : (c : Dev Cert.KvDownDwIdeal.nD) → Buf (Elt Ideal) ((c.tc : Thread Cert.KvDownDwIdeal.nD Cert.KvDownDwIdeal.τ).loc Cert.KvDownDwIdeal.main_v1)),
      θ_run (Cert.KvDownDwIdeal.defs (F := Ideal)) (onTc (τ := Cert.KvDownDwIdeal.τ) (Cert.KvDownDwIdeal.main (F := Ideal))) ⟨m, fun _ => 0, g⟩ (fun r => ∀ c : Dev Cert.KvDownDwIdeal.nD,
          r.2.mem ((c.tc : Thread Cert.KvDownDwIdeal.nD Cert.KvDownDwIdeal.τ).loc Cert.KvDownDwIdeal.main_v1) = v0 c
          ∧ r.2.mem ((c.tc : Thread Cert.KvDownDwIdeal.nD Cert.KvDownDwIdeal.τ).loc Cert.KvDownDwIdeal.main_arg0) = m ((c.tc : Thread Cert.KvDownDwIdeal.nD Cert.KvDownDwIdeal.τ).loc Cert.KvDownDwIdeal.main_arg0)
          ∧ r.2.mem ((c.tc : Thread Cert.KvDownDwIdeal.nD Cert.KvDownDwIdeal.τ).loc Cert.KvDownDwIdeal.main_arg1) = m ((c.tc : Thread Cert.KvDownDwIdeal.nD Cert.KvDownDwIdeal.τ).loc Cert.KvDownDwIdeal.main_arg1)
          ∧ r.2.mem ((c.tc : Thread Cert.KvDownDwIdeal.nD Cert.KvDownDwIdeal.τ).loc Cert.KvDownDwIdeal.main_arg2) = m ((c.tc : Thread Cert.KvDownDwIdeal.nD Cert.KvDownDwIdeal.τ).loc Cert.KvDownDwIdeal.main_arg2))
      ∧ θ_run (Cert.KvDownDwReferenceIdeal.defs (F := Ideal)) (onTc (τ := Cert.KvDownDwReferenceIdeal.τ) (Cert.KvDownDwReferenceIdeal.main (F := Ideal))) ⟨m', fun _ => 0, g'⟩ (fun r => ∀ c : Dev Cert.KvDownDwReferenceIdeal.nD,
          r.2.mem ((c.tc : Thread Cert.KvDownDwReferenceIdeal.nD Cert.KvDownDwReferenceIdeal.τ).loc Cert.KvDownDwReferenceIdeal.main_v3) = v0 c
          ∧ r.2.mem ((c.tc : Thread Cert.KvDownDwReferenceIdeal.nD Cert.KvDownDwReferenceIdeal.τ).loc Cert.KvDownDwReferenceIdeal.main_arg0) = m' ((c.tc : Thread Cert.KvDownDwReferenceIdeal.nD Cert.KvDownDwReferenceIdeal.τ).loc Cert.KvDownDwReferenceIdeal.main_arg0)
          ∧ r.2.mem ((c.tc : Thread Cert.KvDownDwReferenceIdeal.nD Cert.KvDownDwReferenceIdeal.τ).loc Cert.KvDownDwReferenceIdeal.main_arg1) = m' ((c.tc : Thread Cert.KvDownDwReferenceIdeal.nD Cert.KvDownDwReferenceIdeal.τ).loc Cert.KvDownDwReferenceIdeal.main_arg1)
          ∧ r.2.mem ((c.tc : Thread Cert.KvDownDwReferenceIdeal.nD Cert.KvDownDwReferenceIdeal.τ).loc Cert.KvDownDwReferenceIdeal.main_arg2) = m' ((c.tc : Thread Cert.KvDownDwReferenceIdeal.nD Cert.KvDownDwReferenceIdeal.τ).loc Cert.KvDownDwReferenceIdeal.main_arg2))

def preserves_KUp_KUpIdeal : Prop :=
  True

def algebraic_KUpIdeal_KUpReferenceIdeal [hKUpIdeal : Cert.KUpIdeal.Facts] [hKUpReferenceIdeal : Cert.KUpReferenceIdeal.Facts] : Prop :=
  ∀ (m : (ℓ : Loc Cert.KUpIdeal.nD Cert.KUpIdeal.τ Cert.KUpIdeal.sig) → Buf (Elt Ideal) ℓ) (g : Dev Cert.KUpIdeal.nD → PrngReg)
    (m' : (ℓ : Loc Cert.KUpReferenceIdeal.nD Cert.KUpReferenceIdeal.τ Cert.KUpReferenceIdeal.sig) → Buf (Elt Ideal) ℓ) (g' : Dev Cert.KUpReferenceIdeal.nD → PrngReg), Pre_KUpIdeal m →
    (∀ c : Dev Cert.KUpIdeal.nD,
      m' ((c.tc : Thread Cert.KUpReferenceIdeal.nD Cert.KUpReferenceIdeal.τ).loc Cert.KUpReferenceIdeal.main_arg0) = m ((c.tc : Thread Cert.KUpIdeal.nD Cert.KUpIdeal.τ).loc Cert.KUpIdeal.main_arg0)
      ∧ m' ((c.tc : Thread Cert.KUpReferenceIdeal.nD Cert.KUpReferenceIdeal.τ).loc Cert.KUpReferenceIdeal.main_arg1) = m ((c.tc : Thread Cert.KUpIdeal.nD Cert.KUpIdeal.τ).loc Cert.KUpIdeal.main_arg1)) →
    ∃ (v0 : (c : Dev Cert.KUpIdeal.nD) → Buf (Elt Ideal) ((c.tc : Thread Cert.KUpIdeal.nD Cert.KUpIdeal.τ).loc Cert.KUpIdeal.main_v2)),
      θ_run (Cert.KUpIdeal.defs (F := Ideal)) (onTc (τ := Cert.KUpIdeal.τ) (Cert.KUpIdeal.main (F := Ideal))) ⟨m, fun _ => 0, g⟩ (fun r => ∀ c : Dev Cert.KUpIdeal.nD,
          r.2.mem ((c.tc : Thread Cert.KUpIdeal.nD Cert.KUpIdeal.τ).loc Cert.KUpIdeal.main_v2) = v0 c
          ∧ r.2.mem ((c.tc : Thread Cert.KUpIdeal.nD Cert.KUpIdeal.τ).loc Cert.KUpIdeal.main_arg0) = m ((c.tc : Thread Cert.KUpIdeal.nD Cert.KUpIdeal.τ).loc Cert.KUpIdeal.main_arg0)
          ∧ r.2.mem ((c.tc : Thread Cert.KUpIdeal.nD Cert.KUpIdeal.τ).loc Cert.KUpIdeal.main_arg1) = m ((c.tc : Thread Cert.KUpIdeal.nD Cert.KUpIdeal.τ).loc Cert.KUpIdeal.main_arg1))
      ∧ θ_run (Cert.KUpReferenceIdeal.defs (F := Ideal)) (onTc (τ := Cert.KUpReferenceIdeal.τ) (Cert.KUpReferenceIdeal.main (F := Ideal))) ⟨m', fun _ => 0, g'⟩ (fun r => ∀ c : Dev Cert.KUpReferenceIdeal.nD,
          r.2.mem ((c.tc : Thread Cert.KUpReferenceIdeal.nD Cert.KUpReferenceIdeal.τ).loc Cert.KUpReferenceIdeal.main_v0) = v0 c
          ∧ r.2.mem ((c.tc : Thread Cert.KUpReferenceIdeal.nD Cert.KUpReferenceIdeal.τ).loc Cert.KUpReferenceIdeal.main_arg0) = m' ((c.tc : Thread Cert.KUpReferenceIdeal.nD Cert.KUpReferenceIdeal.τ).loc Cert.KUpReferenceIdeal.main_arg0)
          ∧ r.2.mem ((c.tc : Thread Cert.KUpReferenceIdeal.nD Cert.KUpReferenceIdeal.τ).loc Cert.KUpReferenceIdeal.main_arg1) = m' ((c.tc : Thread Cert.KUpReferenceIdeal.nD Cert.KUpReferenceIdeal.τ).loc Cert.KUpReferenceIdeal.main_arg1))

def preserves_KUpDc_KUpDcIdeal : Prop :=
  True

def algebraic_KUpDcIdeal_KUpDcReferenceIdeal [hKUpDcIdeal : Cert.KUpDcIdeal.Facts] [hKUpDcReferenceIdeal : Cert.KUpDcReferenceIdeal.Facts] : Prop :=
  ∀ (m : (ℓ : Loc Cert.KUpDcIdeal.nD Cert.KUpDcIdeal.τ Cert.KUpDcIdeal.sig) → Buf (Elt Ideal) ℓ) (g : Dev Cert.KUpDcIdeal.nD → PrngReg)
    (m' : (ℓ : Loc Cert.KUpDcReferenceIdeal.nD Cert.KUpDcReferenceIdeal.τ Cert.KUpDcReferenceIdeal.sig) → Buf (Elt Ideal) ℓ) (g' : Dev Cert.KUpDcReferenceIdeal.nD → PrngReg), Pre_KUpDcIdeal m →
    (∀ c : Dev Cert.KUpDcIdeal.nD,
      m' ((c.tc : Thread Cert.KUpDcReferenceIdeal.nD Cert.KUpDcReferenceIdeal.τ).loc Cert.KUpDcReferenceIdeal.main_arg0) = m ((c.tc : Thread Cert.KUpDcIdeal.nD Cert.KUpDcIdeal.τ).loc Cert.KUpDcIdeal.main_arg0)
      ∧ m' ((c.tc : Thread Cert.KUpDcReferenceIdeal.nD Cert.KUpDcReferenceIdeal.τ).loc Cert.KUpDcReferenceIdeal.main_arg1) = m ((c.tc : Thread Cert.KUpDcIdeal.nD Cert.KUpDcIdeal.τ).loc Cert.KUpDcIdeal.main_arg1)
      ∧ m' ((c.tc : Thread Cert.KUpDcReferenceIdeal.nD Cert.KUpDcReferenceIdeal.τ).loc Cert.KUpDcReferenceIdeal.main_arg2) = m ((c.tc : Thread Cert.KUpDcIdeal.nD Cert.KUpDcIdeal.τ).loc Cert.KUpDcIdeal.main_arg2)
      ∧ m' ((c.tc : Thread Cert.KUpDcReferenceIdeal.nD Cert.KUpDcReferenceIdeal.τ).loc Cert.KUpDcReferenceIdeal.main_arg3) = m ((c.tc : Thread Cert.KUpDcIdeal.nD Cert.KUpDcIdeal.τ).loc Cert.KUpDcIdeal.main_arg3)) →
    ∃ (v0 : (c : Dev Cert.KUpDcIdeal.nD) → Buf (Elt Ideal) ((c.tc : Thread Cert.KUpDcIdeal.nD Cert.KUpDcIdeal.τ).loc Cert.KUpDcIdeal.main_v1)),
      θ_run (Cert.KUpDcIdeal.defs (F := Ideal)) (onTc (τ := Cert.KUpDcIdeal.τ) (Cert.KUpDcIdeal.main (F := Ideal))) ⟨m, fun _ => 0, g⟩ (fun r => ∀ c : Dev Cert.KUpDcIdeal.nD,
          r.2.mem ((c.tc : Thread Cert.KUpDcIdeal.nD Cert.KUpDcIdeal.τ).loc Cert.KUpDcIdeal.main_v1) = v0 c
          ∧ r.2.mem ((c.tc : Thread Cert.KUpDcIdeal.nD Cert.KUpDcIdeal.τ).loc Cert.KUpDcIdeal.main_arg0) = m ((c.tc : Thread Cert.KUpDcIdeal.nD Cert.KUpDcIdeal.τ).loc Cert.KUpDcIdeal.main_arg0)
          ∧ r.2.mem ((c.tc : Thread Cert.KUpDcIdeal.nD Cert.KUpDcIdeal.τ).loc Cert.KUpDcIdeal.main_arg1) = m ((c.tc : Thread Cert.KUpDcIdeal.nD Cert.KUpDcIdeal.τ).loc Cert.KUpDcIdeal.main_arg1)
          ∧ r.2.mem ((c.tc : Thread Cert.KUpDcIdeal.nD Cert.KUpDcIdeal.τ).loc Cert.KUpDcIdeal.main_arg2) = m ((c.tc : Thread Cert.KUpDcIdeal.nD Cert.KUpDcIdeal.τ).loc Cert.KUpDcIdeal.main_arg2)
          ∧ r.2.mem ((c.tc : Thread Cert.KUpDcIdeal.nD Cert.KUpDcIdeal.τ).loc Cert.KUpDcIdeal.main_arg3) = m ((c.tc : Thread Cert.KUpDcIdeal.nD Cert.KUpDcIdeal.τ).loc Cert.KUpDcIdeal.main_arg3))
      ∧ θ_run (Cert.KUpDcReferenceIdeal.defs (F := Ideal)) (onTc (τ := Cert.KUpDcReferenceIdeal.τ) (Cert.KUpDcReferenceIdeal.main (F := Ideal))) ⟨m', fun _ => 0, g'⟩ (fun r => ∀ c : Dev Cert.KUpDcReferenceIdeal.nD,
          r.2.mem ((c.tc : Thread Cert.KUpDcReferenceIdeal.nD Cert.KUpDcReferenceIdeal.τ).loc Cert.KUpDcReferenceIdeal.main_v2) = v0 c
          ∧ r.2.mem ((c.tc : Thread Cert.KUpDcReferenceIdeal.nD Cert.KUpDcReferenceIdeal.τ).loc Cert.KUpDcReferenceIdeal.main_arg0) = m' ((c.tc : Thread Cert.KUpDcReferenceIdeal.nD Cert.KUpDcReferenceIdeal.τ).loc Cert.KUpDcReferenceIdeal.main_arg0)
          ∧ r.2.mem ((c.tc : Thread Cert.KUpDcReferenceIdeal.nD Cert.KUpDcReferenceIdeal.τ).loc Cert.KUpDcReferenceIdeal.main_arg1) = m' ((c.tc : Thread Cert.KUpDcReferenceIdeal.nD Cert.KUpDcReferenceIdeal.τ).loc Cert.KUpDcReferenceIdeal.main_arg1)
          ∧ r.2.mem ((c.tc : Thread Cert.KUpDcReferenceIdeal.nD Cert.KUpDcReferenceIdeal.τ).loc Cert.KUpDcReferenceIdeal.main_arg2) = m' ((c.tc : Thread Cert.KUpDcReferenceIdeal.nD Cert.KUpDcReferenceIdeal.τ).loc Cert.KUpDcReferenceIdeal.main_arg2)
          ∧ r.2.mem ((c.tc : Thread Cert.KUpDcReferenceIdeal.nD Cert.KUpDcReferenceIdeal.τ).loc Cert.KUpDcReferenceIdeal.main_arg3) = m' ((c.tc : Thread Cert.KUpDcReferenceIdeal.nD Cert.KUpDcReferenceIdeal.τ).loc Cert.KUpDcReferenceIdeal.main_arg3))

def preserves_KUpDw_KUpDwIdeal : Prop :=
  True

def algebraic_KUpDwIdeal_KUpDwReferenceIdeal [hKUpDwIdeal : Cert.KUpDwIdeal.Facts] [hKUpDwReferenceIdeal : Cert.KUpDwReferenceIdeal.Facts] : Prop :=
  ∀ (m : (ℓ : Loc Cert.KUpDwIdeal.nD Cert.KUpDwIdeal.τ Cert.KUpDwIdeal.sig) → Buf (Elt Ideal) ℓ) (g : Dev Cert.KUpDwIdeal.nD → PrngReg)
    (m' : (ℓ : Loc Cert.KUpDwReferenceIdeal.nD Cert.KUpDwReferenceIdeal.τ Cert.KUpDwReferenceIdeal.sig) → Buf (Elt Ideal) ℓ) (g' : Dev Cert.KUpDwReferenceIdeal.nD → PrngReg), Pre_KUpDwIdeal m →
    (∀ c : Dev Cert.KUpDwIdeal.nD,
      m' ((c.tc : Thread Cert.KUpDwReferenceIdeal.nD Cert.KUpDwReferenceIdeal.τ).loc Cert.KUpDwReferenceIdeal.main_arg0) = m ((c.tc : Thread Cert.KUpDwIdeal.nD Cert.KUpDwIdeal.τ).loc Cert.KUpDwIdeal.main_arg0)
      ∧ m' ((c.tc : Thread Cert.KUpDwReferenceIdeal.nD Cert.KUpDwReferenceIdeal.τ).loc Cert.KUpDwReferenceIdeal.main_arg1) = m ((c.tc : Thread Cert.KUpDwIdeal.nD Cert.KUpDwIdeal.τ).loc Cert.KUpDwIdeal.main_arg1)
      ∧ m' ((c.tc : Thread Cert.KUpDwReferenceIdeal.nD Cert.KUpDwReferenceIdeal.τ).loc Cert.KUpDwReferenceIdeal.main_arg2) = m ((c.tc : Thread Cert.KUpDwIdeal.nD Cert.KUpDwIdeal.τ).loc Cert.KUpDwIdeal.main_arg2)) →
    ∃ (v0 : (c : Dev Cert.KUpDwIdeal.nD) → Buf (Elt Ideal) ((c.tc : Thread Cert.KUpDwIdeal.nD Cert.KUpDwIdeal.τ).loc Cert.KUpDwIdeal.main_v1)),
      θ_run (Cert.KUpDwIdeal.defs (F := Ideal)) (onTc (τ := Cert.KUpDwIdeal.τ) (Cert.KUpDwIdeal.main (F := Ideal))) ⟨m, fun _ => 0, g⟩ (fun r => ∀ c : Dev Cert.KUpDwIdeal.nD,
          r.2.mem ((c.tc : Thread Cert.KUpDwIdeal.nD Cert.KUpDwIdeal.τ).loc Cert.KUpDwIdeal.main_v1) = v0 c
          ∧ r.2.mem ((c.tc : Thread Cert.KUpDwIdeal.nD Cert.KUpDwIdeal.τ).loc Cert.KUpDwIdeal.main_arg0) = m ((c.tc : Thread Cert.KUpDwIdeal.nD Cert.KUpDwIdeal.τ).loc Cert.KUpDwIdeal.main_arg0)
          ∧ r.2.mem ((c.tc : Thread Cert.KUpDwIdeal.nD Cert.KUpDwIdeal.τ).loc Cert.KUpDwIdeal.main_arg1) = m ((c.tc : Thread Cert.KUpDwIdeal.nD Cert.KUpDwIdeal.τ).loc Cert.KUpDwIdeal.main_arg1)
          ∧ r.2.mem ((c.tc : Thread Cert.KUpDwIdeal.nD Cert.KUpDwIdeal.τ).loc Cert.KUpDwIdeal.main_arg2) = m ((c.tc : Thread Cert.KUpDwIdeal.nD Cert.KUpDwIdeal.τ).loc Cert.KUpDwIdeal.main_arg2))
      ∧ θ_run (Cert.KUpDwReferenceIdeal.defs (F := Ideal)) (onTc (τ := Cert.KUpDwReferenceIdeal.τ) (Cert.KUpDwReferenceIdeal.main (F := Ideal))) ⟨m', fun _ => 0, g'⟩ (fun r => ∀ c : Dev Cert.KUpDwReferenceIdeal.nD,
          r.2.mem ((c.tc : Thread Cert.KUpDwReferenceIdeal.nD Cert.KUpDwReferenceIdeal.τ).loc Cert.KUpDwReferenceIdeal.main_v2) = v0 c
          ∧ r.2.mem ((c.tc : Thread Cert.KUpDwReferenceIdeal.nD Cert.KUpDwReferenceIdeal.τ).loc Cert.KUpDwReferenceIdeal.main_arg0) = m' ((c.tc : Thread Cert.KUpDwReferenceIdeal.nD Cert.KUpDwReferenceIdeal.τ).loc Cert.KUpDwReferenceIdeal.main_arg0)
          ∧ r.2.mem ((c.tc : Thread Cert.KUpDwReferenceIdeal.nD Cert.KUpDwReferenceIdeal.τ).loc Cert.KUpDwReferenceIdeal.main_arg1) = m' ((c.tc : Thread Cert.KUpDwReferenceIdeal.nD Cert.KUpDwReferenceIdeal.τ).loc Cert.KUpDwReferenceIdeal.main_arg1)
          ∧ r.2.mem ((c.tc : Thread Cert.KUpDwReferenceIdeal.nD Cert.KUpDwReferenceIdeal.τ).loc Cert.KUpDwReferenceIdeal.main_arg2) = m' ((c.tc : Thread Cert.KUpDwReferenceIdeal.nD Cert.KUpDwReferenceIdeal.τ).loc Cert.KUpDwReferenceIdeal.main_arg2))

def preserves_VUp_VUpIdeal : Prop :=
  True

def algebraic_VUpIdeal_VUpReferenceIdeal [hVUpIdeal : Cert.VUpIdeal.Facts] [hVUpReferenceIdeal : Cert.VUpReferenceIdeal.Facts] : Prop :=
  ∀ (m : (ℓ : Loc Cert.VUpIdeal.nD Cert.VUpIdeal.τ Cert.VUpIdeal.sig) → Buf (Elt Ideal) ℓ) (g : Dev Cert.VUpIdeal.nD → PrngReg)
    (m' : (ℓ : Loc Cert.VUpReferenceIdeal.nD Cert.VUpReferenceIdeal.τ Cert.VUpReferenceIdeal.sig) → Buf (Elt Ideal) ℓ) (g' : Dev Cert.VUpReferenceIdeal.nD → PrngReg), Pre_VUpIdeal m →
    (∀ c : Dev Cert.VUpIdeal.nD,
      m' ((c.tc : Thread Cert.VUpReferenceIdeal.nD Cert.VUpReferenceIdeal.τ).loc Cert.VUpReferenceIdeal.main_arg0) = m ((c.tc : Thread Cert.VUpIdeal.nD Cert.VUpIdeal.τ).loc Cert.VUpIdeal.main_arg0)
      ∧ m' ((c.tc : Thread Cert.VUpReferenceIdeal.nD Cert.VUpReferenceIdeal.τ).loc Cert.VUpReferenceIdeal.main_arg1) = m ((c.tc : Thread Cert.VUpIdeal.nD Cert.VUpIdeal.τ).loc Cert.VUpIdeal.main_arg1)) →
    ∃ (v0 : (c : Dev Cert.VUpIdeal.nD) → Buf (Elt Ideal) ((c.tc : Thread Cert.VUpIdeal.nD Cert.VUpIdeal.τ).loc Cert.VUpIdeal.main_v2)),
      θ_run (Cert.VUpIdeal.defs (F := Ideal)) (onTc (τ := Cert.VUpIdeal.τ) (Cert.VUpIdeal.main (F := Ideal))) ⟨m, fun _ => 0, g⟩ (fun r => ∀ c : Dev Cert.VUpIdeal.nD,
          r.2.mem ((c.tc : Thread Cert.VUpIdeal.nD Cert.VUpIdeal.τ).loc Cert.VUpIdeal.main_v2) = v0 c
          ∧ r.2.mem ((c.tc : Thread Cert.VUpIdeal.nD Cert.VUpIdeal.τ).loc Cert.VUpIdeal.main_arg0) = m ((c.tc : Thread Cert.VUpIdeal.nD Cert.VUpIdeal.τ).loc Cert.VUpIdeal.main_arg0)
          ∧ r.2.mem ((c.tc : Thread Cert.VUpIdeal.nD Cert.VUpIdeal.τ).loc Cert.VUpIdeal.main_arg1) = m ((c.tc : Thread Cert.VUpIdeal.nD Cert.VUpIdeal.τ).loc Cert.VUpIdeal.main_arg1))
      ∧ θ_run (Cert.VUpReferenceIdeal.defs (F := Ideal)) (onTc (τ := Cert.VUpReferenceIdeal.τ) (Cert.VUpReferenceIdeal.main (F := Ideal))) ⟨m', fun _ => 0, g'⟩ (fun r => ∀ c : Dev Cert.VUpReferenceIdeal.nD,
          r.2.mem ((c.tc : Thread Cert.VUpReferenceIdeal.nD Cert.VUpReferenceIdeal.τ).loc Cert.VUpReferenceIdeal.main_v1) = v0 c
          ∧ r.2.mem ((c.tc : Thread Cert.VUpReferenceIdeal.nD Cert.VUpReferenceIdeal.τ).loc Cert.VUpReferenceIdeal.main_arg0) = m' ((c.tc : Thread Cert.VUpReferenceIdeal.nD Cert.VUpReferenceIdeal.τ).loc Cert.VUpReferenceIdeal.main_arg0)
          ∧ r.2.mem ((c.tc : Thread Cert.VUpReferenceIdeal.nD Cert.VUpReferenceIdeal.τ).loc Cert.VUpReferenceIdeal.main_arg1) = m' ((c.tc : Thread Cert.VUpReferenceIdeal.nD Cert.VUpReferenceIdeal.τ).loc Cert.VUpReferenceIdeal.main_arg1))

def preserves_VUpDc_VUpDcIdeal : Prop :=
  True

def algebraic_VUpDcIdeal_VUpDcReferenceIdeal [hVUpDcIdeal : Cert.VUpDcIdeal.Facts] [hVUpDcReferenceIdeal : Cert.VUpDcReferenceIdeal.Facts] : Prop :=
  ∀ (m : (ℓ : Loc Cert.VUpDcIdeal.nD Cert.VUpDcIdeal.τ Cert.VUpDcIdeal.sig) → Buf (Elt Ideal) ℓ) (g : Dev Cert.VUpDcIdeal.nD → PrngReg)
    (m' : (ℓ : Loc Cert.VUpDcReferenceIdeal.nD Cert.VUpDcReferenceIdeal.τ Cert.VUpDcReferenceIdeal.sig) → Buf (Elt Ideal) ℓ) (g' : Dev Cert.VUpDcReferenceIdeal.nD → PrngReg), Pre_VUpDcIdeal m →
    (∀ c : Dev Cert.VUpDcIdeal.nD,
      m' ((c.tc : Thread Cert.VUpDcReferenceIdeal.nD Cert.VUpDcReferenceIdeal.τ).loc Cert.VUpDcReferenceIdeal.main_arg0) = m ((c.tc : Thread Cert.VUpDcIdeal.nD Cert.VUpDcIdeal.τ).loc Cert.VUpDcIdeal.main_arg0)
      ∧ m' ((c.tc : Thread Cert.VUpDcReferenceIdeal.nD Cert.VUpDcReferenceIdeal.τ).loc Cert.VUpDcReferenceIdeal.main_arg1) = m ((c.tc : Thread Cert.VUpDcIdeal.nD Cert.VUpDcIdeal.τ).loc Cert.VUpDcIdeal.main_arg1)
      ∧ m' ((c.tc : Thread Cert.VUpDcReferenceIdeal.nD Cert.VUpDcReferenceIdeal.τ).loc Cert.VUpDcReferenceIdeal.main_arg2) = m ((c.tc : Thread Cert.VUpDcIdeal.nD Cert.VUpDcIdeal.τ).loc Cert.VUpDcIdeal.main_arg2)) →
    ∃ (v0 : (c : Dev Cert.VUpDcIdeal.nD) → Buf (Elt Ideal) ((c.tc : Thread Cert.VUpDcIdeal.nD Cert.VUpDcIdeal.τ).loc Cert.VUpDcIdeal.main_v1)),
      θ_run (Cert.VUpDcIdeal.defs (F := Ideal)) (onTc (τ := Cert.VUpDcIdeal.τ) (Cert.VUpDcIdeal.main (F := Ideal))) ⟨m, fun _ => 0, g⟩ (fun r => ∀ c : Dev Cert.VUpDcIdeal.nD,
          r.2.mem ((c.tc : Thread Cert.VUpDcIdeal.nD Cert.VUpDcIdeal.τ).loc Cert.VUpDcIdeal.main_v1) = v0 c
          ∧ r.2.mem ((c.tc : Thread Cert.VUpDcIdeal.nD Cert.VUpDcIdeal.τ).loc Cert.VUpDcIdeal.main_arg0) = m ((c.tc : Thread Cert.VUpDcIdeal.nD Cert.VUpDcIdeal.τ).loc Cert.VUpDcIdeal.main_arg0)
          ∧ r.2.mem ((c.tc : Thread Cert.VUpDcIdeal.nD Cert.VUpDcIdeal.τ).loc Cert.VUpDcIdeal.main_arg1) = m ((c.tc : Thread Cert.VUpDcIdeal.nD Cert.VUpDcIdeal.τ).loc Cert.VUpDcIdeal.main_arg1)
          ∧ r.2.mem ((c.tc : Thread Cert.VUpDcIdeal.nD Cert.VUpDcIdeal.τ).loc Cert.VUpDcIdeal.main_arg2) = m ((c.tc : Thread Cert.VUpDcIdeal.nD Cert.VUpDcIdeal.τ).loc Cert.VUpDcIdeal.main_arg2))
      ∧ θ_run (Cert.VUpDcReferenceIdeal.defs (F := Ideal)) (onTc (τ := Cert.VUpDcReferenceIdeal.τ) (Cert.VUpDcReferenceIdeal.main (F := Ideal))) ⟨m', fun _ => 0, g'⟩ (fun r => ∀ c : Dev Cert.VUpDcReferenceIdeal.nD,
          r.2.mem ((c.tc : Thread Cert.VUpDcReferenceIdeal.nD Cert.VUpDcReferenceIdeal.τ).loc Cert.VUpDcReferenceIdeal.main_v3) = v0 c
          ∧ r.2.mem ((c.tc : Thread Cert.VUpDcReferenceIdeal.nD Cert.VUpDcReferenceIdeal.τ).loc Cert.VUpDcReferenceIdeal.main_arg0) = m' ((c.tc : Thread Cert.VUpDcReferenceIdeal.nD Cert.VUpDcReferenceIdeal.τ).loc Cert.VUpDcReferenceIdeal.main_arg0)
          ∧ r.2.mem ((c.tc : Thread Cert.VUpDcReferenceIdeal.nD Cert.VUpDcReferenceIdeal.τ).loc Cert.VUpDcReferenceIdeal.main_arg1) = m' ((c.tc : Thread Cert.VUpDcReferenceIdeal.nD Cert.VUpDcReferenceIdeal.τ).loc Cert.VUpDcReferenceIdeal.main_arg1)
          ∧ r.2.mem ((c.tc : Thread Cert.VUpDcReferenceIdeal.nD Cert.VUpDcReferenceIdeal.τ).loc Cert.VUpDcReferenceIdeal.main_arg2) = m' ((c.tc : Thread Cert.VUpDcReferenceIdeal.nD Cert.VUpDcReferenceIdeal.τ).loc Cert.VUpDcReferenceIdeal.main_arg2))

def preserves_VUpDw_VUpDwIdeal : Prop :=
  True

def algebraic_VUpDwIdeal_VUpDwReferenceIdeal [hVUpDwIdeal : Cert.VUpDwIdeal.Facts] [hVUpDwReferenceIdeal : Cert.VUpDwReferenceIdeal.Facts] : Prop :=
  ∀ (m : (ℓ : Loc Cert.VUpDwIdeal.nD Cert.VUpDwIdeal.τ Cert.VUpDwIdeal.sig) → Buf (Elt Ideal) ℓ) (g : Dev Cert.VUpDwIdeal.nD → PrngReg)
    (m' : (ℓ : Loc Cert.VUpDwReferenceIdeal.nD Cert.VUpDwReferenceIdeal.τ Cert.VUpDwReferenceIdeal.sig) → Buf (Elt Ideal) ℓ) (g' : Dev Cert.VUpDwReferenceIdeal.nD → PrngReg), Pre_VUpDwIdeal m →
    (∀ c : Dev Cert.VUpDwIdeal.nD,
      m' ((c.tc : Thread Cert.VUpDwReferenceIdeal.nD Cert.VUpDwReferenceIdeal.τ).loc Cert.VUpDwReferenceIdeal.main_arg0) = m ((c.tc : Thread Cert.VUpDwIdeal.nD Cert.VUpDwIdeal.τ).loc Cert.VUpDwIdeal.main_arg0)
      ∧ m' ((c.tc : Thread Cert.VUpDwReferenceIdeal.nD Cert.VUpDwReferenceIdeal.τ).loc Cert.VUpDwReferenceIdeal.main_arg1) = m ((c.tc : Thread Cert.VUpDwIdeal.nD Cert.VUpDwIdeal.τ).loc Cert.VUpDwIdeal.main_arg1)
      ∧ m' ((c.tc : Thread Cert.VUpDwReferenceIdeal.nD Cert.VUpDwReferenceIdeal.τ).loc Cert.VUpDwReferenceIdeal.main_arg2) = m ((c.tc : Thread Cert.VUpDwIdeal.nD Cert.VUpDwIdeal.τ).loc Cert.VUpDwIdeal.main_arg2)) →
    ∃ (v0 : (c : Dev Cert.VUpDwIdeal.nD) → Buf (Elt Ideal) ((c.tc : Thread Cert.VUpDwIdeal.nD Cert.VUpDwIdeal.τ).loc Cert.VUpDwIdeal.main_v1)),
      θ_run (Cert.VUpDwIdeal.defs (F := Ideal)) (onTc (τ := Cert.VUpDwIdeal.τ) (Cert.VUpDwIdeal.main (F := Ideal))) ⟨m, fun _ => 0, g⟩ (fun r => ∀ c : Dev Cert.VUpDwIdeal.nD,
          r.2.mem ((c.tc : Thread Cert.VUpDwIdeal.nD Cert.VUpDwIdeal.τ).loc Cert.VUpDwIdeal.main_v1) = v0 c
          ∧ r.2.mem ((c.tc : Thread Cert.VUpDwIdeal.nD Cert.VUpDwIdeal.τ).loc Cert.VUpDwIdeal.main_arg0) = m ((c.tc : Thread Cert.VUpDwIdeal.nD Cert.VUpDwIdeal.τ).loc Cert.VUpDwIdeal.main_arg0)
          ∧ r.2.mem ((c.tc : Thread Cert.VUpDwIdeal.nD Cert.VUpDwIdeal.τ).loc Cert.VUpDwIdeal.main_arg1) = m ((c.tc : Thread Cert.VUpDwIdeal.nD Cert.VUpDwIdeal.τ).loc Cert.VUpDwIdeal.main_arg1)
          ∧ r.2.mem ((c.tc : Thread Cert.VUpDwIdeal.nD Cert.VUpDwIdeal.τ).loc Cert.VUpDwIdeal.main_arg2) = m ((c.tc : Thread Cert.VUpDwIdeal.nD Cert.VUpDwIdeal.τ).loc Cert.VUpDwIdeal.main_arg2))
      ∧ θ_run (Cert.VUpDwReferenceIdeal.defs (F := Ideal)) (onTc (τ := Cert.VUpDwReferenceIdeal.τ) (Cert.VUpDwReferenceIdeal.main (F := Ideal))) ⟨m', fun _ => 0, g'⟩ (fun r => ∀ c : Dev Cert.VUpDwReferenceIdeal.nD,
          r.2.mem ((c.tc : Thread Cert.VUpDwReferenceIdeal.nD Cert.VUpDwReferenceIdeal.τ).loc Cert.VUpDwReferenceIdeal.main_v2) = v0 c
          ∧ r.2.mem ((c.tc : Thread Cert.VUpDwReferenceIdeal.nD Cert.VUpDwReferenceIdeal.τ).loc Cert.VUpDwReferenceIdeal.main_arg0) = m' ((c.tc : Thread Cert.VUpDwReferenceIdeal.nD Cert.VUpDwReferenceIdeal.τ).loc Cert.VUpDwReferenceIdeal.main_arg0)
          ∧ r.2.mem ((c.tc : Thread Cert.VUpDwReferenceIdeal.nD Cert.VUpDwReferenceIdeal.τ).loc Cert.VUpDwReferenceIdeal.main_arg1) = m' ((c.tc : Thread Cert.VUpDwReferenceIdeal.nD Cert.VUpDwReferenceIdeal.τ).loc Cert.VUpDwReferenceIdeal.main_arg1)
          ∧ r.2.mem ((c.tc : Thread Cert.VUpDwReferenceIdeal.nD Cert.VUpDwReferenceIdeal.τ).loc Cert.VUpDwReferenceIdeal.main_arg2) = m' ((c.tc : Thread Cert.VUpDwReferenceIdeal.nD Cert.VUpDwReferenceIdeal.τ).loc Cert.VUpDwReferenceIdeal.main_arg2))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hHidden : Cert.Hidden.Facts) (hHiddenIdeal : Cert.HiddenIdeal.Facts) (hHiddenReferenceIdeal : Cert.HiddenReferenceIdeal.Facts) (hDwd : Cert.Dwd.Facts) (hDwdIdeal : Cert.DwdIdeal.Facts) (hDwdReferenceIdeal : Cert.DwdReferenceIdeal.Facts) (hDwgu : Cert.Dwgu.Facts) (hDwguIdeal : Cert.DwguIdeal.Facts) (hDwguReferenceIdeal : Cert.DwguReferenceIdeal.Facts) (hDh : Cert.Dh.Facts) (hDhIdeal : Cert.DhIdeal.Facts) (hDhReferenceIdeal : Cert.DhReferenceIdeal.Facts) (hOut : Cert.Out.Facts) (hOutIdeal : Cert.OutIdeal.Facts) (hOutReferenceIdeal : Cert.OutReferenceIdeal.Facts) (hDo : Cert.Do.Facts) (hDoIdeal : Cert.DoIdeal.Facts) (hDoReferenceIdeal : Cert.DoReferenceIdeal.Facts) (hDwo : Cert.Dwo.Facts) (hDwoIdeal : Cert.DwoIdeal.Facts) (hDwoReferenceIdeal : Cert.DwoReferenceIdeal.Facts) (hQDown : Cert.QDown.Facts) (hQDownIdeal : Cert.QDownIdeal.Facts) (hQDownReferenceIdeal : Cert.QDownReferenceIdeal.Facts) (hQDownDh : Cert.QDownDh.Facts) (hQDownDhIdeal : Cert.QDownDhIdeal.Facts) (hQDownDhReferenceIdeal : Cert.QDownDhReferenceIdeal.Facts) (hQDownDw : Cert.QDownDw.Facts) (hQDownDwIdeal : Cert.QDownDwIdeal.Facts) (hQDownDwReferenceIdeal : Cert.QDownDwReferenceIdeal.Facts) (hQUp : Cert.QUp.Facts) (hQUpIdeal : Cert.QUpIdeal.Facts) (hQUpReferenceIdeal : Cert.QUpReferenceIdeal.Facts) (hQUpDc : Cert.QUpDc.Facts) (hQUpDcIdeal : Cert.QUpDcIdeal.Facts) (hQUpDcReferenceIdeal : Cert.QUpDcReferenceIdeal.Facts) (hQUpDw : Cert.QUpDw.Facts) (hQUpDwIdeal : Cert.QUpDwIdeal.Facts) (hQUpDwReferenceIdeal : Cert.QUpDwReferenceIdeal.Facts) (hKvDown : Cert.KvDown.Facts) (hKvDownIdeal : Cert.KvDownIdeal.Facts) (hKvDownReferenceIdeal : Cert.KvDownReferenceIdeal.Facts) (hKvDownDh : Cert.KvDownDh.Facts) (hKvDownDhIdeal : Cert.KvDownDhIdeal.Facts) (hKvDownDhReferenceIdeal : Cert.KvDownDhReferenceIdeal.Facts) (hKvDownDw : Cert.KvDownDw.Facts) (hKvDownDwIdeal : Cert.KvDownDwIdeal.Facts) (hKvDownDwReferenceIdeal : Cert.KvDownDwReferenceIdeal.Facts) (hKUp : Cert.KUp.Facts) (hKUpIdeal : Cert.KUpIdeal.Facts) (hKUpReferenceIdeal : Cert.KUpReferenceIdeal.Facts) (hKUpDc : Cert.KUpDc.Facts) (hKUpDcIdeal : Cert.KUpDcIdeal.Facts) (hKUpDcReferenceIdeal : Cert.KUpDcReferenceIdeal.Facts) (hKUpDw : Cert.KUpDw.Facts) (hKUpDwIdeal : Cert.KUpDwIdeal.Facts) (hKUpDwReferenceIdeal : Cert.KUpDwReferenceIdeal.Facts) (hVUp : Cert.VUp.Facts) (hVUpIdeal : Cert.VUpIdeal.Facts) (hVUpReferenceIdeal : Cert.VUpReferenceIdeal.Facts) (hVUpDc : Cert.VUpDc.Facts) (hVUpDcIdeal : Cert.VUpDcIdeal.Facts) (hVUpDcReferenceIdeal : Cert.VUpDcReferenceIdeal.Facts) (hVUpDw : Cert.VUpDw.Facts) (hVUpDwIdeal : Cert.VUpDwIdeal.Facts) (hVUpDwReferenceIdeal : Cert.VUpDwReferenceIdeal.Facts) (hPre_finite : Cert.Pre_finite.Facts) (hPre_finite_ffn : Cert.Pre_finite_ffn.Facts),
    quiescent_Kernel (hKernel := hKernel)
    ∧ quiescent_KernelIdeal (hKernelIdeal := hKernelIdeal) (hPre_finite := hPre_finite)
    ∧ quiescent_KernelIdeal_pre_none (hKernelIdeal := hKernelIdeal)
    ∧ quiescent_ReferenceIdeal (hReferenceIdeal := hReferenceIdeal) (hPre_finite := hPre_finite)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_Hidden (hHidden := hHidden)
    ∧ quiescent_HiddenIdeal (hHiddenIdeal := hHiddenIdeal) (hPre_finite_ffn := hPre_finite_ffn)
    ∧ quiescent_HiddenIdeal_pre_none (hHiddenIdeal := hHiddenIdeal)
    ∧ quiescent_HiddenReferenceIdeal (hHiddenReferenceIdeal := hHiddenReferenceIdeal) (hPre_finite_ffn := hPre_finite_ffn)
    ∧ quiescent_Dwd (hDwd := hDwd)
    ∧ quiescent_DwdIdeal (hDwdIdeal := hDwdIdeal)
    ∧ quiescent_DwdReferenceIdeal (hDwdReferenceIdeal := hDwdReferenceIdeal)
    ∧ quiescent_Dwgu (hDwgu := hDwgu)
    ∧ quiescent_DwguIdeal (hDwguIdeal := hDwguIdeal)
    ∧ quiescent_DwguReferenceIdeal (hDwguReferenceIdeal := hDwguReferenceIdeal)
    ∧ quiescent_Dh (hDh := hDh)
    ∧ quiescent_DhIdeal (hDhIdeal := hDhIdeal)
    ∧ quiescent_DhReferenceIdeal (hDhReferenceIdeal := hDhReferenceIdeal)
    ∧ quiescent_Out (hOut := hOut)
    ∧ quiescent_OutIdeal (hOutIdeal := hOutIdeal)
    ∧ quiescent_OutReferenceIdeal (hOutReferenceIdeal := hOutReferenceIdeal)
    ∧ quiescent_Do (hDo := hDo)
    ∧ quiescent_DoIdeal (hDoIdeal := hDoIdeal)
    ∧ quiescent_DoReferenceIdeal (hDoReferenceIdeal := hDoReferenceIdeal)
    ∧ quiescent_Dwo (hDwo := hDwo)
    ∧ quiescent_DwoIdeal (hDwoIdeal := hDwoIdeal)
    ∧ quiescent_DwoReferenceIdeal (hDwoReferenceIdeal := hDwoReferenceIdeal)
    ∧ quiescent_QDown (hQDown := hQDown)
    ∧ quiescent_QDownIdeal (hQDownIdeal := hQDownIdeal)
    ∧ quiescent_QDownReferenceIdeal (hQDownReferenceIdeal := hQDownReferenceIdeal)
    ∧ quiescent_QDownDh (hQDownDh := hQDownDh)
    ∧ quiescent_QDownDhIdeal (hQDownDhIdeal := hQDownDhIdeal)
    ∧ quiescent_QDownDhReferenceIdeal (hQDownDhReferenceIdeal := hQDownDhReferenceIdeal)
    ∧ quiescent_QDownDw (hQDownDw := hQDownDw)
    ∧ quiescent_QDownDwIdeal (hQDownDwIdeal := hQDownDwIdeal)
    ∧ quiescent_QDownDwReferenceIdeal (hQDownDwReferenceIdeal := hQDownDwReferenceIdeal)
    ∧ quiescent_QUp (hQUp := hQUp)
    ∧ quiescent_QUpIdeal (hQUpIdeal := hQUpIdeal)
    ∧ quiescent_QUpReferenceIdeal (hQUpReferenceIdeal := hQUpReferenceIdeal)
    ∧ quiescent_QUpDc (hQUpDc := hQUpDc)
    ∧ quiescent_QUpDcIdeal (hQUpDcIdeal := hQUpDcIdeal)
    ∧ quiescent_QUpDcReferenceIdeal (hQUpDcReferenceIdeal := hQUpDcReferenceIdeal)
    ∧ quiescent_QUpDw (hQUpDw := hQUpDw)
    ∧ quiescent_QUpDwIdeal (hQUpDwIdeal := hQUpDwIdeal)
    ∧ quiescent_QUpDwReferenceIdeal (hQUpDwReferenceIdeal := hQUpDwReferenceIdeal)
    ∧ quiescent_KvDown (hKvDown := hKvDown)
    ∧ quiescent_KvDownIdeal (hKvDownIdeal := hKvDownIdeal)
    ∧ quiescent_KvDownReferenceIdeal (hKvDownReferenceIdeal := hKvDownReferenceIdeal)
    ∧ quiescent_KvDownDh (hKvDownDh := hKvDownDh)
    ∧ quiescent_KvDownDhIdeal (hKvDownDhIdeal := hKvDownDhIdeal)
    ∧ quiescent_KvDownDhReferenceIdeal (hKvDownDhReferenceIdeal := hKvDownDhReferenceIdeal)
    ∧ quiescent_KvDownDw (hKvDownDw := hKvDownDw)
    ∧ quiescent_KvDownDwIdeal (hKvDownDwIdeal := hKvDownDwIdeal)
    ∧ quiescent_KvDownDwReferenceIdeal (hKvDownDwReferenceIdeal := hKvDownDwReferenceIdeal)
    ∧ quiescent_KUp (hKUp := hKUp)
    ∧ quiescent_KUpIdeal (hKUpIdeal := hKUpIdeal)
    ∧ quiescent_KUpReferenceIdeal (hKUpReferenceIdeal := hKUpReferenceIdeal)
    ∧ quiescent_KUpDc (hKUpDc := hKUpDc)
    ∧ quiescent_KUpDcIdeal (hKUpDcIdeal := hKUpDcIdeal)
    ∧ quiescent_KUpDcReferenceIdeal (hKUpDcReferenceIdeal := hKUpDcReferenceIdeal)
    ∧ quiescent_KUpDw (hKUpDw := hKUpDw)
    ∧ quiescent_KUpDwIdeal (hKUpDwIdeal := hKUpDwIdeal)
    ∧ quiescent_KUpDwReferenceIdeal (hKUpDwReferenceIdeal := hKUpDwReferenceIdeal)
    ∧ quiescent_VUp (hVUp := hVUp)
    ∧ quiescent_VUpIdeal (hVUpIdeal := hVUpIdeal)
    ∧ quiescent_VUpReferenceIdeal (hVUpReferenceIdeal := hVUpReferenceIdeal)
    ∧ quiescent_VUpDc (hVUpDc := hVUpDc)
    ∧ quiescent_VUpDcIdeal (hVUpDcIdeal := hVUpDcIdeal)
    ∧ quiescent_VUpDcReferenceIdeal (hVUpDcReferenceIdeal := hVUpDcReferenceIdeal)
    ∧ quiescent_VUpDw (hVUpDw := hVUpDw)
    ∧ quiescent_VUpDwIdeal (hVUpDwIdeal := hVUpDwIdeal)
    ∧ quiescent_VUpDwReferenceIdeal (hVUpDwReferenceIdeal := hVUpDwReferenceIdeal)
    ∧ preserves_Kernel_KernelIdeal
    ∧ algebraic_KernelIdeal_ReferenceIdeal (hKernelIdeal := hKernelIdeal) (hReferenceIdeal := hReferenceIdeal) (hPre_finite := hPre_finite)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_Hidden_HiddenIdeal
    ∧ algebraic_HiddenIdeal_HiddenReferenceIdeal (hHiddenIdeal := hHiddenIdeal) (hHiddenReferenceIdeal := hHiddenReferenceIdeal) (hPre_finite_ffn := hPre_finite_ffn)
    ∧ preserves_Dwd_DwdIdeal
    ∧ algebraic_DwdIdeal_DwdReferenceIdeal (hDwdIdeal := hDwdIdeal) (hDwdReferenceIdeal := hDwdReferenceIdeal)
    ∧ preserves_Dwgu_DwguIdeal
    ∧ algebraic_DwguIdeal_DwguReferenceIdeal (hDwguIdeal := hDwguIdeal) (hDwguReferenceIdeal := hDwguReferenceIdeal)
    ∧ preserves_Dh_DhIdeal
    ∧ algebraic_DhIdeal_DhReferenceIdeal (hDhIdeal := hDhIdeal) (hDhReferenceIdeal := hDhReferenceIdeal)
    ∧ preserves_Out_OutIdeal
    ∧ algebraic_OutIdeal_OutReferenceIdeal (hOutIdeal := hOutIdeal) (hOutReferenceIdeal := hOutReferenceIdeal)
    ∧ preserves_Do_DoIdeal
    ∧ algebraic_DoIdeal_DoReferenceIdeal (hDoIdeal := hDoIdeal) (hDoReferenceIdeal := hDoReferenceIdeal)
    ∧ preserves_Dwo_DwoIdeal
    ∧ algebraic_DwoIdeal_DwoReferenceIdeal (hDwoIdeal := hDwoIdeal) (hDwoReferenceIdeal := hDwoReferenceIdeal)
    ∧ preserves_QDown_QDownIdeal
    ∧ algebraic_QDownIdeal_QDownReferenceIdeal (hQDownIdeal := hQDownIdeal) (hQDownReferenceIdeal := hQDownReferenceIdeal)
    ∧ preserves_QDownDh_QDownDhIdeal
    ∧ algebraic_QDownDhIdeal_QDownDhReferenceIdeal (hQDownDhIdeal := hQDownDhIdeal) (hQDownDhReferenceIdeal := hQDownDhReferenceIdeal)
    ∧ preserves_QDownDw_QDownDwIdeal
    ∧ algebraic_QDownDwIdeal_QDownDwReferenceIdeal (hQDownDwIdeal := hQDownDwIdeal) (hQDownDwReferenceIdeal := hQDownDwReferenceIdeal)
    ∧ preserves_QUp_QUpIdeal
    ∧ algebraic_QUpIdeal_QUpReferenceIdeal (hQUpIdeal := hQUpIdeal) (hQUpReferenceIdeal := hQUpReferenceIdeal)
    ∧ preserves_QUpDc_QUpDcIdeal
    ∧ algebraic_QUpDcIdeal_QUpDcReferenceIdeal (hQUpDcIdeal := hQUpDcIdeal) (hQUpDcReferenceIdeal := hQUpDcReferenceIdeal)
    ∧ preserves_QUpDw_QUpDwIdeal
    ∧ algebraic_QUpDwIdeal_QUpDwReferenceIdeal (hQUpDwIdeal := hQUpDwIdeal) (hQUpDwReferenceIdeal := hQUpDwReferenceIdeal)
    ∧ preserves_KvDown_KvDownIdeal
    ∧ algebraic_KvDownIdeal_KvDownReferenceIdeal (hKvDownIdeal := hKvDownIdeal) (hKvDownReferenceIdeal := hKvDownReferenceIdeal)
    ∧ preserves_KvDownDh_KvDownDhIdeal
    ∧ algebraic_KvDownDhIdeal_KvDownDhReferenceIdeal (hKvDownDhIdeal := hKvDownDhIdeal) (hKvDownDhReferenceIdeal := hKvDownDhReferenceIdeal)
    ∧ preserves_KvDownDw_KvDownDwIdeal
    ∧ algebraic_KvDownDwIdeal_KvDownDwReferenceIdeal (hKvDownDwIdeal := hKvDownDwIdeal) (hKvDownDwReferenceIdeal := hKvDownDwReferenceIdeal)
    ∧ preserves_KUp_KUpIdeal
    ∧ algebraic_KUpIdeal_KUpReferenceIdeal (hKUpIdeal := hKUpIdeal) (hKUpReferenceIdeal := hKUpReferenceIdeal)
    ∧ preserves_KUpDc_KUpDcIdeal
    ∧ algebraic_KUpDcIdeal_KUpDcReferenceIdeal (hKUpDcIdeal := hKUpDcIdeal) (hKUpDcReferenceIdeal := hKUpDcReferenceIdeal)
    ∧ preserves_KUpDw_KUpDwIdeal
    ∧ algebraic_KUpDwIdeal_KUpDwReferenceIdeal (hKUpDwIdeal := hKUpDwIdeal) (hKUpDwReferenceIdeal := hKUpDwReferenceIdeal)
    ∧ preserves_VUp_VUpIdeal
    ∧ algebraic_VUpIdeal_VUpReferenceIdeal (hVUpIdeal := hVUpIdeal) (hVUpReferenceIdeal := hVUpReferenceIdeal)
    ∧ preserves_VUpDc_VUpDcIdeal
    ∧ algebraic_VUpDcIdeal_VUpDcReferenceIdeal (hVUpDcIdeal := hVUpDcIdeal) (hVUpDcReferenceIdeal := hVUpDcReferenceIdeal)
    ∧ preserves_VUpDw_VUpDwIdeal
    ∧ algebraic_VUpDwIdeal_VUpDwReferenceIdeal (hVUpDwIdeal := hVUpDwIdeal) (hVUpDwReferenceIdeal := hVUpDwReferenceIdeal)
-- ==== Pre_finite.lean ====
abbrev S1x4096x8x192 : Shape := ⟨4, ![1, 4096, 8, 192]⟩
abbrev S1x4096x8x128 : Shape := ⟨4, ![1, 4096, 8, 128]⟩
abbrev S_ : Shape := ⟨0, ![]⟩

class Facts : Prop where
  bcast_S_S1x4096x8x192 : S_.BroadcastsInDim S1x4096x8x192 (![] : Fin 0 → Fin S1x4096x8x192.rank)
  reducesTo_S1x4096x8x192_S_d0_1_2_3 : S1x4096x8x192.ReducesTo [0, 1, 2, 3] S_
  h_S_ : 0 < S_.numel
  bcast_S_S1x4096x8x128 : S_.BroadcastsInDim S1x4096x8x128 (![] : Fin 0 → Fin S1x4096x8x128.rank)
  reducesTo_S1x4096x8x128_S_d0_1_2_3 : S1x4096x8x128.ReducesTo [0, 1, 2, 3] S_

variable [Facts]

def fn_part1 {F : FTy → Type} [FloatOps F] (main_v13 : IVec S_ 1) (main_v16 : IVec S1x4096x8x128 1) : IVec S_ 1 :=
  let main_c_5 : IVec S_ 1 := constantI S_ 1 1#1
  let main_v17 : IVec S_ 1 := (fun x v => Host.reduce IntOp.andi x v reducesTo_S1x4096x8x128_S_d0_1_2_3 h_S_) main_v16 main_c_5
  let main_v18 : IVec S_ 1 := andi main_v13 main_v17
  main_v18

def fn {F : FTy → Type} [FloatOps F] (main_arg0 : FVec F S1x4096x8x192 .f32) (main_arg1 : FVec F S1x4096x8x192 .f32) (main_arg2 : FVec F S1x4096x8x128 .f32) (main_arg3 : FVec F S1x4096x8x128 .f32) : IVec S_ 1 :=
  let main_v0 : FVec F S1x4096x8x192 .f32 := Host.absf main_arg0
  let main_cst : FVec F S_ .f32 := constant S_ .f32 0x7F800000#32
  let main_v1 : FVec F S1x4096x8x192 .f32 := broadcastInDim S1x4096x8x192 ![] bcast_S_S1x4096x8x192 main_cst
  let main_v2 : IVec S1x4096x8x192 1 := cmpf .olt main_v0 main_v1
  let main_c : IVec S_ 1 := constantI S_ 1 1#1
  let main_v3 : IVec S_ 1 := (fun x v => Host.reduce IntOp.andi x v reducesTo_S1x4096x8x192_S_d0_1_2_3 h_S_) main_v2 main_c
  let main_v4 : FVec F S1x4096x8x192 .f32 := Host.absf main_arg1
  let main_cst_0 : FVec F S_ .f32 := constant S_ .f32 0x7F800000#32
  let main_v5 : FVec F S1x4096x8x192 .f32 := broadcastInDim S1x4096x8x192 ![] bcast_S_S1x4096x8x192 main_cst_0
  let main_v6 : IVec S1x4096x8x192 1 := cmpf .olt main_v4 main_v5
  let main_c_1 : IVec S_ 1 := constantI S_ 1 1#1
  let main_v7 : IVec S_ 1 := (fun x v => Host.reduce IntOp.andi x v reducesTo_S1x4096x8x192_S_d0_1_2_3 h_S_) main_v6 main_c_1
  let main_v8 : IVec S_ 1 := andi main_v3 main_v7
  let main_v9 : FVec F S1x4096x8x128 .f32 := Host.absf main_arg2
  let main_cst_2 : FVec F S_ .f32 := constant S_ .f32 0x7F800000#32
  let main_v10 : FVec F S1x4096x8x128 .f32 := broadcastInDim S1x4096x8x128 ![] bcast_S_S1x4096x8x128 main_cst_2
  let main_v11 : IVec S1x4096x8x128 1 := cmpf .olt main_v9 main_v10
  let main_c_3 : IVec S_ 1 := constantI S_ 1 1#1
  let main_v12 : IVec S_ 1 := (fun x v => Host.reduce IntOp.andi x v reducesTo_S1x4096x8x128_S_d0_1_2_3 h_S_) main_v11 main_c_3
  let main_v13 : IVec S_ 1 := andi main_v8 main_v12
  let main_v14 : FVec F S1x4096x8x128 .f32 := Host.absf main_arg3
  let main_cst_4 : FVec F S_ .f32 := constant S_ .f32 0x7F800000#32
  let main_v15 : FVec F S1x4096x8x128 .f32 := broadcastInDim S1x4096x8x128 ![] bcast_S_S1x4096x8x128 main_cst_4
  let main_v16 : IVec S1x4096x8x128 1 := cmpf .olt main_v14 main_v15
  fn_part1 (F := F) main_v13 main_v16
-- ==== Pre_finite_ffn.lean ====
abbrev S4096x1024 : Shape := ⟨2, ![4096, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S4096x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x1024 .f32) (main_arg1 : FVec F S1024x2816 .f32) (main_arg2 : FVec F S1024x2816 .f32) (main_arg3 : FVec F S2816x1024 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x2816 .f32 := Host.absf main_arg1
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== Kernel.lean ====
abbrev S1x4096x8x192 : Shape := ⟨4, ![1, 4096, 8, 192]⟩
abbrev S1x4096x8x128 : Shape := ⟨4, ![1, 4096, 8, 128]⟩
abbrev S36 : Shape := ⟨1, ![36]⟩
abbrev S_ : Shape := ⟨0, ![]⟩
abbrev S1x8x4096x4096 : Shape := ⟨4, ![1, 8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S1x8x4096 : Shape := ⟨3, ![1, 8, 4096]⟩
abbrev S1x8x4096x1 : Shape := ⟨4, ![1, 8, 4096, 1]⟩
abbrev S1x8x128x4096 : Shape := ⟨4, ![1, 8, 128, 4096]⟩
abbrev S1x4096x8 : Shape := ⟨3, ![1, 4096, 8]⟩
abbrev S4096x8 : Shape := ⟨2, ![4096, 8]⟩
abbrev S8x4096 : Shape := ⟨2, ![8, 4096]⟩
abbrev S8x4096x1 : Shape := ⟨3, ![8, 4096, 1]⟩
abbrev S4096x8x192 : Shape := ⟨3, ![4096, 8, 192]⟩
abbrev S4096x8x256 : Shape := ⟨3, ![4096, 8, 256]⟩
abbrev S4096x2048 : Shape := ⟨2, ![4096, 2048]⟩
abbrev S4096x1024 : Shape := ⟨2, ![4096, 1024]⟩
abbrev S512x2048 : Shape := ⟨2, ![512, 2048]⟩
abbrev S1 : Shape := ⟨1, ![1]⟩
abbrev S512x1024 : Shape := ⟨2, ![512, 1024]⟩
abbrev S8x512x1 : Shape := ⟨3, ![8, 512, 1]⟩
abbrev S512x256 : Shape := ⟨2, ![512, 256]⟩
abbrev S512x512 : Shape := ⟨2, ![512, 512]⟩
abbrev S1x512x1 : Shape := ⟨3, ![1, 512, 1]⟩
abbrev S512x1 : Shape := ⟨2, ![512, 1]⟩
abbrev S512x128 : Shape := ⟨2, ![512, 128]⟩
abbrev S1x4096x8x256 : Shape := ⟨4, ![1, 4096, 8, 256]⟩

abbrev nBuf : Space → Nat
  | .hbm => 68
  | .vmem => 15
  | .smem => 2
  | _ => 0

abbrev bufTy : (tb : Table) → Fin (tcTables nBuf tb) → BufTy
  | .hbm, ⟨0, _⟩ => ⟨S1x4096x8x192, .f32⟩
  | .hbm, ⟨1, _⟩ => ⟨S1x4096x8x192, .f32⟩
  | .hbm, ⟨2, _⟩ => ⟨S1x4096x8x128, .f32⟩
  | .hbm, ⟨3, _⟩ => ⟨S1x4096x8x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x8x4096x4096, .f32⟩
  | .hbm, ⟨9, _⟩ => ⟨S1x8x4096x4096, .f32⟩
  | .hbm, ⟨10, _⟩ => ⟨S1x8x4096x4096, .f32⟩
  | .hbm, ⟨11, _⟩ => ⟨S4096, .i32⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S1x1x4096x4096, .i1⟩
  | .hbm, ⟨21, _⟩ => ⟨S1x8x4096x4096, .i1⟩
  | .hbm, ⟨22, _⟩ => ⟨S_, .f32⟩
  | .hbm, ⟨23, _⟩ => ⟨S1x8x4096x4096, .f32⟩
  | .hbm, ⟨24, _⟩ => ⟨S1x8x4096x4096, .f32⟩
  | .hbm, ⟨25, _⟩ => ⟨S_, .f32⟩
  | .hbm, ⟨26, _⟩ => ⟨S1x8x4096, .f32⟩
  | .hbm, ⟨27, _⟩ => ⟨S1x8x4096x1, .f32⟩
  | .hbm, ⟨28, _⟩ => ⟨S1x8x4096x4096, .f32⟩
  | .hbm, ⟨29, _⟩ => ⟨S1x8x4096x4096, .f32⟩
  | .hbm, ⟨30, _⟩ => ⟨S1x8x4096x4096, .f32⟩
  | .hbm, ⟨31, _⟩ => ⟨S_, .f32⟩
  | .hbm, ⟨32, _⟩ => ⟨S1x8x4096, .f32⟩
  | .hbm, ⟨33, _⟩ => ⟨S1x8x4096x1, .f32⟩
  | .hbm, ⟨34, _⟩ => ⟨S1x8x4096x4096, .f32⟩
  | .hbm, ⟨35, _⟩ => ⟨S1x8x4096x4096, .f32⟩
  | .hbm, ⟨36, _⟩ => ⟨S1x8x128x4096, .f32⟩
  | .hbm, ⟨37, _⟩ => ⟨S1x4096x8x128, .f32⟩
  | .hbm, ⟨38, _⟩ => ⟨S1x8x4096x1, .f32⟩
  | .hbm, ⟨39, _⟩ => ⟨S1x8x4096x1, .f32⟩
  | .hbm, ⟨40, _⟩ => ⟨S1x4096x8x128, .f32⟩
  | .hbm, ⟨41, _⟩ => ⟨S_, .f32⟩
  | .hbm, ⟨42, _⟩ => ⟨S1x4096x8, .f32⟩
  | .hbm, ⟨43, _⟩ => ⟨S4096x8, .f32⟩
  | .hbm, ⟨44, _⟩ => ⟨S8x4096, .f32⟩
  | .hbm, ⟨45, _⟩ => ⟨S8x4096x1, .f32⟩
  | .hbm, ⟨46, _⟩ => ⟨S4096x8x192, .f32⟩
  | .hbm, ⟨47, _⟩ => ⟨S_, .f32⟩
  | .hbm, ⟨48, _⟩ => ⟨S4096x8x256, .f32⟩
  | .hbm, ⟨49, _⟩ => ⟨S4096x2048, .f32⟩
  | .hbm, ⟨50, _⟩ => ⟨S4096x2048, .bf16⟩
  | .hbm, ⟨51, _⟩ => ⟨S4096x8x192, .f32⟩
  | .hbm, ⟨52, _⟩ => ⟨S_, .f32⟩
  | .hbm, ⟨53, _⟩ => ⟨S4096x8x256, .f32⟩
  | .hbm, ⟨54, _⟩ => ⟨S4096x2048, .f32⟩
  | .hbm, ⟨55, _⟩ => ⟨S4096x2048, .bf16⟩
  | .hbm, ⟨56, _⟩ => ⟨S4096x1024, .f32⟩
  | .hbm, ⟨57, _⟩ => ⟨S4096x1024, .bf16⟩
  | .hbm, ⟨58, _⟩ => ⟨S4096x1024, .f32⟩
  | .hbm, ⟨59, _⟩ => ⟨S4096x1024, .bf16⟩
  | .hbm, ⟨60, _⟩ => ⟨S8x4096x1, .f32⟩
  | .hbm, ⟨61, _⟩ => ⟨S_, .f32⟩
  | .hbm, ⟨62, _⟩ => ⟨S_, .f32⟩
  | .hbm, ⟨63, _⟩ => ⟨S8x4096x1, .f32⟩
  | .hbm, ⟨64, _⟩ => ⟨S8x4096x1, .f32⟩
  | .hbm, ⟨65, _⟩ => ⟨S4096x2048, .f32⟩
  | .hbm, ⟨66, _⟩ => ⟨S1x4096x8x256, .f32⟩
  | .hbm, ⟨67, _⟩ => ⟨S1x4096x8x192, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S8x512x1, .f32⟩
  | .local _ .vmem, ⟨9, _⟩ => ⟨S8x512x1, .f32⟩
  | .local _ .vmem, ⟨10, _⟩ => ⟨S8x512x1, .f32⟩
  | .local _ .vmem, ⟨11, _⟩ => ⟨S8x512x1, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | .local _ .smem, ⟨0, _⟩ => ⟨S36, .i32⟩
  | .local _ .smem, ⟨1, _⟩ => ⟨S36, .i32⟩
  | _, _ => ⟨S1x4096x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_7 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_8 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_9 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_5 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_6 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | "scale" => some (((Real.sqrt 192)⁻¹ : ℝ) : EReal)
  | "scale_log2e" => some (((Real.sqrt 192)⁻¹ * (Real.log 2)⁻¹ : ℝ) : EReal)
  | _ => none
-- ==== ReferenceIdeal.lean ====
abbrev S1x4096x8x192 : Shape := ⟨4, ![1, 4096, 8, 192]⟩
abbrev S1x4096x8x128 : Shape := ⟨4, ![1, 4096, 8, 128]⟩
abbrev S_ : Shape := ⟨0, ![]⟩
abbrev S1x8x4096x4096 : Shape := ⟨4, ![1, 8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S1x8x4096 : Shape := ⟨3, ![1, 8, 4096]⟩
abbrev S1x8x4096x1 : Shape := ⟨4, ![1, 8, 4096, 1]⟩
abbrev S1x8x128x4096 : Shape := ⟨4, ![1, 8, 128, 4096]⟩
abbrev S8x4096 : Shape := ⟨2, ![8, 4096]⟩
abbrev S1x8x4096x192 : Shape := ⟨4, ![1, 8, 4096, 192]⟩

abbrev nBuf : Space → Nat
  | .hbm => 111
  | .vmem => 0
  | .smem => 0
  | _ => 0

abbrev bufTy : (tb : Table) → Fin (tcTables nBuf tb) → BufTy
  | .hbm, ⟨0, _⟩ => ⟨S1x4096x8x192, .f32⟩
  | .hbm, ⟨1, _⟩ => ⟨S1x4096x8x192, .f32⟩
  | .hbm, ⟨2, _⟩ => ⟨S1x4096x8x128, .f32⟩
  | .hbm, ⟨3, _⟩ => ⟨S1x4096x8x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x8x4096x4096, .f32⟩
  | .hbm, ⟨9, _⟩ => ⟨S1x8x4096x4096, .f32⟩
  | .hbm, ⟨10, _⟩ => ⟨S1x8x4096x4096, .f32⟩
  | .hbm, ⟨11, _⟩ => ⟨S4096, .i32⟩
  | .hbm, ⟨12, _⟩ => ⟨S_, .i32⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S4096, .i32⟩
  | .hbm, ⟨17, _⟩ => ⟨S_, .i32⟩
  | .hbm, ⟨18, _⟩ => ⟨S4096, .i32⟩
  | .hbm, ⟨19, _⟩ => ⟨S4096, .i1⟩
  | .hbm, ⟨20, _⟩ => ⟨S4096, .i32⟩
  | .hbm, ⟨21, _⟩ => ⟨S4096, .i32⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S4096, .i1⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S4096, .i32⟩
  | .hbm, ⟨30, _⟩ => ⟨S1x4096, .i32⟩
  | .hbm, ⟨31, _⟩ => ⟨S4096x1, .i32⟩
  | .hbm, ⟨32, _⟩ => ⟨S4096x4096, .i32⟩
  | .hbm, ⟨33, _⟩ => ⟨S4096x4096, .i32⟩
  | .hbm, ⟨34, _⟩ => ⟨S4096x4096, .i1⟩
  | .hbm, ⟨35, _⟩ => ⟨S1x1x4096x4096, .i1⟩
  | .hbm, ⟨36, _⟩ => ⟨S_, .f32⟩
  | .hbm, ⟨37, _⟩ => ⟨S_, .f32⟩
  | .hbm, ⟨38, _⟩ => ⟨S1x8x4096x4096, .i1⟩
  | .hbm, ⟨39, _⟩ => ⟨S1x8x4096x4096, .f32⟩
  | .hbm, ⟨40, _⟩ => ⟨S1x8x4096x4096, .f32⟩
  | .hbm, ⟨41, _⟩ => ⟨S_, .f32⟩
  | .hbm, ⟨42, _⟩ => ⟨S1x8x4096x4096, .f32⟩
  | .hbm, ⟨43, _⟩ => ⟨S_, .f32⟩
  | .hbm, ⟨44, _⟩ => ⟨S1x8x4096, .f32⟩
  | .hbm, ⟨45, _⟩ => ⟨S1x8x4096x1, .f32⟩
  | .hbm, ⟨46, _⟩ => ⟨S1x8x4096x4096, .f32⟩
  | .hbm, ⟨47, _⟩ => ⟨S1x8x4096x4096, .i1⟩
  | .hbm, ⟨48, _⟩ => ⟨S1x8x4096x4096, .f32⟩
  | .hbm, ⟨49, _⟩ => ⟨S_, .f32⟩
  | .hbm, ⟨50, _⟩ => ⟨S1x8x4096, .f32⟩
  | .hbm, ⟨51, _⟩ => ⟨S_, .f32⟩
  | .hbm, ⟨52, _⟩ => ⟨S1x8x4096, .f32⟩
  | .hbm, ⟨53, _⟩ => ⟨S1x8x4096, .f32⟩
  | .hbm, ⟨54, _⟩ => ⟨S_, .f32⟩
  | .hbm, ⟨55, _⟩ => ⟨S1x8x4096, .f32⟩
  | .hbm, ⟨56, _⟩ => ⟨S1x8x4096, .i1⟩
  | .hbm, ⟨57, _⟩ => ⟨S_, .f32⟩
  | .hbm, ⟨58, _⟩ => ⟨S1x8x4096, .f32⟩
  | .hbm, ⟨59, _⟩ => ⟨S1x8x4096, .i1⟩
  | .hbm, ⟨60, _⟩ => ⟨S_, .f32⟩
  | .hbm, ⟨61, _⟩ => ⟨S1x8x4096, .f32⟩
  | .hbm, ⟨62, _⟩ => ⟨S_, .f32⟩
  | .hbm, ⟨63, _⟩ => ⟨S1x8x4096, .f32⟩
  | .hbm, ⟨64, _⟩ => ⟨S_, .f32⟩
  | .hbm, ⟨65, _⟩ => ⟨S1x8x4096, .f32⟩
  | .hbm, ⟨66, _⟩ => ⟨S1x8x4096, .f32⟩
  | .hbm, ⟨67, _⟩ => ⟨S1x8x4096, .f32⟩
  | .hbm, ⟨68, _⟩ => ⟨S1x8x4096x1, .f32⟩
  | .hbm, ⟨69, _⟩ => ⟨S1x8x4096x4096, .f32⟩
  | .hbm, ⟨70, _⟩ => ⟨S1x8x4096x4096, .f32⟩
  | .hbm, ⟨71, _⟩ => ⟨S1x8x4096x4096, .f32⟩
  | .hbm, ⟨72, _⟩ => ⟨S_, .f32⟩
  | .hbm, ⟨73, _⟩ => ⟨S1x8x4096, .f32⟩
  | .hbm, ⟨74, _⟩ => ⟨S1x8x4096x1, .f32⟩
  | .hbm, ⟨75, _⟩ => ⟨S1x8x4096x4096, .f32⟩
  | .hbm, ⟨76, _⟩ => ⟨S1x8x4096x4096, .f32⟩
  | .hbm, ⟨77, _⟩ => ⟨S1x8x4096x1, .f32⟩
  | .hbm, ⟨78, _⟩ => ⟨S_, .f32⟩
  | .hbm, ⟨79, _⟩ => ⟨S1x8x4096x1, .f32⟩
  | .hbm, ⟨80, _⟩ => ⟨S1x8x4096x1, .f32⟩
  | .hbm, ⟨81, _⟩ => ⟨S1x8x128x4096, .f32⟩
  | .hbm, ⟨82, _⟩ => ⟨S1x4096x8x128, .f32⟩
  | .hbm, ⟨83, _⟩ => ⟨S1x8x128x4096, .f32⟩
  | .hbm, ⟨84, _⟩ => ⟨S1x8x4096x4096, .f32⟩
  | .hbm, ⟨85, _⟩ => ⟨S1x8x128x4096, .f32⟩
  | .hbm, ⟨86, _⟩ => ⟨S1x4096x8x128, .f32⟩
  | .hbm, ⟨87, _⟩ => ⟨S1x8x4096x4096, .f32⟩
  | .hbm, ⟨88, _⟩ => ⟨S1x8x4096x4096, .f32⟩
  | .hbm, ⟨89, _⟩ => ⟨S1x8x4096x4096, .f32⟩
  | .hbm, ⟨90, _⟩ => ⟨S_, .f32⟩
  | .hbm, ⟨91, _⟩ => ⟨S1x8x4096, .f32⟩
  | .hbm, ⟨92, _⟩ => ⟨S1x8x4096x1, .f32⟩
  | .hbm, ⟨93, _⟩ => ⟨S1x8x4096x1, .f32⟩
  | .hbm, ⟨94, _⟩ => ⟨S1x8x4096x4096, .f32⟩
  | .hbm, ⟨95, _⟩ => ⟨S1x8x4096x4096, .f32⟩
  | .hbm, ⟨96, _⟩ => ⟨S_, .f32⟩
  | .hbm, ⟨97, _⟩ => ⟨S8x4096, .f32⟩
  | .hbm, ⟨98, _⟩ => ⟨S1x8x4096, .f32⟩
  | .hbm, ⟨99, _⟩ => ⟨S1x8x4096x4096, .f32⟩
  | .hbm, ⟨100, _⟩ => ⟨S1x8x4096x4096, .f32⟩
  | .hbm, ⟨101, _⟩ => ⟨S1x8x4096x4096, .f32⟩
  | .hbm, ⟨102, _⟩ => ⟨S_, .f32⟩
  | .hbm, ⟨103, _⟩ => ⟨S1x8x4096x4096, .f32⟩
  | .hbm, ⟨104, _⟩ => ⟨S1x8x4096x4096, .f32⟩
  | .hbm, ⟨105, _⟩ => ⟨S1x8x4096x4096, .f32⟩
  | .hbm, ⟨106, _⟩ => ⟨S1x8x4096x4096, .f32⟩
  | .hbm, ⟨107, _⟩ => ⟨S1x8x4096x192, .f32⟩
  | .hbm, ⟨108, _⟩ => ⟨S1x4096x8x192, .f32⟩
  | .hbm, ⟨109, _⟩ => ⟨S1x8x4096x192, .f32⟩
  | .hbm, ⟨110, _⟩ => ⟨S1x4096x8x192, .f32⟩
  | _, _ => ⟨S1x4096x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst_1 : Ref sig .tc := ⟨.hbm, 36, rfl⟩
abbrev main_call1_v0 : Ref sig .tc := ⟨.hbm, 37, rfl⟩
abbrev main_v13_1 : Ref sig .tc := ⟨.hbm, 38, rfl⟩
abbrev main_call1_v2 : Ref sig .tc := ⟨.hbm, 39, rfl⟩
abbrev main_v13_0 : Ref sig .tc := ⟨.hbm, 40, rfl⟩
abbrev main_call1_cst : Ref sig .tc := ⟨.hbm, 41, rfl⟩
abbrev main_v13_2 : Ref sig .tc := ⟨.hbm, 42, rfl⟩
abbrev main_cst_2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_cst_3 : Ref sig .tc := ⟨.hbm, 49, rfl⟩
abbrev main_v19 : Ref sig .tc := ⟨.hbm, 50, rfl⟩
abbrev main_cst_4 : Ref sig .tc := ⟨.hbm, 51, rfl⟩
abbrev main_v20 : Ref sig .tc := ⟨.hbm, 52, rfl⟩
abbrev main_v21 : Ref sig .tc := ⟨.hbm, 53, rfl⟩
abbrev main_cst_5 : Ref sig .tc := ⟨.hbm, 54, rfl⟩
abbrev main_v22 : Ref sig .tc := ⟨.hbm, 55, rfl⟩
abbrev main_v23 : Ref sig .tc := ⟨.hbm, 56, rfl⟩
abbrev main_cst_6 : Ref sig .tc := ⟨.hbm, 57, rfl⟩
abbrev main_v24 : Ref sig .tc := ⟨.hbm, 58, rfl⟩
abbrev main_v25 : Ref sig .tc := ⟨.hbm, 59, rfl⟩
abbrev main_cst_7 : Ref sig .tc := ⟨.hbm, 60, rfl⟩
abbrev main_v26 : Ref sig .tc := ⟨.hbm, 61, rfl⟩
abbrev main_cst_8 : Ref sig .tc := ⟨.hbm, 62, rfl⟩
abbrev main_v27 : Ref sig .tc := ⟨.hbm, 63, rfl⟩
abbrev main_cst_9 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_10 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst_11 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_cst_12 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_cst_13 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_call2_cst : Ref sig .tc := ⟨.hbm, 102, rfl⟩
abbrev main_call2_v0 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩

abbrev nD : Nat := 1
abbrev τ : Topo := Topo.v7x

variable {F : FTy → Type} [FloatOps F]
-- ==== Up.lean ====
abbrev S4096x1024 : Shape := ⟨2, ![4096, 1024]⟩
abbrev S1024x2816 : Shape := ⟨2, ![1024, 2816]⟩
abbrev S1024x4x704 : Shape := ⟨3, ![1024, 4, 704]⟩
abbrev S4x1024x704 : Shape := ⟨3, ![4, 1024, 704]⟩
abbrev S4x4096x704 : Shape := ⟨3, ![4, 4096, 704]⟩
abbrev S1024x1024 : Shape := ⟨2, ![1024, 1024]⟩
abbrev S1x1024x704 : Shape := ⟨3, ![1, 1024, 704]⟩
abbrev S1024x704 : Shape := ⟨2, ![1024, 704]⟩

abbrev nBuf : Space → Nat
  | .hbm => 13
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x1024, .bf16⟩
  | .hbm, ⟨4, _⟩ => ⟨S1024x4x704, .f32⟩
  | .hbm, ⟨5, _⟩ => ⟨S4x1024x704, .f32⟩
  | .hbm, ⟨6, _⟩ => ⟨S4x1024x704, .bf16⟩
  | .hbm, ⟨7, _⟩ => ⟨S1024x4x704, .f32⟩
  | .hbm, ⟨8, _⟩ => ⟨S4x1024x704, .f32⟩
  | .hbm, ⟨9, _⟩ => ⟨S4x1024x704, .bf16⟩
  | .hbm, ⟨10, _⟩ => ⟨S4x4096x704, .bf16⟩
  | .hbm, ⟨11, _⟩ => ⟨S4x4096x704, .bf16⟩
  | .hbm, ⟨12, _⟩ => ⟨S4x4096x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpReferenceIdeal.lean ====
abbrev S4096x1024 : Shape := ⟨2, ![4096, 1024]⟩
abbrev S1024x2816 : Shape := ⟨2, ![1024, 2816]⟩
abbrev S4096x2816 : Shape := ⟨2, ![4096, 2816]⟩
abbrev S4096x4x704 : Shape := ⟨3, ![4096, 4, 704]⟩
abbrev S4x4096x704 : Shape := ⟨3, ![4, 4096, 704]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x2816, .f32⟩
  | .hbm, ⟨4, _⟩ => ⟨S4096x2816, .f32⟩
  | .hbm, ⟨5, _⟩ => ⟨S4096x4x704, .f32⟩
  | .hbm, ⟨6, _⟩ => ⟨S4x4096x704, .f32⟩
  | .hbm, ⟨7, _⟩ => ⟨S4x4096x704, .bf16⟩
  | .hbm, ⟨8, _⟩ => ⟨S4096x4x704, .f32⟩
  | .hbm, ⟨9, _⟩ => ⟨S4x4096x704, .f32⟩
  | .hbm, ⟨10, _⟩ => ⟨S4x4096x704, .bf16⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x4x704, .f32⟩
  | .hbm, ⟨22, _⟩ => ⟨S4x4096x704, .f32⟩
  | .hbm, ⟨23, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== Down.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1x1024x704 : Shape := ⟨3, ![1, 1024, 704]⟩
abbrev S1x704x1024 : Shape := ⟨3, ![1, 704, 1024]⟩
abbrev S1024x1024 : Shape := ⟨2, ![1024, 1024]⟩
abbrev S1024x704 : Shape := ⟨2, ![1024, 704]⟩
abbrev S704x1024 : Shape := ⟨2, ![704, 1024]⟩

abbrev nBuf : Space → Nat
  | .hbm => 23
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x4x704, .f32⟩
  | .hbm, ⟨18, _⟩ => ⟨S4x4096x704, .f32⟩
  | .hbm, ⟨19, _⟩ => ⟨S4x4096x704, .bf16⟩
  | .hbm, ⟨20, _⟩ => ⟨S4x704x1024, .f32⟩
  | .hbm, ⟨21, _⟩ => ⟨S4x704x1024, .bf16⟩
  | .hbm, ⟨22, _⟩ => ⟨S4096x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x704x1024, .bf16⟩
  | .local _ .vmem, ⟨3, _⟩ => ⟨S1x704x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== DownReferenceIdeal.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x1024, .f32⟩
  | .hbm, ⟨18, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩

abbrev nD : Nat := 1
abbrev τ : Topo := Topo.v7x

variable {F : FTy → Type} [FloatOps F]
-- ==== Hidden.lean ====
abbrev S4096x1024 : Shape := ⟨2, ![4096, 1024]⟩
abbrev S1024x2816 : Shape := ⟨2, ![1024, 2816]⟩
abbrev S2816x1024 : Shape := ⟨2, ![2816, 1024]⟩
abbrev S4x704x1024 : Shape := ⟨3, ![4, 704, 1024]⟩
abbrev S4096x2816 : Shape := ⟨2, ![4096, 2816]⟩
abbrev S4096x4x704 : Shape := ⟨3, ![4096, 4, 704]⟩
abbrev S4x4096x704 : Shape := ⟨3, ![4, 4096, 704]⟩
abbrev S1024x1024 : Shape := ⟨2, ![1024, 1024]⟩
abbrev S1x704x1024 : Shape := ⟨3, ![1, 704, 1024]⟩
abbrev S1x1024x704 : Shape := ⟨3, ![1, 1024, 704]⟩
abbrev S704x1024 : Shape := ⟨2, ![704, 1024]⟩
abbrev S1024x704 : Shape := ⟨2, ![1024, 704]⟩

abbrev nBuf : Space → Nat
  | .hbm => 17
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4x704x1024, .f32⟩
  | .hbm, ⟨6, _⟩ => ⟨S4x704x1024, .bf16⟩
  | .hbm, ⟨7, _⟩ => ⟨S4096x2816, .f32⟩
  | .hbm, ⟨8, _⟩ => ⟨S4096x4x704, .f32⟩
  | .hbm, ⟨9, _⟩ => ⟨S4x4096x704, .f32⟩
  | .hbm, ⟨10, _⟩ => ⟨S4x4096x704, .bf16⟩
  | .hbm, ⟨11, _⟩ => ⟨S4096x2816, .f32⟩
  | .hbm, ⟨12, _⟩ => ⟨S4096x4x704, .f32⟩
  | .hbm, ⟨13, _⟩ => ⟨S4x4096x704, .f32⟩
  | .hbm, ⟨14, _⟩ => ⟨S4x4096x704, .bf16⟩
  | .hbm, ⟨15, _⟩ => ⟨S4x4096x704, .bf16⟩
  | .hbm, ⟨16, _⟩ => ⟨S4x4096x704, .bf16⟩
  | .local _ .vmem, ⟨0, _⟩ => ⟨S1024x1024, .f32⟩
  | .local _ .vmem, ⟨1, _⟩ => ⟨S1024x1024, .f32⟩
  | .local _ .vmem, ⟨2, _⟩ => ⟨S1x704x1024, .bf16⟩
  | .local _ .vmem, ⟨3, _⟩ => ⟨S1x704x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== HiddenReferenceIdeal.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩
abbrev S4096x4x704 : Shape := ⟨3, ![4096, 4, 704]⟩
abbrev S4x4096x704 : Shape := ⟨3, ![4, 4096, 704]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S1024x2816, .f32⟩
  | .hbm, ⟨23, _⟩ => ⟨S2816x1024, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x4x704, .f32⟩
  | .hbm, ⟨32, _⟩ => ⟨S4x4096x704, .f32⟩
  | .hbm, ⟨33, _⟩ => ⟨S4x4096x704, .bf16⟩
  | .hbm, ⟨34, _⟩ => ⟨S4096x4x704, .f32⟩
  | .hbm, ⟨35, _⟩ => ⟨S4x4096x704, .f32⟩
  | .hbm, ⟨36, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩

abbrev nD : Nat := 1
abbrev τ : Topo := Topo.v7x

variable {F : FTy → Type} [FloatOps F]
-- ==== Dwd.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 21
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x4x704, .f32⟩
  | .hbm, ⟨18, _⟩ => ⟨S4x4096x704, .f32⟩
  | .hbm, ⟨19, _⟩ => ⟨S4x4096x704, .bf16⟩
  | .hbm, ⟨20, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .f32⟩
  | .local _ .vmem, ⟨3, _⟩ => ⟨S2048x1024, .f32⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwdReferenceIdeal.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩
abbrev S4x704x1024 : Shape := ⟨3, ![4, 704, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S1024x2816, .f32⟩
  | .hbm, ⟨23, _⟩ => ⟨S2816x1024, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S2816x1024, .f32⟩
  | .hbm, ⟨28, _⟩ => ⟨S1024x2816, .f32⟩
  | .hbm, ⟨29, _⟩ => ⟨S4096x1024, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S2816x1024, .f32⟩
  | .hbm, ⟨35, _⟩ => ⟨S1024x2816, .f32⟩
  | .hbm, ⟨36, _⟩ => ⟨S4096x1024, .f32⟩
  | .hbm, ⟨37, _⟩ => ⟨S4096x1024, .f32⟩
  | .hbm, ⟨38, _⟩ => ⟨S4x704x1024, .f32⟩
  | .hbm, ⟨39, _⟩ => ⟨S4x704x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩

abbrev nD : Nat := 1
abbrev τ : Topo := Topo.v7x

variable {F : FTy → Type} [FloatOps F]
-- ==== Dwgu.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩
abbrev S4096x4x704 : Shape := ⟨3, ![4096, 4, 704]⟩
abbrev S4x4096x704 : Shape := ⟨3, ![4, 4096, 704]⟩
abbrev S4x1024x704 : Shape := ⟨3, ![4, 1024, 704]⟩
abbrev S2048x1024 : Shape := ⟨2, ![2048, 1024]⟩
abbrev S1x2048x704 : Shape := ⟨3, ![1, 2048, 704]⟩
abbrev S1x1024x704 : Shape := ⟨3, ![1, 1024, 704]⟩
abbrev S1024x704 : Shape := ⟨2, ![1024, 704]⟩
abbrev S2048x704 : Shape := ⟨2, ![2048, 704]⟩

abbrev nBuf : Space → Nat
  | .hbm => 40
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S1024x2816, .f32⟩
  | .hbm, ⟨23, _⟩ => ⟨S2816x1024, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x1024, .bf16⟩
  | .hbm, ⟨32, _⟩ => ⟨S4096x4x704, .f32⟩
  | .hbm, ⟨33, _⟩ => ⟨S4x4096x704, .f32⟩
  | .hbm, ⟨34, _⟩ => ⟨S4x4096x704, .bf16⟩
  | .hbm, ⟨35, _⟩ => ⟨S4096x4x704, .f32⟩
  | .hbm, ⟨36, _⟩ => ⟨S4x4096x704, .f32⟩
  | .hbm, ⟨37, _⟩ => ⟨S4x4096x704, .bf16⟩
  | .hbm, ⟨38, _⟩ => ⟨S4x1024x704, .bf16⟩
  | .hbm, ⟨39, _⟩ => ⟨S4x1024x704, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1024x704, .f32⟩
  | .local _ .vmem, ⟨11, _⟩ => ⟨S1024x704, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18_0 : Ref sig .tc := ⟨.hbm, 38, rfl⟩
abbrev main_v18_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v21 : BitVec 1 := Scalar.cmpi .eq arg1 c1_i32
  let v22 : BitVec 32 := Scalar.extui v21
  let c0_i32_17 : BitVec 32 := 0#32
  let v23 : BitVec 1 := Scalar.cmpi .ne v22 c0_i32_17
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== DwguReferenceIdeal.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩
abbrev S1024x4x704 : Shape := ⟨3, ![1024, 4, 704]⟩
abbrev S4x1024x704 : Shape := ⟨3, ![4, 1024, 704]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S1024x2816, .f32⟩
  | .hbm, ⟨23, _⟩ => ⟨S2816x1024, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S2816x1024, .f32⟩
  | .hbm, ⟨28, _⟩ => ⟨S1024x2816, .f32⟩
  | .hbm, ⟨29, _⟩ => ⟨S4096x1024, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S2816x1024, .f32⟩
  | .hbm, ⟨35, _⟩ => ⟨S1024x2816, .f32⟩
  | .hbm, ⟨36, _⟩ => ⟨S4096x1024, .f32⟩
  | .hbm, ⟨37, _⟩ => ⟨S4096x1024, .f32⟩
  | .hbm, ⟨38, _⟩ => ⟨S1024x4x704, .f32⟩
  | .hbm, ⟨39, _⟩ => ⟨S4x1024x704, .f32⟩
  | .hbm, ⟨40, _⟩ => ⟨S4x1024x704, .bf16⟩
  | .hbm, ⟨41, _⟩ => ⟨S1024x4x704, .f32⟩
  | .hbm, ⟨42, _⟩ => ⟨S4x1024x704, .f32⟩
  | .hbm, ⟨43, _⟩ => ⟨S4x1024x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩

abbrev nD : Nat := 1
abbrev τ : Topo := Topo.v7x

variable {F : FTy → Type} [FloatOps F]
-- ==== Dh.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩
abbrev S4096x4x704 : Shape := ⟨3, ![4096, 4, 704]⟩
abbrev S4x4096x704 : Shape := ⟨3, ![4, 4096, 704]⟩
abbrev S1024x4x704 : Shape := ⟨3, ![1024, 4, 704]⟩
abbrev S4x1024x704 : Shape := ⟨3, ![4, 1024, 704]⟩
abbrev S1x1024x704 : Shape := ⟨3, ![1, 1024, 704]⟩
abbrev S1024x1024 : Shape := ⟨2, ![1024, 1024]⟩
abbrev S1024x704 : Shape := ⟨2, ![1024, 704]⟩

abbrev nBuf : Space → Nat
  | .hbm => 44
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S1024x2816, .f32⟩
  | .hbm, ⟨23, _⟩ => ⟨S2816x1024, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x4x704, .f32⟩
  | .hbm, ⟨32, _⟩ => ⟨S4x4096x704, .f32⟩
  | .hbm, ⟨33, _⟩ => ⟨S4x4096x704, .bf16⟩
  | .hbm, ⟨34, _⟩ => ⟨S4096x4x704, .f32⟩
  | .hbm, ⟨35, _⟩ => ⟨S4x4096x704, .f32⟩
  | .hbm, ⟨36, _⟩ => ⟨S4x4096x704, .bf16⟩
  | .hbm, ⟨37, _⟩ => ⟨S1024x4x704, .f32⟩
  | .hbm, ⟨38, _⟩ => ⟨S4x1024x704, .f32⟩
  | .hbm, ⟨39, _⟩ => ⟨S4x1024x704, .bf16⟩
  | .hbm, ⟨40, _⟩ => ⟨S1024x4x704, .f32⟩
  | .hbm, ⟨41, _⟩ => ⟨S4x1024x704, .f32⟩
  | .hbm, ⟨42, _⟩ => ⟨S4x1024x704, .bf16⟩
  | .hbm, ⟨43, _⟩ => ⟨S4096x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1024x1024, .f32⟩
  | .local _ .vmem, ⟨9, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== DhReferenceIdeal.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S1024x2816, .f32⟩
  | .hbm, ⟨23, _⟩ => ⟨S2816x1024, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S2816x1024, .f32⟩
  | .hbm, ⟨28, _⟩ => ⟨S1024x2816, .f32⟩
  | .hbm, ⟨29, _⟩ => ⟨S4096x1024, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S2816x1024, .f32⟩
  | .hbm, ⟨35, _⟩ => ⟨S1024x2816, .f32⟩
  | .hbm, ⟨36, _⟩ => ⟨S4096x1024, .f32⟩
  | .hbm, ⟨37, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩

abbrev nD : Nat := 1
abbrev τ : Topo := Topo.v7x

variable {F : FTy → Type} [FloatOps F]
-- ==== Out.lean ====
abbrev S4096x1024 : Shape := ⟨2, ![4096, 1024]⟩
abbrev S1024x1024 : Shape := ⟨2, ![1024, 1024]⟩
abbrev S1024x4096 : Shape := ⟨2, ![1024, 4096]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024x4096, .f32⟩
  | .hbm, ⟨4, _⟩ => ⟨S1024x4096, .bf16⟩
  | .hbm, ⟨5, _⟩ => ⟨S1024x1024, .bf16⟩
  | .hbm, ⟨6, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutReferenceIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Do.lean ====
abbrev S4096x1024 : Shape := ⟨2, ![4096, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .f32⟩
  | .hbm, ⟨4, _⟩ => ⟨S1024x1024, .bf16⟩
  | .hbm, ⟨5, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DoReferenceIdeal.lean ====
abbrev S4096x1024 : Shape := ⟨2, ![4096, 1024]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S4096x1024, .f32⟩
  | .hbm, ⟨10, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Dwo.lean ====
abbrev S4096x1024 : Shape := ⟨2, ![4096, 1024]⟩
abbrev S1024x1024 : Shape := ⟨2, ![1024, 1024]⟩
abbrev S1024x4096 : Shape := ⟨2, ![1024, 4096]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .f32⟩
  | .hbm, ⟨4, _⟩ => ⟨S1024x4096, .f32⟩
  | .hbm, ⟨5, _⟩ => ⟨S1024x4096, .bf16⟩
  | .hbm, ⟨6, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DwoReferenceIdeal.lean ====
abbrev S4096x1024 : Shape := ⟨2, ![4096, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== QDown.lean ====
abbrev S4096x1024 : Shape := ⟨2, ![4096, 1024]⟩
abbrev S1024x256 : Shape := ⟨2, ![1024, 256]⟩
abbrev S4096x256 : Shape := ⟨2, ![4096, 256]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x256, .f32⟩
  | .hbm, ⟨2, _⟩ => ⟨S4096x1024, .bf16⟩
  | .hbm, ⟨3, _⟩ => ⟨S1024x256, .bf16⟩
  | .hbm, ⟨4, _⟩ => ⟨S4096x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .f32⟩
  | .local _ .vmem, ⟨4, _⟩ => ⟨S1024x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QDownReferenceIdeal.lean ====
abbrev S4096x1024 : Shape := ⟨2, ![4096, 1024]⟩
abbrev S1024x256 : Shape := ⟨2, ![1024, 256]⟩
abbrev S4096x256 : Shape := ⟨2, ![4096, 256]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x256, .f32⟩
  | .hbm, ⟨2, _⟩ => ⟨S4096x256, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== QDownDh.lean ====
abbrev S4096x1024 : Shape := ⟨2, ![4096, 1024]⟩
abbrev S1024x256 : Shape := ⟨2, ![1024, 256]⟩
abbrev S4096x256 : Shape := ⟨2, ![4096, 256]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x256, .f32⟩
  | .hbm, ⟨2, _⟩ => ⟨S4096x256, .f32⟩
  | .hbm, ⟨3, _⟩ => ⟨S1024x256, .bf16⟩
  | .hbm, ⟨4, _⟩ => ⟨S4096x1024, .f32⟩
  | .local _ .vmem, ⟨0, _⟩ => ⟨S1024x256, .f32⟩
  | .local _ .vmem, ⟨1, _⟩ => ⟨S1024x256, .f32⟩
  | .local _ .vmem, ⟨2, _⟩ => ⟨S1024x256, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QDownDhReferenceIdeal.lean ====
abbrev S4096x1024 : Shape := ⟨2, ![4096, 1024]⟩
abbrev S1024x256 : Shape := ⟨2, ![1024, 256]⟩
abbrev S4096x256 : Shape := ⟨2, ![4096, 256]⟩
abbrev S256x1024 : Shape := ⟨2, ![256, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x256, .f32⟩
  | .hbm, ⟨2, _⟩ => ⟨S4096x256, .f32⟩
  | .hbm, ⟨3, _⟩ => ⟨S4096x256, .f32⟩
  | .hbm, ⟨4, _⟩ => ⟨S256x1024, .f32⟩
  | .hbm, ⟨5, _⟩ => ⟨S1024x256, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== QDownDw.lean ====
abbrev S4096x1024 : Shape := ⟨2, ![4096, 1024]⟩
abbrev S1024x256 : Shape := ⟨2, ![1024, 256]⟩
abbrev S4096x256 : Shape := ⟨2, ![4096, 256]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x256, .f32⟩
  | .hbm, ⟨2, _⟩ => ⟨S4096x256, .f32⟩
  | .hbm, ⟨3, _⟩ => ⟨S4096x1024, .bf16⟩
  | .hbm, ⟨4, _⟩ => ⟨S1024x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== QDownDwReferenceIdeal.lean ====
abbrev S4096x1024 : Shape := ⟨2, ![4096, 1024]⟩
abbrev S1024x256 : Shape := ⟨2, ![1024, 256]⟩
abbrev S4096x256 : Shape := ⟨2, ![4096, 256]⟩
abbrev S256x1024 : Shape := ⟨2, ![256, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x256, .f32⟩
  | .hbm, ⟨2, _⟩ => ⟨S4096x256, .f32⟩
  | .hbm, ⟨3, _⟩ => ⟨S4096x256, .f32⟩
  | .hbm, ⟨4, _⟩ => ⟨S256x1024, .f32⟩
  | .hbm, ⟨5, _⟩ => ⟨S1024x256, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== QUp.lean ====
abbrev S4096x256 : Shape := ⟨2, ![4096, 256]⟩
abbrev S256x1536 : Shape := ⟨2, ![256, 1536]⟩
abbrev S256x8x192 : Shape := ⟨3, ![256, 8, 192]⟩
abbrev S_ : Shape := ⟨0, ![]⟩
abbrev S256x8x256 : Shape := ⟨3, ![256, 8, 256]⟩
abbrev S256x2048 : Shape := ⟨2, ![256, 2048]⟩
abbrev S4096x2048 : Shape := ⟨2, ![4096, 2048]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 10
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S256x1536, .f32⟩
  | .hbm, ⟨2, _⟩ => ⟨S4096x256, .bf16⟩
  | .hbm, ⟨3, _⟩ => ⟨S256x8x192, .f32⟩
  | .hbm, ⟨4, _⟩ => ⟨S_, .i32⟩
  | .hbm, ⟨5, _⟩ => ⟨S_, .f32⟩
  | .hbm, ⟨6, _⟩ => ⟨S256x8x256, .f32⟩
  | .hbm, ⟨7, _⟩ => ⟨S256x2048, .f32⟩
  | .hbm, ⟨8, _⟩ => ⟨S256x2048, .bf16⟩
  | .hbm, ⟨9, _⟩ => ⟨S4096x2048, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QUpReferenceIdeal.lean ====
abbrev S4096x256 : Shape := ⟨2, ![4096, 256]⟩
abbrev S256x1536 : Shape := ⟨2, ![256, 1536]⟩
abbrev S256x8x192 : Shape := ⟨3, ![256, 8, 192]⟩
abbrev S_ : Shape := ⟨0, ![]⟩
abbrev S256x8x256 : Shape := ⟨3, ![256, 8, 256]⟩
abbrev S256x2048 : Shape := ⟨2, ![256, 2048]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x1536, .f32⟩
  | .hbm, ⟨2, _⟩ => ⟨S256x8x192, .f32⟩
  | .hbm, ⟨3, _⟩ => ⟨S_, .i32⟩
  | .hbm, ⟨4, _⟩ => ⟨S_, .f32⟩
  | .hbm, ⟨5, _⟩ => ⟨S256x8x256, .f32⟩
  | .hbm, ⟨6, _⟩ => ⟨S256x2048, .f32⟩
  | .hbm, ⟨7, _⟩ => ⟨S4096x2048, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== QUpDc.lean ====
abbrev S4096x256 : Shape := ⟨2, ![4096, 256]⟩
abbrev S256x1536 : Shape := ⟨2, ![256, 1536]⟩
abbrev S4096x2048 : Shape := ⟨2, ![4096, 2048]⟩
abbrev S256x8x192 : Shape := ⟨3, ![256, 8, 192]⟩
abbrev S_ : Shape := ⟨0, ![]⟩
abbrev S256x8x256 : Shape := ⟨3, ![256, 8, 256]⟩
abbrev S256x2048 : Shape := ⟨2, ![256, 2048]⟩
abbrev S1024x2048 : Shape := ⟨2, ![1024, 2048]⟩
abbrev S1024x256 : Shape := ⟨2, ![1024, 256]⟩

abbrev nBuf : Space → Nat
  | .hbm => 10
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S256x1536, .f32⟩
  | .hbm, ⟨2, _⟩ => ⟨S4096x2048, .f32⟩
  | .hbm, ⟨3, _⟩ => ⟨S256x8x192, .f32⟩
  | .hbm, ⟨4, _⟩ => ⟨S_, .i32⟩
  | .hbm, ⟨5, _⟩ => ⟨S_, .f32⟩
  | .hbm, ⟨6, _⟩ => ⟨S256x8x256, .f32⟩
  | .hbm, ⟨7, _⟩ => ⟨S256x2048, .f32⟩
  | .hbm, ⟨8, _⟩ => ⟨S256x2048, .bf16⟩
  | .hbm, ⟨9, _⟩ => ⟨S4096x256, .f32⟩
  | .local _ .vmem, ⟨0, _⟩ => ⟨S1024x2048, .f32⟩
  | .local _ .vmem, ⟨1, _⟩ => ⟨S1024x2048, .f32⟩
  | .local _ .vmem, ⟨2, _⟩ => ⟨S256x2048, .bf16⟩
  | .local _ .vmem, ⟨3, _⟩ => ⟨S1024x256, .f32⟩
  | .local _ .vmem, ⟨4, _⟩ => ⟨S1024x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QUpDcReferenceIdeal.lean ====
abbrev S4096x256 : Shape := ⟨2, ![4096, 256]⟩
abbrev S256x1536 : Shape := ⟨2, ![256, 1536]⟩
abbrev S4096x2048 : Shape := ⟨2, ![4096, 2048]⟩
abbrev S256x8x192 : Shape := ⟨3, ![256, 8, 192]⟩
abbrev S_ : Shape := ⟨0, ![]⟩
abbrev S256x8x256 : Shape := ⟨3, ![256, 8, 256]⟩
abbrev S256x2048 : Shape := ⟨2, ![256, 2048]⟩
abbrev S2048x256 : Shape := ⟨2, ![2048, 256]⟩

abbrev nBuf : Space → Nat
  | .hbm => 12
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x1536, .f32⟩
  | .hbm, ⟨2, _⟩ => ⟨S4096x2048, .f32⟩
  | .hbm, ⟨3, _⟩ => ⟨S256x8x192, .f32⟩
  | .hbm, ⟨4, _⟩ => ⟨S_, .i32⟩
  | .hbm, ⟨5, _⟩ => ⟨S_, .f32⟩
  | .hbm, ⟨6, _⟩ => ⟨S256x8x256, .f32⟩
  | .hbm, ⟨7, _⟩ => ⟨S256x2048, .f32⟩
  | .hbm, ⟨8, _⟩ => ⟨S4096x2048, .f32⟩
  | .hbm, ⟨9, _⟩ => ⟨S2048x256, .f32⟩
  | .hbm, ⟨10, _⟩ => ⟨S256x2048, .f32⟩
  | .hbm, ⟨11, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== QUpDw.lean ====
abbrev S4096x256 : Shape := ⟨2, ![4096, 256]⟩
abbrev S256x1536 : Shape := ⟨2, ![256, 1536]⟩
abbrev S4096x2048 : Shape := ⟨2, ![4096, 2048]⟩
abbrev S256x2048 : Shape := ⟨2, ![256, 2048]⟩
abbrev S1024x256 : Shape := ⟨2, ![1024, 256]⟩
abbrev S1024x1024 : Shape := ⟨2, ![1024, 1024]⟩
abbrev S256x1024 : Shape := ⟨2, ![256, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S256x1536, .f32⟩
  | .hbm, ⟨2, _⟩ => ⟨S4096x2048, .f32⟩
  | .hbm, ⟨3, _⟩ => ⟨S4096x256, .bf16⟩
  | .hbm, ⟨4, _⟩ => ⟨S256x2048, .f32⟩
  | .local _ .vmem, ⟨0, _⟩ => ⟨S1024x256, .bf16⟩
  | .local _ .vmem, ⟨1, _⟩ => ⟨S1024x256, .bf16⟩
  | .local _ .vmem, ⟨2, _⟩ => ⟨S1024x1024, .f32⟩
  | .local _ .vmem, ⟨3, _⟩ => ⟨S1024x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== QUpDwReferenceIdeal.lean ====
abbrev S4096x256 : Shape := ⟨2, ![4096, 256]⟩
abbrev S256x1536 : Shape := ⟨2, ![256, 1536]⟩
abbrev S4096x2048 : Shape := ⟨2, ![4096, 2048]⟩
abbrev S256x8x192 : Shape := ⟨3, ![256, 8, 192]⟩
abbrev S_ : Shape := ⟨0, ![]⟩
abbrev S256x8x256 : Shape := ⟨3, ![256, 8, 256]⟩
abbrev S256x2048 : Shape := ⟨2, ![256, 2048]⟩
abbrev S2048x256 : Shape := ⟨2, ![2048, 256]⟩

abbrev nBuf : Space → Nat
  | .hbm => 12
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x1536, .f32⟩
  | .hbm, ⟨2, _⟩ => ⟨S4096x2048, .f32⟩
  | .hbm, ⟨3, _⟩ => ⟨S256x8x192, .f32⟩
  | .hbm, ⟨4, _⟩ => ⟨S_, .i32⟩
  | .hbm, ⟨5, _⟩ => ⟨S_, .f32⟩
  | .hbm, ⟨6, _⟩ => ⟨S256x8x256, .f32⟩
  | .hbm, ⟨7, _⟩ => ⟨S256x2048, .f32⟩
  | .hbm, ⟨8, _⟩ => ⟨S4096x2048, .f32⟩
  | .hbm, ⟨9, _⟩ => ⟨S2048x256, .f32⟩
  | .hbm, ⟨10, _⟩ => ⟨S256x2048, .f32⟩
  | .hbm, ⟨11, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== KvDown.lean ====
abbrev S4096x1024 : Shape := ⟨2, ![4096, 1024]⟩
abbrev S1024x576 : Shape := ⟨2, ![1024, 576]⟩
abbrev S_ : Shape := ⟨0, ![]⟩
abbrev S1024x640 : Shape := ⟨2, ![1024, 640]⟩
abbrev S4096x640 : Shape := ⟨2, ![4096, 640]⟩
abbrev S1024x1024 : Shape := ⟨2, ![1024, 1024]⟩

abbrev nBuf : Space → Nat
  | .hbm => 8
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x576, .f32⟩
  | .hbm, ⟨2, _⟩ => ⟨S4096x1024, .bf16⟩
  | .hbm, ⟨3, _⟩ => ⟨S_, .i32⟩
  | .hbm, ⟨4, _⟩ => ⟨S_, .f32⟩
  | .hbm, ⟨5, _⟩ => ⟨S1024x640, .f32⟩
  | .hbm, ⟨6, _⟩ => ⟨S1024x640, .bf16⟩
  | .hbm, ⟨7, _⟩ => ⟨S4096x640, .f32⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .f32⟩
  | .local _ .vmem, ⟨4, _⟩ => ⟨S1024x640, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvDownReferenceIdeal.lean ====
abbrev S4096x1024 : Shape := ⟨2, ![4096, 1024]⟩
abbrev S1024x576 : Shape := ⟨2, ![1024, 576]⟩
abbrev S_ : Shape := ⟨0, ![]⟩
abbrev S1024x640 : Shape := ⟨2, ![1024, 640]⟩
abbrev S4096x640 : Shape := ⟨2, ![4096, 640]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x576, .f32⟩
  | .hbm, ⟨2, _⟩ => ⟨S_, .i32⟩
  | .hbm, ⟨3, _⟩ => ⟨S_, .f32⟩
  | .hbm, ⟨4, _⟩ => ⟨S1024x640, .f32⟩
  | .hbm, ⟨5, _⟩ => ⟨S4096x640, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== KvDownDh.lean ====
abbrev S4096x1024 : Shape := ⟨2, ![4096, 1024]⟩
abbrev S1024x576 : Shape := ⟨2, ![1024, 576]⟩
abbrev S4096x640 : Shape := ⟨2, ![4096, 640]⟩
abbrev S_ : Shape := ⟨0, ![]⟩
abbrev S1024x640 : Shape := ⟨2, ![1024, 640]⟩
abbrev S1024x1024 : Shape := ⟨2, ![1024, 1024]⟩

abbrev nBuf : Space → Nat
  | .hbm => 8
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x576, .f32⟩
  | .hbm, ⟨2, _⟩ => ⟨S4096x640, .f32⟩
  | .hbm, ⟨3, _⟩ => ⟨S_, .i32⟩
  | .hbm, ⟨4, _⟩ => ⟨S_, .f32⟩
  | .hbm, ⟨5, _⟩ => ⟨S1024x640, .f32⟩
  | .hbm, ⟨6, _⟩ => ⟨S1024x640, .bf16⟩
  | .hbm, ⟨7, _⟩ => ⟨S4096x1024, .f32⟩
  | .local _ .vmem, ⟨0, _⟩ => ⟨S1024x640, .f32⟩
  | .local _ .vmem, ⟨1, _⟩ => ⟨S1024x640, .f32⟩
  | .local _ .vmem, ⟨2, _⟩ => ⟨S1024x640, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvDownDhReferenceIdeal.lean ====
abbrev S4096x1024 : Shape := ⟨2, ![4096, 1024]⟩
abbrev S1024x576 : Shape := ⟨2, ![1024, 576]⟩
abbrev S4096x640 : Shape := ⟨2, ![4096, 640]⟩
abbrev S_ : Shape := ⟨0, ![]⟩
abbrev S1024x640 : Shape := ⟨2, ![1024, 640]⟩
abbrev S640x1024 : Shape := ⟨2, ![640, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x576, .f32⟩
  | .hbm, ⟨2, _⟩ => ⟨S4096x640, .f32⟩
  | .hbm, ⟨3, _⟩ => ⟨S_, .i32⟩
  | .hbm, ⟨4, _⟩ => ⟨S_, .f32⟩
  | .hbm, ⟨5, _⟩ => ⟨S1024x640, .f32⟩
  | .hbm, ⟨6, _⟩ => ⟨S4096x640, .f32⟩
  | .hbm, ⟨7, _⟩ => ⟨S640x1024, .f32⟩
  | .hbm, ⟨8, _⟩ => ⟨S1024x640, .f32⟩
  | .hbm, ⟨9, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== KvDownDw.lean ====
abbrev S4096x1024 : Shape := ⟨2, ![4096, 1024]⟩
abbrev S1024x576 : Shape := ⟨2, ![1024, 576]⟩
abbrev S4096x640 : Shape := ⟨2, ![4096, 640]⟩
abbrev S1024x640 : Shape := ⟨2, ![1024, 640]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x576, .f32⟩
  | .hbm, ⟨2, _⟩ => ⟨S4096x640, .f32⟩
  | .hbm, ⟨3, _⟩ => ⟨S4096x1024, .bf16⟩
  | .hbm, ⟨4, _⟩ => ⟨S1024x640, .f32⟩
  | .local _ .vmem, ⟨0, _⟩ => ⟨S1024x1024, .bf16⟩
  | .local _ .vmem, ⟨1, _⟩ => ⟨S1024x1024, .bf16⟩
  | .local _ .vmem, ⟨2, _⟩ => ⟨S1024x640, .f32⟩
  | .local _ .vmem, ⟨3, _⟩ => ⟨S1024x640, .f32⟩
  | .local _ .vmem, ⟨4, _⟩ => ⟨S1024x640, .f32⟩
  | .local _ .vmem, ⟨5, _⟩ => ⟨S1024x640, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== KvDownDwReferenceIdeal.lean ====
abbrev S4096x1024 : Shape := ⟨2, ![4096, 1024]⟩
abbrev S1024x576 : Shape := ⟨2, ![1024, 576]⟩
abbrev S4096x640 : Shape := ⟨2, ![4096, 640]⟩
abbrev S_ : Shape := ⟨0, ![]⟩
abbrev S1024x640 : Shape := ⟨2, ![1024, 640]⟩
abbrev S640x1024 : Shape := ⟨2, ![640, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x576, .f32⟩
  | .hbm, ⟨2, _⟩ => ⟨S4096x640, .f32⟩
  | .hbm, ⟨3, _⟩ => ⟨S_, .i32⟩
  | .hbm, ⟨4, _⟩ => ⟨S_, .f32⟩
  | .hbm, ⟨5, _⟩ => ⟨S1024x640, .f32⟩
  | .hbm, ⟨6, _⟩ => ⟨S4096x640, .f32⟩
  | .hbm, ⟨7, _⟩ => ⟨S640x1024, .f32⟩
  | .hbm, ⟨8, _⟩ => ⟨S1024x640, .f32⟩
  | .hbm, ⟨9, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== KUp.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x512, .bf16⟩
  | .hbm, ⟨3, _⟩ => ⟨S512x1024, .bf16⟩
  | .hbm, ⟨4, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .f32⟩
  | .local _ .vmem, ⟨4, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KUpReferenceIdeal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KUpDc.lean ====
abbrev S4096x512 : Shape := ⟨2, ![4096, 512]⟩
abbrev S512x1024 : Shape := ⟨2, ![512, 1024]⟩
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x512, .f32⟩
  | .hbm, ⟨4, _⟩ => ⟨S512x1024, .bf16⟩
  | .hbm, ⟨5, _⟩ => ⟨S4096x512, .f32⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KUpDcReferenceIdeal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x512, .f32⟩
  | .hbm, ⟨4, _⟩ => ⟨S4096x1024, .f32⟩
  | .hbm, ⟨5, _⟩ => ⟨S4096x512, .f32⟩
  | .hbm, ⟨6, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== KUpDw.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x512, .bf16⟩
  | .hbm, ⟨4, _⟩ => ⟨S512x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== KUpDwReferenceIdeal.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x1024, .f32⟩
  | .hbm, ⟨4, _⟩ => ⟨S1024x512, .f32⟩
  | .hbm, ⟨5, _⟩ => ⟨S512x1024, .f32⟩
  | .hbm, ⟨6, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== VUp.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x512, .bf16⟩
  | .hbm, ⟨3, _⟩ => ⟨S512x1024, .bf16⟩
  | .hbm, ⟨4, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== VUpReferenceIdeal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== VUpDc.lean ====
abbrev S4096x512 : Shape := ⟨2, ![4096, 512]⟩
abbrev S512x1024 : Shape := ⟨2, ![512, 1024]⟩
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S512x1024, .bf16⟩
  | .hbm, ⟨4, _⟩ => ⟨S4096x512, .f32⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== VUpDcReferenceIdeal.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x1024, .f32⟩
  | .hbm, ⟨4, _⟩ => ⟨S1024x512, .f32⟩
  | .hbm, ⟨5, _⟩ => ⟨S512x1024, .f32⟩
  | .hbm, ⟨6, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== VUpDw.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x512, .bf16⟩
  | .hbm, ⟨4, _⟩ => ⟨S512x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== VUpDwReferenceIdeal.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x1024, .f32⟩
  | .hbm, ⟨4, _⟩ => ⟨S1024x512, .f32⟩
  | .hbm, ⟨5, _⟩ => ⟨S512x1024, .f32⟩
  | .hbm, ⟨6, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.DqTables.lean ====
/- The two prefetched tables of the backward pass for the queries' gradient: which query tile and which key tile each of
   the 36 grid points works on, and the pipeline at those tables. -/
module

public import proofs.«01_k».proof.Defs
public import proofs.«01_k».proof.Proof.Gen.KernelIdeal
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Pipeline.FrameSuffix
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The table of query tiles: the pairs `(i, j)`, `j ≤ i < 8`, row by row; its entry is `i`. -/
def rowTab : S36.Idx → BitVec 32 := fun x => lit0 (S36.rowMajor x)

/-- The table of key tiles: of the same pairs, the entry `j`. -/
def colTab : S36.Idx → BitVec 32 := fun x => lit1 (S36.rowMajor x)

section
variable (F : FTy → Type)

set_option backward.proofsInPublic true in
/-- The two tables as the contents the pipeline is prefetched with. -/
def tabs : pre0.Contents (Elt F) := fun | ⟨0, _⟩ => rowTab | ⟨1, _⟩ => colTab | ⟨_ + 2, h⟩ => absurd h (by simp)

end

/-- Every block of the query window lies in its array. -/
theorem inb_0 : ∀ i : grid0.Coords, ∀ a, (cc0_transform_0 k0_off1_inb numel1_S1 (tabs Bits) i a + 1) * S512x2048.size a ≤ S4096x2048.size a := by decide +kernel
/-- Every block of the key window lies in its array. -/
theorem inb_1 : ∀ i : grid0.Coords, ∀ a, (cc0_transform_1 k0_off1_inb numel1_S1 (tabs Bits) i a + 1) * S512x2048.size a ≤ S4096x2048.size a := by decide +kernel
/-- Every block of the value window lies in its array. -/
theorem inb_2 : ∀ i : grid0.Coords, ∀ a, (cc0_transform_2 k0_off1_inb numel1_S1 (tabs Bits) i a + 1) * S512x1024.size a ≤ S4096x1024.size a := by decide +kernel
/-- Every block of the cotangent window lies in its array. -/
theorem inb_3 : ∀ i : grid0.Coords, ∀ a, (cc0_transform_3 k0_off1_inb numel1_S1 (tabs Bits) i a + 1) * S512x1024.size a ≤ S4096x1024.size a := by decide +kernel
/-- Every block of the log-sum-exp window lies in its array. -/
theorem inb_4 : ∀ i : grid0.Coords, ∀ a, (cc0_transform_4 k0_off1_inb numel1_S1 (tabs Bits) i a + 1) * S8x512x1.size a ≤ S8x4096x1.size a := by decide +kernel
/-- Every block of the row-sum window lies in its array. -/
theorem inb_5 : ∀ i : grid0.Coords, ∀ a, (cc0_transform_5 k0_off1_inb numel1_S1 (tabs Bits) i a + 1) * S8x512x1.size a ≤ S8x4096x1.size a := by decide +kernel
/-- Every block of the result window lies in its array. -/
theorem inb_6 : ∀ i : grid0.Coords, ∀ a, (cc0_transform_6 k0_off1_inb numel1_S1 (tabs Bits) i a + 1) * S512x2048.size a ≤ S4096x2048.size a := by decide +kernel

variable {F : FTy → Type} [FloatOps F] [Named F]

/-- The tables are ones the pipeline may run at: at any float type the block indices are the words the seven lemmas
    above read. -/
theorem tabs_ok : ok0 (F := F) (tabs F) :=
  ⟨fun i => ⟨inb_0 i, .inr (Affine.block_words_dvd (s := S4096x2048) (p := EltTy.packing .bf16) (by decide) (by decide))⟩,
   fun i => ⟨inb_1 i, .inr (Affine.block_words_dvd (s := S4096x2048) (p := EltTy.packing .bf16) (by decide) (by decide))⟩,
   fun i => ⟨inb_2 i, .inr (Affine.block_words_dvd (s := S4096x1024) (p := EltTy.packing .bf16) (by decide) (by decide))⟩,
   fun i => ⟨inb_3 i, .inr (Affine.block_words_dvd (s := S4096x1024) (p := EltTy.packing .bf16) (by decide) (by decide))⟩,
   fun i => ⟨inb_4 i, .inl rfl⟩, fun i => ⟨inb_5 i, .inl rfl⟩, fun i => ⟨inb_6 i, .inl rfl⟩⟩

section
variable (F)
/-- The tables, admitted. -/
def adm : (pcfg0 (F := F)).Adm := ⟨tabs F, tabs_ok⟩
/-- The pipeline at the tables. -/
abbrev cfgA : Pipeline.Cfg sig Λ₀ := cfg0 (F := F) (adm F)
end

end Cert.KernelIdeal.Gen

end
-- ==== Proof.DqRun.lean ====
/- One grid point of the backward pass for the queries' gradient: the four ways the body may go, run. -/
module

public import proofs.«01_k».proof.Proof.Gen.KernelIdeal.Skeleton
public import proofs.«01_k».proof.Proof.DqTables

@[expose] public section

set_option maxRecDepth 16384
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- The table of query tiles, where the kernel reads it. -/
abbrev tbM0 : Memref sig .tc .smem S36 .i32 := Memref.whole main_c
/-- The table of key tiles, where the kernel reads it. -/
abbrev tbM1 : Memref sig .tc .smem S36 .i32 := Memref.whole main_c_0
/-- The running sum over key tiles. -/
abbrev scM : Memref sig .tc .vmem S512x2048 .f32 := Memref.whole cc0_scratch0

/-- The word of the table of query tiles at grid point `i`. -/
abbrev word0 (F : FTy → Type) [FloatOps F] (i : grid0.Coords) (T : S36.Idx → BitVec 32) : BitVec 32 :=
  View.readAt (Elt F) tbM0.view (Rect.unit (s := S36) (k0_off1 i) S1.size (k0_off1_inb i)).toLoadRect T (Shape.Idx.first (numel1_S1.symm ▸ Nat.one_pos))
/-- The word of the table of key tiles at grid point `i`. -/
abbrev word1 (F : FTy → Type) [FloatOps F] (i : grid0.Coords) (T : S36.Idx → BitVec 32) : BitVec 32 :=
  View.readAt (Elt F) tbM1.view (Rect.unit (s := S36) (k0_off1 i) S1.size (k0_off1_inb i)).toLoadRect T (Shape.Idx.first (numel1_S1.symm ▸ Nat.one_pos))

/-- The key tile is the first of its row. -/
abbrev Opens (F : FTy → Type) [FloatOps F] (i : grid0.Coords) (T1 : S36.Idx → BitVec 32) : Prop :=
  Scalar.cmpi .ne (Scalar.extui (Scalar.cmpi .eq (word1 F i T1) 0#32)) 0#32 = 1#1
/-- The key tile lies before the query tile. -/
abbrev Below (F : FTy → Type) [FloatOps F] (i : grid0.Coords) (T0 T1 : S36.Idx → BitVec 32) : Prop :=
  Scalar.cmpi .ne (Scalar.extui (Scalar.cmpi .slt (word1 F i T1) (word0 F i T0))) 0#32 = 1#1
/-- The key tile is the query tile. -/
abbrev OnDiag (F : FTy → Type) [FloatOps F] (i : grid0.Coords) (T0 T1 : S36.Idx → BitVec 32) : Prop :=
  k0_cond3 (word0 F i T0) (word1 F i T1) = 1#1

/-- What a run of the body holds: the six input blocks, the two tables, and `R`. -/
abbrev Held (c : Dev nD) (arg4 arg5 : Memref sig .tc .vmem S512x2048 .bf16) (arg6 arg7 : Memref sig .tc .vmem S512x1024 .bf16)
    (arg8 arg9 : Memref sig .tc .vmem S8x512x1 .f32) (T0 T1 : S36.Idx → BitVec 32)
    (x0 x1 : S512x2048.Idx → Elt F .bf16) (x2 x3 : S512x1024.Idx → Elt F .bf16) (x4 x5 : S8x512x1.Idx → Elt F .f32)
    (R : sProp 𝕄) : sProp 𝕄 :=
  iprop((arg4.view.loc (c : Thread nD τ) ↦[arg4.view.set]{fullShare} arg4.view.rep x0)
    ∗ (arg5.view.loc (c : Thread nD τ) ↦[arg5.view.set]{fullShare} arg5.view.rep x1)
    ∗ (arg6.view.loc (c : Thread nD τ) ↦[arg6.view.set]{fullShare} arg6.view.rep x2)
    ∗ (arg7.view.loc (c : Thread nD τ) ↦[arg7.view.set]{fullShare} arg7.view.rep x3)
    ∗ (arg8.view.loc (c : Thread nD τ) ↦[arg8.view.set]{fullShare} arg8.view.rep x4)
    ∗ (arg9.view.loc (c : Thread nD τ) ↦[arg9.view.set]{fullShare} arg9.view.rep x5)
    ∗ (tbM0.view.loc (c : Thread nD τ) ↦{fullShare.right} T0)
    ∗ (tbM1.view.loc (c : Thread nD τ) ↦{fullShare.right} T1)
    ∗ R)

/-- A run of the body from result block `y6` and running sum `xa`: what it leaves in the two, and that it does. -/
abbrev Run (c : Dev nD) (i : grid0.Coords) (arg4 : Memref sig .tc .vmem S512x2048 .bf16) (harg4 : arg4.IsWhole) (arg5 : Memref sig .tc .vmem S512x2048 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S8x512x1 .f32) (harg8 : arg8.IsWhole) (arg9 : Memref sig .tc .vmem S8x512x1 .f32) (harg9 : arg9.IsWhole) (arg10 : Memref sig .tc .vmem S512x2048 .f32) (harg10 : arg10.IsWhole) (T0 T1 : S36.Idx → BitVec 32)
    (x0 x1 : S512x2048.Idx → Elt F .bf16) (x2 x3 : S512x1024.Idx → Elt F .bf16) (x4 x5 : S8x512x1.Idx → Elt F .f32)
    (y6 xa : S512x2048.Idx → Elt F .f32) : Type :=
    { out : arg10.view.ty.Contents (Elt F) × scM.view.ty.Contents (Elt F) //
      ∀ (K : PUnit → sProp 𝕄),
        Held c arg4 arg5 arg6 arg7 arg8 arg9 T0 T1 x0 x1 x2 x3 x4 x5
          iprop((arg10.view.loc (c : Thread nD τ) ↦[arg10.view.set]{fullShare} arg10.view.rep y6)
          ∗ (scM.view.loc (c : Thread nD τ) ↦[scM.view.set]{fullShare} scM.view.rep xa)
          ∗ (Held c arg4 arg5 arg6 arg7 arg8 arg9 T0 T1 x0 x1 x2 x3 x4 x5
              iprop((arg10.view.loc (c : Thread nD τ) ↦[arg10.view.set]{fullShare} out.1)
              ∗ (scM.view.loc (c : Thread nD τ) ↦[scM.view.set]{fullShare} out.2)) -∗ K ⟨⟩))
          ⊢ wp frame (wpE (defs₀ (F := F)) Variants.none c none) Set.univ (cc0_attn_bwd_dq i tbM0 (Memref.isWhole_whole _) tbM1 (Memref.isWhole_whole _) arg4 harg4 arg5 harg5 arg6 harg6 arg7 harg7 arg8 harg8 arg9 harg9 arg10 harg10 scM (Memref.isWhole_whole _)) K }

set_option backward.proofsInPublic true in
set_option maxHeartbeats 16000000 in
/-- The first key tile of its row, and the diagonal one. -/
noncomputable def runA (c : Dev nD) (i : grid0.Coords) (arg4 : Memref sig .tc .vmem S512x2048 .bf16) (harg4 : arg4.IsWhole) (arg5 : Memref sig .tc .vmem S512x2048 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S8x512x1 .f32) (harg8 : arg8.IsWhole) (arg9 : Memref sig .tc .vmem S8x512x1 .f32) (harg9 : arg9.IsWhole) (arg10 : Memref sig .tc .vmem S512x2048 .f32) (harg10 : arg10.IsWhole) (T0 T1 : S36.Idx → BitVec 32)
    (x0 x1 : S512x2048.Idx → Elt F .bf16) (x2 x3 : S512x1024.Idx → Elt F .bf16) (x4 x5 : S8x512x1.Idx → Elt F .f32)
    (y6 xa : S512x2048.Idx → Elt F .f32)
    (hc0 : Opens F i T1) (hc1 : ¬ Below F i T0 T1) (h3 : OnDiag F i T0 T1) :
    Run (F := F) c i arg4 harg4 arg5 harg5 arg6 harg6 arg7 harg7 arg8 harg8 arg9 harg9 arg10 harg10 T0 T1 x0 x1 x2 x3 x4 x5 y6 xa :=
  ⟨(_, _), fun K => by
    rw [cc0_attn_bwd_dq_eq_skeleton]; unfold cc0_attn_bwd_dq_skel
    iintro ⟨H0, H1, H2, H3, H4, H5, HT0, HT1, HO6, HS0, Hk⟩
    have hS0 : scM.IsWhole := Memref.isWhole_whole _
    have hT0 : tbM0.IsWhole := Memref.isWhole_whole _
    have hT1 : tbM1.IsWhole := Memref.isWhole_whole _
    sl_exec! (disch := first | (guard_target = Scalar.cmpi .ne (Scalar.extui (Scalar.cmpi .eq _ _)) _ = _; exact hc0) | (guard_target = ¬(Scalar.cmpi .ne (Scalar.extui (Scalar.cmpi .slt _ _)) _ = _); exact hc1) | (guard_target = k0_cond3 _ _ = _; exact h3))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]; · iexact HO6
    iexact HS0⟩

set_option backward.proofsInPublic true in
set_option maxHeartbeats 16000000 in
/-- The first key tile of its row, before the diagonal. -/
noncomputable def runB (c : Dev nD) (i : grid0.Coords) (arg4 : Memref sig .tc .vmem S512x2048 .bf16) (harg4 : arg4.IsWhole) (arg5 : Memref sig .tc .vmem S512x2048 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S8x512x1 .f32) (harg8 : arg8.IsWhole) (arg9 : Memref sig .tc .vmem S8x512x1 .f32) (harg9 : arg9.IsWhole) (arg10 : Memref sig .tc .vmem S512x2048 .f32) (harg10 : arg10.IsWhole) (T0 T1 : S36.Idx → BitVec 32)
    (x0 x1 : S512x2048.Idx → Elt F .bf16) (x2 x3 : S512x1024.Idx → Elt F .bf16) (x4 x5 : S8x512x1.Idx → Elt F .f32)
    (y6 xa : S512x2048.Idx → Elt F .f32)
    (hc0 : Opens F i T1) (hc1 : Below F i T0 T1) (h3 : ¬ OnDiag F i T0 T1) :
    Run (F := F) c i arg4 harg4 arg5 harg5 arg6 harg6 arg7 harg7 arg8 harg8 arg9 harg9 arg10 harg10 T0 T1 x0 x1 x2 x3 x4 x5 y6 xa :=
  ⟨(_, _), fun K => by
    rw [cc0_attn_bwd_dq_eq_skeleton]; unfold cc0_attn_bwd_dq_skel
    iintro ⟨H0, H1, H2, H3, H4, H5, HT0, HT1, HO6, HS0, Hk⟩
    have hS0 : scM.IsWhole := Memref.isWhole_whole _
    have hT0 : tbM0.IsWhole := Memref.isWhole_whole _
    have hT1 : tbM1.IsWhole := Memref.isWhole_whole _
    sl_exec! (disch := first | (guard_target = Scalar.cmpi .ne (Scalar.extui (Scalar.cmpi .eq _ _)) _ = _; exact hc0) | (guard_target = Scalar.cmpi .ne (Scalar.extui (Scalar.cmpi .slt _ _)) _ = _; exact hc1) | (guard_target = ¬(k0_cond3 _ _ = _); exact h3))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]; · iexact HO6
    iexact HS0⟩

set_option backward.proofsInPublic true in
set_option maxHeartbeats 16000000 in
/-- The diagonal key tile, not the first of its row. -/
noncomputable def runC (c : Dev nD) (i : grid0.Coords) (arg4 : Memref sig .tc .vmem S512x2048 .bf16) (harg4 : arg4.IsWhole) (arg5 : Memref sig .tc .vmem S512x2048 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S8x512x1 .f32) (harg8 : arg8.IsWhole) (arg9 : Memref sig .tc .vmem S8x512x1 .f32) (harg9 : arg9.IsWhole) (arg10 : Memref sig .tc .vmem S512x2048 .f32) (harg10 : arg10.IsWhole) (T0 T1 : S36.Idx → BitVec 32)
    (x0 x1 : S512x2048.Idx → Elt F .bf16) (x2 x3 : S512x1024.Idx → Elt F .bf16) (x4 x5 : S8x512x1.Idx → Elt F .f32)
    (y6 xa : S512x2048.Idx → Elt F .f32)
    (hc0 : ¬ Opens F i T1) (hc1 : ¬ Below F i T0 T1) (h3 : OnDiag F i T0 T1) :
    Run (F := F) c i arg4 harg4 arg5 harg5 arg6 harg6 arg7 harg7 arg8 harg8 arg9 harg9 arg10 harg10 T0 T1 x0 x1 x2 x3 x4 x5 y6 xa :=
  ⟨(_, _), fun K => by
    rw [cc0_attn_bwd_dq_eq_skeleton]; unfold cc0_attn_bwd_dq_skel
    iintro ⟨H0, H1, H2, H3, H4, H5, HT0, HT1, HO6, HS0, Hk⟩
    have hS0 : scM.IsWhole := Memref.isWhole_whole _
    have hT0 : tbM0.IsWhole := Memref.isWhole_whole _
    have hT1 : tbM1.IsWhole := Memref.isWhole_whole _
    sl_exec! (disch := first | (guard_target = ¬(Scalar.cmpi .ne (Scalar.extui (Scalar.cmpi .eq _ _)) _ = _); exact hc0) | (guard_target = ¬(Scalar.cmpi .ne (Scalar.extui (Scalar.cmpi .slt _ _)) _ = _); exact hc1) | (guard_target = k0_cond3 _ _ = _; exact h3))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]; · iexact HO6
    iexact HS0⟩

set_option backward.proofsInPublic true in
set_option maxHeartbeats 16000000 in
/-- A key tile between the first of its row and the diagonal. -/
noncomputable def runD (c : Dev nD) (i : grid0.Coords) (arg4 : Memref sig .tc .vmem S512x2048 .bf16) (harg4 : arg4.IsWhole) (arg5 : Memref sig .tc .vmem S512x2048 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S8x512x1 .f32) (harg8 : arg8.IsWhole) (arg9 : Memref sig .tc .vmem S8x512x1 .f32) (harg9 : arg9.IsWhole) (arg10 : Memref sig .tc .vmem S512x2048 .f32) (harg10 : arg10.IsWhole) (T0 T1 : S36.Idx → BitVec 32)
    (x0 x1 : S512x2048.Idx → Elt F .bf16) (x2 x3 : S512x1024.Idx → Elt F .bf16) (x4 x5 : S8x512x1.Idx → Elt F .f32)
    (y6 xa : S512x2048.Idx → Elt F .f32)
    (hc0 : ¬ Opens F i T1) (hc1 : Below F i T0 T1) (h3 : ¬ OnDiag F i T0 T1) :
    Run (F := F) c i arg4 harg4 arg5 harg5 arg6 harg6 arg7 harg7 arg8 harg8 arg9 harg9 arg10 harg10 T0 T1 x0 x1 x2 x3 x4 x5 y6 xa :=
  ⟨(_, _), fun K => by
    rw [cc0_attn_bwd_dq_eq_skeleton]; unfold cc0_attn_bwd_dq_skel
    iintro ⟨H0, H1, H2, H3, H4, H5, HT0, HT1, HO6, HS0, Hk⟩
    have hS0 : scM.IsWhole := Memref.isWhole_whole _
    have hT0 : tbM0.IsWhole := Memref.isWhole_whole _
    have hT1 : tbM1.IsWhole := Memref.isWhole_whole _
    sl_exec! (disch := first | (guard_target = ¬(Scalar.cmpi .ne (Scalar.extui (Scalar.cmpi .eq _ _)) _ = _); exact hc0) | (guard_target = Scalar.cmpi .ne (Scalar.extui (Scalar.cmpi .slt _ _)) _ = _; exact hc1) | (guard_target = ¬(k0_cond3 _ _ = _); exact h3))
    sl_step
    iapply Hk
    isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HO6]; · iexact HO6
    iexact HS0⟩

end Cert.KernelIdeal.Gen

end
-- ==== Proof.DqBlock.lean ====
/- What one grid point of the backward pass for the queries' gradient computes, head by head, as functions of the blocks. -/
module

public import proofs.«01_k».proof.Proof.DqRun
public import Idealize.ShloMosaic.Lib.VecWindow

@[expose] public section

set_option maxRecDepth 16384
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

/-- The 256 columns of head `g`. -/
abbrev colRect (g : Fin 8) : Rect S512x2048 :=
  Rect.unit (s := S512x2048) ![0, 256 * g.val] S512x256.size (by revert g; decide)
/-- The 128 columns of head `g`, of the values and the cotangents. -/
abbrev valRect (g : Fin 8) : Rect S512x1024 :=
  Rect.unit (s := S512x1024) ![0, 128 * g.val] S512x128.size (by revert g; decide)
/-- The column of head `g`, of the log-sum-exps and the row sums. -/
abbrev rowRect (g : Fin 8) : Rect S8x512x1 :=
  Rect.unit (s := S8x512x1) ![g.val, 0, 0] S1x512x1.size (by revert g; decide)

/-- The place of an index within its head's columns. -/
def inCol (y : S512x2048.Idx) : S512x256.Idx := fun a => ⟨(y a).val % S512x256.size a, Nat.mod_lt _ (by revert a; decide)⟩
/-- The head an index lies in. -/
def headOf (y : S512x2048.Idx) : Fin 8 := ⟨(y 1).val / 256, by have := (y 1).isLt; have e : S512x2048.size 1 = 2048 := rfl; omega⟩

/-- A block put together from its heads' columns. -/
def perHead {α : Type} (H : Fin 8 → S512x256.Idx → α) : S512x2048.Idx → α := fun y => H (headOf y) (inCol y)

/-- Every index is one of its head's columns. -/
theorem emb_inCol (y : S512x2048.Idx) : (colRect (headOf y)).emb (inCol y) = y :=
  funext fun a => Fin.ext (by
    have h0 := (y 0).isLt; have h1 := (y 1).isLt
    fin_cases a
    · show 0 + 1 * ((y 0).val % 512) = (y 0).val
      have e : S512x2048.size 0 = 512 := rfl
      omega
    · show 256 * ((y 1).val / 256) + 1 * ((y 1).val % 256) = (y 1).val
      omega)

/-- The head of a place in head `g`'s columns is `g`. -/
theorem headOf_emb (g : Fin 8) (x : S512x256.Idx) : headOf ((colRect g).emb x) = g :=
  Fin.ext (by
    have h1 := (x 1).isLt
    have e : S512x256.size 1 = 256 := rfl
    show (256 * g.val + 1 * (x 1).val) / 256 = g.val
    omega)

/-- The place within its head's columns of a place in head `g`'s columns. -/
theorem inCol_emb (g : Fin 8) (x : S512x256.Idx) : inCol ((colRect g).emb x) = x :=
  funext fun a => Fin.ext (by
    have h0 := (x 0).isLt; have h1 := (x 1).isLt
    fin_cases a
    · show (0 + 1 * (x 0).val) % 512 = (x 0).val
      have e : S512x256.size 0 = 512 := rfl
      omega
    · show (256 * g.val + 1 * (x 1).val) % 256 = (x 1).val
      have e : S512x256.size 1 = 256 := rfl
      omega)

/-- A block put together from its heads, read in head `g`'s columns. -/
theorem perHead_emb {α : Type} (H : Fin 8 → S512x256.Idx → α) (g : Fin 8) (x : S512x256.Idx) : perHead H ((colRect g).emb x) = H g x := by
  unfold perHead; rw [headOf_emb, inCol_emb]

/-- A place in one head's columns is in no other head's. -/
theorem emb_not_mem {g g' : Fin 8} (h : g ≠ g') (x : S512x256.Idx) : (colRect g).emb x ∉ (colRect g').set := fun hm => by
  obtain ⟨z, hz⟩ := (colRect g').exists_idx_of_mem hm
  exact h (by rw [← headOf_emb g x, ← headOf_emb g' z]; exact congrArg headOf hz.symm)

/-- One head's columns of the product: the running sum's columns `acc`, plus the weights' part of keys `k`. -/
abbrev headPlain (k q : S512x256.Idx → Elt F .bf16) (lse : S1x512x1.Idx → Elt F .f32) (d v : S512x128.Idx → Elt F .bf16) (acc : S512x256.Idx → Elt F .f32) (dl : S1x512x1.Idx → Elt F .f32) : S512x256.Idx → Elt F .f32 :=
  k0_pay3 k q lse d v acc dl

/-- The weights' part on the diagonal tile, masked by the chunks. -/
abbrev headW (w0 w1 : BitVec 32) (k q : S512x256.Idx → Elt F .bf16) (lse : S1x512x1.Idx → Elt F .f32) (d v : S512x128.Idx → Elt F .bf16) (dl : S1x512x1.Idx → Elt F .f32) : S512x512.Idx → Elt F .bf16 :=
  k0_pay32 (k0_pay26 k q) (k0_pay27 (F := F) w0) (k0_pay28 (F := F) w1) 64#32 (k0_pay29 (F := F) w0) (k0_pay30 (F := F) w0) k0_pay31 lse d v dl

/-- `headPlain` on the diagonal tile. -/
abbrev headMask (w0 w1 : BitVec 32) (k q : S512x256.Idx → Elt F .bf16) (lse : S1x512x1.Idx → Elt F .f32) (d v : S512x128.Idx → Elt F .bf16) (acc : S512x256.Idx → Elt F .f32) (dl : S1x512x1.Idx → Elt F .f32) : S512x256.Idx → Elt F .f32 :=
  k0_pay34 (k0_pay25 k) acc (headW w0 w1 k q lse d v dl) (constant S512x256 .f32 0x00000000#32)

/-- The same, scaled: the columns of the result. -/
abbrev headOut (w0 w1 : BitVec 32) (k q : S512x256.Idx → Elt F .bf16) (lse : S1x512x1.Idx → Elt F .f32) (d v : S512x128.Idx → Elt F .bf16) (acc : S512x256.Idx → Elt F .f32) (dl : S1x512x1.Idx → Elt F .f32) : S512x256.Idx → Elt F .f32 :=
  k0_pay35 (k0_pay25 k) acc (headW w0 w1 k q lse d v dl) (constant S512x256 .f32 0x00000000#32)

/-- The running sum after a key tile before the diagonal. -/
def plainStep (x0 x1 : S512x2048.Idx → Elt F .bf16) (x2 x3 : S512x1024.Idx → Elt F .bf16) (x4 x5 : S8x512x1.Idx → Elt F .f32) (a : S512x2048.Idx → Elt F .f32) : S512x2048.Idx → Elt F .f32 :=
  perHead fun g => headPlain (fun x => x1 ((colRect g).emb x)) (fun x => x0 ((colRect g).emb x)) (fun x => x4 ((rowRect g).emb x)) (fun x => x3 ((valRect g).emb x)) (fun x => x2 ((valRect g).emb x)) (fun x => a ((colRect g).emb x)) (fun x => x5 ((rowRect g).emb x))
/-- The running sum after the diagonal key tile. -/
def maskStep (w0 w1 : BitVec 32) (x0 x1 : S512x2048.Idx → Elt F .bf16) (x2 x3 : S512x1024.Idx → Elt F .bf16) (x4 x5 : S8x512x1.Idx → Elt F .f32) (a : S512x2048.Idx → Elt F .f32) : S512x2048.Idx → Elt F .f32 :=
  perHead fun g => headMask w0 w1 (fun x => x1 ((colRect g).emb x)) (fun x => x0 ((colRect g).emb x)) (fun x => x4 ((rowRect g).emb x)) (fun x => x3 ((valRect g).emb x)) (fun x => x2 ((valRect g).emb x)) (fun x => a ((colRect g).emb x)) (fun x => x5 ((rowRect g).emb x))
/-- The result block the diagonal key tile stores. -/
def outStep (w0 w1 : BitVec 32) (x0 x1 : S512x2048.Idx → Elt F .bf16) (x2 x3 : S512x1024.Idx → Elt F .bf16) (x4 x5 : S8x512x1.Idx → Elt F .f32) (a : S512x2048.Idx → Elt F .f32) : S512x2048.Idx → Elt F .f32 :=
  perHead fun g => headOut w0 w1 (fun x => x1 ((colRect g).emb x)) (fun x => x0 ((colRect g).emb x)) (fun x => x4 ((rowRect g).emb x)) (fun x => x3 ((valRect g).emb x)) (fun x => x2 ((valRect g).emb x)) (fun x => a ((colRect g).emb x)) (fun x => x5 ((rowRect g).emb x))

/-- The heads, last first. -/
theorem mem_heads : ∀ g : Fin 8, g ∈ ([7, 6, 5, 4, 3, 2, 1, 0] : List (Fin 8)) := by decide

section
variable (v : View sig .tc .vmem S512x2048 .f32) (f : v.ty.Contents (Elt F))

/-- Eight stores, one per head, over anything, leave the block put together from them. -/
theorem read_heads (H : Fin 8 → S512x256.Idx → Elt F .f32) (L : List (View.Piece (Elt F) S512x2048 .f32)) :
    v.read (Elt F) (v.writes (Elt F) f (⟨colRect 7, H 7⟩ :: ⟨colRect 6, H 6⟩ :: ⟨colRect 5, H 5⟩ :: ⟨colRect 4, H 4⟩ :: ⟨colRect 3, H 3⟩ :: ⟨colRect 2, H 2⟩ :: ⟨colRect 1, H 1⟩ :: ⟨colRect 0, H 0⟩ :: L)) = perHead H := by
  have key : ∀ (gs : List (Fin 8)) (g : Fin 8), g ∈ gs → ∀ x, v.read (Elt F) (v.writes (Elt F) f (gs.map (fun g => (⟨colRect g, H g⟩ : View.Piece (Elt F) S512x2048 .f32)) ++ L)) ((colRect g).emb x) = H g x := by
    intro gs
    induction gs with
    | nil => intro g hg; exact absurd hg List.not_mem_nil
    | cons g' gs ih =>
      intro g hg x
      rw [List.map_cons, List.cons_append]
      by_cases h : g = g'
      · subst h
        exact View.read_writes_cons_emb v f (colRect g) (H g) _ x
      · rw [View.read_writes_cons_miss v f ⟨colRect g', H g'⟩ _ ((colRect g).emb x) (emb_not_mem h x)]
        refine ih g ?_ x
        rcases List.mem_cons.mp hg with h' | hm
        · exact absurd h' h
        · exact hm
  funext y
  conv_lhs => rw [← emb_inCol y]
  have h := key [7, 6, 5, 4, 3, 2, 1, 0] (headOf y) (mem_heads _) (inCol y)
  rw [List.map_cons, List.map_cons, List.map_cons, List.map_cons, List.map_cons, List.map_cons, List.map_cons, List.map_cons, List.map_nil] at h
  exact h

end

variable (v : View sig .tc .vmem S512x2048 .f32)

/-- A load of 256 columns does not see a store to 256 columns before them. -/
theorem readCov_after {o o' : ℕ} (inb : ∀ a, (![0, o] : Fin 2 → ℕ) a + S512x256.size a ≤ S512x2048.size a) (inb' : ∀ a, (![0, o'] : Fin 2 → ℕ) a + S512x256.size a ≤ S512x2048.size a)
    (h : o' + 256 ≤ o) (w : S512x256.Idx → Elt F .f32) (L : List (View.Piece (Elt F) S512x2048 .f32)) :
    v.readCov ((⟨Rect.unit (s := S512x2048) ![0, o'] S512x256.size inb', w⟩ : View.Piece (Elt F) S512x2048 .f32) :: L) (Rect.unit (s := S512x2048) ![0, o] S512x256.size inb).toLoadRect
      = v.readCov L (Rect.unit (s := S512x2048) ![0, o] S512x256.size inb).toLoadRect :=
  funext fun x => View.read_writes_cons_miss_of_axis v _ _ _ _ (1 : Fin 2) o' 256 rfl rfl rfl (.inr (by
    show o' + 256 ≤ o + 1 * (x 1).val
    omega))

/-- A load of 256 columns after a store of the whole block. -/
theorem readCov_fill {o : ℕ} (inb' : ∀ a, (![0, o] : Fin 2 → ℕ) a + S512x256.size a ≤ S512x2048.size a) (inb : ∀ a, (![0, 0] : Fin 2 → ℕ) a + S512x2048.size a ≤ S512x2048.size a) (w : S512x2048.Idx → Elt F .f32) (L : List (View.Piece (Elt F) S512x2048 .f32)) :
    v.readCov ((⟨Rect.unit (s := S512x2048) ![0, 0] S512x2048.size inb, w⟩ : View.Piece (Elt F) S512x2048 .f32) :: L) (Rect.unit (s := S512x2048) ![0, o] S512x256.size inb').toLoadRect
      = fun x => w ((Rect.unit (s := S512x2048) ![0, o] S512x256.size inb').emb x) :=
  funext fun x => congrFun (View.read_writes_full v _ inb w L) _

end Cert.KernelIdeal.Gen

end
-- ==== Proof.DqLeaves.lean ====
/- What the four runs of the body leave in the running sum and in the result block. -/
module

public import proofs.«01_k».proof.Proof.DqBlock

@[expose] public section

set_option maxRecDepth 16384
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]
variable (c : Dev nD) (i : grid0.Coords) (arg4 : Memref sig .tc .vmem S512x2048 .bf16) (harg4 : arg4.IsWhole) (arg5 : Memref sig .tc .vmem S512x2048 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S8x512x1 .f32) (harg8 : arg8.IsWhole) (arg9 : Memref sig .tc .vmem S8x512x1 .f32) (harg9 : arg9.IsWhole) (arg10 : Memref sig .tc .vmem S512x2048 .f32) (harg10 : arg10.IsWhole) (T0 T1 : S36.Idx → BitVec 32)
  (x0 x1 : S512x2048.Idx → Elt F .bf16) (x2 x3 : S512x1024.Idx → Elt F .bf16) (x4 x5 : S8x512x1.Idx → Elt F .f32)
  (y6 xa : S512x2048.Idx → Elt F .f32)

/-- `headPlain` of head `g`'s loads. -/
abbrev ldPlain (arg4 arg5 : Memref sig .tc .vmem S512x2048 .bf16) (arg6 arg7 : Memref sig .tc .vmem S512x1024 .bf16) (arg8 arg9 : Memref sig .tc .vmem S8x512x1 .f32) (x0 x1 : S512x2048.Idx → Elt F .bf16) (x2 x3 : S512x1024.Idx → Elt F .bf16) (x4 x5 : S8x512x1.Idx → Elt F .f32) (acc : Fin 8 → S512x256.Idx → Elt F .f32) (g : Fin 8) : S512x256.Idx → Elt F .f32 := headPlain (View.readAt (Elt F) arg5.view (colRect g).toLoadRect (arg5.view.rep x1)) (View.readAt (Elt F) arg4.view (colRect g).toLoadRect (arg4.view.rep x0)) (View.readAt (Elt F) arg8.view (rowRect g).toLoadRect (arg8.view.rep x4)) (View.readAt (Elt F) arg7.view (valRect g).toLoadRect (arg7.view.rep x3)) (View.readAt (Elt F) arg6.view (valRect g).toLoadRect (arg6.view.rep x2)) (acc g) (View.readAt (Elt F) arg9.view (rowRect g).toLoadRect (arg9.view.rep x5))

/-- `headMask` of head `g`'s loads. -/
abbrev ldMask (w0 w1 : BitVec 32) (arg4 arg5 : Memref sig .tc .vmem S512x2048 .bf16) (arg6 arg7 : Memref sig .tc .vmem S512x1024 .bf16) (arg8 arg9 : Memref sig .tc .vmem S8x512x1 .f32) (x0 x1 : S512x2048.Idx → Elt F .bf16) (x2 x3 : S512x1024.Idx → Elt F .bf16) (x4 x5 : S8x512x1.Idx → Elt F .f32) (acc : Fin 8 → S512x256.Idx → Elt F .f32) (g : Fin 8) : S512x256.Idx → Elt F .f32 := headMask w0 w1 (View.readAt (Elt F) arg5.view (colRect g).toLoadRect (arg5.view.rep x1)) (View.readAt (Elt F) arg4.view (colRect g).toLoadRect (arg4.view.rep x0)) (View.readAt (Elt F) arg8.view (rowRect g).toLoadRect (arg8.view.rep x4)) (View.readAt (Elt F) arg7.view (valRect g).toLoadRect (arg7.view.rep x3)) (View.readAt (Elt F) arg6.view (valRect g).toLoadRect (arg6.view.rep x2)) (acc g) (View.readAt (Elt F) arg9.view (rowRect g).toLoadRect (arg9.view.rep x5))

/-- `headOut` of head `g`'s loads. -/
abbrev ldOut (w0 w1 : BitVec 32) (arg4 arg5 : Memref sig .tc .vmem S512x2048 .bf16) (arg6 arg7 : Memref sig .tc .vmem S512x1024 .bf16) (arg8 arg9 : Memref sig .tc .vmem S8x512x1 .f32) (x0 x1 : S512x2048.Idx → Elt F .bf16) (x2 x3 : S512x1024.Idx → Elt F .bf16) (x4 x5 : S8x512x1.Idx → Elt F .f32) (acc : Fin 8 → S512x256.Idx → Elt F .f32) (g : Fin 8) : S512x256.Idx → Elt F .f32 := headOut w0 w1 (View.readAt (Elt F) arg5.view (colRect g).toLoadRect (arg5.view.rep x1)) (View.readAt (Elt F) arg4.view (colRect g).toLoadRect (arg4.view.rep x0)) (View.readAt (Elt F) arg8.view (rowRect g).toLoadRect (arg8.view.rep x4)) (View.readAt (Elt F) arg7.view (valRect g).toLoadRect (arg7.view.rep x3)) (View.readAt (Elt F) arg6.view (valRect g).toLoadRect (arg6.view.rep x2)) (acc g) (View.readAt (Elt F) arg9.view (rowRect g).toLoadRect (arg9.view.rep x5))

/-- The columns of a block, head by head. -/
abbrev colsOf (a : S512x2048.Idx → Elt F .f32) (g : Fin 8) : S512x256.Idx → Elt F .f32 := fun x => a ((colRect g).emb x)

/-- What run A loads of head 0's running sum: the zeros it has just stored. -/
theorem runA_load0 : runA.sl.v89 (F := F)  = colsOf k0_pay1 0 := by
  unfold runA.sl.v89 runA.sl.HS0_1
  repeat rw [readCov_after scM.view _ _ (by decide)]
  rw [readCov_fill]
  rfl

/-- What run A loads of head 1's running sum: the zeros it has just stored. -/
theorem runA_load1 : runA.sl.v180 (F := F) i arg4 arg5 arg6 arg7 arg8 arg9 T0 T1 x0 x1 x2 x3 x4 x5 = colsOf k0_pay1 1 := by
  unfold runA.sl.v180 runA.sl.HS0_2 runA.sl.HS0_1
  repeat rw [readCov_after scM.view _ _ (by decide)]
  rw [readCov_fill]
  rfl

/-- What run A loads of head 2's running sum: the zeros it has just stored. -/
theorem runA_load2 : runA.sl.v271 (F := F) i arg4 arg5 arg6 arg7 arg8 arg9 T0 T1 x0 x1 x2 x3 x4 x5 = colsOf k0_pay1 2 := by
  unfold runA.sl.v271 runA.sl.HS0_3 runA.sl.HS0_2 runA.sl.HS0_1
  repeat rw [readCov_after scM.view _ _ (by decide)]
  rw [readCov_fill]
  rfl

/-- What run A loads of head 3's running sum: the zeros it has just stored. -/
theorem runA_load3 : runA.sl.v362 (F := F) i arg4 arg5 arg6 arg7 arg8 arg9 T0 T1 x0 x1 x2 x3 x4 x5 = colsOf k0_pay1 3 := by
  unfold runA.sl.v362 runA.sl.HS0_4 runA.sl.HS0_3 runA.sl.HS0_2 runA.sl.HS0_1
  repeat rw [readCov_after scM.view _ _ (by decide)]
  rw [readCov_fill]
  rfl

/-- What run A loads of head 4's running sum: the zeros it has just stored. -/
theorem runA_load4 : runA.sl.v453 (F := F) i arg4 arg5 arg6 arg7 arg8 arg9 T0 T1 x0 x1 x2 x3 x4 x5 = colsOf k0_pay1 4 := by
  unfold runA.sl.v453 runA.sl.HS0_5 runA.sl.HS0_4 runA.sl.HS0_3 runA.sl.HS0_2 runA.sl.HS0_1
  repeat rw [readCov_after scM.view _ _ (by decide)]
  rw [readCov_fill]
  rfl

/-- What run A loads of head 5's running sum: the zeros it has just stored. -/
theorem runA_load5 : runA.sl.v544 (F := F) i arg4 arg5 arg6 arg7 arg8 arg9 T0 T1 x0 x1 x2 x3 x4 x5 = colsOf k0_pay1 5 := by
  unfold runA.sl.v544 runA.sl.HS0_6 runA.sl.HS0_5 runA.sl.HS0_4 runA.sl.HS0_3 runA.sl.HS0_2 runA.sl.HS0_1
  repeat rw [readCov_after scM.view _ _ (by decide)]
  rw [readCov_fill]
  rfl

/-- What run A loads of head 6's running sum: the zeros it has just stored. -/
theorem runA_load6 : runA.sl.v635 (F := F) i arg4 arg5 arg6 arg7 arg8 arg9 T0 T1 x0 x1 x2 x3 x4 x5 = colsOf k0_pay1 6 := by
  unfold runA.sl.v635 runA.sl.HS0_7 runA.sl.HS0_6 runA.sl.HS0_5 runA.sl.HS0_4 runA.sl.HS0_3 runA.sl.HS0_2 runA.sl.HS0_1
  repeat rw [readCov_after scM.view _ _ (by decide)]
  rw [readCov_fill]
  rfl

/-- What run A loads of head 7's running sum: the zeros it has just stored. -/
theorem runA_load7 : runA.sl.v726 (F := F) i arg4 arg5 arg6 arg7 arg8 arg9 T0 T1 x0 x1 x2 x3 x4 x5 = colsOf k0_pay1 7 := by
  unfold runA.sl.v726 runA.sl.HS0_8 runA.sl.HS0_7 runA.sl.HS0_6 runA.sl.HS0_5 runA.sl.HS0_4 runA.sl.HS0_3 runA.sl.HS0_2 runA.sl.HS0_1
  repeat rw [readCov_after scM.view _ _ (by decide)]
  rw [readCov_fill]
  rfl

/-- What run B loads of head 0's running sum: the zeros it has just stored. -/
theorem runB_load0 : runB.sl.v30 (F := F)  = colsOf k0_pay1 0 := by
  unfold runB.sl.v30 runB.sl.HS0_1
  repeat rw [readCov_after scM.view _ _ (by decide)]
  rw [readCov_fill]
  rfl

/-- What run B loads of head 1's running sum: the zeros it has just stored. -/
theorem runB_load1 : runB.sl.v59 (F := F) arg4 arg5 arg6 arg7 arg8 arg9 x0 x1 x2 x3 x4 x5 = colsOf k0_pay1 1 := by
  unfold runB.sl.v59 runB.sl.HS0_2 runB.sl.HS0_1
  repeat rw [readCov_after scM.view _ _ (by decide)]
  rw [readCov_fill]
  rfl

/-- What run B loads of head 2's running sum: the zeros it has just stored. -/
theorem runB_load2 : runB.sl.v88 (F := F) arg4 arg5 arg6 arg7 arg8 arg9 x0 x1 x2 x3 x4 x5 = colsOf k0_pay1 2 := by
  unfold runB.sl.v88 runB.sl.HS0_3 runB.sl.HS0_2 runB.sl.HS0_1
  repeat rw [readCov_after scM.view _ _ (by decide)]
  rw [readCov_fill]
  rfl

/-- What run B loads of head 3's running sum: the zeros it has just stored. -/
theorem runB_load3 : runB.sl.v117 (F := F) arg4 arg5 arg6 arg7 arg8 arg9 x0 x1 x2 x3 x4 x5 = colsOf k0_pay1 3 := by
  unfold runB.sl.v117 runB.sl.HS0_4 runB.sl.HS0_3 runB.sl.HS0_2 runB.sl.HS0_1
  repeat rw [readCov_after scM.view _ _ (by decide)]
  rw [readCov_fill]
  rfl

/-- What run B loads of head 4's running sum: the zeros it has just stored. -/
theorem runB_load4 : runB.sl.v146 (F := F) arg4 arg5 arg6 arg7 arg8 arg9 x0 x1 x2 x3 x4 x5 = colsOf k0_pay1 4 := by
  unfold runB.sl.v146 runB.sl.HS0_5 runB.sl.HS0_4 runB.sl.HS0_3 runB.sl.HS0_2 runB.sl.HS0_1
  repeat rw [readCov_after scM.view _ _ (by decide)]
  rw [readCov_fill]
  rfl

/-- What run B loads of head 5's running sum: the zeros it has just stored. -/
theorem runB_load5 : runB.sl.v175 (F := F) arg4 arg5 arg6 arg7 arg8 arg9 x0 x1 x2 x3 x4 x5 = colsOf k0_pay1 5 := by
  unfold runB.sl.v175 runB.sl.HS0_6 runB.sl.HS0_5 runB.sl.HS0_4 runB.sl.HS0_3 runB.sl.HS0_2 runB.sl.HS0_1
  repeat rw [readCov_after scM.view _ _ (by decide)]
  rw [readCov_fill]
  rfl

/-- What run B loads of head 6's running sum: the zeros it has just stored. -/
theorem runB_load6 : runB.sl.v204 (F := F) arg4 arg5 arg6 arg7 arg8 arg9 x0 x1 x2 x3 x4 x5 = colsOf k0_pay1 6 := by
  unfold runB.sl.v204 runB.sl.HS0_7 runB.sl.HS0_6 runB.sl.HS0_5 runB.sl.HS0_4 runB.sl.HS0_3 runB.sl.HS0_2 runB.sl.HS0_1
  repeat rw [readCov_after scM.view _ _ (by decide)]
  rw [readCov_fill]
  rfl

/-- What run B loads of head 7's running sum: the zeros it has just stored. -/
theorem runB_load7 : runB.sl.v233 (F := F) arg4 arg5 arg6 arg7 arg8 arg9 x0 x1 x2 x3 x4 x5 = colsOf k0_pay1 7 := by
  unfold runB.sl.v233 runB.sl.HS0_8 runB.sl.HS0_7 runB.sl.HS0_6 runB.sl.HS0_5 runB.sl.HS0_4 runB.sl.HS0_3 runB.sl.HS0_2 runB.sl.HS0_1
  repeat rw [readCov_after scM.view _ _ (by decide)]
  rw [readCov_fill]
  rfl

/-- Between the first key tile and the diagonal the running sum takes a step. The stores, head by head. -/
theorem runD_sum_pieces : runD.sl.HS0_8 arg4 arg5 arg6 arg7 arg8 arg9 x0 x1 x2 x3 x4 x5 xa = ([⟨colRect 7, (ldPlain arg4 arg5 arg6 arg7 arg8 arg9 x0 x1 x2 x3 x4 x5 (fun g => View.readAt (Elt F) scM.view (colRect g).toLoadRect (scM.view.rep xa))) 7⟩, ⟨colRect 6, (ldPlain arg4 arg5 arg6 arg7 arg8 arg9 x0 x1 x2 x3 x4 x5 (fun g => View.readAt (Elt F) scM.view (colRect g).toLoadRect (scM.view.rep xa))) 6⟩, ⟨colRect 5, (ldPlain arg4 arg5 arg6 arg7 arg8 arg9 x0 x1 x2 x3 x4 x5 (fun g => View.readAt (Elt F) scM.view (colRect g).toLoadRect (scM.view.rep xa))) 5⟩, ⟨colRect 4, (ldPlain arg4 arg5 arg6 arg7 arg8 arg9 x0 x1 x2 x3 x4 x5 (fun g => View.readAt (Elt F) scM.view (colRect g).toLoadRect (scM.view.rep xa))) 4⟩, ⟨colRect 3, (ldPlain arg4 arg5 arg6 arg7 arg8 arg9 x0 x1 x2 x3 x4 x5 (fun g => View.readAt (Elt F) scM.view (colRect g).toLoadRect (scM.view.rep xa))) 3⟩, ⟨colRect 2, (ldPlain arg4 arg5 arg6 arg7 arg8 arg9 x0 x1 x2 x3 x4 x5 (fun g => View.readAt (Elt F) scM.view (colRect g).toLoadRect (scM.view.rep xa))) 2⟩, ⟨colRect 1, (ldPlain arg4 arg5 arg6 arg7 arg8 arg9 x0 x1 x2 x3 x4 x5 (fun g => View.readAt (Elt F) scM.view (colRect g).toLoadRect (scM.view.rep xa))) 1⟩, ⟨colRect 0, (ldPlain arg4 arg5 arg6 arg7 arg8 arg9 x0 x1 x2 x3 x4 x5 (fun g => View.readAt (Elt F) scM.view (colRect g).toLoadRect (scM.view.rep xa))) 0⟩] : List (View.Piece (Elt F) S512x2048 .f32)) := by
  unfold runD.sl.HS0_8
  skip
  refine congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ rfl)))))))
  all_goals rfl

/-- Between the first key tile and the diagonal the running sum takes a step. -/
theorem runD_sum (hc0 : ¬ Opens F i T1) (hc1 : Below F i T0 T1) (h3 : ¬ OnDiag F i T0 T1) :
    scM.view.read (Elt F) (runD c i arg4 harg4 arg5 harg5 arg6 harg6 arg7 harg7 arg8 harg8 arg9 harg9 arg10 harg10 T0 T1 x0 x1 x2 x3 x4 x5 y6 xa hc0 hc1 h3).1.2 = plainStep x0 x1 x2 x3 x4 x5 xa := by
  dsimp only [runD]
  rw [runD_sum_pieces]
  refine (read_heads scM.view _ (ldPlain arg4 arg5 arg6 arg7 arg8 arg9 x0 x1 x2 x3 x4 x5 (fun g => View.readAt (Elt F) scM.view (colRect g).toLoadRect (scM.view.rep xa))) []).trans ?_
  unfold plainStep
  refine congrArg perHead (funext fun g => ?_)
  unfold ldPlain
  simp only [View.readAt_rep]
  rfl

/-- At the first key tile, before the diagonal, the running sum takes a step from zero. The stores, head by head. -/
theorem runB_sum_pieces : runB.sl.HS0_9 arg4 arg5 arg6 arg7 arg8 arg9 x0 x1 x2 x3 x4 x5 = ([⟨colRect 7, (ldPlain arg4 arg5 arg6 arg7 arg8 arg9 x0 x1 x2 x3 x4 x5 (colsOf k0_pay1)) 7⟩, ⟨colRect 6, (ldPlain arg4 arg5 arg6 arg7 arg8 arg9 x0 x1 x2 x3 x4 x5 (colsOf k0_pay1)) 6⟩, ⟨colRect 5, (ldPlain arg4 arg5 arg6 arg7 arg8 arg9 x0 x1 x2 x3 x4 x5 (colsOf k0_pay1)) 5⟩, ⟨colRect 4, (ldPlain arg4 arg5 arg6 arg7 arg8 arg9 x0 x1 x2 x3 x4 x5 (colsOf k0_pay1)) 4⟩, ⟨colRect 3, (ldPlain arg4 arg5 arg6 arg7 arg8 arg9 x0 x1 x2 x3 x4 x5 (colsOf k0_pay1)) 3⟩, ⟨colRect 2, (ldPlain arg4 arg5 arg6 arg7 arg8 arg9 x0 x1 x2 x3 x4 x5 (colsOf k0_pay1)) 2⟩, ⟨colRect 1, (ldPlain arg4 arg5 arg6 arg7 arg8 arg9 x0 x1 x2 x3 x4 x5 (colsOf k0_pay1)) 1⟩, ⟨colRect 0, (ldPlain arg4 arg5 arg6 arg7 arg8 arg9 x0 x1 x2 x3 x4 x5 (colsOf k0_pay1)) 0⟩, ⟨Rect.unit (s := S512x2048) ![0, 0] S512x2048.size inb_S512x2048_S512x2048_0_0, k0_pay1⟩] : List (View.Piece (Elt F) S512x2048 .f32)) := by
  unfold runB.sl.HS0_9 runB.sl.HS0_8 runB.sl.HS0_7 runB.sl.HS0_6 runB.sl.HS0_5 runB.sl.HS0_4 runB.sl.HS0_3 runB.sl.HS0_2 runB.sl.HS0_1 runB.sl.r_17 runB.sl.r_16
  rw [runB_load0, runB_load1, runB_load2, runB_load3, runB_load4, runB_load5, runB_load6, runB_load7]
  refine congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ rfl)))))))
  all_goals rfl

/-- At the first key tile, before the diagonal, the running sum takes a step from zero. -/
theorem runB_sum (hc0 : Opens F i T1) (hc1 : Below F i T0 T1) (h3 : ¬ OnDiag F i T0 T1) :
    scM.view.read (Elt F) (runB c i arg4 harg4 arg5 harg5 arg6 harg6 arg7 harg7 arg8 harg8 arg9 harg9 arg10 harg10 T0 T1 x0 x1 x2 x3 x4 x5 y6 xa hc0 hc1 h3).1.2 = plainStep x0 x1 x2 x3 x4 x5 k0_pay1 := by
  dsimp only [runB]
  rw [runB_sum_pieces]
  refine (read_heads scM.view _ (ldPlain arg4 arg5 arg6 arg7 arg8 arg9 x0 x1 x2 x3 x4 x5 (colsOf k0_pay1)) [⟨Rect.unit (s := S512x2048) ![0, 0] S512x2048.size inb_S512x2048_S512x2048_0_0, k0_pay1⟩]).trans ?_
  unfold plainStep
  refine congrArg perHead (funext fun g => ?_)
  unfold ldPlain
  simp only [View.readAt_rep]
  rfl

/-- On the diagonal the running sum takes the masked step. The stores, head by head. -/
theorem runC_sum_pieces : runC.sl.HS0_8 i arg4 arg5 arg6 arg7 arg8 arg9 T0 T1 x0 x1 x2 x3 x4 x5 xa = ([⟨colRect 7, (ldMask (word0 F i T0) (word1 F i T1) arg4 arg5 arg6 arg7 arg8 arg9 x0 x1 x2 x3 x4 x5 (fun g => View.readAt (Elt F) scM.view (colRect g).toLoadRect (scM.view.rep xa))) 7⟩, ⟨colRect 6, (ldMask (word0 F i T0) (word1 F i T1) arg4 arg5 arg6 arg7 arg8 arg9 x0 x1 x2 x3 x4 x5 (fun g => View.readAt (Elt F) scM.view (colRect g).toLoadRect (scM.view.rep xa))) 6⟩, ⟨colRect 5, (ldMask (word0 F i T0) (word1 F i T1) arg4 arg5 arg6 arg7 arg8 arg9 x0 x1 x2 x3 x4 x5 (fun g => View.readAt (Elt F) scM.view (colRect g).toLoadRect (scM.view.rep xa))) 5⟩, ⟨colRect 4, (ldMask (word0 F i T0) (word1 F i T1) arg4 arg5 arg6 arg7 arg8 arg9 x0 x1 x2 x3 x4 x5 (fun g => View.readAt (Elt F) scM.view (colRect g).toLoadRect (scM.view.rep xa))) 4⟩, ⟨colRect 3, (ldMask (word0 F i T0) (word1 F i T1) arg4 arg5 arg6 arg7 arg8 arg9 x0 x1 x2 x3 x4 x5 (fun g => View.readAt (Elt F) scM.view (colRect g).toLoadRect (scM.view.rep xa))) 3⟩, ⟨colRect 2, (ldMask (word0 F i T0) (word1 F i T1) arg4 arg5 arg6 arg7 arg8 arg9 x0 x1 x2 x3 x4 x5 (fun g => View.readAt (Elt F) scM.view (colRect g).toLoadRect (scM.view.rep xa))) 2⟩, ⟨colRect 1, (ldMask (word0 F i T0) (word1 F i T1) arg4 arg5 arg6 arg7 arg8 arg9 x0 x1 x2 x3 x4 x5 (fun g => View.readAt (Elt F) scM.view (colRect g).toLoadRect (scM.view.rep xa))) 1⟩, ⟨colRect 0, (ldMask (word0 F i T0) (word1 F i T1) arg4 arg5 arg6 arg7 arg8 arg9 x0 x1 x2 x3 x4 x5 (fun g => View.readAt (Elt F) scM.view (colRect g).toLoadRect (scM.view.rep xa))) 0⟩] : List (View.Piece (Elt F) S512x2048 .f32)) := by
  unfold runC.sl.HS0_8
  skip
  refine congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ rfl)))))))
  all_goals rfl

/-- On the diagonal the running sum takes the masked step. -/
theorem runC_sum (hc0 : ¬ Opens F i T1) (hc1 : ¬ Below F i T0 T1) (h3 : OnDiag F i T0 T1) :
    scM.view.read (Elt F) (runC c i arg4 harg4 arg5 harg5 arg6 harg6 arg7 harg7 arg8 harg8 arg9 harg9 arg10 harg10 T0 T1 x0 x1 x2 x3 x4 x5 y6 xa hc0 hc1 h3).1.2 = maskStep (word0 F i T0) (word1 F i T1) x0 x1 x2 x3 x4 x5 xa := by
  dsimp only [runC]
  rw [runC_sum_pieces]
  refine (read_heads scM.view _ (ldMask (word0 F i T0) (word1 F i T1) arg4 arg5 arg6 arg7 arg8 arg9 x0 x1 x2 x3 x4 x5 (fun g => View.readAt (Elt F) scM.view (colRect g).toLoadRect (scM.view.rep xa))) []).trans ?_
  unfold maskStep
  refine congrArg perHead (funext fun g => ?_)
  unfold ldMask
  simp only [View.readAt_rep]
  rfl

/-- On the diagonal the result block is the masked step, scaled. The stores, head by head. -/
theorem runC_out_pieces : runC.sl.HO6_8 i arg4 arg5 arg6 arg7 arg8 arg9 T0 T1 x0 x1 x2 x3 x4 x5 xa = ([⟨colRect 7, (ldOut (word0 F i T0) (word1 F i T1) arg4 arg5 arg6 arg7 arg8 arg9 x0 x1 x2 x3 x4 x5 (fun g => View.readAt (Elt F) scM.view (colRect g).toLoadRect (scM.view.rep xa))) 7⟩, ⟨colRect 6, (ldOut (word0 F i T0) (word1 F i T1) arg4 arg5 arg6 arg7 arg8 arg9 x0 x1 x2 x3 x4 x5 (fun g => View.readAt (Elt F) scM.view (colRect g).toLoadRect (scM.view.rep xa))) 6⟩, ⟨colRect 5, (ldOut (word0 F i T0) (word1 F i T1) arg4 arg5 arg6 arg7 arg8 arg9 x0 x1 x2 x3 x4 x5 (fun g => View.readAt (Elt F) scM.view (colRect g).toLoadRect (scM.view.rep xa))) 5⟩, ⟨colRect 4, (ldOut (word0 F i T0) (word1 F i T1) arg4 arg5 arg6 arg7 arg8 arg9 x0 x1 x2 x3 x4 x5 (fun g => View.readAt (Elt F) scM.view (colRect g).toLoadRect (scM.view.rep xa))) 4⟩, ⟨colRect 3, (ldOut (word0 F i T0) (word1 F i T1) arg4 arg5 arg6 arg7 arg8 arg9 x0 x1 x2 x3 x4 x5 (fun g => View.readAt (Elt F) scM.view (colRect g).toLoadRect (scM.view.rep xa))) 3⟩, ⟨colRect 2, (ldOut (word0 F i T0) (word1 F i T1) arg4 arg5 arg6 arg7 arg8 arg9 x0 x1 x2 x3 x4 x5 (fun g => View.readAt (Elt F) scM.view (colRect g).toLoadRect (scM.view.rep xa))) 2⟩, ⟨colRect 1, (ldOut (word0 F i T0) (word1 F i T1) arg4 arg5 arg6 arg7 arg8 arg9 x0 x1 x2 x3 x4 x5 (fun g => View.readAt (Elt F) scM.view (colRect g).toLoadRect (scM.view.rep xa))) 1⟩, ⟨colRect 0, (ldOut (word0 F i T0) (word1 F i T1) arg4 arg5 arg6 arg7 arg8 arg9 x0 x1 x2 x3 x4 x5 (fun g => View.readAt (Elt F) scM.view (colRect g).toLoadRect (scM.view.rep xa))) 0⟩] : List (View.Piece (Elt F) S512x2048 .f32)) := by
  unfold runC.sl.HO6_8
  skip
  refine congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ rfl)))))))
  all_goals rfl

/-- On the diagonal the result block is the masked step, scaled. -/
theorem runC_out (hc0 : ¬ Opens F i T1) (hc1 : ¬ Below F i T0 T1) (h3 : OnDiag F i T0 T1) :
    arg10.view.read (Elt F) (runC c i arg4 harg4 arg5 harg5 arg6 harg6 arg7 harg7 arg8 harg8 arg9 harg9 arg10 harg10 T0 T1 x0 x1 x2 x3 x4 x5 y6 xa hc0 hc1 h3).1.1 = outStep (word0 F i T0) (word1 F i T1) x0 x1 x2 x3 x4 x5 xa := by
  dsimp only [runC]
  rw [runC_out_pieces]
  refine (read_heads arg10.view _ (ldOut (word0 F i T0) (word1 F i T1) arg4 arg5 arg6 arg7 arg8 arg9 x0 x1 x2 x3 x4 x5 (fun g => View.readAt (Elt F) scM.view (colRect g).toLoadRect (scM.view.rep xa))) []).trans ?_
  unfold outStep
  refine congrArg perHead (funext fun g => ?_)
  unfold ldOut
  simp only [View.readAt_rep]
  rfl

/-- At the first key tile, the diagonal one, the running sum takes the masked step from zero. The stores, head by head. -/
theorem runA_sum_pieces : runA.sl.HS0_9 i arg4 arg5 arg6 arg7 arg8 arg9 T0 T1 x0 x1 x2 x3 x4 x5 = ([⟨colRect 7, (ldMask (word0 F i T0) (word1 F i T1) arg4 arg5 arg6 arg7 arg8 arg9 x0 x1 x2 x3 x4 x5 (colsOf k0_pay1)) 7⟩, ⟨colRect 6, (ldMask (word0 F i T0) (word1 F i T1) arg4 arg5 arg6 arg7 arg8 arg9 x0 x1 x2 x3 x4 x5 (colsOf k0_pay1)) 6⟩, ⟨colRect 5, (ldMask (word0 F i T0) (word1 F i T1) arg4 arg5 arg6 arg7 arg8 arg9 x0 x1 x2 x3 x4 x5 (colsOf k0_pay1)) 5⟩, ⟨colRect 4, (ldMask (word0 F i T0) (word1 F i T1) arg4 arg5 arg6 arg7 arg8 arg9 x0 x1 x2 x3 x4 x5 (colsOf k0_pay1)) 4⟩, ⟨colRect 3, (ldMask (word0 F i T0) (word1 F i T1) arg4 arg5 arg6 arg7 arg8 arg9 x0 x1 x2 x3 x4 x5 (colsOf k0_pay1)) 3⟩, ⟨colRect 2, (ldMask (word0 F i T0) (word1 F i T1) arg4 arg5 arg6 arg7 arg8 arg9 x0 x1 x2 x3 x4 x5 (colsOf k0_pay1)) 2⟩, ⟨colRect 1, (ldMask (word0 F i T0) (word1 F i T1) arg4 arg5 arg6 arg7 arg8 arg9 x0 x1 x2 x3 x4 x5 (colsOf k0_pay1)) 1⟩, ⟨colRect 0, (ldMask (word0 F i T0) (word1 F i T1) arg4 arg5 arg6 arg7 arg8 arg9 x0 x1 x2 x3 x4 x5 (colsOf k0_pay1)) 0⟩, ⟨Rect.unit (s := S512x2048) ![0, 0] S512x2048.size inb_S512x2048_S512x2048_0_0, k0_pay1⟩] : List (View.Piece (Elt F) S512x2048 .f32)) := by
  unfold runA.sl.HS0_9 runA.sl.HS0_8 runA.sl.HS0_7 runA.sl.HS0_6 runA.sl.HS0_5 runA.sl.HS0_4 runA.sl.HS0_3 runA.sl.HS0_2 runA.sl.HS0_1
  rw [runA_load0, runA_load1, runA_load2, runA_load3, runA_load4, runA_load5, runA_load6, runA_load7]
  refine congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ rfl)))))))
  all_goals rfl

/-- At the first key tile, the diagonal one, the running sum takes the masked step from zero. -/
theorem runA_sum (hc0 : Opens F i T1) (hc1 : ¬ Below F i T0 T1) (h3 : OnDiag F i T0 T1) :
    scM.view.read (Elt F) (runA c i arg4 harg4 arg5 harg5 arg6 harg6 arg7 harg7 arg8 harg8 arg9 harg9 arg10 harg10 T0 T1 x0 x1 x2 x3 x4 x5 y6 xa hc0 hc1 h3).1.2 = maskStep (word0 F i T0) (word1 F i T1) x0 x1 x2 x3 x4 x5 k0_pay1 := by
  dsimp only [runA]
  rw [runA_sum_pieces]
  refine (read_heads scM.view _ (ldMask (word0 F i T0) (word1 F i T1) arg4 arg5 arg6 arg7 arg8 arg9 x0 x1 x2 x3 x4 x5 (colsOf k0_pay1)) [⟨Rect.unit (s := S512x2048) ![0, 0] S512x2048.size inb_S512x2048_S512x2048_0_0, k0_pay1⟩]).trans ?_
  unfold maskStep
  refine congrArg perHead (funext fun g => ?_)
  unfold ldMask
  simp only [View.readAt_rep]
  rfl

/-- At the first key tile, the diagonal one, the result block is the masked step from zero, scaled. The stores, head by head. -/
theorem runA_out_pieces : runA.sl.HO6_8 i arg4 arg5 arg6 arg7 arg8 arg9 T0 T1 x0 x1 x2 x3 x4 x5 = ([⟨colRect 7, (ldOut (word0 F i T0) (word1 F i T1) arg4 arg5 arg6 arg7 arg8 arg9 x0 x1 x2 x3 x4 x5 (colsOf k0_pay1)) 7⟩, ⟨colRect 6, (ldOut (word0 F i T0) (word1 F i T1) arg4 arg5 arg6 arg7 arg8 arg9 x0 x1 x2 x3 x4 x5 (colsOf k0_pay1)) 6⟩, ⟨colRect 5, (ldOut (word0 F i T0) (word1 F i T1) arg4 arg5 arg6 arg7 arg8 arg9 x0 x1 x2 x3 x4 x5 (colsOf k0_pay1)) 5⟩, ⟨colRect 4, (ldOut (word0 F i T0) (word1 F i T1) arg4 arg5 arg6 arg7 arg8 arg9 x0 x1 x2 x3 x4 x5 (colsOf k0_pay1)) 4⟩, ⟨colRect 3, (ldOut (word0 F i T0) (word1 F i T1) arg4 arg5 arg6 arg7 arg8 arg9 x0 x1 x2 x3 x4 x5 (colsOf k0_pay1)) 3⟩, ⟨colRect 2, (ldOut (word0 F i T0) (word1 F i T1) arg4 arg5 arg6 arg7 arg8 arg9 x0 x1 x2 x3 x4 x5 (colsOf k0_pay1)) 2⟩, ⟨colRect 1, (ldOut (word0 F i T0) (word1 F i T1) arg4 arg5 arg6 arg7 arg8 arg9 x0 x1 x2 x3 x4 x5 (colsOf k0_pay1)) 1⟩, ⟨colRect 0, (ldOut (word0 F i T0) (word1 F i T1) arg4 arg5 arg6 arg7 arg8 arg9 x0 x1 x2 x3 x4 x5 (colsOf k0_pay1)) 0⟩] : List (View.Piece (Elt F) S512x2048 .f32)) := by
  unfold runA.sl.HO6_8
  rw [runA_load0, runA_load1, runA_load2, runA_load3, runA_load4, runA_load5, runA_load6, runA_load7]
  refine congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ rfl)))))))
  all_goals rfl

/-- At the first key tile, the diagonal one, the result block is the masked step from zero, scaled. -/
theorem runA_out (hc0 : Opens F i T1) (hc1 : ¬ Below F i T0 T1) (h3 : OnDiag F i T0 T1) :
    arg10.view.read (Elt F) (runA c i arg4 harg4 arg5 harg5 arg6 harg6 arg7 harg7 arg8 harg8 arg9 harg9 arg10 harg10 T0 T1 x0 x1 x2 x3 x4 x5 y6 xa hc0 hc1 h3).1.1 = outStep (word0 F i T0) (word1 F i T1) x0 x1 x2 x3 x4 x5 k0_pay1 := by
  dsimp only [runA]
  rw [runA_out_pieces]
  refine (read_heads arg10.view _ (ldOut (word0 F i T0) (word1 F i T1) arg4 arg5 arg6 arg7 arg8 arg9 x0 x1 x2 x3 x4 x5 (colsOf k0_pay1)) []).trans ?_
  unfold outStep
  refine congrArg perHead (funext fun g => ?_)
  unfold ldOut
  simp only [View.readAt_rep]
  rfl

/-- Run B leaves the result block as it was. -/
theorem runB_out (hc0 : Opens F i T1) (hc1 : Below F i T0 T1) (h3 : ¬ OnDiag F i T0 T1) :
    arg10.view.read (Elt F) (runB c i arg4 harg4 arg5 harg5 arg6 harg6 arg7 harg7 arg8 harg8 arg9 harg9 arg10 harg10 T0 T1 x0 x1 x2 x3 x4 x5 y6 xa hc0 hc1 h3).1.1 = y6 := by
  dsimp only [runB]
  exact View.read_rep _ _

/-- Run D leaves the result block as it was. -/
theorem runD_out (hc0 : ¬ Opens F i T1) (hc1 : Below F i T0 T1) (h3 : ¬ OnDiag F i T0 T1) :
    arg10.view.read (Elt F) (runD c i arg4 harg4 arg5 harg5 arg6 harg6 arg7 harg7 arg8 harg8 arg9 harg9 arg10 harg10 T0 T1 x0 x1 x2 x3 x4 x5 y6 xa hc0 hc1 h3).1.1 = y6 := by
  dsimp only [runD]
  exact View.read_rep _ _

end Cert.KernelIdeal.Gen

end
-- ==== Proof.DqSched.lean ====
/- The schedule of the backward pass for the queries' gradient: which tiles each grid point works on, which way its body
   goes there, and when the result block is written back. -/
module

public import proofs.«01_k».proof.Proof.DqLeaves

@[expose] public section

set_option maxRecDepth 16384
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

/-- Grid point `n`'s coordinates. -/
abbrev crd (t : Fin (cfgA F).N) : grid0.Coords := (cfgA F).grid.coords t

/-- The query tile of grid point `n`. -/
def rowN (n : ℕ) : ℕ := [0, 1, 1, 2, 2, 2, 3, 3, 3, 3, 4, 4, 4, 4, 4, 5, 5, 5, 5, 5, 5, 6, 6, 6, 6, 6, 6, 6, 7, 7, 7, 7, 7, 7, 7, 7].getD n 0
/-- The key tile of grid point `n`. -/
def colN (n : ℕ) : ℕ := [0, 0, 1, 0, 1, 2, 0, 1, 2, 3, 0, 1, 2, 3, 4, 0, 1, 2, 3, 4, 5, 0, 1, 2, 3, 4, 5, 6, 0, 1, 2, 3, 4, 5, 6, 7].getD n 0

/-- Over the bits a named constant is its literal. -/
@[reducible] def namedBits : Named Bits where
  named _ _ {φ} bits := FloatOps.ofBits φ bits

attribute [local instance] namedBits

/-- What is decided of a grid point: the two words, the way of the body, the use and the write-back of the result block. -/
def FactsAt (t : Fin (cfgA Bits).N) : Prop :=
  word0 Bits (crd t) rowTab = BitVec.ofNat 32 (rowN t.val) ∧ word1 Bits (crd t) colTab = BitVec.ofNat 32 (colN t.val)
  ∧ (Opens Bits (crd t) colTab ↔ colN t.val = 0) ∧ (Below Bits (crd t) rowTab colTab ↔ colN t.val ≠ rowN t.val)
  ∧ (OnDiag Bits (crd t) rowTab colTab ↔ colN t.val = rowN t.val)
  ∧ (cfgA Bits).idle (6 : Fin 7) ((cfgA Bits).grid.coords t) = decide (colN t.val ≠ rowN t.val)
  ∧ ((cfgA Bits).win (6 : Fin 7)).flush t = decide (colN t.val = rowN t.val)

instance (t : Fin (cfgA Bits).N) : Decidable (FactsAt t) := by unfold FactsAt; infer_instance

theorem facts_0 : ∀ t : Fin (cfgA Bits).N, 0 ≤ t.val → t.val < 6 → FactsAt t := by decide +kernel
theorem facts_1 : ∀ t : Fin (cfgA Bits).N, 6 ≤ t.val → t.val < 12 → FactsAt t := by decide +kernel
theorem facts_2 : ∀ t : Fin (cfgA Bits).N, 12 ≤ t.val → t.val < 18 → FactsAt t := by decide +kernel
theorem facts_3 : ∀ t : Fin (cfgA Bits).N, 18 ≤ t.val → t.val < 24 → FactsAt t := by decide +kernel
theorem facts_4 : ∀ t : Fin (cfgA Bits).N, 24 ≤ t.val → t.val < 30 → FactsAt t := by decide +kernel
theorem facts_5 : ∀ t : Fin (cfgA Bits).N, 30 ≤ t.val → t.val < 36 → FactsAt t := by decide +kernel

/-- The facts hold at every grid point. -/
theorem facts_at (t : Fin (cfgA Bits).N) : FactsAt t := by
  have ht : t.val < 36 := lt_of_lt_of_eq t.isLt N_0
  rcases Nat.lt_or_ge t.val 6 with h0 | h0; · exact facts_0 t (Nat.zero_le _) h0
  rcases Nat.lt_or_ge t.val 12 with h1 | h1; · exact facts_1 t h0 h1
  rcases Nat.lt_or_ge t.val 18 with h2 | h2; · exact facts_2 t h1 h2
  rcases Nat.lt_or_ge t.val 24 with h3 | h3; · exact facts_3 t h2 h3
  rcases Nat.lt_or_ge t.val 30 with h4 | h4; · exact facts_4 t h3 h4
  exact facts_5 t h4 ht

/-! The same at any float type: none of it reads a float. -/

theorem word0_at (t : Fin (cfgA F).N) : word0 F (crd t) rowTab = BitVec.ofNat 32 (rowN t.val) := (facts_at t).1
theorem word1_at (t : Fin (cfgA F).N) : word1 F (crd t) colTab = BitVec.ofNat 32 (colN t.val) := (facts_at t).2.1
theorem opens_iff (t : Fin (cfgA F).N) : Opens F (crd t) colTab ↔ colN t.val = 0 := (facts_at t).2.2.1
theorem below_iff (t : Fin (cfgA F).N) : Below F (crd t) rowTab colTab ↔ colN t.val ≠ rowN t.val := (facts_at t).2.2.2.1
theorem onDiag_iff (t : Fin (cfgA F).N) : OnDiag F (crd t) rowTab colTab ↔ colN t.val = rowN t.val := (facts_at t).2.2.2.2.1
theorem idle_at (t : Fin (cfgA F).N) : (cfgA F).idle (6 : Fin 7) ((cfgA F).grid.coords t) = decide (colN t.val ≠ rowN t.val) := (facts_at t).2.2.2.2.2.1
theorem flush_at (t : Fin (cfgA F).N) : ((cfgA F).win (6 : Fin 7)).flush t = decide (colN t.val = rowN t.val) := (facts_at t).2.2.2.2.2.2

end Cert.KernelIdeal.Gen

end
-- ==== Proof.DqData.lean ====
/- The backward pass for the queries' gradient, what every grid point leaves. -/
module

public import proofs.«01_k».proof.Proof.DqSched

@[expose] public section

set_option maxRecDepth 16384
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Staging buffers and blocks -/

/-- Window 0's staging buffer at grid point `t`. -/
abbrev ms0 (t : Fin (cfgA F).N) : Memref sig .tc .vmem S512x2048 .bf16 := spec0_0.stage ((cfgA F).slots t (0 : Fin 7))
abbrev hs0 (t : Fin (cfgA F).N) : (ms0 t).IsWhole := hstage0_0 (((cfgA F).slots t (0 : Fin 7)).cast nbuf0_0)
/-- Window 1's staging buffer at grid point `t`. -/
abbrev ms1 (t : Fin (cfgA F).N) : Memref sig .tc .vmem S512x2048 .bf16 := spec0_1.stage ((cfgA F).slots t (1 : Fin 7))
abbrev hs1 (t : Fin (cfgA F).N) : (ms1 t).IsWhole := hstage0_1 (((cfgA F).slots t (1 : Fin 7)).cast nbuf0_1)
/-- Window 2's staging buffer at grid point `t`. -/
abbrev ms2 (t : Fin (cfgA F).N) : Memref sig .tc .vmem S512x1024 .bf16 := spec0_2.stage ((cfgA F).slots t (2 : Fin 7))
abbrev hs2 (t : Fin (cfgA F).N) : (ms2 t).IsWhole := hstage0_2 (((cfgA F).slots t (2 : Fin 7)).cast nbuf0_2)
/-- Window 3's staging buffer at grid point `t`. -/
abbrev ms3 (t : Fin (cfgA F).N) : Memref sig .tc .vmem S512x1024 .bf16 := spec0_3.stage ((cfgA F).slots t (3 : Fin 7))
abbrev hs3 (t : Fin (cfgA F).N) : (ms3 t).IsWhole := hstage0_3 (((cfgA F).slots t (3 : Fin 7)).cast nbuf0_3)
/-- Window 4's staging buffer at grid point `t`. -/
abbrev ms4 (t : Fin (cfgA F).N) : Memref sig .tc .vmem S8x512x1 .f32 := spec0_4.stage ((cfgA F).slots t (4 : Fin 7))
abbrev hs4 (t : Fin (cfgA F).N) : (ms4 t).IsWhole := hstage0_4 (((cfgA F).slots t (4 : Fin 7)).cast nbuf0_4)
/-- Window 5's staging buffer at grid point `t`. -/
abbrev ms5 (t : Fin (cfgA F).N) : Memref sig .tc .vmem S8x512x1 .f32 := spec0_5.stage ((cfgA F).slots t (5 : Fin 7))
abbrev hs5 (t : Fin (cfgA F).N) : (ms5 t).IsWhole := hstage0_5 (((cfgA F).slots t (5 : Fin 7)).cast nbuf0_5)
/-- Window 6's staging buffer at grid point `t`. -/
abbrev ms6 (t : Fin (cfgA F).N) : Memref sig .tc .vmem S512x2048 .f32 := spec0_6.stage ((cfgA F).slots t (6 : Fin 7))
abbrev hs6 (t : Fin (cfgA F).N) : (ms6 t).IsWhole := hstage0_6 (((cfgA F).slots t (6 : Fin 7)).cast nbuf0_6)

/-- The memory of core `c` after the host operations before the kernel. -/
def V0 (c : Dev nD) : Valuation τ sig (Elt F) := StableHlo.after (List.flatten [hostOps0]) (fun b => m (c, b))

/-- Window `w`'s block at grid point `t`. -/
def blk (c : Dev nD) (w : Fin (cfgA F).W) (t : Fin (cfgA F).N) : (((cfgA F).win w).xblock (crd t)).Idx → Elt F ((cfgA F).win w).elt :=
  (((cfgA F).win w).blk t).view.read (Elt F) (V0 m c (Proc.devRef .tc (Pipeline.arrRef (cfgA F).spec w)))

/-! ## What the grid points leave -/

/-- The running sum after grid point `t`, from the sum `a`. -/
def accStep (c : Dev nD) (t : Fin (cfgA F).N) (a : S512x2048.Idx → Elt F .f32) : S512x2048.Idx → Elt F .f32 :=
  if colN t.val = rowN t.val then maskStep (word0 F (crd t) rowTab) (word1 F (crd t) colTab) (blk m c (0 : Fin 7) t) (blk m c (1 : Fin 7) t) (blk m c (2 : Fin 7) t) (blk m c (3 : Fin 7) t) (blk m c (4 : Fin 7) t) (blk m c (5 : Fin 7) t) a
  else plainStep (blk m c (0 : Fin 7) t) (blk m c (1 : Fin 7) t) (blk m c (2 : Fin 7) t) (blk m c (3 : Fin 7) t) (blk m c (4 : Fin 7) t) (blk m c (5 : Fin 7) t) a

/-- The running sum before grid point `n`: a row's first key tile starts it at zero. -/
def accB (c : Dev nD) : ℕ → S512x2048.Idx → Elt F .f32
  | 0 => k0_pay1
  | n + 1 => if h : n < (cfgA F).N then accStep m c ⟨n, h⟩ (if colN n = 0 then k0_pay1 else accB c n) else k0_pay1

/-- The running sum grid point `t` starts from. -/
def base (c : Dev nD) (n : ℕ) : S512x2048.Idx → Elt F .f32 := if colN n = 0 then k0_pay1 else accB m c n

theorem accB_succ (c : Dev nD) (t : Fin (cfgA F).N) : accB m c (t.val + 1) = accStep m c t (base m c t.val) := by
  rw [accB, dif_pos t.isLt]; rfl

/-- The result block of grid point `t`, meant at the last key tile of its row. -/
def outB (c : Dev nD) (t : Fin (cfgA F).N) : S512x2048.Idx → Elt F .f32 :=
  outStep (word0 F (crd t) rowTab) (word1 F (crd t) colTab) (blk m c (0 : Fin 7) t) (blk m c (1 : Fin 7) t) (blk m c (2 : Fin 7) t) (blk m c (3 : Fin 7) t) (blk m c (4 : Fin 7) t) (blk m c (5 : Fin 7) t) (base m c t.val)

/-- The invariant before grid point `n`: the running sum, the tables, the random generator's register. -/
def Phi (c : Dev nD) (n : ℕ) : sProp 𝕄 :=
  iprop((∃ a, ⌜n ≠ 0 → a = accB m c n⌝ ∗ owns (c : Thread nD τ) scM fullShare a)
    ∗ (tbM0.view.loc (c : Thread nD τ) ↦{fullShare.right} rowTab) ∗ (tbM1.view.loc (c : Thread nD τ) ↦{fullShare.right} colTab)
    ∗ ∃ r, prngReg c r)

/-- The proof data of the pipeline on core `c`. -/
def dats (_ : Fin 1) (c : Dev nD) : Dat τ (Elt F) Unit ℕ (UR sig nD τ) ℕ (cfgA F) c where
  A w := V0 m c (Proc.devRef .tc (Pipeline.arrRef (cfgA F).spec w))
  after w t := match w with
    | ⟨0, _⟩ => blk m c (0 : Fin 7) t
    | ⟨1, _⟩ => blk m c (1 : Fin 7) t
    | ⟨2, _⟩ => blk m c (2 : Fin 7) t
    | ⟨3, _⟩ => blk m c (3 : Fin 7) t
    | ⟨4, _⟩ => blk m c (4 : Fin 7) t
    | ⟨5, _⟩ => blk m c (5 : Fin 7) t
    | ⟨6, _⟩ => outB m c t
  Φ t := Phi m c t.val
  q _ := fullShare
  owed _ := 0

theorem after_0 (c : Dev nD) (t : Fin (cfgA F).N) : (dats m 0 c).after (0 : Fin 7) t = blk m c (0 : Fin 7) t := by dsimp only [dats]
theorem after_1 (c : Dev nD) (t : Fin (cfgA F).N) : (dats m 0 c).after (1 : Fin 7) t = blk m c (1 : Fin 7) t := by dsimp only [dats]
theorem after_2 (c : Dev nD) (t : Fin (cfgA F).N) : (dats m 0 c).after (2 : Fin 7) t = blk m c (2 : Fin 7) t := by dsimp only [dats]
theorem after_3 (c : Dev nD) (t : Fin (cfgA F).N) : (dats m 0 c).after (3 : Fin 7) t = blk m c (3 : Fin 7) t := by dsimp only [dats]
theorem after_4 (c : Dev nD) (t : Fin (cfgA F).N) : (dats m 0 c).after (4 : Fin 7) t = blk m c (4 : Fin 7) t := by dsimp only [dats]
theorem after_5 (c : Dev nD) (t : Fin (cfgA F).N) : (dats m 0 c).after (5 : Fin 7) t = blk m c (5 : Fin 7) t := by dsimp only [dats]
theorem after_6 (c : Dev nD) (t : Fin (cfgA F).N) : (dats m 0 c).after (6 : Fin 7) t = outB m c t := by dsimp only [dats]

/-- Input window 0 holds its block. -/
theorem before_0 (c : Dev nD) (t : Fin (cfgA F).N) (d) : (dats m 0 c).before (0 : Fin 7) t d = blk m c (0 : Fin 7) t :=
  ((dats m 0 c).before_in_eq_fetched (0 : Fin 7) rfl (fun _ => rfl) (fun _ _ _ => rfl) (fun t => by rw [after_0]; unfold Dat.blockOf blk; rfl) t d).trans
    (by unfold Dat.fetched Dat.blockOf blk; rfl)
/-- Input window 1 holds its block. -/
theorem before_1 (c : Dev nD) (t : Fin (cfgA F).N) (d) : (dats m 0 c).before (1 : Fin 7) t d = blk m c (1 : Fin 7) t :=
  ((dats m 0 c).before_in_eq_fetched (1 : Fin 7) rfl (fun _ => rfl) (fun _ _ _ => rfl) (fun t => by rw [after_1]; unfold Dat.blockOf blk; rfl) t d).trans
    (by unfold Dat.fetched Dat.blockOf blk; rfl)
/-- Input window 2 holds its block. -/
theorem before_2 (c : Dev nD) (t : Fin (cfgA F).N) (d) : (dats m 0 c).before (2 : Fin 7) t d = blk m c (2 : Fin 7) t :=
  ((dats m 0 c).before_in_eq_fetched (2 : Fin 7) rfl (fun _ => rfl) (fun _ _ _ => rfl) (fun t => by rw [after_2]; unfold Dat.blockOf blk; rfl) t d).trans
    (by unfold Dat.fetched Dat.blockOf blk; rfl)
/-- Input window 3 holds its block. -/
theorem before_3 (c : Dev nD) (t : Fin (cfgA F).N) (d) : (dats m 0 c).before (3 : Fin 7) t d = blk m c (3 : Fin 7) t :=
  ((dats m 0 c).before_in_eq_fetched (3 : Fin 7) rfl (fun _ => rfl) (fun _ _ _ => rfl) (fun t => by rw [after_3]; unfold Dat.blockOf blk; rfl) t d).trans
    (by unfold Dat.fetched Dat.blockOf blk; rfl)
/-- Input window 4 holds its block. -/
theorem before_4 (c : Dev nD) (t : Fin (cfgA F).N) (d) : (dats m 0 c).before (4 : Fin 7) t d = blk m c (4 : Fin 7) t :=
  ((dats m 0 c).before_in_eq_fetched (4 : Fin 7) rfl (fun _ => rfl) (fun _ _ _ => rfl) (fun t => by rw [after_4]; unfold Dat.blockOf blk; rfl) t d).trans
    (by unfold Dat.fetched Dat.blockOf blk; rfl)
/-- Input window 5 holds its block. -/
theorem before_5 (c : Dev nD) (t : Fin (cfgA F).N) (d) : (dats m 0 c).before (5 : Fin 7) t d = blk m c (5 : Fin 7) t :=
  ((dats m 0 c).before_in_eq_fetched (5 : Fin 7) rfl (fun _ => rfl) (fun _ _ _ => rfl) (fun t => by rw [after_5]; unfold Dat.blockOf blk; rfl) t d).trans
    (by unfold Dat.fetched Dat.blockOf blk; rfl)

theorem phi_castSucc (c : Dev nD) (t : Fin (cfgA F).N) : (dats m 0 c).Φ t.castSucc = Phi m c t.val := by dsimp only [dats, Fin.val_castSucc]
theorem phi_succ (c : Dev nD) (t : Fin (cfgA F).N) : (dats m 0 c).Φ t.succ = Phi m c (t.val + 1) := by dsimp only [dats, Fin.val_succ]
theorem owes_succ (c : Dev nD) (t : Fin (cfgA F).N) : (dats m 0 c).owesAt () t.succ = (dats m 0 c).owesAt () t.castSucc := by
  unfold Dat.owesAt Dat.bound; dsimp only [dats]

/-- The body at grid point `t`, as the pipeline calls it. -/
abbrev bodyAt (t : Fin (cfgA F).N) : Prog (TpuEff nD τ sig (Elt F) Λ₀ .tc) PUnit :=
  cc0_attn_bwd_dq (crd t) tbM0 (Memref.isWhole_whole _) tbM1 (Memref.isWhole_whole _) (ms0 t) (hs0 t) (ms1 t) (hs1 t) (ms2 t) (hs2 t) (ms3 t) (hs3 t) (ms4 t) (hs4 t) (ms5 t) (hs5 t) (ms6 t) (hs6 t) scM (Memref.isWhole_whole _)

section
variable (c : Dev nD) (t : Fin (cfgA F).N)

theorem accB_diag (h : colN t.val = rowN t.val) : accB m c (t.val + 1) = maskStep (word0 F (crd t) rowTab) (word1 F (crd t) colTab) (blk m c (0 : Fin 7) t) (blk m c (1 : Fin 7) t) (blk m c (2 : Fin 7) t) (blk m c (3 : Fin 7) t) (blk m c (4 : Fin 7) t) (blk m c (5 : Fin 7) t) (base m c t.val) := by
  rw [accB_succ, accStep, if_pos h]

theorem accB_below (h : colN t.val ≠ rowN t.val) : accB m c (t.val + 1) = plainStep (blk m c (0 : Fin 7) t) (blk m c (1 : Fin 7) t) (blk m c (2 : Fin 7) t) (blk m c (3 : Fin 7) t) (blk m c (4 : Fin 7) t) (blk m c (5 : Fin 7) t) (base m c t.val) := by
  rw [accB_succ, accStep, if_neg h]

end

end Cert.KernelIdeal.Gen

end
-- ==== Proof.DqBody.lean ====
/- The backward pass for the queries' gradient: the body keeps its promise at every grid point. -/
module

public import proofs.«01_k».proof.Proof.DqData

@[expose] public section

set_option maxRecDepth 16384
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at grid point `t`: from the invariant and the staging buffers, it leaves the next invariant, the input blocks, and
    at a row's last key tile the result block. -/
theorem sound_body (c : Dev nD) (t : Fin (cfgA F).N) :
    iprop((dats m 0 c).Φ t.castSucc ∗ (dats m 0 c).owesAt () t.castSucc
        ∗ (∃ d, owns (c : Thread nD τ) (ms0 t) fullShare ((dats m 0 c).before (0 : Fin 7) t d))
        ∗ (∃ d, owns (c : Thread nD τ) (ms1 t) fullShare ((dats m 0 c).before (1 : Fin 7) t d))
        ∗ (∃ d, owns (c : Thread nD τ) (ms2 t) fullShare ((dats m 0 c).before (2 : Fin 7) t d))
        ∗ (∃ d, owns (c : Thread nD τ) (ms3 t) fullShare ((dats m 0 c).before (3 : Fin 7) t d))
        ∗ (∃ d, owns (c : Thread nD τ) (ms4 t) fullShare ((dats m 0 c).before (4 : Fin 7) t d))
        ∗ (∃ d, owns (c : Thread nD τ) (ms5 t) fullShare ((dats m 0 c).before (5 : Fin 7) t d))
        ∗ (∃ d, owns (c : Thread nD τ) (ms6 t) fullShare ((dats m 0 c).before (6 : Fin 7) t d)))
      ⊢ wp frame (wpE (defs₀ (F := F)) Variants.none c none) Set.univ (bodyAt t) fun _ =>
          iprop((dats m 0 c).Φ t.succ ∗ (dats m 0 c).owesAt () t.succ
            ∗ bigSep Finset.univ fun w : Fin (cfgA F).W =>
                match (cfgA F).idle w ((cfgA F).grid.coords t) with
                | true =>
                  match ((cfgA F).win w).flush t with
                  | false => iprop(∃ d, owns (c : Thread nD τ) (((cfgA F).win w).stage ((cfgA F).slots t w)) fullShare ((dats m 0 c).before w t d))
                  | true => owns (c : Thread nD τ) (((cfgA F).win w).stage ((cfgA F).slots t w)) fullShare ((dats m 0 c).after w t)
                | false => owns (c : Thread nD τ) (((cfgA F).win w).stage ((cfgA F).slots t w)) fullShare ((dats m 0 c).after w t)) := by
  rw [bigSep_W0]
  rewrite [idle_at t, flush_at t]
  simp only [before_0, before_1, before_2, before_3, before_4, before_5, after_0, after_1, after_2, after_3, after_4, after_5, after_6]
  rewrite [phi_succ, phi_castSucc, owes_succ]
  unfold Phi
  iintro ⟨⟨⟨%a, %ha, HS⟩, HT0, HT1, Hp⟩, Ho, ⟨%d0, H0⟩, ⟨%d1, H1⟩, ⟨%d2, H2⟩, ⟨%d3, H3⟩, ⟨%d4, H4⟩, ⟨%d5, H5⟩, ⟨%d6, H6⟩⟩
  by_cases hd : colN t.val = rowN t.val
  · have hc1 : ¬ Below F (crd t) rowTab colTab := fun h => (below_iff t).mp h hd
    have h3 : OnDiag F (crd t) rowTab colTab := (onDiag_iff t).mpr hd
    simp only [hd, ne_eq, not_true_eq_false, decide_true, decide_false, not_false_eq_true]
    by_cases ho : colN t.val = 0
    · have hc0 : Opens F (crd t) colTab := (opens_iff t).mpr ho
      have hb : base m c t.val = k0_pay1 := if_pos ho
      iapply ((runA c (crd t) (ms0 t) (hs0 t) (ms1 t) (hs1 t) (ms2 t) (hs2 t) (ms3 t) (hs3 t) (ms4 t) (hs4 t) (ms5 t) (hs5 t) (ms6 t) (hs6 t) rowTab colTab (blk m c (0 : Fin 7) t) (blk m c (1 : Fin 7) t) (blk m c (2 : Fin 7) t) (blk m c (3 : Fin 7) t) (blk m c (4 : Fin 7) t) (blk m c (5 : Fin 7) t) ((dats m 0 c).before (6 : Fin 7) t d6) a hc0 hc1 h3).2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iapply rep_of_owns; iexact H6
      isplitl [HS]; · iapply rep_of_owns; iexact HS
      iintro ⟨H0, H1, H2, H3, H4, H5, HT0, HT1, H6, HS⟩
      isplitl [HS HT0 HT1 Hp]
      · isplitl [HS]
        · iexists (accB m c (t.val + 1)); isplitr; · ipureintro; exact fun _ => rfl
          unfold owns; iexists _; isplitr; swap; · iexact HS
          ipureintro; exact (runA_sum c (crd t) (ms0 t) (hs0 t) (ms1 t) (hs1 t) (ms2 t) (hs2 t) (ms3 t) (hs3 t) (ms4 t) (hs4 t) (ms5 t) (hs5 t) (ms6 t) (hs6 t) rowTab colTab (blk m c (0 : Fin 7) t) (blk m c (1 : Fin 7) t) (blk m c (2 : Fin 7) t) (blk m c (3 : Fin 7) t) (blk m c (4 : Fin 7) t) (blk m c (5 : Fin 7) t) _ _ hc0 hc1 h3).trans (by rw [accB_diag m c t hd, hb])
        isplitl [HT0]; · iexact HT0
        isplitl [HT1]; · iexact HT1
        iexact Hp
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      unfold owns; iexists _; isplitr; swap; · iexact H6
      ipureintro; exact (runA_out c (crd t) (ms0 t) (hs0 t) (ms1 t) (hs1 t) (ms2 t) (hs2 t) (ms3 t) (hs3 t) (ms4 t) (hs4 t) (ms5 t) (hs5 t) (ms6 t) (hs6 t) rowTab colTab (blk m c (0 : Fin 7) t) (blk m c (1 : Fin 7) t) (blk m c (2 : Fin 7) t) (blk m c (3 : Fin 7) t) (blk m c (4 : Fin 7) t) (blk m c (5 : Fin 7) t) _ _ hc0 hc1 h3).trans (by rw [outB, hb])
    · have hc0 : ¬ Opens F (crd t) colTab := fun h => ho ((opens_iff t).mp h)
      have hb : base m c t.val = accB m c t.val := if_neg ho
      have hn : t.val ≠ 0 := fun h => ho (by rw [h]; rfl)
      obtain rfl := ha hn
      iapply ((runC c (crd t) (ms0 t) (hs0 t) (ms1 t) (hs1 t) (ms2 t) (hs2 t) (ms3 t) (hs3 t) (ms4 t) (hs4 t) (ms5 t) (hs5 t) (ms6 t) (hs6 t) rowTab colTab (blk m c (0 : Fin 7) t) (blk m c (1 : Fin 7) t) (blk m c (2 : Fin 7) t) (blk m c (3 : Fin 7) t) (blk m c (4 : Fin 7) t) (blk m c (5 : Fin 7) t) ((dats m 0 c).before (6 : Fin 7) t d6) (accB m c t.val) hc0 hc1 h3).2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iapply rep_of_owns; iexact H6
      isplitl [HS]; · iapply rep_of_owns; iexact HS
      iintro ⟨H0, H1, H2, H3, H4, H5, HT0, HT1, H6, HS⟩
      isplitl [HS HT0 HT1 Hp]
      · isplitl [HS]
        · iexists (accB m c (t.val + 1)); isplitr; · ipureintro; exact fun _ => rfl
          unfold owns; iexists _; isplitr; swap; · iexact HS
          ipureintro; exact (runC_sum c (crd t) (ms0 t) (hs0 t) (ms1 t) (hs1 t) (ms2 t) (hs2 t) (ms3 t) (hs3 t) (ms4 t) (hs4 t) (ms5 t) (hs5 t) (ms6 t) (hs6 t) rowTab colTab (blk m c (0 : Fin 7) t) (blk m c (1 : Fin 7) t) (blk m c (2 : Fin 7) t) (blk m c (3 : Fin 7) t) (blk m c (4 : Fin 7) t) (blk m c (5 : Fin 7) t) _ _ hc0 hc1 h3).trans (by rw [accB_diag m c t hd, hb])
        isplitl [HT0]; · iexact HT0
        isplitl [HT1]; · iexact HT1
        iexact Hp
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      unfold owns; iexists _; isplitr; swap; · iexact H6
      ipureintro; exact (runC_out c (crd t) (ms0 t) (hs0 t) (ms1 t) (hs1 t) (ms2 t) (hs2 t) (ms3 t) (hs3 t) (ms4 t) (hs4 t) (ms5 t) (hs5 t) (ms6 t) (hs6 t) rowTab colTab (blk m c (0 : Fin 7) t) (blk m c (1 : Fin 7) t) (blk m c (2 : Fin 7) t) (blk m c (3 : Fin 7) t) (blk m c (4 : Fin 7) t) (blk m c (5 : Fin 7) t) _ _ hc0 hc1 h3).trans (by rw [outB, hb])
  · have hc1 : Below F (crd t) rowTab colTab := (below_iff t).mpr hd
    have h3 : ¬ OnDiag F (crd t) rowTab colTab := fun h => hd ((onDiag_iff t).mp h)
    simp only [hd, ne_eq, not_true_eq_false, decide_true, decide_false, not_false_eq_true]
    by_cases ho : colN t.val = 0
    · have hc0 : Opens F (crd t) colTab := (opens_iff t).mpr ho
      have hb : base m c t.val = k0_pay1 := if_pos ho
      iapply ((runB c (crd t) (ms0 t) (hs0 t) (ms1 t) (hs1 t) (ms2 t) (hs2 t) (ms3 t) (hs3 t) (ms4 t) (hs4 t) (ms5 t) (hs5 t) (ms6 t) (hs6 t) rowTab colTab (blk m c (0 : Fin 7) t) (blk m c (1 : Fin 7) t) (blk m c (2 : Fin 7) t) (blk m c (3 : Fin 7) t) (blk m c (4 : Fin 7) t) (blk m c (5 : Fin 7) t) ((dats m 0 c).before (6 : Fin 7) t d6) a hc0 hc1 h3).2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iapply rep_of_owns; iexact H6
      isplitl [HS]; · iapply rep_of_owns; iexact HS
      iintro ⟨H0, H1, H2, H3, H4, H5, HT0, HT1, H6, HS⟩
      isplitl [HS HT0 HT1 Hp]
      · isplitl [HS]
        · iexists (accB m c (t.val + 1)); isplitr; · ipureintro; exact fun _ => rfl
          unfold owns; iexists _; isplitr; swap; · iexact HS
          ipureintro; exact (runB_sum c (crd t) (ms0 t) (hs0 t) (ms1 t) (hs1 t) (ms2 t) (hs2 t) (ms3 t) (hs3 t) (ms4 t) (hs4 t) (ms5 t) (hs5 t) (ms6 t) (hs6 t) rowTab colTab (blk m c (0 : Fin 7) t) (blk m c (1 : Fin 7) t) (blk m c (2 : Fin 7) t) (blk m c (3 : Fin 7) t) (blk m c (4 : Fin 7) t) (blk m c (5 : Fin 7) t) _ _ hc0 hc1 h3).trans (by rw [accB_below m c t hd, hb])
        isplitl [HT0]; · iexact HT0
        isplitl [HT1]; · iexact HT1
        iexact Hp
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      iexists d6; unfold owns; iexists _; isplitr; swap; · iexact H6
      ipureintro; exact runB_out c (crd t) (ms0 t) (hs0 t) (ms1 t) (hs1 t) (ms2 t) (hs2 t) (ms3 t) (hs3 t) (ms4 t) (hs4 t) (ms5 t) (hs5 t) (ms6 t) (hs6 t) rowTab colTab (blk m c (0 : Fin 7) t) (blk m c (1 : Fin 7) t) (blk m c (2 : Fin 7) t) (blk m c (3 : Fin 7) t) (blk m c (4 : Fin 7) t) (blk m c (5 : Fin 7) t) _ _ hc0 hc1 h3
    · have hc0 : ¬ Opens F (crd t) colTab := fun h => ho ((opens_iff t).mp h)
      have hb : base m c t.val = accB m c t.val := if_neg ho
      have hn : t.val ≠ 0 := fun h => ho (by rw [h]; rfl)
      obtain rfl := ha hn
      iapply ((runD c (crd t) (ms0 t) (hs0 t) (ms1 t) (hs1 t) (ms2 t) (hs2 t) (ms3 t) (hs3 t) (ms4 t) (hs4 t) (ms5 t) (hs5 t) (ms6 t) (hs6 t) rowTab colTab (blk m c (0 : Fin 7) t) (blk m c (1 : Fin 7) t) (blk m c (2 : Fin 7) t) (blk m c (3 : Fin 7) t) (blk m c (4 : Fin 7) t) (blk m c (5 : Fin 7) t) ((dats m 0 c).before (6 : Fin 7) t d6) (accB m c t.val) hc0 hc1 h3).2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iapply rep_of_owns; iexact H6
      isplitl [HS]; · iapply rep_of_owns; iexact HS
      iintro ⟨H0, H1, H2, H3, H4, H5, HT0, HT1, H6, HS⟩
      isplitl [HS HT0 HT1 Hp]
      · isplitl [HS]
        · iexists (accB m c (t.val + 1)); isplitr; · ipureintro; exact fun _ => rfl
          unfold owns; iexists _; isplitr; swap; · iexact HS
          ipureintro; exact (runD_sum c (crd t) (ms0 t) (hs0 t) (ms1 t) (hs1 t) (ms2 t) (hs2 t) (ms3 t) (hs3 t) (ms4 t) (hs4 t) (ms5 t) (hs5 t) (ms6 t) (hs6 t) rowTab colTab (blk m c (0 : Fin 7) t) (blk m c (1 : Fin 7) t) (blk m c (2 : Fin 7) t) (blk m c (3 : Fin 7) t) (blk m c (4 : Fin 7) t) (blk m c (5 : Fin 7) t) _ _ hc0 hc1 h3).trans (by rw [accB_below m c t hd, hb])
        isplitl [HT0]; · iexact HT0
        isplitl [HT1]; · iexact HT1
        iexact Hp
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      iexists d6; unfold owns; iexists _; isplitr; swap; · iexact H6
      ipureintro; exact runD_out c (crd t) (ms0 t) (hs0 t) (ms1 t) (hs1 t) (ms2 t) (hs2 t) (ms3 t) (hs3 t) (ms4 t) (hs4 t) (ms5 t) (hs5 t) (ms6 t) (hs6 t) rowTab colTab (blk m c (0 : Fin 7) t) (blk m c (1 : Fin 7) t) (blk m c (2 : Fin 7) t) (blk m c (3 : Fin 7) t) (blk m c (4 : Fin 7) t) (blk m c (5 : Fin 7) t) _ _ hc0 hc1 h3

/-- The body's obligation at every grid point. -/
theorem body_obligation (c : Dev nD) : BodyObligation (dats m 0 c) (defs₀ (F := F)) Variants.none () Set.univ := fun t => by
  rw [bigSep_W0]
  exact sound_body m c t

end Cert.KernelIdeal.Gen

end
-- ==== Proof.DqLaunch.lean ====
/- The backward pass for the queries' gradient: the launch, and the run of the whole program. -/
module

public import proofs.«01_k».proof.Proof.DqBody
public import Idealize.ShloMosaic.Lib.StableHlo.RunRead

@[expose] public section

set_option maxRecDepth 16384
set_option Elab.async false

noncomputable section

namespace Cert.KernelIdeal.Gen

open Cert.KernelIdeal
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body's obligation, as the launch takes it. -/
theorem share_full (c : Dev nD) (w : Fin (cfgA F).W) : (dats m 0 c).share w = fullShare := by
  unfold Dat.share; dsimp only [dats]; split <;> rfl

/-- The two tables as the launch hands them over. -/
theorem prefHeld_two (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- The invariant before the first grid point, from the scratch buffer and the tables. -/
theorem phi_first (c : Dev nD) : iprop(Pipeline.ΦA spec0 c ∗ Pipeline.ΦT pre0 (adm F).1 c) ⊢ Phi m c 0 := by
  unfold Pipeline.ΦA Pipeline.ΦT
  rw [prefHeld_two, scopedRest0_eq]
  unfold Phi
  iintro ⟨⟨⟨%a0, HS⟩, Hp⟩, HT0, HT1⟩
  isplitl [HS]
  · iexists a0; isplitr; · ipureintro; exact fun h => absurd rfl h
    rw [owns_whole]; iexact HS
  isplitl [HT0]; · iexact HT0
  isplitl [HT1]; · iexact HT1
  iexact Hp

/-- The invariant after the last grid point gives the scratch buffer back. -/
theorem phi_last (c : Dev nD) (n : ℕ) : Phi m c n ⊢ Pipeline.ΦA spec0 c := by
  unfold Pipeline.ΦA
  rw [scopedRest0_eq]
  unfold Phi
  simp only [owns_whole]
  iintro ⟨⟨%a0, -, HS⟩, -, -, Hp⟩
  isplitl [HS]; · iexists a0; iexact HS
  iexact Hp

/-- Before the kernel the table of query tiles is in place. -/
theorem V0_rows (c : Dev nD) : V0 m c (Proc.devRef .tc main_c) = rowTab := by
  unfold V0; after_reads_simp; rfl
/-- Before the kernel the table of key tiles is in place. -/
theorem V0_cols (c : Dev nD) : V0 m c (Proc.devRef .tc main_c_0) = colTab := by
  unfold V0; after_reads_simp; rfl
theorem V0_arg0 (c : Dev nD) : V0 m c (Proc.devRef .tc main_arg0) = m ((c.tc : Thread nD τ).loc main_arg0) := by
  unfold V0; after_reads_simp
theorem V0_arg1 (c : Dev nD) : V0 m c (Proc.devRef .tc main_arg1) = m ((c.tc : Thread nD τ).loc main_arg1) := by
  unfold V0; after_reads_simp
theorem V0_arg2 (c : Dev nD) : V0 m c (Proc.devRef .tc main_arg2) = m ((c.tc : Thread nD τ).loc main_arg2) := by
  unfold V0; after_reads_simp
theorem V0_arg3 (c : Dev nD) : V0 m c (Proc.devRef .tc main_arg3) = m ((c.tc : Thread nD τ).loc main_arg3) := by
  unfold V0; after_reads_simp

/-- The host operations after the kernel touch no table, no array but the result, and no freed buffer. -/
theorem tail_sub : ∀ ops ∈ [hostOps1 (F := F)], ∀ op ∈ ops, op.bufs ⊆ Pipeline.tailRefs sig pre0 spec0 := by
  intro ops ho op hop
  obtain rfl := List.mem_singleton.mp ho
  rcases List.mem_cons.mp hop with rfl | hop
  · show ({Proc.devRef .tc main_v51, Proc.devRef .tc main_v52} : Finset (DevRef τ sig)) ⊆ _
    decide
  · obtain rfl := List.mem_singleton.mp hop
    show ({Proc.devRef .tc main_v52, Proc.devRef .tc main_v53} : Finset (DevRef τ sig)) ⊆ _
    decide

theorem tail_keep : ∀ ops ∈ [hostOps1 (F := F)], ∀ op ∈ ops, ∀ w : Fin 7, Proc.devRef .tc (Pipeline.arrRef spec0 w) ∉ op.writes := by
  intro ops ho op hop
  obtain rfl := List.mem_singleton.mp ho
  rcases List.mem_cons.mp hop with rfl | hop
  · show ∀ w : Fin 7, Proc.devRef .tc (Pipeline.arrRef spec0 w) ∉ ({Proc.devRef .tc main_v52} : Finset (DevRef τ sig))
    decide
  · obtain rfl := List.mem_singleton.mp hop
    show ∀ w : Fin 7, Proc.devRef .tc (Pipeline.arrRef spec0 w) ∉ ({Proc.devRef .tc main_v53} : Finset (DevRef τ sig))
    decide

theorem tail_fresh : ∀ ops ∈ [hostOps1 (F := F)], ∀ op ∈ ops, op.fresh = ∅ := by
  intro ops ho op hop
  obtain rfl := List.mem_singleton.mp ho
  rcases List.mem_cons.mp hop with rfl | hop
  · rfl
  · obtain rfl := List.mem_singleton.mp hop
    rfl

theorem head_fresh : ([hostOps0 (F := F)]).Forall fun ops => ops.Forall fun op => op.fresh = ∅ := by
  simp only [List.Forall]
  repeat' constructor

/-- What the buffers hold at the end. -/
abbrev endOf (c : Dev nD) (b : Ref sig .tc) : Buf (Elt F) ((c.tc : Thread nD τ).loc b) :=
  Pipeline.afterTail pcfgs (fun _ => adm F) (dats m) 0 (V0 m) [hostOps1] c b

set_option backward.isDefEq.respectTransparency.types false in
set_option maxHeartbeats 4000000 in
/-- From any memory with zero counters every fair execution of the program ends, without a fault, with the arrays at what the
    grid points leave, every other buffer at what the host operations leave, and every counter at zero. -/
theorem run_frame : θ_run (defs (F := F)) (onTc (τ := τ) (main (F := F))) ⟨m, fun _ => 0, ρ⟩
    (fun r => Pipeline.FramePost (Pipeline.pin pcfgs fun _ => adm F) (dats m) 0 (endOf m) r ∧ r.2.sem = fun _ => 0) :=
  Pipeline.θ_run_frameP_around_track pcfgs (fun _ => adm F) (dats m) 0 launch0 defs₀ Variants.none m ρ main
    (fun c => (body_obligation m c).loose) (share_full m) (fun _ _ => rfl) (V0 m) [hostOps1] tail_sub tail_fresh tail_keep
    (Pipeline.hmainP_around pcfgs 0 defs₀ Variants.none m main [hostOps0] [hostOps1] hostOps0_sub head_fresh main_chain)
    (fun _ _ => rfl)
    (fun c k => by fin_cases k; exact V0_rows m c; exact V0_cols m c)
    (phi_first m) (fun c => phi_last m c _)
    (Q' := fun r => Pipeline.FramePost (Pipeline.pin pcfgs fun _ => adm F) (dats m) 0 (endOf m) r ∧ r.2.sem = fun _ => 0)
    (fun _ h => h)

/-! The arguments end as they began. -/

theorem end_arg0 (c : Dev nD) : endOf m c main_arg0 = m ((c.tc : Thread nD τ).loc main_arg0) := by
  unfold endOf Pipeline.afterTail
  rw [StableHlo.after_unwritten [main_v52, main_v53] rfl (by decide), Pipeline.withArrays_of_ne _ _ _ _ _ (show ∀ w : Fin 7, Pipeline.arrRef spec0 w ≠ main_arg0 from by decide)]
  exact V0_arg0 m c
theorem end_arg1 (c : Dev nD) : endOf m c main_arg1 = m ((c.tc : Thread nD τ).loc main_arg1) := by
  unfold endOf Pipeline.afterTail
  rw [StableHlo.after_unwritten [main_v52, main_v53] rfl (by decide), Pipeline.withArrays_of_ne _ _ _ _ _ (show ∀ w : Fin 7, Pipeline.arrRef spec0 w ≠ main_arg1 from by decide)]
  exact V0_arg1 m c
theorem end_arg2 (c : Dev nD) : endOf m c main_arg2 = m ((c.tc : Thread nD τ).loc main_arg2) := by
  unfold endOf Pipeline.afterTail
  rw [StableHlo.after_unwritten [main_v52, main_v53] rfl (by decide), Pipeline.withArrays_of_ne _ _ _ _ _ (show ∀ w : Fin 7, Pipeline.arrRef spec0 w ≠ main_arg2 from by decide)]
  exact V0_arg2 m c
theorem end_arg3 (c : Dev nD) : endOf m c main_arg3 = m ((c.tc : Thread nD τ).loc main_arg3) := by
  unfold endOf Pipeline.afterTail
  rw [StableHlo.after_unwritten [main_v52, main_v53] rfl (by decide), Pipeline.withArrays_of_ne _ _ _ _ _ (show ∀ w : Fin 7, Pipeline.arrRef spec0 w ≠ main_arg3 from by decide)]
  exact V0_arg3 m c

/-- The run of the whole program: the arguments end unchanged, the counters at zero, the result at what the last host
    operations make of the array the grid points leave. -/
theorem run_main : θ_run (defs (F := F)) (onTc (τ := τ) (main (F := F))) ⟨m, fun _ => 0, ρ⟩
    (fun r => ((∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) ∧ ∀ c : Dev nD, r.2.mem ((c.tc : Thread nD τ).loc main_v53) = endOf m c main_v53) :=
  (θ_run defs _ _).mono (fun _ h => ⟨⟨fun c => ⟨((h.1 c).2 main_arg0 (Pipeline.mem_restRefs_of _ rfl (show ∀ w : Fin 7, (spec0 w).arr.view.ref ≠ main_arg0 from by decide))).trans (end_arg0 m c), ((h.1 c).2 main_arg1 (Pipeline.mem_restRefs_of _ rfl (show ∀ w : Fin 7, (spec0 w).arr.view.ref ≠ main_arg1 from by decide))).trans (end_arg1 m c), ((h.1 c).2 main_arg2 (Pipeline.mem_restRefs_of _ rfl (show ∀ w : Fin 7, (spec0 w).arr.view.ref ≠ main_arg2 from by decide))).trans (end_arg2 m c), ((h.1 c).2 main_arg3 (Pipeline.mem_restRefs_of _ rfl (show ∀ w : Fin 7, (spec0 w).arr.view.ref ≠ main_arg3 from by decide))).trans (end_arg3 m c)⟩, h.2⟩,
    fun c => (h.1 c).2 main_v53 (Pipeline.mem_restRefs_of _ rfl (show ∀ w : Fin 7, (spec0 w).arr.view.ref ≠ main_v53 from by decide))⟩) (run_frame m ρ)

end Cert.KernelIdeal.Gen

end
-- ==== Proof.DqSpec.lean ====
/- The query gradient of the chunk-causal attention over the reals, and the extended-real facts both programs are read by. -/
module

public import Idealize.ShloMosaic.PureOps.Ideal
public import Idealize.ShloMosaic.PureOps.Ideal.Laws
public import Idealize.ShloMosaic.Lib.IdealHost

@[expose] public section

noncomputable section

namespace Cert.Dq

open Idealize.ShloMosaic

/-- An array of rows, heads and columns, real. -/
abbrev Arr (n : ℕ) := Fin 4096 → Fin 8 → Fin n → ℝ

/-- Key row `j`'s chunk of 64 is not after query row `i`'s. -/
abbrev Ok (i j : Fin 4096) : Prop := j.val / 64 ≤ i.val / 64

/-- The scale of a score: the root of the head's width, inverted. -/
def scl : ℝ := (Real.sqrt 192)⁻¹

/-- The inner product of a query row and a key row. -/
def raw (q k : Arr 192) (h : Fin 8) (i j : Fin 4096) : ℝ := ∑ d : Fin 192, q i h d * k j h d

/-- The exponential of a score less a shift, nothing where the key is masked. -/
def wt (q k : Arr 192) (μ : ℝ) (h : Fin 8) (i j : Fin 4096) : ℝ :=
  if Ok i j then Real.exp (raw q k h i j * scl - μ) else 0

/-- The row's sum of those. -/
def tot (q k : Arr 192) (μ : ℝ) (h : Fin 8) (i : Fin 4096) : ℝ := ∑ j, wt q k μ h i j

/-- The softmax. -/
def prob (q k : Arr 192) (h : Fin 8) (i j : Fin 4096) : ℝ := wt q k 0 h i j / tot q k 0 h i

/-- The gradient at a probability: the inner product of the output's gradient and the value row. -/
def dpr (v g : Arr 128) (h : Fin 8) (i j : Fin 4096) : ℝ := ∑ d : Fin 128, g i h d * v j h d

/-- The row's mean of those. -/
def dlt (q k : Arr 192) (v g : Arr 128) (h : Fin 8) (i : Fin 4096) : ℝ := ∑ j, prob q k h i j * dpr v g h i j

/-- The gradient at the query. -/
def dq (q k : Arr 192) (v g : Arr 128) (i : Fin 4096) (h : Fin 8) (d : Fin 192) : ℝ :=
  ∑ j, prob q k h i j * (dpr v g h i j - dlt q k v g h i) * scl * k j h d

theorem wt_nonneg (q k : Arr 192) (μ : ℝ) (h : Fin 8) (i j : Fin 4096) : 0 ≤ wt q k μ h i j := by
  unfold wt; split
  · exact (Real.exp_pos _).le
  · exact le_rfl

theorem tot_pos (q k : Arr 192) (μ : ℝ) (h : Fin 8) (i : Fin 4096) : 0 < tot q k μ h i := by
  refine Finset.sum_pos' (fun j _ => wt_nonneg q k μ h i j) ⟨i, Finset.mem_univ _, ?_⟩
  unfold wt; rw [if_pos le_rfl]; exact Real.exp_pos _

theorem wt_shift (q k : Arr 192) (μ : ℝ) (h : Fin 8) (i j : Fin 4096) : wt q k μ h i j = wt q k 0 h i j * Real.exp (-μ) := by
  unfold wt; split
  · rw [← Real.exp_add]; congr 1; ring
  · simp

theorem tot_shift (q k : Arr 192) (μ : ℝ) (h : Fin 8) (i : Fin 4096) : tot q k μ h i = tot q k 0 h i * Real.exp (-μ) := by
  unfold tot; rw [Finset.sum_mul]; exact Finset.sum_congr rfl fun j _ => wt_shift q k μ h i j

/-- The softmax does not see the shift. -/
theorem wt_div_tot (q k : Arr 192) (μ : ℝ) (h : Fin 8) (i j : Fin 4096) : wt q k μ h i j / tot q k μ h i = prob q k h i j := by
  rw [wt_shift, tot_shift, mul_div_mul_right _ _ (Real.exp_ne_zero _)]; rfl

/-- A masked key has no probability. -/
theorem prob_masked (q k : Arr 192) (h : Fin 8) (i j : Fin 4096) (hm : ¬ Ok i j) : prob q k h i j = 0 := by
  unfold prob wt; rw [if_neg hm, zero_div]

/-! The extended reals. -/

theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem div_coe (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

theorem exp_coe (x : ℝ) : Ideal.exp (x : EReal) = ((Real.exp x : ℝ) : EReal) := rfl
theorem exp_bot : Ideal.exp (⊥ : EReal) = ((0 : ℝ) : EReal) := rfl
theorem exp2_coe (x : ℝ) : Ideal.exp2 (x : EReal) = ((Real.exp (x * Real.log 2) : ℝ) : EReal) := by
  show ((Real.rpow 2 x : ℝ) : EReal) = _
  congr 1
  exact (Real.rpow_def_of_pos two_pos x).trans (by rw [mul_comm])
theorem exp2_bot : Ideal.exp2 (⊥ : EReal) = ((0 : ℝ) : EReal) := rfl
theorem log_coe (x : ℝ) (hx : 0 < x) : Ideal.log (x : EReal) = ((Real.log x : ℝ) : EReal) := by
  show (if x ≤ 0 then (⊥ : EReal) else (Real.log x : EReal)) = _
  rw [if_neg (not_le.mpr hx)]

/-- The word of 192. -/
theorem word_192 : Ideal.ofBits .f32 0x43400000#32 = ((192 : ℝ) : EReal) := by
  simp [Ideal.ofBits, Ideal.ieee]; rw [← EReal.coe_mul]; norm_num
/-- The word of two. -/
theorem word_2 : Ideal.ofBits .f32 0x40000000#32 = ((2 : ℝ) : EReal) := by
  simp [Ideal.ofBits, Ideal.ieee]; rw [← EReal.coe_mul]; norm_num
/-- The word of minus infinity. -/
theorem word_neg_inf : Ideal.ofBits .f32 0xFF800000#32 = (⊥ : EReal) := by
  simp [Ideal.ofBits, Ideal.ieee]
/-- The word of infinity. -/
theorem word_inf : Ideal.ofBits .f32 0x7F800000#32 = (⊤ : EReal) := by
  simp [Ideal.ofBits, Ideal.ieee]

/-- One over the root of 192. -/
theorem scale_word : Ideal.div (1 : EReal) (Ideal.sqrt ((192 : ℝ) : EReal)) = ((scl : ℝ) : EReal) := by
  have h : Ideal.sqrt ((192 : ℝ) : EReal) = ((Real.sqrt 192 : ℝ) : EReal) := by
    show (if (192 : ℝ) < 0 then (⊥ : EReal) else (Real.sqrt 192 : EReal)) = _
    rw [if_neg (by norm_num)]
  rw [h, show (1 : EReal) = ((1 : ℝ) : EReal) from rfl, div_coe _ _ (by positivity), one_div]; rfl

/-- The maximum of a row without an infinite entry above and with one real entry is real. -/
theorem max_real (f : Fin 4096 → EReal) (hf : ∀ j, f j ≠ ⊤) (i : Fin 4096) (hi : f i ≠ ⊥) :
    ∃ μ : ℝ, Finset.univ.fold max (⊥ : EReal) f = (μ : EReal) := by
  have htop : Finset.univ.fold max (⊥ : EReal) f ≠ ⊤ := by
    have : Finset.univ.fold max (⊥ : EReal) f < ⊤ := by
      rw [Finset.fold_max_lt]; exact ⟨bot_lt_top, fun j _ => lt_top_iff_ne_top.mpr (hf j)⟩
    exact this.ne
  have hbot : Finset.univ.fold max (⊥ : EReal) f ≠ ⊥ := by
    have : f i ≤ Finset.univ.fold max (⊥ : EReal) f := by
      rw [Finset.le_fold_max]; exact Or.inr ⟨i, Finset.mem_univ _, le_rfl⟩
    exact fun h => hi (le_bot_iff.mp (h ▸ this))
  exact ⟨_, (EReal.coe_toReal htop hbot).symm⟩

/-- A masked score: the scaled inner product, or minus infinity. -/
def score (q k : Arr 192) (h : Fin 8) (i j : Fin 4096) : EReal :=
  if Ok i j then ((raw q k h i j * scl : ℝ) : EReal) else ⊥

theorem score_max (q k : Arr 192) (h : Fin 8) (i : Fin 4096) :
    ∃ μ : ℝ, Finset.univ.fold max (⊥ : EReal) (fun j => score q k h i j) = (μ : EReal) :=
  max_real _ (fun j => by unfold score; split; exact EReal.coe_ne_top _; exact bot_ne_top) i
    (by unfold score; rw [if_pos le_rfl]; exact EReal.coe_ne_bot _)

/-- The exponential of a masked score less a real. -/
theorem exp_score (q k : Arr 192) (μ : ℝ) (h : Fin 8) (i j : Fin 4096) :
    Ideal.exp (score q k h i j - (μ : EReal)) = ((wt q k μ h i j : ℝ) : EReal) := by
  unfold score wt; split
  · rw [← EReal.coe_sub, exp_coe]
  · rw [EReal.bot_sub, exp_bot]

/-- A row's chunk, as the signed words of the programs compute it. -/
theorem chunk_words : ∀ a b : Fin 64, IntOp.cmpi .sle (BitVec.ofNat 32 a.val) (BitVec.ofNat 32 b.val) = BitVec.ofBool (decide (a.val ≤ b.val)) := by
  decide +kernel

end Cert.Dq

end
-- ==== Proof.DqHead.lean ====
/- One head's columns of one tile's step, over the reals. -/
module

public import proofs.«01_k».proof.Proof.DqBlock
public import proofs.«01_k».proof.Proof.DqSpec
public import Idealize.ShloMosaic.PureOps.IdealRules
public import Idealize.ShloMosaic.Lib.Pointwise

@[expose] public section

set_option maxRecDepth 16384
set_option Elab.async false

noncomputable section

namespace Cert.KernelIdeal.Gen

open Cert.KernelIdeal Idealize.ShloMosaic Cert.Dq

/-- The words of the constants' names. -/
theorem name_log2e : Named.named (F := Ideal) κ "scale_log2e" (φ := .f32) 0x3DD53B95#32 = ((scl * (Real.log 2)⁻¹ : ℝ) : EReal) :=
  IdealRules.named_const.ideal_named_scalar κ "scale_log2e" _ _ rfl
theorem name_scale : Named.named (F := Ideal) κ "scale" (φ := .f32) 0x3D93CD3A#32 = ((scl : ℝ) : EReal) :=
  IdealRules.named_const.ideal_named_scalar κ "scale" _ _ rfl
theorem name_mask : Named.named (F := Ideal) κ "mask" (φ := .f32) 0xF149F2CA#32 = (⊥ : EReal) :=
  IdealRules.named_const.ideal_named_scalar κ "mask" _ _ rfl

/-- The exponential of a score, by its base-two exponent: `q` and `k` the two rows' entries, `l` the row's log-sum-exp over `log 2`. -/
def pw (q k : Fin 256 → ℝ) (l : ℝ) : ℝ := Real.exp (((∑ x, q x * k x) * (scl * (Real.log 2)⁻¹) - l) * Real.log 2)

theorem slope_pos : 0 < scl * (Real.log 2)⁻¹ :=
  mul_pos (inv_pos.mpr (Real.sqrt_pos.mpr (by norm_num))) (inv_pos.mpr (Real.log_pos (by norm_num)))

/-- The word of row `r` of tile `w`'s chunk, as the body computes it. -/
def chunkW (w : BitVec 32) (r : ℕ) : BitVec 32 :=
  Scalar.select
    (IntOp.andi
      (IntOp.cmpi CmpIPredicate.ne
        (IntOp.subi
          (BitVec.setWidth 32 (IntOp.cmpi CmpIPredicate.sgt (IntOp.addi (Scalar.muli w 512#32) (BitVec.ofNat 32 r)) 0#32))
          (BitVec.setWidth 32 (IntOp.cmpi CmpIPredicate.slt (IntOp.addi (Scalar.muli w 512#32) (BitVec.ofNat 32 r)) 0#32)))
        (Scalar.subi (Scalar.extui (Scalar.cmpi CmpIPredicate.sgt 64#32 0#32))
          (Scalar.extui (Scalar.cmpi CmpIPredicate.slt 64#32 0#32))))
      (IntOp.cmpi CmpIPredicate.ne
        (IntOp.remsi ArithUnit.vector (IntOp.addi (Scalar.muli w 512#32) (BitVec.ofNat 32 r)) 64#32) 0#32))
    (IntOp.subi (IntOp.divsi ArithUnit.vector (IntOp.addi (Scalar.muli w 512#32) (BitVec.ofNat 32 r)) 64#32) 1#32)
    (IntOp.divsi ArithUnit.vector (IntOp.addi (Scalar.muli w 512#32) (BitVec.ofNat 32 r)) 64#32)

theorem chunkW_at : ∀ (I : Fin 8) (r : Fin 512), chunkW (BitVec.ofNat 32 I.val) r.val = BitVec.ofNat 32 ((512 * I.val + r.val) / 64) := by
  decide +kernel

theorem chunkW_sle (I J : Fin 8) (r j : Fin 512) :
    IntOp.cmpi .sle (chunkW (BitVec.ofNat 32 J.val) j.val) (chunkW (BitVec.ofNat 32 I.val) r.val)
      = BitVec.ofBool (decide ((512 * J.val + j.val) / 64 ≤ (512 * I.val + r.val) / 64)) := by
  rw [chunkW_at, chunkW_at]
  exact chunk_words ⟨(512 * J.val + j.val) / 64, by omega⟩ ⟨(512 * I.val + r.val) / 64, by omega⟩

variable {k q : S512x256.Idx → Elt Ideal .bf16} {lse dl : S1x512x1.Idx → Elt Ideal .f32} {d v : S512x128.Idx → Elt Ideal .bf16} {acc : S512x256.Idx → Elt Ideal .f32}
  {k' q' : Fin 512 → Fin 256 → ℝ} {l' e' : Fin 512 → ℝ} {d' v' : Fin 512 → Fin 128 → ℝ} {a' : Fin 512 → Fin 256 → ℝ}
  (hk : ∀ r x, k (ix2 r x) = ((k' r x : ℝ) : EReal)) (hq : ∀ r x, q (ix2 r x) = ((q' r x : ℝ) : EReal))
  (hl : ∀ r, lse (ix3 0 r 0) = ((l' r : ℝ) : EReal)) (he : ∀ r, dl (ix3 0 r 0) = ((e' r : ℝ) : EReal))
  (hd : ∀ r x, d (ix2 r x) = ((d' r x : ℝ) : EReal)) (hv : ∀ r x, v (ix2 r x) = ((v' r x : ℝ) : EReal))
  (ha : ∀ r x, acc (ix2 r x) = ((a' r x : ℝ) : EReal))

include hk hq hl he hd hv ha in
/-- A tile before the diagonal adds its keys' parts. -/
theorem plain_at (r : Fin 512) (x : Fin 256) : headPlain k q lse d v acc dl (ix2 r x)
    = ((a' r x + ∑ j, pw (q' r) (k' j) (l' r) * ((∑ y, d' r y * v' j y) - e' r) * k' j x : ℝ) : EReal) := by
  pointwise [headPlain, k0_pay3]
  simp only [hk, hq, hl, he, hd, hv, ha, name_log2e, ← EReal.coe_mul, coe_sum, ← EReal.coe_sub]
  show _ + ∑ j, Ideal.exp2 _ * _ * _ = _
  simp only [exp2_coe, ← EReal.coe_mul, coe_sum, ← EReal.coe_add]
  rfl

include hk hq hl he hd hv in
/-- A weight of the diagonal tile. -/
theorem w_at (I J : Fin 8) (r j : Fin 512) : headW (BitVec.ofNat 32 I.val) (BitVec.ofNat 32 J.val) k q lse d v dl (ix2 r j)
    = (((if (512 * J.val + j.val) / 64 ≤ (512 * I.val + r.val) / 64 then pw (q' r) (k' j) (l' r) else 0) * ((∑ y, d' r y * v' j y) - e' r) : ℝ) : EReal) := by
  pointwise [headW, k0_pay32, k0_pay27, k0_pay28, k0_pay29, k0_pay30, k0_pay31, k0_pay26, k0_pay25]
  refine (congrArg (fun b => Ideal.exp2 (Scalar.select b _ _ * _ - _) * _) (chunkW_sle I J r j)).trans ?_
  simp only [hk, hq, hl, he, hd, hv, name_log2e, name_mask, ← EReal.coe_mul, coe_sum, ← EReal.coe_sub]
  by_cases h : (512 * J.val + j.val) / 64 ≤ (512 * I.val + r.val) / 64
  · rw [decide_eq_true h, if_pos h]
    show Ideal.exp2 (((_ : ℝ) : EReal) * ((_ : ℝ) : EReal) - ((_ : ℝ) : EReal)) * ((_ : ℝ) : EReal) = _
    rw [← EReal.coe_mul, ← EReal.coe_sub, exp2_coe, ← EReal.coe_mul]
    rfl
  · rw [decide_eq_false h, if_neg h]
    show Ideal.exp2 ((⊥ : EReal) * ((scl * (Real.log 2)⁻¹ : ℝ) : EReal) - ((l' r : ℝ) : EReal)) * ((_ : ℝ) : EReal) = _
    rw [EReal.bot_mul_coe_of_pos slope_pos, EReal.bot_sub, exp2_bot, ← EReal.coe_mul]

/-- What the diagonal tile makes of the running sum. -/
def diagSum (I J : Fin 8) (k' q' : Fin 512 → Fin 256 → ℝ) (l' e' : Fin 512 → ℝ) (d' v' : Fin 512 → Fin 128 → ℝ) (a' : Fin 512 → Fin 256 → ℝ) (r : Fin 512) (x : Fin 256) : ℝ :=
  a' r x + ∑ j : Fin 512, (if (512 * J.val + j.val) / 64 ≤ (512 * I.val + r.val) / 64 then pw (q' r) (k' j) (l' r) else 0) * ((∑ y, d' r y * v' j y) - e' r) * k' j x

include hk hq hl he hd hv ha in
/-- The diagonal tile's running sum, scaled. -/
theorem out_at (I J : Fin 8) (r : Fin 512) (x : Fin 256) : headOut (BitVec.ofNat 32 I.val) (BitVec.ofNat 32 J.val) k q lse d v acc dl (ix2 r x)
    = ((diagSum I J k' q' l' e' d' v' a' r x * scl : ℝ) : EReal) := by
  pointwise [headOut, k0_pay35, k0_pay33, k0_pay25]
  simp only [w_at hk hq hl he hd hv, hk, ha, name_scale, ← EReal.coe_mul, coe_sum, ← EReal.coe_add]
  rfl

end Cert.KernelIdeal.Gen

end
-- ==== Proof.DqTile.lean ====
/- The blocks of the arrays that the grid points of the backward pass for the queries' gradient work on. -/
module

public import proofs.«01_k».proof.Proof.DqData
public import Idealize.ShloMosaic.Lib.Pipeline.Value
public import Idealize.ShloMosaic.Lib.Pointwise

@[expose] public section

set_option maxRecDepth 16384
set_option Elab.async false

noncomputable section

namespace Cert.KernelIdeal.Gen

open Cert.KernelIdeal
open Idealize.ShloMosaic
open Idealize.ShloMosaic.TcCoe
open Idealize.SL.Sem

section
attribute [local instance] namedBits

/-- Where each window's block lies at grid point `t`. -/
def PlacesAt (t : Fin (cfgA Bits).N) : Prop :=
  (((cfgA Bits).win (0 : Fin 7)).index t (0 : Fin 2) = rowN t.val ∧ ((cfgA Bits).win (0 : Fin 7)).index t (1 : Fin 2) = 0)
  ∧ (((cfgA Bits).win (1 : Fin 7)).index t (0 : Fin 2) = colN t.val ∧ ((cfgA Bits).win (1 : Fin 7)).index t (1 : Fin 2) = 0)
  ∧ (((cfgA Bits).win (2 : Fin 7)).index t (0 : Fin 2) = colN t.val ∧ ((cfgA Bits).win (2 : Fin 7)).index t (1 : Fin 2) = 0)
  ∧ (((cfgA Bits).win (3 : Fin 7)).index t (0 : Fin 2) = rowN t.val ∧ ((cfgA Bits).win (3 : Fin 7)).index t (1 : Fin 2) = 0)
  ∧ (((cfgA Bits).win (4 : Fin 7)).index t (0 : Fin 3) = 0 ∧ ((cfgA Bits).win (4 : Fin 7)).index t (1 : Fin 3) = rowN t.val ∧ ((cfgA Bits).win (4 : Fin 7)).index t (2 : Fin 3) = 0)
  ∧ (((cfgA Bits).win (5 : Fin 7)).index t (0 : Fin 3) = 0 ∧ ((cfgA Bits).win (5 : Fin 7)).index t (1 : Fin 3) = rowN t.val ∧ ((cfgA Bits).win (5 : Fin 7)).index t (2 : Fin 3) = 0)
  ∧ (((cfgA Bits).win (6 : Fin 7)).index t (0 : Fin 2) = rowN t.val ∧ ((cfgA Bits).win (6 : Fin 7)).index t (1 : Fin 2) = 0)

instance (t : Fin (cfgA Bits).N) : Decidable (PlacesAt t) := by unfold PlacesAt; infer_instance

theorem places_0 : ∀ t : Fin (cfgA Bits).N, 0 ≤ t.val → t.val < 12 → PlacesAt t := by decide +kernel
theorem places_1 : ∀ t : Fin (cfgA Bits).N, 12 ≤ t.val → t.val < 24 → PlacesAt t := by decide +kernel
theorem places_2 : ∀ t : Fin (cfgA Bits).N, 24 ≤ t.val → t.val < 36 → PlacesAt t := by decide +kernel

theorem places_at (t : Fin (cfgA Bits).N) : PlacesAt t := by
  have ht : t.val < 36 := lt_of_lt_of_eq t.isLt N_0
  rcases Nat.lt_or_ge t.val 12 with h0 | h0; · exact places_0 t (Nat.zero_le _) h0
  rcases Nat.lt_or_ge t.val 24 with h1 | h1; · exact places_1 t h0 h1
  exact places_2 t h1 ht
end

variable {F : FTy → Type} [FloatOps F] [Named F]

theorem rowN_lt : ∀ n : Fin 36, rowN n.val < 8 := by decide
theorem colN_lt : ∀ n : Fin 36, colN n.val < 8 := by decide

/-- The query tile and the key tile of grid point `t`. -/
def rowT (t : Fin (cfgA F).N) : Fin 8 := ⟨rowN t.val, rowN_lt ⟨t.val, lt_of_lt_of_eq t.isLt N_0⟩⟩
def colT (t : Fin (cfgA F).N) : Fin 8 := ⟨colN t.val, colN_lt ⟨t.val, lt_of_lt_of_eq t.isLt N_0⟩⟩

/-- Row `r` of tile `g`. -/
abbrev rowOf (g : Fin 8) (r : Fin 512) : Fin 4096 := ⟨512 * g.val + r.val, by omega⟩

variable (m : (ℓ : Loc nD τ sig) → Buf (Elt F) ℓ) (c : Dev nD) (t : Fin (cfgA F).N)

/-- Window 0's block lies at the query tile's rows. -/
theorem emb_0 (r : Fin 512) (y : Fin 2048) : (((cfgA F).win (0 : Fin 7)).rect t).emb (ix2 r y) = (ix2 (rowOf (rowT t) r) y : S4096x2048.Idx) := by
  have h := (places_at t).1
  funext a; apply Fin.ext
  match a with
  | ⟨0, _⟩ =>
    refine (Pipeline.Window.rect_emb_val _ t _ _).trans ?_
    show ((cfgA F).win (0 : Fin 7)).index t (0 : Fin 2) * 512 + r.val = 512 * rowN t.val + r.val
    rw [show ((cfgA F).win (0 : Fin 7)).index t (0 : Fin 2) = rowN t.val from h.1]; omega
  | ⟨1, _⟩ =>
    refine (Pipeline.Window.rect_emb_val _ t _ _).trans ?_
    show ((cfgA F).win (0 : Fin 7)).index t (1 : Fin 2) * 2048 + y.val = y.val
    rw [show ((cfgA F).win (0 : Fin 7)).index t (1 : Fin 2) = 0 from h.2]; omega

theorem blk_0 (r : Fin 512) (y : Fin 2048) : blk m c (0 : Fin 7) t (ix2 r y) = V0 m c (Proc.devRef .tc main_v38) (ix2 (rowOf (rowT t) r) y) :=
  congrArg (V0 m c (Proc.devRef .tc main_v38)) (emb_0 t r y)

/-- Window 1's block lies at the key tile's rows. -/
theorem emb_1 (r : Fin 512) (y : Fin 2048) : (((cfgA F).win (1 : Fin 7)).rect t).emb (ix2 r y) = (ix2 (rowOf (colT t) r) y : S4096x2048.Idx) := by
  have h := (places_at t).2.1
  funext a; apply Fin.ext
  match a with
  | ⟨0, _⟩ =>
    refine (Pipeline.Window.rect_emb_val _ t _ _).trans ?_
    show ((cfgA F).win (1 : Fin 7)).index t (0 : Fin 2) * 512 + r.val = 512 * colN t.val + r.val
    rw [show ((cfgA F).win (1 : Fin 7)).index t (0 : Fin 2) = colN t.val from h.1]; omega
  | ⟨1, _⟩ =>
    refine (Pipeline.Window.rect_emb_val _ t _ _).trans ?_
    show ((cfgA F).win (1 : Fin 7)).index t (1 : Fin 2) * 2048 + y.val = y.val
    rw [show ((cfgA F).win (1 : Fin 7)).index t (1 : Fin 2) = 0 from h.2]; omega

theorem blk_1 (r : Fin 512) (y : Fin 2048) : blk m c (1 : Fin 7) t (ix2 r y) = V0 m c (Proc.devRef .tc main_v42) (ix2 (rowOf (colT t) r) y) :=
  congrArg (V0 m c (Proc.devRef .tc main_v42)) (emb_1 t r y)

/-- Window 2's block lies at the key tile's rows. -/
theorem emb_2 (r : Fin 512) (y : Fin 1024) : (((cfgA F).win (2 : Fin 7)).rect t).emb (ix2 r y) = (ix2 (rowOf (colT t) r) y : S4096x1024.Idx) := by
  have h := (places_at t).2.2.1
  funext a; apply Fin.ext
  match a with
  | ⟨0, _⟩ =>
    refine (Pipeline.Window.rect_emb_val _ t _ _).trans ?_
    show ((cfgA F).win (2 : Fin 7)).index t (0 : Fin 2) * 512 + r.val = 512 * colN t.val + r.val
    rw [show ((cfgA F).win (2 : Fin 7)).index t (0 : Fin 2) = colN t.val from h.1]; omega
  | ⟨1, _⟩ =>
    refine (Pipeline.Window.rect_emb_val _ t _ _).trans ?_
    show ((cfgA F).win (2 : Fin 7)).index t (1 : Fin 2) * 1024 + y.val = y.val
    rw [show ((cfgA F).win (2 : Fin 7)).index t (1 : Fin 2) = 0 from h.2]; omega

theorem blk_2 (r : Fin 512) (y : Fin 1024) : blk m c (2 : Fin 7) t (ix2 r y) = V0 m c (Proc.devRef .tc main_v44) (ix2 (rowOf (colT t) r) y) :=
  congrArg (V0 m c (Proc.devRef .tc main_v44)) (emb_2 t r y)

/-- Window 3's block lies at the query tile's rows. -/
theorem emb_3 (r : Fin 512) (y : Fin 1024) : (((cfgA F).win (3 : Fin 7)).rect t).emb (ix2 r y) = (ix2 (rowOf (rowT t) r) y : S4096x1024.Idx) := by
  have h := (places_at t).2.2.2.1
  funext a; apply Fin.ext
  match a with
  | ⟨0, _⟩ =>
    refine (Pipeline.Window.rect_emb_val _ t _ _).trans ?_
    show ((cfgA F).win (3 : Fin 7)).index t (0 : Fin 2) * 512 + r.val = 512 * rowN t.val + r.val
    rw [show ((cfgA F).win (3 : Fin 7)).index t (0 : Fin 2) = rowN t.val from h.1]; omega
  | ⟨1, _⟩ =>
    refine (Pipeline.Window.rect_emb_val _ t _ _).trans ?_
    show ((cfgA F).win (3 : Fin 7)).index t (1 : Fin 2) * 1024 + y.val = y.val
    rw [show ((cfgA F).win (3 : Fin 7)).index t (1 : Fin 2) = 0 from h.2]; omega

theorem blk_3 (r : Fin 512) (y : Fin 1024) : blk m c (3 : Fin 7) t (ix2 r y) = V0 m c (Proc.devRef .tc main_v46) (ix2 (rowOf (rowT t) r) y) :=
  congrArg (V0 m c (Proc.devRef .tc main_v46)) (emb_3 t r y)

/-- Window 6's block lies at the query tile's rows. -/
theorem emb_6 (r : Fin 512) (y : Fin 2048) : (((cfgA F).win (6 : Fin 7)).rect t).emb (ix2 r y) = (ix2 (rowOf (rowT t) r) y : S4096x2048.Idx) := by
  have h := (places_at t).2.2.2.2.2.2
  funext a; apply Fin.ext
  match a with
  | ⟨0, _⟩ =>
    refine (Pipeline.Window.rect_emb_val _ t _ _).trans ?_
    show ((cfgA F).win (6 : Fin 7)).index t (0 : Fin 2) * 512 + r.val = 512 * rowN t.val + r.val
    rw [show ((cfgA F).win (6 : Fin 7)).index t (0 : Fin 2) = rowN t.val from h.1]; omega
  | ⟨1, _⟩ =>
    refine (Pipeline.Window.rect_emb_val _ t _ _).trans ?_
    show ((cfgA F).win (6 : Fin 7)).index t (1 : Fin 2) * 2048 + y.val = y.val
    rw [show ((cfgA F).win (6 : Fin 7)).index t (1 : Fin 2) = 0 from h.2]; omega

/-- Window 4's block lies at the query tile's rows of every head. -/
theorem emb_4 (g : Fin 8) (r : Fin 512) : (((cfgA F).win (4 : Fin 7)).rect t).emb (ix3 g r 0) = (ix3 g (rowOf (rowT t) r) 0 : S8x4096x1.Idx) := by
  have h := (places_at t).2.2.2.2.1
  funext a; apply Fin.ext
  match a with
  | ⟨0, _⟩ =>
    refine (Pipeline.Window.rect_emb_val _ t _ _).trans ?_
    show ((cfgA F).win (4 : Fin 7)).index t (0 : Fin 3) * 8 + g.val = g.val
    rw [show ((cfgA F).win (4 : Fin 7)).index t (0 : Fin 3) = 0 from h.1]; omega
  | ⟨1, _⟩ =>
    refine (Pipeline.Window.rect_emb_val _ t _ _).trans ?_
    show ((cfgA F).win (4 : Fin 7)).index t (1 : Fin 3) * 512 + r.val = 512 * rowN t.val + r.val
    rw [show ((cfgA F).win (4 : Fin 7)).index t (1 : Fin 3) = rowN t.val from h.2.1]; omega
  | ⟨2, _⟩ =>
    refine (Pipeline.Window.rect_emb_val _ t _ _).trans ?_
    show ((cfgA F).win (4 : Fin 7)).index t (2 : Fin 3) * 1 + 0 = 0
    rw [show ((cfgA F).win (4 : Fin 7)).index t (2 : Fin 3) = 0 from h.2.2]

theorem blk_4 (g : Fin 8) (r : Fin 512) : blk m c (4 : Fin 7) t (ix3 g r 0) = V0 m c (Proc.devRef .tc main_v50) (ix3 g (rowOf (rowT t) r) 0) :=
  congrArg (V0 m c (Proc.devRef .tc main_v50)) (emb_4 t g r)

/-- Window 5's block lies at the query tile's rows of every head. -/
theorem emb_5 (g : Fin 8) (r : Fin 512) : (((cfgA F).win (5 : Fin 7)).rect t).emb (ix3 g r 0) = (ix3 g (rowOf (rowT t) r) 0 : S8x4096x1.Idx) := by
  have h := (places_at t).2.2.2.2.2.1
  funext a; apply Fin.ext
  match a with
  | ⟨0, _⟩ =>
    refine (Pipeline.Window.rect_emb_val _ t _ _).trans ?_
    show ((cfgA F).win (5 : Fin 7)).index t (0 : Fin 3) * 8 + g.val = g.val
    rw [show ((cfgA F).win (5 : Fin 7)).index t (0 : Fin 3) = 0 from h.1]; omega
  | ⟨1, _⟩ =>
    refine (Pipeline.Window.rect_emb_val _ t _ _).trans ?_
    show ((cfgA F).win (5 : Fin 7)).index t (1 : Fin 3) * 512 + r.val = 512 * rowN t.val + r.val
    rw [show ((cfgA F).win (5 : Fin 7)).index t (1 : Fin 3) = rowN t.val from h.2.1]; omega
  | ⟨2, _⟩ =>
    refine (Pipeline.Window.rect_emb_val _ t _ _).trans ?_
    show ((cfgA F).win (5 : Fin 7)).index t (2 : Fin 3) * 1 + 0 = 0
    rw [show ((cfgA F).win (5 : Fin 7)).index t (2 : Fin 3) = 0 from h.2.2]

theorem blk_5 (g : Fin 8) (r : Fin 512) : blk m c (5 : Fin 7) t (ix3 g r 0) = V0 m c (Proc.devRef .tc main_v34) (ix3 g (rowOf (rowT t) r) 0) :=
  congrArg (V0 m c (Proc.devRef .tc main_v34)) (emb_5 t g r)

end Cert.KernelIdeal.Gen

end
-- ==== Proof.DqHost.lean ====
/- The arrays the host hands to the backward pass for the queries' gradient, read at an index over the reals. -/
module

public import proofs.«01_k».proof.Proof.DqData
public import proofs.«01_k».proof.Proof.DqSpec
public import Idealize.ShloMosaic.Lib.Pointwise
public import Idealize.ShloMosaic.Lib.StableHlo.RunRead

@[expose] public section

set_option maxRecDepth 16384
set_option Elab.async false

noncomputable section

namespace Cert.KernelIdeal.Host0

open Cert.KernelIdeal Cert.KernelIdeal.Gen Idealize.ShloMosaic Idealize.ShloMosaic.TcCoe Idealize.SL.Sem

/-- The chunk of each row. -/
def chunkA : IVec S4096 32 := Host.divsi (iotaInDim S4096 32 0) (broadcastInDim S4096 ![] bcast_S_S4096 (constantI S_ 32 64#32))

/-- The mask. -/
def maskA : IVec S1x8x4096x4096 1 :=
  broadcastInDim S1x8x4096x4096 ![0, 1, 2, 3] bcast_S1x1x4096x4096_S1x8x4096x4096_0_1_2_3 (broadcastInDim S1x1x4096x4096 ![2, 3] bcast_S4096x4096_S1x1x4096x4096_2_3 (cmpi .sle (broadcastInDim S4096x4096 ![0, 1] bcast_S1x4096_S4096x4096_0_1 (broadcastInDim S1x4096 ![1] bcast_S4096_S1x4096_1 chunkA)) (broadcastInDim S4096x4096 ![0, 1] bcast_S4096x1_S4096x4096_0_1 (broadcastInDim S4096x1 ![0] bcast_S4096_S4096x1_0 chunkA))))

/-- The scale. -/
def scaleA : FVec Ideal S_ .f32 := Host.divf (constant S_ .f32 0x3F800000#32) (Host.sqrt (constant S_ .f32 0x43400000#32))

variable (q k : FVec Ideal S1x4096x8x192 .f32) (v g : FVec Ideal S1x4096x8x128 .f32)

/-- The masked scores. -/
def scoreA : FVec Ideal S1x8x4096x4096 .f32 :=
  select maskA (mulf (Host.dotGeneral dot_S1x4096x8x192_S1x4096x8x192_S1x8x4096x4096_3_3_1_1_02_02 none q k) (broadcastInDim S1x8x4096x4096 ![] bcast_S_S1x8x4096x4096 scaleA)) (broadcastInDim S1x8x4096x4096 ![] bcast_S_S1x8x4096x4096 (constant S_ .f32 0xFF800000#32))

/-- The rows' maxima. -/
def maxA : FVec Ideal S1x8x4096 .f32 :=
  Host.reduce FloatOps.maximumf (scoreA q k) (constant S_ .f32 0xFF800000#32) reducesTo_S1x8x4096x4096_S1x8x4096_d3 h_S_

/-- The rows' maxima as a column. -/
def colA : FVec Ideal S1x8x4096x1 .f32 := broadcastInDim S1x8x4096x1 ![0, 1, 2] bcast_S1x8x4096_S1x8x4096x1_0_1_2 (maxA q k)

/-- The exponentials. -/
def expA : FVec Ideal S1x8x4096x4096 .f32 :=
  Host.exp (subf (scoreA q k) (broadcastInDim S1x8x4096x4096 ![0, 1, 2, 3] bcast_S1x8x4096x1_S1x8x4096x4096_0_1_2_3 (colA q k)))

/-- The rows' sums. -/
def totA : FVec Ideal S1x8x4096x1 .f32 :=
  broadcastInDim S1x8x4096x1 ![0, 1, 2] bcast_S1x8x4096_S1x8x4096x1_0_1_2 (Host.reduceAdd (expA q k) (constant S_ .f32 0x00000000#32) reducesTo_S1x8x4096x4096_S1x8x4096_d3 h_S_)

/-- The output of the forward pass. -/
def outA : FVec Ideal S1x4096x8x128 .f32 :=
  transpose S1x4096x8x128 [0, 3, 1, 2] (Host.dotGeneral dot_S1x4096x8x128_S1x8x4096x4096_S1x8x128x4096_1_3_3_2_02_01 none v (Host.divf (expA q k) (broadcastInDim S1x8x4096x4096 ![0, 1, 2, 3] bcast_S1x8x4096x1_S1x8x4096x4096_0_1_2_3 (totA q k)))) transposes_S1x8x128x4096_S1x4096x8x128_0_3_1_2

/-- The log-sum-exp in base two. -/
def lseA : FVec Ideal S8x4096x1 .f32 :=
  Host.divf (shapeCast S8x4096x1 (addf (colA q k) (Host.log (totA q k))) shapeCasts_S1x8x4096x1_S8x4096x1) (broadcastInDim S8x4096x1 ![] bcast_S_S8x4096x1 (Host.log (constant S_ .f32 0x40000000#32)))

/-- The rows' means. -/
def dltA : FVec Ideal S8x4096x1 .f32 :=
  broadcastInDim S8x4096x1 ![0, 1] bcast_S8x4096_S8x4096x1_0_1 (transpose S8x4096 [1, 0] (shapeCast S4096x8 (Host.reduceAdd (mulf (outA q k v) g) (constant S_ .f32 0x00000000#32) reducesTo_S1x4096x8x128_S1x4096x8_d3 h_S_) shapeCasts_S1x4096x8_S4096x8) transposes_S4096x8_S8x4096_1_0)

/-- Queries or keys, padded. -/
def padA : FVec Ideal S4096x2048 .bf16 :=
  truncf .bf16 (shapeCast S4096x2048 (pad S4096x8x256 ![0, 0, 0] ![0, 0, 64] ![0, 0, 0] (shapeCast S4096x8x192 q shapeCasts_S1x4096x8x192_S4096x8x192) (constant S_ .f32 0x00000000#32) pads_S4096x8x192_S4096x8x256_000_000_0640 h_S_) shapeCasts_S4096x8x256_S4096x2048) bitsLt_bf16_f32

/-- Values or gradients of the output. -/
def flatA : FVec Ideal S4096x1024 .bf16 := truncf .bf16 (shapeCast S4096x1024 v shapeCasts_S1x4096x8x128_S4096x1024) bitsLt_bf16_f32

section
variable (m : (ℓ : Loc nD τ sig) → Buf (Elt Ideal) ℓ) (c : Dev nD)

theorem V0_q : V0 m c (Proc.devRef .tc main_v38) = padA (m ((c.tc : Thread nD τ).loc main_arg0)) := by
  unfold V0; after_reads_simp; rfl
theorem V0_k : V0 m c (Proc.devRef .tc main_v42) = padA (m ((c.tc : Thread nD τ).loc main_arg1)) := by
  unfold V0; after_reads_simp; rfl
theorem V0_v : V0 m c (Proc.devRef .tc main_v44) = flatA (m ((c.tc : Thread nD τ).loc main_arg2)) := by
  unfold V0; after_reads_simp; rfl
theorem V0_do : V0 m c (Proc.devRef .tc main_v46) = flatA (m ((c.tc : Thread nD τ).loc main_arg3)) := by
  unfold V0; after_reads_simp; rfl
theorem V0_lse : V0 m c (Proc.devRef .tc main_v50) = lseA (m ((c.tc : Thread nD τ).loc main_arg0)) (m ((c.tc : Thread nD τ).loc main_arg1)) := by
  unfold V0; after_reads_simp; rfl
theorem V0_dlt : V0 m c (Proc.devRef .tc main_v34) = dltA (m ((c.tc : Thread nD τ).loc main_arg0)) (m ((c.tc : Thread nD τ).loc main_arg1)) (m ((c.tc : Thread nD τ).loc main_arg2)) (m ((c.tc : Thread nD τ).loc main_arg3)) := by
  unfold V0; after_reads_simp; rfl
end

end Cert.KernelIdeal.Host0

end
-- ==== Proof.DqHostAt.lean ====
/- The arrays the host hands to the backward pass for the queries' gradient, read at an index over the reals. -/
module

public import proofs.«01_k».proof.Proof.DqHost

@[expose] public section

set_option maxRecDepth 16384
set_option Elab.async false

noncomputable section

namespace Cert.KernelIdeal.Host0

open Cert.KernelIdeal Cert.KernelIdeal.Gen Idealize.ShloMosaic Idealize.ShloMosaic.TcCoe Idealize.SL.Sem
open Cert.Dq

variable {q k : FVec Ideal S1x4096x8x192 .f32} {v g : FVec Ideal S1x4096x8x128 .f32} {q' k' : Cert.Dq.Arr 192} {v' g' : Cert.Dq.Arr 128}
  (hq : ∀ i h d, q (ix4 0 i h d) = ((q' i h d : ℝ) : EReal)) (hk : ∀ i h d, k (ix4 0 i h d) = ((k' i h d : ℝ) : EReal))
  (hv : ∀ i h d, v (ix4 0 i h d) = ((v' i h d : ℝ) : EReal)) (hg : ∀ i h d, g (ix4 0 i h d) = ((g' i h d : ℝ) : EReal))

/-- Column `x` of head `h` among the columns of the padded heads. -/
abbrev colP (h : Fin 8) (x : Fin 256) : Fin 2048 := ⟨256 * h.val + x.val, by omega⟩
/-- Column `x` of head `h` among the columns of the value heads. -/
abbrev colV (h : Fin 8) (x : Fin 128) : Fin 1024 := ⟨128 * h.val + x.val, by omega⟩

/-- A row of a head, padded with zeros. -/
def padded (a : Cert.Dq.Arr 192) (i : Fin 4096) (h : Fin 8) (x : Fin 256) : ℝ := if hx : x.val < 192 then a i h ⟨x.val, hx⟩ else 0

include hq in
theorem pad_at (i : Fin 4096) (h : Fin 8) (x : Fin 256) : padA q (ix2 i (colP h x)) = ((padded q' i h x : ℝ) : EReal) := by
  pointwise [padA]
  have h1 : (256 * h.val + x.val) / 256 = h.val := by omega
  have h2 : (256 * h.val + x.val) % 256 = x.val := by omega
  unfold padded
  by_cases hx : x.val < 192
  · rw [dif_pos hx, dif_pos ⟨by omega, by omega⟩, ← hq]
    exact congrArg q ((ix4_inj _ _ _ _ _ _ _ _).mpr ⟨rfl, rfl, Fin.ext h1, Fin.ext h2⟩)
  · rw [dif_neg hx, dif_neg (fun hn => hx (h2 ▸ hn.2))]; rfl

include hv in
theorem flat_at (i : Fin 4096) (h : Fin 8) (x : Fin 128) : flatA v (ix2 i (colV h x)) = ((v' i h x : ℝ) : EReal) := by
  pointwise [flatA]
  rw [← hv]
  exact congrArg v ((ix4_inj _ _ _ _ _ _ _ _).mpr ⟨rfl, rfl, Fin.ext (show (128 * h.val + x.val) / 128 = h.val by omega), Fin.ext (show (128 * h.val + x.val) % 128 = x.val by omega)⟩)

theorem chunk_at (i : Fin 4096) : chunkA (ix1 i) = BitVec.ofNat 32 (i.val / 64) := by
  pointwise [chunkA]
  revert i
  decide +kernel

theorem mask_at (h : Fin 8) (i j : Fin 4096) : maskA (ix4 0 h i j) = BitVec.ofBool (decide (Ok i j)) := by
  pointwise [maskA]
  rw [chunk_at, chunk_at]
  exact chunk_words ⟨j.val / 64, by omega⟩ ⟨i.val / 64, by omega⟩

theorem scale_at (i : S_.Idx) : scaleA i = ((scl : ℝ) : EReal) := by
  pointwise [scaleA]
  rw [word_192]; exact scale_word

include hq hk in
theorem score_at (h : Fin 8) (i j : Fin 4096) : scoreA q k (ix4 0 h i j) = score q' k' h i j := by
  pointwise [scoreA]
  rw [mask_at, scale_at]
  simp only [hq, hk, ← EReal.coe_mul, coe_sum]
  unfold score
  by_cases hm : Ok i j
  · rw [if_pos hm, decide_eq_true hm]; rfl
  · rw [if_neg hm, decide_eq_false hm]; exact word_neg_inf

/-- The maximum over the last axis as a fold. -/
theorem max_fold (hr : S1x8x4096x4096.ReducesTo [3] S1x8x4096) (hr' : S1x8x4096x4096.Reduces [3] S1x8x4096) (x : FVec Ideal S1x8x4096x4096 .f32) (z : FVec Ideal S_ .f32)
    (h : Fin 8) (i : Fin 4096) : Host.reduce FloatOps.maximumf x z hr h_S_ (ix3 0 h i)
      = Finset.univ.fold max (z (Shape.Idx.first h_S_)) (fun j : Fin 4096 => x (ix4 0 h i j)) := by
  refine (Host.reduce_eq_fold_single _ x z hr hr' h_S_ (ix3 0 h i)).trans ?_
  refine congrArg (fun f => Finset.fold max (z (Shape.Idx.first h_S_)) f (Finset.univ : Finset (Fin 4096))) ?_
  funext j
  refine congrArg x ?_
  funext t; apply Fin.ext
  match t with
  | ⟨0, _⟩ => rfl
  | ⟨1, _⟩ => rfl
  | ⟨2, _⟩ => rfl
  | ⟨3, _⟩ => rfl

theorem reduces_last : S1x8x4096x4096.Reduces [3] S1x8x4096 := by decide

theorem neg_inf_first : (constant (F := Ideal) S_ .f32 0xFF800000#32) (Shape.Idx.first h_S_) = (⊥ : EReal) := word_neg_inf

include hq hk in
theorem max_at (h : Fin 8) (i : Fin 4096) : ∃ μ : ℝ, maxA q k (ix3 0 h i) = (μ : EReal) := by
  obtain ⟨μ, hμ⟩ := score_max q' k' h i
  refine ⟨μ, ?_⟩
  have hmax : maxA q k (ix3 0 h i) = Finset.univ.fold max (⊥ : EReal) (fun j : Fin 4096 => scoreA q k (ix4 0 h i j)) := by
    unfold maxA
    rw [max_fold _ reduces_last, neg_inf_first]
  rw [hmax, funext fun j => score_at hq hk h i j, hμ]

/-- A row's entry as a column. -/
theorem bcast_col (x : FVec Ideal S1x8x4096 .f32) (h : Fin 8) (i : Fin 4096) :
    broadcastInDim S1x8x4096x1 ![0, 1, 2] bcast_S1x8x4096_S1x8x4096x1_0_1_2 x (ix4 0 h i 0) = x (ix3 0 h i) := by
  pointwise

theorem col_at (h : Fin 8) (i : Fin 4096) : colA q k (ix4 0 h i 0) = maxA q k (ix3 0 h i) := bcast_col (maxA q k) h i

include hq hk in
theorem exp_at {μ : ℝ} (h : Fin 8) (i : Fin 4096) (hμ : maxA q k (ix3 0 h i) = (μ : EReal)) (j : Fin 4096) : expA q k (ix4 0 h i j) = ((wt q' k' μ h i j : ℝ) : EReal) := by
  pointwise [expA]
  rw [score_at hq hk, col_at, hμ, exp_score]

include hq hk in
theorem tot_at {μ : ℝ} (h : Fin 8) (i : Fin 4096) (hμ : maxA q k (ix3 0 h i) = (μ : EReal)) :
    totA q k (ix4 0 h i 0) = ((tot q' k' μ h i : ℝ) : EReal) := by
  pointwise [totA]
  simp only [exp_at hq hk h i hμ, coe_sum]
  rfl

/-- The log-sum-exp's last operations at an index. -/
theorem lse_read (x y : FVec Ideal S1x8x4096x1 .f32) (h : Fin 8) (i : Fin 4096) :
    Host.divf (shapeCast S8x4096x1 (addf x (Host.log y)) shapeCasts_S1x8x4096x1_S8x4096x1) (broadcastInDim S8x4096x1 ![] bcast_S_S8x4096x1 (Host.log (constant S_ .f32 0x40000000#32))) (ix3 h i 0)
      = Ideal.div (x (ix4 0 h i 0) + Ideal.log (y (ix4 0 h i 0))) (Ideal.log (Ideal.ofBits .f32 0x40000000#32)) := by
  pointwise

/-- The log-sum-exp over the reals. -/
theorem lse_real (μ t : ℝ) (ht : 0 < t) : Ideal.div ((μ : EReal) + Ideal.log (t : EReal)) (Ideal.log (Ideal.ofBits .f32 0x40000000#32))
    = (((μ + Real.log t) / Real.log 2 : ℝ) : EReal) := by
  rw [word_2, log_coe _ ht, log_coe _ two_pos, ← EReal.coe_add, div_coe _ _ (Real.log_pos one_lt_two).ne']

include hq hk in
theorem lse_at {μ : ℝ} (h : Fin 8) (i : Fin 4096) (hμ : maxA q k (ix3 0 h i) = (μ : EReal)) :
    lseA q k (ix3 h i 0) = (((μ + Real.log (tot q' k' μ h i)) / Real.log 2 : ℝ) : EReal) := by
  unfold lseA
  rw [lse_read, col_at, hμ, tot_at hq hk h i hμ, lse_real _ _ (tot_pos q' k' μ h i)]

include hq hk hv in
theorem out_at (i : Fin 4096) (h : Fin 8) (d : Fin 128) : outA q k v (ix4 0 i h d) = ((∑ j, v' j h d * prob q' k' h i j : ℝ) : EReal) := by
  obtain ⟨μ, hμ⟩ := max_at hq hk h i
  pointwise [outA]
  simp only [tot_at hq hk h i hμ, exp_at hq hk h i hμ, div_coe _ _ (tot_pos q' k' μ h i).ne', wt_div_tot, hv, ← EReal.coe_mul, coe_sum]

include hq hk hv hg in
theorem dlt_at (i : Fin 4096) (h : Fin 8) : dltA q k v g (ix3 h i 0) = ((dlt q' k' v' g' h i : ℝ) : EReal) := by
  pointwise [dltA]
  simp only [out_at hq hk hv, hg, ← EReal.coe_mul, coe_sum]
  congr 1
  unfold dlt dpr
  simp only [Finset.mul_sum, Finset.sum_mul]
  rw [Finset.sum_comm]
  exact Finset.sum_congr rfl fun j _ => Finset.sum_congr rfl fun d _ => by ring

end Cert.KernelIdeal.Host0

end
-- ==== Proof.DqSplit.lean ====
/- The query gradient over the reals, tile by tile of keys, as the backward pass sums it. -/
module

public import proofs.«01_k».proof.Proof.DqHead
public import proofs.«01_k».proof.Proof.DqTile
public import proofs.«01_k».proof.Proof.DqHostAt

@[expose] public section

set_option maxRecDepth 16384
set_option Elab.async false

noncomputable section

namespace Cert.KernelIdeal.Gen

open Cert.KernelIdeal
open Idealize.ShloMosaic
open Cert.Dq Cert.KernelIdeal.Host0

/-- The padding adds nothing to an inner product. -/
theorem sum_padded (a b : Cert.Dq.Arr 192) (i j : Fin 4096) (h : Fin 8) : (∑ x, padded a i h x * padded b j h x) = raw a b h i j := by
  show (∑ x : Fin (192 + 64), padded a i h x * padded b j h x) = _
  rw [Fin.sum_univ_add]
  have h2 : (∑ x : Fin 64, padded a i h (Fin.natAdd 192 x) * padded b j h (Fin.natAdd 192 x)) = 0 :=
    Finset.sum_eq_zero fun x _ => by
      unfold padded
      rw [dif_neg (by show ¬ (192 + x.val < 192); omega), zero_mul]
  rw [h2, add_zero]
  refine Finset.sum_congr rfl fun x _ => ?_
  unfold padded
  rw [dif_pos (show (Fin.castAdd 64 x).val < 192 from x.isLt), dif_pos (show (Fin.castAdd 64 x).val < 192 from x.isLt)]
  rfl

/-- The exponential the backward pass recomputes is the probability, where the key is not masked. -/
theorem pw_prob (q k : Cert.Dq.Arr 192) (μ : ℝ) (h : Fin 8) (i j : Fin 4096) (hm : Ok i j) :
    pw (padded q i h) (padded k j h) ((μ + Real.log (tot q k μ h i)) / Real.log 2) = prob q k h i j := by
  have hp := tot_pos q k μ h i
  have h2 : Real.log 2 ≠ 0 := (Real.log_pos one_lt_two).ne'
  unfold pw
  rw [sum_padded, ← wt_div_tot q k μ h i j]
  unfold wt
  rw [if_pos hm, show (raw q k h i j * (scl * (Real.log 2)⁻¹) - (μ + Real.log (tot q k μ h i)) / Real.log 2) * Real.log 2
      = (raw q k h i j * scl - μ) - Real.log (tot q k μ h i) from by field_simp; ring, Real.exp_sub, Real.exp_log hp]

variable (q k : Cert.Dq.Arr 192) (v g : Cert.Dq.Arr 128)

/-- One key's part of the query gradient, before the scale. -/
def part (i : Fin 4096) (h : Fin 8) (x : Fin 256) (j : Fin 4096) : ℝ :=
  prob q k h i j * (dpr v g h i j - dlt q k v g h i) * padded k j h x

/-- One key tile's part. -/
def tilePart (i : Fin 4096) (h : Fin 8) (x : Fin 256) (J : Fin 8) : ℝ := ∑ j, part q k v g i h x (rowOf J j)

/-- The parts of the key tiles before `n`. -/
def partsTo (i : Fin 4096) (h : Fin 8) (x : Fin 256) (n : ℕ) : ℝ := ∑ J ∈ Finset.univ.filter (fun J : Fin 8 => J.val < n), tilePart q k v g i h x J

theorem partsTo_zero (i : Fin 4096) (h : Fin 8) (x : Fin 256) : partsTo q k v g i h x 0 = 0 := by
  unfold partsTo; rw [Finset.filter_false_of_mem (fun _ _ => Nat.not_lt_zero _), Finset.sum_empty]

theorem partsTo_succ (i : Fin 4096) (h : Fin 8) (x : Fin 256) (J : Fin 8) :
    partsTo q k v g i h x (J.val + 1) = partsTo q k v g i h x J.val + tilePart q k v g i h x J := by
  unfold partsTo
  rw [show (Finset.univ.filter fun J' : Fin 8 => J'.val < J.val + 1) = insert J (Finset.univ.filter fun J' : Fin 8 => J'.val < J.val) from by
    ext J'; simp only [Finset.mem_filter, Finset.mem_univ, true_and, Finset.mem_insert, Fin.ext_iff]; omega,
    Finset.sum_insert (by simp), add_comm]

/-- The key tiles after the query's are masked whole. -/
theorem tilePart_after (I J : Fin 8) (r : Fin 512) (h : Fin 8) (x : Fin 256) (hJ : I.val < J.val) : tilePart q k v g (rowOf I r) h x J = 0 :=
  Finset.sum_eq_zero fun j _ => by
    unfold part
    rw [prob_masked q k h _ _ (by show ¬ ((512 * J.val + j.val) / 64 ≤ (512 * I.val + r.val) / 64); omega)]; ring

/-- A sum over the rows is one over the tiles. -/
theorem sum_tiles (f : Fin 4096 → ℝ) : ∑ j, f j = ∑ J : Fin 8, ∑ r : Fin 512, f (rowOf J r) := by
  rw [← Fintype.sum_prod_type' (fun (J : Fin 8) (r : Fin 512) => f (rowOf J r))]
  refine (Fintype.sum_equiv (finProdFinEquiv (m := 8) (n := 512)) _ _ fun p => ?_).symm
  refine congrArg f (Fin.ext ?_)
  show 512 * p.1.val + p.2.val = p.2.val + 512 * p.1.val
  omega

/-- The parts up to the query's own tile are the whole gradient. -/
theorem parts_dq (I : Fin 8) (r : Fin 512) (h : Fin 8) (d : Fin 192) :
    partsTo q k v g (rowOf I r) h ⟨d.val, by omega⟩ (I.val + 1) * scl = dq q k v g (rowOf I r) h d := by
  have hall : partsTo q k v g (rowOf I r) h ⟨d.val, by omega⟩ (I.val + 1) = ∑ J, tilePart q k v g (rowOf I r) h ⟨d.val, by omega⟩ J := by
    unfold partsTo
    refine Finset.sum_subset (Finset.subset_univ _) fun J _ hJ => tilePart_after q k v g I J r h _ ?_
    simp only [Finset.mem_filter, Finset.mem_univ, true_and] at hJ; omega
  rw [hall]
  unfold dq tilePart
  rw [sum_tiles, Finset.sum_mul]
  refine Finset.sum_congr rfl fun J _ => ?_
  rw [Finset.sum_mul]
  refine Finset.sum_congr rfl fun j _ => ?_
  unfold part padded
  rw [dif_pos d.isLt]
  ring

end Cert.KernelIdeal.Gen

end
-- ==== Proof.DqSum.lean ====
/- The running sum of the backward pass for the queries' gradient, over the reals. -/
module

public import proofs.«01_k».proof.Proof.DqSplit

@[expose] public section

set_option maxRecDepth 16384
set_option Elab.async false

noncomputable section

namespace Cert.KernelIdeal.Gen

open Cert.KernelIdeal
open Idealize.ShloMosaic Idealize.ShloMosaic.TcCoe Idealize.SL.Sem
open Cert.Dq Cert.KernelIdeal.Host0

theorem emb_col (g : Fin 8) (r : Fin 512) (x : Fin 256) : (colRect g).emb (ix2 r x) = (ix2 r (colP g x) : S512x2048.Idx) :=
  funext fun a => Fin.ext (by
    match a with
    | ⟨0, _⟩ => show 0 + 1 * r.val = r.val; omega
    | ⟨1, _⟩ => show 256 * g.val + 1 * x.val = 256 * g.val + x.val; omega)
theorem emb_val (g : Fin 8) (r : Fin 512) (x : Fin 128) : (valRect g).emb (ix2 r x) = (ix2 r (colV g x) : S512x1024.Idx) :=
  funext fun a => Fin.ext (by
    match a with
    | ⟨0, _⟩ => show 0 + 1 * r.val = r.val; omega
    | ⟨1, _⟩ => show 128 * g.val + 1 * x.val = 128 * g.val + x.val; omega)
theorem emb_row (g : Fin 8) (r : Fin 512) : (rowRect g).emb (ix3 0 r 0) = (ix3 g r 0 : S8x512x1.Idx) :=
  funext fun a => Fin.ext (by
    match a with
    | ⟨0, _⟩ => show g.val + 1 * 0 = g.val; omega
    | ⟨1, _⟩ => show 0 + 1 * r.val = r.val; omega
    | ⟨2, _⟩ => rfl)

theorem col_facts : ∀ n : Fin 36, colN n.val ≠ 0 → n.val ≠ 0 ∧ colN (n.val - 1) + 1 = colN n.val ∧ rowN (n.val - 1) = rowN n.val ∧ colN (n.val - 1) ≠ rowN (n.val - 1) := by
  decide
theorem col_le : ∀ n : Fin 36, colN n.val ≤ rowN n.val := by decide

variable (m : (ℓ : Loc nD τ sig) → Buf (Elt Ideal) ℓ) (c : Dev nD) {q k : Cert.Dq.Arr 192} {v g : Cert.Dq.Arr 128}

/-- The arguments are real. -/
structure Reals (q k : Cert.Dq.Arr 192) (v g : Cert.Dq.Arr 128) : Prop where
  q_at : ∀ i h d, m ((c.tc : Thread nD τ).loc main_arg0) (ix4 0 i h d) = ((q i h d : ℝ) : EReal)
  k_at : ∀ i h d, m ((c.tc : Thread nD τ).loc main_arg1) (ix4 0 i h d) = ((k i h d : ℝ) : EReal)
  v_at : ∀ i h d, m ((c.tc : Thread nD τ).loc main_arg2) (ix4 0 i h d) = ((v i h d : ℝ) : EReal)
  g_at : ∀ i h d, m ((c.tc : Thread nD τ).loc main_arg3) (ix4 0 i h d) = ((g i h d : ℝ) : EReal)

/-! One head of a tile's step, of blocks read over the reals. -/

section
variable {x0 x1 : S512x2048.Idx → Elt Ideal .bf16} {x2 x3 : S512x1024.Idx → Elt Ideal .bf16} {x4 x5 : S8x512x1.Idx → Elt Ideal .f32} {a : S512x2048.Idx → Elt Ideal .f32}
  {a' : Fin 512 → Fin 256 → ℝ} {μ : Fin 512 → ℝ} (I J h : Fin 8)
  (h0 : ∀ r x, x0 ((colRect h).emb (ix2 r x)) = ((padded q (rowOf I r) h x : ℝ) : EReal))
  (h1 : ∀ r x, x1 ((colRect h).emb (ix2 r x)) = ((padded k (rowOf J r) h x : ℝ) : EReal))
  (h2 : ∀ r x, x2 ((valRect h).emb (ix2 r x)) = ((v (rowOf J r) h x : ℝ) : EReal))
  (h3 : ∀ r x, x3 ((valRect h).emb (ix2 r x)) = ((g (rowOf I r) h x : ℝ) : EReal))
  (h4 : ∀ r, x4 ((rowRect h).emb (ix3 0 r 0)) = (((μ r + Real.log (tot q k (μ r) h (rowOf I r))) / Real.log 2 : ℝ) : EReal))
  (h5 : ∀ r, x5 ((rowRect h).emb (ix3 0 r 0)) = ((dlt q k v g h (rowOf I r) : ℝ) : EReal))
  (ha : ∀ r x, a ((colRect h).emb (ix2 r x)) = ((a' r x : ℝ) : EReal))
include h0 h1 h2 h3 h4 h5 ha

/-- Before the diagonal the step adds its key tile's part. -/
theorem plain_step (hlt : J.val < I.val) (r : Fin 512) (x : Fin 256) :
    plainStep x0 x1 x2 x3 x4 x5 a ((colRect h).emb (ix2 r x)) = ((a' r x + tilePart q k v g (rowOf I r) h x J : ℝ) : EReal) := by
  unfold plainStep
  rw [perHead_emb]
  refine (plain_at h1 h0 h4 h5 h3 h2 ha r x).trans ?_
  refine congrArg (fun s : ℝ => ((a' r x + s : ℝ) : EReal)) (Finset.sum_congr rfl fun j _ => ?_)
  rw [pw_prob q k _ h _ _ (by show (512 * J.val + j.val) / 64 ≤ (512 * I.val + r.val) / 64; omega)]
  rfl

/-- On the diagonal the step scales the sum with its own part. -/
theorem out_step (r : Fin 512) (x : Fin 256) :
    outStep (BitVec.ofNat 32 I.val) (BitVec.ofNat 32 J.val) x0 x1 x2 x3 x4 x5 a ((colRect h).emb (ix2 r x)) = (((a' r x + tilePart q k v g (rowOf I r) h x J) * scl : ℝ) : EReal) := by
  unfold outStep
  rw [perHead_emb]
  refine (Gen.out_at h1 h0 h4 h5 h3 h2 ha I J r x).trans ?_
  unfold diagSum
  refine congrArg (fun s : ℝ => (((a' r x + s) * scl : ℝ) : EReal)) (Finset.sum_congr rfl fun j _ => ?_)
  show _ = prob q k h (rowOf I r) (rowOf J j) * _ * _
  by_cases hm : Ok (rowOf I r) (rowOf J j)
  · rw [if_pos hm, pw_prob q k _ h _ _ hm]; rfl
  · rw [if_neg hm, prob_masked q k h _ _ hm]; rfl
end

section
variable {m c} (R : Reals m c q k v g) (t : Fin (cfgA Ideal).N) (h : Fin 8)
include R

theorem q_blk (r : Fin 512) (x : Fin 256) : blk m c (0 : Fin 7) t ((colRect h).emb (ix2 r x)) = ((padded q (rowOf (rowT t) r) h x : ℝ) : EReal) := by
  rw [emb_col, blk_0, V0_q]; exact pad_at R.q_at _ _ _
theorem k_blk (r : Fin 512) (x : Fin 256) : blk m c (1 : Fin 7) t ((colRect h).emb (ix2 r x)) = ((padded k (rowOf (colT t) r) h x : ℝ) : EReal) := by
  rw [emb_col, blk_1, V0_k]; exact pad_at R.k_at _ _ _
theorem v_blk (r : Fin 512) (x : Fin 128) : blk m c (2 : Fin 7) t ((valRect h).emb (ix2 r x)) = ((v (rowOf (colT t) r) h x : ℝ) : EReal) := by
  rw [emb_val, blk_2, V0_v]; exact flat_at R.v_at _ _ _
theorem g_blk (r : Fin 512) (x : Fin 128) : blk m c (3 : Fin 7) t ((valRect h).emb (ix2 r x)) = ((g (rowOf (rowT t) r) h x : ℝ) : EReal) := by
  rw [emb_val, blk_3, V0_do]; exact flat_at R.g_at _ _ _
theorem dlt_blk (r : Fin 512) : blk m c (5 : Fin 7) t ((rowRect h).emb (ix3 0 r 0)) = ((dlt q k v g h (rowOf (rowT t) r) : ℝ) : EReal) := by
  rw [emb_row, blk_5, V0_dlt]; exact dlt_at R.q_at R.k_at R.v_at R.g_at _ _
/-- The rows' shifts. -/
theorem lse_blk : ∃ μ : Fin 512 → ℝ, ∀ r, blk m c (4 : Fin 7) t ((rowRect h).emb (ix3 0 r 0))
    = (((μ r + Real.log (tot q k (μ r) h (rowOf (rowT t) r))) / Real.log 2 : ℝ) : EReal) := by
  have hμ : ∀ r : Fin 512, ∃ μ : ℝ, maxA (m ((c.tc : Thread nD τ).loc main_arg0)) (m ((c.tc : Thread nD τ).loc main_arg1)) (ix3 0 h (rowOf (rowT t) r)) = (μ : EReal) :=
    fun r => max_at R.q_at R.k_at h _
  choose μ hμ using hμ
  refine ⟨μ, fun r => ?_⟩
  rw [emb_row, blk_4, V0_lse]; exact lse_at R.q_at R.k_at _ _ (hμ r)

omit R in
theorem zero_at (y : S512x2048.Idx) : (k0_pay1 (F := Ideal)) y = ((0 : ℝ) : EReal) := by
  idx_vars y
  pointwise [k0_pay1]
  rfl

/-- The sum a grid point starts from: the parts of the key tiles before its own. -/
theorem base_at : ∀ (n : ℕ) (hn : n < (cfgA Ideal).N) (h : Fin 8) (r : Fin 512) (x : Fin 256),
    base m c n ((colRect h).emb (ix2 r x)) = ((partsTo q k v g (rowOf (rowT ⟨n, hn⟩) r) h x (colN n) : ℝ) : EReal) := by
  intro n
  induction n using Nat.strong_induction_on with
  | _ n ih =>
    intro hn h r x
    have h36 : n < 36 := lt_of_lt_of_eq hn N_0
    unfold base
    by_cases h0 : colN n = 0
    · rw [if_pos h0, h0, partsTo_zero]; exact zero_at _
    · rw [if_neg h0]
      obtain ⟨hn0, hc, hr, hne⟩ := col_facts ⟨n, h36⟩ h0
      obtain ⟨p, rfl⟩ : ∃ p, n = p + 1 := ⟨n - 1, by have : n ≠ 0 := hn0; omega⟩
      have hp : p < (cfgA Ideal).N := by omega
      have hc' : colN p + 1 = colN (p + 1) := hc
      have hr' : rowN p = rowN (p + 1) := hr
      have hne' : colN p ≠ rowN p := hne
      have hle := col_le ⟨p, by omega⟩
      refine (congrFun (accB_below m c ⟨p, hp⟩ hne') _).trans ?_
      obtain ⟨μ, hμ⟩ := lse_blk R ⟨p, hp⟩ h
      refine (plain_step (rowT ⟨p, hp⟩) (colT ⟨p, hp⟩) h (q_blk R ⟨p, hp⟩ h) (k_blk R ⟨p, hp⟩ h) (v_blk R ⟨p, hp⟩ h) (g_blk R ⟨p, hp⟩ h) hμ (dlt_blk R ⟨p, hp⟩ h)
        (fun r x => ih p (by omega) hp h r x) (lt_of_le_of_ne hle hne') r x).trans ?_
      rw [← hc', show colN p = (colT (F := Ideal) ⟨p, hp⟩).val from rfl, ← partsTo_succ]
      rw [show rowT (F := Ideal) ⟨p, hp⟩ = rowT ⟨p + 1, hn⟩ from Fin.ext hr']

/-- The result block at the diagonal is the query gradient of its rows. -/
theorem outB_at (hd : colN t.val = rowN t.val) (r : Fin 512) (d : Fin 192) :
    outB m c t ((colRect h).emb (ix2 r ⟨d.val, by omega⟩)) = ((dq q k v g (rowOf (rowT t) r) h d : ℝ) : EReal) := by
  obtain ⟨μ, hμ⟩ := lse_blk R t h
  unfold outB
  rw [word0_at, word1_at]
  refine (out_step (rowT t) (colT t) h (q_blk R t h) (k_blk R t h) (v_blk R t h) (g_blk R t h) hμ (dlt_blk R t h)
    (fun r x => base_at R t.val t.isLt h r x) r _).trans ?_
  rw [show colN t.val = (colT t).val from rfl, ← partsTo_succ, show colT t = rowT t from Fin.ext hd, parts_dq]

end

end Cert.KernelIdeal.Gen

end
-- ==== Proof.DqEnd.lean ====
/- The result array of the backward pass for the queries' gradient, at the end, over the reals. -/
module

public import proofs.«01_k».proof.Proof.DqSum
public import proofs.«01_k».proof.Proof.DqLaunch

@[expose] public section

set_option maxRecDepth 16384
set_option Elab.async false

noncomputable section

namespace Cert.KernelIdeal.Gen

open Cert.KernelIdeal
open Idealize.ShloMosaic Idealize.ShloMosaic.TcCoe Idealize.SL.Sem
open Cert.Dq Cert.KernelIdeal.Host0

theorem diag_inj : ∀ n n' : Fin 36, colN n.val = rowN n.val → colN n'.val = rowN n'.val → rowN n.val = rowN n'.val → n = n' := by decide
theorem diag_ex : ∀ g : Fin 8, ∃ n : Fin 36, colN n.val = rowN n.val ∧ rowN n.val = g.val := by decide

variable (m : (ℓ : Loc nD τ sig) → Buf (Elt Ideal) ℓ) (c : Dev nD) {q k : Cert.Dq.Arr 192} {v g : Cert.Dq.Arr 128}

/-- A place in window 6's block lies in the query tile's rows. -/
theorem blk6_row (t : Fin (cfgA Ideal).N) (i : S4096x2048.Idx) (hi : i ∈ (((cfgA Ideal).win (6 : Fin 7)).blk t).view.set) : (i 0).val / 512 = rowN t.val := by
  obtain ⟨y, hy⟩ := View.exists_emb_of_mem_set _ hi
  have h2 : (((cfgA Ideal).win (6 : Fin 7)).rect t).emb y = i := hy
  have h := (places_at t).2.2.2.2.2.2.1
  have h3 := Pipeline.Window.rect_emb_val ((cfgA Ideal).win (6 : Fin 7)) t y (0 : Fin 2)
  have h4 : ((((cfgA Ideal).win (6 : Fin 7)).rect t).emb y (0 : Fin 2)).val = ((cfgA Ideal).win (6 : Fin 7)).index t (0 : Fin 2) * 512 + (y (0 : Fin 2)).val := h3
  rw [show ((cfgA Ideal).win (6 : Fin 7)).index t (0 : Fin 2) = rowN t.val from h] at h4
  have h5 : (y (0 : Fin 2)).val < 512 := (y (0 : Fin 2)).isLt
  have h6 : (i 0).val = ((((cfgA Ideal).win (6 : Fin 7)).rect t).emb y (0 : Fin 2)).val := by rw [← h2]
  omega

/-- No two write-backs meet. -/
theorem blk6_disjoint (t t' : Fin (cfgA Ideal).N) (hf : ((cfgA Ideal).win (6 : Fin 7)).flush t = true) (hf' : ((cfgA Ideal).win (6 : Fin 7)).flush t' = true) (hne : t ≠ t') :
    Disjoint (((cfgA Ideal).win (6 : Fin 7)).blk t).view.set (((cfgA Ideal).win (6 : Fin 7)).blk t').view.set := by
  rw [flush_at] at hf hf'
  refine Finset.disjoint_left.mpr fun i hi hi' => hne ?_
  have h1 := blk6_row t i hi
  have h2 := blk6_row t' i hi'
  exact Fin.ext (congrArg Fin.val (diag_inj ⟨t.val, lt_of_lt_of_eq t.isLt N_0⟩ ⟨t'.val, lt_of_lt_of_eq t'.isLt N_0⟩ (of_decide_eq_true hf) (of_decide_eq_true hf') (h1.symm.trans h2)))

/-- The array after the last grid point, in the rows of a diagonal point. -/
theorem arr_at (t : Fin (cfgA Ideal).N) (hd : colN t.val = rowN t.val) (r : Fin 512) (y : Fin 2048) :
    (dats m 0 c).arrAt (6 : Fin 7) (cfgA Ideal).N (ix2 (rowOf (rowT t) r) y : S4096x2048.Idx) = outB m c t (ix2 r y) := by
  have h := Pipeline.Dat.arrAt_emb_eq_flushed (dats m 0 c) (6 : Fin 7) blk6_disjoint t (by rw [flush_at]; exact decide_eq_true hd) (ix2 r y)
  refine (congrArg ((dats m 0 c).arrAt (6 : Fin 7) (cfgA Ideal).N) (emb_6 t r y).symm).trans (h.trans ?_)
  rw [cast_eq]
  unfold Pipeline.Dat.flushed
  rw [after_6]
  rfl

/-- The host operations after the kernel, of the array the grid points leave. -/
def lastA (x : FVec Ideal S4096x2048 .f32) : FVec Ideal S1x4096x8x192 .f32 :=
  extractStridedSlice S1x4096x8x192 ![0, 0, 0, 0] (shapeCast S1x4096x8x256 x shapeCasts_S4096x2048_S1x4096x8x256) slices_S1x4096x8x256_S1x4096x8x192_0_0_0_0

theorem last_at (x : FVec Ideal S4096x2048 .f32) (i : Fin 4096) (h : Fin 8) (d : Fin 192) : lastA x (ix4 0 i h d) = x (ix2 i (colP h ⟨d.val, by omega⟩)) := by
  pointwise [lastA]
  refine congrArg x ?_
  congr 1
  apply Fin.ext
  show h.val * 256 + d.val = 256 * h.val + d.val
  omega

theorem arr_inj : Function.Injective (Pipeline.arrRef spec0) := by
  have h : ∀ w w' : Fin 7, Pipeline.arrRef spec0 w = Pipeline.arrRef spec0 w' → w = w' := by decide
  exact fun w w' => h w w'

theorem end_eq : endOf m c main_v53 = lastA ((dats m 0 c).arrAt (6 : Fin 7) (cfgA Ideal).N) := by
  unfold endOf Pipeline.afterTail
  rw [show ([hostOps1 (F := Ideal)].flatten) = hostOps1 from rfl]
  after_reads_simp
  exact congrArg lastA (Pipeline.withArrays_arr (Pipeline.pin pcfgs (fun _ => adm Ideal) 0).spec arr_inj c (V0 m c) (fun w => (dats m 0 c).arrAt w (Pipeline.pin pcfgs (fun _ => adm Ideal) 0).N) (6 : Fin 7))

/-- The kernel's result at an index is the query gradient. -/
theorem end_at (R : Reals m c q k v g) (i : Fin 4096) (h : Fin 8) (d : Fin 192) : endOf m c main_v53 (ix4 0 i h d) = ((dq q k v g i h d : ℝ) : EReal) := by
  obtain ⟨n, hd, hr⟩ := diag_ex ⟨i.val / 512, by omega⟩
  have hr' : rowN n.val = i.val / 512 := hr
  have hn : n.val < (cfgA Ideal).N := lt_of_lt_of_eq n.isLt N_0.symm
  have hi : rowOf (rowT (F := Ideal) ⟨n.val, hn⟩) ⟨i.val % 512, by omega⟩ = i := Fin.ext (by show 512 * rowN n.val + i.val % 512 = i.val; omega)
  rw [end_eq, last_at]
  have h1 := arr_at m c ⟨n.val, hn⟩ hd ⟨i.val % 512, by omega⟩ (colP h ⟨d.val, by omega⟩)
  rw [hi] at h1
  refine h1.trans ?_
  rw [← emb_col, outB_at R ⟨n.val, hn⟩ h hd, hi]

end Cert.KernelIdeal.Gen

end
-- ==== Proof.DqFinite.lean ====
/- The precondition: every entry of the arguments is a real number. -/
module

public import proofs.«01_k».proof.Defs
public import proofs.«01_k».proof.Proof.Gen.Pre_finite
public import proofs.«01_k».proof.Proof.DqSpec
public import Idealize.ShloMosaic.Lib.ReduceAll
public import Idealize.ShloMosaic.Lib.Pointwise

@[expose] public section

set_option maxRecDepth 16384

noncomputable section

namespace Cert.Pre_finite.Gen

open Cert.Pre_finite Idealize.ShloMosaic

/-- A number whose size is less than infinity is real. -/
theorem real_of_lt {x : EReal} (h : max x (-x) < ⊤) : ((x.toReal : ℝ) : EReal) = x := by
  induction x using EReal.rec with
  | bot => exact absurd h (by simp)
  | top => exact absurd h (by simp)
  | coe x => rfl

/-- One argument's part of the predicate. -/
theorem all_real {s : Shape} {dims : Fin S_.rank → Fin s.rank} (hb : S_.BroadcastsInDim s dims) {axes : List (Fin s.rank)} (hr : s.ReducesTo axes S_) (x : FVec Ideal s .f32) (j : S_.Idx)
    (h : Host.reduce IntOp.andi (cmpf .olt (Host.absf x) (broadcastInDim s dims hb (constant S_ .f32 0x7F800000#32))) (constantI S_ 1 1#1) hr h_S_ j = 1#1) (i : s.Idx) :
    ((EReal.toReal (x i) : ℝ) : EReal) = x i := by
  have h1 := Host.reduce_andi_all _ _ hr h_S_ j h i
  refine real_of_lt ?_
  have h2 : BitVec.ofBool (decide (max (x i : EReal) (-(x i : EReal)) < Ideal.ofBits .f32 0x7F800000#32)) = 1#1 := h1
  rw [Cert.Dq.word_inf] at h2
  by_contra hn
  rw [decide_eq_false hn] at h2
  exact absurd h2 (by decide)

/-- The predicate says that every entry is real. -/
theorem fn_real (q k : FVec Ideal S1x4096x8x192 .f32) (v g : FVec Ideal S1x4096x8x128 .f32) (h : Cert.Pre_finite.fn (F := Ideal) q k v g = (fun _ => 1#1)) :
    (∀ i, ((EReal.toReal (q i) : ℝ) : EReal) = q i) ∧ (∀ i, ((EReal.toReal (k i) : ℝ) : EReal) = k i) ∧ (∀ i, ((EReal.toReal (v i) : ℝ) : EReal) = v i) ∧ (∀ i, ((EReal.toReal (g i) : ℝ) : EReal) = g i) := by
  have h0 := congrFun h (Shape.Idx.first h_S_)
  have split : ∀ a b : BitVec 1, IntOp.andi a b = 1#1 → a = 1#1 ∧ b = 1#1 := by decide
  obtain ⟨h3, hg⟩ := split _ _ h0
  obtain ⟨h2, hv⟩ := split _ _ h3
  obtain ⟨hq, hk⟩ := split _ _ h2
  exact ⟨all_real _ _ q _ hq, all_real _ _ k _ hk, all_real _ _ v _ hv, all_real _ _ g _ hg⟩

end Cert.Pre_finite.Gen

end
-- ==== Proof.DqRef.lean ====
/- What the reference computes: its composed term, read at an index, is the real query gradient. -/
module

public import proofs.«01_k».proof.Proof.Gen.ReferenceIdeal.Run
public import proofs.«01_k».proof.Proof.DqSpec
public import Idealize.ShloMosaic.Lib.Pointwise

@[expose] public section

set_option maxRecDepth 16384
set_option Elab.async false

noncomputable section

namespace Cert.ReferenceIdeal.Value

open Cert.ReferenceIdeal Cert.ReferenceIdeal.Gen Idealize.ShloMosaic Idealize.ShloMosaic.TcCoe Idealize.SL.Sem

/-- The chunk of each row. -/
def chunkA : IVec S4096 32 :=
  select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32))))

/-- The mask. -/
def maskA : IVec S1x8x4096x4096 1 :=
  broadcastInDim S1x8x4096x4096 ![0, 1, 2, 3] bcast_S1x1x4096x4096_S1x8x4096x4096_0_1_2_3 (broadcastInDim S1x1x4096x4096 ![2, 3] bcast_S4096x4096_S1x1x4096x4096_2_3 (cmpi .sle (broadcastInDim S4096x4096 ![0, 1] bcast_S1x4096_S4096x4096_0_1 (broadcastInDim S1x4096 ![1] bcast_S4096_S1x4096_1 chunkA)) (broadcastInDim S4096x4096 ![0, 1] bcast_S4096x1_S4096x4096_0_1 (broadcastInDim S4096x1 ![0] bcast_S4096_S4096x1_0 chunkA))))

/-- The scale. -/
def scaleA : FVec Ideal S_ .f32 := Host.divf (constant S_ .f32 0x3F800000#32) (Host.sqrt (constant S_ .f32 0x43400000#32))

variable (q k : FVec Ideal S1x4096x8x192 .f32) (v g : FVec Ideal S1x4096x8x128 .f32)

/-- The masked scores. -/
def scoreA : FVec Ideal S1x8x4096x4096 .f32 :=
  select maskA (mulf (Host.dotGeneral dot_S1x4096x8x192_S1x4096x8x192_S1x8x4096x4096_3_3_1_1_02_02 none q k) (broadcastInDim S1x8x4096x4096 ![] bcast_S_S1x8x4096x4096 scaleA)) (broadcastInDim S1x8x4096x4096 ![] bcast_S_S1x8x4096x4096 (id (constant S_ .f32 0xFF800000#32)))

/-- The rows' maxima. -/
def maxA : FVec Ideal S1x8x4096 .f32 :=
  maximumf (broadcastInDim S1x8x4096 ![] bcast_S_S1x8x4096 (constant S_ .f32 0xFF800000#32)) (Host.reduce FloatOps.maximumf (scoreA q k) (constant S_ .f32 0xFF800000#32) reducesTo_S1x8x4096x4096_S1x8x4096_d3 h_S_)

/-- The exponentials. -/
def expA : FVec Ideal S1x8x4096x4096 .f32 :=
  Host.exp (subf (scoreA q k) (broadcastInDim S1x8x4096x4096 ![0, 1, 2, 3] bcast_S1x8x4096x1_S1x8x4096x4096_0_1_2_3 (broadcastInDim S1x8x4096x1 ![0, 1, 2] bcast_S1x8x4096_S1x8x4096x1_0_1_2 (maxA q k))))

/-- The rows' sums. -/
def totA : FVec Ideal S1x8x4096x1 .f32 :=
  broadcastInDim S1x8x4096x1 ![0, 1, 2] bcast_S1x8x4096_S1x8x4096x1_0_1_2 (Host.reduceAdd (expA q k) (constant S_ .f32 0x00000000#32) reducesTo_S1x8x4096x4096_S1x8x4096_d3 h_S_)

/-- The gradients at the probabilities. -/
def dpA : FVec Ideal S1x8x4096x4096 .f32 :=
  Host.dotGeneral dot_S1x8x128x4096_S1x4096x8x128_S1x8x4096x4096_2_3_3_1_01_02 none (transpose S1x8x128x4096 [0, 2, 3, 1] g transposes_S1x4096x8x128_S1x8x128x4096_0_2_3_1) v

/-- The row's part of the gradient at an exponential. -/
def rowA : FVec Ideal S1x8x4096x1 .f32 :=
  Host.negf (shapeCast S1x8x4096x1 (Host.reduceAdd (mulf (mulf (dpA v g) (broadcastInDim S1x8x4096x4096 ![0, 1, 2, 3] bcast_S1x8x4096x1_S1x8x4096x4096_0_1_2_3 (Host.divf (broadcastInDim S1x8x4096x1 ![] bcast_S_S1x8x4096x1 (constant S_ .f32 0x3F800000#32)) (mulf (totA q k) (totA q k))))) (expA q k)) (constant S_ .f32 0x00000000#32) reducesTo_S1x8x4096x4096_S1x8x4096_d3 h_S_) shapeCasts_S1x8x4096_S1x8x4096x1)

/-- The gradient at a score, scaled. -/
def dsA : FVec Ideal S1x8x4096x4096 .f32 :=
  mulf (select maskA (mulf (addf (Host.divf (dpA v g) (broadcastInDim S1x8x4096x4096 ![0, 1, 2, 3] bcast_S1x8x4096x1_S1x8x4096x4096_0_1_2_3 (totA q k))) (broadcastInDim S1x8x4096x4096 ![0, 1, 2] bcast_S1x8x4096_S1x8x4096x4096_0_1_2 (broadcastInDim S1x8x4096 ![1, 2] bcast_S8x4096_S1x8x4096_1_2 (Host.reduceAdd (rowA q k v g) (constant S_ .f32 0x00000000#32) reducesTo_S1x8x4096x1_S8x4096_d0_3 h_S_)))) (expA q k)) (broadcastInDim S1x8x4096x4096 ![] bcast_S_S1x8x4096x4096 (constant S_ .f32 0x00000000#32))) (broadcastInDim S1x8x4096x4096 ![] bcast_S_S1x8x4096x4096 scaleA)

/-- The result. -/
def resA : FVec Ideal S1x4096x8x192 .f32 :=
  transpose S1x4096x8x192 [0, 2, 1, 3] (Host.dotGeneral dot_S1x8x4096x4096_S1x4096x8x192_S1x8x4096x192_3_1_2_3_01_02 none (dsA q k v g) k) transposes_S1x8x4096x192_S1x4096x8x192_0_2_1_3

set_option maxHeartbeats 2000000 in
/-- The reference's term is that. -/
theorem res_eq (m : (ℓ : Loc nD τ sig) → Buf (Elt Ideal) ℓ) (c : Dev nD) :
    res_main_v67 m c = resA (m ((c.tc : Thread nD τ).loc main_arg0)) (m ((c.tc : Thread nD τ).loc main_arg1)) (m ((c.tc : Thread nD τ).loc main_arg2)) (m ((c.tc : Thread nD τ).loc main_arg3)) := by
  unfold res_main_v67 resA dsA rowA dpA totA expA maxA scoreA scaleA maskA chunkA
  rfl

open Cert.Dq

theorem chunk_at (i : Fin 4096) : chunkA (ix1 i) = BitVec.ofNat 32 (i.val / 64) := by
  pointwise [chunkA]
  revert i
  decide +kernel

theorem mask_at (h : Fin 8) (i j : Fin 4096) : maskA (ix4 0 h i j) = BitVec.ofBool (decide (Ok i j)) := by
  pointwise [maskA]
  rw [chunk_at, chunk_at]
  exact chunk_words ⟨j.val / 64, by omega⟩ ⟨i.val / 64, by omega⟩

theorem scale_at (i : S_.Idx) : scaleA i = ((scl : ℝ) : EReal) := by
  pointwise [scaleA]
  rw [word_192]; exact scale_word

/-- A sum over two axes of one entry each is the entry. -/
theorem unit_sum (hr : S1x8x4096x1.ReducesTo [0, 3] S8x4096) (x : S1x8x4096x1.Idx → EReal) (a : Fin 8) (b : Fin 4096) :
    Ideal.hostReduceAdd hr x 0 (ix2 a b) = x (ix4 0 a b 0) := by
  unfold Ideal.hostReduceAdd
  rw [zero_add]
  refine Finset.sum_eq_single_of_mem _ ?_ ?_
  · rw [Finset.mem_filter]; refine ⟨Finset.mem_univ _, ?_⟩
    funext t; apply Fin.ext
    match t with
    | ⟨0, _⟩ => exact hr.drop_apply_val_of_eq _ 0 1
    | ⟨1, _⟩ => exact hr.drop_apply_val_of_eq _ 1 2
  · intro i hi hne
    rw [Finset.mem_filter] at hi
    have h1 := hr.drop_apply_val_of_eq i 0 1
    have h2 := hr.drop_apply_val_of_eq i 1 2
    rw [hi.2] at h1 h2
    refine absurd ?_ hne
    rw [eq_ix4 i]
    refine (ix4_inj _ _ _ _ _ _ _ _).mpr ⟨Subsingleton.elim _ _, Fin.ext h1.symm, Fin.ext h2.symm, Subsingleton.elim _ _⟩

variable {q k v g} {q' k' : Cert.Dq.Arr 192} {v' g' : Cert.Dq.Arr 128}
  (hq : ∀ i h d, q (ix4 0 i h d) = ((q' i h d : ℝ) : EReal)) (hk : ∀ i h d, k (ix4 0 i h d) = ((k' i h d : ℝ) : EReal))
  (hv : ∀ i h d, v (ix4 0 i h d) = ((v' i h d : ℝ) : EReal)) (hg : ∀ i h d, g (ix4 0 i h d) = ((g' i h d : ℝ) : EReal))

include hq hk in
theorem score_at (h : Fin 8) (i j : Fin 4096) : scoreA q k (ix4 0 h i j) = score q' k' h i j := by
  pointwise [scoreA]
  rw [mask_at, scale_at]
  simp only [hq, hk, ← EReal.coe_mul, coe_sum]
  unfold score
  by_cases hm : Ok i j
  · rw [if_pos hm, decide_eq_true hm]; rfl
  · rw [if_neg hm, decide_eq_false hm]; exact word_neg_inf

/-- The maximum over the last axis as a fold. -/
theorem max_fold (hr : S1x8x4096x4096.ReducesTo [3] S1x8x4096) (hr' : S1x8x4096x4096.Reduces [3] S1x8x4096) (x : FVec Ideal S1x8x4096x4096 .f32) (z : FVec Ideal S_ .f32)
    (h : Fin 8) (i : Fin 4096) : Host.reduce FloatOps.maximumf x z hr h_S_ (ix3 0 h i)
      = Finset.univ.fold max (z (Shape.Idx.first h_S_)) (fun j : Fin 4096 => x (ix4 0 h i j)) := by
  refine (Host.reduce_eq_fold_single _ x z hr hr' h_S_ (ix3 0 h i)).trans ?_
  refine congrArg (fun f => Finset.fold max (z (Shape.Idx.first h_S_)) f (Finset.univ : Finset (Fin 4096))) ?_
  funext j
  refine congrArg x ?_
  funext t; apply Fin.ext
  match t with
  | ⟨0, _⟩ => rfl
  | ⟨1, _⟩ => rfl
  | ⟨2, _⟩ => rfl
  | ⟨3, _⟩ => rfl

theorem reduces_last : S1x8x4096x4096.Reduces [3] S1x8x4096 := by decide

theorem max_split (b x : FVec Ideal S1x8x4096 .f32) (i : S1x8x4096.Idx) : maximumf b x i = max (b i) (x i) := rfl

theorem neg_inf_first : (constant (F := Ideal) S_ .f32 0xFF800000#32) (Shape.Idx.first h_S_) = (⊥ : EReal) := word_neg_inf

theorem neg_inf_bcast (i : S1x8x4096.Idx) :
    (broadcastInDim S1x8x4096 ![] bcast_S_S1x8x4096 (constant (F := Ideal) S_ .f32 0xFF800000#32)) i = (⊥ : EReal) := word_neg_inf

include hq hk in
theorem max_at (h : Fin 8) (i : Fin 4096) : ∃ μ : ℝ, maxA q k (ix3 0 h i) = (μ : EReal) := by
  obtain ⟨μ, hμ⟩ := score_max q' k' h i
  refine ⟨μ, ?_⟩
  have hmax : maxA q k (ix3 0 h i) = max (⊥ : EReal) (Finset.univ.fold max (⊥ : EReal) (fun j : Fin 4096 => scoreA q k (ix4 0 h i j))) := by
    unfold maxA
    rw [max_split, max_fold _ reduces_last, neg_inf_first, neg_inf_bcast]
  rw [hmax, funext fun j => score_at hq hk h i j, hμ]
  exact max_eq_right bot_le

include hv hg in
theorem dp_at (h : Fin 8) (i j : Fin 4096) : dpA v g (ix4 0 h i j) = ((dpr v' g' h i j : ℝ) : EReal) := by
  pointwise [dpA]
  simp only [hv, hg, ← EReal.coe_mul, coe_sum]
  rfl

include hq hk in
theorem exp_at (h : Fin 8) (i : Fin 4096) : ∃ μ : ℝ, ∀ j, expA q k (ix4 0 h i j) = ((wt q' k' μ h i j : ℝ) : EReal) := by
  obtain ⟨μ, hμ⟩ := max_at hq hk h i
  refine ⟨μ, fun j => ?_⟩
  pointwise [expA]
  rw [score_at hq hk, hμ, exp_score]

theorem tot_at {μ : ℝ} (h : Fin 8) (i : Fin 4096) (he : ∀ j, expA q k (ix4 0 h i j) = ((wt q' k' μ h i j : ℝ) : EReal)) :
    totA q k (ix4 0 h i 0) = ((tot q' k' μ h i : ℝ) : EReal) := by
  pointwise [totA]
  simp only [he, coe_sum]
  rfl

include hv hg in
theorem row_at {μ : ℝ} (h : Fin 8) (i : Fin 4096) (he : ∀ j, expA q k (ix4 0 h i j) = ((wt q' k' μ h i j : ℝ) : EReal)) :
    rowA q k v g (ix4 0 h i 0) = ((-(dlt q' k' v' g' h i / tot q' k' μ h i) : ℝ) : EReal) := by
  pointwise [rowA]
  have hp := (tot_pos q' k' μ h i).ne'
  simp only [tot_at h i he, he, dp_at hv hg, ← EReal.coe_mul]
  rw [show (1 : EReal) = ((1 : ℝ) : EReal) from rfl, div_coe _ _ (mul_ne_zero hp hp)]
  simp only [← EReal.coe_mul, coe_sum, ← EReal.coe_neg]
  congr 2
  unfold dlt
  rw [Finset.sum_div]
  refine Finset.sum_congr rfl fun j _ => ?_
  rw [← wt_div_tot q' k' μ h i j]
  field_simp

include hq hk hv hg in
theorem ds_at (h : Fin 8) (i j : Fin 4096) :
    dsA q k v g (ix4 0 h i j) = ((prob q' k' h i j * (dpr v' g' h i j - dlt q' k' v' g' h i) * scl : ℝ) : EReal) := by
  obtain ⟨μ, he⟩ := exp_at hq hk h i
  pointwise [dsA]
  have hp := (tot_pos q' k' μ h i).ne'
  rw [mask_at, unit_sum, row_at hv hg h i he, tot_at h i he, dp_at hv hg, he, scale_at, div_coe _ _ hp]
  simp only [← EReal.coe_mul, ← EReal.coe_add]
  by_cases hm : Ok i j
  · rw [decide_eq_true hm]
    show ((_ : ℝ) : EReal) = _
    congr 2
    rw [← wt_div_tot q' k' μ h i j]
    field_simp
    ring
  · rw [decide_eq_false hm]
    show (0 : EReal) = _
    rw [prob_masked q' k' h i j hm]; simp

include hq hk hv hg in
/-- The reference at an index. -/
theorem res_at (i : Fin 4096) (h : Fin 8) (d : Fin 192) : resA q k v g (ix4 0 i h d) = ((dq q' k' v' g' i h d : ℝ) : EReal) := by
  pointwise [resA]
  simp only [ds_at hq hk hv hg, hk, ← EReal.coe_mul, coe_sum]
  rfl

end Cert.ReferenceIdeal.Value

end
-- ==== Proof.DqValue.lean ====
/- The value of the backward pass for the queries' gradient: the idealized kernel and the idealized reference end with the same result. -/
module

public import proofs.«01_k».proof.Proof.DqEnd
public import proofs.«01_k».proof.Proof.DqFinite
public import proofs.«01_k».proof.Proof.DqRef

@[expose] public section

set_option maxRecDepth 16384

noncomputable section

namespace Cert.Proof

open Idealize.ShloMosaic Idealize.SL.Sem

section
variable (m : (ℓ : Loc Cert.KernelIdeal.nD Cert.KernelIdeal.τ Cert.KernelIdeal.sig) → Buf (Elt Ideal) ℓ) (hm : Cert.Pre_KernelIdeal m) (c : Dev Cert.KernelIdeal.nD)

/-- An argument's entries as real numbers. -/
def realOf {n : ℕ} (x : (⟨4, ![1, 4096, 8, n]⟩ : Shape).Idx → EReal) : Cert.Dq.Arr n := fun i h d => EReal.toReal (x (ix4 0 i h d))

include hm in
/-- The precondition makes the arguments real. -/
theorem reals : Cert.KernelIdeal.Gen.Reals m c
    (realOf (m ((c.tc : Thread Cert.KernelIdeal.nD Cert.KernelIdeal.τ).loc Cert.KernelIdeal.main_arg0))) (realOf (m ((c.tc : Thread Cert.KernelIdeal.nD Cert.KernelIdeal.τ).loc Cert.KernelIdeal.main_arg1)))
    (realOf (m ((c.tc : Thread Cert.KernelIdeal.nD Cert.KernelIdeal.τ).loc Cert.KernelIdeal.main_arg2))) (realOf (m ((c.tc : Thread Cert.KernelIdeal.nD Cert.KernelIdeal.τ).loc Cert.KernelIdeal.main_arg3))) := by
  obtain ⟨h0, h1, h2, h3⟩ := Cert.Pre_finite.Gen.fn_real _ _ _ _ (hm c)
  exact ⟨fun i h d => (h0 _).symm, fun i h d => (h1 _).symm, fun i h d => (h2 _).symm, fun i h d => (h3 _).symm⟩

include hm in
/-- The kernel's result is the reference's. -/
theorem same : Cert.KernelIdeal.Gen.endOf m c Cert.KernelIdeal.main_v53 = Cert.ReferenceIdeal.Value.resA
    (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  have R := reals m hm c
  funext i
  obtain ⟨a, b, e, d, rfl⟩ : ∃ (a : Fin 1) (b : Fin 4096) (e : Fin 8) (d : Fin 192), i = ix4 a b e d := ⟨_, _, _, _, eq_ix4 i⟩
  obtain rfl : a = 0 := Subsingleton.elim _ _
  exact (Cert.KernelIdeal.Gen.end_at m c R b e d).trans (Cert.ReferenceIdeal.Value.res_at R.q_at R.k_at R.v_at R.g_at b e d).symm
end

/-- From memories whose arguments agree and are finite, the idealized kernel and the idealized reference both end with one result array,
    their arguments unchanged. -/
theorem algebraic : Cert.algebraic_KernelIdeal_ReferenceIdeal := fun m ρ m' ρ' hm heq =>
  ⟨fun c => Cert.KernelIdeal.Gen.endOf m c Cert.KernelIdeal.main_v53,
   (θ_run (Cert.KernelIdeal.defs (F := Ideal)) _ _).mono (fun _ h c => ⟨h.2 c, h.1.1 c⟩) (Cert.KernelIdeal.Gen.run_main (F := Ideal) m ρ),
   (θ_run (Cert.ReferenceIdeal.defs (F := Ideal)) _ _).mono (fun _ h c => ⟨(h c).1.trans (by
      rw [Cert.ReferenceIdeal.Value.res_eq]
      refine Eq.trans ?_ (same m hm c).symm
      rw [(heq c).1, (heq c).2.1, (heq c).2.2.1, (heq c).2.2.2]), (h c).2⟩)
     (Cert.ReferenceIdeal.Value.run (F := Ideal) m' ρ')⟩

end Cert.Proof

end
-- ==== Proof.FfnSum.lean ====
/- Sums over the FFN's hidden columns and over its rows, taken shard by shard and tile by tile. -/
module

public import Idealize.ShloMosaic.PureOps.Ideal
public import Idealize.ShloMosaic.Lib.Pointwise

@[expose] public section

namespace Cert.Ffn

/-- Column `k` of shard `j`. -/
abbrev colOf (j : Fin 4) (k : Fin 704) : Fin 2816 := ⟨704 * j.val + k.val, by omega⟩

/-- Row `r` of the `i`-th quarter of the rows. -/
abbrev quarter (i : Fin 4) (r : Fin 1024) : Fin 4096 := ⟨1024 * i.val + r.val, by omega⟩

/-- Row `r` of the `i`-th half of the rows. -/
abbrev half (i : Fin 2) (r : Fin 2048) : Fin 4096 := ⟨2048 * i.val + r.val, by omega⟩

/-- A sum over the columns is the sum over the shards of the sums over their columns. -/
theorem sum_shards (f : Fin 2816 → EReal) : ∑ p, f p = ∑ j : Fin 4, ∑ k : Fin 704, f (colOf j k) := by
  rw [← Fintype.sum_prod_type']
  refine (Fintype.sum_equiv (finProdFinEquiv (m := 4) (n := 704)) _ _ fun x => congrArg f (Fin.ext ?_)).symm
  show 704 * x.1.val + x.2.val = x.2.val + 704 * x.1.val
  omega

/-- A sum over the rows is the sum over the two halves of the sums over their rows. -/
theorem sum_halves (f : Fin 4096 → EReal) : ∑ p, f p = (∑ k : Fin 2048, f (half 0 k)) + ∑ k : Fin 2048, f (half 1 k) := by
  rw [← Fin.sum_univ_two (fun j : Fin 2 => ∑ k : Fin 2048, f (half j k)), ← Fintype.sum_prod_type']
  refine (Fintype.sum_equiv (finProdFinEquiv (m := 2) (n := 2048)) _ _ fun x => congrArg f (Fin.ext ?_)).symm
  show 2048 * x.1.val + x.2.val = x.2.val + 2048 * x.1.val
  omega

/-- Every column lies in a shard. -/
theorem col_split (n : Fin 2816) : ∃ j k, n = colOf j k :=
  ⟨⟨n.val / 704, by omega⟩, ⟨n.val % 704, by omega⟩, Fin.ext (by show n.val = 704 * (n.val / 704) + n.val % 704; omega)⟩

/-- Every row lies in a quarter. -/
theorem row_split (n : Fin 4096) : ∃ i r, n = quarter i r :=
  ⟨⟨n.val / 1024, by omega⟩, ⟨n.val % 1024, by omega⟩, Fin.ext (by show n.val = 1024 * (n.val / 1024) + n.val % 1024; omega)⟩

open Idealize.ShloMosaic

/-- An index of a matrix is a pair. -/
theorem ix2_ex {a b : ℕ} (y : (⟨2, ![a, b]⟩ : Shape).Idx) : ∃ (n : Fin a) (s : Fin b), y = ix2 n s :=
  ⟨y 0, y 1, by funext x; match x with | ⟨0, _⟩ => rfl | ⟨1, _⟩ => rfl⟩

/-- An index of a rank-three array is a triple. -/
theorem ix3_ex {a b d : ℕ} (y : (⟨3, ![a, b, d]⟩ : Shape).Idx) : ∃ (n : Fin a) (s : Fin b) (t : Fin d), y = ix3 n s t :=
  ⟨y 0, y 1, y 2, by funext x; match x with | ⟨0, _⟩ => rfl | ⟨1, _⟩ => rfl | ⟨2, _⟩ => rfl⟩

/-- A pair is known by its coordinates. -/
theorem ix2_eq {a b : ℕ} {y : (⟨2, ![a, b]⟩ : Shape).Idx} {n : Fin a} {s : Fin b} (h0 : (y 0).val = n.val) (h1 : (y 1).val = s.val) : y = ix2 n s := by
  funext x; apply Fin.ext
  match x with | ⟨0, _⟩ => exact h0 | ⟨1, _⟩ => exact h1

/-- A triple is known by its coordinates. -/
theorem ix3_eq {a b d : ℕ} {y : (⟨3, ![a, b, d]⟩ : Shape).Idx} {n : Fin a} {s : Fin b} {t : Fin d} (h0 : (y 0).val = n.val) (h1 : (y 1).val = s.val) (h2 : (y 2).val = t.val) : y = ix3 n s t := by
  funext x; apply Fin.ext
  match x with | ⟨0, _⟩ => exact h0 | ⟨1, _⟩ => exact h1 | ⟨2, _⟩ => exact h2

end Cert.Ffn

end
-- ==== Proof.Sigmoid.lean ====
/- The logistic function: the kernel's form of it, by the hyperbolic tangent, and the reference's, by the exponential, agree at every extended real. -/
module

public import proofs.«01_k».proof.Proof.FfnSum

@[expose] public section

noncomputable section

namespace Cert.Ffn

open Idealize.ShloMosaic

/-- The number one half, as its bits spell it. -/
theorem half_bits : Ideal.ofBits .f32 0x3F000000#32 = ((1 / 2 : ℝ) : EReal) := by
  simp [Ideal.ofBits, Ideal.ieee, -EReal.coe_mul]; norm_num

/-- On the reals. -/
theorem sigmoid_real (x : ℝ) : 1 / 2 * Real.tanh (1 / 2 * x) + 1 / 2 = (1 + Real.exp (-x))⁻¹ := by
  rw [Real.tanh_eq_sinh_div_cosh, Real.sinh_eq, Real.cosh_eq]
  have h1 : Real.exp (-x) = Real.exp (-(1 / 2 * x)) * Real.exp (-(1 / 2 * x)) := by rw [← Real.exp_add]; congr 1; ring
  have h2 : Real.exp (1 / 2 * x) * Real.exp (-(1 / 2 * x)) = 1 := by rw [← Real.exp_add]; simp
  rw [h1]
  have p := Real.exp_pos (1 / 2 * x)
  have q := Real.exp_pos (-(1 / 2 * x))
  generalize Real.exp (1 / 2 * x) = a at *
  generalize Real.exp (-(1 / 2 * x)) = b at *
  have ha : a = b⁻¹ := eq_inv_of_mul_eq_one_left h2
  subst ha
  have : (1 + b * b : ℝ) ≠ 0 := by positivity
  field_simp
  ring

/-- At every extended real. -/
theorem sigmoid (x : EReal) : ((1 / 2 : ℝ) : EReal) * Ideal.tanh (((1 / 2 : ℝ) : EReal) * x) + ((1 / 2 : ℝ) : EReal) = Ideal.div 1 (1 + Ideal.exp (-x)) := by
  show _ = Ideal.logistic x
  induction x with
  | bot => rw [EReal.coe_mul_bot_of_pos (by norm_num), Ideal.tanh_bot, Ideal.logistic_bot, mul_neg, mul_one, ← EReal.coe_neg, ← EReal.coe_add]; norm_num
  | top => rw [EReal.coe_mul_top_of_pos (by norm_num), Ideal.tanh_top, Ideal.logistic_top]; norm_cast; norm_num
  | coe x => rw [← EReal.coe_mul, Ideal.tanh_coe, Ideal.logistic_coe, ← sigmoid_real]; norm_cast

end Cert.Ffn

end
-- ==== Proof.UpValue.lean ====
/- The forward products of the FFN and their gated product: kernel and reference agree. -/
module

public import proofs.«01_k».proof.Proof.Gen.UpIdeal.Value
public import proofs.«01_k».proof.Proof.Gen.UpReferenceIdeal.Run
public import proofs.«01_k».proof.Proof.Sigmoid
public import proofs.«01_k».proof.Defs
public import Idealize.ShloMosaic.Lib.Pointwise
public import Idealize.ShloMosaic.Lib.StableHlo.RunRead

@[expose] public section

set_option maxRecDepth 16384
set_option Elab.async false

noncomputable section

namespace Cert.UpIdeal.Host0

open Cert.UpIdeal Cert.UpIdeal.Gen Idealize.ShloMosaic Idealize.ShloMosaic.TcCoe Idealize.ShloMosaic.Tactic Idealize.SL.Sem
open Cert.Ffn
open Cert.UpReferenceIdeal (S4096x2816)

theorem zero2 : (![0, 0] : Fin 2 → Nat) = fun _ => 0 := funext fun a => by fin_cases a <;> rfl
theorem zero3 : (![0, 0, 0] : Fin 3 → Nat) = fun _ => 0 := funext fun a => by fin_cases a <;> rfl

/-- The input in the kernel's type. -/
def castA (h : FVec Ideal S4096x1024 .f32) : FVec Ideal S4096x1024 .bf16 := truncf .bf16 h bitsLt_bf16_f32

/-- A weight in column shards. -/
def shardW (x : FVec Ideal S1024x2816 .f32) : FVec Ideal S4x1024x704 .bf16 :=
  truncf .bf16 (transpose S4x1024x704 [1, 0, 2] (shapeCast _ x shapeCasts_S1024x2816_S1024x4x704) transposes_S1024x4x704_S4x1024x704_1_0_2) bitsLt_bf16_f32

theorem shardW_at (x : FVec Ideal S1024x2816 .f32) (j : Fin 4) (r : Fin 1024) (k : Fin 704) : shardW x (ix3 j r k) = x (ix2 r (colOf j k)) := by
  pointwise [shardW]
  congr 2
  exact Fin.ext (by show j.val * 704 + k.val = 704 * j.val + k.val; omega)

/-- What a grid point stores in each output block. -/
theorem out3 (x0 : Vec Ideal S1024x1024 .bf16) (x1 x2 : Vec Ideal S1x1024x704 .bf16) : out0_3 x0 x1 x2 = k0_pay4 x0 x1 := by
  unfold out0_3
  rw [View.canon_unit_zero zero3]
  simp only [View.ld_unit_zero (S := S1024x1024) zero2, View.ld_unit_zero (S := S1x1024x704) zero3]

theorem out4 (x0 : Vec Ideal S1024x1024 .bf16) (x1 x2 : Vec Ideal S1x1024x704 .bf16) : out0_4 x0 x1 x2 = k0_pay5 x0 x2 := by
  unfold out0_4
  rw [View.canon_unit_zero zero3]
  simp only [View.ld_unit_zero (S := S1024x1024) zero2, View.ld_unit_zero (S := S1x1024x704) zero3]

theorem out5 (x0 : Vec Ideal S1024x1024 .bf16) (x1 x2 : Vec Ideal S1x1024x704 .bf16) : out0_5 x0 x1 x2 = k0_pay6 x0 x1 x2 := by
  unfold out0_5
  rw [View.canon_unit_zero zero3]
  simp only [View.ld_unit_zero (S := S1024x1024) zero2, View.ld_unit_zero (S := S1x1024x704) zero3]

/-- The two products of a grid point. -/
theorem pay2_at (h : Vec Ideal S1024x1024 .bf16) (w : Vec Ideal S1x1024x704 .bf16) (r : Fin 1024) (k : Fin 704) :
    k0_pay2 h w (ix2 r k) = ∑ p : Fin 1024, h (ix2 r p) * w (ix3 0 p k) := by
  pointwise [k0_pay2, k0_pay1]

theorem pay3_at (h : Vec Ideal S1024x1024 .bf16) (w : Vec Ideal S1x1024x704 .bf16) (r : Fin 1024) (k : Fin 704) :
    k0_pay3 h w (ix2 r k) = ∑ p : Fin 1024, h (ix2 r p) * w (ix3 0 p k) := by
  pointwise [k0_pay3, k0_pay1]

theorem pay4_at (h : Vec Ideal S1024x1024 .bf16) (w : Vec Ideal S1x1024x704 .bf16) (r : Fin 1024) (k : Fin 704) :
    k0_pay4 h w (ix3 0 r k) = ∑ p : Fin 1024, h (ix2 r p) * w (ix3 0 p k) := by
  rw [← pay2_at]
  pointwise [k0_pay4]

theorem pay5_at (h : Vec Ideal S1024x1024 .bf16) (w : Vec Ideal S1x1024x704 .bf16) (r : Fin 1024) (k : Fin 704) :
    k0_pay5 h w (ix3 0 r k) = ∑ p : Fin 1024, h (ix2 r p) * w (ix3 0 p k) := by
  rw [← pay3_at]
  pointwise [k0_pay5]

/-- The gated product of two extended reals. -/
def gate (a b : EReal) : EReal := a * Ideal.div 1 (1 + Ideal.exp (-a)) * b

theorem pay6_at (h : Vec Ideal S1024x1024 .bf16) (w u : Vec Ideal S1x1024x704 .bf16) (r : Fin 1024) (k : Fin 704) :
    k0_pay6 h w u (ix3 0 r k) = gate (∑ p : Fin 1024, h (ix2 r p) * w (ix3 0 p k)) (∑ p : Fin 1024, h (ix2 r p) * u (ix3 0 p k)) := by
  rw [← pay2_at, ← pay3_at, gate, ← sigmoid]
  pointwise [k0_pay6, half_bits]

/-- The reference's arrays. -/
def upA (h : FVec Ideal S4096x1024 .f32) (w : FVec Ideal S1024x2816 .f32) : FVec Ideal S4096x2816 .f32 :=
  Host.dotGeneral Cert.UpReferenceIdeal.dot_S4096x1024_S1024x2816_S4096x2816_1_0_0_1_n_n none h w

def sigA (x : FVec Ideal S4096x2816 .f32) : FVec Ideal S4096x2816 .f32 :=
  Host.divf (broadcastInDim S4096x2816 ![] Cert.UpReferenceIdeal.Gen.bcast_S_S4096x2816 (constant Cert.UpReferenceIdeal.S_ .f32 0x3F800000#32)) (addf (broadcastInDim S4096x2816 ![] Cert.UpReferenceIdeal.Gen.bcast_S_S4096x2816 (constant Cert.UpReferenceIdeal.S_ .f32 0x3F800000#32)) (Host.exp (Host.negf x)))

def gateA (a b : FVec Ideal S4096x2816 .f32) : FVec Ideal S4096x2816 .f32 := mulf (mulf a (sigA a)) b

/-- An array laid out by column shards. -/
def shardA (x : FVec Ideal S4096x2816 .f32) : FVec Ideal S4x4096x704 .bf16 :=
  truncf .bf16 (transpose S4x4096x704 [1, 0, 2] (shapeCast _ x Cert.UpReferenceIdeal.Gen.shapeCasts_S4096x2816_S4096x4x704) Cert.UpReferenceIdeal.Gen.transposes_S4096x4x704_S4x4096x704_1_0_2) bitsLt_bf16_f32

theorem shardA_at (x : FVec Ideal S4096x2816 .f32) (j : Fin 4) (r : Fin 4096) (k : Fin 704) : shardA x (ix3 j r k) = x (ix2 r (colOf j k)) := by
  pointwise [shardA]
  congr 2
  exact Fin.ext (by show j.val * 704 + k.val = 704 * j.val + k.val; omega)

theorem upA_at (h : FVec Ideal S4096x1024 .f32) (w : FVec Ideal S1024x2816 .f32) (r : Fin 4096) (n : Fin 2816) :
    upA h w (ix2 r n) = ∑ p : Fin 1024, h (ix2 r p) * w (ix2 p n) := by
  pointwise [upA]

theorem gateA_at (a b : FVec Ideal S4096x2816 .f32) (r : Fin 4096) (n : Fin 2816) : gateA a b (ix2 r n) = gate (a (ix2 r n)) (b (ix2 r n)) := by
  pointwise [gateA, sigA, gate]

/-- Where each window's block lies at grid point `t`. -/
theorem places : ∀ t : Fin cfg0.N,
    (win0_0.index t (0 : Fin 2) = t.val % 4 ∧ win0_0.index t (1 : Fin 2) = 0)
    ∧ (win0_1.index t (0 : Fin 3) = t.val / 4 ∧ win0_1.index t (1 : Fin 3) = 0 ∧ win0_1.index t (2 : Fin 3) = 0)
    ∧ (win0_2.index t (0 : Fin 3) = t.val / 4 ∧ win0_2.index t (1 : Fin 3) = 0 ∧ win0_2.index t (2 : Fin 3) = 0)
    ∧ (win0_3.index t (0 : Fin 3) = t.val / 4 ∧ win0_3.index t (1 : Fin 3) = t.val % 4 ∧ win0_3.index t (2 : Fin 3) = 0)
    ∧ (win0_4.index t (0 : Fin 3) = t.val / 4 ∧ win0_4.index t (1 : Fin 3) = t.val % 4 ∧ win0_4.index t (2 : Fin 3) = 0)
    ∧ (win0_5.index t (0 : Fin 3) = t.val / 4 ∧ win0_5.index t (1 : Fin 3) = t.val % 4 ∧ win0_5.index t (2 : Fin 3) = 0) :=
  (by decide +kernel : ∀ t : Fin grid0.N, _)

variable (m : (ℓ : Loc nD τ sig) → Buf (Elt Ideal) ℓ) (c : Dev nD) (j i : Fin 4) (r p : Fin 1024) (k : Fin 704)

theorem V_h : V m c main_v0 = castA (m ((c : Thread nD τ).loc main_arg0)) := by
  unfold V; after_reads_simp; rfl

theorem V_wg : V m c main_v3 = shardW (m ((c : Thread nD τ).loc main_arg1)) := by
  unfold V; after_reads_simp; rfl

theorem V_wu : V m c main_v6 = shardW (m ((c : Thread nD τ).loc main_arg2)) := by
  unfold V; after_reads_simp; rfl

/-- Grid point of shard `j` and row block `i`. -/
theorem pt_lt : 4 * j.val + i.val < cfg0.N := lt_of_lt_of_eq (by omega) N_0.symm

theorem emb_0 : (win0_0.rect ⟨4 * j.val + i.val, pt_lt j i⟩).emb (ix2 r p) = (ix2 (quarter i r) p : S4096x1024.Idx) := by
  obtain ⟨h0, h1⟩ := (places ⟨4 * j.val + i.val, pt_lt j i⟩).1
  simp only [] at h0 h1
  refine ix2_eq ((Pipeline.Window.rect_emb_val _ _ _ _).trans ?_) ((Pipeline.Window.rect_emb_val _ _ _ _).trans ?_)
  · show win0_0.index ⟨4 * j.val + i.val, pt_lt j i⟩ (0 : Fin 2) * 1024 + r.val = 1024 * i.val + r.val
    rw [h0]; omega
  · show win0_0.index ⟨4 * j.val + i.val, pt_lt j i⟩ (1 : Fin 2) * 1024 + p.val = p.val
    rw [h1]; omega

theorem emb_1 : (win0_1.rect ⟨4 * j.val + i.val, pt_lt j i⟩).emb (ix3 0 p k) = (ix3 j p k : S4x1024x704.Idx) := by
  obtain ⟨h0, h1, h2⟩ := (places ⟨4 * j.val + i.val, pt_lt j i⟩).2.1
  simp only [] at h0 h1 h2
  refine ix3_eq ((Pipeline.Window.rect_emb_val _ _ _ _).trans ?_) ((Pipeline.Window.rect_emb_val _ _ _ _).trans ?_) ((Pipeline.Window.rect_emb_val _ _ _ _).trans ?_)
  · show win0_1.index ⟨4 * j.val + i.val, pt_lt j i⟩ (0 : Fin 3) * 1 + 0 = j.val
    rw [h0]; omega
  · show win0_1.index ⟨4 * j.val + i.val, pt_lt j i⟩ (1 : Fin 3) * 1024 + p.val = p.val
    rw [h1]; omega
  · show win0_1.index ⟨4 * j.val + i.val, pt_lt j i⟩ (2 : Fin 3) * 704 + k.val = k.val
    rw [h2]; omega

theorem emb_2 : (win0_2.rect ⟨4 * j.val + i.val, pt_lt j i⟩).emb (ix3 0 p k) = (ix3 j p k : S4x1024x704.Idx) := by
  obtain ⟨h0, h1, h2⟩ := (places ⟨4 * j.val + i.val, pt_lt j i⟩).2.2.1
  simp only [] at h0 h1 h2
  refine ix3_eq ((Pipeline.Window.rect_emb_val _ _ _ _).trans ?_) ((Pipeline.Window.rect_emb_val _ _ _ _).trans ?_) ((Pipeline.Window.rect_emb_val _ _ _ _).trans ?_)
  · show win0_2.index ⟨4 * j.val + i.val, pt_lt j i⟩ (0 : Fin 3) * 1 + 0 = j.val
    rw [h0]; omega
  · show win0_2.index ⟨4 * j.val + i.val, pt_lt j i⟩ (1 : Fin 3) * 1024 + p.val = p.val
    rw [h1]; omega
  · show win0_2.index ⟨4 * j.val + i.val, pt_lt j i⟩ (2 : Fin 3) * 704 + k.val = k.val
    rw [h2]; omega

theorem emb_3 : (win0_3.rect ⟨4 * j.val + i.val, pt_lt j i⟩).emb (ix3 0 r k) = (ix3 j (quarter i r) k : S4x4096x704.Idx) := by
  obtain ⟨h0, h1, h2⟩ := (places ⟨4 * j.val + i.val, pt_lt j i⟩).2.2.2.1
  simp only [] at h0 h1 h2
  refine ix3_eq ((Pipeline.Window.rect_emb_val _ _ _ _).trans ?_) ((Pipeline.Window.rect_emb_val _ _ _ _).trans ?_) ((Pipeline.Window.rect_emb_val _ _ _ _).trans ?_)
  · show win0_3.index ⟨4 * j.val + i.val, pt_lt j i⟩ (0 : Fin 3) * 1 + 0 = j.val
    rw [h0]; omega
  · show win0_3.index ⟨4 * j.val + i.val, pt_lt j i⟩ (1 : Fin 3) * 1024 + r.val = 1024 * i.val + r.val
    rw [h1]; omega
  · show win0_3.index ⟨4 * j.val + i.val, pt_lt j i⟩ (2 : Fin 3) * 704 + k.val = k.val
    rw [h2]; omega

theorem emb_4 : (win0_4.rect ⟨4 * j.val + i.val, pt_lt j i⟩).emb (ix3 0 r k) = (ix3 j (quarter i r) k : S4x4096x704.Idx) := by
  obtain ⟨h0, h1, h2⟩ := (places ⟨4 * j.val + i.val, pt_lt j i⟩).2.2.2.2.1
  simp only [] at h0 h1 h2
  refine ix3_eq ((Pipeline.Window.rect_emb_val _ _ _ _).trans ?_) ((Pipeline.Window.rect_emb_val _ _ _ _).trans ?_) ((Pipeline.Window.rect_emb_val _ _ _ _).trans ?_)
  · show win0_4.index ⟨4 * j.val + i.val, pt_lt j i⟩ (0 : Fin 3) * 1 + 0 = j.val
    rw [h0]; omega
  · show win0_4.index ⟨4 * j.val + i.val, pt_lt j i⟩ (1 : Fin 3) * 1024 + r.val = 1024 * i.val + r.val
    rw [h1]; omega
  · show win0_4.index ⟨4 * j.val + i.val, pt_lt j i⟩ (2 : Fin 3) * 704 + k.val = k.val
    rw [h2]; omega

theorem emb_5 : (win0_5.rect ⟨4 * j.val + i.val, pt_lt j i⟩).emb (ix3 0 r k) = (ix3 j (quarter i r) k : S4x4096x704.Idx) := by
  obtain ⟨h0, h1, h2⟩ := (places ⟨4 * j.val + i.val, pt_lt j i⟩).2.2.2.2.2
  simp only [] at h0 h1 h2
  refine ix3_eq ((Pipeline.Window.rect_emb_val _ _ _ _).trans ?_) ((Pipeline.Window.rect_emb_val _ _ _ _).trans ?_) ((Pipeline.Window.rect_emb_val _ _ _ _).trans ?_)
  · show win0_5.index ⟨4 * j.val + i.val, pt_lt j i⟩ (0 : Fin 3) * 1 + 0 = j.val
    rw [h0]; omega
  · show win0_5.index ⟨4 * j.val + i.val, pt_lt j i⟩ (1 : Fin 3) * 1024 + r.val = 1024 * i.val + r.val
    rw [h1]; omega
  · show win0_5.index ⟨4 * j.val + i.val, pt_lt j i⟩ (2 : Fin 3) * 704 + k.val = k.val
    rw [h2]; omega

/-- The input windows' blocks, over arrays they are read from. -/
theorem blk0 (h : FVec Ideal S4096x1024 .f32) (h0 : V m c main_v0 = castA h) : iblk m c 0 ⟨4 * j.val + i.val, pt_lt j i⟩ (ix2 r p) = h (ix2 (quarter i r) p) :=
  (congrArg (V m c main_v0) (emb_0 j i r p)).trans (by rw [h0]; rfl)

theorem blk1 (w : FVec Ideal S1024x2816 .f32) (h1 : V m c main_v3 = shardW w) : iblk m c 1 ⟨4 * j.val + i.val, pt_lt j i⟩ (ix3 0 p k) = w (ix2 p (colOf j k)) :=
  (congrArg (V m c main_v3) (emb_1 j i p k)).trans (by rw [h1]; exact shardW_at w j p k)

theorem blk2 (w : FVec Ideal S1024x2816 .f32) (h2 : V m c main_v6 = shardW w) : iblk m c 2 ⟨4 * j.val + i.val, pt_lt j i⟩ (ix3 0 p k) = w (ix2 p (colOf j k)) :=
  (congrArg (V m c main_v6) (emb_2 j i p k)).trans (by rw [h2]; exact shardW_at w j p k)

/-- An element of result 0 is the one its block's grid point stored. -/
theorem elem_3 : (dats m 0 c).arrAt 3 cfg0.N (ix3 j (quarter i r) k : S4x4096x704.Idx) = out0_3 (iblk m c 0 ⟨4 * j.val + i.val, pt_lt j i⟩) (iblk m c 1 ⟨4 * j.val + i.val, pt_lt j i⟩) (iblk m c 2 ⟨4 * j.val + i.val, pt_lt j i⟩) (ix3 0 r k) :=
  (congrArg ((dats m 0 c).arrAt 3 cfg0.N) (emb_3 j i r k)).symm.trans
    (((dats m 0 c).arrAt_emb_eq_flushed 3 Value.disjoint3 ⟨4 * j.val + i.val, pt_lt j i⟩ (flush0_3 _) (ix3 0 r k)).trans
      (congrFun (Value.flushed3 m c ⟨4 * j.val + i.val, pt_lt j i⟩) (ix3 0 r k)))

/-- An element of result 1 is the one its block's grid point stored. -/
theorem elem_4 : (dats m 0 c).arrAt 4 cfg0.N (ix3 j (quarter i r) k : S4x4096x704.Idx) = out0_4 (iblk m c 0 ⟨4 * j.val + i.val, pt_lt j i⟩) (iblk m c 1 ⟨4 * j.val + i.val, pt_lt j i⟩) (iblk m c 2 ⟨4 * j.val + i.val, pt_lt j i⟩) (ix3 0 r k) :=
  (congrArg ((dats m 0 c).arrAt 4 cfg0.N) (emb_4 j i r k)).symm.trans
    (((dats m 0 c).arrAt_emb_eq_flushed 4 Value.disjoint4 ⟨4 * j.val + i.val, pt_lt j i⟩ (flush0_4 _) (ix3 0 r k)).trans
      (congrFun (Value.flushed4 m c ⟨4 * j.val + i.val, pt_lt j i⟩) (ix3 0 r k)))

/-- An element of result 2 is the one its block's grid point stored. -/
theorem elem_5 : (dats m 0 c).arrAt 5 cfg0.N (ix3 j (quarter i r) k : S4x4096x704.Idx) = out0_5 (iblk m c 0 ⟨4 * j.val + i.val, pt_lt j i⟩) (iblk m c 1 ⟨4 * j.val + i.val, pt_lt j i⟩) (iblk m c 2 ⟨4 * j.val + i.val, pt_lt j i⟩) (ix3 0 r k) :=
  (congrArg ((dats m 0 c).arrAt 5 cfg0.N) (emb_5 j i r k)).symm.trans
    (((dats m 0 c).arrAt_emb_eq_flushed 5 Value.disjoint5 ⟨4 * j.val + i.val, pt_lt j i⟩ (flush0_5 _) (ix3 0 r k)).trans
      (congrFun (Value.flushed5 m c ⟨4 * j.val + i.val, pt_lt j i⟩) (ix3 0 r k)))

/-- Result 0 is the reference's. -/
theorem res_3 (h : FVec Ideal S4096x1024 .f32) (wg wu : FVec Ideal S1024x2816 .f32) (h0 : V m c main_v0 = castA h) (h1 : V m c main_v3 = shardW wg) (h2 : V m c main_v6 = shardW wu) : (dats m 0 c).arrAt 3 cfg0.N = shardA (upA h wg) := by
  funext y
  obtain ⟨j, R, k, rfl⟩ := ix3_ex y
  obtain ⟨i, r, rfl⟩ := row_split R
  refine (elem_3 m c j i r k).trans ?_
  rw [out3]
  refine (pay4_at _ _ r k).trans ?_
  rw [shardA_at, upA_at]
  exact Finset.sum_congr rfl fun p _ => congrArg₂ (· * ·) (blk0 m c j i r p h h0) (blk1 m c j i p k wg h1)

/-- Result 1 is the reference's. -/
theorem res_4 (h : FVec Ideal S4096x1024 .f32) (wg wu : FVec Ideal S1024x2816 .f32) (h0 : V m c main_v0 = castA h) (h1 : V m c main_v3 = shardW wg) (h2 : V m c main_v6 = shardW wu) : (dats m 0 c).arrAt 4 cfg0.N = shardA (upA h wu) := by
  funext y
  obtain ⟨j, R, k, rfl⟩ := ix3_ex y
  obtain ⟨i, r, rfl⟩ := row_split R
  refine (elem_4 m c j i r k).trans ?_
  rw [out4]
  refine (pay5_at _ _ r k).trans ?_
  rw [shardA_at, upA_at]
  exact Finset.sum_congr rfl fun p _ => congrArg₂ (· * ·) (blk0 m c j i r p h h0) (blk2 m c j i p k wu h2)

/-- Result 2 is the reference's. -/
theorem res_5 (h : FVec Ideal S4096x1024 .f32) (wg wu : FVec Ideal S1024x2816 .f32) (h0 : V m c main_v0 = castA h) (h1 : V m c main_v3 = shardW wg) (h2 : V m c main_v6 = shardW wu) : (dats m 0 c).arrAt 5 cfg0.N = shardA (gateA (upA h wg) (upA h wu)) := by
  funext y
  obtain ⟨j, R, k, rfl⟩ := ix3_ex y
  obtain ⟨i, r, rfl⟩ := row_split R
  refine (elem_5 m c j i r k).trans ?_
  rw [out5]
  refine (pay6_at _ _ _ r k).trans ?_
  rw [shardA_at, gateA_at, upA_at, upA_at]
  exact congrArg₂ gate (Finset.sum_congr rfl fun p _ => congrArg₂ (· * ·) (blk0 m c j i r p h h0) (blk1 m c j i p k wg h1)) (Finset.sum_congr rfl fun p _ => congrArg₂ (· * ·) (blk0 m c j i r p h h0) (blk2 m c j i p k wu h2))

end Cert.UpIdeal.Host0

namespace Cert.Proof

open Cert.UpIdeal.Host0 Cert.UpIdeal.Gen Idealize.ShloMosaic Idealize.ShloMosaic.TcCoe Idealize.SL.Sem

/-- For equal arguments the kernel's results and the reference's are equal. -/
theorem algebraic_up : Cert.algebraic_UpIdeal_UpReferenceIdeal :=
  fun m ρ m' ρ' _ heq =>
  ⟨fun c => (dats m 0 c).arrAt 3 Cert.UpIdeal.cfg0.N, fun c => (dats m 0 c).arrAt 4 Cert.UpIdeal.cfg0.N, fun c => (dats m 0 c).arrAt 5 Cert.UpIdeal.cfg0.N,
   Cert.UpIdeal.Value.run_blocks m ρ,
   (θ_run (Cert.UpReferenceIdeal.defs (F := Ideal)) _ _).mono (fun _ h c => ⟨(h c).1.trans (by
      refine Eq.trans ?_ (res_3 m c _ _ _ (V_h m c) (V_wg m c) (V_wu m c)).symm
      rw [(heq c).1, (heq c).2.1]
      rfl), (h c).2.1.trans (by
      refine Eq.trans ?_ (res_4 m c _ _ _ (V_h m c) (V_wg m c) (V_wu m c)).symm
      rw [(heq c).1, (heq c).2.2]
      rfl), (h c).2.2.1.trans (by
      refine Eq.trans ?_ (res_5 m c _ _ _ (V_h m c) (V_wg m c) (V_wu m c)).symm
      rw [(heq c).1, (heq c).2.1, (heq c).2.2]
      rfl), (h c).2.2.2⟩)
     (Cert.UpReferenceIdeal.Value.run (F := Ideal) m' ρ')⟩

end Cert.Proof

end
-- ==== Proof.DownValue.lean ====
/- The FFN's down product: the arrays the host hands to the kernel, their blocks, and the agreement of kernel and reference. -/
module

public import proofs.«01_k».proof.Proof.Gen.DownIdeal.Value
public import proofs.«01_k».proof.Proof.Gen.DownReferenceIdeal.Run
public import proofs.«01_k».proof.Proof.FfnSum
public import proofs.«01_k».proof.Defs
public import Idealize.ShloMosaic.Lib.Pointwise
public import Idealize.ShloMosaic.Lib.StableHlo.RunRead

@[expose] public section

set_option maxRecDepth 16384
set_option Elab.async false

noncomputable section

namespace Cert.DownIdeal.Host0

open Cert.DownIdeal Cert.DownIdeal.Gen Idealize.ShloMosaic Idealize.ShloMosaic.TcCoe Idealize.SL.Sem
open Cert.Ffn

/-- A row-major array in column shards. -/
def shardA (x : FVec Ideal S4096x2816 .f32) : FVec Ideal S4x4096x704 .bf16 :=
  truncf .bf16 (transpose S4x4096x704 [1, 0, 2] (shapeCast _ x shapeCasts_S4096x2816_S4096x4x704) transposes_S4096x4x704_S4x4096x704_1_0_2) bitsLt_bf16_f32

theorem shardA_at (x : FVec Ideal S4096x2816 .f32) (j : Fin 4) (r : Fin 4096) (k : Fin 704) : shardA x (ix3 j r k) = x (ix2 r (colOf j k)) := by
  pointwise [shardA]
  congr 2
  exact Fin.ext (by show j.val * 704 + k.val = 704 * j.val + k.val; omega)

/-- A weight in row shards. -/
def shardR (x : FVec Ideal S2816x1024 .f32) : FVec Ideal S4x704x1024 .bf16 :=
  truncf .bf16 (shapeCast _ x shapeCasts_S2816x1024_S4x704x1024) bitsLt_bf16_f32

theorem shardR_at (x : FVec Ideal S2816x1024 .f32) (j : Fin 4) (k : Fin 704) (s : Fin 1024) : shardR x (ix3 j k s) = x (ix2 (colOf j k) s) := by
  pointwise [shardR]
  congr 2
  exact Fin.ext (by show j.val * 704 + k.val = 704 * j.val + k.val; omega)

/-- One grid point's term: the accumulated tile and the product. -/
theorem pay_at (acc : FVec Ideal S1024x1024 .f32) (u : FVec Ideal S1x1024x704 .bf16) (w : FVec Ideal S1x704x1024 .bf16) (r s : Fin 1024) :
    k0_pay1 acc u w (ix2 r s) = acc (ix2 r s) + ∑ k : Fin 704, u (ix3 0 r k) * w (ix3 0 k s) := by
  pointwise [k0_pay1]

/-- The logistic function of an array. -/
def sigA (x : FVec Ideal S4096x2816 .f32) : FVec Ideal S4096x2816 .f32 :=
  Host.divf (broadcastInDim S4096x2816 ![] bcast_S_S4096x2816 (constant S_ .f32 0x3F800000#32)) (addf (broadcastInDim S4096x2816 ![] bcast_S_S4096x2816 (constant S_ .f32 0x3F800000#32)) (Host.exp (Host.negf x)))

/-- The gated product. -/
def uA (h : FVec Ideal S4096x1024 .f32) (wg wu : FVec Ideal S1024x2816 .f32) : FVec Ideal S4096x2816 .f32 :=
  mulf (mulf (Host.dotGeneral dot_S4096x1024_S1024x2816_S4096x2816_1_0_0_1_n_n none h wg) (sigA (Host.dotGeneral dot_S4096x1024_S1024x2816_S4096x2816_1_0_0_1_n_n none h wg)))
    (Host.dotGeneral dot_S4096x1024_S1024x2816_S4096x2816_1_0_0_1_n_n none h wu)

/-- Where each input window's block lies at grid point `t`. -/
theorem places : ∀ t : Fin cfg0.N,
    (win0_0.index t (0 : Fin 3) = t.val % 4 ∧ win0_0.index t (1 : Fin 3) = t.val / 4 ∧ win0_0.index t (2 : Fin 3) = 0)
    ∧ (win0_1.index t (0 : Fin 3) = t.val % 4 ∧ win0_1.index t (1 : Fin 3) = 0 ∧ win0_1.index t (2 : Fin 3) = 0)
    ∧ (win0_2.index t (0 : Fin 2) = t.val / 4 ∧ win0_2.index t (1 : Fin 2) = 0) :=
  (by decide +kernel : ∀ t : Fin grid0.N, _)

variable (m : (ℓ : Loc nD τ sig) → Buf (Elt Ideal) ℓ) (c : Dev nD) (i j : Fin 4) (r s : Fin 1024) (k : Fin 704)

set_option maxHeartbeats 1600000 in
theorem V_u : V m c main_v6 = shardA (uA (m ((c : Thread nD τ).loc main_arg1)) (m ((c : Thread nD τ).loc main_arg2)) (m ((c : Thread nD τ).loc main_arg3))) := by
  unfold V; after_reads_simp; rfl

theorem V_wd : V m c main_v8 = shardR (m ((c : Thread nD τ).loc main_arg4)) := by
  unfold V; after_reads_simp; rfl

theorem V_x : V m c main_arg0 = (m ((c : Thread nD τ).loc main_arg0)) := by
  unfold V; after_reads_simp

/-- Grid point of row quarter `i` and shard `j`. -/
theorem pt_lt : 4 * i.val + j.val < cfg0.N := lt_of_lt_of_eq (by omega) N_0.symm

theorem emb_0 : (win0_0.rect ⟨4 * i.val + j.val, pt_lt i j⟩).emb (ix3 0 r k) = (ix3 j (quarter i r) k : S4x4096x704.Idx) := by
  obtain ⟨h0, h1, h2⟩ := (places ⟨4 * i.val + j.val, pt_lt i j⟩).1
  simp only [] at h0 h1 h2
  refine ix3_eq ((Pipeline.Window.rect_emb_val _ _ _ _).trans ?_) ((Pipeline.Window.rect_emb_val _ _ _ _).trans ?_) ((Pipeline.Window.rect_emb_val _ _ _ _).trans ?_)
  · show win0_0.index ⟨4 * i.val + j.val, pt_lt i j⟩ (0 : Fin 3) * 1 + 0 = j.val
    rw [h0]; omega
  · show win0_0.index ⟨4 * i.val + j.val, pt_lt i j⟩ (1 : Fin 3) * 1024 + r.val = 1024 * i.val + r.val
    rw [h1]; omega
  · show win0_0.index ⟨4 * i.val + j.val, pt_lt i j⟩ (2 : Fin 3) * 704 + k.val = k.val
    rw [h2]; omega

theorem emb_1 : (win0_1.rect ⟨4 * i.val + j.val, pt_lt i j⟩).emb (ix3 0 k s) = (ix3 j k s : S4x704x1024.Idx) := by
  obtain ⟨h0, h1, h2⟩ := (places ⟨4 * i.val + j.val, pt_lt i j⟩).2.1
  simp only [] at h0 h1 h2
  refine ix3_eq ((Pipeline.Window.rect_emb_val _ _ _ _).trans ?_) ((Pipeline.Window.rect_emb_val _ _ _ _).trans ?_) ((Pipeline.Window.rect_emb_val _ _ _ _).trans ?_)
  · show win0_1.index ⟨4 * i.val + j.val, pt_lt i j⟩ (0 : Fin 3) * 1 + 0 = j.val
    rw [h0]; omega
  · show win0_1.index ⟨4 * i.val + j.val, pt_lt i j⟩ (1 : Fin 3) * 704 + k.val = k.val
    rw [h1]; omega
  · show win0_1.index ⟨4 * i.val + j.val, pt_lt i j⟩ (2 : Fin 3) * 1024 + s.val = s.val
    rw [h2]; omega

theorem emb_2 : (win0_2.rect ⟨4 * i.val + j.val, pt_lt i j⟩).emb (ix2 r s) = (ix2 (quarter i r) s : S4096x1024.Idx) := by
  obtain ⟨h0, h1⟩ := (places ⟨4 * i.val + j.val, pt_lt i j⟩).2.2
  simp only [] at h0 h1
  refine ix2_eq ((Pipeline.Window.rect_emb_val _ _ _ _).trans ?_) ((Pipeline.Window.rect_emb_val _ _ _ _).trans ?_)
  · show win0_2.index ⟨4 * i.val + j.val, pt_lt i j⟩ (0 : Fin 2) * 1024 + r.val = 1024 * i.val + r.val
    rw [h0]; omega
  · show win0_2.index ⟨4 * i.val + j.val, pt_lt i j⟩ (1 : Fin 2) * 1024 + s.val = s.val
    rw [h1]; omega

/-- One grid point's step, over arrays the windows' blocks are read from. -/
theorem step_at (u : FVec Ideal S4096x2816 .f32) (wd : FVec Ideal S2816x1024 .f32) (h0 : V m c main_v6 = shardA u) (h1 : V m c main_v8 = shardR wd)
    (acc : FVec Ideal S1024x1024 .f32) :
    k0_pay1 acc (iblk m c 0 ⟨4 * i.val + j.val, pt_lt i j⟩) (iblk m c 1 ⟨4 * i.val + j.val, pt_lt i j⟩) (ix2 r s)
      = acc (ix2 r s) + ∑ k : Fin 704, u (ix2 (quarter i r) (colOf j k)) * wd (ix2 (colOf j k) s) := by
  refine (pay_at _ _ _ r s).trans ?_
  have e0 : ∀ k : Fin 704, iblk m c 0 ⟨4 * i.val + j.val, pt_lt i j⟩ (ix3 0 r k) = u (ix2 (quarter i r) (colOf j k)) := fun k =>
    (congrArg (V m c main_v6) (emb_0 i j r k)).trans (by rw [h0]; exact shardA_at u j (quarter i r) k)
  have e1 : ∀ k : Fin 704, iblk m c 1 ⟨4 * i.val + j.val, pt_lt i j⟩ (ix3 0 k s) = wd (ix2 (colOf j k) s) := fun k =>
    (congrArg (V m c main_v8) (emb_1 i j s k)).trans (by rw [h1]; exact shardR_at wd j k s)
  simp only [e0, e1]

/-- The first grid point of a run starts from the residual's block. -/
theorem x_at : iblk m c 2 ⟨4 * i.val + j.val, pt_lt i j⟩ (ix2 r s) = V m c main_arg0 (ix2 (quarter i r) s) :=
  congrArg (V m c main_arg0) (emb_2 i j r s)

/-- The reference's last lines: the product added to the residual. -/
def refA (x : FVec Ideal S4096x1024 .f32) (u : FVec Ideal S4096x2816 .f32) (wd : FVec Ideal S2816x1024 .f32) : FVec Ideal S4096x1024 .f32 :=
  addf x (Host.dotGeneral Cert.DownReferenceIdeal.dot_S4096x2816_S2816x1024_S4096x1024_1_0_0_1_n_n none u wd)

theorem refA_at (x : FVec Ideal S4096x1024 .f32) (u : FVec Ideal S4096x2816 .f32) (wd : FVec Ideal S2816x1024 .f32) (n : Fin 4096) (s : Fin 1024) :
    refA x u wd (ix2 n s) = x (ix2 n s) + ∑ p : Fin 2816, u (ix2 n p) * wd (ix2 p s) := by
  pointwise [refA]

/-- The kernel's result is the reference's. -/
theorem G_eq (x : FVec Ideal S4096x1024 .f32) (u : FVec Ideal S4096x2816 .f32) (wd : FVec Ideal S2816x1024 .f32)
    (h0 : V m c main_v6 = shardA u) (h1 : V m c main_v8 = shardR wd) (h2 : V m c main_arg0 = x) :
    Value.G3 m c = refA x u wd := by
  funext y
  obtain ⟨n, s, rfl⟩ := ix2_ex y
  obtain ⟨i, r, rfl⟩ := row_split n
  have hrun : Value.run3Of (ix2 (quarter i r) s : S4096x1024.Idx) = i.val := by
    show 1 * ((1024 * i.val + r.val) / 1024 - 0) + 1 * (s.val / 1024 - 0) = i.val
    omega
  have hloc : Value.loc3Of (ix2 (quarter i r) s : S4096x1024.Idx) = ix2 r s :=
    ix2_eq (by show (1024 * i.val + r.val) % 1024 = r.val; omega) (by show s.val % 1024 = s.val; omega)
  have hlt : 4 * i.val + 3 < cfg0.N := lt_of_lt_of_eq (by omega) N_0.symm
  have e : ∀ (b : ℕ) (h : 4 * b + 3 < cfg0.N), b = i.val →
      Pipeline.accAt (Value.reset3 m c) (Value.step3 m c) (4 * b) 3 h = Pipeline.accAt (Value.reset3 m c) (Value.step3 m c) (4 * i.val) 3 hlt := by
    intro b h hb; subst hb; rfl
  have hG : Value.G3 m c (ix2 (quarter i r) s : S4096x1024.Idx) = Pipeline.accAt (Value.reset3 m c) (Value.step3 m c) (4 * i.val) 3 hlt (ix2 r s) := by
    unfold Value.G3
    rw [dif_pos (by rw [hrun]; exact hlt), hloc]
    exact congrFun (e _ _ hrun) _
  refine hG.trans ?_
  refine (step_at m c i 3 r s u wd h0 h1 _).trans ?_
  rw [show Pipeline.accAt (Value.reset3 m c) (Value.step3 m c) (4 * i.val) 2 (by omega) (ix2 r s) = _ from step_at m c i 2 r s u wd h0 h1 _,
    show Pipeline.accAt (Value.reset3 m c) (Value.step3 m c) (4 * i.val) 1 (by omega) (ix2 r s) = _ from step_at m c i 1 r s u wd h0 h1 _,
    show Pipeline.accAt (Value.reset3 m c) (Value.step3 m c) (4 * i.val) 0 (by omega) (ix2 r s) = _ from step_at m c i 0 r s u wd h0 h1 _,
    show iblk m c 2 ⟨4 * i.val, lt_of_lt_of_eq (by omega) N_0.symm⟩ (ix2 r s) = V m c main_arg0 (ix2 (quarter i r) s) from x_at m c i 0 r s, h2, refA_at, sum_shards]
  simp only [Fin.sum_univ_four]
  abel

end Cert.DownIdeal.Host0

namespace Cert.Proof

open Cert.DownIdeal.Host0 Idealize.ShloMosaic Idealize.ShloMosaic.TcCoe Idealize.SL.Sem

/-- For equal arguments the kernel's result and the reference's are equal. -/
theorem algebraic_down : Cert.algebraic_DownIdeal_DownReferenceIdeal :=
  fun m ρ m' ρ' _ heq =>
  ⟨fun c => Cert.DownIdeal.Value.G3 m c,
   Cert.DownIdeal.Value.run m ρ,
   (θ_run (Cert.DownReferenceIdeal.defs (F := Ideal)) _ _).mono (fun _ h c => ⟨(h c).1.trans (by
      refine Eq.trans ?_ (G_eq m c _ _ _ (V_u m c) (V_wd m c) (V_x m c)).symm
      rw [(heq c).1, (heq c).2.1, (heq c).2.2.1, (heq c).2.2.2.1, (heq c).2.2.2.2]
      rfl), (h c).2⟩)
     (Cert.DownReferenceIdeal.Value.run (F := Ideal) m' ρ')⟩

end Cert.Proof

end
-- ==== Proof.FfnFinite.lean ====
/- The precondition of the hidden gradient: every entry of the arguments is a real number. -/
module

public import proofs.«01_k».proof.Defs
public import proofs.«01_k».proof.Proof.Gen.Pre_finite_ffn
public import proofs.«01_k».proof.Proof.DqFinite

@[expose] public section

set_option maxRecDepth 16384

noncomputable section

namespace Cert.Pre_finite_ffn.Gen

open Cert.Pre_finite_ffn Idealize.ShloMosaic

/-- One argument's part of the predicate. -/
theorem all_real {s : Shape} {dims : Fin S_.rank → Fin s.rank} (hb : S_.BroadcastsInDim s dims) {axes : List (Fin s.rank)} (hr : s.ReducesTo axes S_) (x : FVec Ideal s .f32) (j : S_.Idx)
    (h : Host.reduce IntOp.andi (cmpf .olt (Host.absf x) (broadcastInDim s dims hb (constant S_ .f32 0x7F800000#32))) (constantI S_ 1 1#1) hr h_S_ j = 1#1) (i : s.Idx) :
    ∃ r : ℝ, (x i : EReal) = (r : EReal) := by
  have h1 := Host.reduce_andi_all _ _ hr h_S_ j h i
  refine ⟨EReal.toReal (x i), (Cert.Pre_finite.Gen.real_of_lt ?_).symm⟩
  have h2 : BitVec.ofBool (decide (max (x i : EReal) (-(x i : EReal)) < Ideal.ofBits .f32 0x7F800000#32)) = 1#1 := h1
  rw [Cert.Dq.word_inf] at h2
  by_contra hn
  rw [decide_eq_false hn] at h2
  exact absurd h2 (by decide)

/-- The predicate says that every entry is real. -/
theorem fn_real (x : FVec Ideal S4096x1024 .f32) (wg wu : FVec Ideal S1024x2816 .f32) (wd : FVec Ideal S2816x1024 .f32) (dy : FVec Ideal S4096x1024 .f32)
    (h : Cert.Pre_finite_ffn.fn (F := Ideal) x wg wu wd dy = (fun _ => 1#1)) :
    (∀ i, ∃ r : ℝ, (x i : EReal) = (r : EReal)) ∧ (∀ i, ∃ r : ℝ, (wg i : EReal) = (r : EReal)) ∧ (∀ i, ∃ r : ℝ, (wu i : EReal) = (r : EReal))
      ∧ (∀ i, ∃ r : ℝ, (wd i : EReal) = (r : EReal)) ∧ (∀ i, ∃ r : ℝ, (dy i : EReal) = (r : EReal)) := by
  have h0 := congrFun h (Shape.Idx.first h_S_)
  have split : ∀ a b : BitVec 1, IntOp.andi a b = 1#1 → a = 1#1 ∧ b = 1#1 := by decide
  obtain ⟨h4, hy⟩ := split _ _ h0
  obtain ⟨h3, hd⟩ := split _ _ h4
  obtain ⟨h2, hu⟩ := split _ _ h3
  obtain ⟨hx, hg⟩ := split _ _ h2
  exact ⟨all_real _ _ x _ hx, all_real _ _ wg _ hg, all_real _ _ wu _ hu, all_real _ _ wd _ hd, all_real _ _ dy _ hy⟩

end Cert.Pre_finite_ffn.Gen

end
-- ==== Proof.HiddenValue.lean ====
/- The gradients of the FFN's two products: kernel and reference agree. -/
module

public import proofs.«01_k».proof.Proof.Gen.HiddenIdeal.Value
public import proofs.«01_k».proof.Proof.Gen.HiddenReferenceIdeal.Run
public import proofs.«01_k».proof.Proof.Sigmoid
public import proofs.«01_k».proof.Proof.FfnFinite
public import proofs.«01_k».proof.Defs
public import Idealize.ShloMosaic.Lib.Pointwise
public import Idealize.ShloMosaic.Lib.StableHlo.RunRead

@[expose] public section

set_option maxRecDepth 16384
set_option Elab.async false

noncomputable section

namespace Cert.HiddenIdeal.Host0

open Cert.HiddenIdeal Cert.HiddenIdeal.Gen Idealize.ShloMosaic Idealize.ShloMosaic.TcCoe Idealize.ShloMosaic.Tactic Idealize.SL.Sem
open Cert.Ffn

theorem zero2 : (![0, 0] : Fin 2 → Nat) = fun _ => 0 := funext fun a => by fin_cases a <;> rfl
theorem zero3 : (![0, 0, 0] : Fin 3 → Nat) = fun _ => 0 := funext fun a => by fin_cases a <;> rfl

/-- A row-major array in column shards. -/
def shardA (x : FVec Ideal S4096x2816 .f32) : FVec Ideal S4x4096x704 .bf16 :=
  truncf .bf16 (transpose S4x4096x704 [1, 0, 2] (shapeCast _ x shapeCasts_S4096x2816_S4096x4x704) transposes_S4096x4x704_S4x4096x704_1_0_2) bitsLt_bf16_f32

theorem shardA_at (x : FVec Ideal S4096x2816 .f32) (j : Fin 4) (r : Fin 4096) (k : Fin 704) : shardA x (ix3 j r k) = x (ix2 r (colOf j k)) := by
  pointwise [shardA]
  congr 2
  exact Fin.ext (by show j.val * 704 + k.val = 704 * j.val + k.val; omega)

/-- A weight in row shards. -/
def shardR (x : FVec Ideal S2816x1024 .f32) : FVec Ideal S4x704x1024 .bf16 :=
  truncf .bf16 (shapeCast _ x shapeCasts_S2816x1024_S4x704x1024) bitsLt_bf16_f32

theorem shardR_at (x : FVec Ideal S2816x1024 .f32) (j : Fin 4) (k : Fin 704) (s : Fin 1024) : shardR x (ix3 j k s) = x (ix2 (colOf j k) s) := by
  pointwise [shardR]
  congr 2
  exact Fin.ext (by show j.val * 704 + k.val = 704 * j.val + k.val; omega)

/-- What a grid point stores in output block 0. -/
theorem out4 (x0 : Vec Ideal S1024x1024 .f32) (x1 : Vec Ideal S1x704x1024 .bf16) (x2 x3 : Vec Ideal S1x1024x704 .bf16) : out0_4 x0 x1 x2 x3 = k0_pay5 x0 x1 x2 x3 := by
  unfold out0_4
  rw [View.canon_unit_zero zero3]
  simp only [View.ld_unit_zero (S := S1024x1024) zero2, View.ld_unit_zero (S := S1x704x1024) zero3, View.ld_unit_zero (S := S1x1024x704) zero3]

/-- What a grid point stores in output block 1. -/
theorem out5 (x0 : Vec Ideal S1024x1024 .f32) (x1 : Vec Ideal S1x704x1024 .bf16) (x2 x3 : Vec Ideal S1x1024x704 .bf16) : out0_5 x0 x1 x2 x3 = k0_pay1 (k0_pay6 x0 x1 x2) := by
  unfold out0_5
  rw [View.canon_unit_zero zero3]
  simp only [View.ld_unit_zero (S := S1024x1024) zero2, View.ld_unit_zero (S := S1x704x1024) zero3, View.ld_unit_zero (S := S1x1024x704) zero3]

/-- The logistic function of an extended real. -/
def logi (a : EReal) : EReal := Ideal.div 1 (1 + Ideal.exp (-a))

/-- The gradients as the kernel writes them. -/
def daK (d a b : EReal) : EReal := d * b * (logi a * (1 + a * (1 - logi a)))
def dbK (d a : EReal) : EReal := d * (a * logi a)

/-- The gradients as the reference writes them. -/
def daR (d a b : EReal) : EReal := d * b * logi a + a * (d * b) * (logi a * (1 - logi a))
def dbR (d a : EReal) : EReal := a * logi a * d

/-- On the reals they agree. -/
theorem da_eq {d a b : EReal} (hd : ∃ x : ℝ, (d : EReal) = (x : EReal)) (ha : ∃ x : ℝ, (a : EReal) = (x : EReal)) (hb : ∃ x : ℝ, (b : EReal) = (x : EReal)) : daK d a b = daR d a b := by
  obtain ⟨d, rfl⟩ := hd
  obtain ⟨a, rfl⟩ := ha
  obtain ⟨b, rfl⟩ := hb
  have hs : logi (a : EReal) = (((1 + Real.exp (-a))⁻¹ : ℝ) : EReal) := Ideal.logistic_coe a
  rw [daK, daR, hs]
  generalize (1 + Real.exp (-a))⁻¹ = s
  rw [← EReal.coe_one]
  simp only [← EReal.coe_mul, ← EReal.coe_sub, ← EReal.coe_add]
  congr 1
  ring

theorem da_congr {d d' a a' b b' : EReal} (hd : d = d') (ha : a = a') (hb : b = b') : daK d a b = daK d' a' b' := by
  rw [hd, ha, hb]

theorem db_eq (d a : EReal) : dbK d a = dbR d a := mul_comm _ _

/-- The product of a grid point. -/
def duB (x0 : Vec Ideal S1024x1024 .f32) (x1 : Vec Ideal S1x704x1024 .bf16) (r : Fin 1024) (k : Fin 704) : EReal :=
  ∑ s : Fin 1024, x0 (ix2 r s) * x1 (ix3 0 k s)

theorem pay2_at (x0 : Vec Ideal S1024x1024 .f32) (x1 : Vec Ideal S1x704x1024 .bf16) (r : Fin 1024) (k : Fin 704) :
    k0_pay2 x0 x1 (ix2 r k) = duB x0 x1 r k := by
  pointwise [k0_pay2, duB]

theorem pay5_at (x0 : Vec Ideal S1024x1024 .f32) (x1 : Vec Ideal S1x704x1024 .bf16) (x2 x3 : Vec Ideal S1x1024x704 .bf16) (r : Fin 1024) (k : Fin 704) :
    k0_pay5 x0 x1 x2 x3 (ix3 0 r k) = daK (duB x0 x1 r k) (x2 (ix3 0 r k)) (x3 (ix3 0 r k)) := by
  rw [← pay2_at, daK, logi, ← sigmoid]
  pointwise [k0_pay5, k0_pay4, k0_pay3, half_bits]

theorem pay6_at (x0 : Vec Ideal S1024x1024 .f32) (x1 : Vec Ideal S1x704x1024 .bf16) (x2 : Vec Ideal S1x1024x704 .bf16) (r : Fin 1024) (k : Fin 704) :
    k0_pay1 (k0_pay6 x0 x1 x2) (ix3 0 r k) = dbK (duB x0 x1 r k) (x2 (ix3 0 r k)) := by
  rw [← pay2_at, dbK, logi, ← sigmoid]
  pointwise [k0_pay1, k0_pay6, k0_pay4, k0_pay3, half_bits]

/-- The reference's arrays. -/
def upA (h : FVec Ideal S4096x1024 .f32) (w : FVec Ideal S1024x2816 .f32) : FVec Ideal S4096x2816 .f32 :=
  Host.dotGeneral dot_S4096x1024_S1024x2816_S4096x2816_1_0_0_1_n_n none h w

def duA (wd : FVec Ideal S2816x1024 .f32) (dy : FVec Ideal S4096x1024 .f32) : FVec Ideal S4096x2816 .f32 :=
  Host.dotGeneral Cert.HiddenReferenceIdeal.dot_S4096x1024_S2816x1024_S4096x2816_1_1_0_0_n_n none dy wd

def oneA : FVec Ideal S4096x2816 .f32 := broadcastInDim S4096x2816 ![] Cert.HiddenReferenceIdeal.Gen.bcast_S_S4096x2816 (constant Cert.HiddenReferenceIdeal.S_ .f32 0x3F800000#32)

def sigA (x : FVec Ideal S4096x2816 .f32) : FVec Ideal S4096x2816 .f32 := Host.divf oneA (addf oneA (Host.exp (Host.negf x)))

def daA (d a b : FVec Ideal S4096x2816 .f32) : FVec Ideal S4096x2816 .f32 :=
  addf (mulf (mulf d b) (sigA a)) (mulf (mulf a (mulf d b)) (mulf (sigA a) (subf oneA (sigA a))))

def dbA (d a : FVec Ideal S4096x2816 .f32) : FVec Ideal S4096x2816 .f32 := mulf (mulf a (sigA a)) d

theorem upA_at (h : FVec Ideal S4096x1024 .f32) (w : FVec Ideal S1024x2816 .f32) (r : Fin 4096) (n : Fin 2816) :
    upA h w (ix2 r n) = ∑ p : Fin 1024, h (ix2 r p) * w (ix2 p n) := by
  pointwise [upA]

theorem duA_at (wd : FVec Ideal S2816x1024 .f32) (dy : FVec Ideal S4096x1024 .f32) (r : Fin 4096) (n : Fin 2816) :
    duA wd dy (ix2 r n) = ∑ s : Fin 1024, dy (ix2 r s) * wd (ix2 n s) := by
  pointwise [duA]

theorem daA_at (d a b : FVec Ideal S4096x2816 .f32) (r : Fin 4096) (n : Fin 2816) : daA d a b (ix2 r n) = daR (d (ix2 r n)) (a (ix2 r n)) (b (ix2 r n)) := by
  pointwise [daA, sigA, oneA, daR, logi]

theorem dbA_at (d a : FVec Ideal S4096x2816 .f32) (r : Fin 4096) (n : Fin 2816) : dbA d a (ix2 r n) = dbR (d (ix2 r n)) (a (ix2 r n)) := by
  pointwise [dbA, sigA, oneA, dbR, logi]

/-- A sum of products of reals is real. -/
theorem dot_real {n : ℕ} (f g : Fin n → EReal) (hf : ∀ p, ∃ x : ℝ, (f p : EReal) = (x : EReal)) (hg : ∀ p, ∃ x : ℝ, (g p : EReal) = (x : EReal)) : ∃ x : ℝ, (∑ p, f p * g p : EReal) = (x : EReal) := by
  refine Finset.sum_induction _ (fun y => ∃ x : ℝ, (y : EReal) = (x : EReal)) ?_ ⟨0, EReal.coe_zero.symm⟩ ?_
  · rintro _ _ ⟨x, rfl⟩ ⟨y, rfl⟩
    exact ⟨x + y, (EReal.coe_add x y).symm⟩
  · intro p _
    obtain ⟨x, hx⟩ := hf p
    obtain ⟨y, hy⟩ := hg p
    exact ⟨x * y, by rw [hx, hy, EReal.coe_mul]⟩

/-- Where each window's block lies at grid point `t`. -/
theorem places : ∀ t : Fin cfg0.N,
    (win0_0.index t (0 : Fin 2) = t.val / 4 ∧ win0_0.index t (1 : Fin 2) = 0)
    ∧ (win0_1.index t (0 : Fin 3) = t.val % 4 ∧ win0_1.index t (1 : Fin 3) = 0 ∧ win0_1.index t (2 : Fin 3) = 0)
    ∧ (win0_2.index t (0 : Fin 3) = t.val % 4 ∧ win0_2.index t (1 : Fin 3) = t.val / 4 ∧ win0_2.index t (2 : Fin 3) = 0)
    ∧ (win0_3.index t (0 : Fin 3) = t.val % 4 ∧ win0_3.index t (1 : Fin 3) = t.val / 4 ∧ win0_3.index t (2 : Fin 3) = 0)
    ∧ (win0_4.index t (0 : Fin 3) = t.val % 4 ∧ win0_4.index t (1 : Fin 3) = t.val / 4 ∧ win0_4.index t (2 : Fin 3) = 0)
    ∧ (win0_5.index t (0 : Fin 3) = t.val % 4 ∧ win0_5.index t (1 : Fin 3) = t.val / 4 ∧ win0_5.index t (2 : Fin 3) = 0) :=
  (by decide +kernel : ∀ t : Fin grid0.N, _)

variable (m : (ℓ : Loc nD τ sig) → Buf (Elt Ideal) ℓ) (c : Dev nD) (i j : Fin 4) (r s : Fin 1024) (k : Fin 704)

theorem V_dy : V m c main_arg4 = (m ((c : Thread nD τ).loc main_arg4)) := by
  unfold V; after_reads_simp

theorem V_wd : V m c main_v1 = shardR (m ((c : Thread nD τ).loc main_arg3)) := by
  unfold V; after_reads_simp; rfl

theorem V_a : V m c main_v5 = shardA (upA (m ((c : Thread nD τ).loc main_arg0)) (m ((c : Thread nD τ).loc main_arg1))) := by
  unfold V; after_reads_simp; rfl

theorem V_b : V m c main_v9 = shardA (upA (m ((c : Thread nD τ).loc main_arg0)) (m ((c : Thread nD τ).loc main_arg2))) := by
  unfold V; after_reads_simp; rfl

/-- Grid point of row block `i` and shard `j`. -/
theorem pt_lt : 4 * i.val + j.val < cfg0.N := lt_of_lt_of_eq (by omega) N_0.symm

theorem emb_0 : (win0_0.rect ⟨4 * i.val + j.val, pt_lt i j⟩).emb (ix2 r s) = (ix2 (quarter i r) s : S4096x1024.Idx) := by
  obtain ⟨h0, h1⟩ := (places ⟨4 * i.val + j.val, pt_lt i j⟩).1
  simp only [] at h0 h1
  refine ix2_eq ((Pipeline.Window.rect_emb_val _ _ _ _).trans ?_) ((Pipeline.Window.rect_emb_val _ _ _ _).trans ?_)
  · show win0_0.index ⟨4 * i.val + j.val, pt_lt i j⟩ (0 : Fin 2) * 1024 + r.val = 1024 * i.val + r.val
    rw [h0]; omega
  · show win0_0.index ⟨4 * i.val + j.val, pt_lt i j⟩ (1 : Fin 2) * 1024 + s.val = s.val
    rw [h1]; omega

theorem emb_1 : (win0_1.rect ⟨4 * i.val + j.val, pt_lt i j⟩).emb (ix3 0 k s) = (ix3 j k s : S4x704x1024.Idx) := by
  obtain ⟨h0, h1, h2⟩ := (places ⟨4 * i.val + j.val, pt_lt i j⟩).2.1
  simp only [] at h0 h1 h2
  refine ix3_eq ((Pipeline.Window.rect_emb_val _ _ _ _).trans ?_) ((Pipeline.Window.rect_emb_val _ _ _ _).trans ?_) ((Pipeline.Window.rect_emb_val _ _ _ _).trans ?_)
  · show win0_1.index ⟨4 * i.val + j.val, pt_lt i j⟩ (0 : Fin 3) * 1 + 0 = j.val
    rw [h0]; omega
  · show win0_1.index ⟨4 * i.val + j.val, pt_lt i j⟩ (1 : Fin 3) * 704 + k.val = k.val
    rw [h1]; omega
  · show win0_1.index ⟨4 * i.val + j.val, pt_lt i j⟩ (2 : Fin 3) * 1024 + s.val = s.val
    rw [h2]; omega

theorem emb_2 : (win0_2.rect ⟨4 * i.val + j.val, pt_lt i j⟩).emb (ix3 0 r k) = (ix3 j (quarter i r) k : S4x4096x704.Idx) := by
  obtain ⟨h0, h1, h2⟩ := (places ⟨4 * i.val + j.val, pt_lt i j⟩).2.2.1
  simp only [] at h0 h1 h2
  refine ix3_eq ((Pipeline.Window.rect_emb_val _ _ _ _).trans ?_) ((Pipeline.Window.rect_emb_val _ _ _ _).trans ?_) ((Pipeline.Window.rect_emb_val _ _ _ _).trans ?_)
  · show win0_2.index ⟨4 * i.val + j.val, pt_lt i j⟩ (0 : Fin 3) * 1 + 0 = j.val
    rw [h0]; omega
  · show win0_2.index ⟨4 * i.val + j.val, pt_lt i j⟩ (1 : Fin 3) * 1024 + r.val = 1024 * i.val + r.val
    rw [h1]; omega
  · show win0_2.index ⟨4 * i.val + j.val, pt_lt i j⟩ (2 : Fin 3) * 704 + k.val = k.val
    rw [h2]; omega

theorem emb_3 : (win0_3.rect ⟨4 * i.val + j.val, pt_lt i j⟩).emb (ix3 0 r k) = (ix3 j (quarter i r) k : S4x4096x704.Idx) := by
  obtain ⟨h0, h1, h2⟩ := (places ⟨4 * i.val + j.val, pt_lt i j⟩).2.2.2.1
  simp only [] at h0 h1 h2
  refine ix3_eq ((Pipeline.Window.rect_emb_val _ _ _ _).trans ?_) ((Pipeline.Window.rect_emb_val _ _ _ _).trans ?_) ((Pipeline.Window.rect_emb_val _ _ _ _).trans ?_)
  · show win0_3.index ⟨4 * i.val + j.val, pt_lt i j⟩ (0 : Fin 3) * 1 + 0 = j.val
    rw [h0]; omega
  · show win0_3.index ⟨4 * i.val + j.val, pt_lt i j⟩ (1 : Fin 3) * 1024 + r.val = 1024 * i.val + r.val
    rw [h1]; omega
  · show win0_3.index ⟨4 * i.val + j.val, pt_lt i j⟩ (2 : Fin 3) * 704 + k.val = k.val
    rw [h2]; omega

theorem emb_4 : (win0_4.rect ⟨4 * i.val + j.val, pt_lt i j⟩).emb (ix3 0 r k) = (ix3 j (quarter i r) k : S4x4096x704.Idx) := by
  obtain ⟨h0, h1, h2⟩ := (places ⟨4 * i.val + j.val, pt_lt i j⟩).2.2.2.2.1
  simp only [] at h0 h1 h2
  refine ix3_eq ((Pipeline.Window.rect_emb_val _ _ _ _).trans ?_) ((Pipeline.Window.rect_emb_val _ _ _ _).trans ?_) ((Pipeline.Window.rect_emb_val _ _ _ _).trans ?_)
  · show win0_4.index ⟨4 * i.val + j.val, pt_lt i j⟩ (0 : Fin 3) * 1 + 0 = j.val
    rw [h0]; omega
  · show win0_4.index ⟨4 * i.val + j.val, pt_lt i j⟩ (1 : Fin 3) * 1024 + r.val = 1024 * i.val + r.val
    rw [h1]; omega
  · show win0_4.index ⟨4 * i.val + j.val, pt_lt i j⟩ (2 : Fin 3) * 704 + k.val = k.val
    rw [h2]; omega

theorem emb_5 : (win0_5.rect ⟨4 * i.val + j.val, pt_lt i j⟩).emb (ix3 0 r k) = (ix3 j (quarter i r) k : S4x4096x704.Idx) := by
  obtain ⟨h0, h1, h2⟩ := (places ⟨4 * i.val + j.val, pt_lt i j⟩).2.2.2.2.2
  simp only [] at h0 h1 h2
  refine ix3_eq ((Pipeline.Window.rect_emb_val _ _ _ _).trans ?_) ((Pipeline.Window.rect_emb_val _ _ _ _).trans ?_) ((Pipeline.Window.rect_emb_val _ _ _ _).trans ?_)
  · show win0_5.index ⟨4 * i.val + j.val, pt_lt i j⟩ (0 : Fin 3) * 1 + 0 = j.val
    rw [h0]; omega
  · show win0_5.index ⟨4 * i.val + j.val, pt_lt i j⟩ (1 : Fin 3) * 1024 + r.val = 1024 * i.val + r.val
    rw [h1]; omega
  · show win0_5.index ⟨4 * i.val + j.val, pt_lt i j⟩ (2 : Fin 3) * 704 + k.val = k.val
    rw [h2]; omega

/-- The input windows' blocks, over arrays they are read from. -/
theorem blk0 (dy : FVec Ideal S4096x1024 .f32) (h0 : V m c main_arg4 = dy) : iblk m c 0 ⟨4 * i.val + j.val, pt_lt i j⟩ (ix2 r s) = dy (ix2 (quarter i r) s) :=
  (congrArg (V m c main_arg4) (emb_0 i j r s)).trans (by rw [h0])

theorem blk1 (w : FVec Ideal S2816x1024 .f32) (h1 : V m c main_v1 = shardR w) : iblk m c 1 ⟨4 * i.val + j.val, pt_lt i j⟩ (ix3 0 k s) = w (ix2 (colOf j k) s) :=
  (congrArg (V m c main_v1) (emb_1 i j s k)).trans (by rw [h1]; exact shardR_at w j k s)

theorem blk2 (a : FVec Ideal S4096x2816 .f32) (h2 : V m c main_v5 = shardA a) : iblk m c 2 ⟨4 * i.val + j.val, pt_lt i j⟩ (ix3 0 r k) = a (ix2 (quarter i r) (colOf j k)) :=
  (congrArg (V m c main_v5) (emb_2 i j r k)).trans (by rw [h2]; exact shardA_at a j (quarter i r) k)

theorem blk3 (b : FVec Ideal S4096x2816 .f32) (h3 : V m c main_v9 = shardA b) : iblk m c 3 ⟨4 * i.val + j.val, pt_lt i j⟩ (ix3 0 r k) = b (ix2 (quarter i r) (colOf j k)) :=
  (congrArg (V m c main_v9) (emb_3 i j r k)).trans (by rw [h3]; exact shardA_at b j (quarter i r) k)

/-- The product of a grid point is the reference's. -/
theorem du_blk (wd : FVec Ideal S2816x1024 .f32) (dy : FVec Ideal S4096x1024 .f32) (h0 : V m c main_arg4 = dy) (h1 : V m c main_v1 = shardR wd) :
    duB (iblk m c 0 ⟨4 * i.val + j.val, pt_lt i j⟩) (iblk m c 1 ⟨4 * i.val + j.val, pt_lt i j⟩) r k = duA wd dy (ix2 (quarter i r) (colOf j k)) := by
  rw [duA_at]
  exact Finset.sum_congr rfl fun s _ => congrArg₂ (fun u v : EReal => u * v) (blk0 m c i j r s dy h0) (blk1 m c i j s k wd h1)

/-- An element of result 0 is the one its block's grid point stored. -/
theorem elem_4 : (dats m 0 c).arrAt 4 cfg0.N (ix3 j (quarter i r) k : S4x4096x704.Idx) = out0_4 (iblk m c 0 ⟨4 * i.val + j.val, pt_lt i j⟩) (iblk m c 1 ⟨4 * i.val + j.val, pt_lt i j⟩) (iblk m c 2 ⟨4 * i.val + j.val, pt_lt i j⟩) (iblk m c 3 ⟨4 * i.val + j.val, pt_lt i j⟩) (ix3 0 r k) :=
  (congrArg ((dats m 0 c).arrAt 4 cfg0.N) (emb_4 i j r k)).symm.trans
    (((dats m 0 c).arrAt_emb_eq_flushed 4 Value.disjoint4 ⟨4 * i.val + j.val, pt_lt i j⟩ (flush0_4 _) (ix3 0 r k)).trans
      (congrFun (Value.flushed4 m c ⟨4 * i.val + j.val, pt_lt i j⟩) (ix3 0 r k)))

/-- An element of result 1 is the one its block's grid point stored. -/
theorem elem_5 : (dats m 0 c).arrAt 5 cfg0.N (ix3 j (quarter i r) k : S4x4096x704.Idx) = out0_5 (iblk m c 0 ⟨4 * i.val + j.val, pt_lt i j⟩) (iblk m c 1 ⟨4 * i.val + j.val, pt_lt i j⟩) (iblk m c 2 ⟨4 * i.val + j.val, pt_lt i j⟩) (iblk m c 3 ⟨4 * i.val + j.val, pt_lt i j⟩) (ix3 0 r k) :=
  (congrArg ((dats m 0 c).arrAt 5 cfg0.N) (emb_5 i j r k)).symm.trans
    (((dats m 0 c).arrAt_emb_eq_flushed 5 Value.disjoint5 ⟨4 * i.val + j.val, pt_lt i j⟩ (flush0_5 _) (ix3 0 r k)).trans
      (congrFun (Value.flushed5 m c ⟨4 * i.val + j.val, pt_lt i j⟩) (ix3 0 r k)))

variable (a b : FVec Ideal S4096x2816 .f32) (wd : FVec Ideal S2816x1024 .f32) (dy : FVec Ideal S4096x1024 .f32)
  (h0 : V m c main_arg4 = dy) (h1 : V m c main_v1 = shardR wd) (h2 : V m c main_v5 = shardA a) (h3 : V m c main_v9 = shardA b)

include h0 h1 h2 h3 in
/-- The first result is the reference's, where the products are real. -/
theorem res_4 (hd : ∀ r n, ∃ x : ℝ, (duA wd dy (ix2 r n) : EReal) = (x : EReal)) (ha : ∀ r n, ∃ x : ℝ, (a (ix2 r n) : EReal) = (x : EReal)) (hb : ∀ r n, ∃ x : ℝ, (b (ix2 r n) : EReal) = (x : EReal)) :
    (dats m 0 c).arrAt 4 cfg0.N = shardA (daA (duA wd dy) a b) := by
  funext y
  obtain ⟨j, q, k, rfl⟩ := ix3_ex y
  obtain ⟨i, r, rfl⟩ := row_split q
  refine (elem_4 m c i j r k).trans ?_
  rw [out4]
  refine (pay5_at _ _ _ _ r k).trans ?_
  rw [shardA_at, daA_at, ← da_eq (hd _ _) (ha _ _) (hb _ _)]
  exact da_congr (du_blk m c i j r k wd dy h0 h1) (blk2 m c i j r k a h2) (blk3 m c i j r k b h3)

include h0 h1 h2 in
/-- The second result is the reference's. -/
theorem res_5 : (dats m 0 c).arrAt 5 cfg0.N = shardA (dbA (duA wd dy) a) := by
  funext y
  obtain ⟨j, q, k, rfl⟩ := ix3_ex y
  obtain ⟨i, r, rfl⟩ := row_split q
  refine (elem_5 m c i j r k).trans ?_
  rw [out5]
  refine (pay6_at _ _ _ r k).trans ?_
  rw [shardA_at, dbA_at, ← db_eq]
  exact congrArg₂ dbK (du_blk m c i j r k wd dy h0 h1) (blk2 m c i j r k a h2)

end Cert.HiddenIdeal.Host0

namespace Cert.Proof

open Cert.HiddenIdeal.Host0 Cert.HiddenIdeal.Gen Idealize.ShloMosaic Idealize.ShloMosaic.TcCoe Idealize.SL.Sem

/-- For equal arguments of real entries the kernel's results and the reference's are equal. -/
theorem algebraic_hidden : Cert.algebraic_HiddenIdeal_HiddenReferenceIdeal :=
  fun m ρ m' ρ' hm heq =>
  ⟨fun c => (dats m 0 c).arrAt 4 Cert.HiddenIdeal.cfg0.N, fun c => (dats m 0 c).arrAt 5 Cert.HiddenIdeal.cfg0.N,
   Cert.HiddenIdeal.Value.run_blocks m ρ,
   (θ_run (Cert.HiddenReferenceIdeal.defs (F := Ideal)) _ _).mono (fun _ h c => ⟨(h c).1.trans (by
      obtain ⟨r0, r1, r2, r3, r4⟩ := Cert.Pre_finite_ffn.Gen.fn_real _ _ _ _ _ (hm c)
      refine Eq.trans ?_ (res_4 m c _ _ _ _ (V_dy m c) (V_wd m c) (V_a m c) (V_b m c)
        (fun r n => by rw [duA_at]; exact dot_real _ _ (fun _ => r4 _) (fun _ => r3 _))
        (fun r n => by rw [upA_at]; exact dot_real _ _ (fun _ => r0 _) (fun _ => r1 _))
        (fun r n => by rw [upA_at]; exact dot_real _ _ (fun _ => r0 _) (fun _ => r2 _))).symm
      rw [(heq c).1, (heq c).2.1, (heq c).2.2.1, (heq c).2.2.2.1, (heq c).2.2.2.2]
      rfl), (h c).2.1.trans (by
      refine Eq.trans ?_ (res_5 m c _ _ _ (V_dy m c) (V_wd m c) (V_a m c)).symm
      rw [(heq c).1, (heq c).2.1, (heq c).2.2.2.1, (heq c).2.2.2.2]
      rfl), (h c).2.2⟩)
     (Cert.HiddenReferenceIdeal.Value.run (F := Ideal) m' ρ')⟩

end Cert.Proof

end
-- ==== Proof.DwdPoint.lean ====
/- The gradient of the FFN's down weight: what each grid point leaves in the accumulator and in the output block. -/
module

public import proofs.«01_k».proof.Proof.Gen.DwdIdeal.Value

@[expose] public section

set_option maxRecDepth 16384
set_option Elab.async false

noncomputable section

namespace Cert.DwdIdeal.Gen

open Cert.DwdIdeal Idealize.ShloMosaic Idealize.ShloMosaic.TcCoe Idealize.ShloMosaic.Tactic Idealize.SL.Sem

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- The first point of a run leaves the first product, added to zero, in the accumulator. -/
theorem first_acc (c : Dev nD) (i : grid0.Coords) (arg2 : Memref sig .tc .vmem S1x2048x704 .bf16) (harg2 : arg2.IsWhole) (arg3 : Memref sig .tc .vmem S2048x1024 .f32) (harg3 : arg3.IsWhole) (arg4 : Memref sig .tc .vmem S1x704x1024 .bf16) (harg4 : arg4.IsWhole) (arg5 : Memref sig .tc .vmem S704x1024 .f32) (harg5 : arg5.IsWhole) (hc0 : cond0_0 i) (hc1 : ¬cond0_1 i)
    (x0 : Vec F S1x2048x704 .bf16) (x1 : Vec F S2048x1024 .f32) :
    sout0_A_0 c i arg2 harg2 arg3 harg3 arg4 harg4 arg5 harg5 hc0 hc1 x0 x1 = k0_pay2 (k0_pay1 (F := F)) x0 x1 := by
  unfold sout0_A_0
  rw [View.read_writes_eq_canon _ _ _ (scover0_A_0 c i arg2 harg2 arg3 harg3 arg4 harg4 arg5 harg5 hc0 hc1 x0 x1)]
  unfold kernelRun0_A
  dsimp only
  try sl_unfold_words
  rw [View.canon_cons_unit_zero (S := S704x1024) zero2, View.readCov_unit_zero (S := S704x1024) _ zero2]
  simp only [View.readAt_eq_ld, harg2.read_unread, harg3.read_unread, harg4.read_unread, harg5.read_unread, View.ld_unit_zero (S := S704x1024) zero2, View.ld_unit_zero (S := S2048x1024) zero2, View.ld_unit_zero (S := S1x2048x704) zero3, shapeCast_self]

/-- The last point of a run leaves the accumulator with the second product added, rounded, in the output block. -/
theorem last_out (c : Dev nD) (i : grid0.Coords) (arg2 : Memref sig .tc .vmem S1x2048x704 .bf16) (harg2 : arg2.IsWhole) (arg3 : Memref sig .tc .vmem S2048x1024 .f32) (harg3 : arg3.IsWhole) (arg4 : Memref sig .tc .vmem S1x704x1024 .bf16) (harg4 : arg4.IsWhole) (arg5 : Memref sig .tc .vmem S704x1024 .f32) (harg5 : arg5.IsWhole) (hc0 : ¬cond0_0 i) (hc1 : cond0_1 i)
    (x0 : Vec F S1x2048x704 .bf16) (x1 : Vec F S2048x1024 .f32) (xs0 : Vec F S704x1024 .f32) :
    out0_B_2 c i arg2 harg2 arg3 harg3 arg4 harg4 arg5 harg5 hc0 hc1 x0 x1 xs0 = k0_pay3 (k0_pay2 xs0 x0 x1) := by
  unfold out0_B_2
  rw [View.read_writes_eq_canon _ _ _ (cover0_B_2 c i arg2 harg2 arg3 harg3 arg4 harg4 arg5 harg5 hc0 hc1 x0 x1 xs0)]
  unfold kernelRun0_B
  dsimp only
  try sl_unfold_words
  rw [View.canon_unit_zero zero3]
  simp only [View.readCov_unit_zero (S := S704x1024) _ zero2, View.readAt_eq_ld, harg2.read_unread, harg3.read_unread, harg4.read_unread, harg5.read_unread, View.ld_unit_zero (S := S704x1024) zero2, View.ld_unit_zero (S := S2048x1024) zero2, View.ld_unit_zero (S := S1x2048x704) zero3, shapeCast_self]

variable (m : (ℓ : Loc nD τ sig) → Buf (Elt F) ℓ) (c : Dev nD) (t : Fin cfg0.N)

/-- The accumulator after the first point of a run. -/
theorem acc_of (h0 : t.val % 2 = 0) (h1 : ¬t.val % 2 = 1) :
    (outsAt0 m c t.val t.isLt).2 = k0_pay2 (k0_pay1 (F := F)) (iblk m c 0 t) (iblk m c 1 t) := by
  rw [outsAt0_A m c t h0 h1]
  dsimp only
  exact first_acc c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- The output block after the last point of a run. -/
theorem out_of (h0 : ¬t.val % 2 = 0) (h1 : t.val % 2 = 1) :
    (outsAt0 m c t.val t.isLt).1 = k0_pay3 (k0_pay2 (outsAt0 m c (t.val - 1) (Nat.lt_of_le_of_lt (Nat.sub_le _ _) t.isLt)).2 (iblk m c 0 t) (iblk m c 1 t)) := by
  rw [outsAt0_B m c t h0 h1]
  dsimp only
  exact last_out c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2

end Cert.DwdIdeal.Gen

end
-- ==== Proof.DwdValue.lean ====
/- The gradient of the FFN's down weight: kernel and reference agree. -/
module

public import proofs.«01_k».proof.Proof.DwdPoint
public import proofs.«01_k».proof.Proof.Gen.DwdReferenceIdeal.Run
public import proofs.«01_k».proof.Proof.FfnSum
public import proofs.«01_k».proof.Defs
public import Idealize.ShloMosaic.Lib.Pointwise
public import Idealize.ShloMosaic.Lib.StableHlo.RunRead

@[expose] public section

set_option maxRecDepth 16384
set_option Elab.async false

noncomputable section

namespace Cert.DwdIdeal.Host0

open Cert.DwdIdeal Cert.DwdIdeal.Gen Idealize.ShloMosaic Idealize.ShloMosaic.TcCoe Idealize.SL.Sem
open Cert.Ffn

/-- A row-major array in column shards. -/
def shardA (x : FVec Ideal S4096x2816 .f32) : FVec Ideal S4x4096x704 .bf16 :=
  truncf .bf16 (transpose S4x4096x704 [1, 0, 2] (shapeCast _ x shapeCasts_S4096x2816_S4096x4x704) transposes_S4096x4x704_S4x4096x704_1_0_2) bitsLt_bf16_f32

theorem shardA_at (x : FVec Ideal S4096x2816 .f32) (j : Fin 4) (r : Fin 4096) (k : Fin 704) : shardA x (ix3 j r k) = x (ix2 r (colOf j k)) := by
  pointwise [shardA]
  congr 2
  exact Fin.ext (by show j.val * 704 + k.val = 704 * j.val + k.val; omega)

/-- One grid point's term: the accumulated tile and the product. -/
theorem pay_at (acc : FVec Ideal S704x1024 .f32) (u : FVec Ideal S1x2048x704 .bf16) (d : FVec Ideal S2048x1024 .f32) (k : Fin 704) (s : Fin 1024) :
    k0_pay2 acc u d (ix2 k s) = acc (ix2 k s) + ∑ r : Fin 2048, u (ix3 0 r k) * d (ix2 r s) := by
  pointwise [k0_pay2]

theorem zero_at (k : Fin 704) (s : Fin 1024) : k0_pay1 (F := Ideal) (ix2 k s) = 0 := by
  pointwise [k0_pay1]

theorem store_at (x : FVec Ideal S704x1024 .f32) (k : Fin 704) (s : Fin 1024) : k0_pay3 (F := Ideal) x (ix3 0 k s) = x (ix2 k s) := by
  pointwise [k0_pay3]

/-- The logistic function of an array. -/
def sigA (x : FVec Ideal S4096x2816 .f32) : FVec Ideal S4096x2816 .f32 :=
  Host.divf (broadcastInDim S4096x2816 ![] bcast_S_S4096x2816 (constant S_ .f32 0x3F800000#32)) (addf (broadcastInDim S4096x2816 ![] bcast_S_S4096x2816 (constant S_ .f32 0x3F800000#32)) (Host.exp (Host.negf x)))

/-- The gated product. -/
def uA (h : FVec Ideal S4096x1024 .f32) (wg wu : FVec Ideal S1024x2816 .f32) : FVec Ideal S4096x2816 .f32 :=
  mulf (mulf (Host.dotGeneral dot_S4096x1024_S1024x2816_S4096x2816_1_0_0_1_n_n none h wg) (sigA (Host.dotGeneral dot_S4096x1024_S1024x2816_S4096x2816_1_0_0_1_n_n none h wg)))
    (Host.dotGeneral dot_S4096x1024_S1024x2816_S4096x2816_1_0_0_1_n_n none h wu)

/-- Where each input window's block lies at grid point `t`. -/
theorem places : ∀ t : Fin cfg0.N,
    (win0_0.index t (0 : Fin 3) = t.val / 2 ∧ win0_0.index t (1 : Fin 3) = t.val % 2 ∧ win0_0.index t (2 : Fin 3) = 0)
    ∧ (win0_1.index t (0 : Fin 2) = t.val % 2 ∧ win0_1.index t (1 : Fin 2) = 0) :=
  (by decide +kernel : ∀ t : Fin grid0.N, _)

variable (m : (ℓ : Loc nD τ sig) → Buf (Elt Ideal) ℓ) (c : Dev nD) (j : Fin 4) (e : Fin 2) (r : Fin 2048) (k : Fin 704) (s : Fin 1024)

set_option maxHeartbeats 1600000 in
theorem V_u : V m c main_v6 = shardA (uA (m ((c : Thread nD τ).loc main_arg0)) (m ((c : Thread nD τ).loc main_arg1)) (m ((c : Thread nD τ).loc main_arg2))) := by
  unfold V; after_reads_simp; rfl

theorem V_dy : V m c main_arg4 = (m ((c : Thread nD τ).loc main_arg4)) := by
  unfold V; after_reads_simp

/-- Grid point of shard `j` and row half `e`. -/
theorem pt_lt : 2 * j.val + e.val < cfg0.N := lt_of_lt_of_eq (by omega) N_0.symm

theorem emb_0 : (win0_0.rect ⟨2 * j.val + e.val, pt_lt j e⟩).emb (ix3 0 r k) = (ix3 j (half e r) k : S4x4096x704.Idx) := by
  obtain ⟨h0, h1, h2⟩ := (places ⟨2 * j.val + e.val, pt_lt j e⟩).1
  simp only [] at h0 h1 h2
  refine ix3_eq ((Pipeline.Window.rect_emb_val _ _ _ _).trans ?_) ((Pipeline.Window.rect_emb_val _ _ _ _).trans ?_) ((Pipeline.Window.rect_emb_val _ _ _ _).trans ?_)
  · show win0_0.index ⟨2 * j.val + e.val, pt_lt j e⟩ (0 : Fin 3) * 1 + 0 = j.val
    rw [h0]; omega
  · show win0_0.index ⟨2 * j.val + e.val, pt_lt j e⟩ (1 : Fin 3) * 2048 + r.val = 2048 * e.val + r.val
    rw [h1]; omega
  · show win0_0.index ⟨2 * j.val + e.val, pt_lt j e⟩ (2 : Fin 3) * 704 + k.val = k.val
    rw [h2]; omega

theorem emb_1 : (win0_1.rect ⟨2 * j.val + e.val, pt_lt j e⟩).emb (ix2 r s) = (ix2 (half e r) s : S4096x1024.Idx) := by
  obtain ⟨h0, h1⟩ := (places ⟨2 * j.val + e.val, pt_lt j e⟩).2
  simp only [] at h0 h1
  refine ix2_eq ((Pipeline.Window.rect_emb_val _ _ _ _).trans ?_) ((Pipeline.Window.rect_emb_val _ _ _ _).trans ?_)
  · show win0_1.index ⟨2 * j.val + e.val, pt_lt j e⟩ (0 : Fin 2) * 2048 + r.val = 2048 * e.val + r.val
    rw [h0]; omega
  · show win0_1.index ⟨2 * j.val + e.val, pt_lt j e⟩ (1 : Fin 2) * 1024 + s.val = s.val
    rw [h1]; omega

/-- One grid point's step, over arrays the windows' blocks are read from. -/
theorem step_at (u : FVec Ideal S4096x2816 .f32) (dy : FVec Ideal S4096x1024 .f32) (h0 : V m c main_v6 = shardA u) (h1 : V m c main_arg4 = dy)
    (acc : FVec Ideal S704x1024 .f32) :
    k0_pay2 acc (iblk m c 0 ⟨2 * j.val + e.val, pt_lt j e⟩) (iblk m c 1 ⟨2 * j.val + e.val, pt_lt j e⟩) (ix2 k s)
      = acc (ix2 k s) + ∑ r : Fin 2048, u (ix2 (half e r) (colOf j k)) * dy (ix2 (half e r) s) := by
  refine (pay_at _ _ _ k s).trans ?_
  have e0 : ∀ r : Fin 2048, iblk m c 0 ⟨2 * j.val + e.val, pt_lt j e⟩ (ix3 0 r k) = u (ix2 (half e r) (colOf j k)) := fun r =>
    (congrArg (V m c main_v6) (emb_0 j e r k)).trans (by rw [h0]; exact shardA_at u j (half e r) k)
  have e1 : ∀ r : Fin 2048, iblk m c 1 ⟨2 * j.val + e.val, pt_lt j e⟩ (ix2 r s) = dy (ix2 (half e r) s) := fun r =>
    (congrArg (V m c main_arg4) (emb_1 j e r s)).trans (by rw [h1])
  simp only [e0, e1]

/-- The accumulator after the first point of a run. -/
theorem acc_eq : (outsAt0 m c (2 * j.val) (pt_lt j 0)).2 = k0_pay2 (k0_pay1 (F := Ideal)) (iblk m c 0 ⟨2 * j.val, pt_lt j 0⟩) (iblk m c 1 ⟨2 * j.val, pt_lt j 0⟩) :=
  acc_of m c ⟨2 * j.val, pt_lt j 0⟩ (show 2 * j.val % 2 = 0 by omega) (show ¬2 * j.val % 2 = 1 by omega)

/-- The output block after the last point of a run. -/
theorem out_eq : (outsAt0 m c (2 * j.val + 1) (pt_lt j 1)).1 = k0_pay3 (F := Ideal) (k0_pay2 (outsAt0 m c (2 * j.val) (pt_lt j 0)).2 (iblk m c 0 ⟨2 * j.val + 1, pt_lt j 1⟩) (iblk m c 1 ⟨2 * j.val + 1, pt_lt j 1⟩)) :=
  out_of m c ⟨2 * j.val + 1, pt_lt j 1⟩ (show ¬(2 * j.val + 1) % 2 = 0 by omega) (show (2 * j.val + 1) % 2 = 1 by omega)

/-- The reference's last lines: the product, laid out by shard. -/
def refA (u : FVec Ideal S4096x2816 .f32) (dy : FVec Ideal S4096x1024 .f32) : FVec Ideal S4x704x1024 .bf16 :=
  truncf .bf16 (shapeCast _ (transpose Cert.DwdReferenceIdeal.S2816x1024 [1, 0] (Host.dotGeneral Cert.DwdReferenceIdeal.dot_S4096x1024_S4096x2816_S1024x2816_0_0_1_1_n_n none dy u) Cert.DwdReferenceIdeal.Gen.transposes_S1024x2816_S2816x1024_1_0) Cert.DwdReferenceIdeal.Gen.shapeCasts_S2816x1024_S4x704x1024) bitsLt_bf16_f32

theorem refA_at (u : FVec Ideal S4096x2816 .f32) (dy : FVec Ideal S4096x1024 .f32) :
    refA u dy (ix3 j k s) = ∑ p : Fin 4096, dy (ix2 p s) * u (ix2 p (colOf j k)) := by
  pointwise [refA]
  refine Finset.sum_congr rfl fun p _ => congrArg (dy (ix2 p s) * ·) (congrArg u ?_)
  exact ix2_eq rfl (by show j.val * 704 + k.val = 704 * j.val + k.val; omega)

/-- The kernel's result is the reference's. -/
theorem G_eq (u : FVec Ideal S4096x2816 .f32) (dy : FVec Ideal S4096x1024 .f32) (h0 : V m c main_v6 = shardA u) (h1 : V m c main_arg4 = dy) :
    Value.G2 m c = refA u dy := by
  funext y
  obtain ⟨j, k, s, rfl⟩ := ix3_ex y
  have hpt : Value.pt2Of (ix3 j k s : S4x704x1024.Idx) = 2 * j.val + 1 := by
    show 2 * (1 * (j.val / 1 - 0) + 1 * (k.val / 704 - 0) + 1 * (s.val / 1024 - 0)) + 1 = 2 * j.val + 1
    omega
  have hloc : Value.loc2Of (ix3 j k s : S4x704x1024.Idx) = ix3 0 k s :=
    ix3_eq (by show j.val % 1 = 0; omega) (by show k.val % 704 = k.val; omega) (by show s.val % 1024 = s.val; omega)
  have hG : Value.G2 m c (ix3 j k s : S4x704x1024.Idx) = (outsAt0 m c (2 * j.val + 1) (pt_lt j 1)).1 (ix3 0 k s) := by
    unfold Value.G2
    rw [dif_pos (by rw [hpt]; exact pt_lt j 1), hloc, Value.fold0_congr m c _ _ (2 * j.val + 1) (by have h : 2 * j.val + 1 < cfg0.N := pt_lt j 1; omega) hpt, ← Value.outsAt0_sweep]
  refine hG.trans ?_
  rw [out_eq, store_at, show k0_pay2 (outsAt0 m c (2 * j.val) (pt_lt j 0)).2 (iblk m c 0 ⟨2 * j.val + 1, pt_lt j 1⟩) (iblk m c 1 ⟨2 * j.val + 1, pt_lt j 1⟩) (ix2 k s) = _ from step_at m c j 1 k s u dy h0 h1 _,
    acc_eq, show k0_pay2 (k0_pay1 (F := Ideal)) (iblk m c 0 ⟨2 * j.val, pt_lt j 0⟩) (iblk m c 1 ⟨2 * j.val, pt_lt j 0⟩) (ix2 k s) = _ from step_at m c j 0 k s u dy h0 h1 _,
    zero_at, zero_add, refA_at, sum_halves]
  simp only [mul_comm]

end Cert.DwdIdeal.Host0

namespace Cert.Proof

open Cert.DwdIdeal.Host0 Idealize.ShloMosaic Idealize.ShloMosaic.TcCoe Idealize.SL.Sem

/-- For equal arguments the kernel's result and the reference's are equal. -/
theorem algebraic_dwd : Cert.algebraic_DwdIdeal_DwdReferenceIdeal :=
  fun m ρ m' ρ' _ heq =>
  ⟨fun c => Cert.DwdIdeal.Value.G2 m c,
   Cert.DwdIdeal.Value.run m ρ,
   (θ_run (Cert.DwdReferenceIdeal.defs (F := Ideal)) _ _).mono (fun _ h c => ⟨(h c).1.trans (by
      refine Eq.trans ?_ (G_eq m c _ _ (V_u m c) (V_dy m c)).symm
      rw [(heq c).1, (heq c).2.1, (heq c).2.2.1, (heq c).2.2.2.2]
      rfl), (h c).2⟩)
     (Cert.DwdReferenceIdeal.Value.run (F := Ideal) m' ρ')⟩

end Cert.Proof

end
-- ==== Proof.DwguPoint.lean ====
/- The gradient of the FFN's gate and up weights: what each grid point leaves in the accumulators and in the output blocks. -/
module

public import proofs.«01_k».proof.Proof.Gen.DwguIdeal.Value

@[expose] public section

set_option maxRecDepth 16384
set_option Elab.async false

noncomputable section

namespace Cert.DwguIdeal.Gen

open Cert.DwguIdeal Idealize.ShloMosaic Idealize.ShloMosaic.TcCoe Idealize.ShloMosaic.Tactic Idealize.SL.Sem

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- The first point of a run leaves the first product, added to zero, in accumulator 0. -/
theorem first_g (c : Dev nD) (i : grid0.Coords) (arg2 : Memref sig .tc .vmem S2048x1024 .bf16) (harg2 : arg2.IsWhole) (arg3 : Memref sig .tc .vmem S1x2048x704 .bf16) (harg3 : arg3.IsWhole) (arg4 : Memref sig .tc .vmem S1x2048x704 .bf16) (harg4 : arg4.IsWhole) (arg5 : Memref sig .tc .vmem S1x1024x704 .bf16) (harg5 : arg5.IsWhole) (arg6 : Memref sig .tc .vmem S1x1024x704 .bf16) (harg6 : arg6.IsWhole) (arg7 : Memref sig .tc .vmem S1024x704 .f32) (harg7 : arg7.IsWhole) (arg8 : Memref sig .tc .vmem S1024x704 .f32) (harg8 : arg8.IsWhole) (hc0 : cond0_0 i) (hc1 : ¬cond0_1 i)
    (x0 : Vec F S2048x1024 .bf16) (x1 x2 : Vec F S1x2048x704 .bf16) :
    sout0_A_0 c i arg2 harg2 arg3 harg3 arg4 harg4 arg5 harg5 arg6 harg6 arg7 harg7 arg8 harg8 hc0 hc1 x0 x1 x2 = k0_pay4 x0 (k0_pay1 (F := F)) x1 := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  try sl_unfold_words
  rw [View.canon_cons_unit_zero (S := S1024x704) zero2, View.readCov_unit_zero (S := S1024x704) _ zero2]
  simp only [View.readAt_eq_ld, harg2.read_unread, harg3.read_unread, harg4.read_unread, harg5.read_unread, harg6.read_unread, harg7.read_unread, harg8.read_unread, View.ld_unit_zero (S := S1024x704) zero2, View.ld_unit_zero (S := S2048x1024) zero2, View.ld_unit_zero (S := S1x2048x704) zero3, shapeCast_self]

/-- The first point of a run leaves the first product, added to zero, in accumulator 1. -/
theorem first_u (c : Dev nD) (i : grid0.Coords) (arg2 : Memref sig .tc .vmem S2048x1024 .bf16) (harg2 : arg2.IsWhole) (arg3 : Memref sig .tc .vmem S1x2048x704 .bf16) (harg3 : arg3.IsWhole) (arg4 : Memref sig .tc .vmem S1x2048x704 .bf16) (harg4 : arg4.IsWhole) (arg5 : Memref sig .tc .vmem S1x1024x704 .bf16) (harg5 : arg5.IsWhole) (arg6 : Memref sig .tc .vmem S1x1024x704 .bf16) (harg6 : arg6.IsWhole) (arg7 : Memref sig .tc .vmem S1024x704 .f32) (harg7 : arg7.IsWhole) (arg8 : Memref sig .tc .vmem S1024x704 .f32) (harg8 : arg8.IsWhole) (hc0 : cond0_0 i) (hc1 : ¬cond0_1 i)
    (x0 : Vec F S2048x1024 .bf16) (x1 x2 : Vec F S1x2048x704 .bf16) :
    sout0_A_1 c i arg2 harg2 arg3 harg3 arg4 harg4 arg5 harg5 arg6 harg6 arg7 harg7 arg8 harg8 hc0 hc1 x0 x1 x2 = k0_pay5 x0 (k0_pay2 (F := F)) x2 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  try sl_unfold_words
  rw [View.canon_cons_unit_zero (S := S1024x704) zero2, View.readCov_unit_zero (S := S1024x704) _ zero2]
  simp only [View.readAt_eq_ld, harg2.read_unread, harg3.read_unread, harg4.read_unread, harg5.read_unread, harg6.read_unread, harg7.read_unread, harg8.read_unread, View.ld_unit_zero (S := S1024x704) zero2, View.ld_unit_zero (S := S2048x1024) zero2, View.ld_unit_zero (S := S1x2048x704) zero3, shapeCast_self]

/-- The last point of a run leaves accumulator 0 with the second product added, rounded, in its output block. -/
theorem last_g (c : Dev nD) (i : grid0.Coords) (arg2 : Memref sig .tc .vmem S2048x1024 .bf16) (harg2 : arg2.IsWhole) (arg3 : Memref sig .tc .vmem S1x2048x704 .bf16) (harg3 : arg3.IsWhole) (arg4 : Memref sig .tc .vmem S1x2048x704 .bf16) (harg4 : arg4.IsWhole) (arg5 : Memref sig .tc .vmem S1x1024x704 .bf16) (harg5 : arg5.IsWhole) (arg6 : Memref sig .tc .vmem S1x1024x704 .bf16) (harg6 : arg6.IsWhole) (arg7 : Memref sig .tc .vmem S1024x704 .f32) (harg7 : arg7.IsWhole) (arg8 : Memref sig .tc .vmem S1024x704 .f32) (harg8 : arg8.IsWhole) (hc0 : ¬cond0_0 i) (hc1 : cond0_1 i)
    (x0 : Vec F S2048x1024 .bf16) (x1 x2 : Vec F S1x2048x704 .bf16) (xs0 xs1 : Vec F S1024x704 .f32) :
    out0_B_3 c i arg2 harg2 arg3 harg3 arg4 harg4 arg5 harg5 arg6 harg6 arg7 harg7 arg8 harg8 hc0 hc1 x0 x1 x2 xs0 xs1 = k0_pay6 (k0_pay4 x0 xs0 x1) := by
  unfold out0_B_3
  rw [View.read_writes_eq_canon _ _ _ (cover0_B_3 c i arg2 harg2 arg3 harg3 arg4 harg4 arg5 harg5 arg6 harg6 arg7 harg7 arg8 harg8 hc0 hc1 x0 x1 x2 xs0 xs1)]
  unfold kernelRun0_B
  dsimp only
  try sl_unfold_words
  rw [View.canon_unit_zero zero3]
  simp only [View.readCov_unit_zero (S := S1024x704) _ zero2, View.readAt_eq_ld, harg2.read_unread, harg3.read_unread, harg4.read_unread, harg5.read_unread, harg6.read_unread, harg7.read_unread, harg8.read_unread, View.ld_unit_zero (S := S1024x704) zero2, View.ld_unit_zero (S := S2048x1024) zero2, View.ld_unit_zero (S := S1x2048x704) zero3, shapeCast_self]

/-- The last point of a run leaves accumulator 1 with the second product added, rounded, in its output block. -/
theorem last_u (c : Dev nD) (i : grid0.Coords) (arg2 : Memref sig .tc .vmem S2048x1024 .bf16) (harg2 : arg2.IsWhole) (arg3 : Memref sig .tc .vmem S1x2048x704 .bf16) (harg3 : arg3.IsWhole) (arg4 : Memref sig .tc .vmem S1x2048x704 .bf16) (harg4 : arg4.IsWhole) (arg5 : Memref sig .tc .vmem S1x1024x704 .bf16) (harg5 : arg5.IsWhole) (arg6 : Memref sig .tc .vmem S1x1024x704 .bf16) (harg6 : arg6.IsWhole) (arg7 : Memref sig .tc .vmem S1024x704 .f32) (harg7 : arg7.IsWhole) (arg8 : Memref sig .tc .vmem S1024x704 .f32) (harg8 : arg8.IsWhole) (hc0 : ¬cond0_0 i) (hc1 : cond0_1 i)
    (x0 : Vec F S2048x1024 .bf16) (x1 x2 : Vec F S1x2048x704 .bf16) (xs0 xs1 : Vec F S1024x704 .f32) :
    out0_B_4 c i arg2 harg2 arg3 harg3 arg4 harg4 arg5 harg5 arg6 harg6 arg7 harg7 arg8 harg8 hc0 hc1 x0 x1 x2 xs0 xs1 = k0_pay7 (k0_pay5 x0 xs1 x2) := by
  unfold out0_B_4
  rw [View.read_writes_eq_canon _ _ _ (cover0_B_4 c i arg2 harg2 arg3 harg3 arg4 harg4 arg5 harg5 arg6 harg6 arg7 harg7 arg8 harg8 hc0 hc1 x0 x1 x2 xs0 xs1)]
  unfold kernelRun0_B
  dsimp only
  try sl_unfold_words
  rw [View.canon_unit_zero zero3]
  simp only [View.readCov_unit_zero (S := S1024x704) _ zero2, View.readAt_eq_ld, harg2.read_unread, harg3.read_unread, harg4.read_unread, harg5.read_unread, harg6.read_unread, harg7.read_unread, harg8.read_unread, View.ld_unit_zero (S := S1024x704) zero2, View.ld_unit_zero (S := S2048x1024) zero2, View.ld_unit_zero (S := S1x2048x704) zero3, shapeCast_self]

variable (m : (ℓ : Loc nD τ sig) → Buf (Elt F) ℓ) (c : Dev nD) (t : Fin cfg0.N)

/-- Accumulator 0 after the first point of a run. -/
theorem acc_of_g (h0 : t.val % 2 = 0) (h1 : ¬t.val % 2 = 1) :
    (outsAt0 m c t.val t.isLt).2.2.1 = k0_pay4 (iblk m c 0 t) (k0_pay1 (F := F)) (iblk m c 1 t) := by
  rw [outsAt0_A m c t h0 h1]
  dsimp only
  exact first_g c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)

/-- Output block 0 after the last point of a run. -/
theorem out_of_g (h0 : ¬t.val % 2 = 0) (h1 : t.val % 2 = 1) :
    (outsAt0 m c t.val t.isLt).1 = k0_pay6 (k0_pay4 (iblk m c 0 t) (outsAt0 m c (t.val - 1) (Nat.lt_of_le_of_lt (Nat.sub_le _ _) t.isLt)).2.2.1 (iblk m c 1 t)) := by
  rw [outsAt0_B m c t h0 h1]
  dsimp only
  exact last_g c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2

/-- Accumulator 1 after the first point of a run. -/
theorem acc_of_u (h0 : t.val % 2 = 0) (h1 : ¬t.val % 2 = 1) :
    (outsAt0 m c t.val t.isLt).2.2.2 = k0_pay5 (iblk m c 0 t) (k0_pay2 (F := F)) (iblk m c 2 t) := by
  rw [outsAt0_A m c t h0 h1]
  dsimp only
  exact first_u c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)

/-- Output block 1 after the last point of a run. -/
theorem out_of_u (h0 : ¬t.val % 2 = 0) (h1 : t.val % 2 = 1) :
    (outsAt0 m c t.val t.isLt).2.1 = k0_pay7 (k0_pay5 (iblk m c 0 t) (outsAt0 m c (t.val - 1) (Nat.lt_of_le_of_lt (Nat.sub_le _ _) t.isLt)).2.2.2 (iblk m c 2 t)) := by
  rw [outsAt0_B m c t h0 h1]
  dsimp only
  exact last_u c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2

end Cert.DwguIdeal.Gen

end
-- ==== Proof.DwguValue.lean ====
/- The gradient of the FFN's gate and up weights: kernel and reference agree. -/
module

public import proofs.«01_k».proof.Proof.DwguPoint
public import proofs.«01_k».proof.Proof.Gen.DwguReferenceIdeal.Run
public import proofs.«01_k».proof.Proof.FfnSum
public import proofs.«01_k».proof.Defs
public import Idealize.ShloMosaic.Lib.Pointwise
public import Idealize.ShloMosaic.Lib.StableHlo.RunRead

@[expose] public section

set_option maxRecDepth 16384
set_option Elab.async false

noncomputable section

namespace Cert.DwguIdeal.Host0

open Cert.DwguIdeal Cert.DwguIdeal.Gen Idealize.ShloMosaic Idealize.ShloMosaic.TcCoe Idealize.SL.Sem
open Cert.Ffn

/-- A row-major array in column shards. -/
def shardA (x : FVec Ideal S4096x2816 .f32) : FVec Ideal S4x4096x704 .bf16 :=
  truncf .bf16 (transpose S4x4096x704 [1, 0, 2] (shapeCast _ x shapeCasts_S4096x2816_S4096x4x704) transposes_S4096x4x704_S4x4096x704_1_0_2) bitsLt_bf16_f32

theorem shardA_at (x : FVec Ideal S4096x2816 .f32) (j : Fin 4) (r : Fin 4096) (k : Fin 704) : shardA x (ix3 j r k) = x (ix2 r (colOf j k)) := by
  pointwise [shardA]
  congr 2
  exact Fin.ext (by show j.val * 704 + k.val = 704 * j.val + k.val; omega)

/-- One grid point's term: the accumulated tile and the product. -/
theorem pay_g (h : FVec Ideal S2048x1024 .bf16) (acc : FVec Ideal S1024x704 .f32) (d : FVec Ideal S1x2048x704 .bf16) (r : Fin 1024) (k : Fin 704) :
    k0_pay4 h acc d (ix2 r k) = acc (ix2 r k) + ∑ p : Fin 2048, h (ix2 p r) * d (ix3 0 p k) := by
  pointwise [k0_pay4, k0_pay3]

theorem zero_g (r : Fin 1024) (k : Fin 704) : k0_pay1 (F := Ideal) (ix2 r k) = 0 := by
  pointwise [k0_pay1]

theorem store_g (x : FVec Ideal S1024x704 .f32) (r : Fin 1024) (k : Fin 704) : k0_pay6 (F := Ideal) x (ix3 0 r k) = x (ix2 r k) := by
  pointwise [k0_pay6]

/-- One grid point's term: the accumulated tile and the product. -/
theorem pay_u (h : FVec Ideal S2048x1024 .bf16) (acc : FVec Ideal S1024x704 .f32) (d : FVec Ideal S1x2048x704 .bf16) (r : Fin 1024) (k : Fin 704) :
    k0_pay5 h acc d (ix2 r k) = acc (ix2 r k) + ∑ p : Fin 2048, h (ix2 p r) * d (ix3 0 p k) := by
  pointwise [k0_pay5, k0_pay3]

theorem zero_u (r : Fin 1024) (k : Fin 704) : k0_pay2 (F := Ideal) (ix2 r k) = 0 := by
  pointwise [k0_pay2]

theorem store_u (x : FVec Ideal S1024x704 .f32) (r : Fin 1024) (k : Fin 704) : k0_pay7 (F := Ideal) x (ix3 0 r k) = x (ix2 r k) := by
  pointwise [k0_pay7]

/-- The input in the kernel's type. -/
def castA (h : FVec Ideal S4096x1024 .f32) : FVec Ideal S4096x1024 .bf16 := truncf .bf16 h bitsLt_bf16_f32

section

variable (h : FVec Ideal S4096x1024 .f32) (wg wu : FVec Ideal S1024x2816 .f32) (wd : FVec Ideal S2816x1024 .f32) (dy : FVec Ideal S4096x1024 .f32)

/-- The two products of the forward pass, and the gradient of the hidden product. -/
def upA (w : FVec Ideal S1024x2816 .f32) : FVec Ideal S4096x2816 .f32 := Host.dotGeneral dot_S4096x1024_S1024x2816_S4096x2816_1_0_0_1_n_n none h w
def duA : FVec Ideal S4096x2816 .f32 := Host.dotGeneral dot_S4096x1024_S2816x1024_S4096x2816_1_1_0_0_n_n none dy wd

/-- The logistic function of an array. -/
def sigA (x : FVec Ideal S4096x2816 .f32) : FVec Ideal S4096x2816 .f32 :=
  Host.divf (broadcastInDim S4096x2816 ![] bcast_S_S4096x2816 (constant S_ .f32 0x3F800000#32)) (addf (broadcastInDim S4096x2816 ![] bcast_S_S4096x2816 (constant S_ .f32 0x3F800000#32)) (Host.exp (Host.negf x)))

/-- The gradient of the ungated product. -/
def dbA : FVec Ideal S4096x2816 .f32 := mulf (mulf (upA h wg) (sigA (upA h wg))) (duA wd dy)

/-- The gradient of the gate's product. -/
def daA : FVec Ideal S4096x2816 .f32 :=
  addf (mulf (mulf (duA wd dy) (upA h wu)) (sigA (upA h wg)))
    (mulf (mulf (upA h wg) (mulf (duA wd dy) (upA h wu))) (mulf (sigA (upA h wg)) (subf (broadcastInDim S4096x2816 ![] bcast_S_S4096x2816 (constant S_ .f32 0x3F800000#32)) (sigA (upA h wg)))))

end

/-- Where each input window's block lies at grid point `t`. -/
theorem places : ∀ t : Fin cfg0.N,
    (win0_0.index t (0 : Fin 2) = t.val % 2 ∧ win0_0.index t (1 : Fin 2) = 0)
    ∧ (win0_1.index t (0 : Fin 3) = t.val / 2 ∧ win0_1.index t (1 : Fin 3) = t.val % 2 ∧ win0_1.index t (2 : Fin 3) = 0)
    ∧ (win0_2.index t (0 : Fin 3) = t.val / 2 ∧ win0_2.index t (1 : Fin 3) = t.val % 2 ∧ win0_2.index t (2 : Fin 3) = 0) :=
  (by decide +kernel : ∀ t : Fin grid0.N, _)

variable (m : (ℓ : Loc nD τ sig) → Buf (Elt Ideal) ℓ) (c : Dev nD) (j : Fin 4) (e : Fin 2) (p : Fin 2048) (k : Fin 704) (r : Fin 1024)

theorem V_h : V m c main_v11 = castA (m ((c : Thread nD τ).loc main_arg0)) := by
  unfold V; after_reads_simp; rfl

set_option maxHeartbeats 1600000 in
theorem V_da : V m c main_v14 = shardA (daA (m ((c : Thread nD τ).loc main_arg0)) (m ((c : Thread nD τ).loc main_arg1)) (m ((c : Thread nD τ).loc main_arg2)) (m ((c : Thread nD τ).loc main_arg3)) (m ((c : Thread nD τ).loc main_arg4))) := by
  unfold V; after_reads_simp; rfl

set_option maxHeartbeats 1600000 in
theorem V_db : V m c main_v17 = shardA (dbA (m ((c : Thread nD τ).loc main_arg0)) (m ((c : Thread nD τ).loc main_arg1)) (m ((c : Thread nD τ).loc main_arg3)) (m ((c : Thread nD τ).loc main_arg4))) := by
  unfold V; after_reads_simp; rfl

/-- Grid point of shard `j` and row half `e`. -/
theorem pt_lt : 2 * j.val + e.val < cfg0.N := lt_of_lt_of_eq (by omega) N_0.symm

theorem emb_0 : (win0_0.rect ⟨2 * j.val + e.val, pt_lt j e⟩).emb (ix2 p r) = (ix2 (half e p) r : S4096x1024.Idx) := by
  obtain ⟨h0, h1⟩ := (places ⟨2 * j.val + e.val, pt_lt j e⟩).1
  simp only [] at h0 h1
  refine ix2_eq ((Pipeline.Window.rect_emb_val _ _ _ _).trans ?_) ((Pipeline.Window.rect_emb_val _ _ _ _).trans ?_)
  · show win0_0.index ⟨2 * j.val + e.val, pt_lt j e⟩ (0 : Fin 2) * 2048 + p.val = 2048 * e.val + p.val
    rw [h0]; omega
  · show win0_0.index ⟨2 * j.val + e.val, pt_lt j e⟩ (1 : Fin 2) * 1024 + r.val = r.val
    rw [h1]; omega

theorem emb_1 : (win0_1.rect ⟨2 * j.val + e.val, pt_lt j e⟩).emb (ix3 0 p k) = (ix3 j (half e p) k : S4x4096x704.Idx) := by
  obtain ⟨h0, h1, h2⟩ := (places ⟨2 * j.val + e.val, pt_lt j e⟩).2.1
  simp only [] at h0 h1 h2
  refine ix3_eq ((Pipeline.Window.rect_emb_val _ _ _ _).trans ?_) ((Pipeline.Window.rect_emb_val _ _ _ _).trans ?_) ((Pipeline.Window.rect_emb_val _ _ _ _).trans ?_)
  · show win0_1.index ⟨2 * j.val + e.val, pt_lt j e⟩ (0 : Fin 3) * 1 + 0 = j.val
    rw [h0]; omega
  · show win0_1.index ⟨2 * j.val + e.val, pt_lt j e⟩ (1 : Fin 3) * 2048 + p.val = 2048 * e.val + p.val
    rw [h1]; omega
  · show win0_1.index ⟨2 * j.val + e.val, pt_lt j e⟩ (2 : Fin 3) * 704 + k.val = k.val
    rw [h2]; omega

theorem emb_2 : (win0_2.rect ⟨2 * j.val + e.val, pt_lt j e⟩).emb (ix3 0 p k) = (ix3 j (half e p) k : S4x4096x704.Idx) := by
  obtain ⟨h0, h1, h2⟩ := (places ⟨2 * j.val + e.val, pt_lt j e⟩).2.2
  simp only [] at h0 h1 h2
  refine ix3_eq ((Pipeline.Window.rect_emb_val _ _ _ _).trans ?_) ((Pipeline.Window.rect_emb_val _ _ _ _).trans ?_) ((Pipeline.Window.rect_emb_val _ _ _ _).trans ?_)
  · show win0_2.index ⟨2 * j.val + e.val, pt_lt j e⟩ (0 : Fin 3) * 1 + 0 = j.val
    rw [h0]; omega
  · show win0_2.index ⟨2 * j.val + e.val, pt_lt j e⟩ (1 : Fin 3) * 2048 + p.val = 2048 * e.val + p.val
    rw [h1]; omega
  · show win0_2.index ⟨2 * j.val + e.val, pt_lt j e⟩ (2 : Fin 3) * 704 + k.val = k.val
    rw [h2]; omega

/-- One grid point's step, over arrays the windows' blocks are read from. -/
theorem step_g (x : FVec Ideal S4096x2816 .f32) (h : FVec Ideal S4096x1024 .f32) (h0 : V m c main_v11 = castA h) (h1 : V m c main_v14 = shardA x)
    (acc : FVec Ideal S1024x704 .f32) :
    k0_pay4 (iblk m c 0 ⟨2 * j.val + e.val, pt_lt j e⟩) acc (iblk m c 1 ⟨2 * j.val + e.val, pt_lt j e⟩) (ix2 r k)
      = acc (ix2 r k) + ∑ p : Fin 2048, h (ix2 (half e p) r) * x (ix2 (half e p) (colOf j k)) := by
  refine (pay_g _ _ _ r k).trans ?_
  have e0 : ∀ p : Fin 2048, iblk m c 0 ⟨2 * j.val + e.val, pt_lt j e⟩ (ix2 p r) = h (ix2 (half e p) r) := fun p =>
    (congrArg (V m c main_v11) (emb_0 j e p r)).trans (by rw [h0]; rfl)
  have e1 : ∀ p : Fin 2048, iblk m c 1 ⟨2 * j.val + e.val, pt_lt j e⟩ (ix3 0 p k) = x (ix2 (half e p) (colOf j k)) := fun p =>
    (congrArg (V m c main_v14) (emb_1 j e p k)).trans (by rw [h1]; exact shardA_at x j (half e p) k)
  simp only [e0, e1]

/-- The accumulator after the first point of a run. -/
theorem acc_eq_g : (outsAt0 m c (2 * j.val) (pt_lt j 0)).2.2.1 = k0_pay4 (iblk m c 0 ⟨2 * j.val, pt_lt j 0⟩) (k0_pay1 (F := Ideal)) (iblk m c 1 ⟨2 * j.val, pt_lt j 0⟩) :=
  acc_of_g m c ⟨2 * j.val, pt_lt j 0⟩ (show 2 * j.val % 2 = 0 by omega) (show ¬2 * j.val % 2 = 1 by omega)

/-- The output block after the last point of a run. -/
theorem out_eq_g : (outsAt0 m c (2 * j.val + 1) (pt_lt j 1)).1 = k0_pay6 (F := Ideal) (k0_pay4 (iblk m c 0 ⟨2 * j.val + 1, pt_lt j 1⟩) (outsAt0 m c (2 * j.val) (pt_lt j 0)).2.2.1 (iblk m c 1 ⟨2 * j.val + 1, pt_lt j 1⟩)) :=
  out_of_g m c ⟨2 * j.val + 1, pt_lt j 1⟩ (show ¬(2 * j.val + 1) % 2 = 0 by omega) (show (2 * j.val + 1) % 2 = 1 by omega)

/-- One grid point's step, over arrays the windows' blocks are read from. -/
theorem step_u (x : FVec Ideal S4096x2816 .f32) (h : FVec Ideal S4096x1024 .f32) (h0 : V m c main_v11 = castA h) (h1 : V m c main_v17 = shardA x)
    (acc : FVec Ideal S1024x704 .f32) :
    k0_pay5 (iblk m c 0 ⟨2 * j.val + e.val, pt_lt j e⟩) acc (iblk m c 2 ⟨2 * j.val + e.val, pt_lt j e⟩) (ix2 r k)
      = acc (ix2 r k) + ∑ p : Fin 2048, h (ix2 (half e p) r) * x (ix2 (half e p) (colOf j k)) := by
  refine (pay_u _ _ _ r k).trans ?_
  have e0 : ∀ p : Fin 2048, iblk m c 0 ⟨2 * j.val + e.val, pt_lt j e⟩ (ix2 p r) = h (ix2 (half e p) r) := fun p =>
    (congrArg (V m c main_v11) (emb_0 j e p r)).trans (by rw [h0]; rfl)
  have e1 : ∀ p : Fin 2048, iblk m c 2 ⟨2 * j.val + e.val, pt_lt j e⟩ (ix3 0 p k) = x (ix2 (half e p) (colOf j k)) := fun p =>
    (congrArg (V m c main_v17) (emb_2 j e p k)).trans (by rw [h1]; exact shardA_at x j (half e p) k)
  simp only [e0, e1]

/-- The accumulator after the first point of a run. -/
theorem acc_eq_u : (outsAt0 m c (2 * j.val) (pt_lt j 0)).2.2.2 = k0_pay5 (iblk m c 0 ⟨2 * j.val, pt_lt j 0⟩) (k0_pay2 (F := Ideal)) (iblk m c 2 ⟨2 * j.val, pt_lt j 0⟩) :=
  acc_of_u m c ⟨2 * j.val, pt_lt j 0⟩ (show 2 * j.val % 2 = 0 by omega) (show ¬2 * j.val % 2 = 1 by omega)

/-- The output block after the last point of a run. -/
theorem out_eq_u : (outsAt0 m c (2 * j.val + 1) (pt_lt j 1)).2.1 = k0_pay7 (F := Ideal) (k0_pay5 (iblk m c 0 ⟨2 * j.val + 1, pt_lt j 1⟩) (outsAt0 m c (2 * j.val) (pt_lt j 0)).2.2.2 (iblk m c 2 ⟨2 * j.val + 1, pt_lt j 1⟩)) :=
  out_of_u m c ⟨2 * j.val + 1, pt_lt j 1⟩ (show ¬(2 * j.val + 1) % 2 = 0 by omega) (show (2 * j.val + 1) % 2 = 1 by omega)

/-- The reference's last lines: the product, laid out by shard. -/
def refA (x : FVec Ideal S4096x2816 .f32) (h : FVec Ideal S4096x1024 .f32) : FVec Ideal S4x1024x704 .bf16 :=
  truncf .bf16 (transpose S4x1024x704 [1, 0, 2] (shapeCast _ (transpose S1024x2816 [1, 0] (Host.dotGeneral Cert.DwguReferenceIdeal.dot_S4096x2816_S4096x1024_S2816x1024_0_0_1_1_n_n none x h) Cert.DwguReferenceIdeal.Gen.transposes_S2816x1024_S1024x2816_1_0) Cert.DwguReferenceIdeal.Gen.shapeCasts_S1024x2816_S1024x4x704) Cert.DwguReferenceIdeal.Gen.transposes_S1024x4x704_S4x1024x704_1_0_2) bitsLt_bf16_f32

theorem refA_at (x : FVec Ideal S4096x2816 .f32) (h : FVec Ideal S4096x1024 .f32) :
    refA x h (ix3 j r k) = ∑ p : Fin 4096, x (ix2 p (colOf j k)) * h (ix2 p r) := by
  pointwise [refA]
  refine Finset.sum_congr rfl fun p _ => congrArg (· * h (ix2 p r)) (congrArg x ?_)
  exact ix2_eq rfl (by show j.val * 704 + k.val = 704 * j.val + k.val; omega)

/-- The kernel's result 0 is the reference's. -/
theorem G_eq_g (x : FVec Ideal S4096x2816 .f32) (h : FVec Ideal S4096x1024 .f32) (h0 : V m c main_v11 = castA h) (h1 : V m c main_v14 = shardA x) :
    Value.G3 m c = refA x h := by
  funext y
  obtain ⟨j, r, k, rfl⟩ := ix3_ex y
  have hpt : Value.pt3Of (ix3 j r k : S4x1024x704.Idx) = 2 * j.val + 1 := by
    show 2 * (1 * (j.val / 1 - 0) + 1 * (r.val / 1024 - 0) + 1 * (k.val / 704 - 0)) + 1 = 2 * j.val + 1
    omega
  have hloc : Value.loc3Of (ix3 j r k : S4x1024x704.Idx) = ix3 0 r k :=
    ix3_eq (by show j.val % 1 = 0; omega) (by show r.val % 1024 = r.val; omega) (by show k.val % 704 = k.val; omega)
  have hG : Value.G3 m c (ix3 j r k : S4x1024x704.Idx) = (outsAt0 m c (2 * j.val + 1) (pt_lt j 1)).1 (ix3 0 r k) := by
    unfold Value.G3
    rw [dif_pos (by rw [hpt]; exact pt_lt j 1), hloc, Value.fold0_congr m c _ _ (2 * j.val + 1) (by have h : 2 * j.val + 1 < cfg0.N := pt_lt j 1; omega) hpt, ← Value.outsAt0_sweep]
  refine hG.trans ?_
  rw [out_eq_g, store_g, show k0_pay4 (iblk m c 0 ⟨2 * j.val + 1, pt_lt j 1⟩) (outsAt0 m c (2 * j.val) (pt_lt j 0)).2.2.1 (iblk m c 1 ⟨2 * j.val + 1, pt_lt j 1⟩) (ix2 r k) = _ from step_g m c j 1 k r x h h0 h1 _,
    acc_eq_g, show k0_pay4 (iblk m c 0 ⟨2 * j.val, pt_lt j 0⟩) (k0_pay1 (F := Ideal)) (iblk m c 1 ⟨2 * j.val, pt_lt j 0⟩) (ix2 r k) = _ from step_g m c j 0 k r x h h0 h1 _,
    zero_g, zero_add, refA_at, sum_halves]
  simp only [mul_comm]

/-- The kernel's result 1 is the reference's. -/
theorem G_eq_u (x : FVec Ideal S4096x2816 .f32) (h : FVec Ideal S4096x1024 .f32) (h0 : V m c main_v11 = castA h) (h1 : V m c main_v17 = shardA x) :
    Value.G4 m c = refA x h := by
  funext y
  obtain ⟨j, r, k, rfl⟩ := ix3_ex y
  have hpt : Value.pt4Of (ix3 j r k : S4x1024x704.Idx) = 2 * j.val + 1 := by
    show 2 * (1 * (j.val / 1 - 0) + 1 * (r.val / 1024 - 0) + 1 * (k.val / 704 - 0)) + 1 = 2 * j.val + 1
    omega
  have hloc : Value.loc4Of (ix3 j r k : S4x1024x704.Idx) = ix3 0 r k :=
    ix3_eq (by show j.val % 1 = 0; omega) (by show r.val % 1024 = r.val; omega) (by show k.val % 704 = k.val; omega)
  have hG : Value.G4 m c (ix3 j r k : S4x1024x704.Idx) = (outsAt0 m c (2 * j.val + 1) (pt_lt j 1)).2.1 (ix3 0 r k) := by
    unfold Value.G4
    rw [dif_pos (by rw [hpt]; exact pt_lt j 1), hloc, Value.fold0_congr m c _ _ (2 * j.val + 1) (by have h : 2 * j.val + 1 < cfg0.N := pt_lt j 1; omega) hpt, ← Value.outsAt0_sweep]
  refine hG.trans ?_
  rw [out_eq_u, store_u, show k0_pay5 (iblk m c 0 ⟨2 * j.val + 1, pt_lt j 1⟩) (outsAt0 m c (2 * j.val) (pt_lt j 0)).2.2.2 (iblk m c 2 ⟨2 * j.val + 1, pt_lt j 1⟩) (ix2 r k) = _ from step_u m c j 1 k r x h h0 h1 _,
    acc_eq_u, show k0_pay5 (iblk m c 0 ⟨2 * j.val, pt_lt j 0⟩) (k0_pay2 (F := Ideal)) (iblk m c 2 ⟨2 * j.val, pt_lt j 0⟩) (ix2 r k) = _ from step_u m c j 0 k r x h h0 h1 _,
    zero_u, zero_add, refA_at, sum_halves]
  simp only [mul_comm]

end Cert.DwguIdeal.Host0

namespace Cert.Proof

open Cert.DwguIdeal.Host0 Idealize.ShloMosaic Idealize.ShloMosaic.TcCoe Idealize.SL.Sem

/-- For equal arguments the kernel's results and the reference's are equal. -/
theorem algebraic_dwgu : Cert.algebraic_DwguIdeal_DwguReferenceIdeal :=
  fun m ρ m' ρ' _ heq =>
  ⟨fun c => Cert.DwguIdeal.Value.G3 m c, fun c => Cert.DwguIdeal.Value.G4 m c,
   Cert.DwguIdeal.Value.run m ρ,
   (θ_run (Cert.DwguReferenceIdeal.defs (F := Ideal)) _ _).mono (fun _ h c => ⟨(h c).1.trans (by
      refine Eq.trans ?_ (show Cert.DwguIdeal.Value.G3 m c = _ from G_eq_g m c _ _ (V_h m c) (V_da m c)).symm
      rw [(heq c).1, (heq c).2.1, (heq c).2.2.1, (heq c).2.2.2.1, (heq c).2.2.2.2]
      rfl), (h c).2.1.trans (by
      refine Eq.trans ?_ (show Cert.DwguIdeal.Value.G4 m c = _ from G_eq_u m c _ _ (V_h m c) (V_db m c)).symm
      rw [(heq c).1, (heq c).2.1, (heq c).2.2.2.1, (heq c).2.2.2.2]
      rfl), (h c).2.2⟩)
     (Cert.DwguReferenceIdeal.Value.run (F := Ideal) m' ρ')⟩

end Cert.Proof

end
-- ==== Proof.DhHost.lean ====
/- The gradient of the FFN's input: the arrays the host hands to the kernel, their blocks, and the kernel's result. -/
module

public import proofs.«01_k».proof.Proof.Gen.DhIdeal.Value
public import proofs.«01_k».proof.Proof.FfnSum
public import Idealize.ShloMosaic.Lib.Pointwise
public import Idealize.ShloMosaic.Lib.StableHlo.RunRead

@[expose] public section

set_option maxRecDepth 16384
set_option Elab.async false

noncomputable section

namespace Cert.DhIdeal.Host0

open Cert.DhIdeal Cert.DhIdeal.Gen Idealize.ShloMosaic Idealize.ShloMosaic.TcCoe Idealize.SL.Sem
open Cert.Ffn

/-- A row-major array in column shards. -/
def shardA (x : FVec Ideal S4096x2816 .f32) : FVec Ideal S4x4096x704 .bf16 :=
  truncf .bf16 (transpose S4x4096x704 [1, 0, 2] (shapeCast _ x shapeCasts_S4096x2816_S4096x4x704) transposes_S4096x4x704_S4x4096x704_1_0_2) bitsLt_bf16_f32

/-- A weight in column shards. -/
def shardW (x : FVec Ideal S1024x2816 .f32) : FVec Ideal S4x1024x704 .bf16 :=
  truncf .bf16 (transpose S4x1024x704 [1, 0, 2] (shapeCast _ x shapeCasts_S1024x2816_S1024x4x704) transposes_S1024x4x704_S4x1024x704_1_0_2) bitsLt_bf16_f32

theorem shardA_at (x : FVec Ideal S4096x2816 .f32) (j : Fin 4) (r : Fin 4096) (k : Fin 704) : shardA x (ix3 j r k) = x (ix2 r (colOf j k)) := by
  pointwise [shardA]
  congr 2
  exact Fin.ext (by show j.val * 704 + k.val = 704 * j.val + k.val; omega)

theorem shardW_at (x : FVec Ideal S1024x2816 .f32) (j : Fin 4) (r : Fin 1024) (k : Fin 704) : shardW x (ix3 j r k) = x (ix2 r (colOf j k)) := by
  pointwise [shardW]
  congr 2
  exact Fin.ext (by show j.val * 704 + k.val = 704 * j.val + k.val; omega)

/-- One grid point's term: the accumulated tile and the two products. -/
theorem pay_at (acc : FVec Ideal S1024x1024 .f32) (a w b u : FVec Ideal S1x1024x704 .bf16) (r s : Fin 1024) :
    k0_pay2 acc a w b u (ix2 r s) = acc (ix2 r s) + ((∑ k : Fin 704, a (ix3 0 r k) * w (ix3 0 s k)) + ∑ k : Fin 704, b (ix3 0 r k) * u (ix3 0 s k)) := by
  pointwise [k0_pay2]

theorem zero_at (r s : Fin 1024) : k0_pay1 (F := Ideal) (ix2 r s) = 0 := by
  pointwise [k0_pay1]

variable (h : FVec Ideal S4096x1024 .f32) (wg wu : FVec Ideal S1024x2816 .f32) (wd : FVec Ideal S2816x1024 .f32) (dy : FVec Ideal S4096x1024 .f32)

/-- The two products of the forward pass, and the gradient of the hidden product. -/
def upA (w : FVec Ideal S1024x2816 .f32) : FVec Ideal S4096x2816 .f32 := Host.dotGeneral dot_S4096x1024_S1024x2816_S4096x2816_1_0_0_1_n_n none h w
def duA : FVec Ideal S4096x2816 .f32 := Host.dotGeneral dot_S4096x1024_S2816x1024_S4096x2816_1_1_0_0_n_n none dy wd

/-- The logistic function of an array. -/
def sigA (x : FVec Ideal S4096x2816 .f32) : FVec Ideal S4096x2816 .f32 :=
  Host.divf (broadcastInDim S4096x2816 ![] bcast_S_S4096x2816 (constant S_ .f32 0x3F800000#32)) (addf (broadcastInDim S4096x2816 ![] bcast_S_S4096x2816 (constant S_ .f32 0x3F800000#32)) (Host.exp (Host.negf x)))

/-- The gradient of the ungated product. -/
def dbA : FVec Ideal S4096x2816 .f32 := mulf (mulf (upA h wg) (sigA (upA h wg))) (duA wd dy)

/-- The gradient of the gate's product. -/
def daA : FVec Ideal S4096x2816 .f32 :=
  addf (mulf (mulf (duA wd dy) (upA h wu)) (sigA (upA h wg)))
    (mulf (mulf (upA h wg) (mulf (duA wd dy) (upA h wu))) (mulf (sigA (upA h wg)) (subf (broadcastInDim S4096x2816 ![] bcast_S_S4096x2816 (constant S_ .f32 0x3F800000#32)) (sigA (upA h wg)))))

variable (m : (ℓ : Loc nD τ sig) → Buf (Elt Ideal) ℓ) (c : Dev nD)

set_option maxHeartbeats 1600000 in
theorem V_da : V m c main_v13 = shardA (daA (m ((c : Thread nD τ).loc main_arg0)) (m ((c : Thread nD τ).loc main_arg1)) (m ((c : Thread nD τ).loc main_arg2)) (m ((c : Thread nD τ).loc main_arg3)) (m ((c : Thread nD τ).loc main_arg4))) := by
  unfold V; after_reads_simp; rfl

set_option maxHeartbeats 1600000 in
theorem V_db : V m c main_v16 = shardA (dbA (m ((c : Thread nD τ).loc main_arg0)) (m ((c : Thread nD τ).loc main_arg1)) (m ((c : Thread nD τ).loc main_arg3)) (m ((c : Thread nD τ).loc main_arg4))) := by
  unfold V; after_reads_simp; rfl

theorem V_wg : V m c main_v19 = shardW (m ((c : Thread nD τ).loc main_arg1)) := by
  unfold V; after_reads_simp; rfl

theorem V_wu : V m c main_v22 = shardW (m ((c : Thread nD τ).loc main_arg2)) := by
  unfold V; after_reads_simp; rfl

end Cert.DhIdeal.Host0

end
-- ==== Proof.DhValue.lean ====
/- The gradient of the FFN's input: kernel and reference agree. -/
module

public import proofs.«01_k».proof.Proof.DhHost
public import proofs.«01_k».proof.Proof.Gen.DhReferenceIdeal.Run
public import proofs.«01_k».proof.Defs

@[expose] public section

set_option maxRecDepth 16384
set_option Elab.async false

noncomputable section

namespace Cert.DhIdeal.Host0

open Cert.DhIdeal Cert.DhIdeal.Gen Idealize.ShloMosaic Idealize.ShloMosaic.TcCoe Idealize.SL.Sem
open Cert.Ffn

/-- Where each window's block lies at grid point `t`. -/
theorem places : ∀ t : Fin cfg0.N,
    (win0_0.index t (0 : Fin 3) = t.val % 4 ∧ win0_0.index t (1 : Fin 3) = t.val / 4 ∧ win0_0.index t (2 : Fin 3) = 0)
    ∧ (win0_1.index t (0 : Fin 3) = t.val % 4 ∧ win0_1.index t (1 : Fin 3) = t.val / 4 ∧ win0_1.index t (2 : Fin 3) = 0)
    ∧ (win0_2.index t (0 : Fin 3) = t.val % 4 ∧ win0_2.index t (1 : Fin 3) = 0 ∧ win0_2.index t (2 : Fin 3) = 0)
    ∧ (win0_3.index t (0 : Fin 3) = t.val % 4 ∧ win0_3.index t (1 : Fin 3) = 0 ∧ win0_3.index t (2 : Fin 3) = 0) :=
  (by decide +kernel : ∀ t : Fin grid0.N, _)

variable (m : (ℓ : Loc nD τ sig) → Buf (Elt Ideal) ℓ) (c : Dev nD) (i j : Fin 4) (r : Fin 1024) (k : Fin 704)

/-- Grid point of row quarter `i` and shard `j`. -/
theorem pt_lt : 4 * i.val + j.val < cfg0.N := lt_of_lt_of_eq (by omega) N_0.symm

theorem emb_0 : (win0_0.rect ⟨4 * i.val + j.val, pt_lt i j⟩).emb (ix3 0 r k) = (ix3 j (quarter i r) k : S4x4096x704.Idx) := by
  obtain ⟨⟨h0, h1, h2⟩, -⟩ := places ⟨4 * i.val + j.val, pt_lt i j⟩
  simp only [] at h0 h1 h2
  funext a; apply Fin.ext
  match a with
  | ⟨0, _⟩ =>
    refine (Pipeline.Window.rect_emb_val _ _ _ _).trans ?_
    show win0_0.index ⟨4 * i.val + j.val, pt_lt i j⟩ (0 : Fin 3) * 1 + 0 = j.val
    rw [h0]; omega
  | ⟨1, _⟩ =>
    refine (Pipeline.Window.rect_emb_val _ _ _ _).trans ?_
    show win0_0.index ⟨4 * i.val + j.val, pt_lt i j⟩ (1 : Fin 3) * 1024 + r.val = 1024 * i.val + r.val
    rw [h1]; omega
  | ⟨2, _⟩ =>
    refine (Pipeline.Window.rect_emb_val _ _ _ _).trans ?_
    show win0_0.index ⟨4 * i.val + j.val, pt_lt i j⟩ (2 : Fin 3) * 704 + k.val = k.val
    rw [h2]; omega

theorem emb_1 : (win0_1.rect ⟨4 * i.val + j.val, pt_lt i j⟩).emb (ix3 0 r k) = (ix3 j (quarter i r) k : S4x4096x704.Idx) := by
  obtain ⟨-, ⟨h0, h1, h2⟩, -⟩ := places ⟨4 * i.val + j.val, pt_lt i j⟩
  simp only [] at h0 h1 h2
  funext a; apply Fin.ext
  match a with
  | ⟨0, _⟩ =>
    refine (Pipeline.Window.rect_emb_val _ _ _ _).trans ?_
    show win0_1.index ⟨4 * i.val + j.val, pt_lt i j⟩ (0 : Fin 3) * 1 + 0 = j.val
    rw [h0]; omega
  | ⟨1, _⟩ =>
    refine (Pipeline.Window.rect_emb_val _ _ _ _).trans ?_
    show win0_1.index ⟨4 * i.val + j.val, pt_lt i j⟩ (1 : Fin 3) * 1024 + r.val = 1024 * i.val + r.val
    rw [h1]; omega
  | ⟨2, _⟩ =>
    refine (Pipeline.Window.rect_emb_val _ _ _ _).trans ?_
    show win0_1.index ⟨4 * i.val + j.val, pt_lt i j⟩ (2 : Fin 3) * 704 + k.val = k.val
    rw [h2]; omega

theorem emb_2 : (win0_2.rect ⟨4 * i.val + j.val, pt_lt i j⟩).emb (ix3 0 r k) = (ix3 j r k : S4x1024x704.Idx) := by
  obtain ⟨-, -, ⟨h0, h1, h2⟩, -⟩ := places ⟨4 * i.val + j.val, pt_lt i j⟩
  simp only [] at h0 h1 h2
  funext a; apply Fin.ext
  match a with
  | ⟨0, _⟩ =>
    refine (Pipeline.Window.rect_emb_val _ _ _ _).trans ?_
    show win0_2.index ⟨4 * i.val + j.val, pt_lt i j⟩ (0 : Fin 3) * 1 + 0 = j.val
    rw [h0]; omega
  | ⟨1, _⟩ =>
    refine (Pipeline.Window.rect_emb_val _ _ _ _).trans ?_
    show win0_2.index ⟨4 * i.val + j.val, pt_lt i j⟩ (1 : Fin 3) * 1024 + r.val = r.val
    rw [h1]; omega
  | ⟨2, _⟩ =>
    refine (Pipeline.Window.rect_emb_val _ _ _ _).trans ?_
    show win0_2.index ⟨4 * i.val + j.val, pt_lt i j⟩ (2 : Fin 3) * 704 + k.val = k.val
    rw [h2]; omega

theorem emb_3 : (win0_3.rect ⟨4 * i.val + j.val, pt_lt i j⟩).emb (ix3 0 r k) = (ix3 j r k : S4x1024x704.Idx) := by
  obtain ⟨-, -, -, ⟨h0, h1, h2⟩⟩ := places ⟨4 * i.val + j.val, pt_lt i j⟩
  simp only [] at h0 h1 h2
  funext a; apply Fin.ext
  match a with
  | ⟨0, _⟩ =>
    refine (Pipeline.Window.rect_emb_val _ _ _ _).trans ?_
    show win0_3.index ⟨4 * i.val + j.val, pt_lt i j⟩ (0 : Fin 3) * 1 + 0 = j.val
    rw [h0]; omega
  | ⟨1, _⟩ =>
    refine (Pipeline.Window.rect_emb_val _ _ _ _).trans ?_
    show win0_3.index ⟨4 * i.val + j.val, pt_lt i j⟩ (1 : Fin 3) * 1024 + r.val = r.val
    rw [h1]; omega
  | ⟨2, _⟩ =>
    refine (Pipeline.Window.rect_emb_val _ _ _ _).trans ?_
    show win0_3.index ⟨4 * i.val + j.val, pt_lt i j⟩ (2 : Fin 3) * 704 + k.val = k.val
    rw [h2]; omega

/-- One grid point's step, over arrays the windows' blocks are read from. -/
theorem step_at (da db : FVec Ideal S4096x2816 .f32) (wg wu : FVec Ideal S1024x2816 .f32)
    (h0 : V m c main_v13 = shardA da) (h1 : V m c main_v16 = shardA db) (h2 : V m c main_v19 = shardW wg) (h3 : V m c main_v22 = shardW wu)
    (acc : FVec Ideal S1024x1024 .f32) (s : Fin 1024) :
    k0_pay2 acc (iblk m c 0 ⟨4 * i.val + j.val, pt_lt i j⟩) (iblk m c 2 ⟨4 * i.val + j.val, pt_lt i j⟩) (iblk m c 1 ⟨4 * i.val + j.val, pt_lt i j⟩) (iblk m c 3 ⟨4 * i.val + j.val, pt_lt i j⟩) (ix2 r s)
      = acc (ix2 r s) + ((∑ k : Fin 704, da (ix2 (quarter i r) (colOf j k)) * wg (ix2 s (colOf j k))) + ∑ k : Fin 704, db (ix2 (quarter i r) (colOf j k)) * wu (ix2 s (colOf j k))) := by
  refine (pay_at _ _ _ _ _ r s).trans ?_
  have e0 : ∀ k : Fin 704, iblk m c 0 ⟨4 * i.val + j.val, pt_lt i j⟩ (ix3 0 r k) = da (ix2 (quarter i r) (colOf j k)) := fun k =>
    (congrArg (V m c main_v13) (emb_0 i j r k)).trans (by rw [h0]; exact shardA_at da j (quarter i r) k)
  have e1 : ∀ k : Fin 704, iblk m c 1 ⟨4 * i.val + j.val, pt_lt i j⟩ (ix3 0 r k) = db (ix2 (quarter i r) (colOf j k)) := fun k =>
    (congrArg (V m c main_v16) (emb_1 i j r k)).trans (by rw [h1]; exact shardA_at db j (quarter i r) k)
  have e2 : ∀ k : Fin 704, iblk m c 2 ⟨4 * i.val + j.val, pt_lt i j⟩ (ix3 0 s k) = wg (ix2 s (colOf j k)) := fun k =>
    (congrArg (V m c main_v19) (emb_2 i j s k)).trans (by rw [h2]; exact shardW_at wg j s k)
  have e3 : ∀ k : Fin 704, iblk m c 3 ⟨4 * i.val + j.val, pt_lt i j⟩ (ix3 0 s k) = wu (ix2 s (colOf j k)) := fun k =>
    (congrArg (V m c main_v22) (emb_3 i j s k)).trans (by rw [h3]; exact shardW_at wu j s k)
  simp only [e0, e1, e2, e3]

/-- The reference's last lines: the two products and their sum. -/
def refA (da db : FVec Ideal S4096x2816 .f32) (wg wu : FVec Ideal S1024x2816 .f32) : FVec Ideal S4096x1024 .f32 :=
  addf (Host.dotGeneral Cert.DhReferenceIdeal.dot_S4096x2816_S1024x2816_S4096x1024_1_1_0_0_n_n none db wu)
    (Host.dotGeneral Cert.DhReferenceIdeal.dot_S4096x2816_S1024x2816_S4096x1024_1_1_0_0_n_n none da wg)

theorem refA_at (da db : FVec Ideal S4096x2816 .f32) (wg wu : FVec Ideal S1024x2816 .f32) (n : Fin 4096) (s : Fin 1024) :
    refA da db wg wu (ix2 n s) = (∑ p : Fin 2816, db (ix2 n p) * wu (ix2 s p)) + ∑ p : Fin 2816, da (ix2 n p) * wg (ix2 s p) := by
  pointwise [refA]

/-- The kernel's result is the reference's. -/
theorem G_eq (da db : FVec Ideal S4096x2816 .f32) (wg wu : FVec Ideal S1024x2816 .f32)
    (h0 : V m c main_v13 = shardA da) (h1 : V m c main_v16 = shardA db) (h2 : V m c main_v19 = shardW wg) (h3 : V m c main_v22 = shardW wu) :
    Value.G4 m c = refA da db wg wu := by
  funext y
  obtain ⟨n, s, rfl⟩ := ix2_ex y
  obtain ⟨i, r, rfl⟩ := row_split n
  have hrun : Value.run4Of (ix2 (quarter i r) s : S4096x1024.Idx) = i.val := by
    show 1 * ((1024 * i.val + r.val) / 1024 - 0) + 1 * (s.val / 1024 - 0) = i.val
    omega
  have hloc : Value.loc4Of (ix2 (quarter i r) s : S4096x1024.Idx) = ix2 r s := by
    funext a; apply Fin.ext
    match a with
    | ⟨0, _⟩ => show (1024 * i.val + r.val) % 1024 = r.val; omega
    | ⟨1, _⟩ => show s.val % 1024 = s.val; omega
  have hlt : 4 * i.val + 3 < cfg0.N := lt_of_lt_of_eq (by omega) N_0.symm
  have e : ∀ (b : ℕ) (h : 4 * b + 3 < cfg0.N), b = i.val →
      Pipeline.accAt (Value.reset4 m c) (Value.step4 m c) (4 * b) 3 h = Pipeline.accAt (Value.reset4 m c) (Value.step4 m c) (4 * i.val) 3 hlt := by
    intro b h hb; subst hb; rfl
  have hG : Value.G4 m c (ix2 (quarter i r) s : S4096x1024.Idx) = Pipeline.accAt (Value.reset4 m c) (Value.step4 m c) (4 * i.val) 3 hlt (ix2 r s) := by
    unfold Value.G4
    rw [dif_pos (by rw [hrun]; exact hlt), hloc]
    exact congrFun (e _ _ hrun) _
  refine hG.trans ?_
  refine (step_at m c i 3 r da db wg wu h0 h1 h2 h3 _ s).trans ?_
  rw [show Pipeline.accAt (Value.reset4 m c) (Value.step4 m c) (4 * i.val) 2 (by omega) (ix2 r s) = _ from step_at m c i 2 r da db wg wu h0 h1 h2 h3 _ s,
    show Pipeline.accAt (Value.reset4 m c) (Value.step4 m c) (4 * i.val) 1 (by omega) (ix2 r s) = _ from step_at m c i 1 r da db wg wu h0 h1 h2 h3 _ s,
    show Pipeline.accAt (Value.reset4 m c) (Value.step4 m c) (4 * i.val) 0 (by omega) (ix2 r s) = _ from step_at m c i 0 r da db wg wu h0 h1 h2 h3 _ s,
    zero_at, refA_at, sum_shards, sum_shards]
  simp only [Fin.sum_univ_four, zero_add]
  abel

end Cert.DhIdeal.Host0

namespace Cert.Proof

open Cert.DhIdeal.Host0 Idealize.ShloMosaic Idealize.ShloMosaic.TcCoe Idealize.SL.Sem

/-- For equal arguments the kernel's result and the reference's are equal. -/
theorem algebraic_dh : Cert.algebraic_DhIdeal_DhReferenceIdeal :=
  fun m ρ m' ρ' _ heq =>
  ⟨fun c => Cert.DhIdeal.Value.G4 m c,
   Cert.DhIdeal.Value.run m ρ,
   (θ_run (Cert.DhReferenceIdeal.defs (F := Ideal)) _ _).mono (fun _ h c => ⟨(h c).1.trans (by
      refine Eq.trans ?_ (G_eq m c _ _ _ _ (V_da m c) (V_db m c) (V_wg m c) (V_wu m c)).symm
      rw [(heq c).1, (heq c).2.1, (heq c).2.2.1, (heq c).2.2.2.1, (heq c).2.2.2.2]
      rfl), (h c).2⟩)
     (Cert.DhReferenceIdeal.Value.run (F := Ideal) m' ρ')⟩

end Cert.Proof

end
-- ==== Proof.OutValue.lean ====
/- The attention's output projection with the residual: kernel and reference agree. -/
module

public import proofs.«01_k».proof.Proof.Gen.OutIdeal.Value
public import proofs.«01_k».proof.Proof.Gen.OutReferenceIdeal.Run
public import proofs.«01_k».proof.Proof.FfnSum
public import proofs.«01_k».proof.Defs
public import Idealize.ShloMosaic.Lib.Pointwise
public import Idealize.ShloMosaic.Lib.StableHlo.RunRead

@[expose] public section

set_option maxRecDepth 16384
set_option Elab.async false

noncomputable section

namespace Cert.OutIdeal.Host0

open Cert.OutIdeal Cert.OutIdeal.Gen Idealize.ShloMosaic Idealize.ShloMosaic.TcCoe Idealize.ShloMosaic.Tactic Idealize.SL.Sem
open Cert.Ffn

theorem zero2 : (![0, 0] : Fin 2 → Nat) = fun _ => 0 := funext fun a => by fin_cases a <;> rfl

/-- A weight in the kernel's type. -/
def castW (x : FVec Ideal S1024x1024 .f32) : FVec Ideal S1024x1024 .bf16 := truncf .bf16 x bitsLt_bf16_f32

/-- The attention's output, turned, in the kernel's type. -/
def turn (x : FVec Ideal S4096x1024 .f32) : FVec Ideal S1024x4096 .bf16 :=
  truncf .bf16 (transpose S1024x4096 [1, 0] x transposes_S4096x1024_S1024x4096_1_0) bitsLt_bf16_f32

theorem turn_at (x : FVec Ideal S4096x1024 .f32) (p : Fin 1024) (r : Fin 4096) : turn x (ix2 p r) = x (ix2 r p) := by
  pointwise [turn]

/-- What a grid point stores in the output block. -/
theorem out3 (x0 x1 : Vec Ideal S1024x1024 .bf16) (x2 : Vec Ideal S1024x1024 .f32) : out0_3 x0 x1 x2 = k0_pay1 x0 x1 x2 := by
  unfold out0_3
  rw [View.canon_unit_zero zero2]
  simp only [View.ld_unit_zero (S := S1024x1024) zero2]

theorem pay_at (o w : Vec Ideal S1024x1024 .bf16) (x : Vec Ideal S1024x1024 .f32) (r s : Fin 1024) :
    k0_pay1 o w x (ix2 r s) = x (ix2 r s) + ∑ p : Fin 1024, o (ix2 p r) * w (ix2 p s) := by
  pointwise [k0_pay1]

/-- The reference's array. -/
def refA (x o : FVec Ideal S4096x1024 .f32) (w : FVec Ideal S1024x1024 .f32) : FVec Ideal S4096x1024 .f32 :=
  addf x (Host.dotGeneral Cert.OutReferenceIdeal.dot_S4096x1024_S1024x1024_S4096x1024_1_0_0_1_n_n none o w)

theorem refA_at (x o : FVec Ideal S4096x1024 .f32) (w : FVec Ideal S1024x1024 .f32) (n : Fin 4096) (s : Fin 1024) :
    refA x o w (ix2 n s) = x (ix2 n s) + ∑ p : Fin 1024, o (ix2 n p) * w (ix2 p s) := by
  pointwise [refA]

/-- Where each window's block lies at grid point `t`. -/
theorem places : ∀ t : Fin cfg0.N,
    (win0_0.index t (0 : Fin 2) = 0 ∧ win0_0.index t (1 : Fin 2) = t.val)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

variable (m : (ℓ : Loc nD τ sig) → Buf (Elt Ideal) ℓ) (c : Dev nD) (i : Fin 4) (r p s : Fin 1024)

theorem V_o : V m c main_v1 = turn (m ((c : Thread nD τ).loc main_arg1)) := by
  unfold V; after_reads_simp; rfl

theorem V_w : V m c main_v2 = castW (m ((c : Thread nD τ).loc main_arg2)) := by
  unfold V; after_reads_simp; rfl

theorem V_x : V m c main_arg0 = (m ((c : Thread nD τ).loc main_arg0)) := by
  unfold V; after_reads_simp

/-- Grid point of row block `i`. -/
theorem pt_lt : i.val < cfg0.N := lt_of_lt_of_eq (by omega) N_0.symm

theorem emb_0 : (win0_0.rect ⟨i.val, pt_lt i⟩).emb (ix2 p r) = (ix2 p (quarter i r) : S1024x4096.Idx) := by
  obtain ⟨h0, h1⟩ := (places ⟨i.val, pt_lt i⟩).1
  simp only [] at h0 h1
  refine ix2_eq ((Pipeline.Window.rect_emb_val _ _ _ _).trans ?_) ((Pipeline.Window.rect_emb_val _ _ _ _).trans ?_)
  · show win0_0.index ⟨i.val, pt_lt i⟩ (0 : Fin 2) * 1024 + p.val = p.val
    rw [h0]; omega
  · show win0_0.index ⟨i.val, pt_lt i⟩ (1 : Fin 2) * 1024 + r.val = 1024 * i.val + r.val
    rw [h1]; omega

theorem emb_1 : (win0_1.rect ⟨i.val, pt_lt i⟩).emb (ix2 p s) = (ix2 p s : S1024x1024.Idx) := by
  obtain ⟨h0, h1⟩ := (places ⟨i.val, pt_lt i⟩).2.1
  refine ix2_eq ((Pipeline.Window.rect_emb_val _ _ _ _).trans ?_) ((Pipeline.Window.rect_emb_val _ _ _ _).trans ?_)
  · show win0_1.index ⟨i.val, pt_lt i⟩ (0 : Fin 2) * 1024 + p.val = p.val
    rw [h0]; omega
  · show win0_1.index ⟨i.val, pt_lt i⟩ (1 : Fin 2) * 1024 + s.val = s.val
    rw [h1]; omega

theorem emb_2 : (win0_2.rect ⟨i.val, pt_lt i⟩).emb (ix2 r s) = (ix2 (quarter i r) s : S4096x1024.Idx) := by
  obtain ⟨h0, h1⟩ := (places ⟨i.val, pt_lt i⟩).2.2.1
  simp only [] at h0 h1
  refine ix2_eq ((Pipeline.Window.rect_emb_val _ _ _ _).trans ?_) ((Pipeline.Window.rect_emb_val _ _ _ _).trans ?_)
  · show win0_2.index ⟨i.val, pt_lt i⟩ (0 : Fin 2) * 1024 + r.val = 1024 * i.val + r.val
    rw [h0]; omega
  · show win0_2.index ⟨i.val, pt_lt i⟩ (1 : Fin 2) * 1024 + s.val = s.val
    rw [h1]; omega

theorem emb_3 : (win0_3.rect ⟨i.val, pt_lt i⟩).emb (ix2 r s) = (ix2 (quarter i r) s : S4096x1024.Idx) := by
  obtain ⟨h0, h1⟩ := (places ⟨i.val, pt_lt i⟩).2.2.2
  simp only [] at h0 h1
  refine ix2_eq ((Pipeline.Window.rect_emb_val _ _ _ _).trans ?_) ((Pipeline.Window.rect_emb_val _ _ _ _).trans ?_)
  · show win0_3.index ⟨i.val, pt_lt i⟩ (0 : Fin 2) * 1024 + r.val = 1024 * i.val + r.val
    rw [h0]; omega
  · show win0_3.index ⟨i.val, pt_lt i⟩ (1 : Fin 2) * 1024 + s.val = s.val
    rw [h1]; omega

/-- The input windows' blocks, over arrays they are read from. -/
theorem blk0 (o : FVec Ideal S4096x1024 .f32) (h0 : V m c main_v1 = turn o) : iblk m c 0 ⟨i.val, pt_lt i⟩ (ix2 p r) = o (ix2 (quarter i r) p) :=
  (congrArg (V m c main_v1) (emb_0 i r p)).trans (by rw [h0]; exact turn_at o p (quarter i r))

theorem blk1 (w : FVec Ideal S1024x1024 .f32) (h1 : V m c main_v2 = castW w) : iblk m c 1 ⟨i.val, pt_lt i⟩ (ix2 p s) = w (ix2 p s) :=
  (congrArg (V m c main_v2) (emb_1 i p s)).trans (by rw [h1]; rfl)

theorem blk2 (x : FVec Ideal S4096x1024 .f32) (h2 : V m c main_arg0 = x) : iblk m c 2 ⟨i.val, pt_lt i⟩ (ix2 r s) = x (ix2 (quarter i r) s) :=
  (congrArg (V m c main_arg0) (emb_2 i r s)).trans (by rw [h2])

/-- An element of the result is the one its block's grid point stored. -/
theorem elem_3 : (dats m 0 c).arrAt 3 cfg0.N (ix2 (quarter i r) s : S4096x1024.Idx) = out0_3 (iblk m c 0 ⟨i.val, pt_lt i⟩) (iblk m c 1 ⟨i.val, pt_lt i⟩) (iblk m c 2 ⟨i.val, pt_lt i⟩) (ix2 r s) :=
  (congrArg ((dats m 0 c).arrAt 3 cfg0.N) (emb_3 i r s)).symm.trans
    (((dats m 0 c).arrAt_emb_eq_flushed 3 Value.disjoint3 ⟨i.val, pt_lt i⟩ (flush0_3 _) (ix2 r s)).trans
      (congrFun (Value.flushed3 m c ⟨i.val, pt_lt i⟩) (ix2 r s)))

/-- The result is the reference's. -/
theorem res_3 (o : FVec Ideal S4096x1024 .f32) (w : FVec Ideal S1024x1024 .f32) (x : FVec Ideal S4096x1024 .f32) (h0 : V m c main_v1 = turn o) (h1 : V m c main_v2 = castW w) (h2 : V m c main_arg0 = x) : (dats m 0 c).arrAt 3 cfg0.N = refA x o w := by
  funext y
  obtain ⟨R, s, rfl⟩ := ix2_ex y
  obtain ⟨i, r, rfl⟩ := row_split R
  refine (elem_3 m c i r s).trans ?_
  rw [out3]
  refine (pay_at _ _ _ r s).trans ?_
  rw [refA_at]
  exact congrArg₂ (fun u v : EReal => u + v) (blk2 m c i r s x h2) (Finset.sum_congr rfl fun p _ => congrArg₂ (fun u v : EReal => u * v) (blk0 m c i r p o h0) (blk1 m c i p s w h1))

end Cert.OutIdeal.Host0

namespace Cert.Proof

open Cert.OutIdeal.Host0 Cert.OutIdeal.Gen Idealize.ShloMosaic Idealize.ShloMosaic.TcCoe Idealize.SL.Sem

/-- For equal arguments the kernel's result and the reference's are equal. -/
theorem algebraic_out : Cert.algebraic_OutIdeal_OutReferenceIdeal :=
  fun m ρ m' ρ' _ heq =>
  ⟨fun c => (dats m 0 c).arrAt 3 Cert.OutIdeal.cfg0.N,
   Cert.OutIdeal.Value.run_blocks m ρ,
   (θ_run (Cert.OutReferenceIdeal.defs (F := Ideal)) _ _).mono (fun _ h c => ⟨(h c).1.trans (by
      refine Eq.trans ?_ (res_3 m c _ _ _ (V_o m c) (V_w m c) (V_x m c)).symm
      rw [(heq c).1, (heq c).2.1, (heq c).2.2]
      rfl), (h c).2⟩)
     (Cert.OutReferenceIdeal.Value.run (F := Ideal) m' ρ')⟩

end Cert.Proof

end
-- ==== Proof.DoValue.lean ====
/- The gradient of the attention's output: kernel and reference agree. -/
module

public import proofs.«01_k».proof.Proof.Gen.DoIdeal.Value
public import proofs.«01_k».proof.Proof.Gen.DoReferenceIdeal.Run
public import proofs.«01_k».proof.Proof.FfnSum
public import proofs.«01_k».proof.Defs
public import Idealize.ShloMosaic.Lib.Pointwise
public import Idealize.ShloMosaic.Lib.StableHlo.RunRead

@[expose] public section

set_option maxRecDepth 16384
set_option Elab.async false

noncomputable section

namespace Cert.DoIdeal.Host0

open Cert.DoIdeal Cert.DoIdeal.Gen Idealize.ShloMosaic Idealize.ShloMosaic.TcCoe Idealize.ShloMosaic.Tactic Idealize.SL.Sem
open Cert.Ffn

theorem zero2 : (![0, 0] : Fin 2 → Nat) = fun _ => 0 := funext fun a => by fin_cases a <;> rfl

/-- A weight in the kernel's type. -/
def castW (x : FVec Ideal S1024x1024 .f32) : FVec Ideal S1024x1024 .bf16 := truncf .bf16 x bitsLt_bf16_f32

/-- What a grid point stores in the output block. -/
theorem out2 (x0 : Vec Ideal S1024x1024 .f32) (x1 : Vec Ideal S1024x1024 .bf16) : out0_2 x0 x1 = k0_pay1 x0 x1 := by
  unfold out0_2
  rw [View.canon_unit_zero zero2]
  simp only [View.ld_unit_zero (S := S1024x1024) zero2]

theorem pay_at (d : Vec Ideal S1024x1024 .f32) (w : Vec Ideal S1024x1024 .bf16) (r s : Fin 1024) :
    k0_pay1 d w (ix2 r s) = ∑ p : Fin 1024, d (ix2 r p) * w (ix2 s p) := by
  pointwise [k0_pay1]

/-- The reference's array. -/
def refA (d : FVec Ideal S4096x1024 .f32) (w : FVec Ideal S1024x1024 .f32) : FVec Ideal S4096x1024 .bf16 :=
  truncf .bf16 (Host.dotGeneral Cert.DoReferenceIdeal.dot_S4096x1024_S1024x1024_S4096x1024_1_1_0_0_n_n none (shapeCast _ d Cert.DoReferenceIdeal.Gen.shapeCasts_S4096x1024_S4096x1024) w) bitsLt_bf16_f32

theorem refA_at (d : FVec Ideal S4096x1024 .f32) (w : FVec Ideal S1024x1024 .f32) (n : Fin 4096) (s : Fin 1024) :
    refA d w (ix2 n s) = ∑ p : Fin 1024, d (ix2 n p) * w (ix2 s p) := by
  pointwise [refA, shapeCast_self]

/-- Where each window's block lies at grid point `t`. -/
theorem places : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

variable (m : (ℓ : Loc nD τ sig) → Buf (Elt Ideal) ℓ) (c : Dev nD) (i : Fin 4) (r p s : Fin 1024)

theorem V_w : V m c main_v0 = castW (m ((c : Thread nD τ).loc main_arg2)) := by
  unfold V; after_reads_simp; rfl

theorem V_d : V m c main_arg3 = (m ((c : Thread nD τ).loc main_arg3)) := by
  unfold V; after_reads_simp

/-- Grid point of row block `i`. -/
theorem pt_lt : i.val < cfg0.N := lt_of_lt_of_eq (by omega) N_0.symm

theorem emb_0 : (win0_0.rect ⟨i.val, pt_lt i⟩).emb (ix2 r p) = (ix2 (quarter i r) p : S4096x1024.Idx) := by
  obtain ⟨h0, h1⟩ := (places ⟨i.val, pt_lt i⟩).1
  simp only [] at h0 h1
  refine ix2_eq ((Pipeline.Window.rect_emb_val _ _ _ _).trans ?_) ((Pipeline.Window.rect_emb_val _ _ _ _).trans ?_)
  · show win0_0.index ⟨i.val, pt_lt i⟩ (0 : Fin 2) * 1024 + r.val = 1024 * i.val + r.val
    rw [h0]; omega
  · show win0_0.index ⟨i.val, pt_lt i⟩ (1 : Fin 2) * 1024 + p.val = p.val
    rw [h1]; omega

theorem emb_1 : (win0_1.rect ⟨i.val, pt_lt i⟩).emb (ix2 s p) = (ix2 s p : S1024x1024.Idx) := by
  obtain ⟨h0, h1⟩ := (places ⟨i.val, pt_lt i⟩).2.1
  refine ix2_eq ((Pipeline.Window.rect_emb_val _ _ _ _).trans ?_) ((Pipeline.Window.rect_emb_val _ _ _ _).trans ?_)
  · show win0_1.index ⟨i.val, pt_lt i⟩ (0 : Fin 2) * 1024 + s.val = s.val
    rw [h0]; omega
  · show win0_1.index ⟨i.val, pt_lt i⟩ (1 : Fin 2) * 1024 + p.val = p.val
    rw [h1]; omega

theorem emb_2 : (win0_2.rect ⟨i.val, pt_lt i⟩).emb (ix2 r s) = (ix2 (quarter i r) s : S4096x1024.Idx) := by
  obtain ⟨h0, h1⟩ := (places ⟨i.val, pt_lt i⟩).2.2
  simp only [] at h0 h1
  refine ix2_eq ((Pipeline.Window.rect_emb_val _ _ _ _).trans ?_) ((Pipeline.Window.rect_emb_val _ _ _ _).trans ?_)
  · show win0_2.index ⟨i.val, pt_lt i⟩ (0 : Fin 2) * 1024 + r.val = 1024 * i.val + r.val
    rw [h0]; omega
  · show win0_2.index ⟨i.val, pt_lt i⟩ (1 : Fin 2) * 1024 + s.val = s.val
    rw [h1]; omega

/-- The input windows' blocks, over arrays they are read from. -/
theorem blk0 (d : FVec Ideal S4096x1024 .f32) (h0 : V m c main_arg3 = d) : iblk m c 0 ⟨i.val, pt_lt i⟩ (ix2 r p) = d (ix2 (quarter i r) p) :=
  (congrArg (V m c main_arg3) (emb_0 i r p)).trans (by rw [h0])

theorem blk1 (w : FVec Ideal S1024x1024 .f32) (h1 : V m c main_v0 = castW w) : iblk m c 1 ⟨i.val, pt_lt i⟩ (ix2 s p) = w (ix2 s p) :=
  (congrArg (V m c main_v0) (emb_1 i p s)).trans (by rw [h1]; rfl)

/-- An element of the result is the one its block's grid point stored. -/
theorem elem_2 : (dats m 0 c).arrAt 2 cfg0.N (ix2 (quarter i r) s : S4096x1024.Idx) = out0_2 (iblk m c 0 ⟨i.val, pt_lt i⟩) (iblk m c 1 ⟨i.val, pt_lt i⟩) (ix2 r s) :=
  (congrArg ((dats m 0 c).arrAt 2 cfg0.N) (emb_2 i r s)).symm.trans
    (((dats m 0 c).arrAt_emb_eq_flushed 2 Value.disjoint2 ⟨i.val, pt_lt i⟩ (flush0_2 _) (ix2 r s)).trans
      (congrFun (Value.flushed2 m c ⟨i.val, pt_lt i⟩) (ix2 r s)))

/-- The result is the reference's. -/
theorem res_2 (d : FVec Ideal S4096x1024 .f32) (w : FVec Ideal S1024x1024 .f32) (h0 : V m c main_arg3 = d) (h1 : V m c main_v0 = castW w) : (dats m 0 c).arrAt 2 cfg0.N = refA d w := by
  funext y
  obtain ⟨R, s, rfl⟩ := ix2_ex y
  obtain ⟨i, r, rfl⟩ := row_split R
  refine (elem_2 m c i r s).trans ?_
  rw [out2]
  refine (pay_at _ _ r s).trans ?_
  rw [refA_at]
  exact Finset.sum_congr rfl fun p _ => congrArg₂ (fun u v : EReal => u * v) (blk0 m c i r p d h0) (blk1 m c i p s w h1)

end Cert.DoIdeal.Host0

namespace Cert.Proof

open Cert.DoIdeal.Host0 Cert.DoIdeal.Gen Idealize.ShloMosaic Idealize.ShloMosaic.TcCoe Idealize.SL.Sem

/-- For equal arguments the kernel's result and the reference's are equal. -/
theorem algebraic_do : Cert.algebraic_DoIdeal_DoReferenceIdeal :=
  fun m ρ m' ρ' _ heq =>
  ⟨fun c => (dats m 0 c).arrAt 2 Cert.DoIdeal.cfg0.N,
   Cert.DoIdeal.Value.run_blocks m ρ,
   (θ_run (Cert.DoReferenceIdeal.defs (F := Ideal)) _ _).mono (fun _ h c => ⟨(h c).1.trans (by
      refine Eq.trans ?_ (res_2 m c _ _ (V_d m c) (V_w m c)).symm
      rw [(heq c).2.2.1, (heq c).2.2.2]
      rfl), (h c).2⟩)
     (Cert.DoReferenceIdeal.Value.run (F := Ideal) m' ρ')⟩

end Cert.Proof

end
-- ==== Proof.DwoPoint.lean ====
/- The gradient of the attention's output weight: what each grid point leaves in the accumulator and in the output block. -/
module

public import proofs.«01_k».proof.Proof.Gen.DwoIdeal.Value

@[expose] public section

set_option maxRecDepth 16384
set_option Elab.async false

noncomputable section

namespace Cert.DwoIdeal.Gen

open Cert.DwoIdeal Idealize.ShloMosaic Idealize.ShloMosaic.TcCoe Idealize.ShloMosaic.Tactic Idealize.SL.Sem

variable {F : FTy → Type} [FloatOps F]

theorem zero2 : (![0, 0] : Fin 2 → Nat) = fun _ => 0 := funext fun a => by fin_cases a <;> rfl

/-- The first point leaves the first product, added to zero, in the accumulator. -/
theorem first_acc (c : Dev nD) (i : grid0.Coords) (arg2 : Memref sig .tc .vmem S1024x1024 .bf16) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (hc0 : cond0_0 i) (hc1 : ¬cond0_1 i)
    (x0 : Vec F S1024x1024 .bf16) (x1 : Vec F S1024x1024 .f32) :
    sout0_A_0 c i arg2 harg2 arg3 harg3 arg4 harg4 arg5 harg5 hc0 hc1 x0 x1 = k0_pay2 (k0_pay1 (F := F)) x0 x1 := by
  unfold sout0_A_0
  rw [View.read_writes_eq_canon _ _ _ (scover0_A_0 c i arg2 harg2 arg3 harg3 arg4 harg4 arg5 harg5 hc0 hc1 x0 x1)]
  unfold kernelRun0_A
  dsimp only
  try sl_unfold_words
  rw [View.canon_cons_unit_zero (S := S1024x1024) zero2, View.readCov_unit_zero (S := S1024x1024) _ zero2]
  simp only [View.readAt_eq_ld, harg2.read_unread, harg3.read_unread, harg4.read_unread, harg5.read_unread, View.ld_unit_zero (S := S1024x1024) zero2, shapeCast_self]

/-- A middle point adds its product to the accumulator. -/
theorem mid_acc (c : Dev nD) (i : grid0.Coords) (arg2 : Memref sig .tc .vmem S1024x1024 .bf16) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (hc0 : ¬cond0_0 i) (hc1 : ¬cond0_1 i)
    (x0 : Vec F S1024x1024 .bf16) (x1 : Vec F S1024x1024 .f32) (xs0 : Vec F S1024x1024 .f32) :
    sout0_B_0 c i arg2 harg2 arg3 harg3 arg4 harg4 arg5 harg5 hc0 hc1 x0 x1 xs0 = k0_pay2 xs0 x0 x1 := by
  unfold sout0_B_0
  rw [View.read_writes_eq_canon _ _ _ (scover0_B_0 c i arg2 harg2 arg3 harg3 arg4 harg4 arg5 harg5 hc0 hc1 x0 x1 xs0)]
  unfold kernelRun0_B
  dsimp only
  try sl_unfold_words
  rw [View.canon_unit_zero zero2]
  simp only [View.readAt_eq_ld, harg2.read_unread, harg3.read_unread, harg4.read_unread, harg5.read_unread, View.ld_unit_zero (S := S1024x1024) zero2, shapeCast_self]

/-- The last point leaves the accumulator with its product added in the output block. -/
theorem last_out (c : Dev nD) (i : grid0.Coords) (arg2 : Memref sig .tc .vmem S1024x1024 .bf16) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (hc0 : ¬cond0_0 i) (hc1 : cond0_1 i)
    (x0 : Vec F S1024x1024 .bf16) (x1 : Vec F S1024x1024 .f32) (xs0 : Vec F S1024x1024 .f32) :
    out0_C_2 c i arg2 harg2 arg3 harg3 arg4 harg4 arg5 harg5 hc0 hc1 x0 x1 xs0 = k0_pay2 xs0 x0 x1 := by
  unfold out0_C_2
  rw [View.read_writes_eq_canon _ _ _ (cover0_C_2 c i arg2 harg2 arg3 harg3 arg4 harg4 arg5 harg5 hc0 hc1 x0 x1 xs0)]
  unfold kernelRun0_C
  dsimp only
  try sl_unfold_words
  rw [View.canon_unit_zero zero2]
  simp only [View.readCov_unit_zero (S := S1024x1024) _ zero2, View.readAt_eq_ld, harg2.read_unread, harg3.read_unread, harg4.read_unread, harg5.read_unread, View.ld_unit_zero (S := S1024x1024) zero2, shapeCast_self]

variable (m : (ℓ : Loc nD τ sig) → Buf (Elt F) ℓ) (c : Dev nD) (t : Fin cfg0.N)

/-- The accumulator after the first point. -/
theorem acc_of (h0 : t.val % 4 = 0) (h1 : ¬t.val % 4 = 3) :
    (outsAt0 m c t.val t.isLt).2 = k0_pay2 (k0_pay1 (F := F)) (iblk m c 0 t) (iblk m c 1 t) := by
  rw [outsAt0_A m c t h0 h1]
  dsimp only
  exact first_acc c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- The accumulator after a middle point. -/
theorem mid_of (h0 : ¬t.val % 4 = 0) (h1 : ¬t.val % 4 = 3) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  exact mid_acc c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2

/-- The output block after the last point. -/
theorem out_of (h0 : ¬t.val % 4 = 0) (h1 : t.val % 4 = 3) :
    (outsAt0 m c t.val t.isLt).1 = k0_pay2 (outsAt0 m c (t.val - 1) (Nat.lt_of_le_of_lt (Nat.sub_le _ _) t.isLt)).2 (iblk m c 0 t) (iblk m c 1 t) := by
  rw [outsAt0_C m c t h0 h1]
  dsimp only
  exact last_out c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2

end Cert.DwoIdeal.Gen

end
-- ==== Proof.DwoValue.lean ====
/- The gradient of the attention's output weight: kernel and reference agree. -/
module

public import proofs.«01_k».proof.Proof.DwoPoint
public import proofs.«01_k».proof.Proof.Gen.DwoReferenceIdeal.Run
public import proofs.«01_k».proof.Proof.FfnSum
public import proofs.«01_k».proof.Defs
public import Idealize.ShloMosaic.Lib.Pointwise
public import Idealize.ShloMosaic.Lib.StableHlo.RunRead

@[expose] public section

set_option maxRecDepth 16384
set_option Elab.async false

noncomputable section

namespace Cert.DwoIdeal.Host0

open Cert.DwoIdeal Cert.DwoIdeal.Gen Idealize.ShloMosaic Idealize.ShloMosaic.TcCoe Idealize.ShloMosaic.Tactic Idealize.SL.Sem
open Cert.Ffn

/-- The attention's output, turned, in the kernel's type. -/
def turn (x : FVec Ideal S4096x1024 .f32) : FVec Ideal S1024x4096 .bf16 :=
  truncf .bf16 (transpose S1024x4096 [1, 0] x transposes_S4096x1024_S1024x4096_1_0) bitsLt_bf16_f32

theorem turn_at (x : FVec Ideal S4096x1024 .f32) (p : Fin 1024) (r : Fin 4096) : turn x (ix2 p r) = x (ix2 r p) := by
  pointwise [turn]

/-- One grid point's term: the accumulated array and the product. -/
theorem pay_at (acc : FVec Ideal S1024x1024 .f32) (o : FVec Ideal S1024x1024 .bf16) (d : FVec Ideal S1024x1024 .f32) (p s : Fin 1024) :
    k0_pay2 acc o d (ix2 p s) = acc (ix2 p s) + ∑ r : Fin 1024, o (ix2 p r) * d (ix2 r s) := by
  pointwise [k0_pay2]

theorem zero_at (p s : Fin 1024) : k0_pay1 (F := Ideal) (ix2 p s) = 0 := by
  pointwise [k0_pay1]

/-- The reference's array. -/
def refA (o d : FVec Ideal S4096x1024 .f32) : FVec Ideal S1024x1024 .f32 :=
  transpose Cert.DwoReferenceIdeal.S1024x1024 [1, 0] (Host.dotGeneral Cert.DwoReferenceIdeal.dot_S4096x1024_S4096x1024_S1024x1024_0_0_1_1_n_n none (shapeCast _ d Cert.DwoReferenceIdeal.Gen.shapeCasts_S4096x1024_S4096x1024) o) Cert.DwoReferenceIdeal.Gen.transposes_S1024x1024_S1024x1024_1_0

theorem refA_at (o d : FVec Ideal S4096x1024 .f32) (p s : Fin 1024) :
    refA o d (ix2 p s) = ∑ n : Fin 4096, d (ix2 n s) * o (ix2 n p) := by
  pointwise [refA, shapeCast_self]

/-- A sum over the rows is the sum over the quarters of the sums over their rows. -/
theorem sum_quarters (f : Fin 4096 → EReal) : ∑ n, f n = ∑ i : Fin 4, ∑ r : Fin 1024, f (quarter i r) := by
  rw [← Fintype.sum_prod_type']
  refine (Fintype.sum_equiv (finProdFinEquiv (m := 4) (n := 1024)) _ _ fun x => congrArg f (Fin.ext ?_)).symm
  show 1024 * x.1.val + x.2.val = x.2.val + 1024 * x.1.val
  omega

/-- Where each window's block lies at grid point `t`. -/
theorem places : ∀ t : Fin cfg0.N,
    (win0_0.index t (0 : Fin 2) = 0 ∧ win0_0.index t (1 : Fin 2) = t.val)
    ∧ (win0_1.index t (0 : Fin 2) = t.val ∧ win0_1.index t (1 : Fin 2) = 0) :=
  (by decide +kernel : ∀ t : Fin grid0.N, _)

variable (m : (ℓ : Loc nD τ sig) → Buf (Elt Ideal) ℓ) (c : Dev nD) (i : Fin 4) (r p s : Fin 1024)

theorem V_o : V m c main_v1 = turn (m ((c : Thread nD τ).loc main_arg1)) := by
  unfold V; after_reads_simp; rfl

theorem V_d : V m c main_arg3 = (m ((c : Thread nD τ).loc main_arg3)) := by
  unfold V; after_reads_simp

/-- Grid point of row block `i`. -/
theorem pt_lt : i.val < cfg0.N := lt_of_lt_of_eq (by omega) N_0.symm

theorem emb_0 : (win0_0.rect ⟨i.val, pt_lt i⟩).emb (ix2 p r) = (ix2 p (quarter i r) : S1024x4096.Idx) := by
  obtain ⟨h0, h1⟩ := (places ⟨i.val, pt_lt i⟩).1
  simp only [] at h0 h1
  refine ix2_eq ((Pipeline.Window.rect_emb_val _ _ _ _).trans ?_) ((Pipeline.Window.rect_emb_val _ _ _ _).trans ?_)
  · show win0_0.index ⟨i.val, pt_lt i⟩ (0 : Fin 2) * 1024 + p.val = p.val
    rw [h0]; omega
  · show win0_0.index ⟨i.val, pt_lt i⟩ (1 : Fin 2) * 1024 + r.val = 1024 * i.val + r.val
    rw [h1]; omega

theorem emb_1 : (win0_1.rect ⟨i.val, pt_lt i⟩).emb (ix2 r s) = (ix2 (quarter i r) s : S4096x1024.Idx) := by
  obtain ⟨h0, h1⟩ := (places ⟨i.val, pt_lt i⟩).2
  simp only [] at h0 h1
  refine ix2_eq ((Pipeline.Window.rect_emb_val _ _ _ _).trans ?_) ((Pipeline.Window.rect_emb_val _ _ _ _).trans ?_)
  · show win0_1.index ⟨i.val, pt_lt i⟩ (0 : Fin 2) * 1024 + r.val = 1024 * i.val + r.val
    rw [h0]; omega
  · show win0_1.index ⟨i.val, pt_lt i⟩ (1 : Fin 2) * 1024 + s.val = s.val
    rw [h1]; omega

/-- One grid point's step, over arrays the windows' blocks are read from. -/
theorem step_at (o d : FVec Ideal S4096x1024 .f32) (h0 : V m c main_v1 = turn o) (h1 : V m c main_arg3 = d) (acc : FVec Ideal S1024x1024 .f32) :
    k0_pay2 acc (iblk m c 0 ⟨i.val, pt_lt i⟩) (iblk m c 1 ⟨i.val, pt_lt i⟩) (ix2 p s) = acc (ix2 p s) + ∑ r : Fin 1024, o (ix2 (quarter i r) p) * d (ix2 (quarter i r) s) := by
  refine (pay_at _ _ _ p s).trans ?_
  have e0 : ∀ r : Fin 1024, iblk m c 0 ⟨i.val, pt_lt i⟩ (ix2 p r) = o (ix2 (quarter i r) p) := fun r =>
    (congrArg (V m c main_v1) (emb_0 i r p)).trans (by rw [h0]; exact turn_at o p (quarter i r))
  have e1 : ∀ r : Fin 1024, iblk m c 1 ⟨i.val, pt_lt i⟩ (ix2 r s) = d (ix2 (quarter i r) s) := fun r =>
    (congrArg (V m c main_arg3) (emb_1 i r s)).trans (by rw [h1])
  simp only [e0, e1]

/-- The accumulator after each of the first three points, and the output block after the last. -/
theorem acc_0 : (outsAt0 m c 0 (pt_lt 0)).2 = k0_pay2 (k0_pay1 (F := Ideal)) (iblk m c 0 ⟨0, pt_lt 0⟩) (iblk m c 1 ⟨0, pt_lt 0⟩) :=
  acc_of m c ⟨0, pt_lt 0⟩ (by decide) (by decide)

theorem acc_1 : (outsAt0 m c 1 (pt_lt 1)).2 = k0_pay2 (outsAt0 m c 0 (pt_lt 0)).2 (iblk m c 0 ⟨1, pt_lt 1⟩) (iblk m c 1 ⟨1, pt_lt 1⟩) :=
  mid_of m c ⟨1, pt_lt 1⟩ (by decide) (by decide)

theorem acc_2 : (outsAt0 m c 2 (pt_lt 2)).2 = k0_pay2 (outsAt0 m c 1 (pt_lt 1)).2 (iblk m c 0 ⟨2, pt_lt 2⟩) (iblk m c 1 ⟨2, pt_lt 2⟩) :=
  mid_of m c ⟨2, pt_lt 2⟩ (by decide) (by decide)

theorem out_3 : (outsAt0 m c 3 (pt_lt 3)).1 = k0_pay2 (outsAt0 m c 2 (pt_lt 2)).2 (iblk m c 0 ⟨3, pt_lt 3⟩) (iblk m c 1 ⟨3, pt_lt 3⟩) :=
  out_of m c ⟨3, pt_lt 3⟩ (by decide) (by decide)

/-- The kernel's result is the reference's. -/
theorem G_eq (o d : FVec Ideal S4096x1024 .f32) (h0 : V m c main_v1 = turn o) (h1 : V m c main_arg3 = d) : Value.G2 m c = refA o d := by
  funext y
  obtain ⟨p, s, rfl⟩ := ix2_ex y
  have e : Value.G2 m c = (outsAt0 m c 3 (pt_lt 3)).1 := (Value.G2_last m c).trans (congrArg Prod.fst (Value.outsAt0_sweep m c 3 (pt_lt 3)).symm)
  refine (congrFun e (ix2 p s)).trans ?_
  refine (congrFun (out_3 m c) (ix2 p s)).trans ?_
  refine (step_at m c 3 p s o d h0 h1 _).trans ?_
  rw [acc_2, show k0_pay2 (outsAt0 m c 1 (pt_lt 1)).2 (iblk m c 0 ⟨2, pt_lt 2⟩) (iblk m c 1 ⟨2, pt_lt 2⟩) (ix2 p s) = _ from step_at m c 2 p s o d h0 h1 _,
    acc_1, show k0_pay2 (outsAt0 m c 0 (pt_lt 0)).2 (iblk m c 0 ⟨1, pt_lt 1⟩) (iblk m c 1 ⟨1, pt_lt 1⟩) (ix2 p s) = _ from step_at m c 1 p s o d h0 h1 _,
    acc_0, show k0_pay2 (k0_pay1 (F := Ideal)) (iblk m c 0 ⟨0, pt_lt 0⟩) (iblk m c 1 ⟨0, pt_lt 0⟩) (ix2 p s) = _ from step_at m c 0 p s o d h0 h1 _,
    zero_at, zero_add, refA_at, sum_quarters]
  simp only [Fin.sum_univ_four, mul_comm]

end Cert.DwoIdeal.Host0

namespace Cert.Proof

open Cert.DwoIdeal.Host0 Idealize.ShloMosaic Idealize.ShloMosaic.TcCoe Idealize.SL.Sem

/-- For equal arguments the kernel's result and the reference's are equal. -/
theorem algebraic_dwo : Cert.algebraic_DwoIdeal_DwoReferenceIdeal :=
  fun m ρ m' ρ' _ heq =>
  ⟨fun c => Cert.DwoIdeal.Value.G2 m c,
   Cert.DwoIdeal.Value.run m ρ,
   (θ_run (Cert.DwoReferenceIdeal.defs (F := Ideal)) _ _).mono (fun _ h c => ⟨(h c).1.trans (by
      refine Eq.trans ?_ (G_eq m c _ _ (V_o m c) (V_d m c)).symm
      rw [(heq c).2.1, (heq c).2.2.2]
      rfl), (h c).2⟩)
     (Cert.DwoReferenceIdeal.Value.run (F := Ideal) m' ρ')⟩

end Cert.Proof

end
-- ==== Proof.QDownValue.lean ====
/- The queries' down-projection: kernel and reference agree. -/
module

public import proofs.«01_k».proof.Proof.Gen.QDownIdeal.Value
public import proofs.«01_k».proof.Proof.Gen.QDownReferenceIdeal.Run
public import proofs.«01_k».proof.Proof.FfnSum
public import proofs.«01_k».proof.Defs
public import Idealize.ShloMosaic.Lib.Pointwise
public import Idealize.ShloMosaic.Lib.StableHlo.RunRead

@[expose] public section

set_option maxRecDepth 16384
set_option Elab.async false

noncomputable section

namespace Cert.QDownIdeal.Host0

open Cert.QDownIdeal Cert.QDownIdeal.Gen Idealize.ShloMosaic Idealize.ShloMosaic.TcCoe Idealize.ShloMosaic.Tactic Idealize.SL.Sem
open Cert.Ffn

theorem zero2 : (![0, 0] : Fin 2 → Nat) = fun _ => 0 := funext fun a => by fin_cases a <;> rfl

/-- A weight in the kernel's type. -/
def castW (x : FVec Ideal S1024x256 .f32) : FVec Ideal S1024x256 .bf16 := truncf .bf16 x bitsLt_bf16_f32

/-- The input in the kernel's type. -/
def castA (x : FVec Ideal S4096x1024 .f32) : FVec Ideal S4096x1024 .bf16 := truncf .bf16 x bitsLt_bf16_f32

/-- What a grid point stores in the output block. -/
theorem outq (x0 : Vec Ideal S1024x1024 .bf16) (x1 : Vec Ideal S1024x256 .bf16) : out0_2 x0 x1 = k0_pay1 x0 x1 := by
  unfold out0_2
  rw [View.canon_unit_zero zero2]
  simp only [View.ld_unit_zero (S := S1024x1024) zero2, View.ld_unit_zero (S := S1024x256) zero2]

theorem pay_at (x0 : Vec Ideal S1024x1024 .bf16) (x1 : Vec Ideal S1024x256 .bf16) (r : Fin 1024) (s : Fin 256) :
    k0_pay1 x0 x1 (ix2 r s) = ∑ p : Fin 1024, x0 (ix2 r p) * x1 (ix2 p s) := by
  pointwise [k0_pay1]

/-- The reference's array. -/
def refA (a : FVec Ideal S4096x1024 .f32) (w : FVec Ideal S1024x256 .f32) : FVec Ideal S4096x256 .f32 :=
  Host.dotGeneral Cert.QDownReferenceIdeal.dot_S4096x1024_S1024x256_S4096x256_1_0_0_1_n_n none a w

theorem refA_at (a : FVec Ideal S4096x1024 .f32) (w : FVec Ideal S1024x256 .f32) (n : Fin 4096) (s : Fin 256) :
    refA a w (ix2 n s) = ∑ p : Fin 1024, a (ix2 n p) * w (ix2 p s) := by
  pointwise [refA, shapeCast_self]

/-- Where each window's block lies at grid point `t`. -/
theorem places : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

variable (m : (ℓ : Loc nD τ sig) → Buf (Elt Ideal) ℓ) (c : Dev nD) (i : Fin 4) (r : Fin 1024) (p : Fin 1024) (s : Fin 256)

theorem V_x : V m c main_v0 = castA (m ((c : Thread nD τ).loc main_arg0)) := by
  unfold V; after_reads_simp; rfl

theorem V_w : V m c main_v1 = castW (m ((c : Thread nD τ).loc main_arg1)) := by
  unfold V; after_reads_simp; rfl

/-- Grid point of row block `i`. -/
theorem pt_lt : i.val < cfg0.N := lt_of_lt_of_eq (by omega) N_0.symm

theorem emb_0 : (win0_0.rect ⟨i.val, pt_lt i⟩).emb (ix2 r p) = (ix2 (quarter i r) p : S4096x1024.Idx) := by
  obtain ⟨h0, h1⟩ := (places ⟨i.val, pt_lt i⟩).1
  try simp only [] at h0 h1
  refine ix2_eq ((Pipeline.Window.rect_emb_val _ _ _ _).trans ?_) ((Pipeline.Window.rect_emb_val _ _ _ _).trans ?_)
  · show win0_0.index ⟨i.val, pt_lt i⟩ (0 : Fin 2) * 1024 + r.val = 1024 * i.val + r.val
    rw [h0]; omega
  · show win0_0.index ⟨i.val, pt_lt i⟩ (1 : Fin 2) * 1024 + p.val = p.val
    rw [h1]; omega

theorem emb_1 : (win0_1.rect ⟨i.val, pt_lt i⟩).emb (ix2 p s) = (ix2 p s : S1024x256.Idx) := by
  obtain ⟨h0, h1⟩ := (places ⟨i.val, pt_lt i⟩).2.1
  try simp only [] at h0 h1
  refine ix2_eq ((Pipeline.Window.rect_emb_val _ _ _ _).trans ?_) ((Pipeline.Window.rect_emb_val _ _ _ _).trans ?_)
  · show win0_1.index ⟨i.val, pt_lt i⟩ (0 : Fin 2) * 1024 + p.val = p.val
    rw [h0]; omega
  · show win0_1.index ⟨i.val, pt_lt i⟩ (1 : Fin 2) * 256 + s.val = s.val
    rw [h1]; omega

theorem emb_2 : (win0_2.rect ⟨i.val, pt_lt i⟩).emb (ix2 r s) = (ix2 (quarter i r) s : S4096x256.Idx) := by
  obtain ⟨h0, h1⟩ := (places ⟨i.val, pt_lt i⟩).2.2
  try simp only [] at h0 h1
  refine ix2_eq ((Pipeline.Window.rect_emb_val _ _ _ _).trans ?_) ((Pipeline.Window.rect_emb_val _ _ _ _).trans ?_)
  · show win0_2.index ⟨i.val, pt_lt i⟩ (0 : Fin 2) * 1024 + r.val = 1024 * i.val + r.val
    rw [h0]; omega
  · show win0_2.index ⟨i.val, pt_lt i⟩ (1 : Fin 2) * 256 + s.val = s.val
    rw [h1]; omega

/-- The input windows' blocks, over arrays they are read from. -/
theorem blk0 (x : FVec Ideal S4096x1024 .f32) (h0 : V m c main_v0 = castA x) : iblk m c 0 ⟨i.val, pt_lt i⟩ (ix2 r p) = x (ix2 (quarter i r) p) :=
  (congrArg (V m c main_v0) (emb_0 i r p)).trans (by rw [h0]; rfl)

theorem blk1 (w : FVec Ideal S1024x256 .f32) (h1 : V m c main_v1 = castW w) : iblk m c 1 ⟨i.val, pt_lt i⟩ (ix2 p s) = w (ix2 p s) :=
  (congrArg (V m c main_v1) (emb_1 i p s)).trans (by rw [h1]; rfl)

/-- An element of the result is the one its block's grid point stored. -/
theorem elem_q : (dats m 0 c).arrAt 2 cfg0.N (ix2 (quarter i r) s : S4096x256.Idx) = out0_2 (iblk m c 0 ⟨i.val, pt_lt i⟩) (iblk m c 1 ⟨i.val, pt_lt i⟩) (ix2 r s) :=
  (congrArg ((dats m 0 c).arrAt 2 cfg0.N) (emb_2 i r s)).symm.trans
    (((dats m 0 c).arrAt_emb_eq_flushed 2 Value.disjoint2 ⟨i.val, pt_lt i⟩ (flush0_2 _) (ix2 r s)).trans
      (congrFun (Value.flushed2 m c ⟨i.val, pt_lt i⟩) (ix2 r s)))

/-- The result is the reference's. -/
theorem res (x : FVec Ideal S4096x1024 .f32) (w : FVec Ideal S1024x256 .f32) (h0 : V m c main_v0 = castA x) (h1 : V m c main_v1 = castW w) : (dats m 0 c).arrAt 2 cfg0.N = refA x w := by
  funext y
  obtain ⟨R, s, rfl⟩ := ix2_ex y
  obtain ⟨i, r, rfl⟩ := row_split R
  refine (elem_q m c i r s).trans ?_
  rw [outq]
  refine (pay_at _ _ r s).trans ?_
  rw [refA_at]
  exact Finset.sum_congr rfl fun p _ => congrArg₂ (fun u v : EReal => u * v) (blk0 m c i r p x h0) (blk1 m c i p s w h1)

end Cert.QDownIdeal.Host0

namespace Cert.Proof

open Cert.QDownIdeal.Host0 Cert.QDownIdeal.Gen Idealize.ShloMosaic Idealize.ShloMosaic.TcCoe Idealize.SL.Sem

/-- For equal arguments the kernel's result and the reference's are equal. -/
theorem algebraic_qdown : Cert.algebraic_QDownIdeal_QDownReferenceIdeal :=
  fun m ρ m' ρ' _ heq =>
  ⟨fun c => (dats m 0 c).arrAt 2 Cert.QDownIdeal.cfg0.N,
   Cert.QDownIdeal.Value.run_blocks m ρ,
   (θ_run (Cert.QDownReferenceIdeal.defs (F := Ideal)) _ _).mono (fun _ h c => ⟨(h c).1.trans (by
      refine Eq.trans ?_ (res m c _ _ (V_x m c) (V_w m c)).symm
      rw [(heq c).1, (heq c).2]
      rfl), (h c).2⟩)
     (Cert.QDownReferenceIdeal.Value.run (F := Ideal) m' ρ')⟩

end Cert.Proof

end
-- ==== Proof.QDownDhValue.lean ====
/- The gradient of the queries' down-projection's input: kernel and reference agree. -/
module

public import proofs.«01_k».proof.Proof.Gen.QDownDhIdeal.Value
public import proofs.«01_k».proof.Proof.Gen.QDownDhReferenceIdeal.Run
public import proofs.«01_k».proof.Proof.FfnSum
public import proofs.«01_k».proof.Defs
public import Idealize.ShloMosaic.Lib.Pointwise
public import Idealize.ShloMosaic.Lib.StableHlo.RunRead

@[expose] public section

set_option maxRecDepth 16384
set_option Elab.async false

noncomputable section

namespace Cert.QDownDhIdeal.Host0

open Cert.QDownDhIdeal Cert.QDownDhIdeal.Gen Idealize.ShloMosaic Idealize.ShloMosaic.TcCoe Idealize.ShloMosaic.Tactic Idealize.SL.Sem
open Cert.Ffn

theorem zero2 : (![0, 0] : Fin 2 → Nat) = fun _ => 0 := funext fun a => by fin_cases a <;> rfl

/-- A weight in the kernel's type. -/
def castW (x : FVec Ideal S1024x256 .f32) : FVec Ideal S1024x256 .bf16 := truncf .bf16 x bitsLt_bf16_f32

/-- What a grid point stores in the output block. -/
theorem outq (x0 : Vec Ideal S1024x256 .f32) (x1 : Vec Ideal S1024x256 .bf16) : out0_2 x0 x1 = k0_pay1 x0 x1 := by
  unfold out0_2
  rw [View.canon_unit_zero zero2]
  simp only [View.ld_unit_zero (S := S1024x256) zero2]

theorem pay_at (x0 : Vec Ideal S1024x256 .f32) (x1 : Vec Ideal S1024x256 .bf16) (r : Fin 1024) (s : Fin 1024) :
    k0_pay1 x0 x1 (ix2 r s) = ∑ p : Fin 256, x0 (ix2 r p) * x1 (ix2 s p) := by
  pointwise [k0_pay1]

/-- The reference's array. -/
def refA (d : FVec Ideal S4096x256 .f32) (w : FVec Ideal S1024x256 .f32) : FVec Ideal S4096x1024 .f32 :=
  Host.dotGeneral Cert.QDownDhReferenceIdeal.dot_S4096x256_S1024x256_S4096x1024_1_1_0_0_n_n none d w

theorem refA_at (d : FVec Ideal S4096x256 .f32) (w : FVec Ideal S1024x256 .f32) (n : Fin 4096) (s : Fin 1024) :
    refA d w (ix2 n s) = ∑ p : Fin 256, d (ix2 n p) * w (ix2 s p) := by
  pointwise [refA, shapeCast_self]

/-- Where each window's block lies at grid point `t`. -/
theorem places : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

variable (m : (ℓ : Loc nD τ sig) → Buf (Elt Ideal) ℓ) (c : Dev nD) (i : Fin 4) (r : Fin 1024) (p : Fin 256) (s : Fin 1024)

theorem V_x : V m c main_arg2 = (m ((c : Thread nD τ).loc main_arg2)) := by
  unfold V; after_reads_simp

theorem V_w : V m c main_v0 = castW (m ((c : Thread nD τ).loc main_arg1)) := by
  unfold V; after_reads_simp; rfl

/-- Grid point of row block `i`. -/
theorem pt_lt : i.val < cfg0.N := lt_of_lt_of_eq (by omega) N_0.symm

theorem emb_0 : (win0_0.rect ⟨i.val, pt_lt i⟩).emb (ix2 r p) = (ix2 (quarter i r) p : S4096x256.Idx) := by
  obtain ⟨h0, h1⟩ := (places ⟨i.val, pt_lt i⟩).1
  try simp only [] at h0 h1
  refine ix2_eq ((Pipeline.Window.rect_emb_val _ _ _ _).trans ?_) ((Pipeline.Window.rect_emb_val _ _ _ _).trans ?_)
  · show win0_0.index ⟨i.val, pt_lt i⟩ (0 : Fin 2) * 1024 + r.val = 1024 * i.val + r.val
    rw [h0]; omega
  · show win0_0.index ⟨i.val, pt_lt i⟩ (1 : Fin 2) * 256 + p.val = p.val
    rw [h1]; omega

theorem emb_1 : (win0_1.rect ⟨i.val, pt_lt i⟩).emb (ix2 s p) = (ix2 s p : S1024x256.Idx) := by
  obtain ⟨h0, h1⟩ := (places ⟨i.val, pt_lt i⟩).2.1
  try simp only [] at h0 h1
  refine ix2_eq ((Pipeline.Window.rect_emb_val _ _ _ _).trans ?_) ((Pipeline.Window.rect_emb_val _ _ _ _).trans ?_)
  · show win0_1.index ⟨i.val, pt_lt i⟩ (0 : Fin 2) * 1024 + s.val = s.val
    rw [h0]; omega
  · show win0_1.index ⟨i.val, pt_lt i⟩ (1 : Fin 2) * 256 + p.val = p.val
    rw [h1]; omega

theorem emb_2 : (win0_2.rect ⟨i.val, pt_lt i⟩).emb (ix2 r s) = (ix2 (quarter i r) s : S4096x1024.Idx) := by
  obtain ⟨h0, h1⟩ := (places ⟨i.val, pt_lt i⟩).2.2
  try simp only [] at h0 h1
  refine ix2_eq ((Pipeline.Window.rect_emb_val _ _ _ _).trans ?_) ((Pipeline.Window.rect_emb_val _ _ _ _).trans ?_)
  · show win0_2.index ⟨i.val, pt_lt i⟩ (0 : Fin 2) * 1024 + r.val = 1024 * i.val + r.val
    rw [h0]; omega
  · show win0_2.index ⟨i.val, pt_lt i⟩ (1 : Fin 2) * 1024 + s.val = s.val
    rw [h1]; omega

/-- The input windows' blocks, over arrays they are read from. -/
theorem blk0 (x : FVec Ideal S4096x256 .f32) (h0 : V m c main_arg2 = x) : iblk m c 0 ⟨i.val, pt_lt i⟩ (ix2 r p) = x (ix2 (quarter i r) p) :=
  (congrArg (V m c main_arg2) (emb_0 i r p)).trans (by rw [h0])

theorem blk1 (w : FVec Ideal S1024x256 .f32) (h1 : V m c main_v0 = castW w) : iblk m c 1 ⟨i.val, pt_lt i⟩ (ix2 s p) = w (ix2 s p) :=
  (congrArg (V m c main_v0) (emb_1 i p s)).trans (by rw [h1]; rfl)

/-- An element of the result is the one its block's grid point stored. -/
theorem elem_q : (dats m 0 c).arrAt 2 cfg0.N (ix2 (quarter i r) s : S4096x1024.Idx) = out0_2 (iblk m c 0 ⟨i.val, pt_lt i⟩) (iblk m c 1 ⟨i.val, pt_lt i⟩) (ix2 r s) :=
  (congrArg ((dats m 0 c).arrAt 2 cfg0.N) (emb_2 i r s)).symm.trans
    (((dats m 0 c).arrAt_emb_eq_flushed 2 Value.disjoint2 ⟨i.val, pt_lt i⟩ (flush0_2 _) (ix2 r s)).trans
      (congrFun (Value.flushed2 m c ⟨i.val, pt_lt i⟩) (ix2 r s)))

/-- The result is the reference's. -/
theorem res (x : FVec Ideal S4096x256 .f32) (w : FVec Ideal S1024x256 .f32) (h0 : V m c main_arg2 = x) (h1 : V m c main_v0 = castW w) : (dats m 0 c).arrAt 2 cfg0.N = refA x w := by
  funext y
  obtain ⟨R, s, rfl⟩ := ix2_ex y
  obtain ⟨i, r, rfl⟩ := row_split R
  refine (elem_q m c i r s).trans ?_
  rw [outq]
  refine (pay_at _ _ r s).trans ?_
  rw [refA_at]
  exact Finset.sum_congr rfl fun p _ => congrArg₂ (fun u v : EReal => u * v) (blk0 m c i r p x h0) (blk1 m c i p s w h1)

end Cert.QDownDhIdeal.Host0

namespace Cert.Proof

open Cert.QDownDhIdeal.Host0 Cert.QDownDhIdeal.Gen Idealize.ShloMosaic Idealize.ShloMosaic.TcCoe Idealize.SL.Sem

/-- For equal arguments the kernel's result and the reference's are equal. -/
theorem algebraic_qdowndh : Cert.algebraic_QDownDhIdeal_QDownDhReferenceIdeal :=
  fun m ρ m' ρ' _ heq =>
  ⟨fun c => (dats m 0 c).arrAt 2 Cert.QDownDhIdeal.cfg0.N,
   Cert.QDownDhIdeal.Value.run_blocks m ρ,
   (θ_run (Cert.QDownDhReferenceIdeal.defs (F := Ideal)) _ _).mono (fun _ h c => ⟨(h c).1.trans (by
      refine Eq.trans ?_ (res m c _ _ (V_x m c) (V_w m c)).symm
      rw [(heq c).2.1, (heq c).2.2]
      rfl), (h c).2⟩)
     (Cert.QDownDhReferenceIdeal.Value.run (F := Ideal) m' ρ')⟩

end Cert.Proof

end
-- ==== Proof.QDownDwPoint.lean ====
/- The gradient of the queries' down-projection's weight: what each grid point leaves in the accumulator and in the output block. -/
module

public import proofs.«01_k».proof.Proof.Gen.QDownDwIdeal.Value

@[expose] public section

set_option maxRecDepth 16384
set_option Elab.async false

noncomputable section

namespace Cert.QDownDwIdeal.Gen

open Cert.QDownDwIdeal Idealize.ShloMosaic Idealize.ShloMosaic.TcCoe Idealize.ShloMosaic.Tactic Idealize.SL.Sem

variable {F : FTy → Type} [FloatOps F]

theorem zero2 : (![0, 0] : Fin 2 → Nat) = fun _ => 0 := funext fun a => by fin_cases a <;> rfl

/-- The first point leaves the first product, added to zero, in the accumulator. -/
theorem first_acc (c : Dev nD) (i : grid0.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : cond0_0 i) (hc1 : ¬cond0_1 i) (x0 : Vec F S1024x1024 .bf16) (x1 : Vec F S1024x256 .f32) :
    sout0_A_0 c i arg2 harg2 arg3 harg3 arg4 harg4 arg5 harg5 hc0 hc1 x0 x1 = k0_pay2 (k0_pay1 (F := F)) x0 x1 := by
  unfold sout0_A_0
  rw [View.read_writes_eq_canon _ _ _ (scover0_A_0 c i arg2 harg2 arg3 harg3 arg4 harg4 arg5 harg5 hc0 hc1 x0 x1)]
  unfold kernelRun0_A
  dsimp only
  try sl_unfold_words
  rw [View.canon_cons_unit_zero (S := S1024x256) zero2, View.readCov_unit_zero (S := S1024x256) _ zero2]
  simp only [View.readAt_eq_ld, harg2.read_unread, harg3.read_unread, harg4.read_unread, harg5.read_unread, View.ld_unit_zero (S := S1024x1024) zero2, View.ld_unit_zero (S := S1024x256) zero2, shapeCast_self]

/-- A middle point adds its product to the accumulator. -/
theorem mid_acc (c : Dev nD) (i : grid0.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cond0_0 i) (hc1 : ¬cond0_1 i) (x0 : Vec F S1024x1024 .bf16) (x1 : Vec F S1024x256 .f32) (xs0 : Vec F S1024x256 .f32) :
    sout0_B_0 c i arg2 harg2 arg3 harg3 arg4 harg4 arg5 harg5 hc0 hc1 x0 x1 xs0 = k0_pay2 xs0 x0 x1 := by
  unfold sout0_B_0
  rw [View.read_writes_eq_canon _ _ _ (scover0_B_0 c i arg2 harg2 arg3 harg3 arg4 harg4 arg5 harg5 hc0 hc1 x0 x1 xs0)]
  unfold kernelRun0_B
  dsimp only
  try sl_unfold_words
  rw [View.canon_unit_zero zero2]
  simp only [View.readAt_eq_ld, harg2.read_unread, harg3.read_unread, harg4.read_unread, harg5.read_unread, View.ld_unit_zero (S := S1024x1024) zero2, View.ld_unit_zero (S := S1024x256) zero2, shapeCast_self]

/-- The last point leaves the accumulator with its product added in the output block. -/
theorem last_out (c : Dev nD) (i : grid0.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cond0_0 i) (hc1 : cond0_1 i) (x0 : Vec F S1024x1024 .bf16) (x1 : Vec F S1024x256 .f32) (xs0 : Vec F S1024x256 .f32) :
    out0_C_2 c i arg2 harg2 arg3 harg3 arg4 harg4 arg5 harg5 hc0 hc1 x0 x1 xs0 = k0_pay2 xs0 x0 x1 := by
  unfold out0_C_2
  rw [View.read_writes_eq_canon _ _ _ (cover0_C_2 c i arg2 harg2 arg3 harg3 arg4 harg4 arg5 harg5 hc0 hc1 x0 x1 xs0)]
  unfold kernelRun0_C
  dsimp only
  try sl_unfold_words
  rw [View.canon_unit_zero zero2]
  simp only [View.readCov_unit_zero (S := S1024x256) _ zero2, View.readAt_eq_ld, harg2.read_unread, harg3.read_unread, harg4.read_unread, harg5.read_unread, View.ld_unit_zero (S := S1024x1024) zero2, View.ld_unit_zero (S := S1024x256) zero2, shapeCast_self]

variable (m : (ℓ : Loc nD τ sig) → Buf (Elt F) ℓ) (c : Dev nD) (t : Fin cfg0.N)

/-- The accumulator after the first point. -/
theorem acc_of (h0 : t.val % 4 = 0) (h1 : ¬t.val % 4 = 3) :
    (outsAt0 m c t.val t.isLt).2 = k0_pay2 (k0_pay1 (F := F)) (iblk m c 0 t) (iblk m c 1 t) := by
  rw [outsAt0_A m c t h0 h1]
  dsimp only
  exact first_acc c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- The accumulator after a middle point. -/
theorem mid_of (h0 : ¬t.val % 4 = 0) (h1 : ¬t.val % 4 = 3) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  exact mid_acc c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2

/-- The output block after the last point. -/
theorem out_of (h0 : ¬t.val % 4 = 0) (h1 : t.val % 4 = 3) :
    (outsAt0 m c t.val t.isLt).1 = k0_pay2 (outsAt0 m c (t.val - 1) (Nat.lt_of_le_of_lt (Nat.sub_le _ _) t.isLt)).2 (iblk m c 0 t) (iblk m c 1 t) := by
  rw [outsAt0_C m c t h0 h1]
  dsimp only
  exact last_out c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2

end Cert.QDownDwIdeal.Gen

end
-- ==== Proof.QDownDwValue.lean ====
/- The gradient of the queries' down-projection's weight: kernel and reference agree. -/
module

public import proofs.«01_k».proof.Proof.QDownDwPoint
public import proofs.«01_k».proof.Proof.Gen.QDownDwReferenceIdeal.Run
public import proofs.«01_k».proof.Proof.FfnSum
public import proofs.«01_k».proof.Defs
public import Idealize.ShloMosaic.Lib.Pointwise
public import Idealize.ShloMosaic.Lib.StableHlo.RunRead

@[expose] public section

set_option maxRecDepth 16384
set_option Elab.async false

noncomputable section

namespace Cert.QDownDwIdeal.Host0

open Cert.QDownDwIdeal Cert.QDownDwIdeal.Gen Idealize.ShloMosaic Idealize.ShloMosaic.TcCoe Idealize.ShloMosaic.Tactic Idealize.SL.Sem
open Cert.Ffn

/-- The input in the kernel's type. -/
def castA (x : FVec Ideal S4096x1024 .f32) : FVec Ideal S4096x1024 .bf16 := truncf .bf16 x bitsLt_bf16_f32

/-- One grid point's term: the accumulated array and the product. -/
theorem pay_at (acc : FVec Ideal S1024x256 .f32) (a : FVec Ideal S1024x1024 .bf16) (d : FVec Ideal S1024x256 .f32) (p : Fin 1024) (s : Fin 256) :
    k0_pay2 acc a d (ix2 p s) = acc (ix2 p s) + ∑ r : Fin 1024, a (ix2 r p) * d (ix2 r s) := by
  pointwise [k0_pay2]

theorem zero_at (p : Fin 1024) (s : Fin 256) : k0_pay1 (F := Ideal) (ix2 p s) = 0 := by
  pointwise [k0_pay1]

/-- The reference's array. -/
def refA (a : FVec Ideal S4096x1024 .f32) (d : FVec Ideal S4096x256 .f32) : FVec Ideal S1024x256 .f32 :=
  transpose Cert.QDownDwReferenceIdeal.S1024x256 [1, 0] (Host.dotGeneral Cert.QDownDwReferenceIdeal.dot_S4096x256_S4096x1024_S256x1024_0_0_1_1_n_n none d a) Cert.QDownDwReferenceIdeal.Gen.transposes_S256x1024_S1024x256_1_0

theorem refA_at (a : FVec Ideal S4096x1024 .f32) (d : FVec Ideal S4096x256 .f32) (p : Fin 1024) (s : Fin 256) :
    refA a d (ix2 p s) = ∑ n : Fin 4096, d (ix2 n s) * a (ix2 n p) := by
  pointwise [refA, shapeCast_self]

/-- A sum over the rows is the sum over the quarters of the sums over their rows. -/
theorem sum_quarters (f : Fin 4096 → EReal) : ∑ n, f n = ∑ i : Fin 4, ∑ r : Fin 1024, f (quarter i r) := by
  rw [← Fintype.sum_prod_type']
  refine (Fintype.sum_equiv (finProdFinEquiv (m := 4) (n := 1024)) _ _ fun x => congrArg f (Fin.ext ?_)).symm
  show 1024 * x.1.val + x.2.val = x.2.val + 1024 * x.1.val
  omega

/-- Where each window's block lies at grid point `t`. -/
theorem places : ∀ t : Fin cfg0.N,
    (win0_0.index t (0 : Fin 2) = t.val ∧ win0_0.index t (1 : Fin 2) = 0)
    ∧ (win0_1.index t (0 : Fin 2) = t.val ∧ win0_1.index t (1 : Fin 2) = 0) :=
  (by decide +kernel : ∀ t : Fin grid0.N, _)

variable (m : (ℓ : Loc nD τ sig) → Buf (Elt Ideal) ℓ) (c : Dev nD) (i : Fin 4) (r : Fin 1024) (p : Fin 1024) (s : Fin 256)

theorem V_a : V m c main_v0 = castA (m ((c : Thread nD τ).loc main_arg0)) := by
  unfold V; after_reads_simp; rfl

theorem V_d : V m c main_arg2 = (m ((c : Thread nD τ).loc main_arg2)) := by
  unfold V; after_reads_simp

/-- Grid point of row block `i`. -/
theorem pt_lt : i.val < cfg0.N := lt_of_lt_of_eq (by omega) N_0.symm

theorem emb_0 : (win0_0.rect ⟨i.val, pt_lt i⟩).emb (ix2 r p) = (ix2 (quarter i r) p : S4096x1024.Idx) := by
  obtain ⟨h0, h1⟩ := (places ⟨i.val, pt_lt i⟩).1
  try simp only [] at h0 h1
  refine ix2_eq ((Pipeline.Window.rect_emb_val _ _ _ _).trans ?_) ((Pipeline.Window.rect_emb_val _ _ _ _).trans ?_)
  · show win0_0.index ⟨i.val, pt_lt i⟩ (0 : Fin 2) * 1024 + r.val = 1024 * i.val + r.val
    rw [h0]; omega
  · show win0_0.index ⟨i.val, pt_lt i⟩ (1 : Fin 2) * 1024 + p.val = p.val
    rw [h1]; omega

theorem emb_1 : (win0_1.rect ⟨i.val, pt_lt i⟩).emb (ix2 r s) = (ix2 (quarter i r) s : S4096x256.Idx) := by
  obtain ⟨h0, h1⟩ := (places ⟨i.val, pt_lt i⟩).2
  try simp only [] at h0 h1
  refine ix2_eq ((Pipeline.Window.rect_emb_val _ _ _ _).trans ?_) ((Pipeline.Window.rect_emb_val _ _ _ _).trans ?_)
  · show win0_1.index ⟨i.val, pt_lt i⟩ (0 : Fin 2) * 1024 + r.val = 1024 * i.val + r.val
    rw [h0]; omega
  · show win0_1.index ⟨i.val, pt_lt i⟩ (1 : Fin 2) * 256 + s.val = s.val
    rw [h1]; omega

/-- One grid point's step, over arrays the windows' blocks are read from. -/
theorem step_at (a : FVec Ideal S4096x1024 .f32) (d : FVec Ideal S4096x256 .f32) (h0 : V m c main_v0 = castA a) (h1 : V m c main_arg2 = d) (acc : FVec Ideal S1024x256 .f32) :
    k0_pay2 acc (iblk m c 0 ⟨i.val, pt_lt i⟩) (iblk m c 1 ⟨i.val, pt_lt i⟩) (ix2 p s) = acc (ix2 p s) + ∑ r : Fin 1024, a (ix2 (quarter i r) p) * d (ix2 (quarter i r) s) := by
  refine (pay_at _ _ _ p s).trans ?_
  have e0 : ∀ r : Fin 1024, iblk m c 0 ⟨i.val, pt_lt i⟩ (ix2 r p) = a (ix2 (quarter i r) p) := fun r =>
    (congrArg (V m c main_v0) (emb_0 i r p)).trans (by rw [h0]; rfl)
  have e1 : ∀ r : Fin 1024, iblk m c 1 ⟨i.val, pt_lt i⟩ (ix2 r s) = d (ix2 (quarter i r) s) := fun r =>
    (congrArg (V m c main_arg2) (emb_1 i r s)).trans (by rw [h1])
  simp only [e0, e1]

/-- The accumulator after each of the first three points, and the output block after the last. -/
theorem acc_0 : (outsAt0 m c (0) (pt_lt 0)).2 = k0_pay2 (k0_pay1 (F := Ideal)) (iblk m c 0 ⟨0, pt_lt 0⟩) (iblk m c 1 ⟨0, pt_lt 0⟩) :=
  acc_of m c ⟨0, pt_lt 0⟩ (by decide) (by decide)

theorem acc_1 : (outsAt0 m c (1) (pt_lt 1)).2 = k0_pay2 (outsAt0 m c (0) (pt_lt 0)).2 (iblk m c 0 ⟨1, pt_lt 1⟩) (iblk m c 1 ⟨1, pt_lt 1⟩) :=
  mid_of m c ⟨1, pt_lt 1⟩ (by decide) (by decide)

theorem acc_2 : (outsAt0 m c (2) (pt_lt 2)).2 = k0_pay2 (outsAt0 m c (1) (pt_lt 1)).2 (iblk m c 0 ⟨2, pt_lt 2⟩) (iblk m c 1 ⟨2, pt_lt 2⟩) :=
  mid_of m c ⟨2, pt_lt 2⟩ (by decide) (by decide)

theorem out_3 : (outsAt0 m c (3) (pt_lt 3)).1 = k0_pay2 (outsAt0 m c (2) (pt_lt 2)).2 (iblk m c 0 ⟨3, pt_lt 3⟩) (iblk m c 1 ⟨3, pt_lt 3⟩) :=
  out_of m c ⟨3, pt_lt 3⟩ (by decide) (by decide)

/-- The kernel's result is the reference's. -/
theorem G_eq (a : FVec Ideal S4096x1024 .f32) (d : FVec Ideal S4096x256 .f32) (h0 : V m c main_v0 = castA a) (h1 : V m c main_arg2 = d) : Value.G2 m c = refA a d := by
  funext y
  obtain ⟨p, s, rfl⟩ := ix2_ex y
  have e : Value.G2 m c = (outsAt0 m c (3) (pt_lt 3)).1 := (Value.G2_last m c).trans (congrArg Prod.fst (Value.outsAt0_sweep m c 3 (pt_lt 3)).symm)
  refine (congrFun e (ix2 p s)).trans ?_
  refine (congrFun (out_3 m c) (ix2 p s)).trans ?_
  refine (step_at m c 3 p s a d h0 h1 _).trans ?_
  rw [acc_2, show k0_pay2 (outsAt0 m c (1) (pt_lt 1)).2 (iblk m c 0 ⟨2, pt_lt 2⟩) (iblk m c 1 ⟨2, pt_lt 2⟩) (ix2 p s) = _ from step_at m c 2 p s a d h0 h1 _,
    acc_1, show k0_pay2 (outsAt0 m c (0) (pt_lt 0)).2 (iblk m c 0 ⟨1, pt_lt 1⟩) (iblk m c 1 ⟨1, pt_lt 1⟩) (ix2 p s) = _ from step_at m c 1 p s a d h0 h1 _,
    acc_0, show k0_pay2 (k0_pay1 (F := Ideal)) (iblk m c 0 ⟨0, pt_lt 0⟩) (iblk m c 1 ⟨0, pt_lt 0⟩) (ix2 p s) = _ from step_at m c 0 p s a d h0 h1 _,
    zero_at, zero_add, refA_at, sum_quarters]
  simp only [Fin.sum_univ_four, mul_comm]

end Cert.QDownDwIdeal.Host0

namespace Cert.Proof

open Cert.QDownDwIdeal.Host0 Idealize.ShloMosaic Idealize.ShloMosaic.TcCoe Idealize.SL.Sem

/-- For equal arguments the kernel's result and the reference's are equal. -/
theorem algebraic_qdowndw : Cert.algebraic_QDownDwIdeal_QDownDwReferenceIdeal :=
  fun m ρ m' ρ' _ heq =>
  ⟨fun c => Cert.QDownDwIdeal.Value.G2 m c,
   Cert.QDownDwIdeal.Value.run m ρ,
   (θ_run (Cert.QDownDwReferenceIdeal.defs (F := Ideal)) _ _).mono (fun _ h c => ⟨(h c).1.trans (by
      refine Eq.trans ?_ (G_eq m c _ _ (V_a m c) (V_d m c)).symm
      rw [(heq c).1, (heq c).2.2]
      rfl), (h c).2⟩)
     (Cert.QDownDwReferenceIdeal.Value.run (F := Ideal) m' ρ')⟩

end Cert.Proof

end
-- ==== Proof.QUpValue.lean ====
/- The queries' up-projection: kernel and reference agree. -/
module

public import proofs.«01_k».proof.Proof.Gen.QUpIdeal.Value
public import proofs.«01_k».proof.Proof.Gen.QUpReferenceIdeal.Run
public import proofs.«01_k».proof.Proof.FfnSum
public import proofs.«01_k».proof.Defs
public import Idealize.ShloMosaic.Lib.Pointwise
public import Idealize.ShloMosaic.Lib.StableHlo.RunRead

@[expose] public section

set_option maxRecDepth 16384
set_option Elab.async false

noncomputable section

namespace Cert.QUpIdeal.Host0

open Cert.QUpIdeal Cert.QUpIdeal.Gen Idealize.ShloMosaic Idealize.ShloMosaic.TcCoe Idealize.ShloMosaic.Tactic Idealize.SL.Sem
open Cert.Ffn

theorem zero2 : (![0, 0] : Fin 2 → Nat) = fun _ => 0 := funext fun a => by fin_cases a <;> rfl

/-- A weight in the kernel's type. -/
def castW (x : FVec Ideal S256x2048 .f32) : FVec Ideal S256x2048 .bf16 := truncf .bf16 x bitsLt_bf16_f32

/-- The input in the kernel's type. -/
def castA (x : FVec Ideal S4096x256 .f32) : FVec Ideal S4096x256 .bf16 := truncf .bf16 x bitsLt_bf16_f32

/-- What a grid point stores in the output block. -/
theorem outq (x0 : Vec Ideal S1024x256 .bf16) (x1 : Vec Ideal S256x1024 .bf16) : out0_2 x0 x1 = k0_pay1 x0 x1 := by
  unfold out0_2
  rw [View.canon_unit_zero zero2]
  simp only [View.ld_unit_zero (S := S1024x256) zero2, View.ld_unit_zero (S := S256x1024) zero2]

theorem pay_at (x0 : Vec Ideal S1024x256 .bf16) (x1 : Vec Ideal S256x1024 .bf16) (r : Fin 1024) (s : Fin 1024) :
    k0_pay1 x0 x1 (ix2 r s) = ∑ p : Fin 256, x0 (ix2 r p) * x1 (ix2 p s) := by
  pointwise [k0_pay1]

/-- The reference's array. -/
def refA (a : FVec Ideal S4096x256 .f32) (w : FVec Ideal S256x2048 .f32) : FVec Ideal S4096x2048 .f32 :=
  Host.dotGeneral Cert.QUpReferenceIdeal.dot_S4096x256_S256x2048_S4096x2048_1_0_0_1_n_n none a w

theorem refA_at (a : FVec Ideal S4096x256 .f32) (w : FVec Ideal S256x2048 .f32) (n : Fin 4096) (s : Fin 2048) :
    refA a w (ix2 n s) = ∑ p : Fin 256, a (ix2 n p) * w (ix2 p s) := by
  pointwise [refA, shapeCast_self]

/-- Column `s` of the `j`-th block of columns. -/
abbrev col (j : Fin 2) (s : Fin 1024) : Fin 2048 := ⟨1024 * j.val + s.val, by omega⟩

theorem col_split (n : Fin 2048) : ∃ j s, n = col j s :=
  ⟨⟨n.val / 1024, by omega⟩, ⟨n.val % 1024, by omega⟩, Fin.ext (by show n.val = 1024 * (n.val / 1024) + n.val % 1024; omega)⟩

/-- Where each window's block lies at grid point `t`. -/
theorem places : ∀ t : Fin cfg0.N,
    (win0_0.index t (0 : Fin 2) = t.val / 2 ∧ win0_0.index t (1 : Fin 2) = 0)
    ∧ (win0_1.index t (0 : Fin 2) = 0 ∧ win0_1.index t (1 : Fin 2) = t.val % 2)
    ∧ (win0_2.index t (0 : Fin 2) = t.val / 2 ∧ win0_2.index t (1 : Fin 2) = t.val % 2) :=
  (by decide +kernel : ∀ t : Fin grid0.N, _)

variable (m : (ℓ : Loc nD τ sig) → Buf (Elt Ideal) ℓ) (c : Dev nD) (i : Fin 4) (j : Fin 2) (r : Fin 1024) (p : Fin 256) (s : Fin 1024)

theorem V_x : V m c main_v0 = castA (m ((c : Thread nD τ).loc main_arg0)) := by
  unfold V; after_reads_simp; rfl

theorem V_w : V m c main_v4 = castW (shapeCast _ (pad S256x8x256 ![0, 0, 0] ![0, 0, 64] ![0, 0, 0] (shapeCast _ (m ((c : Thread nD τ).loc main_arg1)) shapeCasts_S256x1536_S256x8x192) (sitofp .f32 (constantI S_ 32 0#32)) pads_S256x8x192_S256x8x256_000_000_0640 h_S_) shapeCasts_S256x8x256_S256x2048) := by
  unfold V; after_reads_simp; rfl

/-- Grid point of row block `i` and column block `j`. -/
theorem pt_lt : 2 * i.val + j.val < cfg0.N := lt_of_lt_of_eq (by omega) N_0.symm

theorem emb_0 : (win0_0.rect ⟨2 * i.val + j.val, pt_lt i j⟩).emb (ix2 r p) = (ix2 (quarter i r) p : S4096x256.Idx) := by
  obtain ⟨h0, h1⟩ := (places ⟨2 * i.val + j.val, pt_lt i j⟩).1
  try simp only [] at h0 h1
  refine ix2_eq ((Pipeline.Window.rect_emb_val _ _ _ _).trans ?_) ((Pipeline.Window.rect_emb_val _ _ _ _).trans ?_)
  · show win0_0.index ⟨2 * i.val + j.val, pt_lt i j⟩ (0 : Fin 2) * 1024 + r.val = 1024 * i.val + r.val
    rw [h0]; omega
  · show win0_0.index ⟨2 * i.val + j.val, pt_lt i j⟩ (1 : Fin 2) * 256 + p.val = p.val
    rw [h1]; omega

theorem emb_1 : (win0_1.rect ⟨2 * i.val + j.val, pt_lt i j⟩).emb (ix2 p s) = (ix2 p (col j s) : S256x2048.Idx) := by
  obtain ⟨h0, h1⟩ := (places ⟨2 * i.val + j.val, pt_lt i j⟩).2.1
  try simp only [] at h0 h1
  refine ix2_eq ((Pipeline.Window.rect_emb_val _ _ _ _).trans ?_) ((Pipeline.Window.rect_emb_val _ _ _ _).trans ?_)
  · show win0_1.index ⟨2 * i.val + j.val, pt_lt i j⟩ (0 : Fin 2) * 256 + p.val = p.val
    rw [h0]; omega
  · show win0_1.index ⟨2 * i.val + j.val, pt_lt i j⟩ (1 : Fin 2) * 1024 + s.val = 1024 * j.val + s.val
    rw [h1]; omega

theorem emb_2 : (win0_2.rect ⟨2 * i.val + j.val, pt_lt i j⟩).emb (ix2 r s) = (ix2 (quarter i r) (col j s) : S4096x2048.Idx) := by
  obtain ⟨h0, h1⟩ := (places ⟨2 * i.val + j.val, pt_lt i j⟩).2.2
  try simp only [] at h0 h1
  refine ix2_eq ((Pipeline.Window.rect_emb_val _ _ _ _).trans ?_) ((Pipeline.Window.rect_emb_val _ _ _ _).trans ?_)
  · show win0_2.index ⟨2 * i.val + j.val, pt_lt i j⟩ (0 : Fin 2) * 1024 + r.val = 1024 * i.val + r.val
    rw [h0]; omega
  · show win0_2.index ⟨2 * i.val + j.val, pt_lt i j⟩ (1 : Fin 2) * 1024 + s.val = 1024 * j.val + s.val
    rw [h1]; omega

/-- The input windows' blocks, over arrays they are read from. -/
theorem blk0 (x : FVec Ideal S4096x256 .f32) (h0 : V m c main_v0 = castA x) : iblk m c 0 ⟨2 * i.val + j.val, pt_lt i j⟩ (ix2 r p) = x (ix2 (quarter i r) p) :=
  (congrArg (V m c main_v0) (emb_0 i j r p)).trans (by rw [h0]; rfl)

theorem blk1 (w : FVec Ideal S256x2048 .f32) (h1 : V m c main_v4 = castW w) : iblk m c 1 ⟨2 * i.val + j.val, pt_lt i j⟩ (ix2 p s) = w (ix2 p (col j s)) :=
  (congrArg (V m c main_v4) (emb_1 i j p s)).trans (by rw [h1]; rfl)

/-- An element of the result is the one its block's grid point stored. -/
theorem elem_q : (dats m 0 c).arrAt 2 cfg0.N (ix2 (quarter i r) (col j s) : S4096x2048.Idx) = out0_2 (iblk m c 0 ⟨2 * i.val + j.val, pt_lt i j⟩) (iblk m c 1 ⟨2 * i.val + j.val, pt_lt i j⟩) (ix2 r s) :=
  (congrArg ((dats m 0 c).arrAt 2 cfg0.N) (emb_2 i j r s)).symm.trans
    (((dats m 0 c).arrAt_emb_eq_flushed 2 Value.disjoint2 ⟨2 * i.val + j.val, pt_lt i j⟩ (flush0_2 _) (ix2 r s)).trans
      (congrFun (Value.flushed2 m c ⟨2 * i.val + j.val, pt_lt i j⟩) (ix2 r s)))

/-- The result is the reference's. -/
theorem res (x : FVec Ideal S4096x256 .f32) (w : FVec Ideal S256x2048 .f32) (h0 : V m c main_v0 = castA x) (h1 : V m c main_v4 = castW w) : (dats m 0 c).arrAt 2 cfg0.N = refA x w := by
  funext y
  obtain ⟨R, C, rfl⟩ := ix2_ex y
  obtain ⟨i, r, rfl⟩ := row_split R
  obtain ⟨j, s, rfl⟩ := col_split C
  refine (elem_q m c i j r s).trans ?_
  rw [outq]
  refine (pay_at _ _ r s).trans ?_
  rw [refA_at]
  exact Finset.sum_congr rfl fun p _ => congrArg₂ (fun u v : EReal => u * v) (blk0 m c i j r p x h0) (blk1 m c i j p s w h1)

end Cert.QUpIdeal.Host0

namespace Cert.Proof

open Cert.QUpIdeal.Host0 Cert.QUpIdeal.Gen Idealize.ShloMosaic Idealize.ShloMosaic.TcCoe Idealize.SL.Sem

/-- For equal arguments the kernel's result and the reference's are equal. -/
theorem algebraic_qup : Cert.algebraic_QUpIdeal_QUpReferenceIdeal :=
  fun m ρ m' ρ' _ heq =>
  ⟨fun c => (dats m 0 c).arrAt 2 Cert.QUpIdeal.cfg0.N,
   Cert.QUpIdeal.Value.run_blocks m ρ,
   (θ_run (Cert.QUpReferenceIdeal.defs (F := Ideal)) _ _).mono (fun _ h c => ⟨(h c).1.trans (by
      refine Eq.trans ?_ (res m c _ _ (V_x m c) (V_w m c)).symm
      rw [(heq c).1, (heq c).2]
      rfl), (h c).2⟩)
     (Cert.QUpReferenceIdeal.Value.run (F := Ideal) m' ρ')⟩

end Cert.Proof

end
-- ==== Proof.QUpDcValue.lean ====
/- The gradient of the queries' up-projection's input: kernel and reference agree. -/
module

public import proofs.«01_k».proof.Proof.Gen.QUpDcIdeal.Value
public import proofs.«01_k».proof.Proof.Gen.QUpDcReferenceIdeal.Run
public import proofs.«01_k».proof.Proof.FfnSum
public import proofs.«01_k».proof.Defs
public import Idealize.ShloMosaic.Lib.Pointwise
public import Idealize.ShloMosaic.Lib.StableHlo.RunRead

@[expose] public section

set_option maxRecDepth 16384
set_option Elab.async false

noncomputable section

namespace Cert.QUpDcIdeal.Host0

open Cert.QUpDcIdeal Cert.QUpDcIdeal.Gen Idealize.ShloMosaic Idealize.ShloMosaic.TcCoe Idealize.ShloMosaic.Tactic Idealize.SL.Sem
open Cert.Ffn

theorem zero2 : (![0, 0] : Fin 2 → Nat) = fun _ => 0 := funext fun a => by fin_cases a <;> rfl

/-- A weight in the kernel's type. -/
def castW (x : FVec Ideal S256x2048 .f32) : FVec Ideal S256x2048 .bf16 := truncf .bf16 x bitsLt_bf16_f32

/-- What a grid point stores in the output block. -/
theorem outq (x0 : Vec Ideal S1024x2048 .f32) (x1 : Vec Ideal S256x2048 .bf16) : out0_2 x0 x1 = k0_pay1 x0 x1 := by
  unfold out0_2
  rw [View.canon_unit_zero zero2]
  simp only [View.ld_unit_zero (S := S1024x2048) zero2, View.ld_unit_zero (S := S256x2048) zero2]

theorem pay_at (x0 : Vec Ideal S1024x2048 .f32) (x1 : Vec Ideal S256x2048 .bf16) (r : Fin 1024) (s : Fin 256) :
    k0_pay1 x0 x1 (ix2 r s) = ∑ p : Fin 2048, x0 (ix2 r p) * x1 (ix2 s p) := by
  pointwise [k0_pay1]

/-- The reference's array. -/
def refA (d : FVec Ideal S4096x2048 .f32) (w : FVec Ideal S256x2048 .f32) : FVec Ideal S4096x256 .f32 :=
  Host.dotGeneral Cert.QUpDcReferenceIdeal.dot_S4096x2048_S256x2048_S4096x256_1_1_0_0_n_n none d w

theorem refA_at (d : FVec Ideal S4096x2048 .f32) (w : FVec Ideal S256x2048 .f32) (n : Fin 4096) (s : Fin 256) :
    refA d w (ix2 n s) = ∑ p : Fin 2048, d (ix2 n p) * w (ix2 s p) := by
  pointwise [refA, shapeCast_self]

/-- Where each window's block lies at grid point `t`. -/
theorem places : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

variable (m : (ℓ : Loc nD τ sig) → Buf (Elt Ideal) ℓ) (c : Dev nD) (i : Fin 4) (r : Fin 1024) (p : Fin 2048) (s : Fin 256)

theorem V_x : V m c main_arg2 = (m ((c : Thread nD τ).loc main_arg2)) := by
  unfold V; after_reads_simp

theorem V_w : V m c main_v3 = castW (shapeCast _ (pad S256x8x256 ![0, 0, 0] ![0, 0, 64] ![0, 0, 0] (shapeCast _ (m ((c : Thread nD τ).loc main_arg1)) shapeCasts_S256x1536_S256x8x192) (sitofp .f32 (constantI S_ 32 0#32)) pads_S256x8x192_S256x8x256_000_000_0640 h_S_) shapeCasts_S256x8x256_S256x2048) := by
  unfold V; after_reads_simp; rfl

/-- Grid point of row block `i`. -/
theorem pt_lt : i.val < cfg0.N := lt_of_lt_of_eq (by omega) N_0.symm

theorem emb_0 : (win0_0.rect ⟨i.val, pt_lt i⟩).emb (ix2 r p) = (ix2 (quarter i r) p : S4096x2048.Idx) := by
  obtain ⟨h0, h1⟩ := (places ⟨i.val, pt_lt i⟩).1
  try simp only [] at h0 h1
  refine ix2_eq ((Pipeline.Window.rect_emb_val _ _ _ _).trans ?_) ((Pipeline.Window.rect_emb_val _ _ _ _).trans ?_)
  · show win0_0.index ⟨i.val, pt_lt i⟩ (0 : Fin 2) * 1024 + r.val = 1024 * i.val + r.val
    rw [h0]; omega
  · show win0_0.index ⟨i.val, pt_lt i⟩ (1 : Fin 2) * 2048 + p.val = p.val
    rw [h1]; omega

theorem emb_1 : (win0_1.rect ⟨i.val, pt_lt i⟩).emb (ix2 s p) = (ix2 s p : S256x2048.Idx) := by
  obtain ⟨h0, h1⟩ := (places ⟨i.val, pt_lt i⟩).2.1
  try simp only [] at h0 h1
  refine ix2_eq ((Pipeline.Window.rect_emb_val _ _ _ _).trans ?_) ((Pipeline.Window.rect_emb_val _ _ _ _).trans ?_)
  · show win0_1.index ⟨i.val, pt_lt i⟩ (0 : Fin 2) * 256 + s.val = s.val
    rw [h0]; omega
  · show win0_1.index ⟨i.val, pt_lt i⟩ (1 : Fin 2) * 2048 + p.val = p.val
    rw [h1]; omega

theorem emb_2 : (win0_2.rect ⟨i.val, pt_lt i⟩).emb (ix2 r s) = (ix2 (quarter i r) s : S4096x256.Idx) := by
  obtain ⟨h0, h1⟩ := (places ⟨i.val, pt_lt i⟩).2.2
  try simp only [] at h0 h1
  refine ix2_eq ((Pipeline.Window.rect_emb_val _ _ _ _).trans ?_) ((Pipeline.Window.rect_emb_val _ _ _ _).trans ?_)
  · show win0_2.index ⟨i.val, pt_lt i⟩ (0 : Fin 2) * 1024 + r.val = 1024 * i.val + r.val
    rw [h0]; omega
  · show win0_2.index ⟨i.val, pt_lt i⟩ (1 : Fin 2) * 256 + s.val = s.val
    rw [h1]; omega

/-- The input windows' blocks, over arrays they are read from. -/
theorem blk0 (x : FVec Ideal S4096x2048 .f32) (h0 : V m c main_arg2 = x) : iblk m c 0 ⟨i.val, pt_lt i⟩ (ix2 r p) = x (ix2 (quarter i r) p) :=
  (congrArg (V m c main_arg2) (emb_0 i r p)).trans (by rw [h0])

theorem blk1 (w : FVec Ideal S256x2048 .f32) (h1 : V m c main_v3 = castW w) : iblk m c 1 ⟨i.val, pt_lt i⟩ (ix2 s p) = w (ix2 s p) :=
  (congrArg (V m c main_v3) (emb_1 i p s)).trans (by rw [h1]; rfl)

/-- An element of the result is the one its block's grid point stored. -/
theorem elem_q : (dats m 0 c).arrAt 2 cfg0.N (ix2 (quarter i r) s : S4096x256.Idx) = out0_2 (iblk m c 0 ⟨i.val, pt_lt i⟩) (iblk m c 1 ⟨i.val, pt_lt i⟩) (ix2 r s) :=
  (congrArg ((dats m 0 c).arrAt 2 cfg0.N) (emb_2 i r s)).symm.trans
    (((dats m 0 c).arrAt_emb_eq_flushed 2 Value.disjoint2 ⟨i.val, pt_lt i⟩ (flush0_2 _) (ix2 r s)).trans
      (congrFun (Value.flushed2 m c ⟨i.val, pt_lt i⟩) (ix2 r s)))

/-- The result is the reference's. -/
theorem res (x : FVec Ideal S4096x2048 .f32) (w : FVec Ideal S256x2048 .f32) (h0 : V m c main_arg2 = x) (h1 : V m c main_v3 = castW w) : (dats m 0 c).arrAt 2 cfg0.N = refA x w := by
  funext y
  obtain ⟨R, s, rfl⟩ := ix2_ex y
  obtain ⟨i, r, rfl⟩ := row_split R
  refine (elem_q m c i r s).trans ?_
  rw [outq]
  refine (pay_at _ _ r s).trans ?_
  rw [refA_at]
  exact Finset.sum_congr rfl fun p _ => congrArg₂ (fun u v : EReal => u * v) (blk0 m c i r p x h0) (blk1 m c i p s w h1)

end Cert.QUpDcIdeal.Host0

namespace Cert.Proof

open Cert.QUpDcIdeal.Host0 Cert.QUpDcIdeal.Gen Idealize.ShloMosaic Idealize.ShloMosaic.TcCoe Idealize.SL.Sem

/-- For equal arguments the kernel's result and the reference's are equal. -/
theorem algebraic_qupdc : Cert.algebraic_QUpDcIdeal_QUpDcReferenceIdeal :=
  fun m ρ m' ρ' _ heq =>
  ⟨fun c => (dats m 0 c).arrAt 2 Cert.QUpDcIdeal.cfg0.N,
   Cert.QUpDcIdeal.Value.run_blocks m ρ,
   (θ_run (Cert.QUpDcReferenceIdeal.defs (F := Ideal)) _ _).mono (fun _ h c => ⟨(h c).1.trans (by
      refine Eq.trans ?_ (res m c _ _ (V_x m c) (V_w m c)).symm
      rw [(heq c).2.1, (heq c).2.2]
      rfl), (h c).2⟩)
     (Cert.QUpDcReferenceIdeal.Value.run (F := Ideal) m' ρ')⟩

end Cert.Proof

end
-- ==== Proof.QUpDwPoint.lean ====
/- The gradient of the queries' up-projection's weight: what each grid point leaves in the accumulator and in the output block. -/
module

public import proofs.«01_k».proof.Proof.Gen.QUpDwIdeal.Value

@[expose] public section

set_option maxRecDepth 16384
set_option Elab.async false

noncomputable section

namespace Cert.QUpDwIdeal.Gen

open Cert.QUpDwIdeal Idealize.ShloMosaic Idealize.ShloMosaic.TcCoe Idealize.ShloMosaic.Tactic Idealize.SL.Sem

variable {F : FTy → Type} [FloatOps F]

theorem zero2 : (![0, 0] : Fin 2 → Nat) = fun _ => 0 := funext fun a => by fin_cases a <;> rfl

/-- The first point leaves the first product, added to zero, in the accumulator. -/
theorem first_acc (c : Dev nD) (i : grid0.Coords) (arg2 : Memref sig .tc .vmem S1024x256 .bf16) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (hc0 : cond0_0 i) (hc1 : ¬cond0_1 i) (x0 : Vec F S1024x256 .bf16) (x1 : Vec F S1024x1024 .f32) :
    sout0_A_0 c i arg2 harg2 arg3 harg3 arg4 harg4 arg5 harg5 hc0 hc1 x0 x1 = k0_pay2 (k0_pay1 (F := F)) x0 x1 := by
  unfold sout0_A_0
  rw [View.read_writes_eq_canon _ _ _ (scover0_A_0 c i arg2 harg2 arg3 harg3 arg4 harg4 arg5 harg5 hc0 hc1 x0 x1)]
  unfold kernelRun0_A
  dsimp only
  try sl_unfold_words
  rw [View.canon_cons_unit_zero (S := S256x1024) zero2, View.readCov_unit_zero (S := S256x1024) _ zero2]
  simp only [View.readAt_eq_ld, harg2.read_unread, harg3.read_unread, harg4.read_unread, harg5.read_unread, View.ld_unit_zero (S := S1024x1024) zero2, View.ld_unit_zero (S := S1024x256) zero2, View.ld_unit_zero (S := S256x1024) zero2, shapeCast_self]

/-- A middle point adds its product to the accumulator. -/
theorem mid_acc (c : Dev nD) (i : grid0.Coords) (arg2 : Memref sig .tc .vmem S1024x256 .bf16) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (hc0 : ¬cond0_0 i) (hc1 : ¬cond0_1 i) (x0 : Vec F S1024x256 .bf16) (x1 : Vec F S1024x1024 .f32) (xs0 : Vec F S256x1024 .f32) :
    sout0_B_0 c i arg2 harg2 arg3 harg3 arg4 harg4 arg5 harg5 hc0 hc1 x0 x1 xs0 = k0_pay2 xs0 x0 x1 := by
  unfold sout0_B_0
  rw [View.read_writes_eq_canon _ _ _ (scover0_B_0 c i arg2 harg2 arg3 harg3 arg4 harg4 arg5 harg5 hc0 hc1 x0 x1 xs0)]
  unfold kernelRun0_B
  dsimp only
  try sl_unfold_words
  rw [View.canon_unit_zero zero2]
  simp only [View.readAt_eq_ld, harg2.read_unread, harg3.read_unread, harg4.read_unread, harg5.read_unread, View.ld_unit_zero (S := S1024x1024) zero2, View.ld_unit_zero (S := S1024x256) zero2, View.ld_unit_zero (S := S256x1024) zero2, shapeCast_self]

/-- The last point leaves the accumulator with its product added in the output block. -/
theorem last_out (c : Dev nD) (i : grid0.Coords) (arg2 : Memref sig .tc .vmem S1024x256 .bf16) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (hc0 : ¬cond0_0 i) (hc1 : cond0_1 i) (x0 : Vec F S1024x256 .bf16) (x1 : Vec F S1024x1024 .f32) (xs0 : Vec F S256x1024 .f32) :
    out0_C_2 c i arg2 harg2 arg3 harg3 arg4 harg4 arg5 harg5 hc0 hc1 x0 x1 xs0 = k0_pay2 xs0 x0 x1 := by
  unfold out0_C_2
  rw [View.read_writes_eq_canon _ _ _ (cover0_C_2 c i arg2 harg2 arg3 harg3 arg4 harg4 arg5 harg5 hc0 hc1 x0 x1 xs0)]
  unfold kernelRun0_C
  dsimp only
  try sl_unfold_words
  rw [View.canon_unit_zero zero2]
  simp only [View.readCov_unit_zero (S := S256x1024) _ zero2, View.readAt_eq_ld, harg2.read_unread, harg3.read_unread, harg4.read_unread, harg5.read_unread, View.ld_unit_zero (S := S1024x1024) zero2, View.ld_unit_zero (S := S1024x256) zero2, View.ld_unit_zero (S := S256x1024) zero2, shapeCast_self]

variable (m : (ℓ : Loc nD τ sig) → Buf (Elt F) ℓ) (c : Dev nD) (t : Fin cfg0.N)

/-- The accumulator after the first point. -/
theorem acc_of (h0 : t.val % 4 = 0) (h1 : ¬t.val % 4 = 3) :
    (outsAt0 m c t.val t.isLt).2 = k0_pay2 (k0_pay1 (F := F)) (iblk m c 0 t) (iblk m c 1 t) := by
  rw [outsAt0_A m c t h0 h1]
  dsimp only
  exact first_acc c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- The accumulator after a middle point. -/
theorem mid_of (h0 : ¬t.val % 4 = 0) (h1 : ¬t.val % 4 = 3) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  exact mid_acc c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2

/-- The output block after the last point. -/
theorem out_of (h0 : ¬t.val % 4 = 0) (h1 : t.val % 4 = 3) :
    (outsAt0 m c t.val t.isLt).1 = k0_pay2 (outsAt0 m c (t.val - 1) (Nat.lt_of_le_of_lt (Nat.sub_le _ _) t.isLt)).2 (iblk m c 0 t) (iblk m c 1 t) := by
  rw [outsAt0_C m c t h0 h1]
  dsimp only
  exact last_out c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2

end Cert.QUpDwIdeal.Gen

end
-- ==== Proof.QUpDwValue.lean ====
/- The gradient of the queries' up-projection's weight: kernel and reference agree. -/
module

public import proofs.«01_k».proof.Proof.QUpDwPoint
public import proofs.«01_k».proof.Proof.Gen.QUpDwReferenceIdeal.Run
public import proofs.«01_k».proof.Proof.FfnSum
public import proofs.«01_k».proof.Defs
public import Idealize.ShloMosaic.Lib.Pointwise
public import Idealize.ShloMosaic.Lib.StableHlo.RunRead

@[expose] public section

set_option maxRecDepth 16384
set_option Elab.async false

noncomputable section

namespace Cert.QUpDwIdeal.Host0

open Cert.QUpDwIdeal Cert.QUpDwIdeal.Gen Idealize.ShloMosaic Idealize.ShloMosaic.TcCoe Idealize.ShloMosaic.Tactic Idealize.SL.Sem
open Cert.Ffn

/-- The input in the kernel's type. -/
def castA (x : FVec Ideal S4096x256 .f32) : FVec Ideal S4096x256 .bf16 := truncf .bf16 x bitsLt_bf16_f32

/-- One grid point's term: the accumulated array and the product. -/
theorem pay_at (acc : FVec Ideal S256x1024 .f32) (a : FVec Ideal S1024x256 .bf16) (d : FVec Ideal S1024x1024 .f32) (p : Fin 256) (s : Fin 1024) :
    k0_pay2 acc a d (ix2 p s) = acc (ix2 p s) + ∑ r : Fin 1024, a (ix2 r p) * d (ix2 r s) := by
  pointwise [k0_pay2]

theorem zero_at (p : Fin 256) (s : Fin 1024) : k0_pay1 (F := Ideal) (ix2 p s) = 0 := by
  pointwise [k0_pay1]

/-- The reference's array. -/
def refA (a : FVec Ideal S4096x256 .f32) (d : FVec Ideal S4096x2048 .f32) : FVec Ideal S256x2048 .f32 :=
  transpose Cert.QUpDwReferenceIdeal.S256x2048 [1, 0] (Host.dotGeneral Cert.QUpDwReferenceIdeal.dot_S4096x2048_S4096x256_S2048x256_0_0_1_1_n_n none d a) Cert.QUpDwReferenceIdeal.Gen.transposes_S2048x256_S256x2048_1_0

theorem refA_at (a : FVec Ideal S4096x256 .f32) (d : FVec Ideal S4096x2048 .f32) (p : Fin 256) (s : Fin 2048) :
    refA a d (ix2 p s) = ∑ n : Fin 4096, d (ix2 n s) * a (ix2 n p) := by
  pointwise [refA, shapeCast_self]

/-- A sum over the rows is the sum over the quarters of the sums over their rows. -/
theorem sum_quarters (f : Fin 4096 → EReal) : ∑ n, f n = ∑ i : Fin 4, ∑ r : Fin 1024, f (quarter i r) := by
  rw [← Fintype.sum_prod_type']
  refine (Fintype.sum_equiv (finProdFinEquiv (m := 4) (n := 1024)) _ _ fun x => congrArg f (Fin.ext ?_)).symm
  show 1024 * x.1.val + x.2.val = x.2.val + 1024 * x.1.val
  omega

/-- Column `s` of the `j`-th block of columns. -/
abbrev col (j : Fin 2) (s : Fin 1024) : Fin 2048 := ⟨1024 * j.val + s.val, by omega⟩

theorem col_split (n : Fin 2048) : ∃ j s, n = col j s :=
  ⟨⟨n.val / 1024, by omega⟩, ⟨n.val % 1024, by omega⟩, Fin.ext (by show n.val = 1024 * (n.val / 1024) + n.val % 1024; omega)⟩

/-- Where each window's block lies at grid point `t`. -/
theorem places : ∀ t : Fin cfg0.N,
    (win0_0.index t (0 : Fin 2) = t.val % 4 ∧ win0_0.index t (1 : Fin 2) = 0)
    ∧ (win0_1.index t (0 : Fin 2) = t.val % 4 ∧ win0_1.index t (1 : Fin 2) = t.val / 4) :=
  (by decide +kernel : ∀ t : Fin grid0.N, _)

variable (m : (ℓ : Loc nD τ sig) → Buf (Elt Ideal) ℓ) (c : Dev nD) (j : Fin 2) (i : Fin 4) (r : Fin 1024) (p : Fin 256) (s : Fin 1024)

theorem V_a : V m c main_v0 = castA (m ((c : Thread nD τ).loc main_arg0)) := by
  unfold V; after_reads_simp; rfl

theorem V_d : V m c main_arg2 = (m ((c : Thread nD τ).loc main_arg2)) := by
  unfold V; after_reads_simp

/-- Grid point of row block `i` and column block `j`. -/
theorem pt_lt : 4 * j.val + i.val < cfg0.N := lt_of_lt_of_eq (by omega) N_0.symm

theorem emb_0 : (win0_0.rect ⟨4 * j.val + i.val, pt_lt j i⟩).emb (ix2 r p) = (ix2 (quarter i r) p : S4096x256.Idx) := by
  obtain ⟨h0, h1⟩ := (places ⟨4 * j.val + i.val, pt_lt j i⟩).1
  try simp only [] at h0 h1
  refine ix2_eq ((Pipeline.Window.rect_emb_val _ _ _ _).trans ?_) ((Pipeline.Window.rect_emb_val _ _ _ _).trans ?_)
  · show win0_0.index ⟨4 * j.val + i.val, pt_lt j i⟩ (0 : Fin 2) * 1024 + r.val = 1024 * i.val + r.val
    rw [h0]; omega
  · show win0_0.index ⟨4 * j.val + i.val, pt_lt j i⟩ (1 : Fin 2) * 256 + p.val = p.val
    rw [h1]; omega

theorem emb_1 : (win0_1.rect ⟨4 * j.val + i.val, pt_lt j i⟩).emb (ix2 r s) = (ix2 (quarter i r) (col j s) : S4096x2048.Idx) := by
  obtain ⟨h0, h1⟩ := (places ⟨4 * j.val + i.val, pt_lt j i⟩).2
  try simp only [] at h0 h1
  refine ix2_eq ((Pipeline.Window.rect_emb_val _ _ _ _).trans ?_) ((Pipeline.Window.rect_emb_val _ _ _ _).trans ?_)
  · show win0_1.index ⟨4 * j.val + i.val, pt_lt j i⟩ (0 : Fin 2) * 1024 + r.val = 1024 * i.val + r.val
    rw [h0]; omega
  · show win0_1.index ⟨4 * j.val + i.val, pt_lt j i⟩ (1 : Fin 2) * 1024 + s.val = 1024 * j.val + s.val
    rw [h1]; omega

/-- One grid point's step, over arrays the windows' blocks are read from. -/
theorem step_at (a : FVec Ideal S4096x256 .f32) (d : FVec Ideal S4096x2048 .f32) (h0 : V m c main_v0 = castA a) (h1 : V m c main_arg2 = d) (acc : FVec Ideal S256x1024 .f32) :
    k0_pay2 acc (iblk m c 0 ⟨4 * j.val + i.val, pt_lt j i⟩) (iblk m c 1 ⟨4 * j.val + i.val, pt_lt j i⟩) (ix2 p s) = acc (ix2 p s) + ∑ r : Fin 1024, a (ix2 (quarter i r) p) * d (ix2 (quarter i r) (col j s)) := by
  refine (pay_at _ _ _ p s).trans ?_
  have e0 : ∀ r : Fin 1024, iblk m c 0 ⟨4 * j.val + i.val, pt_lt j i⟩ (ix2 r p) = a (ix2 (quarter i r) p) := fun r =>
    (congrArg (V m c main_v0) (emb_0 j i r p)).trans (by rw [h0]; rfl)
  have e1 : ∀ r : Fin 1024, iblk m c 1 ⟨4 * j.val + i.val, pt_lt j i⟩ (ix2 r s) = d (ix2 (quarter i r) (col j s)) := fun r =>
    (congrArg (V m c main_arg2) (emb_1 j i r s)).trans (by rw [h1])
  simp only [e0, e1]

/-- The accumulator after each of the first three points, and the output block after the last. -/
theorem acc_0 : (outsAt0 m c (4 * j.val) (pt_lt j 0)).2 = k0_pay2 (k0_pay1 (F := Ideal)) (iblk m c 0 ⟨4 * j.val, pt_lt j 0⟩) (iblk m c 1 ⟨4 * j.val, pt_lt j 0⟩) :=
  acc_of m c ⟨4 * j.val, pt_lt j 0⟩ (show (4 * j.val) % 4 = 0 by omega) (show ¬(4 * j.val) % 4 = 3 by omega)

theorem acc_1 : (outsAt0 m c (4 * j.val + 1) (pt_lt j 1)).2 = k0_pay2 (outsAt0 m c (4 * j.val) (pt_lt j 0)).2 (iblk m c 0 ⟨4 * j.val + 1, pt_lt j 1⟩) (iblk m c 1 ⟨4 * j.val + 1, pt_lt j 1⟩) :=
  mid_of m c ⟨4 * j.val + 1, pt_lt j 1⟩ (show ¬(4 * j.val + 1) % 4 = 0 by omega) (show ¬(4 * j.val + 1) % 4 = 3 by omega)

theorem acc_2 : (outsAt0 m c (4 * j.val + 2) (pt_lt j 2)).2 = k0_pay2 (outsAt0 m c (4 * j.val + 1) (pt_lt j 1)).2 (iblk m c 0 ⟨4 * j.val + 2, pt_lt j 2⟩) (iblk m c 1 ⟨4 * j.val + 2, pt_lt j 2⟩) :=
  mid_of m c ⟨4 * j.val + 2, pt_lt j 2⟩ (show ¬(4 * j.val + 2) % 4 = 0 by omega) (show ¬(4 * j.val + 2) % 4 = 3 by omega)

theorem out_3 : (outsAt0 m c (4 * j.val + 3) (pt_lt j 3)).1 = k0_pay2 (outsAt0 m c (4 * j.val + 2) (pt_lt j 2)).2 (iblk m c 0 ⟨4 * j.val + 3, pt_lt j 3⟩) (iblk m c 1 ⟨4 * j.val + 3, pt_lt j 3⟩) :=
  out_of m c ⟨4 * j.val + 3, pt_lt j 3⟩ (show ¬(4 * j.val + 3) % 4 = 0 by omega) (show (4 * j.val + 3) % 4 = 3 by omega)

/-- The kernel's result is the reference's. -/
theorem G_eq (a : FVec Ideal S4096x256 .f32) (d : FVec Ideal S4096x2048 .f32) (h0 : V m c main_v0 = castA a) (h1 : V m c main_arg2 = d) : Value.G2 m c = refA a d := by
  funext y
  obtain ⟨p, C, rfl⟩ := ix2_ex y
  obtain ⟨j, s, rfl⟩ := col_split C
  have hpt : Value.pt2Of (ix2 p (col j s) : S256x2048.Idx) = 4 * j.val + 3 := by
    show 4 * (2 * (p.val / 256 - 0) + 1 * ((1024 * j.val + s.val) / 1024 - 0)) + 3 = 4 * j.val + 3
    omega
  have hloc : Value.loc2Of (ix2 p (col j s) : S256x2048.Idx) = ix2 p s :=
    ix2_eq (by show p.val % 256 = p.val; omega) (by show (1024 * j.val + s.val) % 1024 = s.val; omega)
  have hG : Value.G2 m c (ix2 p (col j s) : S256x2048.Idx) = (outsAt0 m c (4 * j.val + 3) (pt_lt j 3)).1 (ix2 p s) := by
    unfold Value.G2
    rw [dif_pos (by rw [hpt]; exact pt_lt j 3), hloc, Value.fold0_congr m c _ _ (4 * j.val + 3) (by have h : 4 * j.val + 3 < cfg0.N := pt_lt j 3; omega) hpt, ← Value.outsAt0_sweep]
  refine hG.trans ?_
  refine (congrFun (out_3 m c j) (ix2 p s)).trans ?_
  refine (step_at m c j 3 p s a d h0 h1 _).trans ?_
  rw [acc_2, show k0_pay2 (outsAt0 m c (4 * j.val + 1) (pt_lt j 1)).2 (iblk m c 0 ⟨4 * j.val + 2, pt_lt j 2⟩) (iblk m c 1 ⟨4 * j.val + 2, pt_lt j 2⟩) (ix2 p s) = _ from step_at m c j 2 p s a d h0 h1 _,
    acc_1, show k0_pay2 (outsAt0 m c (4 * j.val) (pt_lt j 0)).2 (iblk m c 0 ⟨4 * j.val + 1, pt_lt j 1⟩) (iblk m c 1 ⟨4 * j.val + 1, pt_lt j 1⟩) (ix2 p s) = _ from step_at m c j 1 p s a d h0 h1 _,
    acc_0, show k0_pay2 (k0_pay1 (F := Ideal)) (iblk m c 0 ⟨4 * j.val, pt_lt j 0⟩) (iblk m c 1 ⟨4 * j.val, pt_lt j 0⟩) (ix2 p s) = _ from step_at m c j 0 p s a d h0 h1 _,
    zero_at, zero_add, refA_at, sum_quarters]
  simp only [Fin.sum_univ_four, mul_comm]

end Cert.QUpDwIdeal.Host0

namespace Cert.Proof

open Cert.QUpDwIdeal.Host0 Idealize.ShloMosaic Idealize.ShloMosaic.TcCoe Idealize.SL.Sem

/-- For equal arguments the kernel's result and the reference's are equal. -/
theorem algebraic_qupdw : Cert.algebraic_QUpDwIdeal_QUpDwReferenceIdeal :=
  fun m ρ m' ρ' _ heq =>
  ⟨fun c => Cert.QUpDwIdeal.Value.G2 m c,
   Cert.QUpDwIdeal.Value.run m ρ,
   (θ_run (Cert.QUpDwReferenceIdeal.defs (F := Ideal)) _ _).mono (fun _ h c => ⟨(h c).1.trans (by
      refine Eq.trans ?_ (G_eq m c _ _ (V_a m c) (V_d m c)).symm
      rw [(heq c).1, (heq c).2.2]
      rfl), (h c).2⟩)
     (Cert.QUpDwReferenceIdeal.Value.run (F := Ideal) m' ρ')⟩

end Cert.Proof

end
-- ==== Proof.KvDownValue.lean ====
/- The down-projection of the keys and values: kernel and reference agree. -/
module

public import proofs.«01_k».proof.Proof.Gen.KvDownIdeal.Value
public import proofs.«01_k».proof.Proof.Gen.KvDownReferenceIdeal.Run
public import proofs.«01_k».proof.Proof.FfnSum
public import proofs.«01_k».proof.Defs
public import Idealize.ShloMosaic.Lib.Pointwise
public import Idealize.ShloMosaic.Lib.StableHlo.RunRead

@[expose] public section

set_option maxRecDepth 16384
set_option Elab.async false

noncomputable section

namespace Cert.KvDownIdeal.Host0

open Cert.KvDownIdeal Cert.KvDownIdeal.Gen Idealize.ShloMosaic Idealize.ShloMosaic.TcCoe Idealize.ShloMosaic.Tactic Idealize.SL.Sem
open Cert.Ffn

theorem zero2 : (![0, 0] : Fin 2 → Nat) = fun _ => 0 := funext fun a => by fin_cases a <;> rfl

/-- A weight in the kernel's type. -/
def castW (x : FVec Ideal S1024x640 .f32) : FVec Ideal S1024x640 .bf16 := truncf .bf16 x bitsLt_bf16_f32

/-- The input in the kernel's type. -/
def castA (x : FVec Ideal S4096x1024 .f32) : FVec Ideal S4096x1024 .bf16 := truncf .bf16 x bitsLt_bf16_f32

/-- What a grid point stores in the output block. -/
theorem outq (x0 : Vec Ideal S1024x1024 .bf16) (x1 : Vec Ideal S1024x640 .bf16) : out0_2 x0 x1 = k0_pay1 x0 x1 := by
  unfold out0_2
  rw [View.canon_unit_zero zero2]
  simp only [View.ld_unit_zero (S := S1024x1024) zero2, View.ld_unit_zero (S := S1024x640) zero2]

theorem pay_at (x0 : Vec Ideal S1024x1024 .bf16) (x1 : Vec Ideal S1024x640 .bf16) (r : Fin 1024) (s : Fin 640) :
    k0_pay1 x0 x1 (ix2 r s) = ∑ p : Fin 1024, x0 (ix2 r p) * x1 (ix2 p s) := by
  pointwise [k0_pay1]

/-- The reference's array. -/
def refA (a : FVec Ideal S4096x1024 .f32) (w : FVec Ideal S1024x640 .f32) : FVec Ideal S4096x640 .f32 :=
  Host.dotGeneral Cert.KvDownReferenceIdeal.dot_S4096x1024_S1024x640_S4096x640_1_0_0_1_n_n none a w

theorem refA_at (a : FVec Ideal S4096x1024 .f32) (w : FVec Ideal S1024x640 .f32) (n : Fin 4096) (s : Fin 640) :
    refA a w (ix2 n s) = ∑ p : Fin 1024, a (ix2 n p) * w (ix2 p s) := by
  pointwise [refA, shapeCast_self]

/-- Where each window's block lies at grid point `t`. -/
theorem places : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

variable (m : (ℓ : Loc nD τ sig) → Buf (Elt Ideal) ℓ) (c : Dev nD) (i : Fin 4) (r : Fin 1024) (p : Fin 1024) (s : Fin 640)

theorem V_x : V m c main_v0 = castA (m ((c : Thread nD τ).loc main_arg0)) := by
  unfold V; after_reads_simp; rfl

theorem V_w : V m c main_v2 = castW (pad S1024x640 ![0, 0] ![0, 64] ![0, 0] (m ((c : Thread nD τ).loc main_arg1)) (sitofp .f32 (constantI S_ 32 0#32)) pads_S1024x576_S1024x640_000_0640 h_S_) := by
  unfold V; after_reads_simp; rfl

/-- Grid point of row block `i`. -/
theorem pt_lt : i.val < cfg0.N := lt_of_lt_of_eq (by omega) N_0.symm

theorem emb_0 : (win0_0.rect ⟨i.val, pt_lt i⟩).emb (ix2 r p) = (ix2 (quarter i r) p : S4096x1024.Idx) := by
  obtain ⟨h0, h1⟩ := (places ⟨i.val, pt_lt i⟩).1
  try simp only [] at h0 h1
  refine ix2_eq ((Pipeline.Window.rect_emb_val _ _ _ _).trans ?_) ((Pipeline.Window.rect_emb_val _ _ _ _).trans ?_)
  · show win0_0.index ⟨i.val, pt_lt i⟩ (0 : Fin 2) * 1024 + r.val = 1024 * i.val + r.val
    rw [h0]; omega
  · show win0_0.index ⟨i.val, pt_lt i⟩ (1 : Fin 2) * 1024 + p.val = p.val
    rw [h1]; omega

theorem emb_1 : (win0_1.rect ⟨i.val, pt_lt i⟩).emb (ix2 p s) = (ix2 p s : S1024x640.Idx) := by
  obtain ⟨h0, h1⟩ := (places ⟨i.val, pt_lt i⟩).2.1
  try simp only [] at h0 h1
  refine ix2_eq ((Pipeline.Window.rect_emb_val _ _ _ _).trans ?_) ((Pipeline.Window.rect_emb_val _ _ _ _).trans ?_)
  · show win0_1.index ⟨i.val, pt_lt i⟩ (0 : Fin 2) * 1024 + p.val = p.val
    rw [h0]; omega
  · show win0_1.index ⟨i.val, pt_lt i⟩ (1 : Fin 2) * 640 + s.val = s.val
    rw [h1]; omega

theorem emb_2 : (win0_2.rect ⟨i.val, pt_lt i⟩).emb (ix2 r s) = (ix2 (quarter i r) s : S4096x640.Idx) := by
  obtain ⟨h0, h1⟩ := (places ⟨i.val, pt_lt i⟩).2.2
  try simp only [] at h0 h1
  refine ix2_eq ((Pipeline.Window.rect_emb_val _ _ _ _).trans ?_) ((Pipeline.Window.rect_emb_val _ _ _ _).trans ?_)
  · show win0_2.index ⟨i.val, pt_lt i⟩ (0 : Fin 2) * 1024 + r.val = 1024 * i.val + r.val
    rw [h0]; omega
  · show win0_2.index ⟨i.val, pt_lt i⟩ (1 : Fin 2) * 640 + s.val = s.val
    rw [h1]; omega

/-- The input windows' blocks, over arrays they are read from. -/
theorem blk0 (x : FVec Ideal S4096x1024 .f32) (h0 : V m c main_v0 = castA x) : iblk m c 0 ⟨i.val, pt_lt i⟩ (ix2 r p) = x (ix2 (quarter i r) p) :=
  (congrArg (V m c main_v0) (emb_0 i r p)).trans (by rw [h0]; rfl)

theorem blk1 (w : FVec Ideal S1024x640 .f32) (h1 : V m c main_v2 = castW w) : iblk m c 1 ⟨i.val, pt_lt i⟩ (ix2 p s) = w (ix2 p s) :=
  (congrArg (V m c main_v2) (emb_1 i p s)).trans (by rw [h1]; rfl)

/-- An element of the result is the one its block's grid point stored. -/
theorem elem_q : (dats m 0 c).arrAt 2 cfg0.N (ix2 (quarter i r) s : S4096x640.Idx) = out0_2 (iblk m c 0 ⟨i.val, pt_lt i⟩) (iblk m c 1 ⟨i.val, pt_lt i⟩) (ix2 r s) :=
  (congrArg ((dats m 0 c).arrAt 2 cfg0.N) (emb_2 i r s)).symm.trans
    (((dats m 0 c).arrAt_emb_eq_flushed 2 Value.disjoint2 ⟨i.val, pt_lt i⟩ (flush0_2 _) (ix2 r s)).trans
      (congrFun (Value.flushed2 m c ⟨i.val, pt_lt i⟩) (ix2 r s)))

/-- The result is the reference's. -/
theorem res (x : FVec Ideal S4096x1024 .f32) (w : FVec Ideal S1024x640 .f32) (h0 : V m c main_v0 = castA x) (h1 : V m c main_v2 = castW w) : (dats m 0 c).arrAt 2 cfg0.N = refA x w := by
  funext y
  obtain ⟨R, s, rfl⟩ := ix2_ex y
  obtain ⟨i, r, rfl⟩ := row_split R
  refine (elem_q m c i r s).trans ?_
  rw [outq]
  refine (pay_at _ _ r s).trans ?_
  rw [refA_at]
  exact Finset.sum_congr rfl fun p _ => congrArg₂ (fun u v : EReal => u * v) (blk0 m c i r p x h0) (blk1 m c i p s w h1)

end Cert.KvDownIdeal.Host0

namespace Cert.Proof

open Cert.KvDownIdeal.Host0 Cert.KvDownIdeal.Gen Idealize.ShloMosaic Idealize.ShloMosaic.TcCoe Idealize.SL.Sem

/-- For equal arguments the kernel's result and the reference's are equal. -/
theorem algebraic_kvdown : Cert.algebraic_KvDownIdeal_KvDownReferenceIdeal :=
  fun m ρ m' ρ' _ heq =>
  ⟨fun c => (dats m 0 c).arrAt 2 Cert.KvDownIdeal.cfg0.N,
   Cert.KvDownIdeal.Value.run_blocks m ρ,
   (θ_run (Cert.KvDownReferenceIdeal.defs (F := Ideal)) _ _).mono (fun _ h c => ⟨(h c).1.trans (by
      refine Eq.trans ?_ (res m c _ _ (V_x m c) (V_w m c)).symm
      rw [(heq c).1, (heq c).2]
      rfl), (h c).2⟩)
     (Cert.KvDownReferenceIdeal.Value.run (F := Ideal) m' ρ')⟩

end Cert.Proof

end
-- ==== Proof.KvDownDhValue.lean ====
/- The gradient of the input of the down-projection of the keys and values: kernel and reference agree. -/
module

public import proofs.«01_k».proof.Proof.Gen.KvDownDhIdeal.Value
public import proofs.«01_k».proof.Proof.Gen.KvDownDhReferenceIdeal.Run
public import proofs.«01_k».proof.Proof.FfnSum
public import proofs.«01_k».proof.Defs
public import Idealize.ShloMosaic.Lib.Pointwise
public import Idealize.ShloMosaic.Lib.StableHlo.RunRead

@[expose] public section

set_option maxRecDepth 16384
set_option Elab.async false

noncomputable section

namespace Cert.KvDownDhIdeal.Host0

open Cert.KvDownDhIdeal Cert.KvDownDhIdeal.Gen Idealize.ShloMosaic Idealize.ShloMosaic.TcCoe Idealize.ShloMosaic.Tactic Idealize.SL.Sem
open Cert.Ffn

theorem zero2 : (![0, 0] : Fin 2 → Nat) = fun _ => 0 := funext fun a => by fin_cases a <;> rfl

/-- A weight in the kernel's type. -/
def castW (x : FVec Ideal S1024x640 .f32) : FVec Ideal S1024x640 .bf16 := truncf .bf16 x bitsLt_bf16_f32

/-- What a grid point stores in the output block. -/
theorem outq (x0 : Vec Ideal S1024x640 .f32) (x1 : Vec Ideal S1024x640 .bf16) : out0_2 x0 x1 = k0_pay1 x0 x1 := by
  unfold out0_2
  rw [View.canon_unit_zero zero2]
  simp only [View.ld_unit_zero (S := S1024x640) zero2]

theorem pay_at (x0 : Vec Ideal S1024x640 .f32) (x1 : Vec Ideal S1024x640 .bf16) (r : Fin 1024) (s : Fin 1024) :
    k0_pay1 x0 x1 (ix2 r s) = ∑ p : Fin 640, x0 (ix2 r p) * x1 (ix2 s p) := by
  pointwise [k0_pay1]

/-- The reference's array. -/
def refA (d : FVec Ideal S4096x640 .f32) (w : FVec Ideal S1024x640 .f32) : FVec Ideal S4096x1024 .f32 :=
  Host.dotGeneral Cert.KvDownDhReferenceIdeal.dot_S4096x640_S1024x640_S4096x1024_1_1_0_0_n_n none d w

theorem refA_at (d : FVec Ideal S4096x640 .f32) (w : FVec Ideal S1024x640 .f32) (n : Fin 4096) (s : Fin 1024) :
    refA d w (ix2 n s) = ∑ p : Fin 640, d (ix2 n p) * w (ix2 s p) := by
  pointwise [refA, shapeCast_self]

/-- Where each window's block lies at grid point `t`. -/
theorem places : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

variable (m : (ℓ : Loc nD τ sig) → Buf (Elt Ideal) ℓ) (c : Dev nD) (i : Fin 4) (r : Fin 1024) (p : Fin 640) (s : Fin 1024)

theorem V_x : V m c main_arg2 = (m ((c : Thread nD τ).loc main_arg2)) := by
  unfold V; after_reads_simp

theorem V_w : V m c main_v1 = castW (pad S1024x640 ![0, 0] ![0, 64] ![0, 0] (m ((c : Thread nD τ).loc main_arg1)) (sitofp .f32 (constantI S_ 32 0#32)) pads_S1024x576_S1024x640_000_0640 h_S_) := by
  unfold V; after_reads_simp; rfl

/-- Grid point of row block `i`. -/
theorem pt_lt : i.val < cfg0.N := lt_of_lt_of_eq (by omega) N_0.symm

theorem emb_0 : (win0_0.rect ⟨i.val, pt_lt i⟩).emb (ix2 r p) = (ix2 (quarter i r) p : S4096x640.Idx) := by
  obtain ⟨h0, h1⟩ := (places ⟨i.val, pt_lt i⟩).1
  try simp only [] at h0 h1
  refine ix2_eq ((Pipeline.Window.rect_emb_val _ _ _ _).trans ?_) ((Pipeline.Window.rect_emb_val _ _ _ _).trans ?_)
  · show win0_0.index ⟨i.val, pt_lt i⟩ (0 : Fin 2) * 1024 + r.val = 1024 * i.val + r.val
    rw [h0]; omega
  · show win0_0.index ⟨i.val, pt_lt i⟩ (1 : Fin 2) * 640 + p.val = p.val
    rw [h1]; omega

theorem emb_1 : (win0_1.rect ⟨i.val, pt_lt i⟩).emb (ix2 s p) = (ix2 s p : S1024x640.Idx) := by
  obtain ⟨h0, h1⟩ := (places ⟨i.val, pt_lt i⟩).2.1
  try simp only [] at h0 h1
  refine ix2_eq ((Pipeline.Window.rect_emb_val _ _ _ _).trans ?_) ((Pipeline.Window.rect_emb_val _ _ _ _).trans ?_)
  · show win0_1.index ⟨i.val, pt_lt i⟩ (0 : Fin 2) * 1024 + s.val = s.val
    rw [h0]; omega
  · show win0_1.index ⟨i.val, pt_lt i⟩ (1 : Fin 2) * 640 + p.val = p.val
    rw [h1]; omega

theorem emb_2 : (win0_2.rect ⟨i.val, pt_lt i⟩).emb (ix2 r s) = (ix2 (quarter i r) s : S4096x1024.Idx) := by
  obtain ⟨h0, h1⟩ := (places ⟨i.val, pt_lt i⟩).2.2
  try simp only [] at h0 h1
  refine ix2_eq ((Pipeline.Window.rect_emb_val _ _ _ _).trans ?_) ((Pipeline.Window.rect_emb_val _ _ _ _).trans ?_)
  · show win0_2.index ⟨i.val, pt_lt i⟩ (0 : Fin 2) * 1024 + r.val = 1024 * i.val + r.val
    rw [h0]; omega
  · show win0_2.index ⟨i.val, pt_lt i⟩ (1 : Fin 2) * 1024 + s.val = s.val
    rw [h1]; omega

/-- The input windows' blocks, over arrays they are read from. -/
theorem blk0 (x : FVec Ideal S4096x640 .f32) (h0 : V m c main_arg2 = x) : iblk m c 0 ⟨i.val, pt_lt i⟩ (ix2 r p) = x (ix2 (quarter i r) p) :=
  (congrArg (V m c main_arg2) (emb_0 i r p)).trans (by rw [h0])

theorem blk1 (w : FVec Ideal S1024x640 .f32) (h1 : V m c main_v1 = castW w) : iblk m c 1 ⟨i.val, pt_lt i⟩ (ix2 s p) = w (ix2 s p) :=
  (congrArg (V m c main_v1) (emb_1 i p s)).trans (by rw [h1]; rfl)

/-- An element of the result is the one its block's grid point stored. -/
theorem elem_q : (dats m 0 c).arrAt 2 cfg0.N (ix2 (quarter i r) s : S4096x1024.Idx) = out0_2 (iblk m c 0 ⟨i.val, pt_lt i⟩) (iblk m c 1 ⟨i.val, pt_lt i⟩) (ix2 r s) :=
  (congrArg ((dats m 0 c).arrAt 2 cfg0.N) (emb_2 i r s)).symm.trans
    (((dats m 0 c).arrAt_emb_eq_flushed 2 Value.disjoint2 ⟨i.val, pt_lt i⟩ (flush0_2 _) (ix2 r s)).trans
      (congrFun (Value.flushed2 m c ⟨i.val, pt_lt i⟩) (ix2 r s)))

/-- The result is the reference's. -/
theorem res (x : FVec Ideal S4096x640 .f32) (w : FVec Ideal S1024x640 .f32) (h0 : V m c main_arg2 = x) (h1 : V m c main_v1 = castW w) : (dats m 0 c).arrAt 2 cfg0.N = refA x w := by
  funext y
  obtain ⟨R, s, rfl⟩ := ix2_ex y
  obtain ⟨i, r, rfl⟩ := row_split R
  refine (elem_q m c i r s).trans ?_
  rw [outq]
  refine (pay_at _ _ r s).trans ?_
  rw [refA_at]
  exact Finset.sum_congr rfl fun p _ => congrArg₂ (fun u v : EReal => u * v) (blk0 m c i r p x h0) (blk1 m c i p s w h1)

end Cert.KvDownDhIdeal.Host0

namespace Cert.Proof

open Cert.KvDownDhIdeal.Host0 Cert.KvDownDhIdeal.Gen Idealize.ShloMosaic Idealize.ShloMosaic.TcCoe Idealize.SL.Sem

/-- For equal arguments the kernel's result and the reference's are equal. -/
theorem algebraic_kvdowndh : Cert.algebraic_KvDownDhIdeal_KvDownDhReferenceIdeal :=
  fun m ρ m' ρ' _ heq =>
  ⟨fun c => (dats m 0 c).arrAt 2 Cert.KvDownDhIdeal.cfg0.N,
   Cert.KvDownDhIdeal.Value.run_blocks m ρ,
   (θ_run (Cert.KvDownDhReferenceIdeal.defs (F := Ideal)) _ _).mono (fun _ h c => ⟨(h c).1.trans (by
      refine Eq.trans ?_ (res m c _ _ (V_x m c) (V_w m c)).symm
      rw [(heq c).2.1, (heq c).2.2]
      rfl), (h c).2⟩)
     (Cert.KvDownDhReferenceIdeal.Value.run (F := Ideal) m' ρ')⟩

end Cert.Proof

end
-- ==== Proof.KvDownDwPoint.lean ====
/- The gradient of the weight of the down-projection of the keys and values: what each grid point leaves in the accumulator and in the output block. -/
module

public import proofs.«01_k».proof.Proof.Gen.KvDownDwIdeal.Value

@[expose] public section

set_option maxRecDepth 16384
set_option Elab.async false

noncomputable section

namespace Cert.KvDownDwIdeal.Gen

open Cert.KvDownDwIdeal Idealize.ShloMosaic Idealize.ShloMosaic.TcCoe Idealize.ShloMosaic.Tactic Idealize.SL.Sem

variable {F : FTy → Type} [FloatOps F]

theorem zero2 : (![0, 0] : Fin 2 → Nat) = fun _ => 0 := funext fun a => by fin_cases a <;> rfl

/-- The first point leaves the first product, added to zero, in the accumulator. -/
theorem first_acc (c : Dev nD) (i : grid0.Coords) (arg2 : Memref sig .tc .vmem S1024x1024 .bf16) (harg2 : arg2.IsWhole) (arg3 : Memref sig .tc .vmem S1024x640 .f32) (harg3 : arg3.IsWhole) (arg4 : Memref sig .tc .vmem S1024x640 .f32) (harg4 : arg4.IsWhole) (arg5 : Memref sig .tc .vmem S1024x640 .f32) (harg5 : arg5.IsWhole) (hc0 : cond0_0 i) (hc1 : ¬cond0_1 i) (x0 : Vec F S1024x1024 .bf16) (x1 : Vec F S1024x640 .f32) :
    sout0_A_0 c i arg2 harg2 arg3 harg3 arg4 harg4 arg5 harg5 hc0 hc1 x0 x1 = k0_pay2 (k0_pay1 (F := F)) x0 x1 := by
  unfold sout0_A_0
  rw [View.read_writes_eq_canon _ _ _ (scover0_A_0 c i arg2 harg2 arg3 harg3 arg4 harg4 arg5 harg5 hc0 hc1 x0 x1)]
  unfold kernelRun0_A
  dsimp only
  try sl_unfold_words
  rw [View.canon_cons_unit_zero (S := S1024x640) zero2, View.readCov_unit_zero (S := S1024x640) _ zero2]
  simp only [View.readAt_eq_ld, harg2.read_unread, harg3.read_unread, harg4.read_unread, harg5.read_unread, View.ld_unit_zero (S := S1024x1024) zero2, View.ld_unit_zero (S := S1024x640) zero2, shapeCast_self]

/-- A middle point adds its product to the accumulator. -/
theorem mid_acc (c : Dev nD) (i : grid0.Coords) (arg2 : Memref sig .tc .vmem S1024x1024 .bf16) (harg2 : arg2.IsWhole) (arg3 : Memref sig .tc .vmem S1024x640 .f32) (harg3 : arg3.IsWhole) (arg4 : Memref sig .tc .vmem S1024x640 .f32) (harg4 : arg4.IsWhole) (arg5 : Memref sig .tc .vmem S1024x640 .f32) (harg5 : arg5.IsWhole) (hc0 : ¬cond0_0 i) (hc1 : ¬cond0_1 i) (x0 : Vec F S1024x1024 .bf16) (x1 : Vec F S1024x640 .f32) (xs0 : Vec F S1024x640 .f32) :
    sout0_B_0 c i arg2 harg2 arg3 harg3 arg4 harg4 arg5 harg5 hc0 hc1 x0 x1 xs0 = k0_pay2 xs0 x0 x1 := by
  unfold sout0_B_0
  rw [View.read_writes_eq_canon _ _ _ (scover0_B_0 c i arg2 harg2 arg3 harg3 arg4 harg4 arg5 harg5 hc0 hc1 x0 x1 xs0)]
  unfold kernelRun0_B
  dsimp only
  try sl_unfold_words
  rw [View.canon_unit_zero zero2]
  simp only [View.readAt_eq_ld, harg2.read_unread, harg3.read_unread, harg4.read_unread, harg5.read_unread, View.ld_unit_zero (S := S1024x1024) zero2, View.ld_unit_zero (S := S1024x640) zero2, shapeCast_self]

/-- The last point leaves the accumulator with its product added in the output block. -/
theorem last_out (c : Dev nD) (i : grid0.Coords) (arg2 : Memref sig .tc .vmem S1024x1024 .bf16) (harg2 : arg2.IsWhole) (arg3 : Memref sig .tc .vmem S1024x640 .f32) (harg3 : arg3.IsWhole) (arg4 : Memref sig .tc .vmem S1024x640 .f32) (harg4 : arg4.IsWhole) (arg5 : Memref sig .tc .vmem S1024x640 .f32) (harg5 : arg5.IsWhole) (hc0 : ¬cond0_0 i) (hc1 : cond0_1 i) (x0 : Vec F S1024x1024 .bf16) (x1 : Vec F S1024x640 .f32) (xs0 : Vec F S1024x640 .f32) :
    out0_C_2 c i arg2 harg2 arg3 harg3 arg4 harg4 arg5 harg5 hc0 hc1 x0 x1 xs0 = k0_pay2 xs0 x0 x1 := by
  unfold out0_C_2
  rw [View.read_writes_eq_canon _ _ _ (cover0_C_2 c i arg2 harg2 arg3 harg3 arg4 harg4 arg5 harg5 hc0 hc1 x0 x1 xs0)]
  unfold kernelRun0_C
  dsimp only
  try sl_unfold_words
  rw [View.canon_unit_zero zero2]
  simp only [View.readCov_unit_zero (S := S1024x640) _ zero2, View.readAt_eq_ld, harg2.read_unread, harg3.read_unread, harg4.read_unread, harg5.read_unread, View.ld_unit_zero (S := S1024x1024) zero2, View.ld_unit_zero (S := S1024x640) zero2, shapeCast_self]

variable (m : (ℓ : Loc nD τ sig) → Buf (Elt F) ℓ) (c : Dev nD) (t : Fin cfg0.N)

/-- The accumulator after the first point. -/
theorem acc_of (h0 : t.val % 4 = 0) (h1 : ¬t.val % 4 = 3) :
    (outsAt0 m c t.val t.isLt).2 = k0_pay2 (k0_pay1 (F := F)) (iblk m c 0 t) (iblk m c 1 t) := by
  rw [outsAt0_A m c t h0 h1]
  dsimp only
  exact first_acc c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- The accumulator after a middle point. -/
theorem mid_of (h0 : ¬t.val % 4 = 0) (h1 : ¬t.val % 4 = 3) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  exact mid_acc c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2

/-- The output block after the last point. -/
theorem out_of (h0 : ¬t.val % 4 = 0) (h1 : t.val % 4 = 3) :
    (outsAt0 m c t.val t.isLt).1 = k0_pay2 (outsAt0 m c (t.val - 1) (Nat.lt_of_le_of_lt (Nat.sub_le _ _) t.isLt)).2 (iblk m c 0 t) (iblk m c 1 t) := by
  rw [outsAt0_C m c t h0 h1]
  dsimp only
  exact last_out c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2

end Cert.KvDownDwIdeal.Gen

end
-- ==== Proof.KvDownDwValue.lean ====
/- The gradient of the weight of the down-projection of the keys and values: kernel and reference agree. -/
module

public import proofs.«01_k».proof.Proof.KvDownDwPoint
public import proofs.«01_k».proof.Proof.Gen.KvDownDwReferenceIdeal.Run
public import proofs.«01_k».proof.Proof.FfnSum
public import proofs.«01_k».proof.Defs
public import Idealize.ShloMosaic.Lib.Pointwise
public import Idealize.ShloMosaic.Lib.StableHlo.RunRead

@[expose] public section

set_option maxRecDepth 16384
set_option Elab.async false

noncomputable section

namespace Cert.KvDownDwIdeal.Host0

open Cert.KvDownDwIdeal Cert.KvDownDwIdeal.Gen Idealize.ShloMosaic Idealize.ShloMosaic.TcCoe Idealize.ShloMosaic.Tactic Idealize.SL.Sem
open Cert.Ffn

/-- The input in the kernel's type. -/
def castA (x : FVec Ideal S4096x1024 .f32) : FVec Ideal S4096x1024 .bf16 := truncf .bf16 x bitsLt_bf16_f32

/-- One grid point's term: the accumulated array and the product. -/
theorem pay_at (acc : FVec Ideal S1024x640 .f32) (a : FVec Ideal S1024x1024 .bf16) (d : FVec Ideal S1024x640 .f32) (p : Fin 1024) (s : Fin 640) :
    k0_pay2 acc a d (ix2 p s) = acc (ix2 p s) + ∑ r : Fin 1024, a (ix2 r p) * d (ix2 r s) := by
  pointwise [k0_pay2]

theorem zero_at (p : Fin 1024) (s : Fin 640) : k0_pay1 (F := Ideal) (ix2 p s) = 0 := by
  pointwise [k0_pay1]

/-- The reference's array. -/
def refA (a : FVec Ideal S4096x1024 .f32) (d : FVec Ideal S4096x640 .f32) : FVec Ideal S1024x640 .f32 :=
  transpose Cert.KvDownDwReferenceIdeal.S1024x640 [1, 0] (Host.dotGeneral Cert.KvDownDwReferenceIdeal.dot_S4096x640_S4096x1024_S640x1024_0_0_1_1_n_n none d a) Cert.KvDownDwReferenceIdeal.Gen.transposes_S640x1024_S1024x640_1_0

theorem refA_at (a : FVec Ideal S4096x1024 .f32) (d : FVec Ideal S4096x640 .f32) (p : Fin 1024) (s : Fin 640) :
    refA a d (ix2 p s) = ∑ n : Fin 4096, d (ix2 n s) * a (ix2 n p) := by
  pointwise [refA, shapeCast_self]

/-- A sum over the rows is the sum over the quarters of the sums over their rows. -/
theorem sum_quarters (f : Fin 4096 → EReal) : ∑ n, f n = ∑ i : Fin 4, ∑ r : Fin 1024, f (quarter i r) := by
  rw [← Fintype.sum_prod_type']
  refine (Fintype.sum_equiv (finProdFinEquiv (m := 4) (n := 1024)) _ _ fun x => congrArg f (Fin.ext ?_)).symm
  show 1024 * x.1.val + x.2.val = x.2.val + 1024 * x.1.val
  omega

/-- Where each window's block lies at grid point `t`. -/
theorem places : ∀ t : Fin cfg0.N,
    (win0_0.index t (0 : Fin 2) = t.val ∧ win0_0.index t (1 : Fin 2) = 0)
    ∧ (win0_1.index t (0 : Fin 2) = t.val ∧ win0_1.index t (1 : Fin 2) = 0) :=
  (by decide +kernel : ∀ t : Fin grid0.N, _)

variable (m : (ℓ : Loc nD τ sig) → Buf (Elt Ideal) ℓ) (c : Dev nD) (i : Fin 4) (r : Fin 1024) (p : Fin 1024) (s : Fin 640)

theorem V_a : V m c main_v0 = castA (m ((c : Thread nD τ).loc main_arg0)) := by
  unfold V; after_reads_simp; rfl

theorem V_d : V m c main_arg2 = (m ((c : Thread nD τ).loc main_arg2)) := by
  unfold V; after_reads_simp

/-- Grid point of row block `i`. -/
theorem pt_lt : i.val < cfg0.N := lt_of_lt_of_eq (by omega) N_0.symm

theorem emb_0 : (win0_0.rect ⟨i.val, pt_lt i⟩).emb (ix2 r p) = (ix2 (quarter i r) p : S4096x1024.Idx) := by
  obtain ⟨h0, h1⟩ := (places ⟨i.val, pt_lt i⟩).1
  try simp only [] at h0 h1
  refine ix2_eq ((Pipeline.Window.rect_emb_val _ _ _ _).trans ?_) ((Pipeline.Window.rect_emb_val _ _ _ _).trans ?_)
  · show win0_0.index ⟨i.val, pt_lt i⟩ (0 : Fin 2) * 1024 + r.val = 1024 * i.val + r.val
    rw [h0]; omega
  · show win0_0.index ⟨i.val, pt_lt i⟩ (1 : Fin 2) * 1024 + p.val = p.val
    rw [h1]; omega

theorem emb_1 : (win0_1.rect ⟨i.val, pt_lt i⟩).emb (ix2 r s) = (ix2 (quarter i r) s : S4096x640.Idx) := by
  obtain ⟨h0, h1⟩ := (places ⟨i.val, pt_lt i⟩).2
  try simp only [] at h0 h1
  refine ix2_eq ((Pipeline.Window.rect_emb_val _ _ _ _).trans ?_) ((Pipeline.Window.rect_emb_val _ _ _ _).trans ?_)
  · show win0_1.index ⟨i.val, pt_lt i⟩ (0 : Fin 2) * 1024 + r.val = 1024 * i.val + r.val
    rw [h0]; omega
  · show win0_1.index ⟨i.val, pt_lt i⟩ (1 : Fin 2) * 640 + s.val = s.val
    rw [h1]; omega

/-- One grid point's step, over arrays the windows' blocks are read from. -/
theorem step_at (a : FVec Ideal S4096x1024 .f32) (d : FVec Ideal S4096x640 .f32) (h0 : V m c main_v0 = castA a) (h1 : V m c main_arg2 = d) (acc : FVec Ideal S1024x640 .f32) :
    k0_pay2 acc (iblk m c 0 ⟨i.val, pt_lt i⟩) (iblk m c 1 ⟨i.val, pt_lt i⟩) (ix2 p s) = acc (ix2 p s) + ∑ r : Fin 1024, a (ix2 (quarter i r) p) * d (ix2 (quarter i r) s) := by
  refine (pay_at _ _ _ p s).trans ?_
  have e0 : ∀ r : Fin 1024, iblk m c 0 ⟨i.val, pt_lt i⟩ (ix2 r p) = a (ix2 (quarter i r) p) := fun r =>
    (congrArg (V m c main_v0) (emb_0 i r p)).trans (by rw [h0]; rfl)
  have e1 : ∀ r : Fin 1024, iblk m c 1 ⟨i.val, pt_lt i⟩ (ix2 r s) = d (ix2 (quarter i r) s) := fun r =>
    (congrArg (V m c main_arg2) (emb_1 i r s)).trans (by rw [h1])
  simp only [e0, e1]

/-- The accumulator after each of the first three points, and the output block after the last. -/
theorem acc_0 : (outsAt0 m c (0) (pt_lt 0)).2 = k0_pay2 (k0_pay1 (F := Ideal)) (iblk m c 0 ⟨0, pt_lt 0⟩) (iblk m c 1 ⟨0, pt_lt 0⟩) :=
  acc_of m c ⟨0, pt_lt 0⟩ (by decide) (by decide)

theorem acc_1 : (outsAt0 m c (1) (pt_lt 1)).2 = k0_pay2 (outsAt0 m c (0) (pt_lt 0)).2 (iblk m c 0 ⟨1, pt_lt 1⟩) (iblk m c 1 ⟨1, pt_lt 1⟩) :=
  mid_of m c ⟨1, pt_lt 1⟩ (by decide) (by decide)

theorem acc_2 : (outsAt0 m c (2) (pt_lt 2)).2 = k0_pay2 (outsAt0 m c (1) (pt_lt 1)).2 (iblk m c 0 ⟨2, pt_lt 2⟩) (iblk m c 1 ⟨2, pt_lt 2⟩) :=
  mid_of m c ⟨2, pt_lt 2⟩ (by decide) (by decide)

theorem out_3 : (outsAt0 m c (3) (pt_lt 3)).1 = k0_pay2 (outsAt0 m c (2) (pt_lt 2)).2 (iblk m c 0 ⟨3, pt_lt 3⟩) (iblk m c 1 ⟨3, pt_lt 3⟩) :=
  out_of m c ⟨3, pt_lt 3⟩ (by decide) (by decide)

/-- The kernel's result is the reference's. -/
theorem G_eq (a : FVec Ideal S4096x1024 .f32) (d : FVec Ideal S4096x640 .f32) (h0 : V m c main_v0 = castA a) (h1 : V m c main_arg2 = d) : Value.G2 m c = refA a d := by
  funext y
  obtain ⟨p, s, rfl⟩ := ix2_ex y
  have e : Value.G2 m c = (outsAt0 m c (3) (pt_lt 3)).1 := (Value.G2_last m c).trans (congrArg Prod.fst (Value.outsAt0_sweep m c 3 (pt_lt 3)).symm)
  refine (congrFun e (ix2 p s)).trans ?_
  refine (congrFun (out_3 m c) (ix2 p s)).trans ?_
  refine (step_at m c 3 p s a d h0 h1 _).trans ?_
  rw [acc_2, show k0_pay2 (outsAt0 m c (1) (pt_lt 1)).2 (iblk m c 0 ⟨2, pt_lt 2⟩) (iblk m c 1 ⟨2, pt_lt 2⟩) (ix2 p s) = _ from step_at m c 2 p s a d h0 h1 _,
    acc_1, show k0_pay2 (outsAt0 m c (0) (pt_lt 0)).2 (iblk m c 0 ⟨1, pt_lt 1⟩) (iblk m c 1 ⟨1, pt_lt 1⟩) (ix2 p s) = _ from step_at m c 1 p s a d h0 h1 _,
    acc_0, show k0_pay2 (k0_pay1 (F := Ideal)) (iblk m c 0 ⟨0, pt_lt 0⟩) (iblk m c 1 ⟨0, pt_lt 0⟩) (ix2 p s) = _ from step_at m c 0 p s a d h0 h1 _,
    zero_at, zero_add, refA_at, sum_quarters]
  simp only [Fin.sum_univ_four, mul_comm]

end Cert.KvDownDwIdeal.Host0

namespace Cert.Proof

open Cert.KvDownDwIdeal.Host0 Idealize.ShloMosaic Idealize.ShloMosaic.TcCoe Idealize.SL.Sem

/-- For equal arguments the kernel's result and the reference's are equal. -/
theorem algebraic_kvdowndw : Cert.algebraic_KvDownDwIdeal_KvDownDwReferenceIdeal :=
  fun m ρ m' ρ' _ heq =>
  ⟨fun c => Cert.KvDownDwIdeal.Value.G2 m c,
   Cert.KvDownDwIdeal.Value.run m ρ,
   (θ_run (Cert.KvDownDwReferenceIdeal.defs (F := Ideal)) _ _).mono (fun _ h c => ⟨(h c).1.trans (by
      refine Eq.trans ?_ (G_eq m c _ _ (V_a m c) (V_d m c)).symm
      rw [(heq c).1, (heq c).2.2]
      rfl), (h c).2⟩)
     (Cert.KvDownDwReferenceIdeal.Value.run (F := Ideal) m' ρ')⟩

end Cert.Proof

end
-- ==== Proof.KUpValue.lean ====
/- The keys' up-projection: kernel and reference agree. -/
module

public import proofs.«01_k».proof.Proof.Gen.KUpIdeal.Value
public import proofs.«01_k».proof.Proof.Gen.KUpReferenceIdeal.Run
public import proofs.«01_k».proof.Proof.FfnSum
public import proofs.«01_k».proof.Defs
public import Idealize.ShloMosaic.Lib.Pointwise
public import Idealize.ShloMosaic.Lib.StableHlo.RunRead

@[expose] public section

set_option maxRecDepth 16384
set_option Elab.async false

noncomputable section

namespace Cert.KUpIdeal.Host0

open Cert.KUpIdeal Cert.KUpIdeal.Gen Idealize.ShloMosaic Idealize.ShloMosaic.TcCoe Idealize.ShloMosaic.Tactic Idealize.SL.Sem
open Cert.Ffn

theorem zero2 : (![0, 0] : Fin 2 → Nat) = fun _ => 0 := funext fun a => by fin_cases a <;> rfl

/-- A weight in the kernel's type. -/
def castW (x : FVec Ideal S512x1024 .f32) : FVec Ideal S512x1024 .bf16 := truncf .bf16 x bitsLt_bf16_f32

/-- The input in the kernel's type. -/
def castA (x : FVec Ideal S4096x512 .f32) : FVec Ideal S4096x512 .bf16 := truncf .bf16 x bitsLt_bf16_f32

/-- What a grid point stores in the output block. -/
theorem outq (x0 : Vec Ideal S1024x512 .bf16) (x1 : Vec Ideal S512x1024 .bf16) : out0_2 x0 x1 = k0_pay1 x0 x1 := by
  unfold out0_2
  rw [View.canon_unit_zero zero2]
  simp only [View.ld_unit_zero (S := S1024x512) zero2, View.ld_unit_zero (S := S512x1024) zero2]

theorem pay_at (x0 : Vec Ideal S1024x512 .bf16) (x1 : Vec Ideal S512x1024 .bf16) (r : Fin 1024) (s : Fin 1024) :
    k0_pay1 x0 x1 (ix2 r s) = ∑ p : Fin 512, x0 (ix2 r p) * x1 (ix2 p s) := by
  pointwise [k0_pay1]

/-- The reference's array. -/
def refA (a : FVec Ideal S4096x512 .f32) (w : FVec Ideal S512x1024 .f32) : FVec Ideal S4096x1024 .f32 :=
  Host.dotGeneral Cert.KUpReferenceIdeal.dot_S4096x512_S512x1024_S4096x1024_1_0_0_1_n_n none a w

theorem refA_at (a : FVec Ideal S4096x512 .f32) (w : FVec Ideal S512x1024 .f32) (n : Fin 4096) (s : Fin 1024) :
    refA a w (ix2 n s) = ∑ p : Fin 512, a (ix2 n p) * w (ix2 p s) := by
  pointwise [refA, shapeCast_self]

/-- Where each window's block lies at grid point `t`. -/
theorem places : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

variable (m : (ℓ : Loc nD τ sig) → Buf (Elt Ideal) ℓ) (c : Dev nD) (i : Fin 4) (r : Fin 1024) (p : Fin 512) (s : Fin 1024)

theorem V_x : V m c main_v0 = castA (m ((c : Thread nD τ).loc main_arg0)) := by
  unfold V; after_reads_simp; rfl

theorem V_w : V m c main_v1 = castW (m ((c : Thread nD τ).loc main_arg1)) := by
  unfold V; after_reads_simp; rfl

/-- Grid point of row block `i`. -/
theorem pt_lt : i.val < cfg0.N := lt_of_lt_of_eq (by omega) N_0.symm

theorem emb_0 : (win0_0.rect ⟨i.val, pt_lt i⟩).emb (ix2 r p) = (ix2 (quarter i r) p : S4096x512.Idx) := by
  obtain ⟨h0, h1⟩ := (places ⟨i.val, pt_lt i⟩).1
  try simp only [] at h0 h1
  refine ix2_eq ((Pipeline.Window.rect_emb_val _ _ _ _).trans ?_) ((Pipeline.Window.rect_emb_val _ _ _ _).trans ?_)
  · show win0_0.index ⟨i.val, pt_lt i⟩ (0 : Fin 2) * 1024 + r.val = 1024 * i.val + r.val
    rw [h0]; omega
  · show win0_0.index ⟨i.val, pt_lt i⟩ (1 : Fin 2) * 512 + p.val = p.val
    rw [h1]; omega

theorem emb_1 : (win0_1.rect ⟨i.val, pt_lt i⟩).emb (ix2 p s) = (ix2 p s : S512x1024.Idx) := by
  obtain ⟨h0, h1⟩ := (places ⟨i.val, pt_lt i⟩).2.1
  try simp only [] at h0 h1
  refine ix2_eq ((Pipeline.Window.rect_emb_val _ _ _ _).trans ?_) ((Pipeline.Window.rect_emb_val _ _ _ _).trans ?_)
  · show win0_1.index ⟨i.val, pt_lt i⟩ (0 : Fin 2) * 512 + p.val = p.val
    rw [h0]; omega
  · show win0_1.index ⟨i.val, pt_lt i⟩ (1 : Fin 2) * 1024 + s.val = s.val
    rw [h1]; omega

theorem emb_2 : (win0_2.rect ⟨i.val, pt_lt i⟩).emb (ix2 r s) = (ix2 (quarter i r) s : S4096x1024.Idx) := by
  obtain ⟨h0, h1⟩ := (places ⟨i.val, pt_lt i⟩).2.2
  try simp only [] at h0 h1
  refine ix2_eq ((Pipeline.Window.rect_emb_val _ _ _ _).trans ?_) ((Pipeline.Window.rect_emb_val _ _ _ _).trans ?_)
  · show win0_2.index ⟨i.val, pt_lt i⟩ (0 : Fin 2) * 1024 + r.val = 1024 * i.val + r.val
    rw [h0]; omega
  · show win0_2.index ⟨i.val, pt_lt i⟩ (1 : Fin 2) * 1024 + s.val = s.val
    rw [h1]; omega

/-- The input windows' blocks, over arrays they are read from. -/
theorem blk0 (x : FVec Ideal S4096x512 .f32) (h0 : V m c main_v0 = castA x) : iblk m c 0 ⟨i.val, pt_lt i⟩ (ix2 r p) = x (ix2 (quarter i r) p) :=
  (congrArg (V m c main_v0) (emb_0 i r p)).trans (by rw [h0]; rfl)

theorem blk1 (w : FVec Ideal S512x1024 .f32) (h1 : V m c main_v1 = castW w) : iblk m c 1 ⟨i.val, pt_lt i⟩ (ix2 p s) = w (ix2 p s) :=
  (congrArg (V m c main_v1) (emb_1 i p s)).trans (by rw [h1]; rfl)

/-- An element of the result is the one its block's grid point stored. -/
theorem elem_q : (dats m 0 c).arrAt 2 cfg0.N (ix2 (quarter i r) s : S4096x1024.Idx) = out0_2 (iblk m c 0 ⟨i.val, pt_lt i⟩) (iblk m c 1 ⟨i.val, pt_lt i⟩) (ix2 r s) :=
  (congrArg ((dats m 0 c).arrAt 2 cfg0.N) (emb_2 i r s)).symm.trans
    (((dats m 0 c).arrAt_emb_eq_flushed 2 Value.disjoint2 ⟨i.val, pt_lt i⟩ (flush0_2 _) (ix2 r s)).trans
      (congrFun (Value.flushed2 m c ⟨i.val, pt_lt i⟩) (ix2 r s)))

/-- The result is the reference's. -/
theorem res (x : FVec Ideal S4096x512 .f32) (w : FVec Ideal S512x1024 .f32) (h0 : V m c main_v0 = castA x) (h1 : V m c main_v1 = castW w) : (dats m 0 c).arrAt 2 cfg0.N = refA x w := by
  funext y
  obtain ⟨R, s, rfl⟩ := ix2_ex y
  obtain ⟨i, r, rfl⟩ := row_split R
  refine (elem_q m c i r s).trans ?_
  rw [outq]
  refine (pay_at _ _ r s).trans ?_
  rw [refA_at]
  exact Finset.sum_congr rfl fun p _ => congrArg₂ (fun u v : EReal => u * v) (blk0 m c i r p x h0) (blk1 m c i p s w h1)

end Cert.KUpIdeal.Host0

namespace Cert.Proof

open Cert.KUpIdeal.Host0 Cert.KUpIdeal.Gen Idealize.ShloMosaic Idealize.ShloMosaic.TcCoe Idealize.SL.Sem

/-- For equal arguments the kernel's result and the reference's are equal. -/
theorem algebraic_kup : Cert.algebraic_KUpIdeal_KUpReferenceIdeal :=
  fun m ρ m' ρ' _ heq =>
  ⟨fun c => (dats m 0 c).arrAt 2 Cert.KUpIdeal.cfg0.N,
   Cert.KUpIdeal.Value.run_blocks m ρ,
   (θ_run (Cert.KUpReferenceIdeal.defs (F := Ideal)) _ _).mono (fun _ h c => ⟨(h c).1.trans (by
      refine Eq.trans ?_ (res m c _ _ (V_x m c) (V_w m c)).symm
      rw [(heq c).1, (heq c).2]
      rfl), (h c).2⟩)
     (Cert.KUpReferenceIdeal.Value.run (F := Ideal) m' ρ')⟩

end Cert.Proof

end
-- ==== Proof.KUpDcValue.lean ====
/- The gradient of the keys' up-projection's input: kernel and reference agree. -/
module

public import proofs.«01_k».proof.Proof.Gen.KUpDcIdeal.Value
public import proofs.«01_k».proof.Proof.Gen.KUpDcReferenceIdeal.Run
public import proofs.«01_k».proof.Proof.FfnSum
public import proofs.«01_k».proof.Defs
public import Idealize.ShloMosaic.Lib.Pointwise
public import Idealize.ShloMosaic.Lib.StableHlo.RunRead

@[expose] public section

set_option maxRecDepth 16384
set_option Elab.async false

noncomputable section

namespace Cert.KUpDcIdeal.Host0

open Cert.KUpDcIdeal Cert.KUpDcIdeal.Gen Idealize.ShloMosaic Idealize.ShloMosaic.TcCoe Idealize.ShloMosaic.Tactic Idealize.SL.Sem
open Cert.Ffn

theorem zero2 : (![0, 0] : Fin 2 → Nat) = fun _ => 0 := funext fun a => by fin_cases a <;> rfl

/-- A weight in the kernel's type. -/
def castW (x : FVec Ideal S512x1024 .f32) : FVec Ideal S512x1024 .bf16 := truncf .bf16 x bitsLt_bf16_f32

/-- What a grid point stores in the output block. -/
theorem outq (x0 : Vec Ideal S1024x1024 .f32) (x1 : Vec Ideal S512x1024 .bf16) (x2 : Vec Ideal S1024x512 .f32) : out0_3 x0 x1 x2 = k0_pay1 x0 x1 x2 := by
  unfold out0_3
  rw [View.canon_unit_zero zero2]
  simp only [View.ld_unit_zero (S := S1024x1024) zero2, View.ld_unit_zero (S := S1024x512) zero2, View.ld_unit_zero (S := S512x1024) zero2]

theorem pay_at (x0 : Vec Ideal S1024x1024 .f32) (x1 : Vec Ideal S512x1024 .bf16) (x2 : Vec Ideal S1024x512 .f32) (r : Fin 1024) (s : Fin 512) :
    k0_pay1 x0 x1 x2 (ix2 r s) = x2 (ix2 r s) + ∑ p : Fin 1024, x0 (ix2 r p) * x1 (ix2 s p) := by
  pointwise [k0_pay1]

/-- The reference's array. -/
def refA (d : FVec Ideal S4096x1024 .f32) (w : FVec Ideal S512x1024 .f32) (e : FVec Ideal S4096x512 .f32) : FVec Ideal S4096x512 .f32 :=
  addf e (Host.dotGeneral Cert.KUpDcReferenceIdeal.dot_S4096x1024_S512x1024_S4096x512_1_1_0_0_n_n none d w)

theorem refA_at (d : FVec Ideal S4096x1024 .f32) (w : FVec Ideal S512x1024 .f32) (e : FVec Ideal S4096x512 .f32) (n : Fin 4096) (s : Fin 512) :
    refA d w e (ix2 n s) = e (ix2 n s) + ∑ p : Fin 1024, d (ix2 n p) * w (ix2 s p) := by
  pointwise [refA, shapeCast_self]

/-- Where each window's block lies at grid point `t`. -/
theorem places : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) :=
  (by decide +kernel : ∀ t : Fin grid0.N, _)

variable (m : (ℓ : Loc nD τ sig) → Buf (Elt Ideal) ℓ) (c : Dev nD) (i : Fin 4) (r : Fin 1024) (p : Fin 1024) (s : Fin 512)

theorem V_x : V m c main_arg2 = (m ((c : Thread nD τ).loc main_arg2)) := by
  unfold V; after_reads_simp

theorem V_w : V m c main_v0 = castW (m ((c : Thread nD τ).loc main_arg1)) := by
  unfold V; after_reads_simp; rfl

theorem V_e : V m c main_arg3 = (m ((c : Thread nD τ).loc main_arg3)) := by
  unfold V; after_reads_simp

/-- Grid point of row block `i`. -/
theorem pt_lt : i.val < cfg0.N := lt_of_lt_of_eq (by omega) N_0.symm

theorem emb_0 : (win0_0.rect ⟨i.val, pt_lt i⟩).emb (ix2 r p) = (ix2 (quarter i r) p : S4096x1024.Idx) := by
  obtain ⟨h0, h1⟩ := (places ⟨i.val, pt_lt i⟩).1
  try simp only [] at h0 h1
  refine ix2_eq ((Pipeline.Window.rect_emb_val _ _ _ _).trans ?_) ((Pipeline.Window.rect_emb_val _ _ _ _).trans ?_)
  · show win0_0.index ⟨i.val, pt_lt i⟩ (0 : Fin 2) * 1024 + r.val = 1024 * i.val + r.val
    rw [h0]; omega
  · show win0_0.index ⟨i.val, pt_lt i⟩ (1 : Fin 2) * 1024 + p.val = p.val
    rw [h1]; omega

theorem emb_1 : (win0_1.rect ⟨i.val, pt_lt i⟩).emb (ix2 s p) = (ix2 s p : S512x1024.Idx) := by
  obtain ⟨h0, h1⟩ := (places ⟨i.val, pt_lt i⟩).2.1
  try simp only [] at h0 h1
  refine ix2_eq ((Pipeline.Window.rect_emb_val _ _ _ _).trans ?_) ((Pipeline.Window.rect_emb_val _ _ _ _).trans ?_)
  · show win0_1.index ⟨i.val, pt_lt i⟩ (0 : Fin 2) * 512 + s.val = s.val
    rw [h0]; omega
  · show win0_1.index ⟨i.val, pt_lt i⟩ (1 : Fin 2) * 1024 + p.val = p.val
    rw [h1]; omega

theorem emb_2 : (win0_2.rect ⟨i.val, pt_lt i⟩).emb (ix2 r s) = (ix2 (quarter i r) s : S4096x512.Idx) := by
  obtain ⟨h0, h1⟩ := (places ⟨i.val, pt_lt i⟩).2.2.1
  try simp only [] at h0 h1
  refine ix2_eq ((Pipeline.Window.rect_emb_val _ _ _ _).trans ?_) ((Pipeline.Window.rect_emb_val _ _ _ _).trans ?_)
  · show win0_2.index ⟨i.val, pt_lt i⟩ (0 : Fin 2) * 1024 + r.val = 1024 * i.val + r.val
    rw [h0]; omega
  · show win0_2.index ⟨i.val, pt_lt i⟩ (1 : Fin 2) * 512 + s.val = s.val
    rw [h1]; omega

theorem emb_3 : (win0_3.rect ⟨i.val, pt_lt i⟩).emb (ix2 r s) = (ix2 (quarter i r) s : S4096x512.Idx) := by
  obtain ⟨h0, h1⟩ := (places ⟨i.val, pt_lt i⟩).2.2.2
  try simp only [] at h0 h1
  refine ix2_eq ((Pipeline.Window.rect_emb_val _ _ _ _).trans ?_) ((Pipeline.Window.rect_emb_val _ _ _ _).trans ?_)
  · show win0_3.index ⟨i.val, pt_lt i⟩ (0 : Fin 2) * 1024 + r.val = 1024 * i.val + r.val
    rw [h0]; omega
  · show win0_3.index ⟨i.val, pt_lt i⟩ (1 : Fin 2) * 512 + s.val = s.val
    rw [h1]; omega

/-- The input windows' blocks, over arrays they are read from. -/
theorem blk0 (x : FVec Ideal S4096x1024 .f32) (h0 : V m c main_arg2 = x) : iblk m c 0 ⟨i.val, pt_lt i⟩ (ix2 r p) = x (ix2 (quarter i r) p) :=
  (congrArg (V m c main_arg2) (emb_0 i r p)).trans (by rw [h0])

theorem blk1 (w : FVec Ideal S512x1024 .f32) (h1 : V m c main_v0 = castW w) : iblk m c 1 ⟨i.val, pt_lt i⟩ (ix2 s p) = w (ix2 s p) :=
  (congrArg (V m c main_v0) (emb_1 i p s)).trans (by rw [h1]; rfl)

theorem blk2 (e : FVec Ideal S4096x512 .f32) (h2 : V m c main_arg3 = e) : iblk m c 2 ⟨i.val, pt_lt i⟩ (ix2 r s) = e (ix2 (quarter i r) s) :=
  (congrArg (V m c main_arg3) (emb_2 i r s)).trans (by rw [h2])

/-- An element of the result is the one its block's grid point stored. -/
theorem elem_q : (dats m 0 c).arrAt 3 cfg0.N (ix2 (quarter i r) s : S4096x512.Idx) = out0_3 (iblk m c 0 ⟨i.val, pt_lt i⟩) (iblk m c 1 ⟨i.val, pt_lt i⟩) (iblk m c 2 ⟨i.val, pt_lt i⟩) (ix2 r s) :=
  (congrArg ((dats m 0 c).arrAt 3 cfg0.N) (emb_3 i r s)).symm.trans
    (((dats m 0 c).arrAt_emb_eq_flushed 3 Value.disjoint3 ⟨i.val, pt_lt i⟩ (flush0_3 _) (ix2 r s)).trans
      (congrFun (Value.flushed3 m c ⟨i.val, pt_lt i⟩) (ix2 r s)))

/-- The result is the reference's. -/
theorem res (x : FVec Ideal S4096x1024 .f32) (w : FVec Ideal S512x1024 .f32) (e : FVec Ideal S4096x512 .f32) (h0 : V m c main_arg2 = x) (h1 : V m c main_v0 = castW w) (h2 : V m c main_arg3 = e) : (dats m 0 c).arrAt 3 cfg0.N = refA x w e := by
  funext y
  obtain ⟨R, s, rfl⟩ := ix2_ex y
  obtain ⟨i, r, rfl⟩ := row_split R
  refine (elem_q m c i r s).trans ?_
  rw [outq]
  refine (pay_at _ _ _ r s).trans ?_
  rw [refA_at]
  exact congrArg₂ (fun u v : EReal => u + v) (blk2 m c i r s e h2) (Finset.sum_congr rfl fun p _ => congrArg₂ (fun u v : EReal => u * v) (blk0 m c i r p x h0) (blk1 m c i p s w h1))

end Cert.KUpDcIdeal.Host0

namespace Cert.Proof

open Cert.KUpDcIdeal.Host0 Cert.KUpDcIdeal.Gen Idealize.ShloMosaic Idealize.ShloMosaic.TcCoe Idealize.SL.Sem

/-- For equal arguments the kernel's result and the reference's are equal. -/
theorem algebraic_kupdc : Cert.algebraic_KUpDcIdeal_KUpDcReferenceIdeal :=
  fun m ρ m' ρ' _ heq =>
  ⟨fun c => (dats m 0 c).arrAt 3 Cert.KUpDcIdeal.cfg0.N,
   Cert.KUpDcIdeal.Value.run_blocks m ρ,
   (θ_run (Cert.KUpDcReferenceIdeal.defs (F := Ideal)) _ _).mono (fun _ h c => ⟨(h c).1.trans (by
      refine Eq.trans ?_ (res m c _ _ _ (V_x m c) (V_w m c) (V_e m c)).symm
      rw [(heq c).2.1, (heq c).2.2.1, (heq c).2.2.2]
      rfl), (h c).2⟩)
     (Cert.KUpDcReferenceIdeal.Value.run (F := Ideal) m' ρ')⟩

end Cert.Proof

end
-- ==== Proof.KUpDwPoint.lean ====
/- The gradient of the keys' up-projection's weight: what each grid point leaves in the accumulator and in the output block. -/
module

public import proofs.«01_k».proof.Proof.Gen.KUpDwIdeal.Value

@[expose] public section

set_option maxRecDepth 16384
set_option Elab.async false

noncomputable section

namespace Cert.KUpDwIdeal.Gen

open Cert.KUpDwIdeal Idealize.ShloMosaic Idealize.ShloMosaic.TcCoe Idealize.ShloMosaic.Tactic Idealize.SL.Sem

variable {F : FTy → Type} [FloatOps F]

theorem zero2 : (![0, 0] : Fin 2 → Nat) = fun _ => 0 := funext fun a => by fin_cases a <;> rfl

/-- The first point leaves the first product, added to zero, in the accumulator. -/
theorem first_acc (c : Dev nD) (i : grid0.Coords) (arg2 : Memref sig .tc .vmem S1024x512 .bf16) (harg2 : arg2.IsWhole) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (hc0 : cond0_0 i) (hc1 : ¬cond0_1 i) (x0 : Vec F S1024x512 .bf16) (x1 : Vec F S1024x1024 .f32) :
    sout0_A_0 c i arg2 harg2 arg3 harg3 arg4 harg4 arg5 harg5 hc0 hc1 x0 x1 = k0_pay2 (k0_pay1 (F := F)) x0 x1 := by
  unfold sout0_A_0
  rw [View.read_writes_eq_canon _ _ _ (scover0_A_0 c i arg2 harg2 arg3 harg3 arg4 harg4 arg5 harg5 hc0 hc1 x0 x1)]
  unfold kernelRun0_A
  dsimp only
  try sl_unfold_words
  rw [View.canon_cons_unit_zero (S := S512x1024) zero2, View.readCov_unit_zero (S := S512x1024) _ zero2]
  simp only [View.readAt_eq_ld, harg2.read_unread, harg3.read_unread, harg4.read_unread, harg5.read_unread, View.ld_unit_zero (S := S1024x1024) zero2, View.ld_unit_zero (S := S1024x512) zero2, View.ld_unit_zero (S := S512x1024) zero2, shapeCast_self]

/-- A middle point adds its product to the accumulator. -/
theorem mid_acc (c : Dev nD) (i : grid0.Coords) (arg2 : Memref sig .tc .vmem S1024x512 .bf16) (harg2 : arg2.IsWhole) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (hc0 : ¬cond0_0 i) (hc1 : ¬cond0_1 i) (x0 : Vec F S1024x512 .bf16) (x1 : Vec F S1024x1024 .f32) (xs0 : Vec F S512x1024 .f32) :
    sout0_B_0 c i arg2 harg2 arg3 harg3 arg4 harg4 arg5 harg5 hc0 hc1 x0 x1 xs0 = k0_pay2 xs0 x0 x1 := by
  unfold sout0_B_0
  rw [View.read_writes_eq_canon _ _ _ (scover0_B_0 c i arg2 harg2 arg3 harg3 arg4 harg4 arg5 harg5 hc0 hc1 x0 x1 xs0)]
  unfold kernelRun0_B
  dsimp only
  try sl_unfold_words
  rw [View.canon_unit_zero zero2]
  simp only [View.readAt_eq_ld, harg2.read_unread, harg3.read_unread, harg4.read_unread, harg5.read_unread, View.ld_unit_zero (S := S1024x1024) zero2, View.ld_unit_zero (S := S1024x512) zero2, View.ld_unit_zero (S := S512x1024) zero2, shapeCast_self]

/-- The last point leaves the accumulator with its product added in the output block. -/
theorem last_out (c : Dev nD) (i : grid0.Coords) (arg2 : Memref sig .tc .vmem S1024x512 .bf16) (harg2 : arg2.IsWhole) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (hc0 : ¬cond0_0 i) (hc1 : cond0_1 i) (x0 : Vec F S1024x512 .bf16) (x1 : Vec F S1024x1024 .f32) (xs0 : Vec F S512x1024 .f32) :
    out0_C_2 c i arg2 harg2 arg3 harg3 arg4 harg4 arg5 harg5 hc0 hc1 x0 x1 xs0 = k0_pay2 xs0 x0 x1 := by
  unfold out0_C_2
  rw [View.read_writes_eq_canon _ _ _ (cover0_C_2 c i arg2 harg2 arg3 harg3 arg4 harg4 arg5 harg5 hc0 hc1 x0 x1 xs0)]
  unfold kernelRun0_C
  dsimp only
  try sl_unfold_words
  rw [View.canon_unit_zero zero2]
  simp only [View.readCov_unit_zero (S := S512x1024) _ zero2, View.readAt_eq_ld, harg2.read_unread, harg3.read_unread, harg4.read_unread, harg5.read_unread, View.ld_unit_zero (S := S1024x1024) zero2, View.ld_unit_zero (S := S1024x512) zero2, View.ld_unit_zero (S := S512x1024) zero2, shapeCast_self]

variable (m : (ℓ : Loc nD τ sig) → Buf (Elt F) ℓ) (c : Dev nD) (t : Fin cfg0.N)

/-- The accumulator after the first point. -/
theorem acc_of (h0 : t.val % 4 = 0) (h1 : ¬t.val % 4 = 3) :
    (outsAt0 m c t.val t.isLt).2 = k0_pay2 (k0_pay1 (F := F)) (iblk m c 0 t) (iblk m c 1 t) := by
  rw [outsAt0_A m c t h0 h1]
  dsimp only
  exact first_acc c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- The accumulator after a middle point. -/
theorem mid_of (h0 : ¬t.val % 4 = 0) (h1 : ¬t.val % 4 = 3) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  exact mid_acc c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2

/-- The output block after the last point. -/
theorem out_of (h0 : ¬t.val % 4 = 0) (h1 : t.val % 4 = 3) :
    (outsAt0 m c t.val t.isLt).1 = k0_pay2 (outsAt0 m c (t.val - 1) (Nat.lt_of_le_of_lt (Nat.sub_le _ _) t.isLt)).2 (iblk m c 0 t) (iblk m c 1 t) := by
  rw [outsAt0_C m c t h0 h1]
  dsimp only
  exact last_out c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2

end Cert.KUpDwIdeal.Gen

end
-- ==== Proof.KUpDwValue.lean ====
/- The gradient of the keys' up-projection's weight: kernel and reference agree. -/
module

public import proofs.«01_k».proof.Proof.KUpDwPoint
public import proofs.«01_k».proof.Proof.Gen.KUpDwReferenceIdeal.Run
public import proofs.«01_k».proof.Proof.FfnSum
public import proofs.«01_k».proof.Defs
public import Idealize.ShloMosaic.Lib.Pointwise
public import Idealize.ShloMosaic.Lib.StableHlo.RunRead

@[expose] public section

set_option maxRecDepth 16384
set_option Elab.async false

noncomputable section

namespace Cert.KUpDwIdeal.Host0

open Cert.KUpDwIdeal Cert.KUpDwIdeal.Gen Idealize.ShloMosaic Idealize.ShloMosaic.TcCoe Idealize.ShloMosaic.Tactic Idealize.SL.Sem
open Cert.Ffn

/-- The input in the kernel's type. -/
def castA (x : FVec Ideal S4096x512 .f32) : FVec Ideal S4096x512 .bf16 := truncf .bf16 x bitsLt_bf16_f32

/-- One grid point's term: the accumulated array and the product. -/
theorem pay_at (acc : FVec Ideal S512x1024 .f32) (a : FVec Ideal S1024x512 .bf16) (d : FVec Ideal S1024x1024 .f32) (p : Fin 512) (s : Fin 1024) :
    k0_pay2 acc a d (ix2 p s) = acc (ix2 p s) + ∑ r : Fin 1024, a (ix2 r p) * d (ix2 r s) := by
  pointwise [k0_pay2]

theorem zero_at (p : Fin 512) (s : Fin 1024) : k0_pay1 (F := Ideal) (ix2 p s) = 0 := by
  pointwise [k0_pay1]

/-- The reference's array. -/
def refA (a : FVec Ideal S4096x512 .f32) (d : FVec Ideal S4096x1024 .f32) : FVec Ideal S512x1024 .f32 :=
  transpose Cert.KUpDwReferenceIdeal.S512x1024 [1, 0] (Host.dotGeneral Cert.KUpDwReferenceIdeal.dot_S4096x1024_S4096x512_S1024x512_0_0_1_1_n_n none d a) Cert.KUpDwReferenceIdeal.Gen.transposes_S1024x512_S512x1024_1_0

theorem refA_at (a : FVec Ideal S4096x512 .f32) (d : FVec Ideal S4096x1024 .f32) (p : Fin 512) (s : Fin 1024) :
    refA a d (ix2 p s) = ∑ n : Fin 4096, d (ix2 n s) * a (ix2 n p) := by
  pointwise [refA, shapeCast_self]

/-- A sum over the rows is the sum over the quarters of the sums over their rows. -/
theorem sum_quarters (f : Fin 4096 → EReal) : ∑ n, f n = ∑ i : Fin 4, ∑ r : Fin 1024, f (quarter i r) := by
  rw [← Fintype.sum_prod_type']
  refine (Fintype.sum_equiv (finProdFinEquiv (m := 4) (n := 1024)) _ _ fun x => congrArg f (Fin.ext ?_)).symm
  show 1024 * x.1.val + x.2.val = x.2.val + 1024 * x.1.val
  omega

/-- Where each window's block lies at grid point `t`. -/
theorem places : ∀ t : Fin cfg0.N,
    (win0_0.index t (0 : Fin 2) = t.val ∧ win0_0.index t (1 : Fin 2) = 0)
    ∧ (win0_1.index t (0 : Fin 2) = t.val ∧ win0_1.index t (1 : Fin 2) = 0) :=
  (by decide +kernel : ∀ t : Fin grid0.N, _)

variable (m : (ℓ : Loc nD τ sig) → Buf (Elt Ideal) ℓ) (c : Dev nD) (i : Fin 4) (r : Fin 1024) (p : Fin 512) (s : Fin 1024)

theorem V_a : V m c main_v0 = castA (m ((c : Thread nD τ).loc main_arg0)) := by
  unfold V; after_reads_simp; rfl

theorem V_d : V m c main_arg2 = (m ((c : Thread nD τ).loc main_arg2)) := by
  unfold V; after_reads_simp

/-- Grid point of row block `i`. -/
theorem pt_lt : i.val < cfg0.N := lt_of_lt_of_eq (by omega) N_0.symm

theorem emb_0 : (win0_0.rect ⟨i.val, pt_lt i⟩).emb (ix2 r p) = (ix2 (quarter i r) p : S4096x512.Idx) := by
  obtain ⟨h0, h1⟩ := (places ⟨i.val, pt_lt i⟩).1
  try simp only [] at h0 h1
  refine ix2_eq ((Pipeline.Window.rect_emb_val _ _ _ _).trans ?_) ((Pipeline.Window.rect_emb_val _ _ _ _).trans ?_)
  · show win0_0.index ⟨i.val, pt_lt i⟩ (0 : Fin 2) * 1024 + r.val = 1024 * i.val + r.val
    rw [h0]; omega
  · show win0_0.index ⟨i.val, pt_lt i⟩ (1 : Fin 2) * 512 + p.val = p.val
    rw [h1]; omega

theorem emb_1 : (win0_1.rect ⟨i.val, pt_lt i⟩).emb (ix2 r s) = (ix2 (quarter i r) s : S4096x1024.Idx) := by
  obtain ⟨h0, h1⟩ := (places ⟨i.val, pt_lt i⟩).2
  try simp only [] at h0 h1
  refine ix2_eq ((Pipeline.Window.rect_emb_val _ _ _ _).trans ?_) ((Pipeline.Window.rect_emb_val _ _ _ _).trans ?_)
  · show win0_1.index ⟨i.val, pt_lt i⟩ (0 : Fin 2) * 1024 + r.val = 1024 * i.val + r.val
    rw [h0]; omega
  · show win0_1.index ⟨i.val, pt_lt i⟩ (1 : Fin 2) * 1024 + s.val = s.val
    rw [h1]; omega

/-- One grid point's step, over arrays the windows' blocks are read from. -/
theorem step_at (a : FVec Ideal S4096x512 .f32) (d : FVec Ideal S4096x1024 .f32) (h0 : V m c main_v0 = castA a) (h1 : V m c main_arg2 = d) (acc : FVec Ideal S512x1024 .f32) :
    k0_pay2 acc (iblk m c 0 ⟨i.val, pt_lt i⟩) (iblk m c 1 ⟨i.val, pt_lt i⟩) (ix2 p s) = acc (ix2 p s) + ∑ r : Fin 1024, a (ix2 (quarter i r) p) * d (ix2 (quarter i r) s) := by
  refine (pay_at _ _ _ p s).trans ?_
  have e0 : ∀ r : Fin 1024, iblk m c 0 ⟨i.val, pt_lt i⟩ (ix2 r p) = a (ix2 (quarter i r) p) := fun r =>
    (congrArg (V m c main_v0) (emb_0 i r p)).trans (by rw [h0]; rfl)
  have e1 : ∀ r : Fin 1024, iblk m c 1 ⟨i.val, pt_lt i⟩ (ix2 r s) = d (ix2 (quarter i r) s) := fun r =>
    (congrArg (V m c main_arg2) (emb_1 i r s)).trans (by rw [h1])
  simp only [e0, e1]

/-- The accumulator after each of the first three points, and the output block after the last. -/
theorem acc_0 : (outsAt0 m c (0) (pt_lt 0)).2 = k0_pay2 (k0_pay1 (F := Ideal)) (iblk m c 0 ⟨0, pt_lt 0⟩) (iblk m c 1 ⟨0, pt_lt 0⟩) :=
  acc_of m c ⟨0, pt_lt 0⟩ (by decide) (by decide)

theorem acc_1 : (outsAt0 m c (1) (pt_lt 1)).2 = k0_pay2 (outsAt0 m c (0) (pt_lt 0)).2 (iblk m c 0 ⟨1, pt_lt 1⟩) (iblk m c 1 ⟨1, pt_lt 1⟩) :=
  mid_of m c ⟨1, pt_lt 1⟩ (by decide) (by decide)

theorem acc_2 : (outsAt0 m c (2) (pt_lt 2)).2 = k0_pay2 (outsAt0 m c (1) (pt_lt 1)).2 (iblk m c 0 ⟨2, pt_lt 2⟩) (iblk m c 1 ⟨2, pt_lt 2⟩) :=
  mid_of m c ⟨2, pt_lt 2⟩ (by decide) (by decide)

theorem out_3 : (outsAt0 m c (3) (pt_lt 3)).1 = k0_pay2 (outsAt0 m c (2) (pt_lt 2)).2 (iblk m c 0 ⟨3, pt_lt 3⟩) (iblk m c 1 ⟨3, pt_lt 3⟩) :=
  out_of m c ⟨3, pt_lt 3⟩ (by decide) (by decide)

/-- The kernel's result is the reference's. -/
theorem G_eq (a : FVec Ideal S4096x512 .f32) (d : FVec Ideal S4096x1024 .f32) (h0 : V m c main_v0 = castA a) (h1 : V m c main_arg2 = d) : Value.G2 m c = refA a d := by
  funext y
  obtain ⟨p, s, rfl⟩ := ix2_ex y
  have e : Value.G2 m c = (outsAt0 m c (3) (pt_lt 3)).1 := (Value.G2_last m c).trans (congrArg Prod.fst (Value.outsAt0_sweep m c 3 (pt_lt 3)).symm)
  refine (congrFun e (ix2 p s)).trans ?_
  refine (congrFun (out_3 m c) (ix2 p s)).trans ?_
  refine (step_at m c 3 p s a d h0 h1 _).trans ?_
  rw [acc_2, show k0_pay2 (outsAt0 m c (1) (pt_lt 1)).2 (iblk m c 0 ⟨2, pt_lt 2⟩) (iblk m c 1 ⟨2, pt_lt 2⟩) (ix2 p s) = _ from step_at m c 2 p s a d h0 h1 _,
    acc_1, show k0_pay2 (outsAt0 m c (0) (pt_lt 0)).2 (iblk m c 0 ⟨1, pt_lt 1⟩) (iblk m c 1 ⟨1, pt_lt 1⟩) (ix2 p s) = _ from step_at m c 1 p s a d h0 h1 _,
    acc_0, show k0_pay2 (k0_pay1 (F := Ideal)) (iblk m c 0 ⟨0, pt_lt 0⟩) (iblk m c 1 ⟨0, pt_lt 0⟩) (ix2 p s) = _ from step_at m c 0 p s a d h0 h1 _,
    zero_at, zero_add, refA_at, sum_quarters]
  simp only [Fin.sum_univ_four, mul_comm]

end Cert.KUpDwIdeal.Host0

namespace Cert.Proof

open Cert.KUpDwIdeal.Host0 Idealize.ShloMosaic Idealize.ShloMosaic.TcCoe Idealize.SL.Sem

/-- For equal arguments the kernel's result and the reference's are equal. -/
theorem algebraic_kupdw : Cert.algebraic_KUpDwIdeal_KUpDwReferenceIdeal :=
  fun m ρ m' ρ' _ heq =>
  ⟨fun c => Cert.KUpDwIdeal.Value.G2 m c,
   Cert.KUpDwIdeal.Value.run m ρ,
   (θ_run (Cert.KUpDwReferenceIdeal.defs (F := Ideal)) _ _).mono (fun _ h c => ⟨(h c).1.trans (by
      refine Eq.trans ?_ (G_eq m c _ _ (V_a m c) (V_d m c)).symm
      rw [(heq c).1, (heq c).2.2]
      rfl), (h c).2⟩)
     (Cert.KUpDwReferenceIdeal.Value.run (F := Ideal) m' ρ')⟩

end Cert.Proof

end
-- ==== Proof.VUpValue.lean ====
/- The values' up-projection: kernel and reference agree. -/
module

public import proofs.«01_k».proof.Proof.Gen.VUpIdeal.Value
public import proofs.«01_k».proof.Proof.Gen.VUpReferenceIdeal.Run
public import proofs.«01_k».proof.Proof.FfnSum
public import proofs.«01_k».proof.Defs
public import Idealize.ShloMosaic.Lib.Pointwise
public import Idealize.ShloMosaic.Lib.StableHlo.RunRead

@[expose] public section

set_option maxRecDepth 16384
set_option Elab.async false

noncomputable section

namespace Cert.VUpIdeal.Host0

open Cert.VUpIdeal Cert.VUpIdeal.Gen Idealize.ShloMosaic Idealize.ShloMosaic.TcCoe Idealize.ShloMosaic.Tactic Idealize.SL.Sem
open Cert.Ffn

theorem zero2 : (![0, 0] : Fin 2 → Nat) = fun _ => 0 := funext fun a => by fin_cases a <;> rfl

/-- A weight in the kernel's type. -/
def castW (x : FVec Ideal S512x1024 .f32) : FVec Ideal S512x1024 .bf16 := truncf .bf16 x bitsLt_bf16_f32

/-- The input in the kernel's type. -/
def castA (x : FVec Ideal S4096x512 .f32) : FVec Ideal S4096x512 .bf16 := truncf .bf16 x bitsLt_bf16_f32

/-- What a grid point stores in the output block. -/
theorem outq (x0 : Vec Ideal S1024x512 .bf16) (x1 : Vec Ideal S512x1024 .bf16) : out0_2 x0 x1 = k0_pay1 x0 x1 := by
  unfold out0_2
  rw [View.canon_unit_zero zero2]
  simp only [View.ld_unit_zero (S := S1024x512) zero2, View.ld_unit_zero (S := S512x1024) zero2]

theorem pay_at (x0 : Vec Ideal S1024x512 .bf16) (x1 : Vec Ideal S512x1024 .bf16) (r : Fin 1024) (s : Fin 1024) :
    k0_pay1 x0 x1 (ix2 r s) = ∑ p : Fin 512, x0 (ix2 r p) * x1 (ix2 p s) := by
  pointwise [k0_pay1]

/-- The reference's array. -/
def refA (a : FVec Ideal S4096x512 .f32) (w : FVec Ideal S512x1024 .f32) : FVec Ideal S4096x1024 .bf16 :=
  truncf .bf16 (Host.dotGeneral Cert.VUpReferenceIdeal.dot_S4096x512_S512x1024_S4096x1024_1_0_0_1_n_n none a w) bitsLt_bf16_f32

theorem refA_at (a : FVec Ideal S4096x512 .f32) (w : FVec Ideal S512x1024 .f32) (n : Fin 4096) (s : Fin 1024) :
    refA a w (ix2 n s) = ∑ p : Fin 512, a (ix2 n p) * w (ix2 p s) := by
  pointwise [refA, shapeCast_self]

/-- Where each window's block lies at grid point `t`. -/
theorem places : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

variable (m : (ℓ : Loc nD τ sig) → Buf (Elt Ideal) ℓ) (c : Dev nD) (i : Fin 4) (r : Fin 1024) (p : Fin 512) (s : Fin 1024)

theorem V_x : V m c main_v0 = castA (m ((c : Thread nD τ).loc main_arg0)) := by
  unfold V; after_reads_simp; rfl

theorem V_w : V m c main_v1 = castW (m ((c : Thread nD τ).loc main_arg1)) := by
  unfold V; after_reads_simp; rfl

/-- Grid point of row block `i`. -/
theorem pt_lt : i.val < cfg0.N := lt_of_lt_of_eq (by omega) N_0.symm

theorem emb_0 : (win0_0.rect ⟨i.val, pt_lt i⟩).emb (ix2 r p) = (ix2 (quarter i r) p : S4096x512.Idx) := by
  obtain ⟨h0, h1⟩ := (places ⟨i.val, pt_lt i⟩).1
  try simp only [] at h0 h1
  refine ix2_eq ((Pipeline.Window.rect_emb_val _ _ _ _).trans ?_) ((Pipeline.Window.rect_emb_val _ _ _ _).trans ?_)
  · show win0_0.index ⟨i.val, pt_lt i⟩ (0 : Fin 2) * 1024 + r.val = 1024 * i.val + r.val
    rw [h0]; omega
  · show win0_0.index ⟨i.val, pt_lt i⟩ (1 : Fin 2) * 512 + p.val = p.val
    rw [h1]; omega

theorem emb_1 : (win0_1.rect ⟨i.val, pt_lt i⟩).emb (ix2 p s) = (ix2 p s : S512x1024.Idx) := by
  obtain ⟨h0, h1⟩ := (places ⟨i.val, pt_lt i⟩).2.1
  try simp only [] at h0 h1
  refine ix2_eq ((Pipeline.Window.rect_emb_val _ _ _ _).trans ?_) ((Pipeline.Window.rect_emb_val _ _ _ _).trans ?_)
  · show win0_1.index ⟨i.val, pt_lt i⟩ (0 : Fin 2) * 512 + p.val = p.val
    rw [h0]; omega
  · show win0_1.index ⟨i.val, pt_lt i⟩ (1 : Fin 2) * 1024 + s.val = s.val
    rw [h1]; omega

theorem emb_2 : (win0_2.rect ⟨i.val, pt_lt i⟩).emb (ix2 r s) = (ix2 (quarter i r) s : S4096x1024.Idx) := by
  obtain ⟨h0, h1⟩ := (places ⟨i.val, pt_lt i⟩).2.2
  try simp only [] at h0 h1
  refine ix2_eq ((Pipeline.Window.rect_emb_val _ _ _ _).trans ?_) ((Pipeline.Window.rect_emb_val _ _ _ _).trans ?_)
  · show win0_2.index ⟨i.val, pt_lt i⟩ (0 : Fin 2) * 1024 + r.val = 1024 * i.val + r.val
    rw [h0]; omega
  · show win0_2.index ⟨i.val, pt_lt i⟩ (1 : Fin 2) * 1024 + s.val = s.val
    rw [h1]; omega

/-- The input windows' blocks, over arrays they are read from. -/
theorem blk0 (x : FVec Ideal S4096x512 .f32) (h0 : V m c main_v0 = castA x) : iblk m c 0 ⟨i.val, pt_lt i⟩ (ix2 r p) = x (ix2 (quarter i r) p) :=
  (congrArg (V m c main_v0) (emb_0 i r p)).trans (by rw [h0]; rfl)

theorem blk1 (w : FVec Ideal S512x1024 .f32) (h1 : V m c main_v1 = castW w) : iblk m c 1 ⟨i.val, pt_lt i⟩ (ix2 p s) = w (ix2 p s) :=
  (congrArg (V m c main_v1) (emb_1 i p s)).trans (by rw [h1]; rfl)

/-- An element of the result is the one its block's grid point stored. -/
theorem elem_q : (dats m 0 c).arrAt 2 cfg0.N (ix2 (quarter i r) s : S4096x1024.Idx) = out0_2 (iblk m c 0 ⟨i.val, pt_lt i⟩) (iblk m c 1 ⟨i.val, pt_lt i⟩) (ix2 r s) :=
  (congrArg ((dats m 0 c).arrAt 2 cfg0.N) (emb_2 i r s)).symm.trans
    (((dats m 0 c).arrAt_emb_eq_flushed 2 Value.disjoint2 ⟨i.val, pt_lt i⟩ (flush0_2 _) (ix2 r s)).trans
      (congrFun (Value.flushed2 m c ⟨i.val, pt_lt i⟩) (ix2 r s)))

/-- The result is the reference's. -/
theorem res (x : FVec Ideal S4096x512 .f32) (w : FVec Ideal S512x1024 .f32) (h0 : V m c main_v0 = castA x) (h1 : V m c main_v1 = castW w) : (dats m 0 c).arrAt 2 cfg0.N = refA x w := by
  funext y
  obtain ⟨R, s, rfl⟩ := ix2_ex y
  obtain ⟨i, r, rfl⟩ := row_split R
  refine (elem_q m c i r s).trans ?_
  rw [outq]
  refine (pay_at _ _ r s).trans ?_
  rw [refA_at]
  exact Finset.sum_congr rfl fun p _ => congrArg₂ (fun u v : EReal => u * v) (blk0 m c i r p x h0) (blk1 m c i p s w h1)

end Cert.VUpIdeal.Host0

namespace Cert.Proof

open Cert.VUpIdeal.Host0 Cert.VUpIdeal.Gen Idealize.ShloMosaic Idealize.ShloMosaic.TcCoe Idealize.SL.Sem

/-- For equal arguments the kernel's result and the reference's are equal. -/
theorem algebraic_vup : Cert.algebraic_VUpIdeal_VUpReferenceIdeal :=
  fun m ρ m' ρ' _ heq =>
  ⟨fun c => (dats m 0 c).arrAt 2 Cert.VUpIdeal.cfg0.N,
   Cert.VUpIdeal.Value.run_blocks m ρ,
   (θ_run (Cert.VUpReferenceIdeal.defs (F := Ideal)) _ _).mono (fun _ h c => ⟨(h c).1.trans (by
      refine Eq.trans ?_ (res m c _ _ (V_x m c) (V_w m c)).symm
      rw [(heq c).1, (heq c).2]
      rfl), (h c).2⟩)
     (Cert.VUpReferenceIdeal.Value.run (F := Ideal) m' ρ')⟩

end Cert.Proof

end
-- ==== Proof.VUpDcValue.lean ====
/- The gradient of the values' up-projection's input: kernel and reference agree. -/
module

public import proofs.«01_k».proof.Proof.Gen.VUpDcIdeal.Value
public import proofs.«01_k».proof.Proof.Gen.VUpDcReferenceIdeal.Run
public import proofs.«01_k».proof.Proof.FfnSum
public import proofs.«01_k».proof.Defs
public import Idealize.ShloMosaic.Lib.Pointwise
public import Idealize.ShloMosaic.Lib.StableHlo.RunRead

@[expose] public section

set_option maxRecDepth 16384
set_option Elab.async false

noncomputable section

namespace Cert.VUpDcIdeal.Host0

open Cert.VUpDcIdeal Cert.VUpDcIdeal.Gen Idealize.ShloMosaic Idealize.ShloMosaic.TcCoe Idealize.ShloMosaic.Tactic Idealize.SL.Sem
open Cert.Ffn

theorem zero2 : (![0, 0] : Fin 2 → Nat) = fun _ => 0 := funext fun a => by fin_cases a <;> rfl

/-- A weight in the kernel's type. -/
def castW (x : FVec Ideal S512x1024 .f32) : FVec Ideal S512x1024 .bf16 := truncf .bf16 x bitsLt_bf16_f32

/-- What a grid point stores in the output block. -/
theorem outq (x0 : Vec Ideal S1024x1024 .f32) (x1 : Vec Ideal S512x1024 .bf16) : out0_2 x0 x1 = k0_pay1 x0 x1 := by
  unfold out0_2
  rw [View.canon_unit_zero zero2]
  simp only [View.ld_unit_zero (S := S1024x1024) zero2, View.ld_unit_zero (S := S512x1024) zero2]

theorem pay_at (x0 : Vec Ideal S1024x1024 .f32) (x1 : Vec Ideal S512x1024 .bf16) (r : Fin 1024) (s : Fin 512) :
    k0_pay1 x0 x1 (ix2 r s) = ∑ p : Fin 1024, x0 (ix2 r p) * x1 (ix2 s p) := by
  pointwise [k0_pay1]

/-- The reference's array. -/
def refA (d : FVec Ideal S4096x1024 .f32) (w : FVec Ideal S512x1024 .f32) : FVec Ideal S4096x512 .f32 :=
  Host.dotGeneral Cert.VUpDcReferenceIdeal.dot_S4096x1024_S512x1024_S4096x512_1_1_0_0_n_n none d w

theorem refA_at (d : FVec Ideal S4096x1024 .f32) (w : FVec Ideal S512x1024 .f32) (n : Fin 4096) (s : Fin 512) :
    refA d w (ix2 n s) = ∑ p : Fin 1024, d (ix2 n p) * w (ix2 s p) := by
  pointwise [refA, shapeCast_self]

/-- Where each window's block lies at grid point `t`. -/
theorem places : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

variable (m : (ℓ : Loc nD τ sig) → Buf (Elt Ideal) ℓ) (c : Dev nD) (i : Fin 4) (r : Fin 1024) (p : Fin 1024) (s : Fin 512)

theorem V_x : V m c main_arg2 = (m ((c : Thread nD τ).loc main_arg2)) := by
  unfold V; after_reads_simp

theorem V_w : V m c main_v0 = castW (m ((c : Thread nD τ).loc main_arg1)) := by
  unfold V; after_reads_simp; rfl

/-- Grid point of row block `i`. -/
theorem pt_lt : i.val < cfg0.N := lt_of_lt_of_eq (by omega) N_0.symm

theorem emb_0 : (win0_0.rect ⟨i.val, pt_lt i⟩).emb (ix2 r p) = (ix2 (quarter i r) p : S4096x1024.Idx) := by
  obtain ⟨h0, h1⟩ := (places ⟨i.val, pt_lt i⟩).1
  try simp only [] at h0 h1
  refine ix2_eq ((Pipeline.Window.rect_emb_val _ _ _ _).trans ?_) ((Pipeline.Window.rect_emb_val _ _ _ _).trans ?_)
  · show win0_0.index ⟨i.val, pt_lt i⟩ (0 : Fin 2) * 1024 + r.val = 1024 * i.val + r.val
    rw [h0]; omega
  · show win0_0.index ⟨i.val, pt_lt i⟩ (1 : Fin 2) * 1024 + p.val = p.val
    rw [h1]; omega

theorem emb_1 : (win0_1.rect ⟨i.val, pt_lt i⟩).emb (ix2 s p) = (ix2 s p : S512x1024.Idx) := by
  obtain ⟨h0, h1⟩ := (places ⟨i.val, pt_lt i⟩).2.1
  try simp only [] at h0 h1
  refine ix2_eq ((Pipeline.Window.rect_emb_val _ _ _ _).trans ?_) ((Pipeline.Window.rect_emb_val _ _ _ _).trans ?_)
  · show win0_1.index ⟨i.val, pt_lt i⟩ (0 : Fin 2) * 512 + s.val = s.val
    rw [h0]; omega
  · show win0_1.index ⟨i.val, pt_lt i⟩ (1 : Fin 2) * 1024 + p.val = p.val
    rw [h1]; omega

theorem emb_2 : (win0_2.rect ⟨i.val, pt_lt i⟩).emb (ix2 r s) = (ix2 (quarter i r) s : S4096x512.Idx) := by
  obtain ⟨h0, h1⟩ := (places ⟨i.val, pt_lt i⟩).2.2
  try simp only [] at h0 h1
  refine ix2_eq ((Pipeline.Window.rect_emb_val _ _ _ _).trans ?_) ((Pipeline.Window.rect_emb_val _ _ _ _).trans ?_)
  · show win0_2.index ⟨i.val, pt_lt i⟩ (0 : Fin 2) * 1024 + r.val = 1024 * i.val + r.val
    rw [h0]; omega
  · show win0_2.index ⟨i.val, pt_lt i⟩ (1 : Fin 2) * 512 + s.val = s.val
    rw [h1]; omega

/-- The input windows' blocks, over arrays they are read from. -/
theorem blk0 (x : FVec Ideal S4096x1024 .f32) (h0 : V m c main_arg2 = x) : iblk m c 0 ⟨i.val, pt_lt i⟩ (ix2 r p) = x (ix2 (quarter i r) p) :=
  (congrArg (V m c main_arg2) (emb_0 i r p)).trans (by rw [h0])

theorem blk1 (w : FVec Ideal S512x1024 .f32) (h1 : V m c main_v0 = castW w) : iblk m c 1 ⟨i.val, pt_lt i⟩ (ix2 s p) = w (ix2 s p) :=
  (congrArg (V m c main_v0) (emb_1 i p s)).trans (by rw [h1]; rfl)

/-- An element of the result is the one its block's grid point stored. -/
theorem elem_q : (dats m 0 c).arrAt 2 cfg0.N (ix2 (quarter i r) s : S4096x512.Idx) = out0_2 (iblk m c 0 ⟨i.val, pt_lt i⟩) (iblk m c 1 ⟨i.val, pt_lt i⟩) (ix2 r s) :=
  (congrArg ((dats m 0 c).arrAt 2 cfg0.N) (emb_2 i r s)).symm.trans
    (((dats m 0 c).arrAt_emb_eq_flushed 2 Value.disjoint2 ⟨i.val, pt_lt i⟩ (flush0_2 _) (ix2 r s)).trans
      (congrFun (Value.flushed2 m c ⟨i.val, pt_lt i⟩) (ix2 r s)))

/-- The result is the reference's. -/
theorem res (x : FVec Ideal S4096x1024 .f32) (w : FVec Ideal S512x1024 .f32) (h0 : V m c main_arg2 = x) (h1 : V m c main_v0 = castW w) : (dats m 0 c).arrAt 2 cfg0.N = refA x w := by
  funext y
  obtain ⟨R, s, rfl⟩ := ix2_ex y
  obtain ⟨i, r, rfl⟩ := row_split R
  refine (elem_q m c i r s).trans ?_
  rw [outq]
  refine (pay_at _ _ r s).trans ?_
  rw [refA_at]
  exact Finset.sum_congr rfl fun p _ => congrArg₂ (fun u v : EReal => u * v) (blk0 m c i r p x h0) (blk1 m c i p s w h1)

end Cert.VUpDcIdeal.Host0

namespace Cert.Proof

open Cert.VUpDcIdeal.Host0 Cert.VUpDcIdeal.Gen Idealize.ShloMosaic Idealize.ShloMosaic.TcCoe Idealize.SL.Sem

/-- For equal arguments the kernel's result and the reference's are equal. -/
theorem algebraic_vupdc : Cert.algebraic_VUpDcIdeal_VUpDcReferenceIdeal :=
  fun m ρ m' ρ' _ heq =>
  ⟨fun c => (dats m 0 c).arrAt 2 Cert.VUpDcIdeal.cfg0.N,
   Cert.VUpDcIdeal.Value.run_blocks m ρ,
   (θ_run (Cert.VUpDcReferenceIdeal.defs (F := Ideal)) _ _).mono (fun _ h c => ⟨(h c).1.trans (by
      refine Eq.trans ?_ (res m c _ _ (V_x m c) (V_w m c)).symm
      rw [(heq c).2.1, (heq c).2.2]
      rfl), (h c).2⟩)
     (Cert.VUpDcReferenceIdeal.Value.run (F := Ideal) m' ρ')⟩

end Cert.Proof

end
-- ==== Proof.VUpDwPoint.lean ====
/- The gradient of the values' up-projection's weight: what each grid point leaves in the accumulator and in the output block. -/
module

public import proofs.«01_k».proof.Proof.Gen.VUpDwIdeal.Value

@[expose] public section

set_option maxRecDepth 16384
set_option Elab.async false

noncomputable section

namespace Cert.VUpDwIdeal.Gen

open Cert.VUpDwIdeal Idealize.ShloMosaic Idealize.ShloMosaic.TcCoe Idealize.ShloMosaic.Tactic Idealize.SL.Sem

variable {F : FTy → Type} [FloatOps F]

theorem zero2 : (![0, 0] : Fin 2 → Nat) = fun _ => 0 := funext fun a => by fin_cases a <;> rfl

/-- The first point leaves the first product, added to zero, in the accumulator. -/
theorem first_acc (c : Dev nD) (i : grid0.Coords) (arg2 : Memref sig .tc .vmem S1024x512 .bf16) (harg2 : arg2.IsWhole) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (hc0 : cond0_0 i) (hc1 : ¬cond0_1 i) (x0 : Vec F S1024x512 .bf16) (x1 : Vec F S1024x1024 .f32) :
    sout0_A_0 c i arg2 harg2 arg3 harg3 arg4 harg4 arg5 harg5 hc0 hc1 x0 x1 = k0_pay2 (k0_pay1 (F := F)) x0 x1 := by
  unfold sout0_A_0
  rw [View.read_writes_eq_canon _ _ _ (scover0_A_0 c i arg2 harg2 arg3 harg3 arg4 harg4 arg5 harg5 hc0 hc1 x0 x1)]
  unfold kernelRun0_A
  dsimp only
  try sl_unfold_words
  rw [View.canon_cons_unit_zero (S := S512x1024) zero2, View.readCov_unit_zero (S := S512x1024) _ zero2]
  simp only [View.readAt_eq_ld, harg2.read_unread, harg3.read_unread, harg4.read_unread, harg5.read_unread, View.ld_unit_zero (S := S1024x1024) zero2, View.ld_unit_zero (S := S1024x512) zero2, View.ld_unit_zero (S := S512x1024) zero2, shapeCast_self]

/-- A middle point adds its product to the accumulator. -/
theorem mid_acc (c : Dev nD) (i : grid0.Coords) (arg2 : Memref sig .tc .vmem S1024x512 .bf16) (harg2 : arg2.IsWhole) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (hc0 : ¬cond0_0 i) (hc1 : ¬cond0_1 i) (x0 : Vec F S1024x512 .bf16) (x1 : Vec F S1024x1024 .f32) (xs0 : Vec F S512x1024 .f32) :
    sout0_B_0 c i arg2 harg2 arg3 harg3 arg4 harg4 arg5 harg5 hc0 hc1 x0 x1 xs0 = k0_pay2 xs0 x0 x1 := by
  unfold sout0_B_0
  rw [View.read_writes_eq_canon _ _ _ (scover0_B_0 c i arg2 harg2 arg3 harg3 arg4 harg4 arg5 harg5 hc0 hc1 x0 x1 xs0)]
  unfold kernelRun0_B
  dsimp only
  try sl_unfold_words
  rw [View.canon_unit_zero zero2]
  simp only [View.readAt_eq_ld, harg2.read_unread, harg3.read_unread, harg4.read_unread, harg5.read_unread, View.ld_unit_zero (S := S1024x1024) zero2, View.ld_unit_zero (S := S1024x512) zero2, View.ld_unit_zero (S := S512x1024) zero2, shapeCast_self]

/-- The last point leaves the accumulator with its product added in the output block. -/
theorem last_out (c : Dev nD) (i : grid0.Coords) (arg2 : Memref sig .tc .vmem S1024x512 .bf16) (harg2 : arg2.IsWhole) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (hc0 : ¬cond0_0 i) (hc1 : cond0_1 i) (x0 : Vec F S1024x512 .bf16) (x1 : Vec F S1024x1024 .f32) (xs0 : Vec F S512x1024 .f32) :
    out0_C_2 c i arg2 harg2 arg3 harg3 arg4 harg4 arg5 harg5 hc0 hc1 x0 x1 xs0 = k0_pay2 xs0 x0 x1 := by
  unfold out0_C_2
  rw [View.read_writes_eq_canon _ _ _ (cover0_C_2 c i arg2 harg2 arg3 harg3 arg4 harg4 arg5 harg5 hc0 hc1 x0 x1 xs0)]
  unfold kernelRun0_C
  dsimp only
  try sl_unfold_words
  rw [View.canon_unit_zero zero2]
  simp only [View.readCov_unit_zero (S := S512x1024) _ zero2, View.readAt_eq_ld, harg2.read_unread, harg3.read_unread, harg4.read_unread, harg5.read_unread, View.ld_unit_zero (S := S1024x1024) zero2, View.ld_unit_zero (S := S1024x512) zero2, View.ld_unit_zero (S := S512x1024) zero2, shapeCast_self]

variable (m : (ℓ : Loc nD τ sig) → Buf (Elt F) ℓ) (c : Dev nD) (t : Fin cfg0.N)

/-- The accumulator after the first point. -/
theorem acc_of (h0 : t.val % 4 = 0) (h1 : ¬t.val % 4 = 3) :
    (outsAt0 m c t.val t.isLt).2 = k0_pay2 (k0_pay1 (F := F)) (iblk m c 0 t) (iblk m c 1 t) := by
  rw [outsAt0_A m c t h0 h1]
  dsimp only
  exact first_acc c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- The accumulator after a middle point. -/
theorem mid_of (h0 : ¬t.val % 4 = 0) (h1 : ¬t.val % 4 = 3) :
    (outsAt0 m c t.val t.isLt).2 = k0_pay2 (outsAt0 m c (t.val - 1) (Nat.lt_of_le_of_lt (Nat.sub_le _ _) t.isLt)).2 (iblk m c 0 t) (iblk m c 1 t) := by
  rw [outsAt0_B m c t h0 h1]
  dsimp only
  exact mid_acc c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2

/-- The output block after the last point. -/
theorem out_of (h0 : ¬t.val % 4 = 0) (h1 : t.val % 4 = 3) :
    (outsAt0 m c t.val t.isLt).1 = k0_pay2 (outsAt0 m c (t.val - 1) (Nat.lt_of_le_of_lt (Nat.sub_le _ _) t.isLt)).2 (iblk m c 0 t) (iblk m c 1 t) := by
  rw [outsAt0_C m c t h0 h1]
  dsimp only
  exact last_out c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2

end Cert.VUpDwIdeal.Gen

end
-- ==== Proof.VUpDwValue.lean ====
/- The gradient of the values' up-projection's weight: kernel and reference agree. -/
module

public import proofs.«01_k».proof.Proof.VUpDwPoint
public import proofs.«01_k».proof.Proof.Gen.VUpDwReferenceIdeal.Run
public import proofs.«01_k».proof.Proof.FfnSum
public import proofs.«01_k».proof.Defs
public import Idealize.ShloMosaic.Lib.Pointwise
public import Idealize.ShloMosaic.Lib.StableHlo.RunRead

@[expose] public section

set_option maxRecDepth 16384
set_option Elab.async false

noncomputable section

namespace Cert.VUpDwIdeal.Host0

open Cert.VUpDwIdeal Cert.VUpDwIdeal.Gen Idealize.ShloMosaic Idealize.ShloMosaic.TcCoe Idealize.ShloMosaic.Tactic Idealize.SL.Sem
open Cert.Ffn

/-- The input in the kernel's type. -/
def castA (x : FVec Ideal S4096x512 .f32) : FVec Ideal S4096x512 .bf16 := truncf .bf16 x bitsLt_bf16_f32

/-- One grid point's term: the accumulated array and the product. -/
theorem pay_at (acc : FVec Ideal S512x1024 .f32) (a : FVec Ideal S1024x512 .bf16) (d : FVec Ideal S1024x1024 .f32) (p : Fin 512) (s : Fin 1024) :
    k0_pay2 acc a d (ix2 p s) = acc (ix2 p s) + ∑ r : Fin 1024, a (ix2 r p) * d (ix2 r s) := by
  pointwise [k0_pay2]

theorem zero_at (p : Fin 512) (s : Fin 1024) : k0_pay1 (F := Ideal) (ix2 p s) = 0 := by
  pointwise [k0_pay1]

/-- The reference's array. -/
def refA (a : FVec Ideal S4096x512 .f32) (d : FVec Ideal S4096x1024 .f32) : FVec Ideal S512x1024 .f32 :=
  transpose Cert.VUpDwReferenceIdeal.S512x1024 [1, 0] (Host.dotGeneral Cert.VUpDwReferenceIdeal.dot_S4096x1024_S4096x512_S1024x512_0_0_1_1_n_n none d a) Cert.VUpDwReferenceIdeal.Gen.transposes_S1024x512_S512x1024_1_0

theorem refA_at (a : FVec Ideal S4096x512 .f32) (d : FVec Ideal S4096x1024 .f32) (p : Fin 512) (s : Fin 1024) :
    refA a d (ix2 p s) = ∑ n : Fin 4096, d (ix2 n s) * a (ix2 n p) := by
  pointwise [refA, shapeCast_self]

/-- A sum over the rows is the sum over the quarters of the sums over their rows. -/
theorem sum_quarters (f : Fin 4096 → EReal) : ∑ n, f n = ∑ i : Fin 4, ∑ r : Fin 1024, f (quarter i r) := by
  rw [← Fintype.sum_prod_type']
  refine (Fintype.sum_equiv (finProdFinEquiv (m := 4) (n := 1024)) _ _ fun x => congrArg f (Fin.ext ?_)).symm
  show 1024 * x.1.val + x.2.val = x.2.val + 1024 * x.1.val
  omega

/-- Where each window's block lies at grid point `t`. -/
theorem places : ∀ t : Fin cfg0.N,
    (win0_0.index t (0 : Fin 2) = t.val ∧ win0_0.index t (1 : Fin 2) = 0)
    ∧ (win0_1.index t (0 : Fin 2) = t.val ∧ win0_1.index t (1 : Fin 2) = 0) :=
  (by decide +kernel : ∀ t : Fin grid0.N, _)

variable (m : (ℓ : Loc nD τ sig) → Buf (Elt Ideal) ℓ) (c : Dev nD) (i : Fin 4) (r : Fin 1024) (p : Fin 512) (s : Fin 1024)

theorem V_a : V m c main_v0 = castA (m ((c : Thread nD τ).loc main_arg0)) := by
  unfold V; after_reads_simp; rfl

theorem V_d : V m c main_arg2 = (m ((c : Thread nD τ).loc main_arg2)) := by
  unfold V; after_reads_simp

/-- Grid point of row block `i`. -/
theorem pt_lt : i.val < cfg0.N := lt_of_lt_of_eq (by omega) N_0.symm

theorem emb_0 : (win0_0.rect ⟨i.val, pt_lt i⟩).emb (ix2 r p) = (ix2 (quarter i r) p : S4096x512.Idx) := by
  obtain ⟨h0, h1⟩ := (places ⟨i.val, pt_lt i⟩).1
  try simp only [] at h0 h1
  refine ix2_eq ((Pipeline.Window.rect_emb_val _ _ _ _).trans ?_) ((Pipeline.Window.rect_emb_val _ _ _ _).trans ?_)
  · show win0_0.index ⟨i.val, pt_lt i⟩ (0 : Fin 2) * 1024 + r.val = 1024 * i.val + r.val
    rw [h0]; omega
  · show win0_0.index ⟨i.val, pt_lt i⟩ (1 : Fin 2) * 512 + p.val = p.val
    rw [h1]; omega

theorem emb_1 : (win0_1.rect ⟨i.val, pt_lt i⟩).emb (ix2 r s) = (ix2 (quarter i r) s : S4096x1024.Idx) := by
  obtain ⟨h0, h1⟩ := (places ⟨i.val, pt_lt i⟩).2
  try simp only [] at h0 h1
  refine ix2_eq ((Pipeline.Window.rect_emb_val _ _ _ _).trans ?_) ((Pipeline.Window.rect_emb_val _ _ _ _).trans ?_)
  · show win0_1.index ⟨i.val, pt_lt i⟩ (0 : Fin 2) * 1024 + r.val = 1024 * i.val + r.val
    rw [h0]; omega
  · show win0_1.index ⟨i.val, pt_lt i⟩ (1 : Fin 2) * 1024 + s.val = s.val
    rw [h1]; omega

/-- One grid point's step, over arrays the windows' blocks are read from. -/
theorem step_at (a : FVec Ideal S4096x512 .f32) (d : FVec Ideal S4096x1024 .f32) (h0 : V m c main_v0 = castA a) (h1 : V m c main_arg2 = d) (acc : FVec Ideal S512x1024 .f32) :
    k0_pay2 acc (iblk m c 0 ⟨i.val, pt_lt i⟩) (iblk m c 1 ⟨i.val, pt_lt i⟩) (ix2 p s) = acc (ix2 p s) + ∑ r : Fin 1024, a (ix2 (quarter i r) p) * d (ix2 (quarter i r) s) := by
  refine (pay_at _ _ _ p s).trans ?_
  have e0 : ∀ r : Fin 1024, iblk m c 0 ⟨i.val, pt_lt i⟩ (ix2 r p) = a (ix2 (quarter i r) p) := fun r =>
    (congrArg (V m c main_v0) (emb_0 i r p)).trans (by rw [h0]; rfl)
  have e1 : ∀ r : Fin 1024, iblk m c 1 ⟨i.val, pt_lt i⟩ (ix2 r s) = d (ix2 (quarter i r) s) := fun r =>
    (congrArg (V m c main_arg2) (emb_1 i r s)).trans (by rw [h1])
  simp only [e0, e1]

/-- The accumulator after each of the first three points, and the output block after the last. -/
theorem acc_0 : (outsAt0 m c (0) (pt_lt 0)).2 = k0_pay2 (k0_pay1 (F := Ideal)) (iblk m c 0 ⟨0, pt_lt 0⟩) (iblk m c 1 ⟨0, pt_lt 0⟩) :=
  acc_of m c ⟨0, pt_lt 0⟩ (by decide) (by decide)

theorem acc_1 : (outsAt0 m c (1) (pt_lt 1)).2 = k0_pay2 (outsAt0 m c (0) (pt_lt 0)).2 (iblk m c 0 ⟨1, pt_lt 1⟩) (iblk m c 1 ⟨1, pt_lt 1⟩) :=
  mid_of m c ⟨1, pt_lt 1⟩ (by decide) (by decide)

theorem acc_2 : (outsAt0 m c (2) (pt_lt 2)).2 = k0_pay2 (outsAt0 m c (1) (pt_lt 1)).2 (iblk m c 0 ⟨2, pt_lt 2⟩) (iblk m c 1 ⟨2, pt_lt 2⟩) :=
  mid_of m c ⟨2, pt_lt 2⟩ (by decide) (by decide)

theorem out_3 : (outsAt0 m c (3) (pt_lt 3)).1 = k0_pay2 (outsAt0 m c (2) (pt_lt 2)).2 (iblk m c 0 ⟨3, pt_lt 3⟩) (iblk m c 1 ⟨3, pt_lt 3⟩) :=
  out_of m c ⟨3, pt_lt 3⟩ (by decide) (by decide)

/-- The kernel's result is the reference's. -/
theorem G_eq (a : FVec Ideal S4096x512 .f32) (d : FVec Ideal S4096x1024 .f32) (h0 : V m c main_v0 = castA a) (h1 : V m c main_arg2 = d) : Value.G2 m c = refA a d := by
  funext y
  obtain ⟨p, s, rfl⟩ := ix2_ex y
  have e : Value.G2 m c = (outsAt0 m c (3) (pt_lt 3)).1 := (Value.G2_last m c).trans (congrArg Prod.fst (Value.outsAt0_sweep m c 3 (pt_lt 3)).symm)
  refine (congrFun e (ix2 p s)).trans ?_
  refine (congrFun (out_3 m c) (ix2 p s)).trans ?_
  refine (step_at m c 3 p s a d h0 h1 _).trans ?_
  rw [acc_2, show k0_pay2 (outsAt0 m c (1) (pt_lt 1)).2 (iblk m c 0 ⟨2, pt_lt 2⟩) (iblk m c 1 ⟨2, pt_lt 2⟩) (ix2 p s) = _ from step_at m c 2 p s a d h0 h1 _,
    acc_1, show k0_pay2 (outsAt0 m c (0) (pt_lt 0)).2 (iblk m c 0 ⟨1, pt_lt 1⟩) (iblk m c 1 ⟨1, pt_lt 1⟩) (ix2 p s) = _ from step_at m c 1 p s a d h0 h1 _,
    acc_0, show k0_pay2 (k0_pay1 (F := Ideal)) (iblk m c 0 ⟨0, pt_lt 0⟩) (iblk m c 1 ⟨0, pt_lt 0⟩) (ix2 p s) = _ from step_at m c 0 p s a d h0 h1 _,
    zero_at, zero_add, refA_at, sum_quarters]
  simp only [Fin.sum_univ_four, mul_comm]

end Cert.VUpDwIdeal.Host0

namespace Cert.Proof

open Cert.VUpDwIdeal.Host0 Idealize.ShloMosaic Idealize.ShloMosaic.TcCoe Idealize.SL.Sem

/-- For equal arguments the kernel's result and the reference's are equal. -/
theorem algebraic_vupdw : Cert.algebraic_VUpDwIdeal_VUpDwReferenceIdeal :=
  fun m ρ m' ρ' _ heq =>
  ⟨fun c => Cert.VUpDwIdeal.Value.G2 m c,
   Cert.VUpDwIdeal.Value.run m ρ,
   (θ_run (Cert.VUpDwReferenceIdeal.defs (F := Ideal)) _ _).mono (fun _ h c => ⟨(h c).1.trans (by
      refine Eq.trans ?_ (G_eq m c _ _ (V_a m c) (V_d m c)).symm
      rw [(heq c).1, (heq c).2.2]
      rfl), (h c).2⟩)
     (Cert.VUpDwReferenceIdeal.Value.run (F := Ideal) m' ρ')⟩

end Cert.Proof

end
-- ==== Proof.lean ====
/- The certificate of the query gradient of the chunk-causal attention, of the six calls of the FFN and of products of
   the projections: frames, preservation by the idealization, values. The value of each of these calls is in Proof/…Value. The run of the query gradient's launch: the run
   of the kernel's program is in Proof/DqTables … DqLaunch, for any float type; the same modules over the
   printed program before the idealization are Proof/KDqTables … KDqLaunch. -/
module

public import proofs.«01_k».proof.Proof.Gen.Pre_finite_ffn
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutReferenceIdeal
public import proofs.«01_k».proof.Proof.Gen.OutReferenceIdeal.Run
public import proofs.«01_k».proof.Proof.Gen.Do
public import proofs.«01_k».proof.Proof.Gen.Do.Frame
public import proofs.«01_k».proof.Proof.Gen.DoIdeal
public import proofs.«01_k».proof.Proof.Gen.DoIdeal.Frame
public import proofs.«01_k».proof.Proof.Gen.DoIdeal.Value
public import proofs.«01_k».proof.Proof.Gen.DoReferenceIdeal
public import proofs.«01_k».proof.Proof.Gen.DoReferenceIdeal.Run
public import proofs.«01_k».proof.Proof.Gen.Dwo
public import proofs.«01_k».proof.Proof.Gen.Dwo.Frame
public import proofs.«01_k».proof.Proof.Gen.DwoIdeal
public import proofs.«01_k».proof.Proof.Gen.DwoIdeal.Frame
public import proofs.«01_k».proof.Proof.Gen.DwoIdeal.Value
public import proofs.«01_k».proof.Proof.Gen.DwoReferenceIdeal
public import proofs.«01_k».proof.Proof.Gen.DwoReferenceIdeal.Run
public import proofs.«01_k».proof.Proof.Gen.QDown
public import proofs.«01_k».proof.Proof.Gen.QDown.Frame
public import proofs.«01_k».proof.Proof.Gen.QDownIdeal
public import proofs.«01_k».proof.Proof.Gen.QDownIdeal.Frame
public import proofs.«01_k».proof.Proof.Gen.QDownIdeal.Value
public import proofs.«01_k».proof.Proof.Gen.QDownReferenceIdeal
public import proofs.«01_k».proof.Proof.Gen.QDownReferenceIdeal.Run
public import proofs.«01_k».proof.Proof.Gen.QDownDh
public import proofs.«01_k».proof.Proof.Gen.QDownDh.Frame
public import proofs.«01_k».proof.Proof.Gen.QDownDhIdeal
public import proofs.«01_k».proof.Proof.Gen.QDownDhIdeal.Frame
public import proofs.«01_k».proof.Proof.Gen.QDownDhIdeal.Value
public import proofs.«01_k».proof.Proof.Gen.QDownDhReferenceIdeal
public import proofs.«01_k».proof.Proof.Gen.QDownDhReferenceIdeal.Run
public import proofs.«01_k».proof.Proof.Gen.QDownDw
public import proofs.«01_k».proof.Proof.Gen.QDownDw.Frame
public import proofs.«01_k».proof.Proof.Gen.QDownDwIdeal
public import proofs.«01_k».proof.Proof.Gen.QDownDwIdeal.Frame
public import proofs.«01_k».proof.Proof.Gen.QDownDwIdeal.Value
public import proofs.«01_k».proof.Proof.Gen.QDownDwReferenceIdeal
public import proofs.«01_k».proof.Proof.Gen.QDownDwReferenceIdeal.Run
public import proofs.«01_k».proof.Proof.Gen.QUp
public import proofs.«01_k».proof.Proof.Gen.QUp.Frame
public import proofs.«01_k».proof.Proof.Gen.QUpIdeal
public import proofs.«01_k».proof.Proof.Gen.QUpIdeal.Frame
public import proofs.«01_k».proof.Proof.Gen.QUpIdeal.Value
public import proofs.«01_k».proof.Proof.Gen.QUpReferenceIdeal
public import proofs.«01_k».proof.Proof.Gen.QUpReferenceIdeal.Run
public import proofs.«01_k».proof.Proof.Gen.QUpDc
public import proofs.«01_k».proof.Proof.Gen.QUpDc.Frame
public import proofs.«01_k».proof.Proof.Gen.QUpDcIdeal
public import proofs.«01_k».proof.Proof.Gen.QUpDcIdeal.Frame
public import proofs.«01_k».proof.Proof.Gen.QUpDcIdeal.Value
public import proofs.«01_k».proof.Proof.Gen.QUpDcReferenceIdeal
public import proofs.«01_k».proof.Proof.Gen.QUpDcReferenceIdeal.Run
public import proofs.«01_k».proof.Proof.Gen.QUpDw
public import proofs.«01_k».proof.Proof.Gen.QUpDw.Frame
public import proofs.«01_k».proof.Proof.Gen.QUpDwIdeal
public import proofs.«01_k».proof.Proof.Gen.QUpDwIdeal.Frame
public import proofs.«01_k».proof.Proof.Gen.QUpDwIdeal.Value
public import proofs.«01_k».proof.Proof.Gen.QUpDwReferenceIdeal
public import proofs.«01_k».proof.Proof.Gen.QUpDwReferenceIdeal.Run
public import proofs.«01_k».proof.Proof.Gen.KvDown
public import proofs.«01_k».proof.Proof.Gen.KvDown.Frame
public import proofs.«01_k».proof.Proof.Gen.KvDownIdeal
public import proofs.«01_k».proof.Proof.Gen.KvDownIdeal.Frame
public import proofs.«01_k».proof.Proof.Gen.KvDownIdeal.Value
public import proofs.«01_k».proof.Proof.Gen.KvDownReferenceIdeal
public import proofs.«01_k».proof.Proof.Gen.KvDownReferenceIdeal.Run
public import proofs.«01_k».proof.Proof.Gen.KvDownDh
public import proofs.«01_k».proof.Proof.Gen.KvDownDh.Frame
public import proofs.«01_k».proof.Proof.Gen.KvDownDhIdeal
public import proofs.«01_k».proof.Proof.Gen.KvDownDhIdeal.Frame
public import proofs.«01_k».proof.Proof.Gen.KvDownDhIdeal.Value
public import proofs.«01_k».proof.Proof.Gen.KvDownDhReferenceIdeal
public import proofs.«01_k».proof.Proof.Gen.KvDownDhReferenceIdeal.Run
public import proofs.«01_k».proof.Proof.Gen.KvDownDw
public import proofs.«01_k».proof.Proof.Gen.KvDownDw.Frame
public import proofs.«01_k».proof.Proof.Gen.KvDownDwIdeal
public import proofs.«01_k».proof.Proof.Gen.KvDownDwIdeal.Frame
public import proofs.«01_k».proof.Proof.Gen.KvDownDwIdeal.Value
public import proofs.«01_k».proof.Proof.Gen.KvDownDwReferenceIdeal
public import proofs.«01_k».proof.Proof.Gen.KvDownDwReferenceIdeal.Run
public import proofs.«01_k».proof.Proof.Gen.KUp
public import proofs.«01_k».proof.Proof.Gen.KUp.Frame
public import proofs.«01_k».proof.Proof.Gen.KUpIdeal
public import proofs.«01_k».proof.Proof.Gen.KUpIdeal.Frame
public import proofs.«01_k».proof.Proof.Gen.KUpIdeal.Value
public import proofs.«01_k».proof.Proof.Gen.KUpReferenceIdeal
public import proofs.«01_k».proof.Proof.Gen.KUpReferenceIdeal.Run
public import proofs.«01_k».proof.Proof.Gen.KUpDc
public import proofs.«01_k».proof.Proof.Gen.KUpDc.Frame
public import proofs.«01_k».proof.Proof.Gen.KUpDcIdeal
public import proofs.«01_k».proof.Proof.Gen.KUpDcIdeal.Frame
public import proofs.«01_k».proof.Proof.Gen.KUpDcIdeal.Value
public import proofs.«01_k».proof.Proof.Gen.KUpDcReferenceIdeal
public import proofs.«01_k».proof.Proof.Gen.KUpDcReferenceIdeal.Run
public import proofs.«01_k».proof.Proof.Gen.KUpDw
public import proofs.«01_k».proof.Proof.Gen.KUpDw.Frame
public import proofs.«01_k».proof.Proof.Gen.KUpDwIdeal
public import proofs.«01_k».proof.Proof.Gen.KUpDwIdeal.Frame
public import proofs.«01_k».proof.Proof.Gen.KUpDwIdeal.Value
public import proofs.«01_k».proof.Proof.Gen.KUpDwReferenceIdeal
public import proofs.«01_k».proof.Proof.Gen.KUpDwReferenceIdeal.Run
public import proofs.«01_k».proof.Proof.Gen.VUp
public import proofs.«01_k».proof.Proof.Gen.VUp.Frame
public import proofs.«01_k».proof.Proof.Gen.VUpIdeal
public import proofs.«01_k».proof.Proof.Gen.VUpIdeal.Frame
public import proofs.«01_k».proof.Proof.Gen.VUpIdeal.Value
public import proofs.«01_k».proof.Proof.Gen.VUpReferenceIdeal
public import proofs.«01_k».proof.Proof.Gen.VUpReferenceIdeal.Run
public import proofs.«01_k».proof.Proof.Gen.VUpDc
public import proofs.«01_k».proof.Proof.Gen.VUpDc.Frame
public import proofs.«01_k».proof.Proof.Gen.VUpDcIdeal
public import proofs.«01_k».proof.Proof.Gen.VUpDcIdeal.Frame
public import proofs.«01_k».proof.Proof.Gen.VUpDcIdeal.Value
public import proofs.«01_k».proof.Proof.Gen.VUpDcReferenceIdeal
public import proofs.«01_k».proof.Proof.Gen.VUpDcReferenceIdeal.Run
public import proofs.«01_k».proof.Proof.Gen.VUpDw
public import proofs.«01_k».proof.Proof.Gen.VUpDw.Frame
public import proofs.«01_k».proof.Proof.Gen.VUpDwIdeal
public import proofs.«01_k».proof.Proof.Gen.VUpDwIdeal.Frame
public import proofs.«01_k».proof.Proof.Gen.VUpDwIdeal.Value
public import proofs.«01_k».proof.Proof.Gen.VUpDwReferenceIdeal
public import proofs.«01_k».proof.Proof.Gen.VUpDwReferenceIdeal.Run
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpIdeal.Value
public import proofs.«01_k».proof.Proof.Gen.UpReferenceIdeal
public import proofs.«01_k».proof.Proof.Gen.UpReferenceIdeal.Run
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownReferenceIdeal
public import proofs.«01_k».proof.Proof.Gen.DownReferenceIdeal.Run
public import proofs.«01_k».proof.Proof.Gen.Hidden
public import proofs.«01_k».proof.Proof.Gen.Hidden.Frame
public import proofs.«01_k».proof.Proof.Gen.HiddenIdeal
public import proofs.«01_k».proof.Proof.Gen.HiddenIdeal.Frame
public import proofs.«01_k».proof.Proof.Gen.HiddenIdeal.Value
public import proofs.«01_k».proof.Proof.Gen.HiddenReferenceIdeal
public import proofs.«01_k».proof.Proof.Gen.HiddenReferenceIdeal.Run
public import proofs.«01_k».proof.Proof.Gen.Dwd
public import proofs.«01_k».proof.Proof.Gen.Dwd.Frame
public import proofs.«01_k».proof.Proof.Gen.DwdIdeal
public import proofs.«01_k».proof.Proof.Gen.DwdIdeal.Frame
public import proofs.«01_k».proof.Proof.Gen.DwdIdeal.Value
public import proofs.«01_k».proof.Proof.Gen.DwdReferenceIdeal
public import proofs.«01_k».proof.Proof.Gen.DwdReferenceIdeal.Run
public import proofs.«01_k».proof.Proof.Gen.Dwgu
public import proofs.«01_k».proof.Proof.Gen.Dwgu.Frame
public import proofs.«01_k».proof.Proof.Gen.DwguIdeal
public import proofs.«01_k».proof.Proof.Gen.DwguIdeal.Frame
public import proofs.«01_k».proof.Proof.Gen.DwguIdeal.Value
public import proofs.«01_k».proof.Proof.Gen.DwguReferenceIdeal
public import proofs.«01_k».proof.Proof.Gen.DwguReferenceIdeal.Run
public import proofs.«01_k».proof.Proof.Gen.Dh
public import proofs.«01_k».proof.Proof.Gen.Dh.Frame
public import proofs.«01_k».proof.Proof.Gen.DhIdeal
public import proofs.«01_k».proof.Proof.Gen.DhIdeal.Frame
public import proofs.«01_k».proof.Proof.Gen.DhIdeal.Value
public import proofs.«01_k».proof.Proof.Gen.DhReferenceIdeal
public import proofs.«01_k».proof.Proof.Gen.DhReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_finite
public import proofs.«01_k».proof.Proof.DqLaunch
public import proofs.«01_k».proof.Proof.KDqLaunch
public import proofs.«01_k».proof.Proof.DqValue
public import proofs.«01_k».proof.Proof.UpValue
public import proofs.«01_k».proof.Proof.DownValue
public import proofs.«01_k».proof.Proof.HiddenValue
public import proofs.«01_k».proof.Proof.DwdValue
public import proofs.«01_k».proof.Proof.DwguValue
public import proofs.«01_k».proof.Proof.DhValue
public import proofs.«01_k».proof.Proof.OutValue
public import proofs.«01_k».proof.Proof.DoValue
public import proofs.«01_k».proof.Proof.DwoValue
public import proofs.«01_k».proof.Proof.QDownValue
public import proofs.«01_k».proof.Proof.QDownDhValue
public import proofs.«01_k».proof.Proof.QDownDwValue
public import proofs.«01_k».proof.Proof.QUpValue
public import proofs.«01_k».proof.Proof.QUpDcValue
public import proofs.«01_k».proof.Proof.QUpDwValue
public import proofs.«01_k».proof.Proof.KvDownValue
public import proofs.«01_k».proof.Proof.KvDownDhValue
public import proofs.«01_k».proof.Proof.KvDownDwValue
public import proofs.«01_k».proof.Proof.KUpValue
public import proofs.«01_k».proof.Proof.KUpDcValue
public import proofs.«01_k».proof.Proof.KUpDwValue
public import proofs.«01_k».proof.Proof.VUpValue
public import proofs.«01_k».proof.Proof.VUpDcValue
public import proofs.«01_k».proof.Proof.VUpDwValue
public import Idealize.ShloMosaic.PureOps.IdealRules
public import Idealize.ShloMosaic.Adequacy
public import Idealize.ShloMosaic.Init

@[expose] public section

noncomputable section

namespace Cert.Proof

open Idealize.ShloMosaic Idealize.SL.Sem

/-- The printed kernel runs, leaves its arguments and every counter at zero. -/
theorem frame_kernel : Cert.quiescent_Kernel := fun m ρ _ =>
  (θ_run (Cert.Kernel.defs (F := Bits)) _ _).mono (fun _ h => h.1) (Cert.Kernel.Gen.run_main (F := Bits) m ρ)

/-- So does the idealized one, -/
theorem frame_ideal : Cert.quiescent_KernelIdeal := fun m ρ _ =>
  (θ_run (Cert.KernelIdeal.defs (F := Ideal)) _ _).mono (fun _ h => h.1) (Cert.KernelIdeal.Gen.run_main (F := Ideal) m ρ)

/-- from any memory, -/
theorem frame_ideal_any : Cert.quiescent_KernelIdeal_pre_none := fun m ρ _ =>
  (θ_run (Cert.KernelIdeal.defs (F := Ideal)) _ _).mono (fun _ h => h.1) (Cert.KernelIdeal.Gen.run_main (F := Ideal) m ρ)

/-- and so does the reference. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The three named constants are what the table says. -/
theorem preserved : Cert.preserves_Kernel_KernelIdeal :=
  ⟨IdealRules.named_const.statement Cert.KernelIdeal.κ "scale_log2e" .f32 0x3DD53B95#32 (((Real.sqrt 192)⁻¹ * (Real.log 2)⁻¹ : ℝ) : EReal) rfl,
   IdealRules.named_const.statement Cert.KernelIdeal.κ "mask" .f32 0xF149F2CA#32 ⊥ rfl,
   IdealRules.named_const.statement Cert.KernelIdeal.κ "scale" .f32 0x3D93CD3A#32 (((Real.sqrt 192)⁻¹ : ℝ) : EReal) rfl⟩

/-! The FFN's calls: their frames are the generated ones; their programs are idealized by no rule. -/

/-- The call of the two up-projections and the gate: the printed kernel runs and leaves its arguments. -/
theorem frame_up : Cert.quiescent_Up := fun m ρ _ => Cert.Up.Gen.frame m ρ

/-- So does the idealized one, -/
theorem frame_up_ideal : Cert.quiescent_UpIdeal := fun m ρ _ => Cert.UpIdeal.Gen.frame m ρ

/-- and so does the reference. -/
theorem frame_up_reference : Cert.quiescent_UpReferenceIdeal := fun m ρ _ =>
  (θ_run Cert.UpReferenceIdeal.defs _ _).mono (fun r h => ⟨fun c => (h c).2.2.2, Idealize.ShloMosaic.sem_eq_zero_of_no_sems (by decide) r.2⟩)
    (Cert.UpReferenceIdeal.Value.run (F := Ideal) m ρ)

/-- The call of the down-projection with the residual: the printed kernel runs and leaves its arguments. -/
theorem frame_down : Cert.quiescent_Down := fun m ρ _ => Cert.Down.Gen.frame m ρ

/-- So does the idealized one, -/
theorem frame_down_ideal : Cert.quiescent_DownIdeal := fun m ρ _ => Cert.DownIdeal.Gen.frame m ρ

/-- and so does the reference. -/
theorem frame_down_reference : Cert.quiescent_DownReferenceIdeal := fun m ρ _ =>
  (θ_run Cert.DownReferenceIdeal.defs _ _).mono (fun r h => ⟨fun c => (h c).2, Idealize.ShloMosaic.sem_eq_zero_of_no_sems (by decide) r.2⟩)
    (Cert.DownReferenceIdeal.Value.run (F := Ideal) m ρ)

/-- The call of the gradients of the two up-projections' products: the printed kernel runs and leaves its arguments. -/
theorem frame_hidden : Cert.quiescent_Hidden := fun m ρ _ => Cert.Hidden.Gen.frame m ρ

/-- So does the idealized one, -/
theorem frame_hidden_ideal : Cert.quiescent_HiddenIdeal := fun m ρ _ => Cert.HiddenIdeal.Gen.frame m ρ

/-- from any memory, -/
theorem frame_hidden_ideal_any : Cert.quiescent_HiddenIdeal_pre_none := fun m ρ _ => Cert.HiddenIdeal.Gen.frame m ρ

/-- and so does the reference. -/
theorem frame_hidden_reference : Cert.quiescent_HiddenReferenceIdeal := fun m ρ _ =>
  (θ_run Cert.HiddenReferenceIdeal.defs _ _).mono (fun r h => ⟨fun c => (h c).2.2, Idealize.ShloMosaic.sem_eq_zero_of_no_sems (by decide) r.2⟩)
    (Cert.HiddenReferenceIdeal.Value.run (F := Ideal) m ρ)

/-- The call of the gradient of the down-projection's weight: the printed kernel runs and leaves its arguments. -/
theorem frame_dwd : Cert.quiescent_Dwd := fun m ρ _ => Cert.Dwd.Gen.frame m ρ

/-- So does the idealized one, -/
theorem frame_dwd_ideal : Cert.quiescent_DwdIdeal := fun m ρ _ => Cert.DwdIdeal.Gen.frame m ρ

/-- and so does the reference. -/
theorem frame_dwd_reference : Cert.quiescent_DwdReferenceIdeal := fun m ρ _ =>
  (θ_run Cert.DwdReferenceIdeal.defs _ _).mono (fun r h => ⟨fun c => (h c).2, Idealize.ShloMosaic.sem_eq_zero_of_no_sems (by decide) r.2⟩)
    (Cert.DwdReferenceIdeal.Value.run (F := Ideal) m ρ)

/-- The call of the gradients of the two up-projections' weights: the printed kernel runs and leaves its arguments. -/
theorem frame_dwgu : Cert.quiescent_Dwgu := fun m ρ _ => Cert.Dwgu.Gen.frame m ρ

/-- So does the idealized one, -/
theorem frame_dwgu_ideal : Cert.quiescent_DwguIdeal := fun m ρ _ => Cert.DwguIdeal.Gen.frame m ρ

/-- and so does the reference. -/
theorem frame_dwgu_reference : Cert.quiescent_DwguReferenceIdeal := fun m ρ _ =>
  (θ_run Cert.DwguReferenceIdeal.defs _ _).mono (fun r h => ⟨fun c => (h c).2.2, Idealize.ShloMosaic.sem_eq_zero_of_no_sems (by decide) r.2⟩)
    (Cert.DwguReferenceIdeal.Value.run (F := Ideal) m ρ)

/-- The call of the gradient of the layer's input: the printed kernel runs and leaves its arguments. -/
theorem frame_dh : Cert.quiescent_Dh := fun m ρ _ => Cert.Dh.Gen.frame m ρ

/-- So does the idealized one, -/
theorem frame_dh_ideal : Cert.quiescent_DhIdeal := fun m ρ _ => Cert.DhIdeal.Gen.frame m ρ

/-- and so does the reference. -/
theorem frame_dh_reference : Cert.quiescent_DhReferenceIdeal := fun m ρ _ =>
  (θ_run Cert.DhReferenceIdeal.defs _ _).mono (fun r h => ⟨fun c => (h c).2, Idealize.ShloMosaic.sem_eq_zero_of_no_sems (by decide) r.2⟩)
    (Cert.DhReferenceIdeal.Value.run (F := Ideal) m ρ)

/-! The projections' calls. -/

/-- The call of the attention's output projection with the residual: the printed kernel runs and leaves its arguments. -/
theorem frame_out : Cert.quiescent_Out := fun m ρ _ => Cert.Out.Gen.frame m ρ

/-- So does the idealized one, -/
theorem frame_out_ideal : Cert.quiescent_OutIdeal := fun m ρ _ => Cert.OutIdeal.Gen.frame m ρ

/-- and so does the reference. -/
theorem frame_out_reference : Cert.quiescent_OutReferenceIdeal := fun m ρ _ =>
  (θ_run Cert.OutReferenceIdeal.defs _ _).mono (fun r h => ⟨fun c => (h c).2, Idealize.ShloMosaic.sem_eq_zero_of_no_sems (by decide) r.2⟩)
    (Cert.OutReferenceIdeal.Value.run (F := Ideal) m ρ)

/-- The call of the gradient of the attention's output: the printed kernel runs and leaves its arguments. -/
theorem frame_do : Cert.quiescent_Do := fun m ρ _ => Cert.Do.Gen.frame m ρ

/-- So does the idealized one, -/
theorem frame_do_ideal : Cert.quiescent_DoIdeal := fun m ρ _ => Cert.DoIdeal.Gen.frame m ρ

/-- and so does the reference. -/
theorem frame_do_reference : Cert.quiescent_DoReferenceIdeal := fun m ρ _ =>
  (θ_run Cert.DoReferenceIdeal.defs _ _).mono (fun r h => ⟨fun c => (h c).2, Idealize.ShloMosaic.sem_eq_zero_of_no_sems (by decide) r.2⟩)
    (Cert.DoReferenceIdeal.Value.run (F := Ideal) m ρ)

/-- The call of the gradient of the attention's output weight: the printed kernel runs and leaves its arguments. -/
theorem frame_dwo : Cert.quiescent_Dwo := fun m ρ _ => Cert.Dwo.Gen.frame m ρ

/-- So does the idealized one, -/
theorem frame_dwo_ideal : Cert.quiescent_DwoIdeal := fun m ρ _ => Cert.DwoIdeal.Gen.frame m ρ

/-- and so does the reference. -/
theorem frame_dwo_reference : Cert.quiescent_DwoReferenceIdeal := fun m ρ _ =>
  (θ_run Cert.DwoReferenceIdeal.defs _ _).mono (fun r h => ⟨fun c => (h c).2, Idealize.ShloMosaic.sem_eq_zero_of_no_sems (by decide) r.2⟩)
    (Cert.DwoReferenceIdeal.Value.run (F := Ideal) m ρ)

/-- The call of the queries' down-projection: the printed kernel runs and leaves its arguments. -/
theorem frame_qdown : Cert.quiescent_QDown := fun m ρ _ => Cert.QDown.Gen.frame m ρ

/-- So does the idealized one, -/
theorem frame_qdown_ideal : Cert.quiescent_QDownIdeal := fun m ρ _ => Cert.QDownIdeal.Gen.frame m ρ

/-- and so does the reference. -/
theorem frame_qdown_reference : Cert.quiescent_QDownReferenceIdeal := fun m ρ _ =>
  (θ_run Cert.QDownReferenceIdeal.defs _ _).mono (fun r h => ⟨fun c => (h c).2, Idealize.ShloMosaic.sem_eq_zero_of_no_sems (by decide) r.2⟩)
    (Cert.QDownReferenceIdeal.Value.run (F := Ideal) m ρ)

/-- The call of the gradient of the queries' down-projection's input: the printed kernel runs and leaves its arguments. -/
theorem frame_qdowndh : Cert.quiescent_QDownDh := fun m ρ _ => Cert.QDownDh.Gen.frame m ρ

/-- So does the idealized one, -/
theorem frame_qdowndh_ideal : Cert.quiescent_QDownDhIdeal := fun m ρ _ => Cert.QDownDhIdeal.Gen.frame m ρ

/-- and so does the reference. -/
theorem frame_qdowndh_reference : Cert.quiescent_QDownDhReferenceIdeal := fun m ρ _ =>
  (θ_run Cert.QDownDhReferenceIdeal.defs _ _).mono (fun r h => ⟨fun c => (h c).2, Idealize.ShloMosaic.sem_eq_zero_of_no_sems (by decide) r.2⟩)
    (Cert.QDownDhReferenceIdeal.Value.run (F := Ideal) m ρ)

/-- The call of the gradient of the queries' down-projection's weight: the printed kernel runs and leaves its arguments. -/
theorem frame_qdowndw : Cert.quiescent_QDownDw := fun m ρ _ => Cert.QDownDw.Gen.frame m ρ

/-- So does the idealized one, -/
theorem frame_qdowndw_ideal : Cert.quiescent_QDownDwIdeal := fun m ρ _ => Cert.QDownDwIdeal.Gen.frame m ρ

/-- and so does the reference. -/
theorem frame_qdowndw_reference : Cert.quiescent_QDownDwReferenceIdeal := fun m ρ _ =>
  (θ_run Cert.QDownDwReferenceIdeal.defs _ _).mono (fun r h => ⟨fun c => (h c).2, Idealize.ShloMosaic.sem_eq_zero_of_no_sems (by decide) r.2⟩)
    (Cert.QDownDwReferenceIdeal.Value.run (F := Ideal) m ρ)

/-- The call of the queries' up-projection: the printed kernel runs and leaves its arguments. -/
theorem frame_qup : Cert.quiescent_QUp := fun m ρ _ => Cert.QUp.Gen.frame m ρ

/-- So does the idealized one, -/
theorem frame_qup_ideal : Cert.quiescent_QUpIdeal := fun m ρ _ => Cert.QUpIdeal.Gen.frame m ρ

/-- and so does the reference. -/
theorem frame_qup_reference : Cert.quiescent_QUpReferenceIdeal := fun m ρ _ =>
  (θ_run Cert.QUpReferenceIdeal.defs _ _).mono (fun r h => ⟨fun c => (h c).2, Idealize.ShloMosaic.sem_eq_zero_of_no_sems (by decide) r.2⟩)
    (Cert.QUpReferenceIdeal.Value.run (F := Ideal) m ρ)

/-- The call of the gradient of the queries' up-projection's input: the printed kernel runs and leaves its arguments. -/
theorem frame_qupdc : Cert.quiescent_QUpDc := fun m ρ _ => Cert.QUpDc.Gen.frame m ρ

/-- So does the idealized one, -/
theorem frame_qupdc_ideal : Cert.quiescent_QUpDcIdeal := fun m ρ _ => Cert.QUpDcIdeal.Gen.frame m ρ

/-- and so does the reference. -/
theorem frame_qupdc_reference : Cert.quiescent_QUpDcReferenceIdeal := fun m ρ _ =>
  (θ_run Cert.QUpDcReferenceIdeal.defs _ _).mono (fun r h => ⟨fun c => (h c).2, Idealize.ShloMosaic.sem_eq_zero_of_no_sems (by decide) r.2⟩)
    (Cert.QUpDcReferenceIdeal.Value.run (F := Ideal) m ρ)

/-- The call of the gradient of the queries' up-projection's weight: the printed kernel runs and leaves its arguments. -/
theorem frame_qupdw : Cert.quiescent_QUpDw := fun m ρ _ => Cert.QUpDw.Gen.frame m ρ

/-- So does the idealized one, -/
theorem frame_qupdw_ideal : Cert.quiescent_QUpDwIdeal := fun m ρ _ => Cert.QUpDwIdeal.Gen.frame m ρ

/-- and so does the reference. -/
theorem frame_qupdw_reference : Cert.quiescent_QUpDwReferenceIdeal := fun m ρ _ =>
  (θ_run Cert.QUpDwReferenceIdeal.defs _ _).mono (fun r h => ⟨fun c => (h c).2, Idealize.ShloMosaic.sem_eq_zero_of_no_sems (by decide) r.2⟩)
    (Cert.QUpDwReferenceIdeal.Value.run (F := Ideal) m ρ)

/-- The call of the down-projection of the keys and values: the printed kernel runs and leaves its arguments. -/
theorem frame_kvdown : Cert.quiescent_KvDown := fun m ρ _ => Cert.KvDown.Gen.frame m ρ

/-- So does the idealized one, -/
theorem frame_kvdown_ideal : Cert.quiescent_KvDownIdeal := fun m ρ _ => Cert.KvDownIdeal.Gen.frame m ρ

/-- and so does the reference. -/
theorem frame_kvdown_reference : Cert.quiescent_KvDownReferenceIdeal := fun m ρ _ =>
  (θ_run Cert.KvDownReferenceIdeal.defs _ _).mono (fun r h => ⟨fun c => (h c).2, Idealize.ShloMosaic.sem_eq_zero_of_no_sems (by decide) r.2⟩)
    (Cert.KvDownReferenceIdeal.Value.run (F := Ideal) m ρ)

/-- The call of the gradient of the input of the down-projection of the keys and values: the printed kernel runs and leaves its arguments. -/
theorem frame_kvdowndh : Cert.quiescent_KvDownDh := fun m ρ _ => Cert.KvDownDh.Gen.frame m ρ

/-- So does the idealized one, -/
theorem frame_kvdowndh_ideal : Cert.quiescent_KvDownDhIdeal := fun m ρ _ => Cert.KvDownDhIdeal.Gen.frame m ρ

/-- and so does the reference. -/
theorem frame_kvdowndh_reference : Cert.quiescent_KvDownDhReferenceIdeal := fun m ρ _ =>
  (θ_run Cert.KvDownDhReferenceIdeal.defs _ _).mono (fun r h => ⟨fun c => (h c).2, Idealize.ShloMosaic.sem_eq_zero_of_no_sems (by decide) r.2⟩)
    (Cert.KvDownDhReferenceIdeal.Value.run (F := Ideal) m ρ)

/-- The call of the gradient of the weight of the down-projection of the keys and values: the printed kernel runs and leaves its arguments. -/
theorem frame_kvdowndw : Cert.quiescent_KvDownDw := fun m ρ _ => Cert.KvDownDw.Gen.frame m ρ

/-- So does the idealized one, -/
theorem frame_kvdowndw_ideal : Cert.quiescent_KvDownDwIdeal := fun m ρ _ => Cert.KvDownDwIdeal.Gen.frame m ρ

/-- and so does the reference. -/
theorem frame_kvdowndw_reference : Cert.quiescent_KvDownDwReferenceIdeal := fun m ρ _ =>
  (θ_run Cert.KvDownDwReferenceIdeal.defs _ _).mono (fun r h => ⟨fun c => (h c).2, Idealize.ShloMosaic.sem_eq_zero_of_no_sems (by decide) r.2⟩)
    (Cert.KvDownDwReferenceIdeal.Value.run (F := Ideal) m ρ)

/-- The call of the keys' up-projection: the printed kernel runs and leaves its arguments. -/
theorem frame_kup : Cert.quiescent_KUp := fun m ρ _ => Cert.KUp.Gen.frame m ρ

/-- So does the idealized one, -/
theorem frame_kup_ideal : Cert.quiescent_KUpIdeal := fun m ρ _ => Cert.KUpIdeal.Gen.frame m ρ

/-- and so does the reference. -/
theorem frame_kup_reference : Cert.quiescent_KUpReferenceIdeal := fun m ρ _ =>
  (θ_run Cert.KUpReferenceIdeal.defs _ _).mono (fun r h => ⟨fun c => (h c).2, Idealize.ShloMosaic.sem_eq_zero_of_no_sems (by decide) r.2⟩)
    (Cert.KUpReferenceIdeal.Value.run (F := Ideal) m ρ)

/-- The call of the gradient of the keys' up-projection's input: the printed kernel runs and leaves its arguments. -/
theorem frame_kupdc : Cert.quiescent_KUpDc := fun m ρ _ => Cert.KUpDc.Gen.frame m ρ

/-- So does the idealized one, -/
theorem frame_kupdc_ideal : Cert.quiescent_KUpDcIdeal := fun m ρ _ => Cert.KUpDcIdeal.Gen.frame m ρ

/-- and so does the reference. -/
theorem frame_kupdc_reference : Cert.quiescent_KUpDcReferenceIdeal := fun m ρ _ =>
  (θ_run Cert.KUpDcReferenceIdeal.defs _ _).mono (fun r h => ⟨fun c => (h c).2, Idealize.ShloMosaic.sem_eq_zero_of_no_sems (by decide) r.2⟩)
    (Cert.KUpDcReferenceIdeal.Value.run (F := Ideal) m ρ)

/-- The call of the gradient of the keys' up-projection's weight: the printed kernel runs and leaves its arguments. -/
theorem frame_kupdw : Cert.quiescent_KUpDw := fun m ρ _ => Cert.KUpDw.Gen.frame m ρ

/-- So does the idealized one, -/
theorem frame_kupdw_ideal : Cert.quiescent_KUpDwIdeal := fun m ρ _ => Cert.KUpDwIdeal.Gen.frame m ρ

/-- and so does the reference. -/
theorem frame_kupdw_reference : Cert.quiescent_KUpDwReferenceIdeal := fun m ρ _ =>
  (θ_run Cert.KUpDwReferenceIdeal.defs _ _).mono (fun r h => ⟨fun c => (h c).2, Idealize.ShloMosaic.sem_eq_zero_of_no_sems (by decide) r.2⟩)
    (Cert.KUpDwReferenceIdeal.Value.run (F := Ideal) m ρ)

/-- The call of the values' up-projection: the printed kernel runs and leaves its arguments. -/
theorem frame_vup : Cert.quiescent_VUp := fun m ρ _ => Cert.VUp.Gen.frame m ρ

/-- So does the idealized one, -/
theorem frame_vup_ideal : Cert.quiescent_VUpIdeal := fun m ρ _ => Cert.VUpIdeal.Gen.frame m ρ

/-- and so does the reference. -/
theorem frame_vup_reference : Cert.quiescent_VUpReferenceIdeal := fun m ρ _ =>
  (θ_run Cert.VUpReferenceIdeal.defs _ _).mono (fun r h => ⟨fun c => (h c).2, Idealize.ShloMosaic.sem_eq_zero_of_no_sems (by decide) r.2⟩)
    (Cert.VUpReferenceIdeal.Value.run (F := Ideal) m ρ)

/-- The call of the gradient of the values' up-projection's input: the printed kernel runs and leaves its arguments. -/
theorem frame_vupdc : Cert.quiescent_VUpDc := fun m ρ _ => Cert.VUpDc.Gen.frame m ρ

/-- So does the idealized one, -/
theorem frame_vupdc_ideal : Cert.quiescent_VUpDcIdeal := fun m ρ _ => Cert.VUpDcIdeal.Gen.frame m ρ

/-- and so does the reference. -/
theorem frame_vupdc_reference : Cert.quiescent_VUpDcReferenceIdeal := fun m ρ _ =>
  (θ_run Cert.VUpDcReferenceIdeal.defs _ _).mono (fun r h => ⟨fun c => (h c).2, Idealize.ShloMosaic.sem_eq_zero_of_no_sems (by decide) r.2⟩)
    (Cert.VUpDcReferenceIdeal.Value.run (F := Ideal) m ρ)

/-- The call of the gradient of the values' up-projection's weight: the printed kernel runs and leaves its arguments. -/
theorem frame_vupdw : Cert.quiescent_VUpDw := fun m ρ _ => Cert.VUpDw.Gen.frame m ρ

/-- So does the idealized one, -/
theorem frame_vupdw_ideal : Cert.quiescent_VUpDwIdeal := fun m ρ _ => Cert.VUpDwIdeal.Gen.frame m ρ

/-- and so does the reference. -/
theorem frame_vupdw_reference : Cert.quiescent_VUpDwReferenceIdeal := fun m ρ _ =>
  (θ_run Cert.VUpDwReferenceIdeal.defs _ _).mono (fun r h => ⟨fun c => (h c).2, Idealize.ShloMosaic.sem_eq_zero_of_no_sems (by decide) r.2⟩)
    (Cert.VUpDwReferenceIdeal.Value.run (F := Ideal) m ρ)

/-- Every claim of the certificate. -/
theorem claim : Cert.Claim := ⟨Cert.Kernel.Gen.facts, Cert.KernelIdeal.Gen.facts, Cert.ReferenceIdeal.Gen.facts, Cert.Up.Gen.facts, Cert.UpIdeal.Gen.facts, Cert.UpReferenceIdeal.Gen.facts, Cert.Down.Gen.facts, Cert.DownIdeal.Gen.facts, Cert.DownReferenceIdeal.Gen.facts, Cert.Hidden.Gen.facts, Cert.HiddenIdeal.Gen.facts, Cert.HiddenReferenceIdeal.Gen.facts, Cert.Dwd.Gen.facts, Cert.DwdIdeal.Gen.facts, Cert.DwdReferenceIdeal.Gen.facts, Cert.Dwgu.Gen.facts, Cert.DwguIdeal.Gen.facts, Cert.DwguReferenceIdeal.Gen.facts, Cert.Dh.Gen.facts, Cert.DhIdeal.Gen.facts, Cert.DhReferenceIdeal.Gen.facts, Cert.Out.Gen.facts, Cert.OutIdeal.Gen.facts, Cert.OutReferenceIdeal.Gen.facts, Cert.Do.Gen.facts, Cert.DoIdeal.Gen.facts, Cert.DoReferenceIdeal.Gen.facts, Cert.Dwo.Gen.facts, Cert.DwoIdeal.Gen.facts, Cert.DwoReferenceIdeal.Gen.facts, Cert.QDown.Gen.facts, Cert.QDownIdeal.Gen.facts, Cert.QDownReferenceIdeal.Gen.facts, Cert.QDownDh.Gen.facts, Cert.QDownDhIdeal.Gen.facts, Cert.QDownDhReferenceIdeal.Gen.facts, Cert.QDownDw.Gen.facts, Cert.QDownDwIdeal.Gen.facts, Cert.QDownDwReferenceIdeal.Gen.facts, Cert.QUp.Gen.facts, Cert.QUpIdeal.Gen.facts, Cert.QUpReferenceIdeal.Gen.facts, Cert.QUpDc.Gen.facts, Cert.QUpDcIdeal.Gen.facts, Cert.QUpDcReferenceIdeal.Gen.facts, Cert.QUpDw.Gen.facts, Cert.QUpDwIdeal.Gen.facts, Cert.QUpDwReferenceIdeal.Gen.facts, Cert.KvDown.Gen.facts, Cert.KvDownIdeal.Gen.facts, Cert.KvDownReferenceIdeal.Gen.facts, Cert.KvDownDh.Gen.facts, Cert.KvDownDhIdeal.Gen.facts, Cert.KvDownDhReferenceIdeal.Gen.facts, Cert.KvDownDw.Gen.facts, Cert.KvDownDwIdeal.Gen.facts, Cert.KvDownDwReferenceIdeal.Gen.facts, Cert.KUp.Gen.facts, Cert.KUpIdeal.Gen.facts, Cert.KUpReferenceIdeal.Gen.facts, Cert.KUpDc.Gen.facts, Cert.KUpDcIdeal.Gen.facts, Cert.KUpDcReferenceIdeal.Gen.facts, Cert.KUpDw.Gen.facts, Cert.KUpDwIdeal.Gen.facts, Cert.KUpDwReferenceIdeal.Gen.facts, Cert.VUp.Gen.facts, Cert.VUpIdeal.Gen.facts, Cert.VUpReferenceIdeal.Gen.facts, Cert.VUpDc.Gen.facts, Cert.VUpDcIdeal.Gen.facts, Cert.VUpDcReferenceIdeal.Gen.facts, Cert.VUpDw.Gen.facts, Cert.VUpDwIdeal.Gen.facts, Cert.VUpDwReferenceIdeal.Gen.facts, Cert.Pre_finite.Gen.facts, Cert.Pre_finite_ffn.Gen.facts,
  frame_kernel, frame_ideal, frame_ideal_any, frame_reference,
  frame_up, frame_up_ideal, frame_up_reference,
  frame_down, frame_down_ideal, frame_down_reference,
  frame_hidden, frame_hidden_ideal, frame_hidden_ideal_any, frame_hidden_reference,
  frame_dwd, frame_dwd_ideal, frame_dwd_reference,
  frame_dwgu, frame_dwgu_ideal, frame_dwgu_reference,
  frame_dh, frame_dh_ideal, frame_dh_reference,
  frame_out, frame_out_ideal, frame_out_reference,
  frame_do, frame_do_ideal, frame_do_reference,
  frame_dwo, frame_dwo_ideal, frame_dwo_reference,
  frame_qdown, frame_qdown_ideal, frame_qdown_reference,
  frame_qdowndh, frame_qdowndh_ideal, frame_qdowndh_reference,
  frame_qdowndw, frame_qdowndw_ideal, frame_qdowndw_reference,
  frame_qup, frame_qup_ideal, frame_qup_reference,
  frame_qupdc, frame_qupdc_ideal, frame_qupdc_reference,
  frame_qupdw, frame_qupdw_ideal, frame_qupdw_reference,
  frame_kvdown, frame_kvdown_ideal, frame_kvdown_reference,
  frame_kvdowndh, frame_kvdowndh_ideal, frame_kvdowndh_reference,
  frame_kvdowndw, frame_kvdowndw_ideal, frame_kvdowndw_reference,
  frame_kup, frame_kup_ideal, frame_kup_reference,
  frame_kupdc, frame_kupdc_ideal, frame_kupdc_reference,
  frame_kupdw, frame_kupdw_ideal, frame_kupdw_reference,
  frame_vup, frame_vup_ideal, frame_vup_reference,
  frame_vupdc, frame_vupdc_ideal, frame_vupdc_reference,
  frame_vupdw, frame_vupdw_ideal, frame_vupdw_reference,
  preserved, algebraic,
  trivial, algebraic_up,
  trivial, algebraic_down,
  trivial, algebraic_hidden,
  trivial, algebraic_dwd,
  trivial, algebraic_dwgu,
  trivial, algebraic_dh,
  trivial, algebraic_out,
  trivial, algebraic_do,
  trivial, algebraic_dwo,
  trivial, algebraic_qdown,
  trivial, algebraic_qdowndh,
  trivial, algebraic_qdowndw,
  trivial, algebraic_qup,
  trivial, algebraic_qupdc,
  trivial, algebraic_qupdw,
  trivial, algebraic_kvdown,
  trivial, algebraic_kvdowndh,
  trivial, algebraic_kvdowndw,
  trivial, algebraic_kup,
  trivial, algebraic_kupdc,
  trivial, algebraic_kupdw,
  trivial, algebraic_vup,
  trivial, algebraic_vupdc,
  trivial, algebraic_vupdw⟩

end Cert.Proof

end
